-- ==== Defs.lean ====
def Pre_Kernel [hPre_tables_route : Cert.Pre_tables_route.Facts] (m : (ℓ : Loc Cert.Kernel.nD Cert.Kernel.τ Cert.Kernel.sig) → Buf (Elt Bits) ℓ) : Prop :=
  ∀ c : Dev Cert.Kernel.nD,
    (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.1 = (fun _ => 1#1)
    ∧ (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.2.1 = (fun _ => 1#1)
    ∧ (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.2.2.1 = (fun _ => 1#1)
    ∧ (Cert.Pre_tables_route.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.2.2.2 = (fun _ => 1#1)

def Pre_KernelI [hPre_tables_route : Cert.Pre_tables_route.Facts] (m : (ℓ : Loc Cert.KernelI.nD Cert.KernelI.τ Cert.KernelI.sig) → Buf (Elt Ideal) ℓ) : Prop :=
  ∀ c : Dev Cert.KernelI.nD,
    (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).1 = (fun _ => 1#1)
    ∧ (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).2.1 = (fun _ => 1#1)
    ∧ (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).2.2.1 = (fun _ => 1#1)
    ∧ (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).2.2.2.1 = (fun _ => 1#1)
    ∧ (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).2.2.2.2.1 = (fun _ => 1#1)
    ∧ (Cert.Pre_tables_route.fn (F := Ideal) (m ((c.tc : Thread Cert.KernelI.nD Cert.KernelI.τ).loc Cert.KernelI.main_arg0)) (m ((c.tc : Thread Cert.KernelI.nD Cert.KernelI.τ).loc Cert.KernelI.main_arg1)) (m ((c.tc : Thread Cert.KernelI.nD Cert.KernelI.τ).loc Cert.KernelI.main_arg2)) (m ((c.tc : Thread Cert.KernelI.nD Cert.KernelI.τ).loc Cert.KernelI.main_arg3)) (m ((c.tc : Thread Cert.KernelI.nD Cert.KernelI.τ).loc Cert.KernelI.main_arg4)) (m ((c.tc : Thread Cert.KernelI.nD Cert.KernelI.τ).loc Cert.KernelI.main_arg5)) (m ((c.tc : Thread Cert.KernelI.nD Cert.KernelI.τ).loc Cert.KernelI.main_arg6)) (m ((c.tc : Thread Cert.KernelI.nD Cert.KernelI.τ).loc Cert.KernelI.main_arg7)) (m ((c.tc : Thread Cert.KernelI.nD Cert.KernelI.τ).loc Cert.KernelI.main_arg8))).2.2.2.2.2 = (fun _ => 1#1)

def Pre_ReferenceI (m : (ℓ : Loc Cert.ReferenceI.nD Cert.ReferenceI.τ Cert.ReferenceI.sig) → Buf (Elt Ideal) ℓ) : Prop :=
  True

def Pre_ReferenceI_tables_route [hPre_tables_route : Cert.Pre_tables_route.Facts] (m : (ℓ : Loc Cert.ReferenceI.nD Cert.ReferenceI.τ Cert.ReferenceI.sig) → Buf (Elt Ideal) ℓ) : Prop :=
  ∀ c : Dev Cert.ReferenceI.nD,
    (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).1 = (fun _ => 1#1)
    ∧ (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).2.1 = (fun _ => 1#1)
    ∧ (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).2.2.1 = (fun _ => 1#1)
    ∧ (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).2.2.2.1 = (fun _ => 1#1)
    ∧ (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).2.2.2.2.1 = (fun _ => 1#1)
    ∧ (Cert.Pre_tables_route.fn (F := Ideal) (m ((c.tc : Thread Cert.ReferenceI.nD Cert.ReferenceI.τ).loc Cert.ReferenceI.main_arg0)) (m ((c.tc : Thread Cert.ReferenceI.nD Cert.ReferenceI.τ).loc Cert.ReferenceI.main_arg1)) (m ((c.tc : Thread Cert.ReferenceI.nD Cert.ReferenceI.τ).loc Cert.ReferenceI.main_arg2)) (m ((c.tc : Thread Cert.ReferenceI.nD Cert.ReferenceI.τ).loc Cert.ReferenceI.main_arg3)) (m ((c.tc : Thread Cert.ReferenceI.nD Cert.ReferenceI.τ).loc Cert.ReferenceI.main_arg4)) (m ((c.tc : Thread Cert.ReferenceI.nD Cert.ReferenceI.τ).loc Cert.ReferenceI.main_arg5)) (m ((c.tc : Thread Cert.ReferenceI.nD Cert.ReferenceI.τ).loc Cert.ReferenceI.main_arg6)) (m ((c.tc : Thread Cert.ReferenceI.nD Cert.ReferenceI.τ).loc Cert.ReferenceI.main_arg7)) (m ((c.tc : Thread Cert.ReferenceI.nD Cert.ReferenceI.τ).loc Cert.ReferenceI.main_arg8))).2.2.2.2.2 = (fun _ => 1#1)

def Pre_Attention (m : (ℓ : Loc Cert.Attention.nD Cert.Attention.τ Cert.Attention.sig) → Buf (Elt Bits) ℓ) : Prop :=
  True

def Pre_AttentionI (m : (ℓ : Loc Cert.AttentionI.nD Cert.AttentionI.τ Cert.AttentionI.sig) → Buf (Elt Ideal) ℓ) : Prop :=
  True

def Pre_AttnRefI (m : (ℓ : Loc Cert.AttnRefI.nD Cert.AttnRefI.τ Cert.AttnRefI.sig) → Buf (Elt Ideal) ℓ) : Prop :=
  True

def quiescent_Kernel [hKernel : Cert.Kernel.Facts] [hPre_tables_route : Cert.Pre_tables_route.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelI [hKernelI : Cert.KernelI.Facts] [hPre_tables_route : Cert.Pre_tables_route.Facts] : Prop :=
  ∀ (m : (ℓ : Loc Cert.KernelI.nD Cert.KernelI.τ Cert.KernelI.sig) → Buf (Elt Ideal) ℓ) (g : Dev Cert.KernelI.nD → PrngReg), Pre_KernelI m →
    θ_run (Cert.KernelI.defs (F := Ideal)) (onTc (τ := Cert.KernelI.τ) (Cert.KernelI.main (F := Ideal))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4)
      ∧ r.2.mem ((c.tc : Thread Cert.KernelI.nD Cert.KernelI.τ).loc Cert.KernelI.main_arg5) = m ((c.tc : Thread Cert.KernelI.nD Cert.KernelI.τ).loc Cert.KernelI.main_arg5)
      ∧ r.2.mem ((c.tc : Thread Cert.KernelI.nD Cert.KernelI.τ).loc Cert.KernelI.main_arg6) = m ((c.tc : Thread Cert.KernelI.nD Cert.KernelI.τ).loc Cert.KernelI.main_arg6)
      ∧ r.2.mem ((c.tc : Thread Cert.KernelI.nD Cert.KernelI.τ).loc Cert.KernelI.main_arg7) = m ((c.tc : Thread Cert.KernelI.nD Cert.KernelI.τ).loc Cert.KernelI.main_arg7)
      ∧ r.2.mem ((c.tc : Thread Cert.KernelI.nD Cert.KernelI.τ).loc Cert.KernelI.main_arg8) = m ((c.tc : Thread Cert.KernelI.nD Cert.KernelI.τ).loc Cert.KernelI.main_arg8))
      ∧ r.2.sem = fun _ => 0)

def quiescent_ReferenceI [hReferenceI : Cert.ReferenceI.Facts] : Prop :=
  ∀ (m : (ℓ : Loc Cert.ReferenceI.nD Cert.ReferenceI.τ Cert.ReferenceI.sig) → Buf (Elt Ideal) ℓ) (g : Dev Cert.ReferenceI.nD → PrngReg), Pre_ReferenceI m →
    θ_run (Cert.ReferenceI.defs (F := Ideal)) (onTc (τ := Cert.ReferenceI.τ) (Cert.ReferenceI.main (F := Ideal))) ⟨m, fun _ => 0, g⟩ (fun r => (∀ c : Dev Cert.ReferenceI.nD,
      r.2.mem ((c.tc : Thread Cert.ReferenceI.nD Cert.ReferenceI.τ).loc Cert.ReferenceI.main_arg0) = m ((c.tc : Thread Cert.ReferenceI.nD Cert.ReferenceI.τ).loc Cert.ReferenceI.main_arg0)
      ∧ r.2.mem ((c.tc : Thread Cert.ReferenceI.nD Cert.ReferenceI.τ).loc Cert.ReferenceI.main_arg1) = m ((c.tc : Thread Cert.ReferenceI.nD Cert.ReferenceI.τ).loc Cert.ReferenceI.main_arg1)
      ∧ r.2.mem ((c.tc : Thread Cert.ReferenceI.nD Cert.ReferenceI.τ).loc Cert.ReferenceI.main_arg2) = m ((c.tc : Thread Cert.ReferenceI.nD Cert.ReferenceI.τ).loc Cert.ReferenceI.main_arg2)
      ∧ r.2.mem ((c.tc : Thread Cert.ReferenceI.nD Cert.ReferenceI.τ).loc Cert.ReferenceI.main_arg3) = m ((c.tc : Thread Cert.ReferenceI.nD Cert.ReferenceI.τ).loc Cert.ReferenceI.main_arg3)
      ∧ r.2.mem ((c.tc : Thread Cert.ReferenceI.nD Cert.ReferenceI.τ).loc Cert.ReferenceI.main_arg4) = m ((c.tc : Thread Cert.ReferenceI.nD Cert.ReferenceI.τ).loc Cert.ReferenceI.main_arg4)
      ∧ r.2.mem ((c.tc : Thread Cert.ReferenceI.nD Cert.ReferenceI.τ).loc Cert.ReferenceI.main_arg5) = m ((c.tc : Thread Cert.ReferenceI.nD Cert.ReferenceI.τ).loc Cert.ReferenceI.main_arg5)
      ∧ r.2.mem ((c.tc : Thread Cert.ReferenceI.nD Cert.ReferenceI.τ).loc Cert.ReferenceI.main_arg6) = m ((c.tc : Thread Cert.ReferenceI.nD Cert.ReferenceI.τ).loc Cert.ReferenceI.main_arg6)
      ∧ r.2.mem ((c.tc : Thread Cert.ReferenceI.nD Cert.ReferenceI.τ).loc Cert.ReferenceI.main_arg7) = m ((c.tc : Thread Cert.ReferenceI.nD Cert.ReferenceI.τ).loc Cert.ReferenceI.main_arg7)
      ∧ r.2.mem ((c.tc : Thread Cert.ReferenceI.nD Cert.ReferenceI.τ).loc Cert.ReferenceI.main_arg8) = m ((c.tc : Thread Cert.ReferenceI.nD Cert.ReferenceI.τ).loc Cert.ReferenceI.main_arg8))
      ∧ r.2.sem = fun _ => 0)

def quiescent_ReferenceI_pre_tables_route [hReferenceI : Cert.ReferenceI.Facts] [hPre_tables_route : Cert.Pre_tables_route.Facts] : Prop :=
  ∀ (m : (ℓ : Loc Cert.ReferenceI.nD Cert.ReferenceI.τ Cert.ReferenceI.sig) → Buf (Elt Ideal) ℓ) (g : Dev Cert.ReferenceI.nD → PrngReg), Pre_ReferenceI_tables_route m →
    θ_run (Cert.ReferenceI.defs (F := Ideal)) (onTc (τ := Cert.ReferenceI.τ) (Cert.ReferenceI.main (F := Ideal))) ⟨m, fun _ => 0, g⟩ (fun r => (∀ c : Dev Cert.ReferenceI.nD,
      r.2.mem ((c.tc : Thread Cert.ReferenceI.nD Cert.ReferenceI.τ).loc Cert.ReferenceI.main_arg0) = m ((c.tc : Thread Cert.ReferenceI.nD Cert.ReferenceI.τ).loc Cert.ReferenceI.main_arg0)
      ∧ r.2.mem ((c.tc : Thread Cert.ReferenceI.nD Cert.ReferenceI.τ).loc Cert.ReferenceI.main_arg1) = m ((c.tc : Thread Cert.ReferenceI.nD Cert.ReferenceI.τ).loc Cert.ReferenceI.main_arg1)
      ∧ r.2.mem ((c.tc : Thread Cert.ReferenceI.nD Cert.ReferenceI.τ).loc Cert.ReferenceI.main_arg2) = m ((c.tc : Thread Cert.ReferenceI.nD Cert.ReferenceI.τ).loc Cert.ReferenceI.main_arg2)
      ∧ r.2.mem ((c.tc : Thread Cert.ReferenceI.nD Cert.ReferenceI.τ).loc Cert.ReferenceI.main_arg3) = m ((c.tc : Thread Cert.ReferenceI.nD Cert.ReferenceI.τ).loc Cert.ReferenceI.main_arg3)
      ∧ r.2.mem ((c.tc : Thread Cert.ReferenceI.nD Cert.ReferenceI.τ).loc Cert.ReferenceI.main_arg4) = m ((c.tc : Thread Cert.ReferenceI.nD Cert.ReferenceI.τ).loc Cert.ReferenceI.main_arg4)
      ∧ r.2.mem ((c.tc : Thread Cert.ReferenceI.nD Cert.ReferenceI.τ).loc Cert.ReferenceI.main_arg5) = m ((c.tc : Thread Cert.ReferenceI.nD Cert.ReferenceI.τ).loc Cert.ReferenceI.main_arg5)
      ∧ r.2.mem ((c.tc : Thread Cert.ReferenceI.nD Cert.ReferenceI.τ).loc Cert.ReferenceI.main_arg6) = m ((c.tc : Thread Cert.ReferenceI.nD Cert.ReferenceI.τ).loc Cert.ReferenceI.main_arg6)
      ∧ r.2.mem ((c.tc : Thread Cert.ReferenceI.nD Cert.ReferenceI.τ).loc Cert.ReferenceI.main_arg7) = m ((c.tc : Thread Cert.ReferenceI.nD Cert.ReferenceI.τ).loc Cert.ReferenceI.main_arg7)
      ∧ r.2.mem ((c.tc : Thread Cert.ReferenceI.nD Cert.ReferenceI.τ).loc Cert.ReferenceI.main_arg8) = m ((c.tc : Thread Cert.ReferenceI.nD Cert.ReferenceI.τ).loc Cert.ReferenceI.main_arg8))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_AttentionI [hAttentionI : Cert.AttentionI.Facts] : Prop :=
  ∀ (m : (ℓ : Loc Cert.AttentionI.nD Cert.AttentionI.τ Cert.AttentionI.sig) → Buf (Elt Ideal) ℓ) (g : Dev Cert.AttentionI.nD → PrngReg), Pre_AttentionI m →
    θ_run (Cert.AttentionI.defs (F := Ideal)) (onTc (τ := Cert.AttentionI.τ) (Cert.AttentionI.main (F := Ideal))) ⟨m, fun _ => 0, g⟩ (fun r => (∀ c : Dev Cert.AttentionI.nD,
      r.2.mem ((c.tc : Thread Cert.AttentionI.nD Cert.AttentionI.τ).loc Cert.AttentionI.main_arg0) = m ((c.tc : Thread Cert.AttentionI.nD Cert.AttentionI.τ).loc Cert.AttentionI.main_arg0)
      ∧ r.2.mem ((c.tc : Thread Cert.AttentionI.nD Cert.AttentionI.τ).loc Cert.AttentionI.main_arg1) = m ((c.tc : Thread Cert.AttentionI.nD Cert.AttentionI.τ).loc Cert.AttentionI.main_arg1)
      ∧ r.2.mem ((c.tc : Thread Cert.AttentionI.nD Cert.AttentionI.τ).loc Cert.AttentionI.main_arg2) = m ((c.tc : Thread Cert.AttentionI.nD Cert.AttentionI.τ).loc Cert.AttentionI.main_arg2)
      ∧ r.2.mem ((c.tc : Thread Cert.AttentionI.nD Cert.AttentionI.τ).loc Cert.AttentionI.main_arg3) = m ((c.tc : Thread Cert.AttentionI.nD Cert.AttentionI.τ).loc Cert.AttentionI.main_arg3)
      ∧ r.2.mem ((c.tc : Thread Cert.AttentionI.nD Cert.AttentionI.τ).loc Cert.AttentionI.main_arg4) = m ((c.tc : Thread Cert.AttentionI.nD Cert.AttentionI.τ).loc Cert.AttentionI.main_arg4)
      ∧ r.2.mem ((c.tc : Thread Cert.AttentionI.nD Cert.AttentionI.τ).loc Cert.AttentionI.main_arg5) = m ((c.tc : Thread Cert.AttentionI.nD Cert.AttentionI.τ).loc Cert.AttentionI.main_arg5))
      ∧ r.2.sem = fun _ => 0)

def quiescent_AttnRefI [hAttnRefI : Cert.AttnRefI.Facts] : Prop :=
  ∀ (m : (ℓ : Loc Cert.AttnRefI.nD Cert.AttnRefI.τ Cert.AttnRefI.sig) → Buf (Elt Ideal) ℓ) (g : Dev Cert.AttnRefI.nD → PrngReg), Pre_AttnRefI m →
    θ_run (Cert.AttnRefI.defs (F := Ideal)) (onTc (τ := Cert.AttnRefI.τ) (Cert.AttnRefI.main (F := Ideal))) ⟨m, fun _ => 0, g⟩ (fun r => (∀ c : Dev Cert.AttnRefI.nD,
      r.2.mem ((c.tc : Thread Cert.AttnRefI.nD Cert.AttnRefI.τ).loc Cert.AttnRefI.main_arg0) = m ((c.tc : Thread Cert.AttnRefI.nD Cert.AttnRefI.τ).loc Cert.AttnRefI.main_arg0)
      ∧ r.2.mem ((c.tc : Thread Cert.AttnRefI.nD Cert.AttnRefI.τ).loc Cert.AttnRefI.main_arg1) = m ((c.tc : Thread Cert.AttnRefI.nD Cert.AttnRefI.τ).loc Cert.AttnRefI.main_arg1)
      ∧ r.2.mem ((c.tc : Thread Cert.AttnRefI.nD Cert.AttnRefI.τ).loc Cert.AttnRefI.main_arg2) = m ((c.tc : Thread Cert.AttnRefI.nD Cert.AttnRefI.τ).loc Cert.AttnRefI.main_arg2)
      ∧ r.2.mem ((c.tc : Thread Cert.AttnRefI.nD Cert.AttnRefI.τ).loc Cert.AttnRefI.main_arg3) = m ((c.tc : Thread Cert.AttnRefI.nD Cert.AttnRefI.τ).loc Cert.AttnRefI.main_arg3)
      ∧ r.2.mem ((c.tc : Thread Cert.AttnRefI.nD Cert.AttnRefI.τ).loc Cert.AttnRefI.main_arg4) = m ((c.tc : Thread Cert.AttnRefI.nD Cert.AttnRefI.τ).loc Cert.AttnRefI.main_arg4)
      ∧ r.2.mem ((c.tc : Thread Cert.AttnRefI.nD Cert.AttnRefI.τ).loc Cert.AttnRefI.main_arg5) = m ((c.tc : Thread Cert.AttnRefI.nD Cert.AttnRefI.τ).loc Cert.AttnRefI.main_arg5))
      ∧ r.2.sem = fun _ => 0)

def preserves_Kernel_KernelI : Prop :=
  IdealRules.bf16_pair.BufferStatement Cert.KernelI.S67968x2x128 Cert.KernelI.S67968x1x128
  ∧ IdealRules.bf16_pair.BufferStatement Cert.KernelI.S4096x2x128 Cert.KernelI.S4096x1x128
  ∧ IdealRules.bf16_pair.Statement Cert.KernelI.S4x2x128 Cert.KernelI.S4x1x128
  ∧ IdealRules.bf16_pair.SelectZeroStatement Cert.KernelI.S4x128
  ∧ IdealRules.bf16_pair.Statement Cert.KernelI.S2432x2x128 Cert.KernelI.S2432x1x128
  ∧ IdealRules.bf16_pair.SelectZeroStatement Cert.KernelI.S2432x128
  ∧ IdealRules.bf16_pair.PackStatement Cert.KernelI.S1024x128
  ∧ IdealRules.bf16_pair.Statement Cert.KernelI.S1024x2x128 Cert.KernelI.S1024x1x128
  ∧ IdealRules.bf16_pair.Statement Cert.KernelI.S8x2x128 Cert.KernelI.S8x1x128
  ∧ IdealRules.bf16_pair.Statement Cert.KernelI.S576x2x128 Cert.KernelI.S576x1x128
  ∧ IdealRules.bf16_pair.Statement Cert.KernelI.S1152x128 Cert.KernelI.S576x128
  ∧ IdealRules.bf16_pair.PackStatement Cert.KernelI.S576x128
  ∧ IdealRules.bf16_pair.Statement Cert.KernelI.S512x2x128 Cert.KernelI.S512x1x128
  ∧ IdealRules.bf16_pair.Statement Cert.KernelI.S1024x128 Cert.KernelI.S512x128

def algebraic_KernelI_ReferenceI [hKernelI : Cert.KernelI.Facts] [hReferenceI : Cert.ReferenceI.Facts] [hPre_tables_route : Cert.Pre_tables_route.Facts] : Prop :=
  ∀ (m : (ℓ : Loc Cert.KernelI.nD Cert.KernelI.τ Cert.KernelI.sig) → Buf (Elt Ideal) ℓ) (g : Dev Cert.KernelI.nD → PrngReg)
    (m' : (ℓ : Loc Cert.ReferenceI.nD Cert.ReferenceI.τ Cert.ReferenceI.sig) → Buf (Elt Ideal) ℓ) (g' : Dev Cert.ReferenceI.nD → PrngReg), Pre_KernelI m →
    (∀ c : Dev Cert.KernelI.nD,
      m' ((c.tc : Thread Cert.ReferenceI.nD Cert.ReferenceI.τ).loc Cert.ReferenceI.main_arg0) = m ((c.tc : Thread Cert.KernelI.nD Cert.KernelI.τ).loc Cert.KernelI.main_arg0)
      ∧ m' ((c.tc : Thread Cert.ReferenceI.nD Cert.ReferenceI.τ).loc Cert.ReferenceI.main_arg1) = m ((c.tc : Thread Cert.KernelI.nD Cert.KernelI.τ).loc Cert.KernelI.main_arg1)
      ∧ m' ((c.tc : Thread Cert.ReferenceI.nD Cert.ReferenceI.τ).loc Cert.ReferenceI.main_arg2) = m ((c.tc : Thread Cert.KernelI.nD Cert.KernelI.τ).loc Cert.KernelI.main_arg2)
      ∧ m' ((c.tc : Thread Cert.ReferenceI.nD Cert.ReferenceI.τ).loc Cert.ReferenceI.main_arg3) = m ((c.tc : Thread Cert.KernelI.nD Cert.KernelI.τ).loc Cert.KernelI.main_arg3)
      ∧ m' ((c.tc : Thread Cert.ReferenceI.nD Cert.ReferenceI.τ).loc Cert.ReferenceI.main_arg4) = m ((c.tc : Thread Cert.KernelI.nD Cert.KernelI.τ).loc Cert.KernelI.main_arg4)
      ∧ m' ((c.tc : Thread Cert.ReferenceI.nD Cert.ReferenceI.τ).loc Cert.ReferenceI.main_arg5) = m ((c.tc : Thread Cert.KernelI.nD Cert.KernelI.τ).loc Cert.KernelI.main_arg5)
      ∧ m' ((c.tc : Thread Cert.ReferenceI.nD Cert.ReferenceI.τ).loc Cert.ReferenceI.main_arg6) = m ((c.tc : Thread Cert.KernelI.nD Cert.KernelI.τ).loc Cert.KernelI.main_arg6)
      ∧ m' ((c.tc : Thread Cert.ReferenceI.nD Cert.ReferenceI.τ).loc Cert.ReferenceI.main_arg7) = m ((c.tc : Thread Cert.KernelI.nD Cert.KernelI.τ).loc Cert.KernelI.main_arg7)
      ∧ m' ((c.tc : Thread Cert.ReferenceI.nD Cert.ReferenceI.τ).loc Cert.ReferenceI.main_arg8) = m ((c.tc : Thread Cert.KernelI.nD Cert.KernelI.τ).loc Cert.KernelI.main_arg8)) →
    ∃ (v0 : (c : Dev Cert.KernelI.nD) → Buf (Elt Ideal) ((c.tc : Thread Cert.KernelI.nD Cert.KernelI.τ).loc Cert.KernelI.main_v0)),
      θ_run (Cert.KernelI.defs (F := Ideal)) (onTc (τ := Cert.KernelI.τ) (Cert.KernelI.main (F := Ideal))) ⟨m, fun _ => 0, g⟩ (fun r => ∀ c : Dev Cert.KernelI.nD,
          r.2.mem ((c.tc : Thread Cert.KernelI.nD Cert.KernelI.τ).loc Cert.KernelI.main_v0) = v0 c
          ∧ r.2.mem ((c.tc : Thread Cert.KernelI.nD Cert.KernelI.τ).loc Cert.KernelI.main_arg0) = m ((c.tc : Thread Cert.KernelI.nD Cert.KernelI.τ).loc Cert.KernelI.main_arg0)
          ∧ r.2.mem ((c.tc : Thread Cert.KernelI.nD Cert.KernelI.τ).loc Cert.KernelI.main_arg1) = m ((c.tc : Thread Cert.KernelI.nD Cert.KernelI.τ).loc Cert.KernelI.main_arg1)
          ∧ r.2.mem ((c.tc : Thread Cert.KernelI.nD Cert.KernelI.τ).loc Cert.KernelI.main_arg2) = m ((c.tc : Thread Cert.KernelI.nD Cert.KernelI.τ).loc Cert.KernelI.main_arg2)
          ∧ r.2.mem ((c.tc : Thread Cert.KernelI.nD Cert.KernelI.τ).loc Cert.KernelI.main_arg3) = m ((c.tc : Thread Cert.KernelI.nD Cert.KernelI.τ).loc Cert.KernelI.main_arg3)
          ∧ r.2.mem ((c.tc : Thread Cert.KernelI.nD Cert.KernelI.τ).loc Cert.KernelI.main_arg4) = m ((c.tc : Thread Cert.KernelI.nD Cert.KernelI.τ).loc Cert.KernelI.main_arg4)
          ∧ r.2.mem ((c.tc : Thread Cert.KernelI.nD Cert.KernelI.τ).loc Cert.KernelI.main_arg5) = m ((c.tc : Thread Cert.KernelI.nD Cert.KernelI.τ).loc Cert.KernelI.main_arg5)
          ∧ r.2.mem ((c.tc : Thread Cert.KernelI.nD Cert.KernelI.τ).loc Cert.KernelI.main_arg6) = m ((c.tc : Thread Cert.KernelI.nD Cert.KernelI.τ).loc Cert.KernelI.main_arg6)
          ∧ r.2.mem ((c.tc : Thread Cert.KernelI.nD Cert.KernelI.τ).loc Cert.KernelI.main_arg7) = m ((c.tc : Thread Cert.KernelI.nD Cert.KernelI.τ).loc Cert.KernelI.main_arg7)
          ∧ r.2.mem ((c.tc : Thread Cert.KernelI.nD Cert.KernelI.τ).loc Cert.KernelI.main_arg8) = m ((c.tc : Thread Cert.KernelI.nD Cert.KernelI.τ).loc Cert.KernelI.main_arg8))
      ∧ θ_run (Cert.ReferenceI.defs (F := Ideal)) (onTc (τ := Cert.ReferenceI.τ) (Cert.ReferenceI.main (F := Ideal))) ⟨m', fun _ => 0, g'⟩ (fun r => ∀ c : Dev Cert.ReferenceI.nD,
          r.2.mem ((c.tc : Thread Cert.ReferenceI.nD Cert.ReferenceI.τ).loc Cert.ReferenceI.main_v32) = v0 c
          ∧ r.2.mem ((c.tc : Thread Cert.ReferenceI.nD Cert.ReferenceI.τ).loc Cert.ReferenceI.main_arg0) = m' ((c.tc : Thread Cert.ReferenceI.nD Cert.ReferenceI.τ).loc Cert.ReferenceI.main_arg0)
          ∧ r.2.mem ((c.tc : Thread Cert.ReferenceI.nD Cert.ReferenceI.τ).loc Cert.ReferenceI.main_arg1) = m' ((c.tc : Thread Cert.ReferenceI.nD Cert.ReferenceI.τ).loc Cert.ReferenceI.main_arg1)
          ∧ r.2.mem ((c.tc : Thread Cert.ReferenceI.nD Cert.ReferenceI.τ).loc Cert.ReferenceI.main_arg2) = m' ((c.tc : Thread Cert.ReferenceI.nD Cert.ReferenceI.τ).loc Cert.ReferenceI.main_arg2)
          ∧ r.2.mem ((c.tc : Thread Cert.ReferenceI.nD Cert.ReferenceI.τ).loc Cert.ReferenceI.main_arg3) = m' ((c.tc : Thread Cert.ReferenceI.nD Cert.ReferenceI.τ).loc Cert.ReferenceI.main_arg3)
          ∧ r.2.mem ((c.tc : Thread Cert.ReferenceI.nD Cert.ReferenceI.τ).loc Cert.ReferenceI.main_arg4) = m' ((c.tc : Thread Cert.ReferenceI.nD Cert.ReferenceI.τ).loc Cert.ReferenceI.main_arg4)
          ∧ r.2.mem ((c.tc : Thread Cert.ReferenceI.nD Cert.ReferenceI.τ).loc Cert.ReferenceI.main_arg5) = m' ((c.tc : Thread Cert.ReferenceI.nD Cert.ReferenceI.τ).loc Cert.ReferenceI.main_arg5)
          ∧ r.2.mem ((c.tc : Thread Cert.ReferenceI.nD Cert.ReferenceI.τ).loc Cert.ReferenceI.main_arg6) = m' ((c.tc : Thread Cert.ReferenceI.nD Cert.ReferenceI.τ).loc Cert.ReferenceI.main_arg6)
          ∧ r.2.mem ((c.tc : Thread Cert.ReferenceI.nD Cert.ReferenceI.τ).loc Cert.ReferenceI.main_arg7) = m' ((c.tc : Thread Cert.ReferenceI.nD Cert.ReferenceI.τ).loc Cert.ReferenceI.main_arg7)
          ∧ r.2.mem ((c.tc : Thread Cert.ReferenceI.nD Cert.ReferenceI.τ).loc Cert.ReferenceI.main_arg8) = m' ((c.tc : Thread Cert.ReferenceI.nD Cert.ReferenceI.τ).loc Cert.ReferenceI.main_arg8))

def preserves_Attention_AttentionI : Prop :=
  True

def algebraic_AttentionI_AttnRefI [hAttentionI : Cert.AttentionI.Facts] [hAttnRefI : Cert.AttnRefI.Facts] : Prop :=
  ∀ (m : (ℓ : Loc Cert.AttentionI.nD Cert.AttentionI.τ Cert.AttentionI.sig) → Buf (Elt Ideal) ℓ) (g : Dev Cert.AttentionI.nD → PrngReg)
    (m' : (ℓ : Loc Cert.AttnRefI.nD Cert.AttnRefI.τ Cert.AttnRefI.sig) → Buf (Elt Ideal) ℓ) (g' : Dev Cert.AttnRefI.nD → PrngReg), Pre_AttentionI m →
    (∀ c : Dev Cert.AttentionI.nD,
      m' ((c.tc : Thread Cert.AttnRefI.nD Cert.AttnRefI.τ).loc Cert.AttnRefI.main_arg0) = m ((c.tc : Thread Cert.AttentionI.nD Cert.AttentionI.τ).loc Cert.AttentionI.main_arg0)
      ∧ m' ((c.tc : Thread Cert.AttnRefI.nD Cert.AttnRefI.τ).loc Cert.AttnRefI.main_arg1) = m ((c.tc : Thread Cert.AttentionI.nD Cert.AttentionI.τ).loc Cert.AttentionI.main_arg1)
      ∧ m' ((c.tc : Thread Cert.AttnRefI.nD Cert.AttnRefI.τ).loc Cert.AttnRefI.main_arg2) = m ((c.tc : Thread Cert.AttentionI.nD Cert.AttentionI.τ).loc Cert.AttentionI.main_arg2)
      ∧ m' ((c.tc : Thread Cert.AttnRefI.nD Cert.AttnRefI.τ).loc Cert.AttnRefI.main_arg3) = m ((c.tc : Thread Cert.AttentionI.nD Cert.AttentionI.τ).loc Cert.AttentionI.main_arg3)
      ∧ m' ((c.tc : Thread Cert.AttnRefI.nD Cert.AttnRefI.τ).loc Cert.AttnRefI.main_arg4) = m ((c.tc : Thread Cert.AttentionI.nD Cert.AttentionI.τ).loc Cert.AttentionI.main_arg4)
      ∧ m' ((c.tc : Thread Cert.AttnRefI.nD Cert.AttnRefI.τ).loc Cert.AttnRefI.main_arg5) = m ((c.tc : Thread Cert.AttentionI.nD Cert.AttentionI.τ).loc Cert.AttentionI.main_arg5)) →
    ∃ (v0 : (c : Dev Cert.AttentionI.nD) → Buf (Elt Ideal) ((c.tc : Thread Cert.AttentionI.nD Cert.AttentionI.τ).loc Cert.AttentionI.main_v3_0)) (v1 : (c : Dev Cert.AttentionI.nD) → Buf (Elt Ideal) ((c.tc : Thread Cert.AttentionI.nD Cert.AttentionI.τ).loc Cert.AttentionI.main_v3_1)) (v2 : (c : Dev Cert.AttentionI.nD) → Buf (Elt Ideal) ((c.tc : Thread Cert.AttentionI.nD Cert.AttentionI.τ).loc Cert.AttentionI.main_v3_2)) (v3 : (c : Dev Cert.AttentionI.nD) → Buf (Elt Ideal) ((c.tc : Thread Cert.AttentionI.nD Cert.AttentionI.τ).loc Cert.AttentionI.main_v3_3)),
      θ_run (Cert.AttentionI.defs (F := Ideal)) (onTc (τ := Cert.AttentionI.τ) (Cert.AttentionI.main (F := Ideal))) ⟨m, fun _ => 0, g⟩ (fun r => ∀ c : Dev Cert.AttentionI.nD,
          r.2.mem ((c.tc : Thread Cert.AttentionI.nD Cert.AttentionI.τ).loc Cert.AttentionI.main_v3_0) = v0 c
          ∧ r.2.mem ((c.tc : Thread Cert.AttentionI.nD Cert.AttentionI.τ).loc Cert.AttentionI.main_v3_1) = v1 c
          ∧ r.2.mem ((c.tc : Thread Cert.AttentionI.nD Cert.AttentionI.τ).loc Cert.AttentionI.main_v3_2) = v2 c
          ∧ r.2.mem ((c.tc : Thread Cert.AttentionI.nD Cert.AttentionI.τ).loc Cert.AttentionI.main_v3_3) = v3 c
          ∧ r.2.mem ((c.tc : Thread Cert.AttentionI.nD Cert.AttentionI.τ).loc Cert.AttentionI.main_arg0) = m ((c.tc : Thread Cert.AttentionI.nD Cert.AttentionI.τ).loc Cert.AttentionI.main_arg0)
          ∧ r.2.mem ((c.tc : Thread Cert.AttentionI.nD Cert.AttentionI.τ).loc Cert.AttentionI.main_arg1) = m ((c.tc : Thread Cert.AttentionI.nD Cert.AttentionI.τ).loc Cert.AttentionI.main_arg1)
          ∧ r.2.mem ((c.tc : Thread Cert.AttentionI.nD Cert.AttentionI.τ).loc Cert.AttentionI.main_arg2) = m ((c.tc : Thread Cert.AttentionI.nD Cert.AttentionI.τ).loc Cert.AttentionI.main_arg2)
          ∧ r.2.mem ((c.tc : Thread Cert.AttentionI.nD Cert.AttentionI.τ).loc Cert.AttentionI.main_arg3) = m ((c.tc : Thread Cert.AttentionI.nD Cert.AttentionI.τ).loc Cert.AttentionI.main_arg3)
          ∧ r.2.mem ((c.tc : Thread Cert.AttentionI.nD Cert.AttentionI.τ).loc Cert.AttentionI.main_arg4) = m ((c.tc : Thread Cert.AttentionI.nD Cert.AttentionI.τ).loc Cert.AttentionI.main_arg4)
          ∧ r.2.mem ((c.tc : Thread Cert.AttentionI.nD Cert.AttentionI.τ).loc Cert.AttentionI.main_arg5) = m ((c.tc : Thread Cert.AttentionI.nD Cert.AttentionI.τ).loc Cert.AttentionI.main_arg5))
      ∧ θ_run (Cert.AttnRefI.defs (F := Ideal)) (onTc (τ := Cert.AttnRefI.τ) (Cert.AttnRefI.main (F := Ideal))) ⟨m', fun _ => 0, g'⟩ (fun r => ∀ c : Dev Cert.AttnRefI.nD,
          r.2.mem ((c.tc : Thread Cert.AttnRefI.nD Cert.AttnRefI.τ).loc Cert.AttnRefI.main_v17) = v0 c
          ∧ r.2.mem ((c.tc : Thread Cert.AttnRefI.nD Cert.AttnRefI.τ).loc Cert.AttnRefI.main_v19) = v1 c
          ∧ r.2.mem ((c.tc : Thread Cert.AttnRefI.nD Cert.AttnRefI.τ).loc Cert.AttnRefI.main_v21) = v2 c
          ∧ r.2.mem ((c.tc : Thread Cert.AttnRefI.nD Cert.AttnRefI.τ).loc Cert.AttnRefI.main_v23) = v3 c
          ∧ r.2.mem ((c.tc : Thread Cert.AttnRefI.nD Cert.AttnRefI.τ).loc Cert.AttnRefI.main_arg0) = m' ((c.tc : Thread Cert.AttnRefI.nD Cert.AttnRefI.τ).loc Cert.AttnRefI.main_arg0)
          ∧ r.2.mem ((c.tc : Thread Cert.AttnRefI.nD Cert.AttnRefI.τ).loc Cert.AttnRefI.main_arg1) = m' ((c.tc : Thread Cert.AttnRefI.nD Cert.AttnRefI.τ).loc Cert.AttnRefI.main_arg1)
          ∧ r.2.mem ((c.tc : Thread Cert.AttnRefI.nD Cert.AttnRefI.τ).loc Cert.AttnRefI.main_arg2) = m' ((c.tc : Thread Cert.AttnRefI.nD Cert.AttnRefI.τ).loc Cert.AttnRefI.main_arg2)
          ∧ r.2.mem ((c.tc : Thread Cert.AttnRefI.nD Cert.AttnRefI.τ).loc Cert.AttnRefI.main_arg3) = m' ((c.tc : Thread Cert.AttnRefI.nD Cert.AttnRefI.τ).loc Cert.AttnRefI.main_arg3)
          ∧ r.2.mem ((c.tc : Thread Cert.AttnRefI.nD Cert.AttnRefI.τ).loc Cert.AttnRefI.main_arg4) = m' ((c.tc : Thread Cert.AttnRefI.nD Cert.AttnRefI.τ).loc Cert.AttnRefI.main_arg4)
          ∧ r.2.mem ((c.tc : Thread Cert.AttnRefI.nD Cert.AttnRefI.τ).loc Cert.AttnRefI.main_arg5) = m' ((c.tc : Thread Cert.AttnRefI.nD Cert.AttnRefI.τ).loc Cert.AttnRefI.main_arg5))

def Claim : Prop :=
  ∃ (hKernel : Cert.Kernel.Facts) (hKernelI : Cert.KernelI.Facts) (hReferenceI : Cert.ReferenceI.Facts) (hAttention : Cert.Attention.Facts) (hAttentionI : Cert.AttentionI.Facts) (hAttnRefI : Cert.AttnRefI.Facts) (hPre_tables_route : Cert.Pre_tables_route.Facts),
    quiescent_Kernel (hKernel := hKernel) (hPre_tables_route := hPre_tables_route)
    ∧ quiescent_KernelI (hKernelI := hKernelI) (hPre_tables_route := hPre_tables_route)
    ∧ quiescent_ReferenceI (hReferenceI := hReferenceI)
    ∧ quiescent_ReferenceI_pre_tables_route (hReferenceI := hReferenceI) (hPre_tables_route := hPre_tables_route)
    ∧ quiescent_Attention (hAttention := hAttention)
    ∧ quiescent_AttentionI (hAttentionI := hAttentionI)
    ∧ quiescent_AttnRefI (hAttnRefI := hAttnRefI)
    ∧ preserves_Kernel_KernelI
    ∧ algebraic_KernelI_ReferenceI (hKernelI := hKernelI) (hReferenceI := hReferenceI) (hPre_tables_route := hPre_tables_route)
    ∧ preserves_Attention_AttentionI
    ∧ algebraic_AttentionI_AttnRefI (hAttentionI := hAttentionI) (hAttnRefI := hAttnRefI)
-- ==== Pre_tables_route.lean ====
abbrev S64 : Shape := ⟨1, ![64]⟩
abbrev S16384x1024 : Shape := ⟨2, ![16384, 1024]⟩
abbrev S32768 : Shape := ⟨1, ![32768]⟩
abbrev S32x1024x256 : Shape := ⟨3, ![32, 1024, 256]⟩
abbrev S32x256x1024 : Shape := ⟨3, ![32, 256, 1024]⟩
abbrev S8x16384 : Shape := ⟨2, ![8, 16384]⟩
abbrev S2x32 : Shape := ⟨2, ![2, 32]⟩
abbrev S2x32x32 : Shape := ⟨3, ![2, 32, 32]⟩
abbrev S_ : Shape := ⟨0, ![]⟩
abbrev S2x32x1 : Shape := ⟨3, ![2, 32, 1]⟩
abbrev S2x1x32 : Shape := ⟨3, ![2, 1, 32]⟩
abbrev S2x2x8192 : Shape := ⟨3, ![2, 2, 8192]⟩
abbrev S2x16384 : Shape := ⟨2, ![2, 16384]⟩
abbrev S2x32x2x8192 : Shape := ⟨4, ![2, 32, 2, 8192]⟩
abbrev S2x1x8192 : Shape := ⟨3, ![2, 1, 8192]⟩
abbrev S2x8192 : Shape := ⟨2, ![2, 8192]⟩
abbrev S2x1x2x8192 : Shape := ⟨4, ![2, 1, 2, 8192]⟩
abbrev S2x32x1x1 : Shape := ⟨4, ![2, 32, 1, 1]⟩
abbrev S2x16384x16384 : Shape := ⟨3, ![2, 16384, 16384]⟩
abbrev S2x16384x1 : Shape := ⟨3, ![2, 16384, 1]⟩
abbrev S2x1x16384 : Shape := ⟨3, ![2, 1, 16384]⟩

class Facts : Prop where
  shapeCasts_S64_S2x32 : S64.ShapeCasts S2x32
  bcast_S_S2x32 : S_.BroadcastsInDim S2x32 (![] : Fin 0 → Fin S2x32.rank)
  bcast_S2x32_S2x32x1_0_1 : S2x32.BroadcastsInDim S2x32x1 (![0, 1] : Fin 2 → Fin S2x32x1.rank)
  bcast_S2x32_S2x1x32_0_2 : S2x32.BroadcastsInDim S2x1x32 (![0, 2] : Fin 2 → Fin S2x1x32.rank)
  bcast_S2x32x1_S2x32x32_0_1_2 : S2x32x1.BroadcastsInDim S2x32x32 (![0, 1, 2] : Fin 3 → Fin S2x32x32.rank)
  bcast_S2x1x32_S2x32x32_0_1_2 : S2x1x32.BroadcastsInDim S2x32x32 (![0, 1, 2] : Fin 3 → Fin S2x32x32.rank)
  shapeCasts_S32768_S2x2x8192 : S32768.ShapeCasts S2x2x8192
  slices_S8x16384_S2x16384_0_0 : S8x16384.Slices ![0, 0] S2x16384
  shapeCasts_S2x16384_S2x2x8192 : S2x16384.ShapeCasts S2x2x8192
  transposes_S2x2x8192_S2x2x8192_1_0_2 : S2x2x8192.Transposes [1, 0, 2] S2x2x8192
  bcast_S_S2x2x8192 : S_.BroadcastsInDim S2x2x8192 (![] : Fin 0 → Fin S2x2x8192.rank)
  slices_S2x2x8192_S2x1x8192_0_0_0 : S2x2x8192.Slices ![0, 0, 0] S2x1x8192
  shapeCasts_S2x1x8192_S2x8192 : S2x1x8192.ShapeCasts S2x8192
  slices_S2x2x8192_S2x1x8192_0_1_0 : S2x2x8192.Slices ![0, 1, 0] S2x1x8192
  bcast_S2x2x8192_S2x1x2x8192_0_2_3 : S2x2x8192.BroadcastsInDim S2x1x2x8192 (![0, 2, 3] : Fin 3 → Fin S2x1x2x8192.rank)
  bcast_S2x1x2x8192_S2x32x2x8192_0_1_2_3 : S2x1x2x8192.BroadcastsInDim S2x32x2x8192 (![0, 1, 2, 3] : Fin 4 → Fin S2x32x2x8192.rank)
  bcast_S2x32_S2x32x1x1_0_1 : S2x32.BroadcastsInDim S2x32x1x1 (![0, 1] : Fin 2 → Fin S2x32x1x1.rank)
  bcast_S_S2x32x1x1 : S_.BroadcastsInDim S2x32x1x1 (![] : Fin 0 → Fin S2x32x1x1.rank)
  bcast_S2x32x1x1_S2x32x2x8192_0_1_2_3 : S2x32x1x1.BroadcastsInDim S2x32x2x8192 (![0, 1, 2, 3] : Fin 4 → Fin S2x32x2x8192.rank)
  shapeCasts_S32768_S2x16384 : S32768.ShapeCasts S2x16384
  bcast_S2x16384_S2x16384x1_0_1 : S2x16384.BroadcastsInDim S2x16384x1 (![0, 1] : Fin 2 → Fin S2x16384x1.rank)
  bcast_S2x16384_S2x1x16384_0_2 : S2x16384.BroadcastsInDim S2x1x16384 (![0, 2] : Fin 2 → Fin S2x1x16384.rank)
  bcast_S2x16384x1_S2x16384x16384_0_1_2 : S2x16384x1.BroadcastsInDim S2x16384x16384 (![0, 1, 2] : Fin 3 → Fin S2x16384x16384.rank)
  bcast_S2x1x16384_S2x16384x16384_0_1_2 : S2x1x16384.BroadcastsInDim S2x16384x16384 (![0, 1, 2] : Fin 3 → Fin S2x16384x16384.rank)

variable [Facts]

def fn_part3 {F : FTy → Type} [FloatOps F] (main_arg3 : IVec S32768 32) (main_v2 : IVec S2x32 32) (main_v24 : IVec S2x32 1) (main_v31 : IVec S2x32x32 1) (main_v32 : IVec S2x2x8192 32) (main_v47 : IVec S2x2x8192 1) (main_v52 : IVec S2x8192 1) (main_v55 : IVec S2x32x2x8192 1) (main_v56 : IVec S2x1x2x8192 32) (main_v59 : IVec S2x32x1x1 32) : IVec S2x32 1 × IVec S2x32x32 1 × IVec S2x2x8192 1 × IVec S2x8192 1 × IVec S2x32x2x8192 1 × IVec S2x16384x16384 1 :=
  let main_v60 : IVec S2x32x2x8192 32 := broadcastInDim S2x32x2x8192 ![0, 1, 2, 3] bcast_S2x1x2x8192_S2x32x2x8192_0_1_2_3 main_v56
  let main_v61 : IVec S2x32x2x8192 32 := broadcastInDim S2x32x2x8192 ![0, 1, 2, 3] bcast_S2x32x1x1_S2x32x2x8192_0_1_2_3 main_v59
  let main_v62 : IVec S2x32x2x8192 1 := cmpi .sge main_v60 main_v61
  let main_v63 : IVec S2x1x2x8192 32 := broadcastInDim S2x1x2x8192 ![0, 2, 3] bcast_S2x2x8192_S2x1x2x8192_0_2_3 main_v32
  let main_v64 : IVec S2x32x1x1 32 := broadcastInDim S2x32x1x1 ![0, 1] bcast_S2x32_S2x32x1x1_0_1 main_v2
  let main_c_11 : IVec S_ 32 := constantI S_ 32 4#32
  let main_v65 : IVec S2x32x1x1 32 := broadcastInDim S2x32x1x1 ![] bcast_S_S2x32x1x1 main_c_11
  let main_v66 : IVec S2x32x1x1 32 := muli main_v65 main_v64
  let main_v67 : IVec S2x32x2x8192 32 := broadcastInDim S2x32x2x8192 ![0, 1, 2, 3] bcast_S2x1x2x8192_S2x32x2x8192_0_1_2_3 main_v63
  let main_v68 : IVec S2x32x2x8192 32 := broadcastInDim S2x32x2x8192 ![0, 1, 2, 3] bcast_S2x32x1x1_S2x32x2x8192_0_1_2_3 main_v66
  let main_v69 : IVec S2x32x2x8192 1 := cmpi .slt main_v67 main_v68
  let main_v70 : IVec S2x32x2x8192 1 := andi main_v62 main_v69
  let main_v71 : IVec S2x32x2x8192 1 := ori main_v55 main_v70
  let main_v72 : IVec S2x16384 32 := shapeCast S2x16384 main_arg3 shapeCasts_S32768_S2x16384
  let main_v73 : IVec S2x16384x16384 32 := iotaInDim S2x16384x16384 32 1
  let main_v74 : IVec S2x16384x16384 32 := iotaInDim S2x16384x16384 32 2
  let main_v75 : IVec S2x16384x16384 1 := cmpi .eq main_v73 main_v74
  let main_v76 : IVec S2x16384x1 32 := broadcastInDim S2x16384x1 ![0, 1] bcast_S2x16384_S2x16384x1_0_1 main_v72
  let main_v77 : IVec S2x1x16384 32 := broadcastInDim S2x1x16384 ![0, 2] bcast_S2x16384_S2x1x16384_0_2 main_v72
  let main_v78 : IVec S2x16384x16384 32 := broadcastInDim S2x16384x16384 ![0, 1, 2] bcast_S2x16384x1_S2x16384x16384_0_1_2 main_v76
  let main_v79 : IVec S2x16384x16384 32 := broadcastInDim S2x16384x16384 ![0, 1, 2] bcast_S2x1x16384_S2x16384x16384_0_1_2 main_v77
  let main_v80 : IVec S2x16384x16384 1 := cmpi .ne main_v78 main_v79
  let main_v81 : IVec S2x16384x16384 1 := ori main_v75 main_v80
  (main_v24, main_v31, main_v47, main_v52, main_v71, main_v81)

def fn_part2 {F : FTy → Type} [FloatOps F] (main_arg3 : IVec S32768 32) (main_v0 : IVec S2x32 32) (main_v2 : IVec S2x32 32) (main_v24 : IVec S2x32 1) (main_v31 : IVec S2x32x32 1) (main_v32 : IVec S2x2x8192 32) (main_v36 : IVec S2x2x8192 32) (main_v37 : IVec S2x32x2x8192 32) (main_v39 : IVec S2x2x8192 1) : IVec S2x32 1 × IVec S2x32x32 1 × IVec S2x2x8192 1 × IVec S2x8192 1 × IVec S2x32x2x8192 1 × IVec S2x16384x16384 1 :=
  let main_c_7 : IVec S_ 32 := constantI S_ 32 32#32
  let main_v40 : IVec S2x2x8192 32 := broadcastInDim S2x2x8192 ![] bcast_S_S2x2x8192 main_c_7
  let main_v41 : IVec S2x2x8192 1 := cmpi .slt main_v36 main_v40
  let main_v42 : IVec S2x2x8192 1 := andi main_v39 main_v41
  let main_c_8 : IVec S_ 32 := constantI S_ 32 3#32
  let main_v43 : IVec S2x2x8192 32 := broadcastInDim S2x2x8192 ![] bcast_S_S2x2x8192 main_c_8
  let main_v44 : IVec S2x2x8192 32 := andi main_v32 main_v43
  let main_c_9 : IVec S_ 32 := constantI S_ 32 0#32
  let main_v45 : IVec S2x2x8192 32 := broadcastInDim S2x2x8192 ![] bcast_S_S2x2x8192 main_c_9
  let main_v46 : IVec S2x2x8192 1 := cmpi .eq main_v44 main_v45
  let main_v47 : IVec S2x2x8192 1 := andi main_v42 main_v46
  let main_v48 : IVec S2x1x8192 32 := (extractStridedSlice S2x1x8192 ![0, 0, 0] · slices_S2x2x8192_S2x1x8192_0_0_0) main_v36
  let main_v49 : IVec S2x8192 32 := shapeCast S2x8192 main_v48 shapeCasts_S2x1x8192_S2x8192
  let main_v50 : IVec S2x1x8192 32 := (extractStridedSlice S2x1x8192 ![0, 1, 0] · slices_S2x2x8192_S2x1x8192_0_1_0) main_v36
  let main_v51 : IVec S2x8192 32 := shapeCast S2x8192 main_v50 shapeCasts_S2x1x8192_S2x8192
  let main_v52 : IVec S2x8192 1 := cmpi .ne main_v49 main_v51
  let main_v53 : IVec S2x1x2x8192 32 := broadcastInDim S2x1x2x8192 ![0, 2, 3] bcast_S2x2x8192_S2x1x2x8192_0_2_3 main_v36
  let main_v54 : IVec S2x32x2x8192 32 := broadcastInDim S2x32x2x8192 ![0, 1, 2, 3] bcast_S2x1x2x8192_S2x32x2x8192_0_1_2_3 main_v53
  let main_v55 : IVec S2x32x2x8192 1 := cmpi .ne main_v37 main_v54
  let main_v56 : IVec S2x1x2x8192 32 := broadcastInDim S2x1x2x8192 ![0, 2, 3] bcast_S2x2x8192_S2x1x2x8192_0_2_3 main_v32
  let main_v57 : IVec S2x32x1x1 32 := broadcastInDim S2x32x1x1 ![0, 1] bcast_S2x32_S2x32x1x1_0_1 main_v0
  let main_c_10 : IVec S_ 32 := constantI S_ 32 4#32
  let main_v58 : IVec S2x32x1x1 32 := broadcastInDim S2x32x1x1 ![] bcast_S_S2x32x1x1 main_c_10
  let main_v59 : IVec S2x32x1x1 32 := muli main_v58 main_v57
  fn_part3 (F := F) main_arg3 main_v2 main_v24 main_v31 main_v32 main_v47 main_v52 main_v55 main_v56 main_v59

def fn_part1 {F : FTy → Type} [FloatOps F] (main_arg3 : IVec S32768 32) (main_arg8 : FVec F S8x16384 .f32) (main_v0 : IVec S2x32 32) (main_v2 : IVec S2x32 32) (main_v3 : IVec S2x32x32 32) (main_v4 : IVec S2x32x32 32) (main_v5 : IVec S2x32 32) (main_v18 : IVec S2x32 1) : IVec S2x32 1 × IVec S2x32x32 1 × IVec S2x2x8192 1 × IVec S2x8192 1 × IVec S2x32x2x8192 1 × IVec S2x16384x16384 1 :=
  let main_c_4 : IVec S_ 32 := constantI S_ 32 16416#32
  let main_v19 : IVec S2x32 32 := broadcastInDim S2x32 ![] bcast_S_S2x32 main_c_4
  let main_v20 : IVec S2x32 1 := cmpi .sle main_v5 main_v19
  let main_v21 : IVec S2x32 1 := andi main_v18 main_v20
  let main_c_5 : IVec S_ 32 := constantI S_ 32 16416#32
  let main_v22 : IVec S2x32 32 := broadcastInDim S2x32 ![] bcast_S_S2x32 main_c_5
  let main_v23 : IVec S2x32 1 := cmpi .sle main_v2 main_v22
  let main_v24 : IVec S2x32 1 := andi main_v21 main_v23
  let main_v25 : IVec S2x32x32 1 := cmpi .sge main_v3 main_v4
  let main_v26 : IVec S2x32x1 32 := broadcastInDim S2x32x1 ![0, 1] bcast_S2x32_S2x32x1_0_1 main_v2
  let main_v27 : IVec S2x1x32 32 := broadcastInDim S2x1x32 ![0, 2] bcast_S2x32_S2x1x32_0_2 main_v0
  let main_v28 : IVec S2x32x32 32 := broadcastInDim S2x32x32 ![0, 1, 2] bcast_S2x32x1_S2x32x32_0_1_2 main_v26
  let main_v29 : IVec S2x32x32 32 := broadcastInDim S2x32x32 ![0, 1, 2] bcast_S2x1x32_S2x32x32_0_1_2 main_v27
  let main_v30 : IVec S2x32x32 1 := cmpi .sle main_v28 main_v29
  let main_v31 : IVec S2x32x32 1 := ori main_v25 main_v30
  let main_v32 : IVec S2x2x8192 32 := shapeCast S2x2x8192 main_arg3 shapeCasts_S32768_S2x2x8192
  let main_v33 : FVec F S2x16384 .f32 := (extractStridedSlice S2x16384 ![0, 0] · slices_S8x16384_S2x16384_0_0) main_arg8
  let main_v34 : IVec S2x16384 32 := fptosi 32 main_v33
  let main_v35 : IVec S2x2x8192 32 := shapeCast S2x2x8192 main_v34 shapeCasts_S2x16384_S2x2x8192
  let main_v36 : IVec S2x2x8192 32 := (transpose S2x2x8192 [1, 0, 2] · transposes_S2x2x8192_S2x2x8192_1_0_2) main_v35
  let main_v37 : IVec S2x32x2x8192 32 := iotaInDim S2x32x2x8192 32 1
  let main_c_6 : IVec S_ 32 := constantI S_ 32 0#32
  let main_v38 : IVec S2x2x8192 32 := broadcastInDim S2x2x8192 ![] bcast_S_S2x2x8192 main_c_6
  let main_v39 : IVec S2x2x8192 1 := cmpi .sge main_v36 main_v38
  fn_part2 (F := F) main_arg3 main_v0 main_v2 main_v24 main_v31 main_v32 main_v36 main_v37 main_v39

def fn {F : FTy → Type} [FloatOps F] (main_arg0 : IVec S64 32) (main_arg1 : IVec S64 32) (main_arg2 : FVec F S16384x1024 .bf16) (main_arg3 : IVec S32768 32) (main_arg4 : FVec F S32x1024x256 .bf16) (main_arg5 : FVec F S32x1024x256 .bf16) (main_arg6 : FVec F S32x256x1024 .bf16) (main_arg7 : FVec F S16384x1024 .f32) (main_arg8 : FVec F S8x16384 .f32) : IVec S2x32 1 × IVec S2x32x32 1 × IVec S2x2x8192 1 × IVec S2x8192 1 × IVec S2x32x2x8192 1 × IVec S2x16384x16384 1 :=
  let main_v0 : IVec S2x32 32 := shapeCast S2x32 main_arg0 shapeCasts_S64_S2x32
  let main_v1 : IVec S2x32 32 := shapeCast S2x32 main_arg1 shapeCasts_S64_S2x32
  let main_v2 : IVec S2x32 32 := addi main_v0 main_v1
  let main_v3 : IVec S2x32x32 32 := iotaInDim S2x32x32 32 1
  let main_v4 : IVec S2x32x32 32 := iotaInDim S2x32x32 32 2
  let main_v5 : IVec S2x32 32 := shapeCast S2x32 main_arg1 shapeCasts_S64_S2x32
  let main_c : IVec S_ 32 := constantI S_ 32 0#32
  let main_v6 : IVec S2x32 32 := broadcastInDim S2x32 ![] bcast_S_S2x32 main_c
  let main_v7 : IVec S2x32 1 := cmpi .sge main_v0 main_v6
  let main_c_0 : IVec S_ 32 := constantI S_ 32 1#32
  let main_v8 : IVec S2x32 32 := broadcastInDim S2x32 ![] bcast_S_S2x32 main_c_0
  let main_v9 : IVec S2x32 32 := andi main_v0 main_v8
  let main_c_1 : IVec S_ 32 := constantI S_ 32 0#32
  let main_v10 : IVec S2x32 32 := broadcastInDim S2x32 ![] bcast_S_S2x32 main_c_1
  let main_v11 : IVec S2x32 1 := cmpi .eq main_v9 main_v10
  let main_v12 : IVec S2x32 1 := andi main_v7 main_v11
  let main_c_2 : IVec S_ 32 := constantI S_ 32 16416#32
  let main_v13 : IVec S2x32 32 := broadcastInDim S2x32 ![] bcast_S_S2x32 main_c_2
  let main_v14 : IVec S2x32 1 := cmpi .sle main_v0 main_v13
  let main_v15 : IVec S2x32 1 := andi main_v12 main_v14
  let main_c_3 : IVec S_ 32 := constantI S_ 32 0#32
  let main_v16 : IVec S2x32 32 := broadcastInDim S2x32 ![] bcast_S_S2x32 main_c_3
  let main_v17 : IVec S2x32 1 := cmpi .sge main_v5 main_v16
  let main_v18 : IVec S2x32 1 := andi main_v15 main_v17
  fn_part1 (F := F) main_arg3 main_arg8 main_v0 main_v2 main_v3 main_v4 main_v5 main_v18
-- ==== Kernel.lean ====
abbrev S64 : Shape := ⟨1, ![64]⟩
abbrev S16384x1024 : Shape := ⟨2, ![16384, 1024]⟩
abbrev S32768 : Shape := ⟨1, ![32768]⟩
abbrev S32x1024x256 : Shape := ⟨3, ![32, 1024, 256]⟩
abbrev S32x256x1024 : Shape := ⟨3, ![32, 256, 1024]⟩
abbrev S8x16384 : Shape := ⟨2, ![8, 16384]⟩
abbrev S1024x1024 : Shape := ⟨2, ![1024, 1024]⟩
abbrev S16384 : Shape := ⟨1, ![16384]⟩
abbrev S2x1024x256 : Shape := ⟨3, ![2, 1024, 256]⟩
abbrev S2x256x1024 : Shape := ⟨3, ![2, 256, 1024]⟩
abbrev S512x1024 : Shape := ⟨2, ![512, 1024]⟩
abbrev S8x512 : Shape := ⟨2, ![8, 512]⟩
abbrev S67968x128 : Shape := ⟨2, ![67968, 128]⟩
abbrev S4096x128 : Shape := ⟨2, ![4096, 128]⟩
abbrev S4x128 : Shape := ⟨2, ![4, 128]⟩
abbrev S1 : Shape := ⟨1, ![1]⟩
abbrev S2432x128 : Shape := ⟨2, ![2432, 128]⟩
abbrev S1024x128 : Shape := ⟨2, ![1024, 128]⟩
abbrev S8x128 : Shape := ⟨2, ![8, 128]⟩
abbrev S576x128 : Shape := ⟨2, ![576, 128]⟩
abbrev S576x256 : Shape := ⟨2, ![576, 256]⟩
abbrev S1x256x256 : Shape := ⟨3, ![1, 256, 256]⟩
abbrev S256x256 : Shape := ⟨2, ![256, 256]⟩
abbrev S1x256x1024 : Shape := ⟨3, ![1, 256, 1024]⟩
abbrev S256x1024 : Shape := ⟨2, ![256, 1024]⟩
abbrev S576x1024 : Shape := ⟨2, ![576, 1024]⟩
abbrev S576x1 : Shape := ⟨2, ![576, 1]⟩
abbrev S512x8 : Shape := ⟨2, ![512, 8]⟩
abbrev S512x1 : Shape := ⟨2, ![512, 1]⟩
abbrev S512x128 : Shape := ⟨2, ![512, 128]⟩

abbrev nBuf : Space → Nat
  | .hbm => 8
  | .vmem => 17
  | .smem => 4
  | _ => 0

abbrev bufTy : (tb : Table) → Fin (tcTables nBuf tb) → BufTy
  | .hbm, ⟨0, _⟩ => ⟨S16384x1024, .bf16⟩
  | .hbm, ⟨1, _⟩ => ⟨S32768, .i32⟩
  | .hbm, ⟨2, _⟩ => ⟨S32x1024x256, .bf16⟩
  | .hbm, ⟨3, _⟩ => ⟨S32x1024x256, .bf16⟩
  | .hbm, ⟨4, _⟩ => ⟨S32x256x1024, .bf16⟩
  | .hbm, ⟨5, _⟩ => ⟨S16384x1024, .f32⟩
  | .hbm, ⟨6, _⟩ => ⟨S8x16384, .f32⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x256, .bf16⟩
  | .local _ .vmem, ⟨3, _⟩ => ⟨S2x1024x256, .bf16⟩
  | .local _ .vmem, ⟨4, _⟩ => ⟨S2x1024x256, .bf16⟩
  | .local _ .vmem, ⟨5, _⟩ => ⟨S2x1024x256, .bf16⟩
  | .local _ .vmem, ⟨6, _⟩ => ⟨S2x256x1024, .bf16⟩
  | .local _ .vmem, ⟨7, _⟩ => ⟨S2x256x1024, .bf16⟩
  | .local _ .vmem, ⟨8, _⟩ => ⟨S512x1024, .f32⟩
  | .local _ .vmem, ⟨9, _⟩ => ⟨S512x1024, .f32⟩
  | .local _ .vmem, ⟨10, _⟩ => ⟨S8x512, .f32⟩
  | .local _ .vmem, ⟨11, _⟩ => ⟨S8x512, .f32⟩
  | .local _ .vmem, ⟨12, _⟩ => ⟨S512x1024, .f32⟩
  | .local _ .vmem, ⟨13, _⟩ => ⟨S512x1024, .f32⟩
  | .local _ .vmem, ⟨14, _⟩ => ⟨S67968x128, .i32⟩
  | .local _ .vmem, ⟨15, _⟩ => ⟨S4096x128, .i32⟩
  | .local _ .vmem, ⟨16, _⟩ => ⟨S4096x128, .i32⟩
  | .local _ .smem, ⟨0, _⟩ => ⟨S64, .i32⟩
  | .local _ .smem, ⟨1, _⟩ => ⟨S64, .i32⟩
  | .local _ .smem, ⟨2, _⟩ => ⟨S16384, .i32⟩
  | .local _ .smem, ⟨3, _⟩ => ⟨S16384, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![2, 42], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let c32_i32 : BitVec 32 := 32#32
  let v87 : BitVec 32 := Scalar.muli arg0 c32_i32
  let c0_i32_46 : BitVec 32 := 0#32
  let v88 : BitVec 32 := Scalar.addi v87 c0_i32_46
  let v89 : Index := Scalar.indexCast v88
  ![v89.toNat]
def k0_mult1 (v90 : BitVec 32) (v94 : BitVec 32) : BitVec 32 :=
  let v95 : BitVec 32 := Scalar.addi v90 v94
  let c4_i32 : BitVec 32 := 4#32
  let v96 : BitVec 32 := Scalar.muli v95 c4_i32
  v96

def k0_off2 (v90 : BitVec 32) (v94 : BitVec 32) : Fin 2 → Nat :=
  let v95 : BitVec 32 := Scalar.addi v90 v94
  let c4_i32 : BitVec 32 := 4#32
  let v96 : BitVec 32 := Scalar.muli v95 c4_i32
  let v97 : BitVec 32 := v96
  let v98 : Index := Scalar.indexCast v97
  let c0 : Index := 0#32
  ![v98.toNat, 0]

def k0_chk1 (i : grid0.Coords) (v90 : BitVec 32) (v94 : BitVec 32) : Prop :=
  (∀ (k0_h1 : k0_cond1 i = 1#1), 4 ∣ (k0_mult1 v90 v94).toNat) ∧
  (∀ (k0_h1 : k0_cond1 i = 1#1), ∀ a, (k0_off2 v90 v94) a + S4x128.size a ≤ S67968x128.size a)
theorem k0_mult1_dvd : ∀ (i : grid0.Coords) (v90 : BitVec 32) (v94 : BitVec 32) (k0_hw1 : k0_chk1 i v90 v94), ∀ (k0_h1 : k0_cond1 i = 1#1), 4 ∣ (k0_mult1 v90 v94).toNat := fun i v90 v94 k0_hw1 k0_h1 => k0_hw1.1 k0_h1
theorem k0_off2_inb : ∀ (i : grid0.Coords) (v90 : BitVec 32) (v94 : BitVec 32) (k0_hw1 : k0_chk1 i v90 v94), ∀ (k0_h1 : k0_cond1 i = 1#1), ∀ a, (k0_off2 v90 v94) a + S4x128.size a ≤ S67968x128.size a := fun i v90 v94 k0_hw1 k0_h1 => k0_hw1.2 k0_h1

def k0_off3 (i : grid0.Coords) : Fin 1 → Nat :=
  let arg0 : BitVec 32 := BitVec.ofNat 32 (i 0).val
  let c32_i32_49 : BitVec 32 := 32#32
  let v102 : BitVec 32 := Scalar.muli arg0 c32_i32_49
  let c1_i32_50 : BitVec 32 := 1#32
  let v103 : BitVec 32 := Scalar.addi v102 c1_i32_50
  let v104 : Index := Scalar.indexCast v103
  ![v104.toNat]
def k0_mult2 (v105 : BitVec 32) (v109 : BitVec 32) : BitVec 32 :=
  let v110 : BitVec 32 := Scalar.addi v105 v109
  let c4_i32_53 : BitVec 32 := 4#32
  let v111 : BitVec 32 := Scalar.muli v110 c4_i32_53
  v111

def k0_off4 (v105 : BitVec 32) (v109 : BitVec 32) : Fin 2 → Nat :=
  let v110 : BitVec 32 := Scalar.addi v105 v109
  let c4_i32_53 : BitVec 32 := 4#32
  let v111 : BitVec 32 := Scalar.muli v110 c4_i32_53
  let v112 : BitVec 32 := v111
  let v113 : Index := Scalar.indexCast v112
  let c0_54 : Index := 0#32
  ![v113.toNat, 0]

def k0_chk2 (i : grid0.Coords) (v105 : BitVec 32) (v109 : BitVec 32) : Prop :=
  (∀ (k0_h1 : k0_cond1 i = 1#1), 4 ∣ (k0_mult2 v105 v109).toNat) ∧
  (∀ (k0_h1 : k0_cond1 i = 1#1), ∀ a, (k0_off4 v105 v109) a + S4x128.size a ≤ S67968x128.size a)
theorem k0_mult2_dvd : ∀ (i : grid0.Coords) (v105 : BitVec 32) (v109 : BitVec 32) (k0_hw2 : k0_chk2 i v105 v109), ∀ (k0_h1 : k0_cond1 i = 1#1), 4 ∣ (k0_mult2 v105 v109).toNat := fun i v105 v109 k0_hw2 k0_h1 => k0_hw2.1 k0_h1
theorem k0_off4_inb : ∀ (i : grid0.Coords) (v105 : BitVec 32) (v109 : BitVec 32) (k0_hw2 : k0_chk2 i v105 v109), ∀ (k0_h1 : k0_cond1 i = 1#1), ∀ a, (k0_off4 v105 v109) a + S4x128.size a ≤ S67968x128.size a := fun i v105 v109 k0_hw2 k0_h1 => k0_hw2.2 k0_h1

def k0_off5 (i : grid0.Coords) : Fin 1 → Nat :=
  let arg0 : BitVec 32 := BitVec.ofNat 32 (i 0).val
  let c32_i32_55 : BitVec 32 := 32#32
  let v117 : BitVec 32 := Scalar.muli arg0 c32_i32_55
  let c2_i32_56 : BitVec 32 := 2#32
  let v118 : BitVec 32 := Scalar.addi v117 c2_i32_56
  let v119 : Index := Scalar.indexCast v118
  ![v119.toNat]
def k0_mult3 (v120 : BitVec 32) (v124 : BitVec 32) : BitVec 32 :=
  let v125 : BitVec 32 := Scalar.addi v120 v124
  let c4_i32_59 : BitVec 32 := 4#32
  let v126 : BitVec 32 := Scalar.muli v125 c4_i32_59
  v126

def k0_off6 (v120 : BitVec 32) (v124 : BitVec 32) : Fin 2 → Nat :=
  let v125 : BitVec 32 := Scalar.addi v120 v124
  let c4_i32_59 : BitVec 32 := 4#32
  let v126 : BitVec 32 := Scalar.muli v125 c4_i32_59
  let v127 : BitVec 32 := v126
  let v128 : Index := Scalar.indexCast v127
  let c0_60 : Index := 0#32
  ![v128.toNat, 0]

def k0_chk3 (i : grid0.Coords) (v120 : BitVec 32) (v124 : BitVec 32) : Prop :=
  (∀ (k0_h1 : k0_cond1 i = 1#1), 4 ∣ (k0_mult3 v120 v124).toNat) ∧
  (∀ (k0_h1 : k0_cond1 i = 1#1), ∀ a, (k0_off6 v120 v124) a + S4x128.size a ≤ S67968x128.size a)
theorem k0_mult3_dvd : ∀ (i : grid0.Coords) (v120 : BitVec 32) (v124 : BitVec 32) (k0_hw3 : k0_chk3 i v120 v124), ∀ (k0_h1 : k0_cond1 i = 1#1), 4 ∣ (k0_mult3 v120 v124).toNat := fun i v120 v124 k0_hw3 k0_h1 => k0_hw3.1 k0_h1
theorem k0_off6_inb : ∀ (i : grid0.Coords) (v120 : BitVec 32) (v124 : BitVec 32) (k0_hw3 : k0_chk3 i v120 v124), ∀ (k0_h1 : k0_cond1 i = 1#1), ∀ a, (k0_off6 v120 v124) a + S4x128.size a ≤ S67968x128.size a := fun i v120 v124 k0_hw3 k0_h1 => k0_hw3.2 k0_h1

def k0_off7 (i : grid0.Coords) : Fin 1 → Nat :=
  let arg0 : BitVec 32 := BitVec.ofNat 32 (i 0).val
  let c32_i32_61 : BitVec 32 := 32#32
  let v132 : BitVec 32 := Scalar.muli arg0 c32_i32_61
  let c3_i32 : BitVec 32 := 3#32
  let v133 : BitVec 32 := Scalar.addi v132 c3_i32
  let v134 : Index := Scalar.indexCast v133
  ![v134.toNat]
def k0_mult4 (v135 : BitVec 32) (v139 : BitVec 32) : BitVec 32 :=
  let v140 : BitVec 32 := Scalar.addi v135 v139
  let c4_i32_64 : BitVec 32 := 4#32
  let v141 : BitVec 32 := Scalar.muli v140 c4_i32_64
  v141

def k0_off8 (v135 : BitVec 32) (v139 : BitVec 32) : Fin 2 → Nat :=
  let v140 : BitVec 32 := Scalar.addi v135 v139
  let c4_i32_64 : BitVec 32 := 4#32
  let v141 : BitVec 32 := Scalar.muli v140 c4_i32_64
  let v142 : BitVec 32 := v141
  let v143 : Index := Scalar.indexCast v142
  let c0_65 : Index := 0#32
  ![v143.toNat, 0]

def k0_chk4 (i : grid0.Coords) (v135 : BitVec 32) (v139 : BitVec 32) : Prop :=
  (∀ (k0_h1 : k0_cond1 i = 1#1), 4 ∣ (k0_mult4 v135 v139).toNat) ∧
  (∀ (k0_h1 : k0_cond1 i = 1#1), ∀ a, (k0_off8 v135 v139) a + S4x128.size a ≤ S67968x128.size a)
theorem k0_mult4_dvd : ∀ (i : grid0.Coords) (v135 : BitVec 32) (v139 : BitVec 32) (k0_hw4 : k0_chk4 i v135 v139), ∀ (k0_h1 : k0_cond1 i = 1#1), 4 ∣ (k0_mult4 v135 v139).toNat := fun i v135 v139 k0_hw4 k0_h1 => k0_hw4.1 k0_h1
theorem k0_off8_inb : ∀ (i : grid0.Coords) (v135 : BitVec 32) (v139 : BitVec 32) (k0_hw4 : k0_chk4 i v135 v139), ∀ (k0_h1 : k0_cond1 i = 1#1), ∀ a, (k0_off8 v135 v139) a + S4x128.size a ≤ S67968x128.size a := fun i v135 v139 k0_hw4 k0_h1 => k0_hw4.2 k0_h1

def k0_off9 (i : grid0.Coords) : Fin 1 → Nat :=
  let arg0 : BitVec 32 := BitVec.ofNat 32 (i 0).val
  let c32_i32_66 : BitVec 32 := 32#32
  let v147 : BitVec 32 := Scalar.muli arg0 c32_i32_66
  let c4_i32_67 : BitVec 32 := 4#32
  let v148 : BitVec 32 := Scalar.addi v147 c4_i32_67
  let v149 : Index := Scalar.indexCast v148
  ![v149.toNat]
def k0_mult5 (v150 : BitVec 32) (v154 : BitVec 32) : BitVec 32 :=
  let v155 : BitVec 32 := Scalar.addi v150 v154
  let c4_i32_70 : BitVec 32 := 4#32
  let v156 : BitVec 32 := Scalar.muli v155 c4_i32_70
  v156

def k0_off10 (v150 : BitVec 32) (v154 : BitVec 32) : Fin 2 → Nat :=
  let v155 : BitVec 32 := Scalar.addi v150 v154
  let c4_i32_70 : BitVec 32 := 4#32
  let v156 : BitVec 32 := Scalar.muli v155 c4_i32_70
  let v157 : BitVec 32 := v156
  let v158 : Index := Scalar.indexCast v157
  let c0_71 : Index := 0#32
  ![v158.toNat, 0]

def k0_chk5 (i : grid0.Coords) (v150 : BitVec 32) (v154 : BitVec 32) : Prop :=
  (∀ (k0_h1 : k0_cond1 i = 1#1), 4 ∣ (k0_mult5 v150 v154).toNat) ∧
  (∀ (k0_h1 : k0_cond1 i = 1#1), ∀ a, (k0_off10 v150 v154) a + S4x128.size a ≤ S67968x128.size a)
theorem k0_mult5_dvd : ∀ (i : grid0.Coords) (v150 : BitVec 32) (v154 : BitVec 32) (k0_hw5 : k0_chk5 i v150 v154), ∀ (k0_h1 : k0_cond1 i = 1#1), 4 ∣ (k0_mult5 v150 v154).toNat := fun i v150 v154 k0_hw5 k0_h1 => k0_hw5.1 k0_h1
theorem k0_off10_inb : ∀ (i : grid0.Coords) (v150 : BitVec 32) (v154 : BitVec 32) (k0_hw5 : k0_chk5 i v150 v154), ∀ (k0_h1 : k0_cond1 i = 1#1), ∀ a, (k0_off10 v150 v154) a + S4x128.size a ≤ S67968x128.size a := fun i v150 v154 k0_hw5 k0_h1 => k0_hw5.2 k0_h1

def k0_off11 (i : grid0.Coords) : Fin 1 → Nat :=
  let arg0 : BitVec 32 := BitVec.ofNat 32 (i 0).val
  let c32_i32_72 : BitVec 32 := 32#32
  let v162 : BitVec 32 := Scalar.muli arg0 c32_i32_72
  let c5_i32 : BitVec 32 := 5#32
  let v163 : BitVec 32 := Scalar.addi v162 c5_i32
  let v164 : Index := Scalar.indexCast v163
  ![v164.toNat]
def k0_mult6 (v165 : BitVec 32) (v169 : BitVec 32) : BitVec 32 :=
  let v170 : BitVec 32 := Scalar.addi v165 v169
  let c4_i32_75 : BitVec 32 := 4#32
  let v171 : BitVec 32 := Scalar.muli v170 c4_i32_75
  v171

def k0_off12 (v165 : BitVec 32) (v169 : BitVec 32) : Fin 2 → Nat :=
  let v170 : BitVec 32 := Scalar.addi v165 v169
  let c4_i32_75 : BitVec 32 := 4#32
  let v171 : BitVec 32 := Scalar.muli v170 c4_i32_75
  let v172 : BitVec 32 := v171
  let v173 : Index := Scalar.indexCast v172
  let c0_76 : Index := 0#32
  ![v173.toNat, 0]

def k0_chk6 (i : grid0.Coords) (v165 : BitVec 32) (v169 : BitVec 32) : Prop :=
  (∀ (k0_h1 : k0_cond1 i = 1#1), 4 ∣ (k0_mult6 v165 v169).toNat) ∧
  (∀ (k0_h1 : k0_cond1 i = 1#1), ∀ a, (k0_off12 v165 v169) a + S4x128.size a ≤ S67968x128.size a)
theorem k0_mult6_dvd : ∀ (i : grid0.Coords) (v165 : BitVec 32) (v169 : BitVec 32) (k0_hw6 : k0_chk6 i v165 v169), ∀ (k0_h1 : k0_cond1 i = 1#1), 4 ∣ (k0_mult6 v165 v169).toNat := fun i v165 v169 k0_hw6 k0_h1 => k0_hw6.1 k0_h1
theorem k0_off12_inb : ∀ (i : grid0.Coords) (v165 : BitVec 32) (v169 : BitVec 32) (k0_hw6 : k0_chk6 i v165 v169), ∀ (k0_h1 : k0_cond1 i = 1#1), ∀ a, (k0_off12 v165 v169) a + S4x128.size a ≤ S67968x128.size a := fun i v165 v169 k0_hw6 k0_h1 => k0_hw6.2 k0_h1

def k0_off13 (i : grid0.Coords) : Fin 1 → Nat :=
  let arg0 : BitVec 32 := BitVec.ofNat 32 (i 0).val
  let c32_i32_77 : BitVec 32 := 32#32
  let v177 : BitVec 32 := Scalar.muli arg0 c32_i32_77
  let c6_i32 : BitVec 32 := 6#32
  let v178 : BitVec 32 := Scalar.addi v177 c6_i32
  let v179 : Index := Scalar.indexCast v178
  ![v179.toNat]
def k0_mult7 (v180 : BitVec 32) (v184 : BitVec 32) : BitVec 32 :=
  let v185 : BitVec 32 := Scalar.addi v180 v184
  let c4_i32_80 : BitVec 32 := 4#32
  let v186 : BitVec 32 := Scalar.muli v185 c4_i32_80
  v186

def k0_off14 (v180 : BitVec 32) (v184 : BitVec 32) : Fin 2 → Nat :=
  let v185 : BitVec 32 := Scalar.addi v180 v184
  let c4_i32_80 : BitVec 32 := 4#32
  let v186 : BitVec 32 := Scalar.muli v185 c4_i32_80
  let v187 : BitVec 32 := v186
  let v188 : Index := Scalar.indexCast v187
  let c0_81 : Index := 0#32
  ![v188.toNat, 0]

def k0_chk7 (i : grid0.Coords) (v180 : BitVec 32) (v184 : BitVec 32) : Prop :=
  (∀ (k0_h1 : k0_cond1 i = 1#1), 4 ∣ (k0_mult7 v180 v184).toNat) ∧
  (∀ (k0_h1 : k0_cond1 i = 1#1), ∀ a, (k0_off14 v180 v184) a + S4x128.size a ≤ S67968x128.size a)
theorem k0_mult7_dvd : ∀ (i : grid0.Coords) (v180 : BitVec 32) (v184 : BitVec 32) (k0_hw7 : k0_chk7 i v180 v184), ∀ (k0_h1 : k0_cond1 i = 1#1), 4 ∣ (k0_mult7 v180 v184).toNat := fun i v180 v184 k0_hw7 k0_h1 => k0_hw7.1 k0_h1
theorem k0_off14_inb : ∀ (i : grid0.Coords) (v180 : BitVec 32) (v184 : BitVec 32) (k0_hw7 : k0_chk7 i v180 v184), ∀ (k0_h1 : k0_cond1 i = 1#1), ∀ a, (k0_off14 v180 v184) a + S4x128.size a ≤ S67968x128.size a := fun i v180 v184 k0_hw7 k0_h1 => k0_hw7.2 k0_h1

def k0_off15 (i : grid0.Coords) : Fin 1 → Nat :=
  let arg0 : BitVec 32 := BitVec.ofNat 32 (i 0).val
  let c32_i32_82 : BitVec 32 := 32#32
  let v192 : BitVec 32 := Scalar.muli arg0 c32_i32_82
  let c7_i32 : BitVec 32 := 7#32
  let v193 : BitVec 32 := Scalar.addi v192 c7_i32
  let v194 : Index := Scalar.indexCast v193
  ![v194.toNat]
def k0_mult8 (v195 : BitVec 32) (v199 : BitVec 32) : BitVec 32 :=
  let v200 : BitVec 32 := Scalar.addi v195 v199
  let c4_i32_85 : BitVec 32 := 4#32
  let v201 : BitVec 32 := Scalar.muli v200 c4_i32_85
  v201

def k0_off16 (v195 : BitVec 32) (v199 : BitVec 32) : Fin 2 → Nat :=
  let v200 : BitVec 32 := Scalar.addi v195 v199
  let c4_i32_85 : BitVec 32 := 4#32
  let v201 : BitVec 32 := Scalar.muli v200 c4_i32_85
  let v202 : BitVec 32 := v201
  let v203 : Index := Scalar.indexCast v202
  let c0_86 : Index := 0#32
  ![v203.toNat, 0]

def k0_chk8 (i : grid0.Coords) (v195 : BitVec 32) (v199 : BitVec 32) : Prop :=
  (∀ (k0_h1 : k0_cond1 i = 1#1), 4 ∣ (k0_mult8 v195 v199).toNat) ∧
  (∀ (k0_h1 : k0_cond1 i = 1#1), ∀ a, (k0_off16 v195 v199) a + S4x128.size a ≤ S67968x128.size a)
theorem k0_mult8_dvd : ∀ (i : grid0.Coords) (v195 : BitVec 32) (v199 : BitVec 32) (k0_hw8 : k0_chk8 i v195 v199), ∀ (k0_h1 : k0_cond1 i = 1#1), 4 ∣ (k0_mult8 v195 v199).toNat := fun i v195 v199 k0_hw8 k0_h1 => k0_hw8.1 k0_h1
theorem k0_off16_inb : ∀ (i : grid0.Coords) (v195 : BitVec 32) (v199 : BitVec 32) (k0_hw8 : k0_chk8 i v195 v199), ∀ (k0_h1 : k0_cond1 i = 1#1), ∀ a, (k0_off16 v195 v199) a + S4x128.size a ≤ S67968x128.size a := fun i v195 v199 k0_hw8 k0_h1 => k0_hw8.2 k0_h1

def k0_off17 (i : grid0.Coords) : Fin 1 → Nat :=
  let arg0 : BitVec 32 := BitVec.ofNat 32 (i 0).val
  let c32_i32_87 : BitVec 32 := 32#32
  let v207 : BitVec 32 := Scalar.muli arg0 c32_i32_87
  let c8_i32_88 : BitVec 32 := 8#32
  let v208 : BitVec 32 := Scalar.addi v207 c8_i32_88
  let v209 : Index := Scalar.indexCast v208
  ![v209.toNat]
def k0_mult9 (v210 : BitVec 32) (v214 : BitVec 32) : BitVec 32 :=
  let v215 : BitVec 32 := Scalar.addi v210 v214
  let c4_i32_91 : BitVec 32 := 4#32
  let v216 : BitVec 32 := Scalar.muli v215 c4_i32_91
  v216

def k0_off18 (v210 : BitVec 32) (v214 : BitVec 32) : Fin 2 → Nat :=
  let v215 : BitVec 32 := Scalar.addi v210 v214
  let c4_i32_91 : BitVec 32 := 4#32
  let v216 : BitVec 32 := Scalar.muli v215 c4_i32_91
  let v217 : BitVec 32 := v216
  let v218 : Index := Scalar.indexCast v217
  let c0_92 : Index := 0#32
  ![v218.toNat, 0]

def k0_chk9 (i : grid0.Coords) (v210 : BitVec 32) (v214 : BitVec 32) : Prop :=
  (∀ (k0_h1 : k0_cond1 i = 1#1), 4 ∣ (k0_mult9 v210 v214).toNat) ∧
  (∀ (k0_h1 : k0_cond1 i = 1#1), ∀ a, (k0_off18 v210 v214) a + S4x128.size a ≤ S67968x128.size a)
theorem k0_mult9_dvd : ∀ (i : grid0.Coords) (v210 : BitVec 32) (v214 : BitVec 32) (k0_hw9 : k0_chk9 i v210 v214), ∀ (k0_h1 : k0_cond1 i = 1#1), 4 ∣ (k0_mult9 v210 v214).toNat := fun i v210 v214 k0_hw9 k0_h1 => k0_hw9.1 k0_h1
theorem k0_off18_inb : ∀ (i : grid0.Coords) (v210 : BitVec 32) (v214 : BitVec 32) (k0_hw9 : k0_chk9 i v210 v214), ∀ (k0_h1 : k0_cond1 i = 1#1), ∀ a, (k0_off18 v210 v214) a + S4x128.size a ≤ S67968x128.size a := fun i v210 v214 k0_hw9 k0_h1 => k0_hw9.2 k0_h1

def k0_off19 (i : grid0.Coords) : Fin 1 → Nat :=
  let arg0 : BitVec 32 := BitVec.ofNat 32 (i 0).val
  let c32_i32_93 : BitVec 32 := 32#32
  let v222 : BitVec 32 := Scalar.muli arg0 c32_i32_93
  let c9_i32_94 : BitVec 32 := 9#32
  let v223 : BitVec 32 := Scalar.addi v222 c9_i32_94
  let v224 : Index := Scalar.indexCast v223
  ![v224.toNat]
def k0_mult10 (v225 : BitVec 32) (v229 : BitVec 32) : BitVec 32 :=
  let v230 : BitVec 32 := Scalar.addi v225 v229
  let c4_i32_97 : BitVec 32 := 4#32
  let v231 : BitVec 32 := Scalar.muli v230 c4_i32_97
  v231

def k0_off20 (v225 : BitVec 32) (v229 : BitVec 32) : Fin 2 → Nat :=
  let v230 : BitVec 32 := Scalar.addi v225 v229
  let c4_i32_97 : BitVec 32 := 4#32
  let v231 : BitVec 32 := Scalar.muli v230 c4_i32_97
  let v232 : BitVec 32 := v231
  let v233 : Index := Scalar.indexCast v232
  let c0_98 : Index := 0#32
  ![v233.toNat, 0]

def k0_chk10 (i : grid0.Coords) (v225 : BitVec 32) (v229 : BitVec 32) : Prop :=
  (∀ (k0_h1 : k0_cond1 i = 1#1), 4 ∣ (k0_mult10 v225 v229).toNat) ∧
  (∀ (k0_h1 : k0_cond1 i = 1#1), ∀ a, (k0_off20 v225 v229) a + S4x128.size a ≤ S67968x128.size a)
theorem k0_mult10_dvd : ∀ (i : grid0.Coords) (v225 : BitVec 32) (v229 : BitVec 32) (k0_hw10 : k0_chk10 i v225 v229), ∀ (k0_h1 : k0_cond1 i = 1#1), 4 ∣ (k0_mult10 v225 v229).toNat := fun i v225 v229 k0_hw10 k0_h1 => k0_hw10.1 k0_h1
theorem k0_off20_inb : ∀ (i : grid0.Coords) (v225 : BitVec 32) (v229 : BitVec 32) (k0_hw10 : k0_chk10 i v225 v229), ∀ (k0_h1 : k0_cond1 i = 1#1), ∀ a, (k0_off20 v225 v229) a + S4x128.size a ≤ S67968x128.size a := fun i v225 v229 k0_hw10 k0_h1 => k0_hw10.2 k0_h1

def k0_off21 (i : grid0.Coords) : Fin 1 → Nat :=
  let arg0 : BitVec 32 := BitVec.ofNat 32 (i 0).val
  let c32_i32_99 : BitVec 32 := 32#32
  let v237 : BitVec 32 := Scalar.muli arg0 c32_i32_99
  let c10_i32 : BitVec 32 := 10#32
  let v238 : BitVec 32 := Scalar.addi v237 c10_i32
  let v239 : Index := Scalar.indexCast v238
  ![v239.toNat]
def k0_mult11 (v240 : BitVec 32) (v244 : BitVec 32) : BitVec 32 :=
  let v245 : BitVec 32 := Scalar.addi v240 v244
  let c4_i32_102 : BitVec 32 := 4#32
  let v246 : BitVec 32 := Scalar.muli v245 c4_i32_102
  v246

def k0_off22 (v240 : BitVec 32) (v244 : BitVec 32) : Fin 2 → Nat :=
  let v245 : BitVec 32 := Scalar.addi v240 v244
  let c4_i32_102 : BitVec 32 := 4#32
  let v246 : BitVec 32 := Scalar.muli v245 c4_i32_102
  let v247 : BitVec 32 := v246
  let v248 : Index := Scalar.indexCast v247
  let c0_103 : Index := 0#32
  ![v248.toNat, 0]

def k0_chk11 (i : grid0.Coords) (v240 : BitVec 32) (v244 : BitVec 32) : Prop :=
  (∀ (k0_h1 : k0_cond1 i = 1#1), 4 ∣ (k0_mult11 v240 v244).toNat) ∧
  (∀ (k0_h1 : k0_cond1 i = 1#1), ∀ a, (k0_off22 v240 v244) a + S4x128.size a ≤ S67968x128.size a)
theorem k0_mult11_dvd : ∀ (i : grid0.Coords) (v240 : BitVec 32) (v244 : BitVec 32) (k0_hw11 : k0_chk11 i v240 v244), ∀ (k0_h1 : k0_cond1 i = 1#1), 4 ∣ (k0_mult11 v240 v244).toNat := fun i v240 v244 k0_hw11 k0_h1 => k0_hw11.1 k0_h1
theorem k0_off22_inb : ∀ (i : grid0.Coords) (v240 : BitVec 32) (v244 : BitVec 32) (k0_hw11 : k0_chk11 i v240 v244), ∀ (k0_h1 : k0_cond1 i = 1#1), ∀ a, (k0_off22 v240 v244) a + S4x128.size a ≤ S67968x128.size a := fun i v240 v244 k0_hw11 k0_h1 => k0_hw11.2 k0_h1

def k0_off23 (i : grid0.Coords) : Fin 1 → Nat :=
  let arg0 : BitVec 32 := BitVec.ofNat 32 (i 0).val
  let c32_i32_104 : BitVec 32 := 32#32
  let v252 : BitVec 32 := Scalar.muli arg0 c32_i32_104
  let c11_i32 : BitVec 32 := 11#32
  let v253 : BitVec 32 := Scalar.addi v252 c11_i32
  let v254 : Index := Scalar.indexCast v253
  ![v254.toNat]
def k0_mult12 (v255 : BitVec 32) (v259 : BitVec 32) : BitVec 32 :=
  let v260 : BitVec 32 := Scalar.addi v255 v259
  let c4_i32_107 : BitVec 32 := 4#32
  let v261 : BitVec 32 := Scalar.muli v260 c4_i32_107
  v261

def k0_off24 (v255 : BitVec 32) (v259 : BitVec 32) : Fin 2 → Nat :=
  let v260 : BitVec 32 := Scalar.addi v255 v259
  let c4_i32_107 : BitVec 32 := 4#32
  let v261 : BitVec 32 := Scalar.muli v260 c4_i32_107
  let v262 : BitVec 32 := v261
  let v263 : Index := Scalar.indexCast v262
  let c0_108 : Index := 0#32
  ![v263.toNat, 0]

def k0_chk12 (i : grid0.Coords) (v255 : BitVec 32) (v259 : BitVec 32) : Prop :=
  (∀ (k0_h1 : k0_cond1 i = 1#1), 4 ∣ (k0_mult12 v255 v259).toNat) ∧
  (∀ (k0_h1 : k0_cond1 i = 1#1), ∀ a, (k0_off24 v255 v259) a + S4x128.size a ≤ S67968x128.size a)
theorem k0_mult12_dvd : ∀ (i : grid0.Coords) (v255 : BitVec 32) (v259 : BitVec 32) (k0_hw12 : k0_chk12 i v255 v259), ∀ (k0_h1 : k0_cond1 i = 1#1), 4 ∣ (k0_mult12 v255 v259).toNat := fun i v255 v259 k0_hw12 k0_h1 => k0_hw12.1 k0_h1
theorem k0_off24_inb : ∀ (i : grid0.Coords) (v255 : BitVec 32) (v259 : BitVec 32) (k0_hw12 : k0_chk12 i v255 v259), ∀ (k0_h1 : k0_cond1 i = 1#1), ∀ a, (k0_off24 v255 v259) a + S4x128.size a ≤ S67968x128.size a := fun i v255 v259 k0_hw12 k0_h1 => k0_hw12.2 k0_h1

def k0_off25 (i : grid0.Coords) : Fin 1 → Nat :=
  let arg0 : BitVec 32 := BitVec.ofNat 32 (i 0).val
  let c32_i32_109 : BitVec 32 := 32#32
  let v267 : BitVec 32 := Scalar.muli arg0 c32_i32_109
  let c12_i32 : BitVec 32 := 12#32
  let v268 : BitVec 32 := Scalar.addi v267 c12_i32
  let v269 : Index := Scalar.indexCast v268
  ![v269.toNat]
def k0_mult13 (v270 : BitVec 32) (v274 : BitVec 32) : BitVec 32 :=
  let v275 : BitVec 32 := Scalar.addi v270 v274
  let c4_i32_112 : BitVec 32 := 4#32
  let v276 : BitVec 32 := Scalar.muli v275 c4_i32_112
  v276

def k0_off26 (v270 : BitVec 32) (v274 : BitVec 32) : Fin 2 → Nat :=
  let v275 : BitVec 32 := Scalar.addi v270 v274
  let c4_i32_112 : BitVec 32 := 4#32
  let v276 : BitVec 32 := Scalar.muli v275 c4_i32_112
  let v277 : BitVec 32 := v276
  let v278 : Index := Scalar.indexCast v277
  let c0_113 : Index := 0#32
  ![v278.toNat, 0]

def k0_chk13 (i : grid0.Coords) (v270 : BitVec 32) (v274 : BitVec 32) : Prop :=
  (∀ (k0_h1 : k0_cond1 i = 1#1), 4 ∣ (k0_mult13 v270 v274).toNat) ∧
  (∀ (k0_h1 : k0_cond1 i = 1#1), ∀ a, (k0_off26 v270 v274) a + S4x128.size a ≤ S67968x128.size a)
theorem k0_mult13_dvd : ∀ (i : grid0.Coords) (v270 : BitVec 32) (v274 : BitVec 32) (k0_hw13 : k0_chk13 i v270 v274), ∀ (k0_h1 : k0_cond1 i = 1#1), 4 ∣ (k0_mult13 v270 v274).toNat := fun i v270 v274 k0_hw13 k0_h1 => k0_hw13.1 k0_h1
theorem k0_off26_inb : ∀ (i : grid0.Coords) (v270 : BitVec 32) (v274 : BitVec 32) (k0_hw13 : k0_chk13 i v270 v274), ∀ (k0_h1 : k0_cond1 i = 1#1), ∀ a, (k0_off26 v270 v274) a + S4x128.size a ≤ S67968x128.size a := fun i v270 v274 k0_hw13 k0_h1 => k0_hw13.2 k0_h1

def k0_off27 (i : grid0.Coords) : Fin 1 → Nat :=
  let arg0 : BitVec 32 := BitVec.ofNat 32 (i 0).val
  let c32_i32_114 : BitVec 32 := 32#32
  let v282 : BitVec 32 := Scalar.muli arg0 c32_i32_114
  let c13_i32 : BitVec 32 := 13#32
  let v283 : BitVec 32 := Scalar.addi v282 c13_i32
  let v284 : Index := Scalar.indexCast v283
  ![v284.toNat]
def k0_mult14 (v285 : BitVec 32) (v289 : BitVec 32) : BitVec 32 :=
  let v290 : BitVec 32 := Scalar.addi v285 v289
  let c4_i32_117 : BitVec 32 := 4#32
  let v291 : BitVec 32 := Scalar.muli v290 c4_i32_117
  v291

def k0_off28 (v285 : BitVec 32) (v289 : BitVec 32) : Fin 2 → Nat :=
  let v290 : BitVec 32 := Scalar.addi v285 v289
  let c4_i32_117 : BitVec 32 := 4#32
  let v291 : BitVec 32 := Scalar.muli v290 c4_i32_117
  let v292 : BitVec 32 := v291
  let v293 : Index := Scalar.indexCast v292
  let c0_118 : Index := 0#32
  ![v293.toNat, 0]

def k0_chk14 (i : grid0.Coords) (v285 : BitVec 32) (v289 : BitVec 32) : Prop :=
  (∀ (k0_h1 : k0_cond1 i = 1#1), 4 ∣ (k0_mult14 v285 v289).toNat) ∧
  (∀ (k0_h1 : k0_cond1 i = 1#1), ∀ a, (k0_off28 v285 v289) a + S4x128.size a ≤ S67968x128.size a)
theorem k0_mult14_dvd : ∀ (i : grid0.Coords) (v285 : BitVec 32) (v289 : BitVec 32) (k0_hw14 : k0_chk14 i v285 v289), ∀ (k0_h1 : k0_cond1 i = 1#1), 4 ∣ (k0_mult14 v285 v289).toNat := fun i v285 v289 k0_hw14 k0_h1 => k0_hw14.1 k0_h1
theorem k0_off28_inb : ∀ (i : grid0.Coords) (v285 : BitVec 32) (v289 : BitVec 32) (k0_hw14 : k0_chk14 i v285 v289), ∀ (k0_h1 : k0_cond1 i = 1#1), ∀ a, (k0_off28 v285 v289) a + S4x128.size a ≤ S67968x128.size a := fun i v285 v289 k0_hw14 k0_h1 => k0_hw14.2 k0_h1

def k0_off29 (i : grid0.Coords) : Fin 1 → Nat :=
  let arg0 : BitVec 32 := BitVec.ofNat 32 (i 0).val
  let c32_i32_119 : BitVec 32 := 32#32
  let v297 : BitVec 32 := Scalar.muli arg0 c32_i32_119
  let c14_i32 : BitVec 32 := 14#32
  let v298 : BitVec 32 := Scalar.addi v297 c14_i32
  let v299 : Index := Scalar.indexCast v298
  ![v299.toNat]
def k0_mult15 (v300 : BitVec 32) (v304 : BitVec 32) : BitVec 32 :=
  let v305 : BitVec 32 := Scalar.addi v300 v304
  let c4_i32_122 : BitVec 32 := 4#32
  let v306 : BitVec 32 := Scalar.muli v305 c4_i32_122
  v306

def k0_off30 (v300 : BitVec 32) (v304 : BitVec 32) : Fin 2 → Nat :=
  let v305 : BitVec 32 := Scalar.addi v300 v304
  let c4_i32_122 : BitVec 32 := 4#32
  let v306 : BitVec 32 := Scalar.muli v305 c4_i32_122
  let v307 : BitVec 32 := v306
  let v308 : Index := Scalar.indexCast v307
  let c0_123 : Index := 0#32
  ![v308.toNat, 0]

def k0_chk15 (i : grid0.Coords) (v300 : BitVec 32) (v304 : BitVec 32) : Prop :=
  (∀ (k0_h1 : k0_cond1 i = 1#1), 4 ∣ (k0_mult15 v300 v304).toNat) ∧
  (∀ (k0_h1 : k0_cond1 i = 1#1), ∀ a, (k0_off30 v300 v304) a + S4x128.size a ≤ S67968x128.size a)
theorem k0_mult15_dvd : ∀ (i : grid0.Coords) (v300 : BitVec 32) (v304 : BitVec 32) (k0_hw15 : k0_chk15 i v300 v304), ∀ (k0_h1 : k0_cond1 i = 1#1), 4 ∣ (k0_mult15 v300 v304).toNat := fun i v300 v304 k0_hw15 k0_h1 => k0_hw15.1 k0_h1
theorem k0_off30_inb : ∀ (i : grid0.Coords) (v300 : BitVec 32) (v304 : BitVec 32) (k0_hw15 : k0_chk15 i v300 v304), ∀ (k0_h1 : k0_cond1 i = 1#1), ∀ a, (k0_off30 v300 v304) a + S4x128.size a ≤ S67968x128.size a := fun i v300 v304 k0_hw15 k0_h1 => k0_hw15.2 k0_h1

def k0_off31 (i : grid0.Coords) : Fin 1 → Nat :=
  let arg0 : BitVec 32 := BitVec.ofNat 32 (i 0).val
  let c32_i32_124 : BitVec 32 := 32#32
  let v312 : BitVec 32 := Scalar.muli arg0 c32_i32_124
  let c15_i32 : BitVec 32 := 15#32
  let v313 : BitVec 32 := Scalar.addi v312 c15_i32
  let v314 : Index := Scalar.indexCast v313
  ![v314.toNat]
def k0_mult16 (v315 : BitVec 32) (v319 : BitVec 32) : BitVec 32 :=
  let v320 : BitVec 32 := Scalar.addi v315 v319
  let c4_i32_127 : BitVec 32 := 4#32
  let v321 : BitVec 32 := Scalar.muli v320 c4_i32_127
  v321

def k0_off32 (v315 : BitVec 32) (v319 : BitVec 32) : Fin 2 → Nat :=
  let v320 : BitVec 32 := Scalar.addi v315 v319
  let c4_i32_127 : BitVec 32 := 4#32
  let v321 : BitVec 32 := Scalar.muli v320 c4_i32_127
  let v322 : BitVec 32 := v321
  let v323 : Index := Scalar.indexCast v322
  let c0_128 : Index := 0#32
  ![v323.toNat, 0]

def k0_chk16 (i : grid0.Coords) (v315 : BitVec 32) (v319 : BitVec 32) : Prop :=
  (∀ (k0_h1 : k0_cond1 i = 1#1), 4 ∣ (k0_mult16 v315 v319).toNat) ∧
  (∀ (k0_h1 : k0_cond1 i = 1#1), ∀ a, (k0_off32 v315 v319) a + S4x128.size a ≤ S67968x128.size a)
theorem k0_mult16_dvd : ∀ (i : grid0.Coords) (v315 : BitVec 32) (v319 : BitVec 32) (k0_hw16 : k0_chk16 i v315 v319), ∀ (k0_h1 : k0_cond1 i = 1#1), 4 ∣ (k0_mult16 v315 v319).toNat := fun i v315 v319 k0_hw16 k0_h1 => k0_hw16.1 k0_h1
theorem k0_off32_inb : ∀ (i : grid0.Coords) (v315 : BitVec 32) (v319 : BitVec 32) (k0_hw16 : k0_chk16 i v315 v319), ∀ (k0_h1 : k0_cond1 i = 1#1), ∀ a, (k0_off32 v315 v319) a + S4x128.size a ≤ S67968x128.size a := fun i v315 v319 k0_hw16 k0_h1 => k0_hw16.2 k0_h1

def k0_off33 (i : grid0.Coords) : Fin 1 → Nat :=
  let arg0 : BitVec 32 := BitVec.ofNat 32 (i 0).val
  let c32_i32_129 : BitVec 32 := 32#32
  let v327 : BitVec 32 := Scalar.muli arg0 c32_i32_129
  let c16_i32_130 : BitVec 32 := 16#32
  let v328 : BitVec 32 := Scalar.addi v327 c16_i32_130
  let v329 : Index := Scalar.indexCast v328
  ![v329.toNat]
def k0_mult17 (v330 : BitVec 32) (v334 : BitVec 32) : BitVec 32 :=
  let v335 : BitVec 32 := Scalar.addi v330 v334
  let c4_i32_133 : BitVec 32 := 4#32
  let v336 : BitVec 32 := Scalar.muli v335 c4_i32_133
  v336

def k0_off34 (v330 : BitVec 32) (v334 : BitVec 32) : Fin 2 → Nat :=
  let v335 : BitVec 32 := Scalar.addi v330 v334
  let c4_i32_133 : BitVec 32 := 4#32
  let v336 : BitVec 32 := Scalar.muli v335 c4_i32_133
  let v337 : BitVec 32 := v336
  let v338 : Index := Scalar.indexCast v337
  let c0_134 : Index := 0#32
  ![v338.toNat, 0]

def k0_chk17 (i : grid0.Coords) (v330 : BitVec 32) (v334 : BitVec 32) : Prop :=
  (∀ (k0_h1 : k0_cond1 i = 1#1), 4 ∣ (k0_mult17 v330 v334).toNat) ∧
  (∀ (k0_h1 : k0_cond1 i = 1#1), ∀ a, (k0_off34 v330 v334) a + S4x128.size a ≤ S67968x128.size a)
theorem k0_mult17_dvd : ∀ (i : grid0.Coords) (v330 : BitVec 32) (v334 : BitVec 32) (k0_hw17 : k0_chk17 i v330 v334), ∀ (k0_h1 : k0_cond1 i = 1#1), 4 ∣ (k0_mult17 v330 v334).toNat := fun i v330 v334 k0_hw17 k0_h1 => k0_hw17.1 k0_h1
theorem k0_off34_inb : ∀ (i : grid0.Coords) (v330 : BitVec 32) (v334 : BitVec 32) (k0_hw17 : k0_chk17 i v330 v334), ∀ (k0_h1 : k0_cond1 i = 1#1), ∀ a, (k0_off34 v330 v334) a + S4x128.size a ≤ S67968x128.size a := fun i v330 v334 k0_hw17 k0_h1 => k0_hw17.2 k0_h1

def k0_off35 (i : grid0.Coords) : Fin 1 → Nat :=
  let arg0 : BitVec 32 := BitVec.ofNat 32 (i 0).val
  let c32_i32_135 : BitVec 32 := 32#32
  let v342 : BitVec 32 := Scalar.muli arg0 c32_i32_135
  let c17_i32 : BitVec 32 := 17#32
  let v343 : BitVec 32 := Scalar.addi v342 c17_i32
  let v344 : Index := Scalar.indexCast v343
  ![v344.toNat]
def k0_mult18 (v345 : BitVec 32) (v349 : BitVec 32) : BitVec 32 :=
  let v350 : BitVec 32 := Scalar.addi v345 v349
  let c4_i32_138 : BitVec 32 := 4#32
  let v351 : BitVec 32 := Scalar.muli v350 c4_i32_138
  v351

def k0_off36 (v345 : BitVec 32) (v349 : BitVec 32) : Fin 2 → Nat :=
  let v350 : BitVec 32 := Scalar.addi v345 v349
  let c4_i32_138 : BitVec 32 := 4#32
  let v351 : BitVec 32 := Scalar.muli v350 c4_i32_138
  let v352 : BitVec 32 := v351
  let v353 : Index := Scalar.indexCast v352
  let c0_139 : Index := 0#32
  ![v353.toNat, 0]

def k0_chk18 (i : grid0.Coords) (v345 : BitVec 32) (v349 : BitVec 32) : Prop :=
  (∀ (k0_h1 : k0_cond1 i = 1#1), 4 ∣ (k0_mult18 v345 v349).toNat) ∧
  (∀ (k0_h1 : k0_cond1 i = 1#1), ∀ a, (k0_off36 v345 v349) a + S4x128.size a ≤ S67968x128.size a)
theorem k0_mult18_dvd : ∀ (i : grid0.Coords) (v345 : BitVec 32) (v349 : BitVec 32) (k0_hw18 : k0_chk18 i v345 v349), ∀ (k0_h1 : k0_cond1 i = 1#1), 4 ∣ (k0_mult18 v345 v349).toNat := fun i v345 v349 k0_hw18 k0_h1 => k0_hw18.1 k0_h1
theorem k0_off36_inb : ∀ (i : grid0.Coords) (v345 : BitVec 32) (v349 : BitVec 32) (k0_hw18 : k0_chk18 i v345 v349), ∀ (k0_h1 : k0_cond1 i = 1#1), ∀ a, (k0_off36 v345 v349) a + S4x128.size a ≤ S67968x128.size a := fun i v345 v349 k0_hw18 k0_h1 => k0_hw18.2 k0_h1

def k0_off37 (i : grid0.Coords) : Fin 1 → Nat :=
  let arg0 : BitVec 32 := BitVec.ofNat 32 (i 0).val
  let c32_i32_140 : BitVec 32 := 32#32
  let v357 : BitVec 32 := Scalar.muli arg0 c32_i32_140
  let c18_i32 : BitVec 32 := 18#32
  let v358 : BitVec 32 := Scalar.addi v357 c18_i32
  let v359 : Index := Scalar.indexCast v358
  ![v359.toNat]
def k0_mult19 (v360 : BitVec 32) (v364 : BitVec 32) : BitVec 32 :=
  let v365 : BitVec 32 := Scalar.addi v360 v364
  let c4_i32_143 : BitVec 32 := 4#32
  let v366 : BitVec 32 := Scalar.muli v365 c4_i32_143
  v366

def k0_off38 (v360 : BitVec 32) (v364 : BitVec 32) : Fin 2 → Nat :=
  let v365 : BitVec 32 := Scalar.addi v360 v364
  let c4_i32_143 : BitVec 32 := 4#32
  let v366 : BitVec 32 := Scalar.muli v365 c4_i32_143
  let v367 : BitVec 32 := v366
  let v368 : Index := Scalar.indexCast v367
  let c0_144 : Index := 0#32
  ![v368.toNat, 0]

def k0_chk19 (i : grid0.Coords) (v360 : BitVec 32) (v364 : BitVec 32) : Prop :=
  (∀ (k0_h1 : k0_cond1 i = 1#1), 4 ∣ (k0_mult19 v360 v364).toNat) ∧
  (∀ (k0_h1 : k0_cond1 i = 1#1), ∀ a, (k0_off38 v360 v364) a + S4x128.size a ≤ S67968x128.size a)
theorem k0_mult19_dvd : ∀ (i : grid0.Coords) (v360 : BitVec 32) (v364 : BitVec 32) (k0_hw19 : k0_chk19 i v360 v364), ∀ (k0_h1 : k0_cond1 i = 1#1), 4 ∣ (k0_mult19 v360 v364).toNat := fun i v360 v364 k0_hw19 k0_h1 => k0_hw19.1 k0_h1
theorem k0_off38_inb : ∀ (i : grid0.Coords) (v360 : BitVec 32) (v364 : BitVec 32) (k0_hw19 : k0_chk19 i v360 v364), ∀ (k0_h1 : k0_cond1 i = 1#1), ∀ a, (k0_off38 v360 v364) a + S4x128.size a ≤ S67968x128.size a := fun i v360 v364 k0_hw19 k0_h1 => k0_hw19.2 k0_h1

def k0_off39 (i : grid0.Coords) : Fin 1 → Nat :=
  let arg0 : BitVec 32 := BitVec.ofNat 32 (i 0).val
  let c32_i32_145 : BitVec 32 := 32#32
  let v372 : BitVec 32 := Scalar.muli arg0 c32_i32_145
  let c19_i32 : BitVec 32 := 19#32
  let v373 : BitVec 32 := Scalar.addi v372 c19_i32
  let v374 : Index := Scalar.indexCast v373
  ![v374.toNat]
def k0_mult20 (v375 : BitVec 32) (v379 : BitVec 32) : BitVec 32 :=
  let v380 : BitVec 32 := Scalar.addi v375 v379
  let c4_i32_148 : BitVec 32 := 4#32
  let v381 : BitVec 32 := Scalar.muli v380 c4_i32_148
  v381

def k0_off40 (v375 : BitVec 32) (v379 : BitVec 32) : Fin 2 → Nat :=
  let v380 : BitVec 32 := Scalar.addi v375 v379
  let c4_i32_148 : BitVec 32 := 4#32
  let v381 : BitVec 32 := Scalar.muli v380 c4_i32_148
  let v382 : BitVec 32 := v381
  let v383 : Index := Scalar.indexCast v382
  let c0_149 : Index := 0#32
  ![v383.toNat, 0]

def k0_chk20 (i : grid0.Coords) (v375 : BitVec 32) (v379 : BitVec 32) : Prop :=
  (∀ (k0_h1 : k0_cond1 i = 1#1), 4 ∣ (k0_mult20 v375 v379).toNat) ∧
  (∀ (k0_h1 : k0_cond1 i = 1#1), ∀ a, (k0_off40 v375 v379) a + S4x128.size a ≤ S67968x128.size a)
theorem k0_mult20_dvd : ∀ (i : grid0.Coords) (v375 : BitVec 32) (v379 : BitVec 32) (k0_hw20 : k0_chk20 i v375 v379), ∀ (k0_h1 : k0_cond1 i = 1#1), 4 ∣ (k0_mult20 v375 v379).toNat := fun i v375 v379 k0_hw20 k0_h1 => k0_hw20.1 k0_h1
theorem k0_off40_inb : ∀ (i : grid0.Coords) (v375 : BitVec 32) (v379 : BitVec 32) (k0_hw20 : k0_chk20 i v375 v379), ∀ (k0_h1 : k0_cond1 i = 1#1), ∀ a, (k0_off40 v375 v379) a + S4x128.size a ≤ S67968x128.size a := fun i v375 v379 k0_hw20 k0_h1 => k0_hw20.2 k0_h1

def k0_off41 (i : grid0.Coords) : Fin 1 → Nat :=
  let arg0 : BitVec 32 := BitVec.ofNat 32 (i 0).val
  let c32_i32_150 : BitVec 32 := 32#32
  let v387 : BitVec 32 := Scalar.muli arg0 c32_i32_150
  let c20_i32 : BitVec 32 := 20#32
  let v388 : BitVec 32 := Scalar.addi v387 c20_i32
  let v389 : Index := Scalar.indexCast v388
  ![v389.toNat]
def k0_mult21 (v390 : BitVec 32) (v394 : BitVec 32) : BitVec 32 :=
  let v395 : BitVec 32 := Scalar.addi v390 v394
  let c4_i32_153 : BitVec 32 := 4#32
  let v396 : BitVec 32 := Scalar.muli v395 c4_i32_153
  v396

def k0_off42 (v390 : BitVec 32) (v394 : BitVec 32) : Fin 2 → Nat :=
  let v395 : BitVec 32 := Scalar.addi v390 v394
  let c4_i32_153 : BitVec 32 := 4#32
  let v396 : BitVec 32 := Scalar.muli v395 c4_i32_153
  let v397 : BitVec 32 := v396
  let v398 : Index := Scalar.indexCast v397
  let c0_154 : Index := 0#32
  ![v398.toNat, 0]

def k0_chk21 (i : grid0.Coords) (v390 : BitVec 32) (v394 : BitVec 32) : Prop :=
  (∀ (k0_h1 : k0_cond1 i = 1#1), 4 ∣ (k0_mult21 v390 v394).toNat) ∧
  (∀ (k0_h1 : k0_cond1 i = 1#1), ∀ a, (k0_off42 v390 v394) a + S4x128.size a ≤ S67968x128.size a)
theorem k0_mult21_dvd : ∀ (i : grid0.Coords) (v390 : BitVec 32) (v394 : BitVec 32) (k0_hw21 : k0_chk21 i v390 v394), ∀ (k0_h1 : k0_cond1 i = 1#1), 4 ∣ (k0_mult21 v390 v394).toNat := fun i v390 v394 k0_hw21 k0_h1 => k0_hw21.1 k0_h1
theorem k0_off42_inb : ∀ (i : grid0.Coords) (v390 : BitVec 32) (v394 : BitVec 32) (k0_hw21 : k0_chk21 i v390 v394), ∀ (k0_h1 : k0_cond1 i = 1#1), ∀ a, (k0_off42 v390 v394) a + S4x128.size a ≤ S67968x128.size a := fun i v390 v394 k0_hw21 k0_h1 => k0_hw21.2 k0_h1

def k0_off43 (i : grid0.Coords) : Fin 1 → Nat :=
  let arg0 : BitVec 32 := BitVec.ofNat 32 (i 0).val
  let c32_i32_155 : BitVec 32 := 32#32
  let v402 : BitVec 32 := Scalar.muli arg0 c32_i32_155
  let c21_i32 : BitVec 32 := 21#32
  let v403 : BitVec 32 := Scalar.addi v402 c21_i32
  let v404 : Index := Scalar.indexCast v403
  ![v404.toNat]
def k0_mult22 (v405 : BitVec 32) (v409 : BitVec 32) : BitVec 32 :=
  let v410 : BitVec 32 := Scalar.addi v405 v409
  let c4_i32_158 : BitVec 32 := 4#32
  let v411 : BitVec 32 := Scalar.muli v410 c4_i32_158
  v411

def k0_off44 (v405 : BitVec 32) (v409 : BitVec 32) : Fin 2 → Nat :=
  let v410 : BitVec 32 := Scalar.addi v405 v409
  let c4_i32_158 : BitVec 32 := 4#32
  let v411 : BitVec 32 := Scalar.muli v410 c4_i32_158
  let v412 : BitVec 32 := v411
  let v413 : Index := Scalar.indexCast v412
  let c0_159 : Index := 0#32
  ![v413.toNat, 0]

def k0_chk22 (i : grid0.Coords) (v405 : BitVec 32) (v409 : BitVec 32) : Prop :=
  (∀ (k0_h1 : k0_cond1 i = 1#1), 4 ∣ (k0_mult22 v405 v409).toNat) ∧
  (∀ (k0_h1 : k0_cond1 i = 1#1), ∀ a, (k0_off44 v405 v409) a + S4x128.size a ≤ S67968x128.size a)
theorem k0_mult22_dvd : ∀ (i : grid0.Coords) (v405 : BitVec 32) (v409 : BitVec 32) (k0_hw22 : k0_chk22 i v405 v409), ∀ (k0_h1 : k0_cond1 i = 1#1), 4 ∣ (k0_mult22 v405 v409).toNat := fun i v405 v409 k0_hw22 k0_h1 => k0_hw22.1 k0_h1
theorem k0_off44_inb : ∀ (i : grid0.Coords) (v405 : BitVec 32) (v409 : BitVec 32) (k0_hw22 : k0_chk22 i v405 v409), ∀ (k0_h1 : k0_cond1 i = 1#1), ∀ a, (k0_off44 v405 v409) a + S4x128.size a ≤ S67968x128.size a := fun i v405 v409 k0_hw22 k0_h1 => k0_hw22.2 k0_h1

def k0_off45 (i : grid0.Coords) : Fin 1 → Nat :=
  let arg0 : BitVec 32 := BitVec.ofNat 32 (i 0).val
  let c32_i32_160 : BitVec 32 := 32#32
  let v417 : BitVec 32 := Scalar.muli arg0 c32_i32_160
  let c22_i32 : BitVec 32 := 22#32
  let v418 : BitVec 32 := Scalar.addi v417 c22_i32
  let v419 : Index := Scalar.indexCast v418
  ![v419.toNat]
def k0_mult23 (v420 : BitVec 32) (v424 : BitVec 32) : BitVec 32 :=
  let v425 : BitVec 32 := Scalar.addi v420 v424
  let c4_i32_163 : BitVec 32 := 4#32
  let v426 : BitVec 32 := Scalar.muli v425 c4_i32_163
  v426

def k0_off46 (v420 : BitVec 32) (v424 : BitVec 32) : Fin 2 → Nat :=
  let v425 : BitVec 32 := Scalar.addi v420 v424
  let c4_i32_163 : BitVec 32 := 4#32
  let v426 : BitVec 32 := Scalar.muli v425 c4_i32_163
  let v427 : BitVec 32 := v426
  let v428 : Index := Scalar.indexCast v427
  let c0_164 : Index := 0#32
  ![v428.toNat, 0]

def k0_chk23 (i : grid0.Coords) (v420 : BitVec 32) (v424 : BitVec 32) : Prop :=
  (∀ (k0_h1 : k0_cond1 i = 1#1), 4 ∣ (k0_mult23 v420 v424).toNat) ∧
  (∀ (k0_h1 : k0_cond1 i = 1#1), ∀ a, (k0_off46 v420 v424) a + S4x128.size a ≤ S67968x128.size a)
theorem k0_mult23_dvd : ∀ (i : grid0.Coords) (v420 : BitVec 32) (v424 : BitVec 32) (k0_hw23 : k0_chk23 i v420 v424), ∀ (k0_h1 : k0_cond1 i = 1#1), 4 ∣ (k0_mult23 v420 v424).toNat := fun i v420 v424 k0_hw23 k0_h1 => k0_hw23.1 k0_h1
theorem k0_off46_inb : ∀ (i : grid0.Coords) (v420 : BitVec 32) (v424 : BitVec 32) (k0_hw23 : k0_chk23 i v420 v424), ∀ (k0_h1 : k0_cond1 i = 1#1), ∀ a, (k0_off46 v420 v424) a + S4x128.size a ≤ S67968x128.size a := fun i v420 v424 k0_hw23 k0_h1 => k0_hw23.2 k0_h1

def k0_off47 (i : grid0.Coords) : Fin 1 → Nat :=
  let arg0 : BitVec 32 := BitVec.ofNat 32 (i 0).val
  let c32_i32_165 : BitVec 32 := 32#32
  let v432 : BitVec 32 := Scalar.muli arg0 c32_i32_165
  let c23_i32 : BitVec 32 := 23#32
  let v433 : BitVec 32 := Scalar.addi v432 c23_i32
  let v434 : Index := Scalar.indexCast v433
  ![v434.toNat]
def k0_mult24 (v435 : BitVec 32) (v439 : BitVec 32) : BitVec 32 :=
  let v440 : BitVec 32 := Scalar.addi v435 v439
  let c4_i32_168 : BitVec 32 := 4#32
  let v441 : BitVec 32 := Scalar.muli v440 c4_i32_168
  v441

def k0_off48 (v435 : BitVec 32) (v439 : BitVec 32) : Fin 2 → Nat :=
  let v440 : BitVec 32 := Scalar.addi v435 v439
  let c4_i32_168 : BitVec 32 := 4#32
  let v441 : BitVec 32 := Scalar.muli v440 c4_i32_168
  let v442 : BitVec 32 := v441
  let v443 : Index := Scalar.indexCast v442
  let c0_169 : Index := 0#32
  ![v443.toNat, 0]

def k0_chk24 (i : grid0.Coords) (v435 : BitVec 32) (v439 : BitVec 32) : Prop :=
  (∀ (k0_h1 : k0_cond1 i = 1#1), 4 ∣ (k0_mult24 v435 v439).toNat) ∧
  (∀ (k0_h1 : k0_cond1 i = 1#1), ∀ a, (k0_off48 v435 v439) a + S4x128.size a ≤ S67968x128.size a)
theorem k0_mult24_dvd : ∀ (i : grid0.Coords) (v435 : BitVec 32) (v439 : BitVec 32) (k0_hw24 : k0_chk24 i v435 v439), ∀ (k0_h1 : k0_cond1 i = 1#1), 4 ∣ (k0_mult24 v435 v439).toNat := fun i v435 v439 k0_hw24 k0_h1 => k0_hw24.1 k0_h1
theorem k0_off48_inb : ∀ (i : grid0.Coords) (v435 : BitVec 32) (v439 : BitVec 32) (k0_hw24 : k0_chk24 i v435 v439), ∀ (k0_h1 : k0_cond1 i = 1#1), ∀ a, (k0_off48 v435 v439) a + S4x128.size a ≤ S67968x128.size a := fun i v435 v439 k0_hw24 k0_h1 => k0_hw24.2 k0_h1

def k0_off49 (i : grid0.Coords) : Fin 1 → Nat :=
  let arg0 : BitVec 32 := BitVec.ofNat 32 (i 0).val
  let c32_i32_170 : BitVec 32 := 32#32
  let v447 : BitVec 32 := Scalar.muli arg0 c32_i32_170
  let c24_i32 : BitVec 32 := 24#32
  let v448 : BitVec 32 := Scalar.addi v447 c24_i32
  let v449 : Index := Scalar.indexCast v448
  ![v449.toNat]
def k0_mult25 (v450 : BitVec 32) (v454 : BitVec 32) : BitVec 32 :=
  let v455 : BitVec 32 := Scalar.addi v450 v454
  let c4_i32_173 : BitVec 32 := 4#32
  let v456 : BitVec 32 := Scalar.muli v455 c4_i32_173
  v456

def k0_off50 (v450 : BitVec 32) (v454 : BitVec 32) : Fin 2 → Nat :=
  let v455 : BitVec 32 := Scalar.addi v450 v454
  let c4_i32_173 : BitVec 32 := 4#32
  let v456 : BitVec 32 := Scalar.muli v455 c4_i32_173
  let v457 : BitVec 32 := v456
  let v458 : Index := Scalar.indexCast v457
  let c0_174 : Index := 0#32
  ![v458.toNat, 0]

def k0_chk25 (i : grid0.Coords) (v450 : BitVec 32) (v454 : BitVec 32) : Prop :=
  (∀ (k0_h1 : k0_cond1 i = 1#1), 4 ∣ (k0_mult25 v450 v454).toNat) ∧
  (∀ (k0_h1 : k0_cond1 i = 1#1), ∀ a, (k0_off50 v450 v454) a + S4x128.size a ≤ S67968x128.size a)
theorem k0_mult25_dvd : ∀ (i : grid0.Coords) (v450 : BitVec 32) (v454 : BitVec 32) (k0_hw25 : k0_chk25 i v450 v454), ∀ (k0_h1 : k0_cond1 i = 1#1), 4 ∣ (k0_mult25 v450 v454).toNat := fun i v450 v454 k0_hw25 k0_h1 => k0_hw25.1 k0_h1
theorem k0_off50_inb : ∀ (i : grid0.Coords) (v450 : BitVec 32) (v454 : BitVec 32) (k0_hw25 : k0_chk25 i v450 v454), ∀ (k0_h1 : k0_cond1 i = 1#1), ∀ a, (k0_off50 v450 v454) a + S4x128.size a ≤ S67968x128.size a := fun i v450 v454 k0_hw25 k0_h1 => k0_hw25.2 k0_h1

def k0_off51 (i : grid0.Coords) : Fin 1 → Nat :=
  let arg0 : BitVec 32 := BitVec.ofNat 32 (i 0).val
  let c32_i32_175 : BitVec 32 := 32#32
  let v462 : BitVec 32 := Scalar.muli arg0 c32_i32_175
  let c25_i32_176 : BitVec 32 := 25#32
  let v463 : BitVec 32 := Scalar.addi v462 c25_i32_176
  let v464 : Index := Scalar.indexCast v463
  ![v464.toNat]
def k0_mult26 (v465 : BitVec 32) (v469 : BitVec 32) : BitVec 32 :=
  let v470 : BitVec 32 := Scalar.addi v465 v469
  let c4_i32_179 : BitVec 32 := 4#32
  let v471 : BitVec 32 := Scalar.muli v470 c4_i32_179
  v471

def k0_off52 (v465 : BitVec 32) (v469 : BitVec 32) : Fin 2 → Nat :=
  let v470 : BitVec 32 := Scalar.addi v465 v469
  let c4_i32_179 : BitVec 32 := 4#32
  let v471 : BitVec 32 := Scalar.muli v470 c4_i32_179
  let v472 : BitVec 32 := v471
  let v473 : Index := Scalar.indexCast v472
  let c0_180 : Index := 0#32
  ![v473.toNat, 0]

def k0_chk26 (i : grid0.Coords) (v465 : BitVec 32) (v469 : BitVec 32) : Prop :=
  (∀ (k0_h1 : k0_cond1 i = 1#1), 4 ∣ (k0_mult26 v465 v469).toNat) ∧
  (∀ (k0_h1 : k0_cond1 i = 1#1), ∀ a, (k0_off52 v465 v469) a + S4x128.size a ≤ S67968x128.size a)
theorem k0_mult26_dvd : ∀ (i : grid0.Coords) (v465 : BitVec 32) (v469 : BitVec 32) (k0_hw26 : k0_chk26 i v465 v469), ∀ (k0_h1 : k0_cond1 i = 1#1), 4 ∣ (k0_mult26 v465 v469).toNat := fun i v465 v469 k0_hw26 k0_h1 => k0_hw26.1 k0_h1
theorem k0_off52_inb : ∀ (i : grid0.Coords) (v465 : BitVec 32) (v469 : BitVec 32) (k0_hw26 : k0_chk26 i v465 v469), ∀ (k0_h1 : k0_cond1 i = 1#1), ∀ a, (k0_off52 v465 v469) a + S4x128.size a ≤ S67968x128.size a := fun i v465 v469 k0_hw26 k0_h1 => k0_hw26.2 k0_h1

def k0_off53 (i : grid0.Coords) : Fin 1 → Nat :=
  let arg0 : BitVec 32 := BitVec.ofNat 32 (i 0).val
  let c32_i32_181 : BitVec 32 := 32#32
  let v477 : BitVec 32 := Scalar.muli arg0 c32_i32_181
  let c26_i32 : BitVec 32 := 26#32
  let v478 : BitVec 32 := Scalar.addi v477 c26_i32
  let v479 : Index := Scalar.indexCast v478
  ![v479.toNat]
def k0_mult27 (v480 : BitVec 32) (v484 : BitVec 32) : BitVec 32 :=
  let v485 : BitVec 32 := Scalar.addi v480 v484
  let c4_i32_184 : BitVec 32 := 4#32
  let v486 : BitVec 32 := Scalar.muli v485 c4_i32_184
  v486

def k0_off54 (v480 : BitVec 32) (v484 : BitVec 32) : Fin 2 → Nat :=
  let v485 : BitVec 32 := Scalar.addi v480 v484
  let c4_i32_184 : BitVec 32 := 4#32
  let v486 : BitVec 32 := Scalar.muli v485 c4_i32_184
  let v487 : BitVec 32 := v486
  let v488 : Index := Scalar.indexCast v487
  let c0_185 : Index := 0#32
  ![v488.toNat, 0]

def k0_chk27 (i : grid0.Coords) (v480 : BitVec 32) (v484 : BitVec 32) : Prop :=
  (∀ (k0_h1 : k0_cond1 i = 1#1), 4 ∣ (k0_mult27 v480 v484).toNat) ∧
  (∀ (k0_h1 : k0_cond1 i = 1#1), ∀ a, (k0_off54 v480 v484) a + S4x128.size a ≤ S67968x128.size a)
theorem k0_mult27_dvd : ∀ (i : grid0.Coords) (v480 : BitVec 32) (v484 : BitVec 32) (k0_hw27 : k0_chk27 i v480 v484), ∀ (k0_h1 : k0_cond1 i = 1#1), 4 ∣ (k0_mult27 v480 v484).toNat := fun i v480 v484 k0_hw27 k0_h1 => k0_hw27.1 k0_h1
theorem k0_off54_inb : ∀ (i : grid0.Coords) (v480 : BitVec 32) (v484 : BitVec 32) (k0_hw27 : k0_chk27 i v480 v484), ∀ (k0_h1 : k0_cond1 i = 1#1), ∀ a, (k0_off54 v480 v484) a + S4x128.size a ≤ S67968x128.size a := fun i v480 v484 k0_hw27 k0_h1 => k0_hw27.2 k0_h1

def k0_off55 (i : grid0.Coords) : Fin 1 → Nat :=
  let arg0 : BitVec 32 := BitVec.ofNat 32 (i 0).val
  let c32_i32_186 : BitVec 32 := 32#32
  let v492 : BitVec 32 := Scalar.muli arg0 c32_i32_186
  let c27_i32 : BitVec 32 := 27#32
  let v493 : BitVec 32 := Scalar.addi v492 c27_i32
  let v494 : Index := Scalar.indexCast v493
  ![v494.toNat]
def k0_mult28 (v495 : BitVec 32) (v499 : BitVec 32) : BitVec 32 :=
  let v500 : BitVec 32 := Scalar.addi v495 v499
  let c4_i32_189 : BitVec 32 := 4#32
  let v501 : BitVec 32 := Scalar.muli v500 c4_i32_189
  v501

def k0_off56 (v495 : BitVec 32) (v499 : BitVec 32) : Fin 2 → Nat :=
  let v500 : BitVec 32 := Scalar.addi v495 v499
  let c4_i32_189 : BitVec 32 := 4#32
  let v501 : BitVec 32 := Scalar.muli v500 c4_i32_189
  let v502 : BitVec 32 := v501
  let v503 : Index := Scalar.indexCast v502
  let c0_190 : Index := 0#32
  ![v503.toNat, 0]

def k0_chk28 (i : grid0.Coords) (v495 : BitVec 32) (v499 : BitVec 32) : Prop :=
  (∀ (k0_h1 : k0_cond1 i = 1#1), 4 ∣ (k0_mult28 v495 v499).toNat) ∧
  (∀ (k0_h1 : k0_cond1 i = 1#1), ∀ a, (k0_off56 v495 v499) a + S4x128.size a ≤ S67968x128.size a)
theorem k0_mult28_dvd : ∀ (i : grid0.Coords) (v495 : BitVec 32) (v499 : BitVec 32) (k0_hw28 : k0_chk28 i v495 v499), ∀ (k0_h1 : k0_cond1 i = 1#1), 4 ∣ (k0_mult28 v495 v499).toNat := fun i v495 v499 k0_hw28 k0_h1 => k0_hw28.1 k0_h1
theorem k0_off56_inb : ∀ (i : grid0.Coords) (v495 : BitVec 32) (v499 : BitVec 32) (k0_hw28 : k0_chk28 i v495 v499), ∀ (k0_h1 : k0_cond1 i = 1#1), ∀ a, (k0_off56 v495 v499) a + S4x128.size a ≤ S67968x128.size a := fun i v495 v499 k0_hw28 k0_h1 => k0_hw28.2 k0_h1

def k0_off57 (i : grid0.Coords) : Fin 1 → Nat :=
  let arg0 : BitVec 32 := BitVec.ofNat 32 (i 0).val
  let c32_i32_191 : BitVec 32 := 32#32
  let v507 : BitVec 32 := Scalar.muli arg0 c32_i32_191
  let c28_i32 : BitVec 32 := 28#32
  let v508 : BitVec 32 := Scalar.addi v507 c28_i32
  let v509 : Index := Scalar.indexCast v508
  ![v509.toNat]
def k0_mult29 (v510 : BitVec 32) (v514 : BitVec 32) : BitVec 32 :=
  let v515 : BitVec 32 := Scalar.addi v510 v514
  let c4_i32_194 : BitVec 32 := 4#32
  let v516 : BitVec 32 := Scalar.muli v515 c4_i32_194
  v516

def k0_off58 (v510 : BitVec 32) (v514 : BitVec 32) : Fin 2 → Nat :=
  let v515 : BitVec 32 := Scalar.addi v510 v514
  let c4_i32_194 : BitVec 32 := 4#32
  let v516 : BitVec 32 := Scalar.muli v515 c4_i32_194
  let v517 : BitVec 32 := v516
  let v518 : Index := Scalar.indexCast v517
  let c0_195 : Index := 0#32
  ![v518.toNat, 0]

def k0_chk29 (i : grid0.Coords) (v510 : BitVec 32) (v514 : BitVec 32) : Prop :=
  (∀ (k0_h1 : k0_cond1 i = 1#1), 4 ∣ (k0_mult29 v510 v514).toNat) ∧
  (∀ (k0_h1 : k0_cond1 i = 1#1), ∀ a, (k0_off58 v510 v514) a + S4x128.size a ≤ S67968x128.size a)
theorem k0_mult29_dvd : ∀ (i : grid0.Coords) (v510 : BitVec 32) (v514 : BitVec 32) (k0_hw29 : k0_chk29 i v510 v514), ∀ (k0_h1 : k0_cond1 i = 1#1), 4 ∣ (k0_mult29 v510 v514).toNat := fun i v510 v514 k0_hw29 k0_h1 => k0_hw29.1 k0_h1
theorem k0_off58_inb : ∀ (i : grid0.Coords) (v510 : BitVec 32) (v514 : BitVec 32) (k0_hw29 : k0_chk29 i v510 v514), ∀ (k0_h1 : k0_cond1 i = 1#1), ∀ a, (k0_off58 v510 v514) a + S4x128.size a ≤ S67968x128.size a := fun i v510 v514 k0_hw29 k0_h1 => k0_hw29.2 k0_h1

def k0_off59 (i : grid0.Coords) : Fin 1 → Nat :=
  let arg0 : BitVec 32 := BitVec.ofNat 32 (i 0).val
  let c32_i32_196 : BitVec 32 := 32#32
  let v522 : BitVec 32 := Scalar.muli arg0 c32_i32_196
  let c29_i32 : BitVec 32 := 29#32
  let v523 : BitVec 32 := Scalar.addi v522 c29_i32
  let v524 : Index := Scalar.indexCast v523
  ![v524.toNat]
def k0_mult30 (v525 : BitVec 32) (v529 : BitVec 32) : BitVec 32 :=
  let v530 : BitVec 32 := Scalar.addi v525 v529
  let c4_i32_199 : BitVec 32 := 4#32
  let v531 : BitVec 32 := Scalar.muli v530 c4_i32_199
  v531

def k0_off60 (v525 : BitVec 32) (v529 : BitVec 32) : Fin 2 → Nat :=
  let v530 : BitVec 32 := Scalar.addi v525 v529
  let c4_i32_199 : BitVec 32 := 4#32
  let v531 : BitVec 32 := Scalar.muli v530 c4_i32_199
  let v532 : BitVec 32 := v531
  let v533 : Index := Scalar.indexCast v532
  let c0_200 : Index := 0#32
  ![v533.toNat, 0]

def k0_chk30 (i : grid0.Coords) (v525 : BitVec 32) (v529 : BitVec 32) : Prop :=
  (∀ (k0_h1 : k0_cond1 i = 1#1), 4 ∣ (k0_mult30 v525 v529).toNat) ∧
  (∀ (k0_h1 : k0_cond1 i = 1#1), ∀ a, (k0_off60 v525 v529) a + S4x128.size a ≤ S67968x128.size a)
theorem k0_mult30_dvd : ∀ (i : grid0.Coords) (v525 : BitVec 32) (v529 : BitVec 32) (k0_hw30 : k0_chk30 i v525 v529), ∀ (k0_h1 : k0_cond1 i = 1#1), 4 ∣ (k0_mult30 v525 v529).toNat := fun i v525 v529 k0_hw30 k0_h1 => k0_hw30.1 k0_h1
theorem k0_off60_inb : ∀ (i : grid0.Coords) (v525 : BitVec 32) (v529 : BitVec 32) (k0_hw30 : k0_chk30 i v525 v529), ∀ (k0_h1 : k0_cond1 i = 1#1), ∀ a, (k0_off60 v525 v529) a + S4x128.size a ≤ S67968x128.size a := fun i v525 v529 k0_hw30 k0_h1 => k0_hw30.2 k0_h1

def k0_off61 (i : grid0.Coords) : Fin 1 → Nat :=
  let arg0 : BitVec 32 := BitVec.ofNat 32 (i 0).val
  let c32_i32_201 : BitVec 32 := 32#32
  let v537 : BitVec 32 := Scalar.muli arg0 c32_i32_201
  let c30_i32 : BitVec 32 := 30#32
  let v538 : BitVec 32 := Scalar.addi v537 c30_i32
  let v539 : Index := Scalar.indexCast v538
  ![v539.toNat]
def k0_mult31 (v540 : BitVec 32) (v544 : BitVec 32) : BitVec 32 :=
  let v545 : BitVec 32 := Scalar.addi v540 v544
  let c4_i32_204 : BitVec 32 := 4#32
  let v546 : BitVec 32 := Scalar.muli v545 c4_i32_204
  v546

def k0_off62 (v540 : BitVec 32) (v544 : BitVec 32) : Fin 2 → Nat :=
  let v545 : BitVec 32 := Scalar.addi v540 v544
  let c4_i32_204 : BitVec 32 := 4#32
  let v546 : BitVec 32 := Scalar.muli v545 c4_i32_204
  let v547 : BitVec 32 := v546
  let v548 : Index := Scalar.indexCast v547
  let c0_205 : Index := 0#32
  ![v548.toNat, 0]

def k0_chk31 (i : grid0.Coords) (v540 : BitVec 32) (v544 : BitVec 32) : Prop :=
  (∀ (k0_h1 : k0_cond1 i = 1#1), 4 ∣ (k0_mult31 v540 v544).toNat) ∧
  (∀ (k0_h1 : k0_cond1 i = 1#1), ∀ a, (k0_off62 v540 v544) a + S4x128.size a ≤ S67968x128.size a)
theorem k0_mult31_dvd : ∀ (i : grid0.Coords) (v540 : BitVec 32) (v544 : BitVec 32) (k0_hw31 : k0_chk31 i v540 v544), ∀ (k0_h1 : k0_cond1 i = 1#1), 4 ∣ (k0_mult31 v540 v544).toNat := fun i v540 v544 k0_hw31 k0_h1 => k0_hw31.1 k0_h1
theorem k0_off62_inb : ∀ (i : grid0.Coords) (v540 : BitVec 32) (v544 : BitVec 32) (k0_hw31 : k0_chk31 i v540 v544), ∀ (k0_h1 : k0_cond1 i = 1#1), ∀ a, (k0_off62 v540 v544) a + S4x128.size a ≤ S67968x128.size a := fun i v540 v544 k0_hw31 k0_h1 => k0_hw31.2 k0_h1

def k0_off63 (i : grid0.Coords) : Fin 1 → Nat :=
  let arg0 : BitVec 32 := BitVec.ofNat 32 (i 0).val
  let c32_i32_206 : BitVec 32 := 32#32
  let v552 : BitVec 32 := Scalar.muli arg0 c32_i32_206
  let c31_i32 : BitVec 32 := 31#32
  let v553 : BitVec 32 := Scalar.addi v552 c31_i32
  let v554 : Index := Scalar.indexCast v553
  ![v554.toNat]
def k0_mult32 (v555 : BitVec 32) (v559 : BitVec 32) : BitVec 32 :=
  let v560 : BitVec 32 := Scalar.addi v555 v559
  let c4_i32_209 : BitVec 32 := 4#32
  let v561 : BitVec 32 := Scalar.muli v560 c4_i32_209
  v561

def k0_off64 (v555 : BitVec 32) (v559 : BitVec 32) : Fin 2 → Nat :=
  let v560 : BitVec 32 := Scalar.addi v555 v559
  let c4_i32_209 : BitVec 32 := 4#32
  let v561 : BitVec 32 := Scalar.muli v560 c4_i32_209
  let v562 : BitVec 32 := v561
  let v563 : Index := Scalar.indexCast v562
  let c0_210 : Index := 0#32
  ![v563.toNat, 0]

def k0_chk32 (i : grid0.Coords) (v555 : BitVec 32) (v559 : BitVec 32) : Prop :=
  (∀ (k0_h1 : k0_cond1 i = 1#1), 4 ∣ (k0_mult32 v555 v559).toNat) ∧
  (∀ (k0_h1 : k0_cond1 i = 1#1), ∀ a, (k0_off64 v555 v559) a + S4x128.size a ≤ S67968x128.size a)
theorem k0_mult32_dvd : ∀ (i : grid0.Coords) (v555 : BitVec 32) (v559 : BitVec 32) (k0_hw32 : k0_chk32 i v555 v559), ∀ (k0_h1 : k0_cond1 i = 1#1), 4 ∣ (k0_mult32 v555 v559).toNat := fun i v555 v559 k0_hw32 k0_h1 => k0_hw32.1 k0_h1
theorem k0_off64_inb : ∀ (i : grid0.Coords) (v555 : BitVec 32) (v559 : BitVec 32) (k0_hw32 : k0_chk32 i v555 v559), ∀ (k0_h1 : k0_cond1 i = 1#1), ∀ a, (k0_off64 v555 v559) a + S4x128.size a ≤ S67968x128.size a := fun i v555 v559 k0_hw32 k0_h1 => k0_hw32.2 k0_h1

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c8_i32 : BitVec 32 := 8#32
  let v4 : BitVec 1 := Scalar.cmpi .slt arg1 c8_i32
  let v5 : BitVec 1 := Scalar.andi v3 v4
  let c2_i32 : BitVec 32 := 2#32
  let c0_i32_1 : BitVec 32 := 0#32
  let v6 : BitVec 1 := Scalar.cmpi .eq c2_i32 c0_i32_1
  let c1_i32_2 : BitVec 32 := 1#32
  let v7 : BitVec 32 := Scalar.select v6 c1_i32_2 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

@[reducible] def k0_t1_loop : Scf.Loop 32 :=
  let c0_i32_52 : BitVec 32 := 0#32
  let c512_i32 : BitVec 32 := 512#32
  let v114 : BitVec 32 := Scalar.addi c0_i32_52 c512_i32
  let c1_i32_53 : BitVec 32 := 1#32
  ⟨c0_i32_52, v114, c1_i32_53⟩
def k0_mult33 (k0_t1 : Fin k0_t1_loop.trips) : BitVec 32 :=
  let c0_i32_52 : BitVec 32 := 0#32
  let c1_i32_53 : BitVec 32 := 1#32
  let arg15 : BitVec 32 := Scf.iv c0_i32_52 c1_i32_53 k0_t1
  let c2_i32_55 : BitVec 32 := 2#32
  let v115 : BitVec 32 := Scalar.muli arg15 c2_i32_55
  let c4_i32 : BitVec 32 := 4#32
  let v116 : BitVec 32 := Scalar.muli v115 c4_i32
  v116
def k0_off65 (k0_t1 : Fin k0_t1_loop.trips) : Fin 2 → Nat :=
  let c0_i32_52 : BitVec 32 := 0#32
  let c1_i32_53 : BitVec 32 := 1#32
  let arg15 : BitVec 32 := Scf.iv c0_i32_52 c1_i32_53 k0_t1
  let c2_i32_55 : BitVec 32 := 2#32
  let v115 : BitVec 32 := Scalar.muli arg15 c2_i32_55
  let c4_i32 : BitVec 32 := 4#32
  let v116 : BitVec 32 := Scalar.muli v115 c4_i32
  let v117 : BitVec 32 := v116
  let v118 : Index := Scalar.indexCast v117
  let c0_56 : Index := 0#32
  ![v118.toNat, 0]
def k0_off66 (i : grid0.Coords) (k0_t1 : Fin k0_t1_loop.trips) : Fin 1 → Nat :=
  let c0_i32_57 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v121 : BitVec 32 := Scalar.addi c0_i32_57 v113
  let c0_i32_52 : BitVec 32 := 0#32
  let c1_i32_53 : BitVec 32 := 1#32
  let arg15 : BitVec 32 := Scf.iv c0_i32_52 c1_i32_53 k0_t1
  let c2_i32_58 : BitVec 32 := 2#32
  let v122 : BitVec 32 := Scalar.muli arg15 c2_i32_58
  let v123 : BitVec 32 := Scalar.addi v121 v122
  let c0_i32_59 : BitVec 32 := 0#32
  let v124 : BitVec 32 := Scalar.addi v123 c0_i32_59
  let v125 : Index := Scalar.indexCast v124
  ![v125.toNat]
def k0_mult34 (v126 : BitVec 32) : BitVec 32 :=
  v126

def k0_off67 (v126 : BitVec 32) : Fin 2 → Nat :=
  let v127 : BitVec 32 := v126
  let v128 : Index := Scalar.indexCast v127
  let c0_60 : Index := 0#32
  ![v128.toNat, 0]

def k0_chk33 (i : grid0.Coords) (v126 : BitVec 32) : Prop :=
  (∀ (k0_h2 : k0_cond2 i = 1#1), 4 ∣ (k0_mult34 v126).toNat) ∧
  (∀ (k0_h2 : k0_cond2 i = 1#1), ∀ a, (k0_off67 v126) a + S4x128.size a ≤ S67968x128.size a)
theorem k0_mult34_dvd : ∀ (i : grid0.Coords) (v126 : BitVec 32) (k0_hw33 : k0_chk33 i v126), ∀ (k0_h2 : k0_cond2 i = 1#1), 4 ∣ (k0_mult34 v126).toNat := fun i v126 k0_hw33 k0_h2 => k0_hw33.1 k0_h2
theorem k0_off67_inb : ∀ (i : grid0.Coords) (v126 : BitVec 32) (k0_hw33 : k0_chk33 i v126), ∀ (k0_h2 : k0_cond2 i = 1#1), ∀ a, (k0_off67 v126) a + S4x128.size a ≤ S67968x128.size a := fun i v126 k0_hw33 k0_h2 => k0_hw33.2 k0_h2

def k0_off68 (i : grid0.Coords) (k0_t1 : Fin k0_t1_loop.trips) : Fin 1 → Nat :=
  let c8192_i32 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v132 : BitVec 32 := Scalar.addi c8192_i32 v113
  let c0_i32_52 : BitVec 32 := 0#32
  let c1_i32_53 : BitVec 32 := 1#32
  let arg15 : BitVec 32 := Scf.iv c0_i32_52 c1_i32_53 k0_t1
  let c2_i32_61 : BitVec 32 := 2#32
  let v133 : BitVec 32 := Scalar.muli arg15 c2_i32_61
  let v134 : BitVec 32 := Scalar.addi v132 v133
  let c0_i32_62 : BitVec 32 := 0#32
  let v135 : BitVec 32 := Scalar.addi v134 c0_i32_62
  let v136 : Index := Scalar.indexCast v135
  ![v136.toNat]
def k0_mult35 (v137 : BitVec 32) : BitVec 32 :=
  v137

def k0_off69 (v137 : BitVec 32) : Fin 2 → Nat :=
  let v138 : BitVec 32 := v137
  let v139 : Index := Scalar.indexCast v138
  let c0_63 : Index := 0#32
  ![v139.toNat, 0]

def k0_chk34 (i : grid0.Coords) (v137 : BitVec 32) : Prop :=
  (∀ (k0_h2 : k0_cond2 i = 1#1), 4 ∣ (k0_mult35 v137).toNat) ∧
  (∀ (k0_h2 : k0_cond2 i = 1#1), ∀ a, (k0_off69 v137) a + S4x128.size a ≤ S67968x128.size a)
theorem k0_mult35_dvd : ∀ (i : grid0.Coords) (v137 : BitVec 32) (k0_hw34 : k0_chk34 i v137), ∀ (k0_h2 : k0_cond2 i = 1#1), 4 ∣ (k0_mult35 v137).toNat := fun i v137 k0_hw34 k0_h2 => k0_hw34.1 k0_h2
theorem k0_off69_inb : ∀ (i : grid0.Coords) (v137 : BitVec 32) (k0_hw34 : k0_chk34 i v137), ∀ (k0_h2 : k0_cond2 i = 1#1), ∀ a, (k0_off69 v137) a + S4x128.size a ≤ S67968x128.size a := fun i v137 k0_hw34 k0_h2 => k0_hw34.2 k0_h2

def k0_off70 (i : grid0.Coords) (k0_t1 : Fin k0_t1_loop.trips) : Fin 1 → Nat :=
  let c0_i32_64 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v144 : BitVec 32 := Scalar.addi c0_i32_64 v113
  let c0_i32_52 : BitVec 32 := 0#32
  let c1_i32_53 : BitVec 32 := 1#32
  let arg15 : BitVec 32 := Scf.iv c0_i32_52 c1_i32_53 k0_t1
  let c2_i32_65 : BitVec 32 := 2#32
  let v145 : BitVec 32 := Scalar.muli arg15 c2_i32_65
  let v146 : BitVec 32 := Scalar.addi v144 v145
  let c1_i32_66 : BitVec 32 := 1#32
  let v147 : BitVec 32 := Scalar.addi v146 c1_i32_66
  let v148 : Index := Scalar.indexCast v147
  ![v148.toNat]
def k0_mult36 (v149 : BitVec 32) : BitVec 32 :=
  v149

def k0_off71 (v149 : BitVec 32) : Fin 2 → Nat :=
  let v150 : BitVec 32 := v149
  let v151 : Index := Scalar.indexCast v150
  let c0_67 : Index := 0#32
  ![v151.toNat, 0]

def k0_chk35 (i : grid0.Coords) (v149 : BitVec 32) : Prop :=
  (∀ (k0_h2 : k0_cond2 i = 1#1), 4 ∣ (k0_mult36 v149).toNat) ∧
  (∀ (k0_h2 : k0_cond2 i = 1#1), ∀ a, (k0_off71 v149) a + S4x128.size a ≤ S67968x128.size a)
theorem k0_mult36_dvd : ∀ (i : grid0.Coords) (v149 : BitVec 32) (k0_hw35 : k0_chk35 i v149), ∀ (k0_h2 : k0_cond2 i = 1#1), 4 ∣ (k0_mult36 v149).toNat := fun i v149 k0_hw35 k0_h2 => k0_hw35.1 k0_h2
theorem k0_off71_inb : ∀ (i : grid0.Coords) (v149 : BitVec 32) (k0_hw35 : k0_chk35 i v149), ∀ (k0_h2 : k0_cond2 i = 1#1), ∀ a, (k0_off71 v149) a + S4x128.size a ≤ S67968x128.size a := fun i v149 k0_hw35 k0_h2 => k0_hw35.2 k0_h2

def k0_off72 (i : grid0.Coords) (k0_t1 : Fin k0_t1_loop.trips) : Fin 1 → Nat :=
  let c8192_i32_68 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v155 : BitVec 32 := Scalar.addi c8192_i32_68 v113
  let c0_i32_52 : BitVec 32 := 0#32
  let c1_i32_53 : BitVec 32 := 1#32
  let arg15 : BitVec 32 := Scf.iv c0_i32_52 c1_i32_53 k0_t1
  let c2_i32_69 : BitVec 32 := 2#32
  let v156 : BitVec 32 := Scalar.muli arg15 c2_i32_69
  let v157 : BitVec 32 := Scalar.addi v155 v156
  let c1_i32_70 : BitVec 32 := 1#32
  let v158 : BitVec 32 := Scalar.addi v157 c1_i32_70
  let v159 : Index := Scalar.indexCast v158
  ![v159.toNat]
def k0_mult37 (v160 : BitVec 32) : BitVec 32 :=
  v160

def k0_off73 (v160 : BitVec 32) : Fin 2 → Nat :=
  let v161 : BitVec 32 := v160
  let v162 : Index := Scalar.indexCast v161
  let c0_71 : Index := 0#32
  ![v162.toNat, 0]

def k0_chk36 (i : grid0.Coords) (v160 : BitVec 32) : Prop :=
  (∀ (k0_h2 : k0_cond2 i = 1#1), 4 ∣ (k0_mult37 v160).toNat) ∧
  (∀ (k0_h2 : k0_cond2 i = 1#1), ∀ a, (k0_off73 v160) a + S4x128.size a ≤ S67968x128.size a)
theorem k0_mult37_dvd : ∀ (i : grid0.Coords) (v160 : BitVec 32) (k0_hw36 : k0_chk36 i v160), ∀ (k0_h2 : k0_cond2 i = 1#1), 4 ∣ (k0_mult37 v160).toNat := fun i v160 k0_hw36 k0_h2 => k0_hw36.1 k0_h2
theorem k0_off73_inb : ∀ (i : grid0.Coords) (v160 : BitVec 32) (k0_hw36 : k0_chk36 i v160), ∀ (k0_h2 : k0_cond2 i = 1#1), ∀ a, (k0_off73 v160) a + S4x128.size a ≤ S67968x128.size a := fun i v160 k0_hw36 k0_h2 => k0_hw36.2 k0_h2

def k0_cond3 (i : grid0.Coords) : BitVec 1 :=
  let arg1 : BitVec 32 := BitVec.ofNat 32 (i 1).val
  let c1_i32_8 : BitVec 32 := 1#32
  let v20 : BitVec 1 := Scalar.cmpi .sge arg1 c1_i32_8
  let c8_i32_9 : BitVec 32 := 8#32
  let v21 : BitVec 1 := Scalar.cmpi .slt arg1 c8_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg1 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

@[reducible] def k0_t2_loop : Scf.Loop 32 :=
  let c0_i32_52 : BitVec 32 := 0#32
  let c512_i32 : BitVec 32 := 512#32
  let v114 : BitVec 32 := Scalar.addi c0_i32_52 c512_i32
  let c1_i32_53 : BitVec 32 := 1#32
  ⟨c0_i32_52, v114, c1_i32_53⟩
def k0_mult38 (k0_t2 : Fin k0_t2_loop.trips) : BitVec 32 :=
  let c0_i32_52 : BitVec 32 := 0#32
  let c1_i32_53 : BitVec 32 := 1#32
  let arg15 : BitVec 32 := Scf.iv c0_i32_52 c1_i32_53 k0_t2
  let c2_i32_55 : BitVec 32 := 2#32
  let v115 : BitVec 32 := Scalar.muli arg15 c2_i32_55
  let c4_i32 : BitVec 32 := 4#32
  let v116 : BitVec 32 := Scalar.muli v115 c4_i32
  v116
def k0_off74 (k0_t2 : Fin k0_t2_loop.trips) : Fin 2 → Nat :=
  let c0_i32_52 : BitVec 32 := 0#32
  let c1_i32_53 : BitVec 32 := 1#32
  let arg15 : BitVec 32 := Scf.iv c0_i32_52 c1_i32_53 k0_t2
  let c2_i32_55 : BitVec 32 := 2#32
  let v115 : BitVec 32 := Scalar.muli arg15 c2_i32_55
  let c4_i32 : BitVec 32 := 4#32
  let v116 : BitVec 32 := Scalar.muli v115 c4_i32
  let v117 : BitVec 32 := v116
  let v118 : Index := Scalar.indexCast v117
  let c0_56 : Index := 0#32
  ![v118.toNat, 0]
def k0_off75 (i : grid0.Coords) (k0_t2 : Fin k0_t2_loop.trips) : Fin 1 → Nat :=
  let c0_i32_57 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v121 : BitVec 32 := Scalar.addi c0_i32_57 v113
  let c0_i32_52 : BitVec 32 := 0#32
  let c1_i32_53 : BitVec 32 := 1#32
  let arg15 : BitVec 32 := Scf.iv c0_i32_52 c1_i32_53 k0_t2
  let c2_i32_58 : BitVec 32 := 2#32
  let v122 : BitVec 32 := Scalar.muli arg15 c2_i32_58
  let v123 : BitVec 32 := Scalar.addi v121 v122
  let c0_i32_59 : BitVec 32 := 0#32
  let v124 : BitVec 32 := Scalar.addi v123 c0_i32_59
  let v125 : Index := Scalar.indexCast v124
  ![v125.toNat]
def k0_mult39 (v126 : BitVec 32) : BitVec 32 :=
  v126

def k0_off76 (v126 : BitVec 32) : Fin 2 → Nat :=
  let v127 : BitVec 32 := v126
  let v128 : Index := Scalar.indexCast v127
  let c0_60 : Index := 0#32
  ![v128.toNat, 0]

def k0_chk37 (i : grid0.Coords) (v126 : BitVec 32) : Prop :=
  (∀ (k0_h3 : k0_cond3 i = 1#1), 4 ∣ (k0_mult39 v126).toNat) ∧
  (∀ (k0_h3 : k0_cond3 i = 1#1), ∀ a, (k0_off76 v126) a + S4x128.size a ≤ S67968x128.size a)
theorem k0_mult39_dvd : ∀ (i : grid0.Coords) (v126 : BitVec 32) (k0_hw37 : k0_chk37 i v126), ∀ (k0_h3 : k0_cond3 i = 1#1), 4 ∣ (k0_mult39 v126).toNat := fun i v126 k0_hw37 k0_h3 => k0_hw37.1 k0_h3
theorem k0_off76_inb : ∀ (i : grid0.Coords) (v126 : BitVec 32) (k0_hw37 : k0_chk37 i v126), ∀ (k0_h3 : k0_cond3 i = 1#1), ∀ a, (k0_off76 v126) a + S4x128.size a ≤ S67968x128.size a := fun i v126 k0_hw37 k0_h3 => k0_hw37.2 k0_h3

def k0_off77 (i : grid0.Coords) (k0_t2 : Fin k0_t2_loop.trips) : Fin 1 → Nat :=
  let c8192_i32 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v132 : BitVec 32 := Scalar.addi c8192_i32 v113
  let c0_i32_52 : BitVec 32 := 0#32
  let c1_i32_53 : BitVec 32 := 1#32
  let arg15 : BitVec 32 := Scf.iv c0_i32_52 c1_i32_53 k0_t2
  let c2_i32_61 : BitVec 32 := 2#32
  let v133 : BitVec 32 := Scalar.muli arg15 c2_i32_61
  let v134 : BitVec 32 := Scalar.addi v132 v133
  let c0_i32_62 : BitVec 32 := 0#32
  let v135 : BitVec 32 := Scalar.addi v134 c0_i32_62
  let v136 : Index := Scalar.indexCast v135
  ![v136.toNat]
def k0_mult40 (v137 : BitVec 32) : BitVec 32 :=
  v137

def k0_off78 (v137 : BitVec 32) : Fin 2 → Nat :=
  let v138 : BitVec 32 := v137
  let v139 : Index := Scalar.indexCast v138
  let c0_63 : Index := 0#32
  ![v139.toNat, 0]

def k0_chk38 (i : grid0.Coords) (v137 : BitVec 32) : Prop :=
  (∀ (k0_h3 : k0_cond3 i = 1#1), 4 ∣ (k0_mult40 v137).toNat) ∧
  (∀ (k0_h3 : k0_cond3 i = 1#1), ∀ a, (k0_off78 v137) a + S4x128.size a ≤ S67968x128.size a)
theorem k0_mult40_dvd : ∀ (i : grid0.Coords) (v137 : BitVec 32) (k0_hw38 : k0_chk38 i v137), ∀ (k0_h3 : k0_cond3 i = 1#1), 4 ∣ (k0_mult40 v137).toNat := fun i v137 k0_hw38 k0_h3 => k0_hw38.1 k0_h3
theorem k0_off78_inb : ∀ (i : grid0.Coords) (v137 : BitVec 32) (k0_hw38 : k0_chk38 i v137), ∀ (k0_h3 : k0_cond3 i = 1#1), ∀ a, (k0_off78 v137) a + S4x128.size a ≤ S67968x128.size a := fun i v137 k0_hw38 k0_h3 => k0_hw38.2 k0_h3

def k0_off79 (i : grid0.Coords) (k0_t2 : Fin k0_t2_loop.trips) : Fin 1 → Nat :=
  let c0_i32_64 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v144 : BitVec 32 := Scalar.addi c0_i32_64 v113
  let c0_i32_52 : BitVec 32 := 0#32
  let c1_i32_53 : BitVec 32 := 1#32
  let arg15 : BitVec 32 := Scf.iv c0_i32_52 c1_i32_53 k0_t2
  let c2_i32_65 : BitVec 32 := 2#32
  let v145 : BitVec 32 := Scalar.muli arg15 c2_i32_65
  let v146 : BitVec 32 := Scalar.addi v144 v145
  let c1_i32_66 : BitVec 32 := 1#32
  let v147 : BitVec 32 := Scalar.addi v146 c1_i32_66
  let v148 : Index := Scalar.indexCast v147
  ![v148.toNat]
def k0_mult41 (v149 : BitVec 32) : BitVec 32 :=
  v149

def k0_off80 (v149 : BitVec 32) : Fin 2 → Nat :=
  let v150 : BitVec 32 := v149
  let v151 : Index := Scalar.indexCast v150
  let c0_67 : Index := 0#32
  ![v151.toNat, 0]

def k0_chk39 (i : grid0.Coords) (v149 : BitVec 32) : Prop :=
  (∀ (k0_h3 : k0_cond3 i = 1#1), 4 ∣ (k0_mult41 v149).toNat) ∧
  (∀ (k0_h3 : k0_cond3 i = 1#1), ∀ a, (k0_off80 v149) a + S4x128.size a ≤ S67968x128.size a)
theorem k0_mult41_dvd : ∀ (i : grid0.Coords) (v149 : BitVec 32) (k0_hw39 : k0_chk39 i v149), ∀ (k0_h3 : k0_cond3 i = 1#1), 4 ∣ (k0_mult41 v149).toNat := fun i v149 k0_hw39 k0_h3 => k0_hw39.1 k0_h3
theorem k0_off80_inb : ∀ (i : grid0.Coords) (v149 : BitVec 32) (k0_hw39 : k0_chk39 i v149), ∀ (k0_h3 : k0_cond3 i = 1#1), ∀ a, (k0_off80 v149) a + S4x128.size a ≤ S67968x128.size a := fun i v149 k0_hw39 k0_h3 => k0_hw39.2 k0_h3

def k0_off81 (i : grid0.Coords) (k0_t2 : Fin k0_t2_loop.trips) : Fin 1 → Nat :=
  let c8192_i32_68 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v155 : BitVec 32 := Scalar.addi c8192_i32_68 v113
  let c0_i32_52 : BitVec 32 := 0#32
  let c1_i32_53 : BitVec 32 := 1#32
  let arg15 : BitVec 32 := Scf.iv c0_i32_52 c1_i32_53 k0_t2
  let c2_i32_69 : BitVec 32 := 2#32
  let v156 : BitVec 32 := Scalar.muli arg15 c2_i32_69
  let v157 : BitVec 32 := Scalar.addi v155 v156
  let c1_i32_70 : BitVec 32 := 1#32
  let v158 : BitVec 32 := Scalar.addi v157 c1_i32_70
  let v159 : Index := Scalar.indexCast v158
  ![v159.toNat]
def k0_mult42 (v160 : BitVec 32) : BitVec 32 :=
  v160

def k0_off82 (v160 : BitVec 32) : Fin 2 → Nat :=
  let v161 : BitVec 32 := v160
  let v162 : Index := Scalar.indexCast v161
  let c0_71 : Index := 0#32
  ![v162.toNat, 0]

def k0_chk40 (i : grid0.Coords) (v160 : BitVec 32) : Prop :=
  (∀ (k0_h3 : k0_cond3 i = 1#1), 4 ∣ (k0_mult42 v160).toNat) ∧
  (∀ (k0_h3 : k0_cond3 i = 1#1), ∀ a, (k0_off82 v160) a + S4x128.size a ≤ S67968x128.size a)
theorem k0_mult42_dvd : ∀ (i : grid0.Coords) (v160 : BitVec 32) (k0_hw40 : k0_chk40 i v160), ∀ (k0_h3 : k0_cond3 i = 1#1), 4 ∣ (k0_mult42 v160).toNat := fun i v160 k0_hw40 k0_h3 => k0_hw40.1 k0_h3
theorem k0_off82_inb : ∀ (i : grid0.Coords) (v160 : BitVec 32) (k0_hw40 : k0_chk40 i v160), ∀ (k0_h3 : k0_cond3 i = 1#1), ∀ a, (k0_off82 v160) a + S4x128.size a ≤ S67968x128.size a := fun i v160 k0_hw40 k0_h3 => k0_hw40.2 k0_h3

def k0_cond4 (i : grid0.Coords) : BitVec 1 :=
  let arg1 : BitVec 32 := BitVec.ofNat 32 (i 1).val
  let c8_i32_18 : BitVec 32 := 8#32
  let v37 : BitVec 1 := Scalar.cmpi .eq arg1 c8_i32_18
  let v38 : BitVec 32 := Scalar.extui v37
  let c0_i32_19 : BitVec 32 := 0#32
  let v39 : BitVec 1 := Scalar.cmpi .ne v38 c0_i32_19
  v39

@[reducible] def k0_t3_loop : Scf.Loop 32 :=
  let c0_i32_45 : BitVec 32 := 0#32
  let c512_i32 : BitVec 32 := 512#32
  let v86 : BitVec 32 := Scalar.addi c0_i32_45 c512_i32
  let c1_i32_46 : BitVec 32 := 1#32
  ⟨c0_i32_45, v86, c1_i32_46⟩
def k0_mult43 (k0_t3 : Fin k0_t3_loop.trips) : BitVec 32 :=
  let c0_i32_45 : BitVec 32 := 0#32
  let c1_i32_46 : BitVec 32 := 1#32
  let arg15 : BitVec 32 := Scf.iv c0_i32_45 c1_i32_46 k0_t3
  let c2_i32_48 : BitVec 32 := 2#32
  let v87 : BitVec 32 := Scalar.muli arg15 c2_i32_48
  let c4_i32 : BitVec 32 := 4#32
  let v88 : BitVec 32 := Scalar.muli v87 c4_i32
  v88
def k0_off83 (k0_t3 : Fin k0_t3_loop.trips) : Fin 2 → Nat :=
  let c0_i32_45 : BitVec 32 := 0#32
  let c1_i32_46 : BitVec 32 := 1#32
  let arg15 : BitVec 32 := Scf.iv c0_i32_45 c1_i32_46 k0_t3
  let c2_i32_48 : BitVec 32 := 2#32
  let v87 : BitVec 32 := Scalar.muli arg15 c2_i32_48
  let c4_i32 : BitVec 32 := 4#32
  let v88 : BitVec 32 := Scalar.muli v87 c4_i32
  let v89 : BitVec 32 := v88
  let v90 : Index := Scalar.indexCast v89
  let c0 : Index := 0#32
  ![v90.toNat, 0]
def k0_off84 (k0_t3 : Fin k0_t3_loop.trips) : Fin 1 → Nat :=
  let c7168_i32 : BitVec 32 := 7168#32
  let c0_i32_45 : BitVec 32 := 0#32
  let c1_i32_46 : BitVec 32 := 1#32
  let arg15 : BitVec 32 := Scf.iv c0_i32_45 c1_i32_46 k0_t3
  let c2_i32_49 : BitVec 32 := 2#32
  let v93 : BitVec 32 := Scalar.muli arg15 c2_i32_49
  let v94 : BitVec 32 := Scalar.addi c7168_i32 v93
  let c0_i32_50 : BitVec 32 := 0#32
  let v95 : BitVec 32 := Scalar.addi v94 c0_i32_50
  let v96 : Index := Scalar.indexCast v95
  ![v96.toNat]
def k0_mult44 (v97 : BitVec 32) : BitVec 32 :=
  v97

def k0_off85 (v97 : BitVec 32) : Fin 2 → Nat :=
  let v98 : BitVec 32 := v97
  let v99 : Index := Scalar.indexCast v98
  let c0_51 : Index := 0#32
  ![v99.toNat, 0]

def k0_chk41 (i : grid0.Coords) (v97 : BitVec 32) : Prop :=
  (∀ (k0_h4 : k0_cond4 i = 1#1), 4 ∣ (k0_mult44 v97).toNat) ∧
  (∀ (k0_h4 : k0_cond4 i = 1#1), ∀ a, (k0_off85 v97) a + S4x128.size a ≤ S67968x128.size a)
theorem k0_mult44_dvd : ∀ (i : grid0.Coords) (v97 : BitVec 32) (k0_hw41 : k0_chk41 i v97), ∀ (k0_h4 : k0_cond4 i = 1#1), 4 ∣ (k0_mult44 v97).toNat := fun i v97 k0_hw41 k0_h4 => k0_hw41.1 k0_h4
theorem k0_off85_inb : ∀ (i : grid0.Coords) (v97 : BitVec 32) (k0_hw41 : k0_chk41 i v97), ∀ (k0_h4 : k0_cond4 i = 1#1), ∀ a, (k0_off85 v97) a + S4x128.size a ≤ S67968x128.size a := fun i v97 k0_hw41 k0_h4 => k0_hw41.2 k0_h4

def k0_off86 (k0_t3 : Fin k0_t3_loop.trips) : Fin 1 → Nat :=
  let c15360_i32 : BitVec 32 := 15360#32
  let c0_i32_45 : BitVec 32 := 0#32
  let c1_i32_46 : BitVec 32 := 1#32
  let arg15 : BitVec 32 := Scf.iv c0_i32_45 c1_i32_46 k0_t3
  let c2_i32_52 : BitVec 32 := 2#32
  let v103 : BitVec 32 := Scalar.muli arg15 c2_i32_52
  let v104 : BitVec 32 := Scalar.addi c15360_i32 v103
  let c0_i32_53 : BitVec 32 := 0#32
  let v105 : BitVec 32 := Scalar.addi v104 c0_i32_53
  let v106 : Index := Scalar.indexCast v105
  ![v106.toNat]
def k0_mult45 (v107 : BitVec 32) : BitVec 32 :=
  v107

def k0_off87 (v107 : BitVec 32) : Fin 2 → Nat :=
  let v108 : BitVec 32 := v107
  let v109 : Index := Scalar.indexCast v108
  let c0_54 : Index := 0#32
  ![v109.toNat, 0]

def k0_chk42 (i : grid0.Coords) (v107 : BitVec 32) : Prop :=
  (∀ (k0_h4 : k0_cond4 i = 1#1), 4 ∣ (k0_mult45 v107).toNat) ∧
  (∀ (k0_h4 : k0_cond4 i = 1#1), ∀ a, (k0_off87 v107) a + S4x128.size a ≤ S67968x128.size a)
theorem k0_mult45_dvd : ∀ (i : grid0.Coords) (v107 : BitVec 32) (k0_hw42 : k0_chk42 i v107), ∀ (k0_h4 : k0_cond4 i = 1#1), 4 ∣ (k0_mult45 v107).toNat := fun i v107 k0_hw42 k0_h4 => k0_hw42.1 k0_h4
theorem k0_off87_inb : ∀ (i : grid0.Coords) (v107 : BitVec 32) (k0_hw42 : k0_chk42 i v107), ∀ (k0_h4 : k0_cond4 i = 1#1), ∀ a, (k0_off87 v107) a + S4x128.size a ≤ S67968x128.size a := fun i v107 k0_hw42 k0_h4 => k0_hw42.2 k0_h4

def k0_off88 (k0_t3 : Fin k0_t3_loop.trips) : Fin 1 → Nat :=
  let c7168_i32_56 : BitVec 32 := 7168#32
  let c0_i32_45 : BitVec 32 := 0#32
  let c1_i32_46 : BitVec 32 := 1#32
  let arg15 : BitVec 32 := Scf.iv c0_i32_45 c1_i32_46 k0_t3
  let c2_i32_55 : BitVec 32 := 2#32
  let v114 : BitVec 32 := Scalar.muli arg15 c2_i32_55
  let v115 : BitVec 32 := Scalar.addi c7168_i32_56 v114
  let c1_i32_57 : BitVec 32 := 1#32
  let v116 : BitVec 32 := Scalar.addi v115 c1_i32_57
  let v117 : Index := Scalar.indexCast v116
  ![v117.toNat]
def k0_mult46 (v118 : BitVec 32) : BitVec 32 :=
  v118

def k0_off89 (v118 : BitVec 32) : Fin 2 → Nat :=
  let v119 : BitVec 32 := v118
  let v120 : Index := Scalar.indexCast v119
  let c0_58 : Index := 0#32
  ![v120.toNat, 0]

def k0_chk43 (i : grid0.Coords) (v118 : BitVec 32) : Prop :=
  (∀ (k0_h4 : k0_cond4 i = 1#1), 4 ∣ (k0_mult46 v118).toNat) ∧
  (∀ (k0_h4 : k0_cond4 i = 1#1), ∀ a, (k0_off89 v118) a + S4x128.size a ≤ S67968x128.size a)
theorem k0_mult46_dvd : ∀ (i : grid0.Coords) (v118 : BitVec 32) (k0_hw43 : k0_chk43 i v118), ∀ (k0_h4 : k0_cond4 i = 1#1), 4 ∣ (k0_mult46 v118).toNat := fun i v118 k0_hw43 k0_h4 => k0_hw43.1 k0_h4
theorem k0_off89_inb : ∀ (i : grid0.Coords) (v118 : BitVec 32) (k0_hw43 : k0_chk43 i v118), ∀ (k0_h4 : k0_cond4 i = 1#1), ∀ a, (k0_off89 v118) a + S4x128.size a ≤ S67968x128.size a := fun i v118 k0_hw43 k0_h4 => k0_hw43.2 k0_h4

def k0_off90 (k0_t3 : Fin k0_t3_loop.trips) : Fin 1 → Nat :=
  let c15360_i32_60 : BitVec 32 := 15360#32
  let c0_i32_45 : BitVec 32 := 0#32
  let c1_i32_46 : BitVec 32 := 1#32
  let arg15 : BitVec 32 := Scf.iv c0_i32_45 c1_i32_46 k0_t3
  let c2_i32_59 : BitVec 32 := 2#32
  let v124 : BitVec 32 := Scalar.muli arg15 c2_i32_59
  let v125 : BitVec 32 := Scalar.addi c15360_i32_60 v124
  let c1_i32_61 : BitVec 32 := 1#32
  let v126 : BitVec 32 := Scalar.addi v125 c1_i32_61
  let v127 : Index := Scalar.indexCast v126
  ![v127.toNat]
def k0_mult47 (v128 : BitVec 32) : BitVec 32 :=
  v128

def k0_off91 (v128 : BitVec 32) : Fin 2 → Nat :=
  let v129 : BitVec 32 := v128
  let v130 : Index := Scalar.indexCast v129
  let c0_62 : Index := 0#32
  ![v130.toNat, 0]

def k0_chk44 (i : grid0.Coords) (v128 : BitVec 32) : Prop :=
  (∀ (k0_h4 : k0_cond4 i = 1#1), 4 ∣ (k0_mult47 v128).toNat) ∧
  (∀ (k0_h4 : k0_cond4 i = 1#1), ∀ a, (k0_off91 v128) a + S4x128.size a ≤ S67968x128.size a)
theorem k0_mult47_dvd : ∀ (i : grid0.Coords) (v128 : BitVec 32) (k0_hw44 : k0_chk44 i v128), ∀ (k0_h4 : k0_cond4 i = 1#1), 4 ∣ (k0_mult47 v128).toNat := fun i v128 k0_hw44 k0_h4 => k0_hw44.1 k0_h4
theorem k0_off91_inb : ∀ (i : grid0.Coords) (v128 : BitVec 32) (k0_hw44 : k0_chk44 i v128), ∀ (k0_h4 : k0_cond4 i = 1#1), ∀ a, (k0_off91 v128) a + S4x128.size a ≤ S67968x128.size a := fun i v128 k0_hw44 k0_h4 => k0_hw44.2 k0_h4

def k0_cond5 (i : grid0.Coords) : BitVec 1 :=
  let arg1 : BitVec 32 := BitVec.ofNat 32 (i 1).val
  let c9_i32 : BitVec 32 := 9#32
  let v40 : BitVec 1 := Scalar.cmpi .sge arg1 c9_i32
  let c25_i32 : BitVec 32 := 25#32
  let v41 : BitVec 1 := Scalar.cmpi .slt arg1 c25_i32
  let v42 : BitVec 1 := Scalar.andi v40 v41
  let v43 : BitVec 32 := Scalar.extui v42
  let c0_i32_20 : BitVec 32 := 0#32
  let v44 : BitVec 1 := Scalar.cmpi .ne v43 c0_i32_20
  v44

def k0_off92 (i : grid0.Coords) : Fin 1 → Nat :=
  let arg0 : BitVec 32 := BitVec.ofNat 32 (i 0).val
  let c32_i32 : BitVec 32 := 32#32
  let v86 : BitVec 32 := Scalar.muli arg0 c32_i32
  let arg1 : BitVec 32 := BitVec.ofNat 32 (i 1).val
  let c9_i32_45 : BitVec 32 := 9#32
  let v87 : BitVec 32 := Scalar.subi arg1 c9_i32_45
  let c2_i32_46 : BitVec 32 := 2#32
  let v88 : BitVec 32 := Scalar.muli v87 c2_i32_46
  let v89 : BitVec 32 := Scalar.addi v86 v88
  let c0_i32_47 : BitVec 32 := 0#32
  let v90 : BitVec 32 := Scalar.addi v89 c0_i32_47
  let v91 : Index := Scalar.indexCast v90
  ![v91.toNat]
@[reducible] def k0_t4_loop (v92 : BitVec 32) : Scf.Loop 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_59 : BitVec 32 := 1#32
  ⟨c0_i32_57, v118, c1_i32_59⟩

def k0_mult48 (v92 : BitVec 32) (v94 : BitVec 32) (k0_t4 : Fin (k0_t4_loop v92).trips) : BitVec 32 :=
  let c0_i32_57 : BitVec 32 := 0#32
  let c1_i32_59 : BitVec 32 := 1#32
  let arg15 : BitVec 32 := Scf.iv c0_i32_57 c1_i32_59 k0_t4
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  v154

def k0_off93 (v92 : BitVec 32) (v94 : BitVec 32) (k0_t4 : Fin (k0_t4_loop v92).trips) (c0_i32_80 : BitVec 32) : Fin 2 → Nat :=
  let c0_i32_57 : BitVec 32 := 0#32
  let c1_i32_59 : BitVec 32 := 1#32
  let arg15 : BitVec 32 := Scf.iv c0_i32_57 c1_i32_59 k0_t4
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0]
@[reducible] def k0_t5_loop (v92 : BitVec 32) : Scf.Loop 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let v115 : BitVec 32 := Scalar.addi c0_i32_57 v114
  let c1_i32_60 : BitVec 32 := 1#32
  ⟨v118, v115, c1_i32_60⟩

def k0_chk45 (i : grid0.Coords) (v92 : BitVec 32) : Prop :=
  (∀ (k0_h5 : k0_cond5 i = 1#1), (k0_t4_loop v92).OK) ∧
  (∀ (k0_h5 : k0_cond5 i = 1#1), (k0_t5_loop v92).OK)
theorem k0_t4_ok : ∀ (i : grid0.Coords) (v92 : BitVec 32) (k0_hw45 : k0_chk45 i v92), ∀ (k0_h5 : k0_cond5 i = 1#1), (k0_t4_loop v92).OK := fun i v92 k0_hw45 k0_h5 => k0_hw45.1 k0_h5
theorem k0_t5_ok : ∀ (i : grid0.Coords) (v92 : BitVec 32) (k0_hw45 : k0_chk45 i v92), ∀ (k0_h5 : k0_cond5 i = 1#1), (k0_t5_loop v92).OK := fun i v92 k0_hw45 k0_h5 => k0_hw45.2 k0_h5

def k0_mult49 (v92 : BitVec 32) (v94 : BitVec 32) (k0_t5 : Fin (k0_t5_loop v92).trips) : BitVec 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg15 : BitVec 32 := Scf.iv v118 c1_i32_60 k0_t5
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  v154
def k0_off94 (v92 : BitVec 32) (v94 : BitVec 32) (k0_t5 : Fin (k0_t5_loop v92).trips) (c0_i32_80 : BitVec 32) : Fin 2 → Nat :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg15 : BitVec 32 := Scf.iv v118 c1_i32_60 k0_t5
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0]

def k0_chk46 (i : grid0.Coords) (v92 : BitVec 32) (v94 : BitVec 32) : Prop :=
  (∀ k0_t4 : Fin (k0_t4_loop v92).trips, ∀ (k0_h5 : k0_cond5 i = 1#1), 8 ∣ (k0_mult48 v92 v94 k0_t4).toNat) ∧
  (∀ k0_t4 : Fin (k0_t4_loop v92).trips, ∀ (k0_h5 : k0_cond5 i = 1#1), ∀ (r : Fin 4), ∀ a, S576x128.size a = 0 ∨ (k0_off93 v92 v94 k0_t4 (BitVec.ofNat 32 r.val)) a + (![4, 1] : Fin 2 → Nat) a * (S576x128.size a - 1) < S67968x128.size a) ∧
  (∀ k0_t5 : Fin (k0_t5_loop v92).trips, ∀ (k0_h5 : k0_cond5 i = 1#1), 8 ∣ (k0_mult49 v92 v94 k0_t5).toNat) ∧
  (∀ k0_t5 : Fin (k0_t5_loop v92).trips, ∀ (k0_h5 : k0_cond5 i = 1#1), ∀ (r : Fin 4), ∀ a, S576x128.size a = 0 ∨ (k0_off94 v92 v94 k0_t5 (BitVec.ofNat 32 r.val)) a + (![4, 1] : Fin 2 → Nat) a * (S576x128.size a - 1) < S67968x128.size a)
theorem k0_mult48_dvd : ∀ (i : grid0.Coords) (v92 : BitVec 32) (v94 : BitVec 32) (k0_hw46 : k0_chk46 i v92 v94) (k0_t4 : Fin (k0_t4_loop v92).trips), ∀ (k0_h5 : k0_cond5 i = 1#1), 8 ∣ (k0_mult48 v92 v94 k0_t4).toNat := fun i v92 v94 k0_hw46 k0_t4 k0_h5 => k0_hw46.1 k0_t4 k0_h5
theorem k0_off93_inb : ∀ (i : grid0.Coords) (v92 : BitVec 32) (v94 : BitVec 32) (k0_hw46 : k0_chk46 i v92 v94) (k0_t4 : Fin (k0_t4_loop v92).trips), ∀ (k0_h5 : k0_cond5 i = 1#1), ∀ (r : Fin 4), ∀ a, S576x128.size a = 0 ∨ (k0_off93 v92 v94 k0_t4 (BitVec.ofNat 32 r.val)) a + (![4, 1] : Fin 2 → Nat) a * (S576x128.size a - 1) < S67968x128.size a := fun i v92 v94 k0_hw46 k0_t4 k0_h5 r => k0_hw46.2.1 k0_t4 k0_h5 r
theorem k0_mult49_dvd : ∀ (i : grid0.Coords) (v92 : BitVec 32) (v94 : BitVec 32) (k0_hw46 : k0_chk46 i v92 v94) (k0_t5 : Fin (k0_t5_loop v92).trips), ∀ (k0_h5 : k0_cond5 i = 1#1), 8 ∣ (k0_mult49 v92 v94 k0_t5).toNat := fun i v92 v94 k0_hw46 k0_t5 k0_h5 => k0_hw46.2.2.1 k0_t5 k0_h5
theorem k0_off94_inb : ∀ (i : grid0.Coords) (v92 : BitVec 32) (v94 : BitVec 32) (k0_hw46 : k0_chk46 i v92 v94) (k0_t5 : Fin (k0_t5_loop v92).trips), ∀ (k0_h5 : k0_cond5 i = 1#1), ∀ (r : Fin 4), ∀ a, S576x128.size a = 0 ∨ (k0_off94 v92 v94 k0_t5 (BitVec.ofNat 32 r.val)) a + (![4, 1] : Fin 2 → Nat) a * (S576x128.size a - 1) < S67968x128.size a := fun i v92 v94 k0_hw46 k0_t5 k0_h5 r => k0_hw46.2.2.2 k0_t5 k0_h5 r

def k0_off95 (i : grid0.Coords) : Fin 1 → Nat :=
  let arg0 : BitVec 32 := BitVec.ofNat 32 (i 0).val
  let c32_i32_61 : BitVec 32 := 32#32
  let v119 : BitVec 32 := Scalar.muli arg0 c32_i32_61
  let arg1 : BitVec 32 := BitVec.ofNat 32 (i 1).val
  let c9_i32_62 : BitVec 32 := 9#32
  let v120 : BitVec 32 := Scalar.subi arg1 c9_i32_62
  let c2_i32_63 : BitVec 32 := 2#32
  let v121 : BitVec 32 := Scalar.muli v120 c2_i32_63
  let v122 : BitVec 32 := Scalar.addi v119 v121
  let c1_i32_64 : BitVec 32 := 1#32
  let v123 : BitVec 32 := Scalar.addi v122 c1_i32_64
  let v124 : Index := Scalar.indexCast v123
  ![v124.toNat]
@[reducible] def k0_t6_loop (v125 : BitVec 32) : Scf.Loop 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_77 : BitVec 32 := 1#32
  ⟨c0_i32_75, v151, c1_i32_77⟩

def k0_mult50 (v125 : BitVec 32) (v127 : BitVec 32) (k0_t6 : Fin (k0_t6_loop v125).trips) : BitVec 32 :=
  let c0_i32_75 : BitVec 32 := 0#32
  let c1_i32_77 : BitVec 32 := 1#32
  let arg15 : BitVec 32 := Scf.iv c0_i32_75 c1_i32_77 k0_t6
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  v154

def k0_off96 (v125 : BitVec 32) (v127 : BitVec 32) (k0_t6 : Fin (k0_t6_loop v125).trips) (c0_i32_80 : BitVec 32) : Fin 2 → Nat :=
  let c0_i32_75 : BitVec 32 := 0#32
  let c1_i32_77 : BitVec 32 := 1#32
  let arg15 : BitVec 32 := Scf.iv c0_i32_75 c1_i32_77 k0_t6
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0]
@[reducible] def k0_t7_loop (v125 : BitVec 32) : Scf.Loop 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let v148 : BitVec 32 := Scalar.addi c0_i32_75 v147
  let c1_i32_78 : BitVec 32 := 1#32
  ⟨v151, v148, c1_i32_78⟩

def k0_chk47 (i : grid0.Coords) (v125 : BitVec 32) : Prop :=
  (∀ (k0_h5 : k0_cond5 i = 1#1), (k0_t6_loop v125).OK) ∧
  (∀ (k0_h5 : k0_cond5 i = 1#1), (k0_t7_loop v125).OK)
theorem k0_t6_ok : ∀ (i : grid0.Coords) (v125 : BitVec 32) (k0_hw47 : k0_chk47 i v125), ∀ (k0_h5 : k0_cond5 i = 1#1), (k0_t6_loop v125).OK := fun i v125 k0_hw47 k0_h5 => k0_hw47.1 k0_h5
theorem k0_t7_ok : ∀ (i : grid0.Coords) (v125 : BitVec 32) (k0_hw47 : k0_chk47 i v125), ∀ (k0_h5 : k0_cond5 i = 1#1), (k0_t7_loop v125).OK := fun i v125 k0_hw47 k0_h5 => k0_hw47.2 k0_h5

def k0_mult51 (v125 : BitVec 32) (v127 : BitVec 32) (k0_t7 : Fin (k0_t7_loop v125).trips) : BitVec 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_78 : BitVec 32 := 1#32
  let arg15 : BitVec 32 := Scf.iv v151 c1_i32_78 k0_t7
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  v154
def k0_off97 (v125 : BitVec 32) (v127 : BitVec 32) (k0_t7 : Fin (k0_t7_loop v125).trips) (c0_i32_80 : BitVec 32) : Fin 2 → Nat :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_78 : BitVec 32 := 1#32
  let arg15 : BitVec 32 := Scf.iv v151 c1_i32_78 k0_t7
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0]

def k0_chk48 (i : grid0.Coords) (v125 : BitVec 32) (v127 : BitVec 32) : Prop :=
  (∀ k0_t6 : Fin (k0_t6_loop v125).trips, ∀ (k0_h5 : k0_cond5 i = 1#1), 8 ∣ (k0_mult50 v125 v127 k0_t6).toNat) ∧
  (∀ k0_t6 : Fin (k0_t6_loop v125).trips, ∀ (k0_h5 : k0_cond5 i = 1#1), ∀ (r : Fin 4), ∀ a, S576x128.size a = 0 ∨ (k0_off96 v125 v127 k0_t6 (BitVec.ofNat 32 r.val)) a + (![4, 1] : Fin 2 → Nat) a * (S576x128.size a - 1) < S67968x128.size a) ∧
  (∀ k0_t7 : Fin (k0_t7_loop v125).trips, ∀ (k0_h5 : k0_cond5 i = 1#1), 8 ∣ (k0_mult51 v125 v127 k0_t7).toNat) ∧
  (∀ k0_t7 : Fin (k0_t7_loop v125).trips, ∀ (k0_h5 : k0_cond5 i = 1#1), ∀ (r : Fin 4), ∀ a, S576x128.size a = 0 ∨ (k0_off97 v125 v127 k0_t7 (BitVec.ofNat 32 r.val)) a + (![4, 1] : Fin 2 → Nat) a * (S576x128.size a - 1) < S67968x128.size a)
theorem k0_mult50_dvd : ∀ (i : grid0.Coords) (v125 : BitVec 32) (v127 : BitVec 32) (k0_hw48 : k0_chk48 i v125 v127) (k0_t6 : Fin (k0_t6_loop v125).trips), ∀ (k0_h5 : k0_cond5 i = 1#1), 8 ∣ (k0_mult50 v125 v127 k0_t6).toNat := fun i v125 v127 k0_hw48 k0_t6 k0_h5 => k0_hw48.1 k0_t6 k0_h5
theorem k0_off96_inb : ∀ (i : grid0.Coords) (v125 : BitVec 32) (v127 : BitVec 32) (k0_hw48 : k0_chk48 i v125 v127) (k0_t6 : Fin (k0_t6_loop v125).trips), ∀ (k0_h5 : k0_cond5 i = 1#1), ∀ (r : Fin 4), ∀ a, S576x128.size a = 0 ∨ (k0_off96 v125 v127 k0_t6 (BitVec.ofNat 32 r.val)) a + (![4, 1] : Fin 2 → Nat) a * (S576x128.size a - 1) < S67968x128.size a := fun i v125 v127 k0_hw48 k0_t6 k0_h5 r => k0_hw48.2.1 k0_t6 k0_h5 r
theorem k0_mult51_dvd : ∀ (i : grid0.Coords) (v125 : BitVec 32) (v127 : BitVec 32) (k0_hw48 : k0_chk48 i v125 v127) (k0_t7 : Fin (k0_t7_loop v125).trips), ∀ (k0_h5 : k0_cond5 i = 1#1), 8 ∣ (k0_mult51 v125 v127 k0_t7).toNat := fun i v125 v127 k0_hw48 k0_t7 k0_h5 => k0_hw48.2.2.1 k0_t7 k0_h5
theorem k0_off97_inb : ∀ (i : grid0.Coords) (v125 : BitVec 32) (v127 : BitVec 32) (k0_hw48 : k0_chk48 i v125 v127) (k0_t7 : Fin (k0_t7_loop v125).trips), ∀ (k0_h5 : k0_cond5 i = 1#1), ∀ (r : Fin 4), ∀ a, S576x128.size a = 0 ∨ (k0_off97 v125 v127 k0_t7 (BitVec.ofNat 32 r.val)) a + (![4, 1] : Fin 2 → Nat) a * (S576x128.size a - 1) < S67968x128.size a := fun i v125 v127 k0_hw48 k0_t7 k0_h5 r => k0_hw48.2.2.2 k0_t7 k0_h5 r

def k0_cond6 (i : grid0.Coords) : BitVec 1 :=
  let arg1 : BitVec 32 := BitVec.ofNat 32 (i 1).val
  let c25_i32_21 : BitVec 32 := 25#32
  let v45 : BitVec 32 := Scalar.subi arg1 c25_i32_21
  let c0_i32_22 : BitVec 32 := 0#32
  let v46 : BitVec 1 := Scalar.cmpi .eq v45 c0_i32_22
  let v47 : BitVec 32 := Scalar.extui v46
  let c0_i32_23 : BitVec 32 := 0#32
  let v48 : BitVec 1 := Scalar.cmpi .ne v47 c0_i32_23
  v48

@[reducible] def k0_t8_loop : Scf.Loop 32 :=
  let c0_i32_45 : BitVec 32 := 0#32
  let c512_i32 : BitVec 32 := 512#32
  let v86 : BitVec 32 := Scalar.addi c0_i32_45 c512_i32
  let c1_i32_46 : BitVec 32 := 1#32
  ⟨c0_i32_45, v86, c1_i32_46⟩
def k0_off98 (k0_t8 : Fin k0_t8_loop.trips) : Fin 1 → Nat :=
  let c0_i32_48 : BitVec 32 := 0#32
  let c0_i32_45 : BitVec 32 := 0#32
  let c1_i32_46 : BitVec 32 := 1#32
  let arg15 : BitVec 32 := Scf.iv c0_i32_45 c1_i32_46 k0_t8
  let v87 : BitVec 32 := Scalar.addi c0_i32_48 arg15
  let v88 : Index := Scalar.indexCast v87
  ![v88.toNat]
def k0_mult52 (k0_t8 : Fin k0_t8_loop.trips) : BitVec 32 :=
  let c0_i32_49 : BitVec 32 := 0#32
  let c0_i32_45 : BitVec 32 := 0#32
  let c1_i32_46 : BitVec 32 := 1#32
  let arg15 : BitVec 32 := Scf.iv c0_i32_45 c1_i32_46 k0_t8
  let v90 : BitVec 32 := Scalar.addi c0_i32_49 arg15
  let c4_i32 : BitVec 32 := 4#32
  let v91 : BitVec 32 := Scalar.muli v90 c4_i32
  v91
def k0_mult53 (v89 : BitVec 32) : BitVec 32 :=
  v89

def k0_off99 (v89 : BitVec 32) : Fin 2 → Nat :=
  let v93 : BitVec 32 := v89
  let v94 : Index := Scalar.indexCast v93
  let c0 : Index := 0#32
  ![v94.toNat, 0]

def k0_chk49 (i : grid0.Coords) (v89 : BitVec 32) : Prop :=
  (∀ (k0_h6 : k0_cond6 i = 1#1), 4 ∣ (k0_mult53 v89).toNat) ∧
  (∀ (k0_h6 : k0_cond6 i = 1#1), ∀ a, (k0_off99 v89) a + S4x128.size a ≤ S67968x128.size a)
theorem k0_mult53_dvd : ∀ (i : grid0.Coords) (v89 : BitVec 32) (k0_hw49 : k0_chk49 i v89), ∀ (k0_h6 : k0_cond6 i = 1#1), 4 ∣ (k0_mult53 v89).toNat := fun i v89 k0_hw49 k0_h6 => k0_hw49.1 k0_h6
theorem k0_off99_inb : ∀ (i : grid0.Coords) (v89 : BitVec 32) (k0_hw49 : k0_chk49 i v89), ∀ (k0_h6 : k0_cond6 i = 1#1), ∀ a, (k0_off99 v89) a + S4x128.size a ≤ S67968x128.size a := fun i v89 k0_hw49 k0_h6 => k0_hw49.2 k0_h6

def k0_off100 (k0_t8 : Fin k0_t8_loop.trips) : Fin 2 → Nat :=
  let c0_i32_49 : BitVec 32 := 0#32
  let c0_i32_45 : BitVec 32 := 0#32
  let c1_i32_46 : BitVec 32 := 1#32
  let arg15 : BitVec 32 := Scf.iv c0_i32_45 c1_i32_46 k0_t8
  let v90 : BitVec 32 := Scalar.addi c0_i32_49 arg15
  let c4_i32 : BitVec 32 := 4#32
  let v91 : BitVec 32 := Scalar.muli v90 c4_i32
  let v92 : BitVec 32 := v91
  let v96 : Index := Scalar.indexCast v92
  let c0_50 : Index := 0#32
  ![v96.toNat, 0]
def k0_off101 (k0_t8 : Fin k0_t8_loop.trips) : Fin 1 → Nat :=
  let c8192_i32 : BitVec 32 := 8192#32
  let c0_i32_45 : BitVec 32 := 0#32
  let c1_i32_46 : BitVec 32 := 1#32
  let arg15 : BitVec 32 := Scf.iv c0_i32_45 c1_i32_46 k0_t8
  let v100 : BitVec 32 := Scalar.addi c8192_i32 arg15
  let v101 : Index := Scalar.indexCast v100
  ![v101.toNat]
def k0_mult54 (k0_t8 : Fin k0_t8_loop.trips) : BitVec 32 :=
  let c512_i32_51 : BitVec 32 := 512#32
  let c0_i32_45 : BitVec 32 := 0#32
  let c1_i32_46 : BitVec 32 := 1#32
  let arg15 : BitVec 32 := Scf.iv c0_i32_45 c1_i32_46 k0_t8
  let v103 : BitVec 32 := Scalar.addi c512_i32_51 arg15
  let c4_i32_52 : BitVec 32 := 4#32
  let v104 : BitVec 32 := Scalar.muli v103 c4_i32_52
  v104
def k0_mult55 (v102 : BitVec 32) : BitVec 32 :=
  v102

def k0_off102 (v102 : BitVec 32) : Fin 2 → Nat :=
  let v106 : BitVec 32 := v102
  let v107 : Index := Scalar.indexCast v106
  let c0_53 : Index := 0#32
  ![v107.toNat, 0]

def k0_chk50 (i : grid0.Coords) (v102 : BitVec 32) : Prop :=
  (∀ (k0_h6 : k0_cond6 i = 1#1), 4 ∣ (k0_mult55 v102).toNat) ∧
  (∀ (k0_h6 : k0_cond6 i = 1#1), ∀ a, (k0_off102 v102) a + S4x128.size a ≤ S67968x128.size a)
theorem k0_mult55_dvd : ∀ (i : grid0.Coords) (v102 : BitVec 32) (k0_hw50 : k0_chk50 i v102), ∀ (k0_h6 : k0_cond6 i = 1#1), 4 ∣ (k0_mult55 v102).toNat := fun i v102 k0_hw50 k0_h6 => k0_hw50.1 k0_h6
theorem k0_off102_inb : ∀ (i : grid0.Coords) (v102 : BitVec 32) (k0_hw50 : k0_chk50 i v102), ∀ (k0_h6 : k0_cond6 i = 1#1), ∀ a, (k0_off102 v102) a + S4x128.size a ≤ S67968x128.size a := fun i v102 k0_hw50 k0_h6 => k0_hw50.2 k0_h6

def k0_off103 (k0_t8 : Fin k0_t8_loop.trips) : Fin 2 → Nat :=
  let c512_i32_51 : BitVec 32 := 512#32
  let c0_i32_45 : BitVec 32 := 0#32
  let c1_i32_46 : BitVec 32 := 1#32
  let arg15 : BitVec 32 := Scf.iv c0_i32_45 c1_i32_46 k0_t8
  let v103 : BitVec 32 := Scalar.addi c512_i32_51 arg15
  let c4_i32_52 : BitVec 32 := 4#32
  let v104 : BitVec 32 := Scalar.muli v103 c4_i32_52
  let v105 : BitVec 32 := v104
  let v109 : Index := Scalar.indexCast v105
  let c0_54 : Index := 0#32
  ![v109.toNat, 0]
def k0_cond7 (i : grid0.Coords) : BitVec 1 :=
  let arg1 : BitVec 32 := BitVec.ofNat 32 (i 1).val
  let c25_i32_21 : BitVec 32 := 25#32
  let v45 : BitVec 32 := Scalar.subi arg1 c25_i32_21
  let c1_i32_24 : BitVec 32 := 1#32
  let v49 : BitVec 1 := Scalar.cmpi .sge v45 c1_i32_24
  let c16_i32 : BitVec 32 := 16#32
  let v50 : BitVec 1 := Scalar.cmpi .slt v45 c16_i32
  let v51 : BitVec 1 := Scalar.andi v49 v50
  let c2_i32_25 : BitVec 32 := 2#32
  let c0_i32_26 : BitVec 32 := 0#32
  let v52 : BitVec 1 := Scalar.cmpi .eq c2_i32_25 c0_i32_26
  let c1_i32_27 : BitVec 32 := 1#32
  let v53 : BitVec 32 := Scalar.select v52 c1_i32_27 c2_i32_25
  let v54 : BitVec 32 := Scalar.remsi v45 v53
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let c0_i32_28 : BitVec 32 := 0#32
  let v55 : BitVec 1 := Scalar.cmpi .ne v54 c0_i32_28
  let v59 : BitVec 1 := Scalar.andi v58 v55
  let v60 : BitVec 32 := Scalar.addi v54 v53
  let v61 : BitVec 32 := Scalar.select v59 v60 v54
  let c0_i32_31 : BitVec 32 := 0#32
  let v62 : BitVec 1 := Scalar.cmpi .eq v61 c0_i32_31
  let v63 : BitVec 1 := Scalar.andi v51 v62
  let v64 : BitVec 32 := Scalar.extui v63
  let c0_i32_32 : BitVec 32 := 0#32
  let v65 : BitVec 1 := Scalar.cmpi .ne v64 c0_i32_32
  v65

@[reducible] def k0_t9_loop : Scf.Loop 32 :=
  let c0_i32_45 : BitVec 32 := 0#32
  let c512_i32_46 : BitVec 32 := 512#32
  let v87 : BitVec 32 := Scalar.addi c0_i32_45 c512_i32_46
  let c1_i32_47 : BitVec 32 := 1#32
  ⟨c0_i32_45, v87, c1_i32_47⟩
def k0_off104 (i : grid0.Coords) (k0_t9 : Fin k0_t9_loop.trips) : Fin 1 → Nat :=
  let c0_i32_99 : BitVec 32 := 0#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v212 : BitVec 32 := Scalar.addi c0_i32_99 v86
  let c0_i32_45 : BitVec 32 := 0#32
  let c1_i32_47 : BitVec 32 := 1#32
  let arg15 : BitVec 32 := Scf.iv c0_i32_45 c1_i32_47 k0_t9
  let v213 : BitVec 32 := Scalar.addi v212 arg15
  let v214 : Index := Scalar.indexCast v213
  ![v214.toNat]
def k0_mult56 (k0_t9 : Fin k0_t9_loop.trips) : BitVec 32 :=
  let c0_i32_100 : BitVec 32 := 0#32
  let c0_i32_45 : BitVec 32 := 0#32
  let c1_i32_47 : BitVec 32 := 1#32
  let arg15 : BitVec 32 := Scf.iv c0_i32_45 c1_i32_47 k0_t9
  let v216 : BitVec 32 := Scalar.addi c0_i32_100 arg15
  let c4_i32 : BitVec 32 := 4#32
  let v217 : BitVec 32 := Scalar.muli v216 c4_i32
  v217
def k0_mult57 (v215 : BitVec 32) : BitVec 32 :=
  v215

def k0_off105 (v215 : BitVec 32) : Fin 2 → Nat :=
  let v219 : BitVec 32 := v215
  let v220 : Index := Scalar.indexCast v219
  let c0_101 : Index := 0#32
  ![v220.toNat, 0]

def k0_chk51 (i : grid0.Coords) (v215 : BitVec 32) : Prop :=
  (∀ (k0_h7 : k0_cond7 i = 1#1), 4 ∣ (k0_mult57 v215).toNat) ∧
  (∀ (k0_h7 : k0_cond7 i = 1#1), ∀ a, (k0_off105 v215) a + S4x128.size a ≤ S67968x128.size a)
theorem k0_mult57_dvd : ∀ (i : grid0.Coords) (v215 : BitVec 32) (k0_hw51 : k0_chk51 i v215), ∀ (k0_h7 : k0_cond7 i = 1#1), 4 ∣ (k0_mult57 v215).toNat := fun i v215 k0_hw51 k0_h7 => k0_hw51.1 k0_h7
theorem k0_off105_inb : ∀ (i : grid0.Coords) (v215 : BitVec 32) (k0_hw51 : k0_chk51 i v215), ∀ (k0_h7 : k0_cond7 i = 1#1), ∀ a, (k0_off105 v215) a + S4x128.size a ≤ S67968x128.size a := fun i v215 k0_hw51 k0_h7 => k0_hw51.2 k0_h7

def k0_off106 (k0_t9 : Fin k0_t9_loop.trips) : Fin 2 → Nat :=
  let c0_i32_100 : BitVec 32 := 0#32
  let c0_i32_45 : BitVec 32 := 0#32
  let c1_i32_47 : BitVec 32 := 1#32
  let arg15 : BitVec 32 := Scf.iv c0_i32_45 c1_i32_47 k0_t9
  let v216 : BitVec 32 := Scalar.addi c0_i32_100 arg15
  let c4_i32 : BitVec 32 := 4#32
  let v217 : BitVec 32 := Scalar.muli v216 c4_i32
  let v218 : BitVec 32 := v217
  let v222 : Index := Scalar.indexCast v218
  let c0_102 : Index := 0#32
  ![v222.toNat, 0]
def k0_off107 (i : grid0.Coords) (k0_t9 : Fin k0_t9_loop.trips) : Fin 1 → Nat :=
  let c8192_i32 : BitVec 32 := 8192#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v226 : BitVec 32 := Scalar.addi c8192_i32 v86
  let c0_i32_45 : BitVec 32 := 0#32
  let c1_i32_47 : BitVec 32 := 1#32
  let arg15 : BitVec 32 := Scf.iv c0_i32_45 c1_i32_47 k0_t9
  let v227 : BitVec 32 := Scalar.addi v226 arg15
  let v228 : Index := Scalar.indexCast v227
  ![v228.toNat]
def k0_mult58 (k0_t9 : Fin k0_t9_loop.trips) : BitVec 32 :=
  let c512_i32_103 : BitVec 32 := 512#32
  let c0_i32_45 : BitVec 32 := 0#32
  let c1_i32_47 : BitVec 32 := 1#32
  let arg15 : BitVec 32 := Scf.iv c0_i32_45 c1_i32_47 k0_t9
  let v230 : BitVec 32 := Scalar.addi c512_i32_103 arg15
  let c4_i32_104 : BitVec 32 := 4#32
  let v231 : BitVec 32 := Scalar.muli v230 c4_i32_104
  v231
def k0_mult59 (v229 : BitVec 32) : BitVec 32 :=
  v229

def k0_off108 (v229 : BitVec 32) : Fin 2 → Nat :=
  let v233 : BitVec 32 := v229
  let v234 : Index := Scalar.indexCast v233
  let c0_105 : Index := 0#32
  ![v234.toNat, 0]

def k0_chk52 (i : grid0.Coords) (v229 : BitVec 32) : Prop :=
  (∀ (k0_h7 : k0_cond7 i = 1#1), 4 ∣ (k0_mult59 v229).toNat) ∧
  (∀ (k0_h7 : k0_cond7 i = 1#1), ∀ a, (k0_off108 v229) a + S4x128.size a ≤ S67968x128.size a)
theorem k0_mult59_dvd : ∀ (i : grid0.Coords) (v229 : BitVec 32) (k0_hw52 : k0_chk52 i v229), ∀ (k0_h7 : k0_cond7 i = 1#1), 4 ∣ (k0_mult59 v229).toNat := fun i v229 k0_hw52 k0_h7 => k0_hw52.1 k0_h7
theorem k0_off108_inb : ∀ (i : grid0.Coords) (v229 : BitVec 32) (k0_hw52 : k0_chk52 i v229), ∀ (k0_h7 : k0_cond7 i = 1#1), ∀ a, (k0_off108 v229) a + S4x128.size a ≤ S67968x128.size a := fun i v229 k0_hw52 k0_h7 => k0_hw52.2 k0_h7

def k0_off109 (k0_t9 : Fin k0_t9_loop.trips) : Fin 2 → Nat :=
  let c512_i32_103 : BitVec 32 := 512#32
  let c0_i32_45 : BitVec 32 := 0#32
  let c1_i32_47 : BitVec 32 := 1#32
  let arg15 : BitVec 32 := Scf.iv c0_i32_45 c1_i32_47 k0_t9
  let v230 : BitVec 32 := Scalar.addi c512_i32_103 arg15
  let c4_i32_104 : BitVec 32 := 4#32
  let v231 : BitVec 32 := Scalar.muli v230 c4_i32_104
  let v232 : BitVec 32 := v231
  let v236 : Index := Scalar.indexCast v232
  let c0_106 : Index := 0#32
  ![v236.toNat, 0]
def k0_cond8 (i : grid0.Coords) : BitVec 1 :=
  let arg1 : BitVec 32 := BitVec.ofNat 32 (i 1).val
  let c25_i32_21 : BitVec 32 := 25#32
  let v45 : BitVec 32 := Scalar.subi arg1 c25_i32_21
  let c1_i32_33 : BitVec 32 := 1#32
  let v66 : BitVec 1 := Scalar.cmpi .sge v45 c1_i32_33
  let c16_i32_34 : BitVec 32 := 16#32
  let v67 : BitVec 1 := Scalar.cmpi .slt v45 c16_i32_34
  let v68 : BitVec 1 := Scalar.andi v66 v67
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi v45 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c1_i32_41 : BitVec 32 := 1#32
  let v79 : BitVec 1 := Scalar.cmpi .eq v78 c1_i32_41
  let v80 : BitVec 1 := Scalar.andi v68 v79
  let v81 : BitVec 32 := Scalar.extui v80
  let c0_i32_42 : BitVec 32 := 0#32
  let v82 : BitVec 1 := Scalar.cmpi .ne v81 c0_i32_42
  v82

@[reducible] def k0_t10_loop : Scf.Loop 32 :=
  let c0_i32_45 : BitVec 32 := 0#32
  let c512_i32_46 : BitVec 32 := 512#32
  let v87 : BitVec 32 := Scalar.addi c0_i32_45 c512_i32_46
  let c1_i32_47 : BitVec 32 := 1#32
  ⟨c0_i32_45, v87, c1_i32_47⟩
def k0_off110 (i : grid0.Coords) (k0_t10 : Fin k0_t10_loop.trips) : Fin 1 → Nat :=
  let c0_i32_99 : BitVec 32 := 0#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v212 : BitVec 32 := Scalar.addi c0_i32_99 v86
  let c0_i32_45 : BitVec 32 := 0#32
  let c1_i32_47 : BitVec 32 := 1#32
  let arg15 : BitVec 32 := Scf.iv c0_i32_45 c1_i32_47 k0_t10
  let v213 : BitVec 32 := Scalar.addi v212 arg15
  let v214 : Index := Scalar.indexCast v213
  ![v214.toNat]
def k0_mult60 (k0_t10 : Fin k0_t10_loop.trips) : BitVec 32 :=
  let c0_i32_100 : BitVec 32 := 0#32
  let c0_i32_45 : BitVec 32 := 0#32
  let c1_i32_47 : BitVec 32 := 1#32
  let arg15 : BitVec 32 := Scf.iv c0_i32_45 c1_i32_47 k0_t10
  let v216 : BitVec 32 := Scalar.addi c0_i32_100 arg15
  let c4_i32 : BitVec 32 := 4#32
  let v217 : BitVec 32 := Scalar.muli v216 c4_i32
  v217
def k0_mult61 (v215 : BitVec 32) : BitVec 32 :=
  v215

def k0_off111 (v215 : BitVec 32) : Fin 2 → Nat :=
  let v219 : BitVec 32 := v215
  let v220 : Index := Scalar.indexCast v219
  let c0_101 : Index := 0#32
  ![v220.toNat, 0]

def k0_chk53 (i : grid0.Coords) (v215 : BitVec 32) : Prop :=
  (∀ (k0_h8 : k0_cond8 i = 1#1), 4 ∣ (k0_mult61 v215).toNat) ∧
  (∀ (k0_h8 : k0_cond8 i = 1#1), ∀ a, (k0_off111 v215) a + S4x128.size a ≤ S67968x128.size a)
theorem k0_mult61_dvd : ∀ (i : grid0.Coords) (v215 : BitVec 32) (k0_hw53 : k0_chk53 i v215), ∀ (k0_h8 : k0_cond8 i = 1#1), 4 ∣ (k0_mult61 v215).toNat := fun i v215 k0_hw53 k0_h8 => k0_hw53.1 k0_h8
theorem k0_off111_inb : ∀ (i : grid0.Coords) (v215 : BitVec 32) (k0_hw53 : k0_chk53 i v215), ∀ (k0_h8 : k0_cond8 i = 1#1), ∀ a, (k0_off111 v215) a + S4x128.size a ≤ S67968x128.size a := fun i v215 k0_hw53 k0_h8 => k0_hw53.2 k0_h8

def k0_off112 (k0_t10 : Fin k0_t10_loop.trips) : Fin 2 → Nat :=
  let c0_i32_100 : BitVec 32 := 0#32
  let c0_i32_45 : BitVec 32 := 0#32
  let c1_i32_47 : BitVec 32 := 1#32
  let arg15 : BitVec 32 := Scf.iv c0_i32_45 c1_i32_47 k0_t10
  let v216 : BitVec 32 := Scalar.addi c0_i32_100 arg15
  let c4_i32 : BitVec 32 := 4#32
  let v217 : BitVec 32 := Scalar.muli v216 c4_i32
  let v218 : BitVec 32 := v217
  let v222 : Index := Scalar.indexCast v218
  let c0_102 : Index := 0#32
  ![v222.toNat, 0]
def k0_off113 (i : grid0.Coords) (k0_t10 : Fin k0_t10_loop.trips) : Fin 1 → Nat :=
  let c8192_i32 : BitVec 32 := 8192#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v226 : BitVec 32 := Scalar.addi c8192_i32 v86
  let c0_i32_45 : BitVec 32 := 0#32
  let c1_i32_47 : BitVec 32 := 1#32
  let arg15 : BitVec 32 := Scf.iv c0_i32_45 c1_i32_47 k0_t10
  let v227 : BitVec 32 := Scalar.addi v226 arg15
  let v228 : Index := Scalar.indexCast v227
  ![v228.toNat]
def k0_mult62 (k0_t10 : Fin k0_t10_loop.trips) : BitVec 32 :=
  let c512_i32_103 : BitVec 32 := 512#32
  let c0_i32_45 : BitVec 32 := 0#32
  let c1_i32_47 : BitVec 32 := 1#32
  let arg15 : BitVec 32 := Scf.iv c0_i32_45 c1_i32_47 k0_t10
  let v230 : BitVec 32 := Scalar.addi c512_i32_103 arg15
  let c4_i32_104 : BitVec 32 := 4#32
  let v231 : BitVec 32 := Scalar.muli v230 c4_i32_104
  v231
def k0_mult63 (v229 : BitVec 32) : BitVec 32 :=
  v229

def k0_off114 (v229 : BitVec 32) : Fin 2 → Nat :=
  let v233 : BitVec 32 := v229
  let v234 : Index := Scalar.indexCast v233
  let c0_105 : Index := 0#32
  ![v234.toNat, 0]

def k0_chk54 (i : grid0.Coords) (v229 : BitVec 32) : Prop :=
  (∀ (k0_h8 : k0_cond8 i = 1#1), 4 ∣ (k0_mult63 v229).toNat) ∧
  (∀ (k0_h8 : k0_cond8 i = 1#1), ∀ a, (k0_off114 v229) a + S4x128.size a ≤ S67968x128.size a)
theorem k0_mult63_dvd : ∀ (i : grid0.Coords) (v229 : BitVec 32) (k0_hw54 : k0_chk54 i v229), ∀ (k0_h8 : k0_cond8 i = 1#1), 4 ∣ (k0_mult63 v229).toNat := fun i v229 k0_hw54 k0_h8 => k0_hw54.1 k0_h8
theorem k0_off114_inb : ∀ (i : grid0.Coords) (v229 : BitVec 32) (k0_hw54 : k0_chk54 i v229), ∀ (k0_h8 : k0_cond8 i = 1#1), ∀ a, (k0_off114 v229) a + S4x128.size a ≤ S67968x128.size a := fun i v229 k0_hw54 k0_h8 => k0_hw54.2 k0_h8

def k0_off115 (k0_t10 : Fin k0_t10_loop.trips) : Fin 2 → Nat :=
  let c512_i32_103 : BitVec 32 := 512#32
  let c0_i32_45 : BitVec 32 := 0#32
  let c1_i32_47 : BitVec 32 := 1#32
  let arg15 : BitVec 32 := Scf.iv c0_i32_45 c1_i32_47 k0_t10
  let v230 : BitVec 32 := Scalar.addi c512_i32_103 arg15
  let c4_i32_104 : BitVec 32 := 4#32
  let v231 : BitVec 32 := Scalar.muli v230 c4_i32_104
  let v232 : BitVec 32 := v231
  let v236 : Index := Scalar.indexCast v232
  let c0_106 : Index := 0#32
  ![v236.toNat, 0]
def k0_cond9 (i : grid0.Coords) : BitVec 1 :=
  let arg1 : BitVec 32 := BitVec.ofNat 32 (i 1).val
  let c25_i32_21 : BitVec 32 := 25#32
  let v45 : BitVec 32 := Scalar.subi arg1 c25_i32_21
  let c16_i32_43 : BitVec 32 := 16#32
  let v83 : BitVec 1 := Scalar.cmpi .eq v45 c16_i32_43
  let v84 : BitVec 32 := Scalar.extui v83
  let c0_i32_44 : BitVec 32 := 0#32
  let v85 : BitVec 1 := Scalar.cmpi .ne v84 c0_i32_44
  v85

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![c0_i32_0.toNat, v5.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![v5.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelI.lean ====
abbrev S64 : Shape := ⟨1, ![64]⟩
abbrev S16384x1024 : Shape := ⟨2, ![16384, 1024]⟩
abbrev S32768 : Shape := ⟨1, ![32768]⟩
abbrev S32x1024x256 : Shape := ⟨3, ![32, 1024, 256]⟩
abbrev S32x256x1024 : Shape := ⟨3, ![32, 256, 1024]⟩
abbrev S8x16384 : Shape := ⟨2, ![8, 16384]⟩
abbrev S1024x1024 : Shape := ⟨2, ![1024, 1024]⟩
abbrev S16384 : Shape := ⟨1, ![16384]⟩
abbrev S2x1024x256 : Shape := ⟨3, ![2, 1024, 256]⟩
abbrev S2x256x1024 : Shape := ⟨3, ![2, 256, 1024]⟩
abbrev S512x1024 : Shape := ⟨2, ![512, 1024]⟩
abbrev S8x512 : Shape := ⟨2, ![8, 512]⟩
abbrev S67968x128 : Shape := ⟨2, ![67968, 128]⟩
abbrev S67968x2x128 : Shape := ⟨3, ![67968, 2, 128]⟩
abbrev S67968x1x128 : Shape := ⟨3, ![67968, 1, 128]⟩
abbrev S4096x128 : Shape := ⟨2, ![4096, 128]⟩
abbrev S4096x2x128 : Shape := ⟨3, ![4096, 2, 128]⟩
abbrev S4096x1x128 : Shape := ⟨3, ![4096, 1, 128]⟩
abbrev S4x128 : Shape := ⟨2, ![4, 128]⟩
abbrev S1 : Shape := ⟨1, ![1]⟩
abbrev S4x2x128 : Shape := ⟨3, ![4, 2, 128]⟩
abbrev S4x1x128 : Shape := ⟨3, ![4, 1, 128]⟩
abbrev S2432x128 : Shape := ⟨2, ![2432, 128]⟩
abbrev S2432x2x128 : Shape := ⟨3, ![2432, 2, 128]⟩
abbrev S2432x1x128 : Shape := ⟨3, ![2432, 1, 128]⟩
abbrev S1024x128 : Shape := ⟨2, ![1024, 128]⟩
abbrev S1024x2x128 : Shape := ⟨3, ![1024, 2, 128]⟩
abbrev S1024x1x128 : Shape := ⟨3, ![1024, 1, 128]⟩
abbrev S8x128 : Shape := ⟨2, ![8, 128]⟩
abbrev S8x2x128 : Shape := ⟨3, ![8, 2, 128]⟩
abbrev S8x1x128 : Shape := ⟨3, ![8, 1, 128]⟩
abbrev S576x128 : Shape := ⟨2, ![576, 128]⟩
abbrev S576x2x128 : Shape := ⟨3, ![576, 2, 128]⟩
abbrev S576x1x128 : Shape := ⟨3, ![576, 1, 128]⟩
abbrev S1152x128 : Shape := ⟨2, ![1152, 128]⟩
abbrev S576x256 : Shape := ⟨2, ![576, 256]⟩
abbrev S1x256x256 : Shape := ⟨3, ![1, 256, 256]⟩
abbrev S256x256 : Shape := ⟨2, ![256, 256]⟩
abbrev S1x256x1024 : Shape := ⟨3, ![1, 256, 1024]⟩
abbrev S256x1024 : Shape := ⟨2, ![256, 1024]⟩
abbrev S576x1024 : Shape := ⟨2, ![576, 1024]⟩
abbrev S576x1 : Shape := ⟨2, ![576, 1]⟩
abbrev S512x8 : Shape := ⟨2, ![512, 8]⟩
abbrev S512x1 : Shape := ⟨2, ![512, 1]⟩
abbrev S512x128 : Shape := ⟨2, ![512, 128]⟩
abbrev S512x2x128 : Shape := ⟨3, ![512, 2, 128]⟩
abbrev S512x1x128 : Shape := ⟨3, ![512, 1, 128]⟩

abbrev nBuf : Space → Nat
  | .hbm => 8
  | .vmem => 17
  | .smem => 4
  | _ => 0

abbrev bufTy : (tb : Table) → Fin (tcTables nBuf tb) → BufTy
  | .hbm, ⟨0, _⟩ => ⟨S16384x1024, .bf16⟩
  | .hbm, ⟨1, _⟩ => ⟨S32768, .i32⟩
  | .hbm, ⟨2, _⟩ => ⟨S32x1024x256, .bf16⟩
  | .hbm, ⟨3, _⟩ => ⟨S32x1024x256, .bf16⟩
  | .hbm, ⟨4, _⟩ => ⟨S32x256x1024, .bf16⟩
  | .hbm, ⟨5, _⟩ => ⟨S16384x1024, .f32⟩
  | .hbm, ⟨6, _⟩ => ⟨S8x16384, .f32⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x256, .bf16⟩
  | .local _ .vmem, ⟨3, _⟩ => ⟨S2x1024x256, .bf16⟩
  | .local _ .vmem, ⟨4, _⟩ => ⟨S2x1024x256, .bf16⟩
  | .local _ .vmem, ⟨5, _⟩ => ⟨S2x1024x256, .bf16⟩
  | .local _ .vmem, ⟨6, _⟩ => ⟨S2x256x1024, .bf16⟩
  | .local _ .vmem, ⟨7, _⟩ => ⟨S2x256x1024, .bf16⟩
  | .local _ .vmem, ⟨8, _⟩ => ⟨S512x1024, .f32⟩
  | .local _ .vmem, ⟨9, _⟩ => ⟨S512x1024, .f32⟩
  | .local _ .vmem, ⟨10, _⟩ => ⟨S8x512, .f32⟩
  | .local _ .vmem, ⟨11, _⟩ => ⟨S8x512, .f32⟩
  | .local _ .vmem, ⟨12, _⟩ => ⟨S512x1024, .f32⟩
  | .local _ .vmem, ⟨13, _⟩ => ⟨S512x1024, .f32⟩
  | .local _ .vmem, ⟨14, _⟩ => ⟨S67968x2x128, .bf16⟩
  | .local _ .vmem, ⟨15, _⟩ => ⟨S4096x2x128, .bf16⟩
  | .local _ .vmem, ⟨16, _⟩ => ⟨S4096x2x128, .bf16⟩
  | .local _ .smem, ⟨0, _⟩ => ⟨S64, .i32⟩
  | .local _ .smem, ⟨1, _⟩ => ⟨S64, .i32⟩
  | .local _ .smem, ⟨2, _⟩ => ⟨S16384, .i32⟩
  | .local _ .smem, ⟨3, _⟩ => ⟨S16384, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 42], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let c32_i32 : BitVec 32 := 32#32
  let v87 : BitVec 32 := Scalar.muli arg0 c32_i32
  let c0_i32_46 : BitVec 32 := 0#32
  let v88 : BitVec 32 := Scalar.addi v87 c0_i32_46
  let v89 : Index := Scalar.indexCast v88
  ![v89.toNat]
def k0_mult1 (v90 : BitVec 32) (v94 : BitVec 32) : BitVec 32 :=
  let v95 : BitVec 32 := Scalar.addi v90 v94
  let c4_i32 : BitVec 32 := 4#32
  let v96 : BitVec 32 := Scalar.muli v95 c4_i32
  v96

def k0_off2 (v90 : BitVec 32) (v94 : BitVec 32) : Fin 3 → Nat :=
  let v95 : BitVec 32 := Scalar.addi v90 v94
  let c4_i32 : BitVec 32 := 4#32
  let v96 : BitVec 32 := Scalar.muli v95 c4_i32
  let v97 : BitVec 32 := v96
  let v98 : Index := Scalar.indexCast v97
  let c0 : Index := 0#32
  ![v98.toNat, 0, 0]

def k0_chk1 (i : grid0.Coords) (v90 : BitVec 32) (v94 : BitVec 32) : Prop :=
  (∀ (k0_h1 : k0_cond1 i = 1#1), 4 ∣ (k0_mult1 v90 v94).toNat) ∧
  (∀ (k0_h1 : k0_cond1 i = 1#1), ∀ a, (k0_off2 v90 v94) a + S4x2x128.size a ≤ S67968x2x128.size a)
theorem k0_mult1_dvd : ∀ (i : grid0.Coords) (v90 : BitVec 32) (v94 : BitVec 32) (k0_hw1 : k0_chk1 i v90 v94), ∀ (k0_h1 : k0_cond1 i = 1#1), 4 ∣ (k0_mult1 v90 v94).toNat := fun i v90 v94 k0_hw1 k0_h1 => k0_hw1.1 k0_h1
theorem k0_off2_inb : ∀ (i : grid0.Coords) (v90 : BitVec 32) (v94 : BitVec 32) (k0_hw1 : k0_chk1 i v90 v94), ∀ (k0_h1 : k0_cond1 i = 1#1), ∀ a, (k0_off2 v90 v94) a + S4x2x128.size a ≤ S67968x2x128.size a := fun i v90 v94 k0_hw1 k0_h1 => k0_hw1.2 k0_h1

def k0_off3 (i : grid0.Coords) : Fin 1 → Nat :=
  let arg0 : BitVec 32 := BitVec.ofNat 32 (i 0).val
  let c32_i32_49 : BitVec 32 := 32#32
  let v102 : BitVec 32 := Scalar.muli arg0 c32_i32_49
  let c1_i32_50 : BitVec 32 := 1#32
  let v103 : BitVec 32 := Scalar.addi v102 c1_i32_50
  let v104 : Index := Scalar.indexCast v103
  ![v104.toNat]
def k0_mult2 (v105 : BitVec 32) (v109 : BitVec 32) : BitVec 32 :=
  let v110 : BitVec 32 := Scalar.addi v105 v109
  let c4_i32_53 : BitVec 32 := 4#32
  let v111 : BitVec 32 := Scalar.muli v110 c4_i32_53
  v111

def k0_off4 (v105 : BitVec 32) (v109 : BitVec 32) : Fin 3 → Nat :=
  let v110 : BitVec 32 := Scalar.addi v105 v109
  let c4_i32_53 : BitVec 32 := 4#32
  let v111 : BitVec 32 := Scalar.muli v110 c4_i32_53
  let v112 : BitVec 32 := v111
  let v113 : Index := Scalar.indexCast v112
  let c0_54 : Index := 0#32
  ![v113.toNat, 0, 0]

def k0_chk2 (i : grid0.Coords) (v105 : BitVec 32) (v109 : BitVec 32) : Prop :=
  (∀ (k0_h1 : k0_cond1 i = 1#1), 4 ∣ (k0_mult2 v105 v109).toNat) ∧
  (∀ (k0_h1 : k0_cond1 i = 1#1), ∀ a, (k0_off4 v105 v109) a + S4x2x128.size a ≤ S67968x2x128.size a)
theorem k0_mult2_dvd : ∀ (i : grid0.Coords) (v105 : BitVec 32) (v109 : BitVec 32) (k0_hw2 : k0_chk2 i v105 v109), ∀ (k0_h1 : k0_cond1 i = 1#1), 4 ∣ (k0_mult2 v105 v109).toNat := fun i v105 v109 k0_hw2 k0_h1 => k0_hw2.1 k0_h1
theorem k0_off4_inb : ∀ (i : grid0.Coords) (v105 : BitVec 32) (v109 : BitVec 32) (k0_hw2 : k0_chk2 i v105 v109), ∀ (k0_h1 : k0_cond1 i = 1#1), ∀ a, (k0_off4 v105 v109) a + S4x2x128.size a ≤ S67968x2x128.size a := fun i v105 v109 k0_hw2 k0_h1 => k0_hw2.2 k0_h1

def k0_off5 (i : grid0.Coords) : Fin 1 → Nat :=
  let arg0 : BitVec 32 := BitVec.ofNat 32 (i 0).val
  let c32_i32_55 : BitVec 32 := 32#32
  let v117 : BitVec 32 := Scalar.muli arg0 c32_i32_55
  let c2_i32_56 : BitVec 32 := 2#32
  let v118 : BitVec 32 := Scalar.addi v117 c2_i32_56
  let v119 : Index := Scalar.indexCast v118
  ![v119.toNat]
def k0_mult3 (v120 : BitVec 32) (v124 : BitVec 32) : BitVec 32 :=
  let v125 : BitVec 32 := Scalar.addi v120 v124
  let c4_i32_59 : BitVec 32 := 4#32
  let v126 : BitVec 32 := Scalar.muli v125 c4_i32_59
  v126

def k0_off6 (v120 : BitVec 32) (v124 : BitVec 32) : Fin 3 → Nat :=
  let v125 : BitVec 32 := Scalar.addi v120 v124
  let c4_i32_59 : BitVec 32 := 4#32
  let v126 : BitVec 32 := Scalar.muli v125 c4_i32_59
  let v127 : BitVec 32 := v126
  let v128 : Index := Scalar.indexCast v127
  let c0_60 : Index := 0#32
  ![v128.toNat, 0, 0]

def k0_chk3 (i : grid0.Coords) (v120 : BitVec 32) (v124 : BitVec 32) : Prop :=
  (∀ (k0_h1 : k0_cond1 i = 1#1), 4 ∣ (k0_mult3 v120 v124).toNat) ∧
  (∀ (k0_h1 : k0_cond1 i = 1#1), ∀ a, (k0_off6 v120 v124) a + S4x2x128.size a ≤ S67968x2x128.size a)
theorem k0_mult3_dvd : ∀ (i : grid0.Coords) (v120 : BitVec 32) (v124 : BitVec 32) (k0_hw3 : k0_chk3 i v120 v124), ∀ (k0_h1 : k0_cond1 i = 1#1), 4 ∣ (k0_mult3 v120 v124).toNat := fun i v120 v124 k0_hw3 k0_h1 => k0_hw3.1 k0_h1
theorem k0_off6_inb : ∀ (i : grid0.Coords) (v120 : BitVec 32) (v124 : BitVec 32) (k0_hw3 : k0_chk3 i v120 v124), ∀ (k0_h1 : k0_cond1 i = 1#1), ∀ a, (k0_off6 v120 v124) a + S4x2x128.size a ≤ S67968x2x128.size a := fun i v120 v124 k0_hw3 k0_h1 => k0_hw3.2 k0_h1

def k0_off7 (i : grid0.Coords) : Fin 1 → Nat :=
  let arg0 : BitVec 32 := BitVec.ofNat 32 (i 0).val
  let c32_i32_61 : BitVec 32 := 32#32
  let v132 : BitVec 32 := Scalar.muli arg0 c32_i32_61
  let c3_i32 : BitVec 32 := 3#32
  let v133 : BitVec 32 := Scalar.addi v132 c3_i32
  let v134 : Index := Scalar.indexCast v133
  ![v134.toNat]
def k0_mult4 (v135 : BitVec 32) (v139 : BitVec 32) : BitVec 32 :=
  let v140 : BitVec 32 := Scalar.addi v135 v139
  let c4_i32_64 : BitVec 32 := 4#32
  let v141 : BitVec 32 := Scalar.muli v140 c4_i32_64
  v141

def k0_off8 (v135 : BitVec 32) (v139 : BitVec 32) : Fin 3 → Nat :=
  let v140 : BitVec 32 := Scalar.addi v135 v139
  let c4_i32_64 : BitVec 32 := 4#32
  let v141 : BitVec 32 := Scalar.muli v140 c4_i32_64
  let v142 : BitVec 32 := v141
  let v143 : Index := Scalar.indexCast v142
  let c0_65 : Index := 0#32
  ![v143.toNat, 0, 0]

def k0_chk4 (i : grid0.Coords) (v135 : BitVec 32) (v139 : BitVec 32) : Prop :=
  (∀ (k0_h1 : k0_cond1 i = 1#1), 4 ∣ (k0_mult4 v135 v139).toNat) ∧
  (∀ (k0_h1 : k0_cond1 i = 1#1), ∀ a, (k0_off8 v135 v139) a + S4x2x128.size a ≤ S67968x2x128.size a)
theorem k0_mult4_dvd : ∀ (i : grid0.Coords) (v135 : BitVec 32) (v139 : BitVec 32) (k0_hw4 : k0_chk4 i v135 v139), ∀ (k0_h1 : k0_cond1 i = 1#1), 4 ∣ (k0_mult4 v135 v139).toNat := fun i v135 v139 k0_hw4 k0_h1 => k0_hw4.1 k0_h1
theorem k0_off8_inb : ∀ (i : grid0.Coords) (v135 : BitVec 32) (v139 : BitVec 32) (k0_hw4 : k0_chk4 i v135 v139), ∀ (k0_h1 : k0_cond1 i = 1#1), ∀ a, (k0_off8 v135 v139) a + S4x2x128.size a ≤ S67968x2x128.size a := fun i v135 v139 k0_hw4 k0_h1 => k0_hw4.2 k0_h1

def k0_off9 (i : grid0.Coords) : Fin 1 → Nat :=
  let arg0 : BitVec 32 := BitVec.ofNat 32 (i 0).val
  let c32_i32_66 : BitVec 32 := 32#32
  let v147 : BitVec 32 := Scalar.muli arg0 c32_i32_66
  let c4_i32_67 : BitVec 32 := 4#32
  let v148 : BitVec 32 := Scalar.addi v147 c4_i32_67
  let v149 : Index := Scalar.indexCast v148
  ![v149.toNat]
def k0_mult5 (v150 : BitVec 32) (v154 : BitVec 32) : BitVec 32 :=
  let v155 : BitVec 32 := Scalar.addi v150 v154
  let c4_i32_70 : BitVec 32 := 4#32
  let v156 : BitVec 32 := Scalar.muli v155 c4_i32_70
  v156

def k0_off10 (v150 : BitVec 32) (v154 : BitVec 32) : Fin 3 → Nat :=
  let v155 : BitVec 32 := Scalar.addi v150 v154
  let c4_i32_70 : BitVec 32 := 4#32
  let v156 : BitVec 32 := Scalar.muli v155 c4_i32_70
  let v157 : BitVec 32 := v156
  let v158 : Index := Scalar.indexCast v157
  let c0_71 : Index := 0#32
  ![v158.toNat, 0, 0]

def k0_chk5 (i : grid0.Coords) (v150 : BitVec 32) (v154 : BitVec 32) : Prop :=
  (∀ (k0_h1 : k0_cond1 i = 1#1), 4 ∣ (k0_mult5 v150 v154).toNat) ∧
  (∀ (k0_h1 : k0_cond1 i = 1#1), ∀ a, (k0_off10 v150 v154) a + S4x2x128.size a ≤ S67968x2x128.size a)
theorem k0_mult5_dvd : ∀ (i : grid0.Coords) (v150 : BitVec 32) (v154 : BitVec 32) (k0_hw5 : k0_chk5 i v150 v154), ∀ (k0_h1 : k0_cond1 i = 1#1), 4 ∣ (k0_mult5 v150 v154).toNat := fun i v150 v154 k0_hw5 k0_h1 => k0_hw5.1 k0_h1
theorem k0_off10_inb : ∀ (i : grid0.Coords) (v150 : BitVec 32) (v154 : BitVec 32) (k0_hw5 : k0_chk5 i v150 v154), ∀ (k0_h1 : k0_cond1 i = 1#1), ∀ a, (k0_off10 v150 v154) a + S4x2x128.size a ≤ S67968x2x128.size a := fun i v150 v154 k0_hw5 k0_h1 => k0_hw5.2 k0_h1

def k0_off11 (i : grid0.Coords) : Fin 1 → Nat :=
  let arg0 : BitVec 32 := BitVec.ofNat 32 (i 0).val
  let c32_i32_72 : BitVec 32 := 32#32
  let v162 : BitVec 32 := Scalar.muli arg0 c32_i32_72
  let c5_i32 : BitVec 32 := 5#32
  let v163 : BitVec 32 := Scalar.addi v162 c5_i32
  let v164 : Index := Scalar.indexCast v163
  ![v164.toNat]
def k0_mult6 (v165 : BitVec 32) (v169 : BitVec 32) : BitVec 32 :=
  let v170 : BitVec 32 := Scalar.addi v165 v169
  let c4_i32_75 : BitVec 32 := 4#32
  let v171 : BitVec 32 := Scalar.muli v170 c4_i32_75
  v171

def k0_off12 (v165 : BitVec 32) (v169 : BitVec 32) : Fin 3 → Nat :=
  let v170 : BitVec 32 := Scalar.addi v165 v169
  let c4_i32_75 : BitVec 32 := 4#32
  let v171 : BitVec 32 := Scalar.muli v170 c4_i32_75
  let v172 : BitVec 32 := v171
  let v173 : Index := Scalar.indexCast v172
  let c0_76 : Index := 0#32
  ![v173.toNat, 0, 0]

def k0_chk6 (i : grid0.Coords) (v165 : BitVec 32) (v169 : BitVec 32) : Prop :=
  (∀ (k0_h1 : k0_cond1 i = 1#1), 4 ∣ (k0_mult6 v165 v169).toNat) ∧
  (∀ (k0_h1 : k0_cond1 i = 1#1), ∀ a, (k0_off12 v165 v169) a + S4x2x128.size a ≤ S67968x2x128.size a)
theorem k0_mult6_dvd : ∀ (i : grid0.Coords) (v165 : BitVec 32) (v169 : BitVec 32) (k0_hw6 : k0_chk6 i v165 v169), ∀ (k0_h1 : k0_cond1 i = 1#1), 4 ∣ (k0_mult6 v165 v169).toNat := fun i v165 v169 k0_hw6 k0_h1 => k0_hw6.1 k0_h1
theorem k0_off12_inb : ∀ (i : grid0.Coords) (v165 : BitVec 32) (v169 : BitVec 32) (k0_hw6 : k0_chk6 i v165 v169), ∀ (k0_h1 : k0_cond1 i = 1#1), ∀ a, (k0_off12 v165 v169) a + S4x2x128.size a ≤ S67968x2x128.size a := fun i v165 v169 k0_hw6 k0_h1 => k0_hw6.2 k0_h1

def k0_off13 (i : grid0.Coords) : Fin 1 → Nat :=
  let arg0 : BitVec 32 := BitVec.ofNat 32 (i 0).val
  let c32_i32_77 : BitVec 32 := 32#32
  let v177 : BitVec 32 := Scalar.muli arg0 c32_i32_77
  let c6_i32 : BitVec 32 := 6#32
  let v178 : BitVec 32 := Scalar.addi v177 c6_i32
  let v179 : Index := Scalar.indexCast v178
  ![v179.toNat]
def k0_mult7 (v180 : BitVec 32) (v184 : BitVec 32) : BitVec 32 :=
  let v185 : BitVec 32 := Scalar.addi v180 v184
  let c4_i32_80 : BitVec 32 := 4#32
  let v186 : BitVec 32 := Scalar.muli v185 c4_i32_80
  v186

def k0_off14 (v180 : BitVec 32) (v184 : BitVec 32) : Fin 3 → Nat :=
  let v185 : BitVec 32 := Scalar.addi v180 v184
  let c4_i32_80 : BitVec 32 := 4#32
  let v186 : BitVec 32 := Scalar.muli v185 c4_i32_80
  let v187 : BitVec 32 := v186
  let v188 : Index := Scalar.indexCast v187
  let c0_81 : Index := 0#32
  ![v188.toNat, 0, 0]

def k0_chk7 (i : grid0.Coords) (v180 : BitVec 32) (v184 : BitVec 32) : Prop :=
  (∀ (k0_h1 : k0_cond1 i = 1#1), 4 ∣ (k0_mult7 v180 v184).toNat) ∧
  (∀ (k0_h1 : k0_cond1 i = 1#1), ∀ a, (k0_off14 v180 v184) a + S4x2x128.size a ≤ S67968x2x128.size a)
theorem k0_mult7_dvd : ∀ (i : grid0.Coords) (v180 : BitVec 32) (v184 : BitVec 32) (k0_hw7 : k0_chk7 i v180 v184), ∀ (k0_h1 : k0_cond1 i = 1#1), 4 ∣ (k0_mult7 v180 v184).toNat := fun i v180 v184 k0_hw7 k0_h1 => k0_hw7.1 k0_h1
theorem k0_off14_inb : ∀ (i : grid0.Coords) (v180 : BitVec 32) (v184 : BitVec 32) (k0_hw7 : k0_chk7 i v180 v184), ∀ (k0_h1 : k0_cond1 i = 1#1), ∀ a, (k0_off14 v180 v184) a + S4x2x128.size a ≤ S67968x2x128.size a := fun i v180 v184 k0_hw7 k0_h1 => k0_hw7.2 k0_h1

def k0_off15 (i : grid0.Coords) : Fin 1 → Nat :=
  let arg0 : BitVec 32 := BitVec.ofNat 32 (i 0).val
  let c32_i32_82 : BitVec 32 := 32#32
  let v192 : BitVec 32 := Scalar.muli arg0 c32_i32_82
  let c7_i32 : BitVec 32 := 7#32
  let v193 : BitVec 32 := Scalar.addi v192 c7_i32
  let v194 : Index := Scalar.indexCast v193
  ![v194.toNat]
def k0_mult8 (v195 : BitVec 32) (v199 : BitVec 32) : BitVec 32 :=
  let v200 : BitVec 32 := Scalar.addi v195 v199
  let c4_i32_85 : BitVec 32 := 4#32
  let v201 : BitVec 32 := Scalar.muli v200 c4_i32_85
  v201

def k0_off16 (v195 : BitVec 32) (v199 : BitVec 32) : Fin 3 → Nat :=
  let v200 : BitVec 32 := Scalar.addi v195 v199
  let c4_i32_85 : BitVec 32 := 4#32
  let v201 : BitVec 32 := Scalar.muli v200 c4_i32_85
  let v202 : BitVec 32 := v201
  let v203 : Index := Scalar.indexCast v202
  let c0_86 : Index := 0#32
  ![v203.toNat, 0, 0]

def k0_chk8 (i : grid0.Coords) (v195 : BitVec 32) (v199 : BitVec 32) : Prop :=
  (∀ (k0_h1 : k0_cond1 i = 1#1), 4 ∣ (k0_mult8 v195 v199).toNat) ∧
  (∀ (k0_h1 : k0_cond1 i = 1#1), ∀ a, (k0_off16 v195 v199) a + S4x2x128.size a ≤ S67968x2x128.size a)
theorem k0_mult8_dvd : ∀ (i : grid0.Coords) (v195 : BitVec 32) (v199 : BitVec 32) (k0_hw8 : k0_chk8 i v195 v199), ∀ (k0_h1 : k0_cond1 i = 1#1), 4 ∣ (k0_mult8 v195 v199).toNat := fun i v195 v199 k0_hw8 k0_h1 => k0_hw8.1 k0_h1
theorem k0_off16_inb : ∀ (i : grid0.Coords) (v195 : BitVec 32) (v199 : BitVec 32) (k0_hw8 : k0_chk8 i v195 v199), ∀ (k0_h1 : k0_cond1 i = 1#1), ∀ a, (k0_off16 v195 v199) a + S4x2x128.size a ≤ S67968x2x128.size a := fun i v195 v199 k0_hw8 k0_h1 => k0_hw8.2 k0_h1

def k0_off17 (i : grid0.Coords) : Fin 1 → Nat :=
  let arg0 : BitVec 32 := BitVec.ofNat 32 (i 0).val
  let c32_i32_87 : BitVec 32 := 32#32
  let v207 : BitVec 32 := Scalar.muli arg0 c32_i32_87
  let c8_i32_88 : BitVec 32 := 8#32
  let v208 : BitVec 32 := Scalar.addi v207 c8_i32_88
  let v209 : Index := Scalar.indexCast v208
  ![v209.toNat]
def k0_mult9 (v210 : BitVec 32) (v214 : BitVec 32) : BitVec 32 :=
  let v215 : BitVec 32 := Scalar.addi v210 v214
  let c4_i32_91 : BitVec 32 := 4#32
  let v216 : BitVec 32 := Scalar.muli v215 c4_i32_91
  v216

def k0_off18 (v210 : BitVec 32) (v214 : BitVec 32) : Fin 3 → Nat :=
  let v215 : BitVec 32 := Scalar.addi v210 v214
  let c4_i32_91 : BitVec 32 := 4#32
  let v216 : BitVec 32 := Scalar.muli v215 c4_i32_91
  let v217 : BitVec 32 := v216
  let v218 : Index := Scalar.indexCast v217
  let c0_92 : Index := 0#32
  ![v218.toNat, 0, 0]

def k0_chk9 (i : grid0.Coords) (v210 : BitVec 32) (v214 : BitVec 32) : Prop :=
  (∀ (k0_h1 : k0_cond1 i = 1#1), 4 ∣ (k0_mult9 v210 v214).toNat) ∧
  (∀ (k0_h1 : k0_cond1 i = 1#1), ∀ a, (k0_off18 v210 v214) a + S4x2x128.size a ≤ S67968x2x128.size a)
theorem k0_mult9_dvd : ∀ (i : grid0.Coords) (v210 : BitVec 32) (v214 : BitVec 32) (k0_hw9 : k0_chk9 i v210 v214), ∀ (k0_h1 : k0_cond1 i = 1#1), 4 ∣ (k0_mult9 v210 v214).toNat := fun i v210 v214 k0_hw9 k0_h1 => k0_hw9.1 k0_h1
theorem k0_off18_inb : ∀ (i : grid0.Coords) (v210 : BitVec 32) (v214 : BitVec 32) (k0_hw9 : k0_chk9 i v210 v214), ∀ (k0_h1 : k0_cond1 i = 1#1), ∀ a, (k0_off18 v210 v214) a + S4x2x128.size a ≤ S67968x2x128.size a := fun i v210 v214 k0_hw9 k0_h1 => k0_hw9.2 k0_h1

def k0_off19 (i : grid0.Coords) : Fin 1 → Nat :=
  let arg0 : BitVec 32 := BitVec.ofNat 32 (i 0).val
  let c32_i32_93 : BitVec 32 := 32#32
  let v222 : BitVec 32 := Scalar.muli arg0 c32_i32_93
  let c9_i32_94 : BitVec 32 := 9#32
  let v223 : BitVec 32 := Scalar.addi v222 c9_i32_94
  let v224 : Index := Scalar.indexCast v223
  ![v224.toNat]
def k0_mult10 (v225 : BitVec 32) (v229 : BitVec 32) : BitVec 32 :=
  let v230 : BitVec 32 := Scalar.addi v225 v229
  let c4_i32_97 : BitVec 32 := 4#32
  let v231 : BitVec 32 := Scalar.muli v230 c4_i32_97
  v231

def k0_off20 (v225 : BitVec 32) (v229 : BitVec 32) : Fin 3 → Nat :=
  let v230 : BitVec 32 := Scalar.addi v225 v229
  let c4_i32_97 : BitVec 32 := 4#32
  let v231 : BitVec 32 := Scalar.muli v230 c4_i32_97
  let v232 : BitVec 32 := v231
  let v233 : Index := Scalar.indexCast v232
  let c0_98 : Index := 0#32
  ![v233.toNat, 0, 0]

def k0_chk10 (i : grid0.Coords) (v225 : BitVec 32) (v229 : BitVec 32) : Prop :=
  (∀ (k0_h1 : k0_cond1 i = 1#1), 4 ∣ (k0_mult10 v225 v229).toNat) ∧
  (∀ (k0_h1 : k0_cond1 i = 1#1), ∀ a, (k0_off20 v225 v229) a + S4x2x128.size a ≤ S67968x2x128.size a)
theorem k0_mult10_dvd : ∀ (i : grid0.Coords) (v225 : BitVec 32) (v229 : BitVec 32) (k0_hw10 : k0_chk10 i v225 v229), ∀ (k0_h1 : k0_cond1 i = 1#1), 4 ∣ (k0_mult10 v225 v229).toNat := fun i v225 v229 k0_hw10 k0_h1 => k0_hw10.1 k0_h1
theorem k0_off20_inb : ∀ (i : grid0.Coords) (v225 : BitVec 32) (v229 : BitVec 32) (k0_hw10 : k0_chk10 i v225 v229), ∀ (k0_h1 : k0_cond1 i = 1#1), ∀ a, (k0_off20 v225 v229) a + S4x2x128.size a ≤ S67968x2x128.size a := fun i v225 v229 k0_hw10 k0_h1 => k0_hw10.2 k0_h1

def k0_off21 (i : grid0.Coords) : Fin 1 → Nat :=
  let arg0 : BitVec 32 := BitVec.ofNat 32 (i 0).val
  let c32_i32_99 : BitVec 32 := 32#32
  let v237 : BitVec 32 := Scalar.muli arg0 c32_i32_99
  let c10_i32 : BitVec 32 := 10#32
  let v238 : BitVec 32 := Scalar.addi v237 c10_i32
  let v239 : Index := Scalar.indexCast v238
  ![v239.toNat]
def k0_mult11 (v240 : BitVec 32) (v244 : BitVec 32) : BitVec 32 :=
  let v245 : BitVec 32 := Scalar.addi v240 v244
  let c4_i32_102 : BitVec 32 := 4#32
  let v246 : BitVec 32 := Scalar.muli v245 c4_i32_102
  v246

def k0_off22 (v240 : BitVec 32) (v244 : BitVec 32) : Fin 3 → Nat :=
  let v245 : BitVec 32 := Scalar.addi v240 v244
  let c4_i32_102 : BitVec 32 := 4#32
  let v246 : BitVec 32 := Scalar.muli v245 c4_i32_102
  let v247 : BitVec 32 := v246
  let v248 : Index := Scalar.indexCast v247
  let c0_103 : Index := 0#32
  ![v248.toNat, 0, 0]

def k0_chk11 (i : grid0.Coords) (v240 : BitVec 32) (v244 : BitVec 32) : Prop :=
  (∀ (k0_h1 : k0_cond1 i = 1#1), 4 ∣ (k0_mult11 v240 v244).toNat) ∧
  (∀ (k0_h1 : k0_cond1 i = 1#1), ∀ a, (k0_off22 v240 v244) a + S4x2x128.size a ≤ S67968x2x128.size a)
theorem k0_mult11_dvd : ∀ (i : grid0.Coords) (v240 : BitVec 32) (v244 : BitVec 32) (k0_hw11 : k0_chk11 i v240 v244), ∀ (k0_h1 : k0_cond1 i = 1#1), 4 ∣ (k0_mult11 v240 v244).toNat := fun i v240 v244 k0_hw11 k0_h1 => k0_hw11.1 k0_h1
theorem k0_off22_inb : ∀ (i : grid0.Coords) (v240 : BitVec 32) (v244 : BitVec 32) (k0_hw11 : k0_chk11 i v240 v244), ∀ (k0_h1 : k0_cond1 i = 1#1), ∀ a, (k0_off22 v240 v244) a + S4x2x128.size a ≤ S67968x2x128.size a := fun i v240 v244 k0_hw11 k0_h1 => k0_hw11.2 k0_h1

def k0_off23 (i : grid0.Coords) : Fin 1 → Nat :=
  let arg0 : BitVec 32 := BitVec.ofNat 32 (i 0).val
  let c32_i32_104 : BitVec 32 := 32#32
  let v252 : BitVec 32 := Scalar.muli arg0 c32_i32_104
  let c11_i32 : BitVec 32 := 11#32
  let v253 : BitVec 32 := Scalar.addi v252 c11_i32
  let v254 : Index := Scalar.indexCast v253
  ![v254.toNat]
def k0_mult12 (v255 : BitVec 32) (v259 : BitVec 32) : BitVec 32 :=
  let v260 : BitVec 32 := Scalar.addi v255 v259
  let c4_i32_107 : BitVec 32 := 4#32
  let v261 : BitVec 32 := Scalar.muli v260 c4_i32_107
  v261

def k0_off24 (v255 : BitVec 32) (v259 : BitVec 32) : Fin 3 → Nat :=
  let v260 : BitVec 32 := Scalar.addi v255 v259
  let c4_i32_107 : BitVec 32 := 4#32
  let v261 : BitVec 32 := Scalar.muli v260 c4_i32_107
  let v262 : BitVec 32 := v261
  let v263 : Index := Scalar.indexCast v262
  let c0_108 : Index := 0#32
  ![v263.toNat, 0, 0]

def k0_chk12 (i : grid0.Coords) (v255 : BitVec 32) (v259 : BitVec 32) : Prop :=
  (∀ (k0_h1 : k0_cond1 i = 1#1), 4 ∣ (k0_mult12 v255 v259).toNat) ∧
  (∀ (k0_h1 : k0_cond1 i = 1#1), ∀ a, (k0_off24 v255 v259) a + S4x2x128.size a ≤ S67968x2x128.size a)
theorem k0_mult12_dvd : ∀ (i : grid0.Coords) (v255 : BitVec 32) (v259 : BitVec 32) (k0_hw12 : k0_chk12 i v255 v259), ∀ (k0_h1 : k0_cond1 i = 1#1), 4 ∣ (k0_mult12 v255 v259).toNat := fun i v255 v259 k0_hw12 k0_h1 => k0_hw12.1 k0_h1
theorem k0_off24_inb : ∀ (i : grid0.Coords) (v255 : BitVec 32) (v259 : BitVec 32) (k0_hw12 : k0_chk12 i v255 v259), ∀ (k0_h1 : k0_cond1 i = 1#1), ∀ a, (k0_off24 v255 v259) a + S4x2x128.size a ≤ S67968x2x128.size a := fun i v255 v259 k0_hw12 k0_h1 => k0_hw12.2 k0_h1

def k0_off25 (i : grid0.Coords) : Fin 1 → Nat :=
  let arg0 : BitVec 32 := BitVec.ofNat 32 (i 0).val
  let c32_i32_109 : BitVec 32 := 32#32
  let v267 : BitVec 32 := Scalar.muli arg0 c32_i32_109
  let c12_i32 : BitVec 32 := 12#32
  let v268 : BitVec 32 := Scalar.addi v267 c12_i32
  let v269 : Index := Scalar.indexCast v268
  ![v269.toNat]
def k0_mult13 (v270 : BitVec 32) (v274 : BitVec 32) : BitVec 32 :=
  let v275 : BitVec 32 := Scalar.addi v270 v274
  let c4_i32_112 : BitVec 32 := 4#32
  let v276 : BitVec 32 := Scalar.muli v275 c4_i32_112
  v276

def k0_off26 (v270 : BitVec 32) (v274 : BitVec 32) : Fin 3 → Nat :=
  let v275 : BitVec 32 := Scalar.addi v270 v274
  let c4_i32_112 : BitVec 32 := 4#32
  let v276 : BitVec 32 := Scalar.muli v275 c4_i32_112
  let v277 : BitVec 32 := v276
  let v278 : Index := Scalar.indexCast v277
  let c0_113 : Index := 0#32
  ![v278.toNat, 0, 0]

def k0_chk13 (i : grid0.Coords) (v270 : BitVec 32) (v274 : BitVec 32) : Prop :=
  (∀ (k0_h1 : k0_cond1 i = 1#1), 4 ∣ (k0_mult13 v270 v274).toNat) ∧
  (∀ (k0_h1 : k0_cond1 i = 1#1), ∀ a, (k0_off26 v270 v274) a + S4x2x128.size a ≤ S67968x2x128.size a)
theorem k0_mult13_dvd : ∀ (i : grid0.Coords) (v270 : BitVec 32) (v274 : BitVec 32) (k0_hw13 : k0_chk13 i v270 v274), ∀ (k0_h1 : k0_cond1 i = 1#1), 4 ∣ (k0_mult13 v270 v274).toNat := fun i v270 v274 k0_hw13 k0_h1 => k0_hw13.1 k0_h1
theorem k0_off26_inb : ∀ (i : grid0.Coords) (v270 : BitVec 32) (v274 : BitVec 32) (k0_hw13 : k0_chk13 i v270 v274), ∀ (k0_h1 : k0_cond1 i = 1#1), ∀ a, (k0_off26 v270 v274) a + S4x2x128.size a ≤ S67968x2x128.size a := fun i v270 v274 k0_hw13 k0_h1 => k0_hw13.2 k0_h1

def k0_off27 (i : grid0.Coords) : Fin 1 → Nat :=
  let arg0 : BitVec 32 := BitVec.ofNat 32 (i 0).val
  let c32_i32_114 : BitVec 32 := 32#32
  let v282 : BitVec 32 := Scalar.muli arg0 c32_i32_114
  let c13_i32 : BitVec 32 := 13#32
  let v283 : BitVec 32 := Scalar.addi v282 c13_i32
  let v284 : Index := Scalar.indexCast v283
  ![v284.toNat]
def k0_mult14 (v285 : BitVec 32) (v289 : BitVec 32) : BitVec 32 :=
  let v290 : BitVec 32 := Scalar.addi v285 v289
  let c4_i32_117 : BitVec 32 := 4#32
  let v291 : BitVec 32 := Scalar.muli v290 c4_i32_117
  v291

def k0_off28 (v285 : BitVec 32) (v289 : BitVec 32) : Fin 3 → Nat :=
  let v290 : BitVec 32 := Scalar.addi v285 v289
  let c4_i32_117 : BitVec 32 := 4#32
  let v291 : BitVec 32 := Scalar.muli v290 c4_i32_117
  let v292 : BitVec 32 := v291
  let v293 : Index := Scalar.indexCast v292
  let c0_118 : Index := 0#32
  ![v293.toNat, 0, 0]

def k0_chk14 (i : grid0.Coords) (v285 : BitVec 32) (v289 : BitVec 32) : Prop :=
  (∀ (k0_h1 : k0_cond1 i = 1#1), 4 ∣ (k0_mult14 v285 v289).toNat) ∧
  (∀ (k0_h1 : k0_cond1 i = 1#1), ∀ a, (k0_off28 v285 v289) a + S4x2x128.size a ≤ S67968x2x128.size a)
theorem k0_mult14_dvd : ∀ (i : grid0.Coords) (v285 : BitVec 32) (v289 : BitVec 32) (k0_hw14 : k0_chk14 i v285 v289), ∀ (k0_h1 : k0_cond1 i = 1#1), 4 ∣ (k0_mult14 v285 v289).toNat := fun i v285 v289 k0_hw14 k0_h1 => k0_hw14.1 k0_h1
theorem k0_off28_inb : ∀ (i : grid0.Coords) (v285 : BitVec 32) (v289 : BitVec 32) (k0_hw14 : k0_chk14 i v285 v289), ∀ (k0_h1 : k0_cond1 i = 1#1), ∀ a, (k0_off28 v285 v289) a + S4x2x128.size a ≤ S67968x2x128.size a := fun i v285 v289 k0_hw14 k0_h1 => k0_hw14.2 k0_h1

def k0_off29 (i : grid0.Coords) : Fin 1 → Nat :=
  let arg0 : BitVec 32 := BitVec.ofNat 32 (i 0).val
  let c32_i32_119 : BitVec 32 := 32#32
  let v297 : BitVec 32 := Scalar.muli arg0 c32_i32_119
  let c14_i32 : BitVec 32 := 14#32
  let v298 : BitVec 32 := Scalar.addi v297 c14_i32
  let v299 : Index := Scalar.indexCast v298
  ![v299.toNat]
def k0_mult15 (v300 : BitVec 32) (v304 : BitVec 32) : BitVec 32 :=
  let v305 : BitVec 32 := Scalar.addi v300 v304
  let c4_i32_122 : BitVec 32 := 4#32
  let v306 : BitVec 32 := Scalar.muli v305 c4_i32_122
  v306

def k0_off30 (v300 : BitVec 32) (v304 : BitVec 32) : Fin 3 → Nat :=
  let v305 : BitVec 32 := Scalar.addi v300 v304
  let c4_i32_122 : BitVec 32 := 4#32
  let v306 : BitVec 32 := Scalar.muli v305 c4_i32_122
  let v307 : BitVec 32 := v306
  let v308 : Index := Scalar.indexCast v307
  let c0_123 : Index := 0#32
  ![v308.toNat, 0, 0]

def k0_chk15 (i : grid0.Coords) (v300 : BitVec 32) (v304 : BitVec 32) : Prop :=
  (∀ (k0_h1 : k0_cond1 i = 1#1), 4 ∣ (k0_mult15 v300 v304).toNat) ∧
  (∀ (k0_h1 : k0_cond1 i = 1#1), ∀ a, (k0_off30 v300 v304) a + S4x2x128.size a ≤ S67968x2x128.size a)
theorem k0_mult15_dvd : ∀ (i : grid0.Coords) (v300 : BitVec 32) (v304 : BitVec 32) (k0_hw15 : k0_chk15 i v300 v304), ∀ (k0_h1 : k0_cond1 i = 1#1), 4 ∣ (k0_mult15 v300 v304).toNat := fun i v300 v304 k0_hw15 k0_h1 => k0_hw15.1 k0_h1
theorem k0_off30_inb : ∀ (i : grid0.Coords) (v300 : BitVec 32) (v304 : BitVec 32) (k0_hw15 : k0_chk15 i v300 v304), ∀ (k0_h1 : k0_cond1 i = 1#1), ∀ a, (k0_off30 v300 v304) a + S4x2x128.size a ≤ S67968x2x128.size a := fun i v300 v304 k0_hw15 k0_h1 => k0_hw15.2 k0_h1

def k0_off31 (i : grid0.Coords) : Fin 1 → Nat :=
  let arg0 : BitVec 32 := BitVec.ofNat 32 (i 0).val
  let c32_i32_124 : BitVec 32 := 32#32
  let v312 : BitVec 32 := Scalar.muli arg0 c32_i32_124
  let c15_i32 : BitVec 32 := 15#32
  let v313 : BitVec 32 := Scalar.addi v312 c15_i32
  let v314 : Index := Scalar.indexCast v313
  ![v314.toNat]
def k0_mult16 (v315 : BitVec 32) (v319 : BitVec 32) : BitVec 32 :=
  let v320 : BitVec 32 := Scalar.addi v315 v319
  let c4_i32_127 : BitVec 32 := 4#32
  let v321 : BitVec 32 := Scalar.muli v320 c4_i32_127
  v321

def k0_off32 (v315 : BitVec 32) (v319 : BitVec 32) : Fin 3 → Nat :=
  let v320 : BitVec 32 := Scalar.addi v315 v319
  let c4_i32_127 : BitVec 32 := 4#32
  let v321 : BitVec 32 := Scalar.muli v320 c4_i32_127
  let v322 : BitVec 32 := v321
  let v323 : Index := Scalar.indexCast v322
  let c0_128 : Index := 0#32
  ![v323.toNat, 0, 0]

def k0_chk16 (i : grid0.Coords) (v315 : BitVec 32) (v319 : BitVec 32) : Prop :=
  (∀ (k0_h1 : k0_cond1 i = 1#1), 4 ∣ (k0_mult16 v315 v319).toNat) ∧
  (∀ (k0_h1 : k0_cond1 i = 1#1), ∀ a, (k0_off32 v315 v319) a + S4x2x128.size a ≤ S67968x2x128.size a)
theorem k0_mult16_dvd : ∀ (i : grid0.Coords) (v315 : BitVec 32) (v319 : BitVec 32) (k0_hw16 : k0_chk16 i v315 v319), ∀ (k0_h1 : k0_cond1 i = 1#1), 4 ∣ (k0_mult16 v315 v319).toNat := fun i v315 v319 k0_hw16 k0_h1 => k0_hw16.1 k0_h1
theorem k0_off32_inb : ∀ (i : grid0.Coords) (v315 : BitVec 32) (v319 : BitVec 32) (k0_hw16 : k0_chk16 i v315 v319), ∀ (k0_h1 : k0_cond1 i = 1#1), ∀ a, (k0_off32 v315 v319) a + S4x2x128.size a ≤ S67968x2x128.size a := fun i v315 v319 k0_hw16 k0_h1 => k0_hw16.2 k0_h1

def k0_off33 (i : grid0.Coords) : Fin 1 → Nat :=
  let arg0 : BitVec 32 := BitVec.ofNat 32 (i 0).val
  let c32_i32_129 : BitVec 32 := 32#32
  let v327 : BitVec 32 := Scalar.muli arg0 c32_i32_129
  let c16_i32_130 : BitVec 32 := 16#32
  let v328 : BitVec 32 := Scalar.addi v327 c16_i32_130
  let v329 : Index := Scalar.indexCast v328
  ![v329.toNat]
def k0_mult17 (v330 : BitVec 32) (v334 : BitVec 32) : BitVec 32 :=
  let v335 : BitVec 32 := Scalar.addi v330 v334
  let c4_i32_133 : BitVec 32 := 4#32
  let v336 : BitVec 32 := Scalar.muli v335 c4_i32_133
  v336

def k0_off34 (v330 : BitVec 32) (v334 : BitVec 32) : Fin 3 → Nat :=
  let v335 : BitVec 32 := Scalar.addi v330 v334
  let c4_i32_133 : BitVec 32 := 4#32
  let v336 : BitVec 32 := Scalar.muli v335 c4_i32_133
  let v337 : BitVec 32 := v336
  let v338 : Index := Scalar.indexCast v337
  let c0_134 : Index := 0#32
  ![v338.toNat, 0, 0]

def k0_chk17 (i : grid0.Coords) (v330 : BitVec 32) (v334 : BitVec 32) : Prop :=
  (∀ (k0_h1 : k0_cond1 i = 1#1), 4 ∣ (k0_mult17 v330 v334).toNat) ∧
  (∀ (k0_h1 : k0_cond1 i = 1#1), ∀ a, (k0_off34 v330 v334) a + S4x2x128.size a ≤ S67968x2x128.size a)
theorem k0_mult17_dvd : ∀ (i : grid0.Coords) (v330 : BitVec 32) (v334 : BitVec 32) (k0_hw17 : k0_chk17 i v330 v334), ∀ (k0_h1 : k0_cond1 i = 1#1), 4 ∣ (k0_mult17 v330 v334).toNat := fun i v330 v334 k0_hw17 k0_h1 => k0_hw17.1 k0_h1
theorem k0_off34_inb : ∀ (i : grid0.Coords) (v330 : BitVec 32) (v334 : BitVec 32) (k0_hw17 : k0_chk17 i v330 v334), ∀ (k0_h1 : k0_cond1 i = 1#1), ∀ a, (k0_off34 v330 v334) a + S4x2x128.size a ≤ S67968x2x128.size a := fun i v330 v334 k0_hw17 k0_h1 => k0_hw17.2 k0_h1

def k0_off35 (i : grid0.Coords) : Fin 1 → Nat :=
  let arg0 : BitVec 32 := BitVec.ofNat 32 (i 0).val
  let c32_i32_135 : BitVec 32 := 32#32
  let v342 : BitVec 32 := Scalar.muli arg0 c32_i32_135
  let c17_i32 : BitVec 32 := 17#32
  let v343 : BitVec 32 := Scalar.addi v342 c17_i32
  let v344 : Index := Scalar.indexCast v343
  ![v344.toNat]
def k0_mult18 (v345 : BitVec 32) (v349 : BitVec 32) : BitVec 32 :=
  let v350 : BitVec 32 := Scalar.addi v345 v349
  let c4_i32_138 : BitVec 32 := 4#32
  let v351 : BitVec 32 := Scalar.muli v350 c4_i32_138
  v351

def k0_off36 (v345 : BitVec 32) (v349 : BitVec 32) : Fin 3 → Nat :=
  let v350 : BitVec 32 := Scalar.addi v345 v349
  let c4_i32_138 : BitVec 32 := 4#32
  let v351 : BitVec 32 := Scalar.muli v350 c4_i32_138
  let v352 : BitVec 32 := v351
  let v353 : Index := Scalar.indexCast v352
  let c0_139 : Index := 0#32
  ![v353.toNat, 0, 0]

def k0_chk18 (i : grid0.Coords) (v345 : BitVec 32) (v349 : BitVec 32) : Prop :=
  (∀ (k0_h1 : k0_cond1 i = 1#1), 4 ∣ (k0_mult18 v345 v349).toNat) ∧
  (∀ (k0_h1 : k0_cond1 i = 1#1), ∀ a, (k0_off36 v345 v349) a + S4x2x128.size a ≤ S67968x2x128.size a)
theorem k0_mult18_dvd : ∀ (i : grid0.Coords) (v345 : BitVec 32) (v349 : BitVec 32) (k0_hw18 : k0_chk18 i v345 v349), ∀ (k0_h1 : k0_cond1 i = 1#1), 4 ∣ (k0_mult18 v345 v349).toNat := fun i v345 v349 k0_hw18 k0_h1 => k0_hw18.1 k0_h1
theorem k0_off36_inb : ∀ (i : grid0.Coords) (v345 : BitVec 32) (v349 : BitVec 32) (k0_hw18 : k0_chk18 i v345 v349), ∀ (k0_h1 : k0_cond1 i = 1#1), ∀ a, (k0_off36 v345 v349) a + S4x2x128.size a ≤ S67968x2x128.size a := fun i v345 v349 k0_hw18 k0_h1 => k0_hw18.2 k0_h1

def k0_off37 (i : grid0.Coords) : Fin 1 → Nat :=
  let arg0 : BitVec 32 := BitVec.ofNat 32 (i 0).val
  let c32_i32_140 : BitVec 32 := 32#32
  let v357 : BitVec 32 := Scalar.muli arg0 c32_i32_140
  let c18_i32 : BitVec 32 := 18#32
  let v358 : BitVec 32 := Scalar.addi v357 c18_i32
  let v359 : Index := Scalar.indexCast v358
  ![v359.toNat]
def k0_mult19 (v360 : BitVec 32) (v364 : BitVec 32) : BitVec 32 :=
  let v365 : BitVec 32 := Scalar.addi v360 v364
  let c4_i32_143 : BitVec 32 := 4#32
  let v366 : BitVec 32 := Scalar.muli v365 c4_i32_143
  v366

def k0_off38 (v360 : BitVec 32) (v364 : BitVec 32) : Fin 3 → Nat :=
  let v365 : BitVec 32 := Scalar.addi v360 v364
  let c4_i32_143 : BitVec 32 := 4#32
  let v366 : BitVec 32 := Scalar.muli v365 c4_i32_143
  let v367 : BitVec 32 := v366
  let v368 : Index := Scalar.indexCast v367
  let c0_144 : Index := 0#32
  ![v368.toNat, 0, 0]

def k0_chk19 (i : grid0.Coords) (v360 : BitVec 32) (v364 : BitVec 32) : Prop :=
  (∀ (k0_h1 : k0_cond1 i = 1#1), 4 ∣ (k0_mult19 v360 v364).toNat) ∧
  (∀ (k0_h1 : k0_cond1 i = 1#1), ∀ a, (k0_off38 v360 v364) a + S4x2x128.size a ≤ S67968x2x128.size a)
theorem k0_mult19_dvd : ∀ (i : grid0.Coords) (v360 : BitVec 32) (v364 : BitVec 32) (k0_hw19 : k0_chk19 i v360 v364), ∀ (k0_h1 : k0_cond1 i = 1#1), 4 ∣ (k0_mult19 v360 v364).toNat := fun i v360 v364 k0_hw19 k0_h1 => k0_hw19.1 k0_h1
theorem k0_off38_inb : ∀ (i : grid0.Coords) (v360 : BitVec 32) (v364 : BitVec 32) (k0_hw19 : k0_chk19 i v360 v364), ∀ (k0_h1 : k0_cond1 i = 1#1), ∀ a, (k0_off38 v360 v364) a + S4x2x128.size a ≤ S67968x2x128.size a := fun i v360 v364 k0_hw19 k0_h1 => k0_hw19.2 k0_h1

def k0_off39 (i : grid0.Coords) : Fin 1 → Nat :=
  let arg0 : BitVec 32 := BitVec.ofNat 32 (i 0).val
  let c32_i32_145 : BitVec 32 := 32#32
  let v372 : BitVec 32 := Scalar.muli arg0 c32_i32_145
  let c19_i32 : BitVec 32 := 19#32
  let v373 : BitVec 32 := Scalar.addi v372 c19_i32
  let v374 : Index := Scalar.indexCast v373
  ![v374.toNat]
def k0_mult20 (v375 : BitVec 32) (v379 : BitVec 32) : BitVec 32 :=
  let v380 : BitVec 32 := Scalar.addi v375 v379
  let c4_i32_148 : BitVec 32 := 4#32
  let v381 : BitVec 32 := Scalar.muli v380 c4_i32_148
  v381

def k0_off40 (v375 : BitVec 32) (v379 : BitVec 32) : Fin 3 → Nat :=
  let v380 : BitVec 32 := Scalar.addi v375 v379
  let c4_i32_148 : BitVec 32 := 4#32
  let v381 : BitVec 32 := Scalar.muli v380 c4_i32_148
  let v382 : BitVec 32 := v381
  let v383 : Index := Scalar.indexCast v382
  let c0_149 : Index := 0#32
  ![v383.toNat, 0, 0]

def k0_chk20 (i : grid0.Coords) (v375 : BitVec 32) (v379 : BitVec 32) : Prop :=
  (∀ (k0_h1 : k0_cond1 i = 1#1), 4 ∣ (k0_mult20 v375 v379).toNat) ∧
  (∀ (k0_h1 : k0_cond1 i = 1#1), ∀ a, (k0_off40 v375 v379) a + S4x2x128.size a ≤ S67968x2x128.size a)
theorem k0_mult20_dvd : ∀ (i : grid0.Coords) (v375 : BitVec 32) (v379 : BitVec 32) (k0_hw20 : k0_chk20 i v375 v379), ∀ (k0_h1 : k0_cond1 i = 1#1), 4 ∣ (k0_mult20 v375 v379).toNat := fun i v375 v379 k0_hw20 k0_h1 => k0_hw20.1 k0_h1
theorem k0_off40_inb : ∀ (i : grid0.Coords) (v375 : BitVec 32) (v379 : BitVec 32) (k0_hw20 : k0_chk20 i v375 v379), ∀ (k0_h1 : k0_cond1 i = 1#1), ∀ a, (k0_off40 v375 v379) a + S4x2x128.size a ≤ S67968x2x128.size a := fun i v375 v379 k0_hw20 k0_h1 => k0_hw20.2 k0_h1

def k0_off41 (i : grid0.Coords) : Fin 1 → Nat :=
  let arg0 : BitVec 32 := BitVec.ofNat 32 (i 0).val
  let c32_i32_150 : BitVec 32 := 32#32
  let v387 : BitVec 32 := Scalar.muli arg0 c32_i32_150
  let c20_i32 : BitVec 32 := 20#32
  let v388 : BitVec 32 := Scalar.addi v387 c20_i32
  let v389 : Index := Scalar.indexCast v388
  ![v389.toNat]
def k0_mult21 (v390 : BitVec 32) (v394 : BitVec 32) : BitVec 32 :=
  let v395 : BitVec 32 := Scalar.addi v390 v394
  let c4_i32_153 : BitVec 32 := 4#32
  let v396 : BitVec 32 := Scalar.muli v395 c4_i32_153
  v396

def k0_off42 (v390 : BitVec 32) (v394 : BitVec 32) : Fin 3 → Nat :=
  let v395 : BitVec 32 := Scalar.addi v390 v394
  let c4_i32_153 : BitVec 32 := 4#32
  let v396 : BitVec 32 := Scalar.muli v395 c4_i32_153
  let v397 : BitVec 32 := v396
  let v398 : Index := Scalar.indexCast v397
  let c0_154 : Index := 0#32
  ![v398.toNat, 0, 0]

def k0_chk21 (i : grid0.Coords) (v390 : BitVec 32) (v394 : BitVec 32) : Prop :=
  (∀ (k0_h1 : k0_cond1 i = 1#1), 4 ∣ (k0_mult21 v390 v394).toNat) ∧
  (∀ (k0_h1 : k0_cond1 i = 1#1), ∀ a, (k0_off42 v390 v394) a + S4x2x128.size a ≤ S67968x2x128.size a)
theorem k0_mult21_dvd : ∀ (i : grid0.Coords) (v390 : BitVec 32) (v394 : BitVec 32) (k0_hw21 : k0_chk21 i v390 v394), ∀ (k0_h1 : k0_cond1 i = 1#1), 4 ∣ (k0_mult21 v390 v394).toNat := fun i v390 v394 k0_hw21 k0_h1 => k0_hw21.1 k0_h1
theorem k0_off42_inb : ∀ (i : grid0.Coords) (v390 : BitVec 32) (v394 : BitVec 32) (k0_hw21 : k0_chk21 i v390 v394), ∀ (k0_h1 : k0_cond1 i = 1#1), ∀ a, (k0_off42 v390 v394) a + S4x2x128.size a ≤ S67968x2x128.size a := fun i v390 v394 k0_hw21 k0_h1 => k0_hw21.2 k0_h1

def k0_off43 (i : grid0.Coords) : Fin 1 → Nat :=
  let arg0 : BitVec 32 := BitVec.ofNat 32 (i 0).val
  let c32_i32_155 : BitVec 32 := 32#32
  let v402 : BitVec 32 := Scalar.muli arg0 c32_i32_155
  let c21_i32 : BitVec 32 := 21#32
  let v403 : BitVec 32 := Scalar.addi v402 c21_i32
  let v404 : Index := Scalar.indexCast v403
  ![v404.toNat]
def k0_mult22 (v405 : BitVec 32) (v409 : BitVec 32) : BitVec 32 :=
  let v410 : BitVec 32 := Scalar.addi v405 v409
  let c4_i32_158 : BitVec 32 := 4#32
  let v411 : BitVec 32 := Scalar.muli v410 c4_i32_158
  v411

def k0_off44 (v405 : BitVec 32) (v409 : BitVec 32) : Fin 3 → Nat :=
  let v410 : BitVec 32 := Scalar.addi v405 v409
  let c4_i32_158 : BitVec 32 := 4#32
  let v411 : BitVec 32 := Scalar.muli v410 c4_i32_158
  let v412 : BitVec 32 := v411
  let v413 : Index := Scalar.indexCast v412
  let c0_159 : Index := 0#32
  ![v413.toNat, 0, 0]

def k0_chk22 (i : grid0.Coords) (v405 : BitVec 32) (v409 : BitVec 32) : Prop :=
  (∀ (k0_h1 : k0_cond1 i = 1#1), 4 ∣ (k0_mult22 v405 v409).toNat) ∧
  (∀ (k0_h1 : k0_cond1 i = 1#1), ∀ a, (k0_off44 v405 v409) a + S4x2x128.size a ≤ S67968x2x128.size a)
theorem k0_mult22_dvd : ∀ (i : grid0.Coords) (v405 : BitVec 32) (v409 : BitVec 32) (k0_hw22 : k0_chk22 i v405 v409), ∀ (k0_h1 : k0_cond1 i = 1#1), 4 ∣ (k0_mult22 v405 v409).toNat := fun i v405 v409 k0_hw22 k0_h1 => k0_hw22.1 k0_h1
theorem k0_off44_inb : ∀ (i : grid0.Coords) (v405 : BitVec 32) (v409 : BitVec 32) (k0_hw22 : k0_chk22 i v405 v409), ∀ (k0_h1 : k0_cond1 i = 1#1), ∀ a, (k0_off44 v405 v409) a + S4x2x128.size a ≤ S67968x2x128.size a := fun i v405 v409 k0_hw22 k0_h1 => k0_hw22.2 k0_h1

def k0_off45 (i : grid0.Coords) : Fin 1 → Nat :=
  let arg0 : BitVec 32 := BitVec.ofNat 32 (i 0).val
  let c32_i32_160 : BitVec 32 := 32#32
  let v417 : BitVec 32 := Scalar.muli arg0 c32_i32_160
  let c22_i32 : BitVec 32 := 22#32
  let v418 : BitVec 32 := Scalar.addi v417 c22_i32
  let v419 : Index := Scalar.indexCast v418
  ![v419.toNat]
def k0_mult23 (v420 : BitVec 32) (v424 : BitVec 32) : BitVec 32 :=
  let v425 : BitVec 32 := Scalar.addi v420 v424
  let c4_i32_163 : BitVec 32 := 4#32
  let v426 : BitVec 32 := Scalar.muli v425 c4_i32_163
  v426

def k0_off46 (v420 : BitVec 32) (v424 : BitVec 32) : Fin 3 → Nat :=
  let v425 : BitVec 32 := Scalar.addi v420 v424
  let c4_i32_163 : BitVec 32 := 4#32
  let v426 : BitVec 32 := Scalar.muli v425 c4_i32_163
  let v427 : BitVec 32 := v426
  let v428 : Index := Scalar.indexCast v427
  let c0_164 : Index := 0#32
  ![v428.toNat, 0, 0]

def k0_chk23 (i : grid0.Coords) (v420 : BitVec 32) (v424 : BitVec 32) : Prop :=
  (∀ (k0_h1 : k0_cond1 i = 1#1), 4 ∣ (k0_mult23 v420 v424).toNat) ∧
  (∀ (k0_h1 : k0_cond1 i = 1#1), ∀ a, (k0_off46 v420 v424) a + S4x2x128.size a ≤ S67968x2x128.size a)
theorem k0_mult23_dvd : ∀ (i : grid0.Coords) (v420 : BitVec 32) (v424 : BitVec 32) (k0_hw23 : k0_chk23 i v420 v424), ∀ (k0_h1 : k0_cond1 i = 1#1), 4 ∣ (k0_mult23 v420 v424).toNat := fun i v420 v424 k0_hw23 k0_h1 => k0_hw23.1 k0_h1
theorem k0_off46_inb : ∀ (i : grid0.Coords) (v420 : BitVec 32) (v424 : BitVec 32) (k0_hw23 : k0_chk23 i v420 v424), ∀ (k0_h1 : k0_cond1 i = 1#1), ∀ a, (k0_off46 v420 v424) a + S4x2x128.size a ≤ S67968x2x128.size a := fun i v420 v424 k0_hw23 k0_h1 => k0_hw23.2 k0_h1

def k0_off47 (i : grid0.Coords) : Fin 1 → Nat :=
  let arg0 : BitVec 32 := BitVec.ofNat 32 (i 0).val
  let c32_i32_165 : BitVec 32 := 32#32
  let v432 : BitVec 32 := Scalar.muli arg0 c32_i32_165
  let c23_i32 : BitVec 32 := 23#32
  let v433 : BitVec 32 := Scalar.addi v432 c23_i32
  let v434 : Index := Scalar.indexCast v433
  ![v434.toNat]
def k0_mult24 (v435 : BitVec 32) (v439 : BitVec 32) : BitVec 32 :=
  let v440 : BitVec 32 := Scalar.addi v435 v439
  let c4_i32_168 : BitVec 32 := 4#32
  let v441 : BitVec 32 := Scalar.muli v440 c4_i32_168
  v441

def k0_off48 (v435 : BitVec 32) (v439 : BitVec 32) : Fin 3 → Nat :=
  let v440 : BitVec 32 := Scalar.addi v435 v439
  let c4_i32_168 : BitVec 32 := 4#32
  let v441 : BitVec 32 := Scalar.muli v440 c4_i32_168
  let v442 : BitVec 32 := v441
  let v443 : Index := Scalar.indexCast v442
  let c0_169 : Index := 0#32
  ![v443.toNat, 0, 0]

def k0_chk24 (i : grid0.Coords) (v435 : BitVec 32) (v439 : BitVec 32) : Prop :=
  (∀ (k0_h1 : k0_cond1 i = 1#1), 4 ∣ (k0_mult24 v435 v439).toNat) ∧
  (∀ (k0_h1 : k0_cond1 i = 1#1), ∀ a, (k0_off48 v435 v439) a + S4x2x128.size a ≤ S67968x2x128.size a)
theorem k0_mult24_dvd : ∀ (i : grid0.Coords) (v435 : BitVec 32) (v439 : BitVec 32) (k0_hw24 : k0_chk24 i v435 v439), ∀ (k0_h1 : k0_cond1 i = 1#1), 4 ∣ (k0_mult24 v435 v439).toNat := fun i v435 v439 k0_hw24 k0_h1 => k0_hw24.1 k0_h1
theorem k0_off48_inb : ∀ (i : grid0.Coords) (v435 : BitVec 32) (v439 : BitVec 32) (k0_hw24 : k0_chk24 i v435 v439), ∀ (k0_h1 : k0_cond1 i = 1#1), ∀ a, (k0_off48 v435 v439) a + S4x2x128.size a ≤ S67968x2x128.size a := fun i v435 v439 k0_hw24 k0_h1 => k0_hw24.2 k0_h1

def k0_off49 (i : grid0.Coords) : Fin 1 → Nat :=
  let arg0 : BitVec 32 := BitVec.ofNat 32 (i 0).val
  let c32_i32_170 : BitVec 32 := 32#32
  let v447 : BitVec 32 := Scalar.muli arg0 c32_i32_170
  let c24_i32 : BitVec 32 := 24#32
  let v448 : BitVec 32 := Scalar.addi v447 c24_i32
  let v449 : Index := Scalar.indexCast v448
  ![v449.toNat]
def k0_mult25 (v450 : BitVec 32) (v454 : BitVec 32) : BitVec 32 :=
  let v455 : BitVec 32 := Scalar.addi v450 v454
  let c4_i32_173 : BitVec 32 := 4#32
  let v456 : BitVec 32 := Scalar.muli v455 c4_i32_173
  v456

def k0_off50 (v450 : BitVec 32) (v454 : BitVec 32) : Fin 3 → Nat :=
  let v455 : BitVec 32 := Scalar.addi v450 v454
  let c4_i32_173 : BitVec 32 := 4#32
  let v456 : BitVec 32 := Scalar.muli v455 c4_i32_173
  let v457 : BitVec 32 := v456
  let v458 : Index := Scalar.indexCast v457
  let c0_174 : Index := 0#32
  ![v458.toNat, 0, 0]

def k0_chk25 (i : grid0.Coords) (v450 : BitVec 32) (v454 : BitVec 32) : Prop :=
  (∀ (k0_h1 : k0_cond1 i = 1#1), 4 ∣ (k0_mult25 v450 v454).toNat) ∧
  (∀ (k0_h1 : k0_cond1 i = 1#1), ∀ a, (k0_off50 v450 v454) a + S4x2x128.size a ≤ S67968x2x128.size a)
theorem k0_mult25_dvd : ∀ (i : grid0.Coords) (v450 : BitVec 32) (v454 : BitVec 32) (k0_hw25 : k0_chk25 i v450 v454), ∀ (k0_h1 : k0_cond1 i = 1#1), 4 ∣ (k0_mult25 v450 v454).toNat := fun i v450 v454 k0_hw25 k0_h1 => k0_hw25.1 k0_h1
theorem k0_off50_inb : ∀ (i : grid0.Coords) (v450 : BitVec 32) (v454 : BitVec 32) (k0_hw25 : k0_chk25 i v450 v454), ∀ (k0_h1 : k0_cond1 i = 1#1), ∀ a, (k0_off50 v450 v454) a + S4x2x128.size a ≤ S67968x2x128.size a := fun i v450 v454 k0_hw25 k0_h1 => k0_hw25.2 k0_h1

def k0_off51 (i : grid0.Coords) : Fin 1 → Nat :=
  let arg0 : BitVec 32 := BitVec.ofNat 32 (i 0).val
  let c32_i32_175 : BitVec 32 := 32#32
  let v462 : BitVec 32 := Scalar.muli arg0 c32_i32_175
  let c25_i32_176 : BitVec 32 := 25#32
  let v463 : BitVec 32 := Scalar.addi v462 c25_i32_176
  let v464 : Index := Scalar.indexCast v463
  ![v464.toNat]
def k0_mult26 (v465 : BitVec 32) (v469 : BitVec 32) : BitVec 32 :=
  let v470 : BitVec 32 := Scalar.addi v465 v469
  let c4_i32_179 : BitVec 32 := 4#32
  let v471 : BitVec 32 := Scalar.muli v470 c4_i32_179
  v471

def k0_off52 (v465 : BitVec 32) (v469 : BitVec 32) : Fin 3 → Nat :=
  let v470 : BitVec 32 := Scalar.addi v465 v469
  let c4_i32_179 : BitVec 32 := 4#32
  let v471 : BitVec 32 := Scalar.muli v470 c4_i32_179
  let v472 : BitVec 32 := v471
  let v473 : Index := Scalar.indexCast v472
  let c0_180 : Index := 0#32
  ![v473.toNat, 0, 0]

def k0_chk26 (i : grid0.Coords) (v465 : BitVec 32) (v469 : BitVec 32) : Prop :=
  (∀ (k0_h1 : k0_cond1 i = 1#1), 4 ∣ (k0_mult26 v465 v469).toNat) ∧
  (∀ (k0_h1 : k0_cond1 i = 1#1), ∀ a, (k0_off52 v465 v469) a + S4x2x128.size a ≤ S67968x2x128.size a)
theorem k0_mult26_dvd : ∀ (i : grid0.Coords) (v465 : BitVec 32) (v469 : BitVec 32) (k0_hw26 : k0_chk26 i v465 v469), ∀ (k0_h1 : k0_cond1 i = 1#1), 4 ∣ (k0_mult26 v465 v469).toNat := fun i v465 v469 k0_hw26 k0_h1 => k0_hw26.1 k0_h1
theorem k0_off52_inb : ∀ (i : grid0.Coords) (v465 : BitVec 32) (v469 : BitVec 32) (k0_hw26 : k0_chk26 i v465 v469), ∀ (k0_h1 : k0_cond1 i = 1#1), ∀ a, (k0_off52 v465 v469) a + S4x2x128.size a ≤ S67968x2x128.size a := fun i v465 v469 k0_hw26 k0_h1 => k0_hw26.2 k0_h1

def k0_off53 (i : grid0.Coords) : Fin 1 → Nat :=
  let arg0 : BitVec 32 := BitVec.ofNat 32 (i 0).val
  let c32_i32_181 : BitVec 32 := 32#32
  let v477 : BitVec 32 := Scalar.muli arg0 c32_i32_181
  let c26_i32 : BitVec 32 := 26#32
  let v478 : BitVec 32 := Scalar.addi v477 c26_i32
  let v479 : Index := Scalar.indexCast v478
  ![v479.toNat]
def k0_mult27 (v480 : BitVec 32) (v484 : BitVec 32) : BitVec 32 :=
  let v485 : BitVec 32 := Scalar.addi v480 v484
  let c4_i32_184 : BitVec 32 := 4#32
  let v486 : BitVec 32 := Scalar.muli v485 c4_i32_184
  v486

def k0_off54 (v480 : BitVec 32) (v484 : BitVec 32) : Fin 3 → Nat :=
  let v485 : BitVec 32 := Scalar.addi v480 v484
  let c4_i32_184 : BitVec 32 := 4#32
  let v486 : BitVec 32 := Scalar.muli v485 c4_i32_184
  let v487 : BitVec 32 := v486
  let v488 : Index := Scalar.indexCast v487
  let c0_185 : Index := 0#32
  ![v488.toNat, 0, 0]

def k0_chk27 (i : grid0.Coords) (v480 : BitVec 32) (v484 : BitVec 32) : Prop :=
  (∀ (k0_h1 : k0_cond1 i = 1#1), 4 ∣ (k0_mult27 v480 v484).toNat) ∧
  (∀ (k0_h1 : k0_cond1 i = 1#1), ∀ a, (k0_off54 v480 v484) a + S4x2x128.size a ≤ S67968x2x128.size a)
theorem k0_mult27_dvd : ∀ (i : grid0.Coords) (v480 : BitVec 32) (v484 : BitVec 32) (k0_hw27 : k0_chk27 i v480 v484), ∀ (k0_h1 : k0_cond1 i = 1#1), 4 ∣ (k0_mult27 v480 v484).toNat := fun i v480 v484 k0_hw27 k0_h1 => k0_hw27.1 k0_h1
theorem k0_off54_inb : ∀ (i : grid0.Coords) (v480 : BitVec 32) (v484 : BitVec 32) (k0_hw27 : k0_chk27 i v480 v484), ∀ (k0_h1 : k0_cond1 i = 1#1), ∀ a, (k0_off54 v480 v484) a + S4x2x128.size a ≤ S67968x2x128.size a := fun i v480 v484 k0_hw27 k0_h1 => k0_hw27.2 k0_h1

def k0_off55 (i : grid0.Coords) : Fin 1 → Nat :=
  let arg0 : BitVec 32 := BitVec.ofNat 32 (i 0).val
  let c32_i32_186 : BitVec 32 := 32#32
  let v492 : BitVec 32 := Scalar.muli arg0 c32_i32_186
  let c27_i32 : BitVec 32 := 27#32
  let v493 : BitVec 32 := Scalar.addi v492 c27_i32
  let v494 : Index := Scalar.indexCast v493
  ![v494.toNat]
def k0_mult28 (v495 : BitVec 32) (v499 : BitVec 32) : BitVec 32 :=
  let v500 : BitVec 32 := Scalar.addi v495 v499
  let c4_i32_189 : BitVec 32 := 4#32
  let v501 : BitVec 32 := Scalar.muli v500 c4_i32_189
  v501

def k0_off56 (v495 : BitVec 32) (v499 : BitVec 32) : Fin 3 → Nat :=
  let v500 : BitVec 32 := Scalar.addi v495 v499
  let c4_i32_189 : BitVec 32 := 4#32
  let v501 : BitVec 32 := Scalar.muli v500 c4_i32_189
  let v502 : BitVec 32 := v501
  let v503 : Index := Scalar.indexCast v502
  let c0_190 : Index := 0#32
  ![v503.toNat, 0, 0]

def k0_chk28 (i : grid0.Coords) (v495 : BitVec 32) (v499 : BitVec 32) : Prop :=
  (∀ (k0_h1 : k0_cond1 i = 1#1), 4 ∣ (k0_mult28 v495 v499).toNat) ∧
  (∀ (k0_h1 : k0_cond1 i = 1#1), ∀ a, (k0_off56 v495 v499) a + S4x2x128.size a ≤ S67968x2x128.size a)
theorem k0_mult28_dvd : ∀ (i : grid0.Coords) (v495 : BitVec 32) (v499 : BitVec 32) (k0_hw28 : k0_chk28 i v495 v499), ∀ (k0_h1 : k0_cond1 i = 1#1), 4 ∣ (k0_mult28 v495 v499).toNat := fun i v495 v499 k0_hw28 k0_h1 => k0_hw28.1 k0_h1
theorem k0_off56_inb : ∀ (i : grid0.Coords) (v495 : BitVec 32) (v499 : BitVec 32) (k0_hw28 : k0_chk28 i v495 v499), ∀ (k0_h1 : k0_cond1 i = 1#1), ∀ a, (k0_off56 v495 v499) a + S4x2x128.size a ≤ S67968x2x128.size a := fun i v495 v499 k0_hw28 k0_h1 => k0_hw28.2 k0_h1

def k0_off57 (i : grid0.Coords) : Fin 1 → Nat :=
  let arg0 : BitVec 32 := BitVec.ofNat 32 (i 0).val
  let c32_i32_191 : BitVec 32 := 32#32
  let v507 : BitVec 32 := Scalar.muli arg0 c32_i32_191
  let c28_i32 : BitVec 32 := 28#32
  let v508 : BitVec 32 := Scalar.addi v507 c28_i32
  let v509 : Index := Scalar.indexCast v508
  ![v509.toNat]
def k0_mult29 (v510 : BitVec 32) (v514 : BitVec 32) : BitVec 32 :=
  let v515 : BitVec 32 := Scalar.addi v510 v514
  let c4_i32_194 : BitVec 32 := 4#32
  let v516 : BitVec 32 := Scalar.muli v515 c4_i32_194
  v516

def k0_off58 (v510 : BitVec 32) (v514 : BitVec 32) : Fin 3 → Nat :=
  let v515 : BitVec 32 := Scalar.addi v510 v514
  let c4_i32_194 : BitVec 32 := 4#32
  let v516 : BitVec 32 := Scalar.muli v515 c4_i32_194
  let v517 : BitVec 32 := v516
  let v518 : Index := Scalar.indexCast v517
  let c0_195 : Index := 0#32
  ![v518.toNat, 0, 0]

def k0_chk29 (i : grid0.Coords) (v510 : BitVec 32) (v514 : BitVec 32) : Prop :=
  (∀ (k0_h1 : k0_cond1 i = 1#1), 4 ∣ (k0_mult29 v510 v514).toNat) ∧
  (∀ (k0_h1 : k0_cond1 i = 1#1), ∀ a, (k0_off58 v510 v514) a + S4x2x128.size a ≤ S67968x2x128.size a)
theorem k0_mult29_dvd : ∀ (i : grid0.Coords) (v510 : BitVec 32) (v514 : BitVec 32) (k0_hw29 : k0_chk29 i v510 v514), ∀ (k0_h1 : k0_cond1 i = 1#1), 4 ∣ (k0_mult29 v510 v514).toNat := fun i v510 v514 k0_hw29 k0_h1 => k0_hw29.1 k0_h1
theorem k0_off58_inb : ∀ (i : grid0.Coords) (v510 : BitVec 32) (v514 : BitVec 32) (k0_hw29 : k0_chk29 i v510 v514), ∀ (k0_h1 : k0_cond1 i = 1#1), ∀ a, (k0_off58 v510 v514) a + S4x2x128.size a ≤ S67968x2x128.size a := fun i v510 v514 k0_hw29 k0_h1 => k0_hw29.2 k0_h1

def k0_off59 (i : grid0.Coords) : Fin 1 → Nat :=
  let arg0 : BitVec 32 := BitVec.ofNat 32 (i 0).val
  let c32_i32_196 : BitVec 32 := 32#32
  let v522 : BitVec 32 := Scalar.muli arg0 c32_i32_196
  let c29_i32 : BitVec 32 := 29#32
  let v523 : BitVec 32 := Scalar.addi v522 c29_i32
  let v524 : Index := Scalar.indexCast v523
  ![v524.toNat]
def k0_mult30 (v525 : BitVec 32) (v529 : BitVec 32) : BitVec 32 :=
  let v530 : BitVec 32 := Scalar.addi v525 v529
  let c4_i32_199 : BitVec 32 := 4#32
  let v531 : BitVec 32 := Scalar.muli v530 c4_i32_199
  v531

def k0_off60 (v525 : BitVec 32) (v529 : BitVec 32) : Fin 3 → Nat :=
  let v530 : BitVec 32 := Scalar.addi v525 v529
  let c4_i32_199 : BitVec 32 := 4#32
  let v531 : BitVec 32 := Scalar.muli v530 c4_i32_199
  let v532 : BitVec 32 := v531
  let v533 : Index := Scalar.indexCast v532
  let c0_200 : Index := 0#32
  ![v533.toNat, 0, 0]

def k0_chk30 (i : grid0.Coords) (v525 : BitVec 32) (v529 : BitVec 32) : Prop :=
  (∀ (k0_h1 : k0_cond1 i = 1#1), 4 ∣ (k0_mult30 v525 v529).toNat) ∧
  (∀ (k0_h1 : k0_cond1 i = 1#1), ∀ a, (k0_off60 v525 v529) a + S4x2x128.size a ≤ S67968x2x128.size a)
theorem k0_mult30_dvd : ∀ (i : grid0.Coords) (v525 : BitVec 32) (v529 : BitVec 32) (k0_hw30 : k0_chk30 i v525 v529), ∀ (k0_h1 : k0_cond1 i = 1#1), 4 ∣ (k0_mult30 v525 v529).toNat := fun i v525 v529 k0_hw30 k0_h1 => k0_hw30.1 k0_h1
theorem k0_off60_inb : ∀ (i : grid0.Coords) (v525 : BitVec 32) (v529 : BitVec 32) (k0_hw30 : k0_chk30 i v525 v529), ∀ (k0_h1 : k0_cond1 i = 1#1), ∀ a, (k0_off60 v525 v529) a + S4x2x128.size a ≤ S67968x2x128.size a := fun i v525 v529 k0_hw30 k0_h1 => k0_hw30.2 k0_h1

def k0_off61 (i : grid0.Coords) : Fin 1 → Nat :=
  let arg0 : BitVec 32 := BitVec.ofNat 32 (i 0).val
  let c32_i32_201 : BitVec 32 := 32#32
  let v537 : BitVec 32 := Scalar.muli arg0 c32_i32_201
  let c30_i32 : BitVec 32 := 30#32
  let v538 : BitVec 32 := Scalar.addi v537 c30_i32
  let v539 : Index := Scalar.indexCast v538
  ![v539.toNat]
def k0_mult31 (v540 : BitVec 32) (v544 : BitVec 32) : BitVec 32 :=
  let v545 : BitVec 32 := Scalar.addi v540 v544
  let c4_i32_204 : BitVec 32 := 4#32
  let v546 : BitVec 32 := Scalar.muli v545 c4_i32_204
  v546

def k0_off62 (v540 : BitVec 32) (v544 : BitVec 32) : Fin 3 → Nat :=
  let v545 : BitVec 32 := Scalar.addi v540 v544
  let c4_i32_204 : BitVec 32 := 4#32
  let v546 : BitVec 32 := Scalar.muli v545 c4_i32_204
  let v547 : BitVec 32 := v546
  let v548 : Index := Scalar.indexCast v547
  let c0_205 : Index := 0#32
  ![v548.toNat, 0, 0]

def k0_chk31 (i : grid0.Coords) (v540 : BitVec 32) (v544 : BitVec 32) : Prop :=
  (∀ (k0_h1 : k0_cond1 i = 1#1), 4 ∣ (k0_mult31 v540 v544).toNat) ∧
  (∀ (k0_h1 : k0_cond1 i = 1#1), ∀ a, (k0_off62 v540 v544) a + S4x2x128.size a ≤ S67968x2x128.size a)
theorem k0_mult31_dvd : ∀ (i : grid0.Coords) (v540 : BitVec 32) (v544 : BitVec 32) (k0_hw31 : k0_chk31 i v540 v544), ∀ (k0_h1 : k0_cond1 i = 1#1), 4 ∣ (k0_mult31 v540 v544).toNat := fun i v540 v544 k0_hw31 k0_h1 => k0_hw31.1 k0_h1
theorem k0_off62_inb : ∀ (i : grid0.Coords) (v540 : BitVec 32) (v544 : BitVec 32) (k0_hw31 : k0_chk31 i v540 v544), ∀ (k0_h1 : k0_cond1 i = 1#1), ∀ a, (k0_off62 v540 v544) a + S4x2x128.size a ≤ S67968x2x128.size a := fun i v540 v544 k0_hw31 k0_h1 => k0_hw31.2 k0_h1

def k0_off63 (i : grid0.Coords) : Fin 1 → Nat :=
  let arg0 : BitVec 32 := BitVec.ofNat 32 (i 0).val
  let c32_i32_206 : BitVec 32 := 32#32
  let v552 : BitVec 32 := Scalar.muli arg0 c32_i32_206
  let c31_i32 : BitVec 32 := 31#32
  let v553 : BitVec 32 := Scalar.addi v552 c31_i32
  let v554 : Index := Scalar.indexCast v553
  ![v554.toNat]
def k0_mult32 (v555 : BitVec 32) (v559 : BitVec 32) : BitVec 32 :=
  let v560 : BitVec 32 := Scalar.addi v555 v559
  let c4_i32_209 : BitVec 32 := 4#32
  let v561 : BitVec 32 := Scalar.muli v560 c4_i32_209
  v561

def k0_off64 (v555 : BitVec 32) (v559 : BitVec 32) : Fin 3 → Nat :=
  let v560 : BitVec 32 := Scalar.addi v555 v559
  let c4_i32_209 : BitVec 32 := 4#32
  let v561 : BitVec 32 := Scalar.muli v560 c4_i32_209
  let v562 : BitVec 32 := v561
  let v563 : Index := Scalar.indexCast v562
  let c0_210 : Index := 0#32
  ![v563.toNat, 0, 0]

def k0_chk32 (i : grid0.Coords) (v555 : BitVec 32) (v559 : BitVec 32) : Prop :=
  (∀ (k0_h1 : k0_cond1 i = 1#1), 4 ∣ (k0_mult32 v555 v559).toNat) ∧
  (∀ (k0_h1 : k0_cond1 i = 1#1), ∀ a, (k0_off64 v555 v559) a + S4x2x128.size a ≤ S67968x2x128.size a)
theorem k0_mult32_dvd : ∀ (i : grid0.Coords) (v555 : BitVec 32) (v559 : BitVec 32) (k0_hw32 : k0_chk32 i v555 v559), ∀ (k0_h1 : k0_cond1 i = 1#1), 4 ∣ (k0_mult32 v555 v559).toNat := fun i v555 v559 k0_hw32 k0_h1 => k0_hw32.1 k0_h1
theorem k0_off64_inb : ∀ (i : grid0.Coords) (v555 : BitVec 32) (v559 : BitVec 32) (k0_hw32 : k0_chk32 i v555 v559), ∀ (k0_h1 : k0_cond1 i = 1#1), ∀ a, (k0_off64 v555 v559) a + S4x2x128.size a ≤ S67968x2x128.size a := fun i v555 v559 k0_hw32 k0_h1 => k0_hw32.2 k0_h1

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c8_i32 : BitVec 32 := 8#32
  let v4 : BitVec 1 := Scalar.cmpi .slt arg1 c8_i32
  let v5 : BitVec 1 := Scalar.andi v3 v4
  let c2_i32 : BitVec 32 := 2#32
  let c0_i32_1 : BitVec 32 := 0#32
  let v6 : BitVec 1 := Scalar.cmpi .eq c2_i32 c0_i32_1
  let c1_i32_2 : BitVec 32 := 1#32
  let v7 : BitVec 32 := Scalar.select v6 c1_i32_2 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

@[reducible] def k0_t1_loop : Scf.Loop 32 :=
  let c0_i32_52 : BitVec 32 := 0#32
  let c512_i32 : BitVec 32 := 512#32
  let v114 : BitVec 32 := Scalar.addi c0_i32_52 c512_i32
  let c1_i32_53 : BitVec 32 := 1#32
  ⟨c0_i32_52, v114, c1_i32_53⟩
def k0_mult33 (k0_t1 : Fin k0_t1_loop.trips) : BitVec 32 :=
  let c0_i32_52 : BitVec 32 := 0#32
  let c1_i32_53 : BitVec 32 := 1#32
  let arg15 : BitVec 32 := Scf.iv c0_i32_52 c1_i32_53 k0_t1
  let c2_i32_55 : BitVec 32 := 2#32
  let v115 : BitVec 32 := Scalar.muli arg15 c2_i32_55
  let c4_i32 : BitVec 32 := 4#32
  let v116 : BitVec 32 := Scalar.muli v115 c4_i32
  v116
def k0_off65 (k0_t1 : Fin k0_t1_loop.trips) : Fin 3 → Nat :=
  let c0_i32_52 : BitVec 32 := 0#32
  let c1_i32_53 : BitVec 32 := 1#32
  let arg15 : BitVec 32 := Scf.iv c0_i32_52 c1_i32_53 k0_t1
  let c2_i32_55 : BitVec 32 := 2#32
  let v115 : BitVec 32 := Scalar.muli arg15 c2_i32_55
  let c4_i32 : BitVec 32 := 4#32
  let v116 : BitVec 32 := Scalar.muli v115 c4_i32
  let v117 : BitVec 32 := v116
  let v118 : Index := Scalar.indexCast v117
  let c0_56 : Index := 0#32
  ![v118.toNat, 0, 0]
def k0_off66 (i : grid0.Coords) (k0_t1 : Fin k0_t1_loop.trips) : Fin 1 → Nat :=
  let c0_i32_57 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v121 : BitVec 32 := Scalar.addi c0_i32_57 v113
  let c0_i32_52 : BitVec 32 := 0#32
  let c1_i32_53 : BitVec 32 := 1#32
  let arg15 : BitVec 32 := Scf.iv c0_i32_52 c1_i32_53 k0_t1
  let c2_i32_58 : BitVec 32 := 2#32
  let v122 : BitVec 32 := Scalar.muli arg15 c2_i32_58
  let v123 : BitVec 32 := Scalar.addi v121 v122
  let c0_i32_59 : BitVec 32 := 0#32
  let v124 : BitVec 32 := Scalar.addi v123 c0_i32_59
  let v125 : Index := Scalar.indexCast v124
  ![v125.toNat]
def k0_mult34 (v126 : BitVec 32) : BitVec 32 :=
  v126

def k0_off67 (v126 : BitVec 32) : Fin 3 → Nat :=
  let v127 : BitVec 32 := v126
  let v128 : Index := Scalar.indexCast v127
  let c0_60 : Index := 0#32
  ![v128.toNat, 0, 0]

def k0_chk33 (i : grid0.Coords) (v126 : BitVec 32) : Prop :=
  (∀ (k0_h2 : k0_cond2 i = 1#1), 4 ∣ (k0_mult34 v126).toNat) ∧
  (∀ (k0_h2 : k0_cond2 i = 1#1), ∀ a, (k0_off67 v126) a + S4x2x128.size a ≤ S67968x2x128.size a)
theorem k0_mult34_dvd : ∀ (i : grid0.Coords) (v126 : BitVec 32) (k0_hw33 : k0_chk33 i v126), ∀ (k0_h2 : k0_cond2 i = 1#1), 4 ∣ (k0_mult34 v126).toNat := fun i v126 k0_hw33 k0_h2 => k0_hw33.1 k0_h2
theorem k0_off67_inb : ∀ (i : grid0.Coords) (v126 : BitVec 32) (k0_hw33 : k0_chk33 i v126), ∀ (k0_h2 : k0_cond2 i = 1#1), ∀ a, (k0_off67 v126) a + S4x2x128.size a ≤ S67968x2x128.size a := fun i v126 k0_hw33 k0_h2 => k0_hw33.2 k0_h2

def k0_off68 (i : grid0.Coords) (k0_t1 : Fin k0_t1_loop.trips) : Fin 1 → Nat :=
  let c8192_i32 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v132 : BitVec 32 := Scalar.addi c8192_i32 v113
  let c0_i32_52 : BitVec 32 := 0#32
  let c1_i32_53 : BitVec 32 := 1#32
  let arg15 : BitVec 32 := Scf.iv c0_i32_52 c1_i32_53 k0_t1
  let c2_i32_61 : BitVec 32 := 2#32
  let v133 : BitVec 32 := Scalar.muli arg15 c2_i32_61
  let v134 : BitVec 32 := Scalar.addi v132 v133
  let c0_i32_62 : BitVec 32 := 0#32
  let v135 : BitVec 32 := Scalar.addi v134 c0_i32_62
  let v136 : Index := Scalar.indexCast v135
  ![v136.toNat]
def k0_mult35 (v137 : BitVec 32) : BitVec 32 :=
  v137

def k0_off69 (v137 : BitVec 32) : Fin 3 → Nat :=
  let v138 : BitVec 32 := v137
  let v139 : Index := Scalar.indexCast v138
  let c0_63 : Index := 0#32
  ![v139.toNat, 0, 0]

def k0_chk34 (i : grid0.Coords) (v137 : BitVec 32) : Prop :=
  (∀ (k0_h2 : k0_cond2 i = 1#1), 4 ∣ (k0_mult35 v137).toNat) ∧
  (∀ (k0_h2 : k0_cond2 i = 1#1), ∀ a, (k0_off69 v137) a + S4x2x128.size a ≤ S67968x2x128.size a)
theorem k0_mult35_dvd : ∀ (i : grid0.Coords) (v137 : BitVec 32) (k0_hw34 : k0_chk34 i v137), ∀ (k0_h2 : k0_cond2 i = 1#1), 4 ∣ (k0_mult35 v137).toNat := fun i v137 k0_hw34 k0_h2 => k0_hw34.1 k0_h2
theorem k0_off69_inb : ∀ (i : grid0.Coords) (v137 : BitVec 32) (k0_hw34 : k0_chk34 i v137), ∀ (k0_h2 : k0_cond2 i = 1#1), ∀ a, (k0_off69 v137) a + S4x2x128.size a ≤ S67968x2x128.size a := fun i v137 k0_hw34 k0_h2 => k0_hw34.2 k0_h2

def k0_off70 (i : grid0.Coords) (k0_t1 : Fin k0_t1_loop.trips) : Fin 1 → Nat :=
  let c0_i32_64 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v144 : BitVec 32 := Scalar.addi c0_i32_64 v113
  let c0_i32_52 : BitVec 32 := 0#32
  let c1_i32_53 : BitVec 32 := 1#32
  let arg15 : BitVec 32 := Scf.iv c0_i32_52 c1_i32_53 k0_t1
  let c2_i32_65 : BitVec 32 := 2#32
  let v145 : BitVec 32 := Scalar.muli arg15 c2_i32_65
  let v146 : BitVec 32 := Scalar.addi v144 v145
  let c1_i32_66 : BitVec 32 := 1#32
  let v147 : BitVec 32 := Scalar.addi v146 c1_i32_66
  let v148 : Index := Scalar.indexCast v147
  ![v148.toNat]
def k0_mult36 (v149 : BitVec 32) : BitVec 32 :=
  v149

def k0_off71 (v149 : BitVec 32) : Fin 3 → Nat :=
  let v150 : BitVec 32 := v149
  let v151 : Index := Scalar.indexCast v150
  let c0_67 : Index := 0#32
  ![v151.toNat, 0, 0]

def k0_chk35 (i : grid0.Coords) (v149 : BitVec 32) : Prop :=
  (∀ (k0_h2 : k0_cond2 i = 1#1), 4 ∣ (k0_mult36 v149).toNat) ∧
  (∀ (k0_h2 : k0_cond2 i = 1#1), ∀ a, (k0_off71 v149) a + S4x2x128.size a ≤ S67968x2x128.size a)
theorem k0_mult36_dvd : ∀ (i : grid0.Coords) (v149 : BitVec 32) (k0_hw35 : k0_chk35 i v149), ∀ (k0_h2 : k0_cond2 i = 1#1), 4 ∣ (k0_mult36 v149).toNat := fun i v149 k0_hw35 k0_h2 => k0_hw35.1 k0_h2
theorem k0_off71_inb : ∀ (i : grid0.Coords) (v149 : BitVec 32) (k0_hw35 : k0_chk35 i v149), ∀ (k0_h2 : k0_cond2 i = 1#1), ∀ a, (k0_off71 v149) a + S4x2x128.size a ≤ S67968x2x128.size a := fun i v149 k0_hw35 k0_h2 => k0_hw35.2 k0_h2

def k0_off72 (i : grid0.Coords) (k0_t1 : Fin k0_t1_loop.trips) : Fin 1 → Nat :=
  let c8192_i32_68 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v155 : BitVec 32 := Scalar.addi c8192_i32_68 v113
  let c0_i32_52 : BitVec 32 := 0#32
  let c1_i32_53 : BitVec 32 := 1#32
  let arg15 : BitVec 32 := Scf.iv c0_i32_52 c1_i32_53 k0_t1
  let c2_i32_69 : BitVec 32 := 2#32
  let v156 : BitVec 32 := Scalar.muli arg15 c2_i32_69
  let v157 : BitVec 32 := Scalar.addi v155 v156
  let c1_i32_70 : BitVec 32 := 1#32
  let v158 : BitVec 32 := Scalar.addi v157 c1_i32_70
  let v159 : Index := Scalar.indexCast v158
  ![v159.toNat]
def k0_mult37 (v160 : BitVec 32) : BitVec 32 :=
  v160

def k0_off73 (v160 : BitVec 32) : Fin 3 → Nat :=
  let v161 : BitVec 32 := v160
  let v162 : Index := Scalar.indexCast v161
  let c0_71 : Index := 0#32
  ![v162.toNat, 0, 0]

def k0_chk36 (i : grid0.Coords) (v160 : BitVec 32) : Prop :=
  (∀ (k0_h2 : k0_cond2 i = 1#1), 4 ∣ (k0_mult37 v160).toNat) ∧
  (∀ (k0_h2 : k0_cond2 i = 1#1), ∀ a, (k0_off73 v160) a + S4x2x128.size a ≤ S67968x2x128.size a)
theorem k0_mult37_dvd : ∀ (i : grid0.Coords) (v160 : BitVec 32) (k0_hw36 : k0_chk36 i v160), ∀ (k0_h2 : k0_cond2 i = 1#1), 4 ∣ (k0_mult37 v160).toNat := fun i v160 k0_hw36 k0_h2 => k0_hw36.1 k0_h2
theorem k0_off73_inb : ∀ (i : grid0.Coords) (v160 : BitVec 32) (k0_hw36 : k0_chk36 i v160), ∀ (k0_h2 : k0_cond2 i = 1#1), ∀ a, (k0_off73 v160) a + S4x2x128.size a ≤ S67968x2x128.size a := fun i v160 k0_hw36 k0_h2 => k0_hw36.2 k0_h2

def k0_cond3 (i : grid0.Coords) : BitVec 1 :=
  let arg1 : BitVec 32 := BitVec.ofNat 32 (i 1).val
  let c1_i32_8 : BitVec 32 := 1#32
  let v20 : BitVec 1 := Scalar.cmpi .sge arg1 c1_i32_8
  let c8_i32_9 : BitVec 32 := 8#32
  let v21 : BitVec 1 := Scalar.cmpi .slt arg1 c8_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg1 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

@[reducible] def k0_t2_loop : Scf.Loop 32 :=
  let c0_i32_52 : BitVec 32 := 0#32
  let c512_i32 : BitVec 32 := 512#32
  let v114 : BitVec 32 := Scalar.addi c0_i32_52 c512_i32
  let c1_i32_53 : BitVec 32 := 1#32
  ⟨c0_i32_52, v114, c1_i32_53⟩
def k0_mult38 (k0_t2 : Fin k0_t2_loop.trips) : BitVec 32 :=
  let c0_i32_52 : BitVec 32 := 0#32
  let c1_i32_53 : BitVec 32 := 1#32
  let arg15 : BitVec 32 := Scf.iv c0_i32_52 c1_i32_53 k0_t2
  let c2_i32_55 : BitVec 32 := 2#32
  let v115 : BitVec 32 := Scalar.muli arg15 c2_i32_55
  let c4_i32 : BitVec 32 := 4#32
  let v116 : BitVec 32 := Scalar.muli v115 c4_i32
  v116
def k0_off74 (k0_t2 : Fin k0_t2_loop.trips) : Fin 3 → Nat :=
  let c0_i32_52 : BitVec 32 := 0#32
  let c1_i32_53 : BitVec 32 := 1#32
  let arg15 : BitVec 32 := Scf.iv c0_i32_52 c1_i32_53 k0_t2
  let c2_i32_55 : BitVec 32 := 2#32
  let v115 : BitVec 32 := Scalar.muli arg15 c2_i32_55
  let c4_i32 : BitVec 32 := 4#32
  let v116 : BitVec 32 := Scalar.muli v115 c4_i32
  let v117 : BitVec 32 := v116
  let v118 : Index := Scalar.indexCast v117
  let c0_56 : Index := 0#32
  ![v118.toNat, 0, 0]
def k0_off75 (i : grid0.Coords) (k0_t2 : Fin k0_t2_loop.trips) : Fin 1 → Nat :=
  let c0_i32_57 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v121 : BitVec 32 := Scalar.addi c0_i32_57 v113
  let c0_i32_52 : BitVec 32 := 0#32
  let c1_i32_53 : BitVec 32 := 1#32
  let arg15 : BitVec 32 := Scf.iv c0_i32_52 c1_i32_53 k0_t2
  let c2_i32_58 : BitVec 32 := 2#32
  let v122 : BitVec 32 := Scalar.muli arg15 c2_i32_58
  let v123 : BitVec 32 := Scalar.addi v121 v122
  let c0_i32_59 : BitVec 32 := 0#32
  let v124 : BitVec 32 := Scalar.addi v123 c0_i32_59
  let v125 : Index := Scalar.indexCast v124
  ![v125.toNat]
def k0_mult39 (v126 : BitVec 32) : BitVec 32 :=
  v126

def k0_off76 (v126 : BitVec 32) : Fin 3 → Nat :=
  let v127 : BitVec 32 := v126
  let v128 : Index := Scalar.indexCast v127
  let c0_60 : Index := 0#32
  ![v128.toNat, 0, 0]

def k0_chk37 (i : grid0.Coords) (v126 : BitVec 32) : Prop :=
  (∀ (k0_h3 : k0_cond3 i = 1#1), 4 ∣ (k0_mult39 v126).toNat) ∧
  (∀ (k0_h3 : k0_cond3 i = 1#1), ∀ a, (k0_off76 v126) a + S4x2x128.size a ≤ S67968x2x128.size a)
theorem k0_mult39_dvd : ∀ (i : grid0.Coords) (v126 : BitVec 32) (k0_hw37 : k0_chk37 i v126), ∀ (k0_h3 : k0_cond3 i = 1#1), 4 ∣ (k0_mult39 v126).toNat := fun i v126 k0_hw37 k0_h3 => k0_hw37.1 k0_h3
theorem k0_off76_inb : ∀ (i : grid0.Coords) (v126 : BitVec 32) (k0_hw37 : k0_chk37 i v126), ∀ (k0_h3 : k0_cond3 i = 1#1), ∀ a, (k0_off76 v126) a + S4x2x128.size a ≤ S67968x2x128.size a := fun i v126 k0_hw37 k0_h3 => k0_hw37.2 k0_h3

def k0_off77 (i : grid0.Coords) (k0_t2 : Fin k0_t2_loop.trips) : Fin 1 → Nat :=
  let c8192_i32 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v132 : BitVec 32 := Scalar.addi c8192_i32 v113
  let c0_i32_52 : BitVec 32 := 0#32
  let c1_i32_53 : BitVec 32 := 1#32
  let arg15 : BitVec 32 := Scf.iv c0_i32_52 c1_i32_53 k0_t2
  let c2_i32_61 : BitVec 32 := 2#32
  let v133 : BitVec 32 := Scalar.muli arg15 c2_i32_61
  let v134 : BitVec 32 := Scalar.addi v132 v133
  let c0_i32_62 : BitVec 32 := 0#32
  let v135 : BitVec 32 := Scalar.addi v134 c0_i32_62
  let v136 : Index := Scalar.indexCast v135
  ![v136.toNat]
def k0_mult40 (v137 : BitVec 32) : BitVec 32 :=
  v137

def k0_off78 (v137 : BitVec 32) : Fin 3 → Nat :=
  let v138 : BitVec 32 := v137
  let v139 : Index := Scalar.indexCast v138
  let c0_63 : Index := 0#32
  ![v139.toNat, 0, 0]

def k0_chk38 (i : grid0.Coords) (v137 : BitVec 32) : Prop :=
  (∀ (k0_h3 : k0_cond3 i = 1#1), 4 ∣ (k0_mult40 v137).toNat) ∧
  (∀ (k0_h3 : k0_cond3 i = 1#1), ∀ a, (k0_off78 v137) a + S4x2x128.size a ≤ S67968x2x128.size a)
theorem k0_mult40_dvd : ∀ (i : grid0.Coords) (v137 : BitVec 32) (k0_hw38 : k0_chk38 i v137), ∀ (k0_h3 : k0_cond3 i = 1#1), 4 ∣ (k0_mult40 v137).toNat := fun i v137 k0_hw38 k0_h3 => k0_hw38.1 k0_h3
theorem k0_off78_inb : ∀ (i : grid0.Coords) (v137 : BitVec 32) (k0_hw38 : k0_chk38 i v137), ∀ (k0_h3 : k0_cond3 i = 1#1), ∀ a, (k0_off78 v137) a + S4x2x128.size a ≤ S67968x2x128.size a := fun i v137 k0_hw38 k0_h3 => k0_hw38.2 k0_h3

def k0_off79 (i : grid0.Coords) (k0_t2 : Fin k0_t2_loop.trips) : Fin 1 → Nat :=
  let c0_i32_64 : BitVec 32 := 0#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v144 : BitVec 32 := Scalar.addi c0_i32_64 v113
  let c0_i32_52 : BitVec 32 := 0#32
  let c1_i32_53 : BitVec 32 := 1#32
  let arg15 : BitVec 32 := Scf.iv c0_i32_52 c1_i32_53 k0_t2
  let c2_i32_65 : BitVec 32 := 2#32
  let v145 : BitVec 32 := Scalar.muli arg15 c2_i32_65
  let v146 : BitVec 32 := Scalar.addi v144 v145
  let c1_i32_66 : BitVec 32 := 1#32
  let v147 : BitVec 32 := Scalar.addi v146 c1_i32_66
  let v148 : Index := Scalar.indexCast v147
  ![v148.toNat]
def k0_mult41 (v149 : BitVec 32) : BitVec 32 :=
  v149

def k0_off80 (v149 : BitVec 32) : Fin 3 → Nat :=
  let v150 : BitVec 32 := v149
  let v151 : Index := Scalar.indexCast v150
  let c0_67 : Index := 0#32
  ![v151.toNat, 0, 0]

def k0_chk39 (i : grid0.Coords) (v149 : BitVec 32) : Prop :=
  (∀ (k0_h3 : k0_cond3 i = 1#1), 4 ∣ (k0_mult41 v149).toNat) ∧
  (∀ (k0_h3 : k0_cond3 i = 1#1), ∀ a, (k0_off80 v149) a + S4x2x128.size a ≤ S67968x2x128.size a)
theorem k0_mult41_dvd : ∀ (i : grid0.Coords) (v149 : BitVec 32) (k0_hw39 : k0_chk39 i v149), ∀ (k0_h3 : k0_cond3 i = 1#1), 4 ∣ (k0_mult41 v149).toNat := fun i v149 k0_hw39 k0_h3 => k0_hw39.1 k0_h3
theorem k0_off80_inb : ∀ (i : grid0.Coords) (v149 : BitVec 32) (k0_hw39 : k0_chk39 i v149), ∀ (k0_h3 : k0_cond3 i = 1#1), ∀ a, (k0_off80 v149) a + S4x2x128.size a ≤ S67968x2x128.size a := fun i v149 k0_hw39 k0_h3 => k0_hw39.2 k0_h3

def k0_off81 (i : grid0.Coords) (k0_t2 : Fin k0_t2_loop.trips) : Fin 1 → Nat :=
  let c8192_i32_68 : BitVec 32 := 8192#32
  let arg1 : BitVec 32 := BitVec.ofNat 32 (i 1).val
  let c1_i32_51 : BitVec 32 := 1#32
  let v112 : BitVec 32 := Scalar.subi arg1 c1_i32_51
  let c1024_i32 : BitVec 32 := 1024#32
  let v113 : BitVec 32 := Scalar.muli v112 c1024_i32
  let v155 : BitVec 32 := Scalar.addi c8192_i32_68 v113
  let c0_i32_52 : BitVec 32 := 0#32
  let c1_i32_53 : BitVec 32 := 1#32
  let arg15 : BitVec 32 := Scf.iv c0_i32_52 c1_i32_53 k0_t2
  let c2_i32_69 : BitVec 32 := 2#32
  let v156 : BitVec 32 := Scalar.muli arg15 c2_i32_69
  let v157 : BitVec 32 := Scalar.addi v155 v156
  let c1_i32_70 : BitVec 32 := 1#32
  let v158 : BitVec 32 := Scalar.addi v157 c1_i32_70
  let v159 : Index := Scalar.indexCast v158
  ![v159.toNat]
def k0_mult42 (v160 : BitVec 32) : BitVec 32 :=
  v160

def k0_off82 (v160 : BitVec 32) : Fin 3 → Nat :=
  let v161 : BitVec 32 := v160
  let v162 : Index := Scalar.indexCast v161
  let c0_71 : Index := 0#32
  ![v162.toNat, 0, 0]

def k0_chk40 (i : grid0.Coords) (v160 : BitVec 32) : Prop :=
  (∀ (k0_h3 : k0_cond3 i = 1#1), 4 ∣ (k0_mult42 v160).toNat) ∧
  (∀ (k0_h3 : k0_cond3 i = 1#1), ∀ a, (k0_off82 v160) a + S4x2x128.size a ≤ S67968x2x128.size a)
theorem k0_mult42_dvd : ∀ (i : grid0.Coords) (v160 : BitVec 32) (k0_hw40 : k0_chk40 i v160), ∀ (k0_h3 : k0_cond3 i = 1#1), 4 ∣ (k0_mult42 v160).toNat := fun i v160 k0_hw40 k0_h3 => k0_hw40.1 k0_h3
theorem k0_off82_inb : ∀ (i : grid0.Coords) (v160 : BitVec 32) (k0_hw40 : k0_chk40 i v160), ∀ (k0_h3 : k0_cond3 i = 1#1), ∀ a, (k0_off82 v160) a + S4x2x128.size a ≤ S67968x2x128.size a := fun i v160 k0_hw40 k0_h3 => k0_hw40.2 k0_h3

def k0_cond4 (i : grid0.Coords) : BitVec 1 :=
  let arg1 : BitVec 32 := BitVec.ofNat 32 (i 1).val
  let c8_i32_18 : BitVec 32 := 8#32
  let v37 : BitVec 1 := Scalar.cmpi .eq arg1 c8_i32_18
  let v38 : BitVec 32 := Scalar.extui v37
  let c0_i32_19 : BitVec 32 := 0#32
  let v39 : BitVec 1 := Scalar.cmpi .ne v38 c0_i32_19
  v39

@[reducible] def k0_t3_loop : Scf.Loop 32 :=
  let c0_i32_45 : BitVec 32 := 0#32
  let c512_i32 : BitVec 32 := 512#32
  let v86 : BitVec 32 := Scalar.addi c0_i32_45 c512_i32
  let c1_i32_46 : BitVec 32 := 1#32
  ⟨c0_i32_45, v86, c1_i32_46⟩
def k0_mult43 (k0_t3 : Fin k0_t3_loop.trips) : BitVec 32 :=
  let c0_i32_45 : BitVec 32 := 0#32
  let c1_i32_46 : BitVec 32 := 1#32
  let arg15 : BitVec 32 := Scf.iv c0_i32_45 c1_i32_46 k0_t3
  let c2_i32_48 : BitVec 32 := 2#32
  let v87 : BitVec 32 := Scalar.muli arg15 c2_i32_48
  let c4_i32 : BitVec 32 := 4#32
  let v88 : BitVec 32 := Scalar.muli v87 c4_i32
  v88
def k0_off83 (k0_t3 : Fin k0_t3_loop.trips) : Fin 3 → Nat :=
  let c0_i32_45 : BitVec 32 := 0#32
  let c1_i32_46 : BitVec 32 := 1#32
  let arg15 : BitVec 32 := Scf.iv c0_i32_45 c1_i32_46 k0_t3
  let c2_i32_48 : BitVec 32 := 2#32
  let v87 : BitVec 32 := Scalar.muli arg15 c2_i32_48
  let c4_i32 : BitVec 32 := 4#32
  let v88 : BitVec 32 := Scalar.muli v87 c4_i32
  let v89 : BitVec 32 := v88
  let v90 : Index := Scalar.indexCast v89
  let c0 : Index := 0#32
  ![v90.toNat, 0, 0]
def k0_off84 (k0_t3 : Fin k0_t3_loop.trips) : Fin 1 → Nat :=
  let c7168_i32 : BitVec 32 := 7168#32
  let c0_i32_45 : BitVec 32 := 0#32
  let c1_i32_46 : BitVec 32 := 1#32
  let arg15 : BitVec 32 := Scf.iv c0_i32_45 c1_i32_46 k0_t3
  let c2_i32_49 : BitVec 32 := 2#32
  let v93 : BitVec 32 := Scalar.muli arg15 c2_i32_49
  let v94 : BitVec 32 := Scalar.addi c7168_i32 v93
  let c0_i32_50 : BitVec 32 := 0#32
  let v95 : BitVec 32 := Scalar.addi v94 c0_i32_50
  let v96 : Index := Scalar.indexCast v95
  ![v96.toNat]
def k0_mult44 (v97 : BitVec 32) : BitVec 32 :=
  v97

def k0_off85 (v97 : BitVec 32) : Fin 3 → Nat :=
  let v98 : BitVec 32 := v97
  let v99 : Index := Scalar.indexCast v98
  let c0_51 : Index := 0#32
  ![v99.toNat, 0, 0]

def k0_chk41 (i : grid0.Coords) (v97 : BitVec 32) : Prop :=
  (∀ (k0_h4 : k0_cond4 i = 1#1), 4 ∣ (k0_mult44 v97).toNat) ∧
  (∀ (k0_h4 : k0_cond4 i = 1#1), ∀ a, (k0_off85 v97) a + S4x2x128.size a ≤ S67968x2x128.size a)
theorem k0_mult44_dvd : ∀ (i : grid0.Coords) (v97 : BitVec 32) (k0_hw41 : k0_chk41 i v97), ∀ (k0_h4 : k0_cond4 i = 1#1), 4 ∣ (k0_mult44 v97).toNat := fun i v97 k0_hw41 k0_h4 => k0_hw41.1 k0_h4
theorem k0_off85_inb : ∀ (i : grid0.Coords) (v97 : BitVec 32) (k0_hw41 : k0_chk41 i v97), ∀ (k0_h4 : k0_cond4 i = 1#1), ∀ a, (k0_off85 v97) a + S4x2x128.size a ≤ S67968x2x128.size a := fun i v97 k0_hw41 k0_h4 => k0_hw41.2 k0_h4

def k0_off86 (k0_t3 : Fin k0_t3_loop.trips) : Fin 1 → Nat :=
  let c15360_i32 : BitVec 32 := 15360#32
  let c0_i32_45 : BitVec 32 := 0#32
  let c1_i32_46 : BitVec 32 := 1#32
  let arg15 : BitVec 32 := Scf.iv c0_i32_45 c1_i32_46 k0_t3
  let c2_i32_52 : BitVec 32 := 2#32
  let v103 : BitVec 32 := Scalar.muli arg15 c2_i32_52
  let v104 : BitVec 32 := Scalar.addi c15360_i32 v103
  let c0_i32_53 : BitVec 32 := 0#32
  let v105 : BitVec 32 := Scalar.addi v104 c0_i32_53
  let v106 : Index := Scalar.indexCast v105
  ![v106.toNat]
def k0_mult45 (v107 : BitVec 32) : BitVec 32 :=
  v107

def k0_off87 (v107 : BitVec 32) : Fin 3 → Nat :=
  let v108 : BitVec 32 := v107
  let v109 : Index := Scalar.indexCast v108
  let c0_54 : Index := 0#32
  ![v109.toNat, 0, 0]

def k0_chk42 (i : grid0.Coords) (v107 : BitVec 32) : Prop :=
  (∀ (k0_h4 : k0_cond4 i = 1#1), 4 ∣ (k0_mult45 v107).toNat) ∧
  (∀ (k0_h4 : k0_cond4 i = 1#1), ∀ a, (k0_off87 v107) a + S4x2x128.size a ≤ S67968x2x128.size a)
theorem k0_mult45_dvd : ∀ (i : grid0.Coords) (v107 : BitVec 32) (k0_hw42 : k0_chk42 i v107), ∀ (k0_h4 : k0_cond4 i = 1#1), 4 ∣ (k0_mult45 v107).toNat := fun i v107 k0_hw42 k0_h4 => k0_hw42.1 k0_h4
theorem k0_off87_inb : ∀ (i : grid0.Coords) (v107 : BitVec 32) (k0_hw42 : k0_chk42 i v107), ∀ (k0_h4 : k0_cond4 i = 1#1), ∀ a, (k0_off87 v107) a + S4x2x128.size a ≤ S67968x2x128.size a := fun i v107 k0_hw42 k0_h4 => k0_hw42.2 k0_h4

def k0_off88 (k0_t3 : Fin k0_t3_loop.trips) : Fin 1 → Nat :=
  let c7168_i32_56 : BitVec 32 := 7168#32
  let c0_i32_45 : BitVec 32 := 0#32
  let c1_i32_46 : BitVec 32 := 1#32
  let arg15 : BitVec 32 := Scf.iv c0_i32_45 c1_i32_46 k0_t3
  let c2_i32_55 : BitVec 32 := 2#32
  let v114 : BitVec 32 := Scalar.muli arg15 c2_i32_55
  let v115 : BitVec 32 := Scalar.addi c7168_i32_56 v114
  let c1_i32_57 : BitVec 32 := 1#32
  let v116 : BitVec 32 := Scalar.addi v115 c1_i32_57
  let v117 : Index := Scalar.indexCast v116
  ![v117.toNat]
def k0_mult46 (v118 : BitVec 32) : BitVec 32 :=
  v118

def k0_off89 (v118 : BitVec 32) : Fin 3 → Nat :=
  let v119 : BitVec 32 := v118
  let v120 : Index := Scalar.indexCast v119
  let c0_58 : Index := 0#32
  ![v120.toNat, 0, 0]

def k0_chk43 (i : grid0.Coords) (v118 : BitVec 32) : Prop :=
  (∀ (k0_h4 : k0_cond4 i = 1#1), 4 ∣ (k0_mult46 v118).toNat) ∧
  (∀ (k0_h4 : k0_cond4 i = 1#1), ∀ a, (k0_off89 v118) a + S4x2x128.size a ≤ S67968x2x128.size a)
theorem k0_mult46_dvd : ∀ (i : grid0.Coords) (v118 : BitVec 32) (k0_hw43 : k0_chk43 i v118), ∀ (k0_h4 : k0_cond4 i = 1#1), 4 ∣ (k0_mult46 v118).toNat := fun i v118 k0_hw43 k0_h4 => k0_hw43.1 k0_h4
theorem k0_off89_inb : ∀ (i : grid0.Coords) (v118 : BitVec 32) (k0_hw43 : k0_chk43 i v118), ∀ (k0_h4 : k0_cond4 i = 1#1), ∀ a, (k0_off89 v118) a + S4x2x128.size a ≤ S67968x2x128.size a := fun i v118 k0_hw43 k0_h4 => k0_hw43.2 k0_h4

def k0_off90 (k0_t3 : Fin k0_t3_loop.trips) : Fin 1 → Nat :=
  let c15360_i32_60 : BitVec 32 := 15360#32
  let c0_i32_45 : BitVec 32 := 0#32
  let c1_i32_46 : BitVec 32 := 1#32
  let arg15 : BitVec 32 := Scf.iv c0_i32_45 c1_i32_46 k0_t3
  let c2_i32_59 : BitVec 32 := 2#32
  let v124 : BitVec 32 := Scalar.muli arg15 c2_i32_59
  let v125 : BitVec 32 := Scalar.addi c15360_i32_60 v124
  let c1_i32_61 : BitVec 32 := 1#32
  let v126 : BitVec 32 := Scalar.addi v125 c1_i32_61
  let v127 : Index := Scalar.indexCast v126
  ![v127.toNat]
def k0_mult47 (v128 : BitVec 32) : BitVec 32 :=
  v128

def k0_off91 (v128 : BitVec 32) : Fin 3 → Nat :=
  let v129 : BitVec 32 := v128
  let v130 : Index := Scalar.indexCast v129
  let c0_62 : Index := 0#32
  ![v130.toNat, 0, 0]

def k0_chk44 (i : grid0.Coords) (v128 : BitVec 32) : Prop :=
  (∀ (k0_h4 : k0_cond4 i = 1#1), 4 ∣ (k0_mult47 v128).toNat) ∧
  (∀ (k0_h4 : k0_cond4 i = 1#1), ∀ a, (k0_off91 v128) a + S4x2x128.size a ≤ S67968x2x128.size a)
theorem k0_mult47_dvd : ∀ (i : grid0.Coords) (v128 : BitVec 32) (k0_hw44 : k0_chk44 i v128), ∀ (k0_h4 : k0_cond4 i = 1#1), 4 ∣ (k0_mult47 v128).toNat := fun i v128 k0_hw44 k0_h4 => k0_hw44.1 k0_h4
theorem k0_off91_inb : ∀ (i : grid0.Coords) (v128 : BitVec 32) (k0_hw44 : k0_chk44 i v128), ∀ (k0_h4 : k0_cond4 i = 1#1), ∀ a, (k0_off91 v128) a + S4x2x128.size a ≤ S67968x2x128.size a := fun i v128 k0_hw44 k0_h4 => k0_hw44.2 k0_h4

def k0_cond5 (i : grid0.Coords) : BitVec 1 :=
  let arg1 : BitVec 32 := BitVec.ofNat 32 (i 1).val
  let c9_i32 : BitVec 32 := 9#32
  let v40 : BitVec 1 := Scalar.cmpi .sge arg1 c9_i32
  let c25_i32 : BitVec 32 := 25#32
  let v41 : BitVec 1 := Scalar.cmpi .slt arg1 c25_i32
  let v42 : BitVec 1 := Scalar.andi v40 v41
  let v43 : BitVec 32 := Scalar.extui v42
  let c0_i32_20 : BitVec 32 := 0#32
  let v44 : BitVec 1 := Scalar.cmpi .ne v43 c0_i32_20
  v44

def k0_off92 (i : grid0.Coords) : Fin 1 → Nat :=
  let arg0 : BitVec 32 := BitVec.ofNat 32 (i 0).val
  let c32_i32 : BitVec 32 := 32#32
  let v86 : BitVec 32 := Scalar.muli arg0 c32_i32
  let arg1 : BitVec 32 := BitVec.ofNat 32 (i 1).val
  let c9_i32_45 : BitVec 32 := 9#32
  let v87 : BitVec 32 := Scalar.subi arg1 c9_i32_45
  let c2_i32_46 : BitVec 32 := 2#32
  let v88 : BitVec 32 := Scalar.muli v87 c2_i32_46
  let v89 : BitVec 32 := Scalar.addi v86 v88
  let c0_i32_47 : BitVec 32 := 0#32
  let v90 : BitVec 32 := Scalar.addi v89 c0_i32_47
  let v91 : Index := Scalar.indexCast v90
  ![v91.toNat]
@[reducible] def k0_t4_loop (v92 : BitVec 32) : Scf.Loop 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_59 : BitVec 32 := 1#32
  ⟨c0_i32_57, v118, c1_i32_59⟩

def k0_mult48 (v92 : BitVec 32) (v94 : BitVec 32) (k0_t4 : Fin (k0_t4_loop v92).trips) : BitVec 32 :=
  let c0_i32_57 : BitVec 32 := 0#32
  let c1_i32_59 : BitVec 32 := 1#32
  let arg15 : BitVec 32 := Scf.iv c0_i32_57 c1_i32_59 k0_t4
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  v154

def k0_off93 (v92 : BitVec 32) (v94 : BitVec 32) (k0_t4 : Fin (k0_t4_loop v92).trips) (c0_i32_80 : BitVec 32) : Fin 3 → Nat :=
  let c0_i32_57 : BitVec 32 := 0#32
  let c1_i32_59 : BitVec 32 := 1#32
  let arg15 : BitVec 32 := Scf.iv c0_i32_57 c1_i32_59 k0_t4
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0, 0]
@[reducible] def k0_t5_loop (v92 : BitVec 32) : Scf.Loop 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let v115 : BitVec 32 := Scalar.addi c0_i32_57 v114
  let c1_i32_60 : BitVec 32 := 1#32
  ⟨v118, v115, c1_i32_60⟩

def k0_chk45 (i : grid0.Coords) (v92 : BitVec 32) : Prop :=
  (∀ (k0_h5 : k0_cond5 i = 1#1), (k0_t4_loop v92).OK) ∧
  (∀ (k0_h5 : k0_cond5 i = 1#1), (k0_t5_loop v92).OK)
theorem k0_t4_ok : ∀ (i : grid0.Coords) (v92 : BitVec 32) (k0_hw45 : k0_chk45 i v92), ∀ (k0_h5 : k0_cond5 i = 1#1), (k0_t4_loop v92).OK := fun i v92 k0_hw45 k0_h5 => k0_hw45.1 k0_h5
theorem k0_t5_ok : ∀ (i : grid0.Coords) (v92 : BitVec 32) (k0_hw45 : k0_chk45 i v92), ∀ (k0_h5 : k0_cond5 i = 1#1), (k0_t5_loop v92).OK := fun i v92 k0_hw45 k0_h5 => k0_hw45.2 k0_h5

def k0_mult49 (v92 : BitVec 32) (v94 : BitVec 32) (k0_t5 : Fin (k0_t5_loop v92).trips) : BitVec 32 :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg15 : BitVec 32 := Scf.iv v118 c1_i32_60 k0_t5
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  v154
def k0_off94 (v92 : BitVec 32) (v94 : BitVec 32) (k0_t5 : Fin (k0_t5_loop v92).trips) (c0_i32_80 : BitVec 32) : Fin 3 → Nat :=
  let c0_i32_57 : BitVec 32 := 0#32
  let c576_i32 : BitVec 32 := 576#32
  let v95 : BitVec 32 := Scalar.addi v92 c576_i32
  let c1_i32_48 : BitVec 32 := 1#32
  let v96 : BitVec 32 := Scalar.subi v95 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c576_i32_49 : BitVec 32 := 576#32
  let c0_i32_52 : BitVec 32 := 0#32
  let v103 : BitVec 1 := Scalar.cmpi .sgt c576_i32_49 c0_i32_52
  let v104 : BitVec 32 := Scalar.extui v103
  let c0_i32_53 : BitVec 32 := 0#32
  let v105 : BitVec 1 := Scalar.cmpi .slt c576_i32_49 c0_i32_53
  let v106 : BitVec 32 := Scalar.extui v105
  let v107 : BitVec 32 := Scalar.subi v104 v106
  let v108 : BitVec 1 := Scalar.cmpi .ne v102 v107
  let v109 : BitVec 32 := Scalar.remsi v96 c576_i32_49
  let c0_i32_54 : BitVec 32 := 0#32
  let v110 : BitVec 1 := Scalar.cmpi .ne v109 c0_i32_54
  let v111 : BitVec 1 := Scalar.andi v108 v110
  let v97 : BitVec 32 := Scalar.divsi v96 c576_i32_49
  let c1_i32_55 : BitVec 32 := 1#32
  let v112 : BitVec 32 := Scalar.subi v97 c1_i32_55
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg15 : BitVec 32 := Scf.iv v118 c1_i32_60 k0_t5
  let c576_i32_79 : BitVec 32 := 576#32
  let v152 : BitVec 32 := Scalar.muli arg15 c576_i32_79
  let v153 : BitVec 32 := Scalar.addi v94 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0, 0]

def k0_chk46 (i : grid0.Coords) (v92 : BitVec 32) (v94 : BitVec 32) : Prop :=
  (∀ k0_t4 : Fin (k0_t4_loop v92).trips, ∀ (k0_h5 : k0_cond5 i = 1#1), 8 ∣ (k0_mult48 v92 v94 k0_t4).toNat) ∧
  (∀ k0_t4 : Fin (k0_t4_loop v92).trips, ∀ (k0_h5 : k0_cond5 i = 1#1), ∀ (r : Fin 4), ∀ a, S576x2x128.size a = 0 ∨ (k0_off93 v92 v94 k0_t4 (BitVec.ofNat 32 r.val)) a + (![4, 1, 1] : Fin 3 → Nat) a * (S576x2x128.size a - 1) < S67968x2x128.size a) ∧
  (∀ k0_t5 : Fin (k0_t5_loop v92).trips, ∀ (k0_h5 : k0_cond5 i = 1#1), 8 ∣ (k0_mult49 v92 v94 k0_t5).toNat) ∧
  (∀ k0_t5 : Fin (k0_t5_loop v92).trips, ∀ (k0_h5 : k0_cond5 i = 1#1), ∀ (r : Fin 4), ∀ a, S576x2x128.size a = 0 ∨ (k0_off94 v92 v94 k0_t5 (BitVec.ofNat 32 r.val)) a + (![4, 1, 1] : Fin 3 → Nat) a * (S576x2x128.size a - 1) < S67968x2x128.size a)
theorem k0_mult48_dvd : ∀ (i : grid0.Coords) (v92 : BitVec 32) (v94 : BitVec 32) (k0_hw46 : k0_chk46 i v92 v94) (k0_t4 : Fin (k0_t4_loop v92).trips), ∀ (k0_h5 : k0_cond5 i = 1#1), 8 ∣ (k0_mult48 v92 v94 k0_t4).toNat := fun i v92 v94 k0_hw46 k0_t4 k0_h5 => k0_hw46.1 k0_t4 k0_h5
theorem k0_off93_inb : ∀ (i : grid0.Coords) (v92 : BitVec 32) (v94 : BitVec 32) (k0_hw46 : k0_chk46 i v92 v94) (k0_t4 : Fin (k0_t4_loop v92).trips), ∀ (k0_h5 : k0_cond5 i = 1#1), ∀ (r : Fin 4), ∀ a, S576x2x128.size a = 0 ∨ (k0_off93 v92 v94 k0_t4 (BitVec.ofNat 32 r.val)) a + (![4, 1, 1] : Fin 3 → Nat) a * (S576x2x128.size a - 1) < S67968x2x128.size a := fun i v92 v94 k0_hw46 k0_t4 k0_h5 r => k0_hw46.2.1 k0_t4 k0_h5 r
theorem k0_mult49_dvd : ∀ (i : grid0.Coords) (v92 : BitVec 32) (v94 : BitVec 32) (k0_hw46 : k0_chk46 i v92 v94) (k0_t5 : Fin (k0_t5_loop v92).trips), ∀ (k0_h5 : k0_cond5 i = 1#1), 8 ∣ (k0_mult49 v92 v94 k0_t5).toNat := fun i v92 v94 k0_hw46 k0_t5 k0_h5 => k0_hw46.2.2.1 k0_t5 k0_h5
theorem k0_off94_inb : ∀ (i : grid0.Coords) (v92 : BitVec 32) (v94 : BitVec 32) (k0_hw46 : k0_chk46 i v92 v94) (k0_t5 : Fin (k0_t5_loop v92).trips), ∀ (k0_h5 : k0_cond5 i = 1#1), ∀ (r : Fin 4), ∀ a, S576x2x128.size a = 0 ∨ (k0_off94 v92 v94 k0_t5 (BitVec.ofNat 32 r.val)) a + (![4, 1, 1] : Fin 3 → Nat) a * (S576x2x128.size a - 1) < S67968x2x128.size a := fun i v92 v94 k0_hw46 k0_t5 k0_h5 r => k0_hw46.2.2.2 k0_t5 k0_h5 r

def k0_off95 (i : grid0.Coords) : Fin 1 → Nat :=
  let arg0 : BitVec 32 := BitVec.ofNat 32 (i 0).val
  let c32_i32_61 : BitVec 32 := 32#32
  let v119 : BitVec 32 := Scalar.muli arg0 c32_i32_61
  let arg1 : BitVec 32 := BitVec.ofNat 32 (i 1).val
  let c9_i32_62 : BitVec 32 := 9#32
  let v120 : BitVec 32 := Scalar.subi arg1 c9_i32_62
  let c2_i32_63 : BitVec 32 := 2#32
  let v121 : BitVec 32 := Scalar.muli v120 c2_i32_63
  let v122 : BitVec 32 := Scalar.addi v119 v121
  let c1_i32_64 : BitVec 32 := 1#32
  let v123 : BitVec 32 := Scalar.addi v122 c1_i32_64
  let v124 : Index := Scalar.indexCast v123
  ![v124.toNat]
@[reducible] def k0_t6_loop (v125 : BitVec 32) : Scf.Loop 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_77 : BitVec 32 := 1#32
  ⟨c0_i32_75, v151, c1_i32_77⟩

def k0_mult50 (v125 : BitVec 32) (v127 : BitVec 32) (k0_t6 : Fin (k0_t6_loop v125).trips) : BitVec 32 :=
  let c0_i32_75 : BitVec 32 := 0#32
  let c1_i32_77 : BitVec 32 := 1#32
  let arg15 : BitVec 32 := Scf.iv c0_i32_75 c1_i32_77 k0_t6
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  v154

def k0_off96 (v125 : BitVec 32) (v127 : BitVec 32) (k0_t6 : Fin (k0_t6_loop v125).trips) (c0_i32_80 : BitVec 32) : Fin 3 → Nat :=
  let c0_i32_75 : BitVec 32 := 0#32
  let c1_i32_77 : BitVec 32 := 1#32
  let arg15 : BitVec 32 := Scf.iv c0_i32_75 c1_i32_77 k0_t6
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0, 0]
@[reducible] def k0_t7_loop (v125 : BitVec 32) : Scf.Loop 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let v148 : BitVec 32 := Scalar.addi c0_i32_75 v147
  let c1_i32_78 : BitVec 32 := 1#32
  ⟨v151, v148, c1_i32_78⟩

def k0_chk47 (i : grid0.Coords) (v125 : BitVec 32) : Prop :=
  (∀ (k0_h5 : k0_cond5 i = 1#1), (k0_t6_loop v125).OK) ∧
  (∀ (k0_h5 : k0_cond5 i = 1#1), (k0_t7_loop v125).OK)
theorem k0_t6_ok : ∀ (i : grid0.Coords) (v125 : BitVec 32) (k0_hw47 : k0_chk47 i v125), ∀ (k0_h5 : k0_cond5 i = 1#1), (k0_t6_loop v125).OK := fun i v125 k0_hw47 k0_h5 => k0_hw47.1 k0_h5
theorem k0_t7_ok : ∀ (i : grid0.Coords) (v125 : BitVec 32) (k0_hw47 : k0_chk47 i v125), ∀ (k0_h5 : k0_cond5 i = 1#1), (k0_t7_loop v125).OK := fun i v125 k0_hw47 k0_h5 => k0_hw47.2 k0_h5

def k0_mult51 (v125 : BitVec 32) (v127 : BitVec 32) (k0_t7 : Fin (k0_t7_loop v125).trips) : BitVec 32 :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_78 : BitVec 32 := 1#32
  let arg15 : BitVec 32 := Scf.iv v151 c1_i32_78 k0_t7
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  v154
def k0_off97 (v125 : BitVec 32) (v127 : BitVec 32) (k0_t7 : Fin (k0_t7_loop v125).trips) (c0_i32_80 : BitVec 32) : Fin 3 → Nat :=
  let c0_i32_75 : BitVec 32 := 0#32
  let c576_i32_65 : BitVec 32 := 576#32
  let v128 : BitVec 32 := Scalar.addi v125 c576_i32_65
  let c1_i32_66 : BitVec 32 := 1#32
  let v129 : BitVec 32 := Scalar.subi v128 c1_i32_66
  let c0_i32_68 : BitVec 32 := 0#32
  let v131 : BitVec 1 := Scalar.cmpi .sgt v129 c0_i32_68
  let v132 : BitVec 32 := Scalar.extui v131
  let c0_i32_69 : BitVec 32 := 0#32
  let v133 : BitVec 1 := Scalar.cmpi .slt v129 c0_i32_69
  let v134 : BitVec 32 := Scalar.extui v133
  let v135 : BitVec 32 := Scalar.subi v132 v134
  let c576_i32_67 : BitVec 32 := 576#32
  let c0_i32_70 : BitVec 32 := 0#32
  let v136 : BitVec 1 := Scalar.cmpi .sgt c576_i32_67 c0_i32_70
  let v137 : BitVec 32 := Scalar.extui v136
  let c0_i32_71 : BitVec 32 := 0#32
  let v138 : BitVec 1 := Scalar.cmpi .slt c576_i32_67 c0_i32_71
  let v139 : BitVec 32 := Scalar.extui v138
  let v140 : BitVec 32 := Scalar.subi v137 v139
  let v141 : BitVec 1 := Scalar.cmpi .ne v135 v140
  let v142 : BitVec 32 := Scalar.remsi v129 c576_i32_67
  let c0_i32_72 : BitVec 32 := 0#32
  let v143 : BitVec 1 := Scalar.cmpi .ne v142 c0_i32_72
  let v144 : BitVec 1 := Scalar.andi v141 v143
  let v130 : BitVec 32 := Scalar.divsi v129 c576_i32_67
  let c1_i32_73 : BitVec 32 := 1#32
  let v145 : BitVec 32 := Scalar.subi v130 c1_i32_73
  let v146 : BitVec 32 := Scalar.select v144 v145 v130
  let v147 : BitVec 32 := Scalar.subi v146 c0_i32_75
  let c1_i32_76 : BitVec 32 := 1#32
  let v149 : BitVec 32 := Scalar.divsi v147 c1_i32_76
  let v150 : BitVec 32 := Scalar.muli v149 c1_i32_76
  let v151 : BitVec 32 := Scalar.addi c0_i32_75 v150
  let c1_i32_78 : BitVec 32 := 1#32
  let arg15 : BitVec 32 := Scf.iv v151 c1_i32_78 k0_t7
  let c576_i32_79 : BitVec 32 := 576#32
  let v152 : BitVec 32 := Scalar.muli arg15 c576_i32_79
  let v153 : BitVec 32 := Scalar.addi v127 v152
  let c4_i32 : BitVec 32 := 4#32
  let v154 : BitVec 32 := Scalar.muli v153 c4_i32
  let v155 : BitVec 32 := v154
  let v156 : BitVec 32 := Scalar.addi v155 c0_i32_80
  let v157 : Index := Scalar.indexCast v156
  let c0 : Index := 0#32
  ![v157.toNat, 0, 0]

def k0_chk48 (i : grid0.Coords) (v125 : BitVec 32) (v127 : BitVec 32) : Prop :=
  (∀ k0_t6 : Fin (k0_t6_loop v125).trips, ∀ (k0_h5 : k0_cond5 i = 1#1), 8 ∣ (k0_mult50 v125 v127 k0_t6).toNat) ∧
  (∀ k0_t6 : Fin (k0_t6_loop v125).trips, ∀ (k0_h5 : k0_cond5 i = 1#1), ∀ (r : Fin 4), ∀ a, S576x2x128.size a = 0 ∨ (k0_off96 v125 v127 k0_t6 (BitVec.ofNat 32 r.val)) a + (![4, 1, 1] : Fin 3 → Nat) a * (S576x2x128.size a - 1) < S67968x2x128.size a) ∧
  (∀ k0_t7 : Fin (k0_t7_loop v125).trips, ∀ (k0_h5 : k0_cond5 i = 1#1), 8 ∣ (k0_mult51 v125 v127 k0_t7).toNat) ∧
  (∀ k0_t7 : Fin (k0_t7_loop v125).trips, ∀ (k0_h5 : k0_cond5 i = 1#1), ∀ (r : Fin 4), ∀ a, S576x2x128.size a = 0 ∨ (k0_off97 v125 v127 k0_t7 (BitVec.ofNat 32 r.val)) a + (![4, 1, 1] : Fin 3 → Nat) a * (S576x2x128.size a - 1) < S67968x2x128.size a)
theorem k0_mult50_dvd : ∀ (i : grid0.Coords) (v125 : BitVec 32) (v127 : BitVec 32) (k0_hw48 : k0_chk48 i v125 v127) (k0_t6 : Fin (k0_t6_loop v125).trips), ∀ (k0_h5 : k0_cond5 i = 1#1), 8 ∣ (k0_mult50 v125 v127 k0_t6).toNat := fun i v125 v127 k0_hw48 k0_t6 k0_h5 => k0_hw48.1 k0_t6 k0_h5
theorem k0_off96_inb : ∀ (i : grid0.Coords) (v125 : BitVec 32) (v127 : BitVec 32) (k0_hw48 : k0_chk48 i v125 v127) (k0_t6 : Fin (k0_t6_loop v125).trips), ∀ (k0_h5 : k0_cond5 i = 1#1), ∀ (r : Fin 4), ∀ a, S576x2x128.size a = 0 ∨ (k0_off96 v125 v127 k0_t6 (BitVec.ofNat 32 r.val)) a + (![4, 1, 1] : Fin 3 → Nat) a * (S576x2x128.size a - 1) < S67968x2x128.size a := fun i v125 v127 k0_hw48 k0_t6 k0_h5 r => k0_hw48.2.1 k0_t6 k0_h5 r
theorem k0_mult51_dvd : ∀ (i : grid0.Coords) (v125 : BitVec 32) (v127 : BitVec 32) (k0_hw48 : k0_chk48 i v125 v127) (k0_t7 : Fin (k0_t7_loop v125).trips), ∀ (k0_h5 : k0_cond5 i = 1#1), 8 ∣ (k0_mult51 v125 v127 k0_t7).toNat := fun i v125 v127 k0_hw48 k0_t7 k0_h5 => k0_hw48.2.2.1 k0_t7 k0_h5
theorem k0_off97_inb : ∀ (i : grid0.Coords) (v125 : BitVec 32) (v127 : BitVec 32) (k0_hw48 : k0_chk48 i v125 v127) (k0_t7 : Fin (k0_t7_loop v125).trips), ∀ (k0_h5 : k0_cond5 i = 1#1), ∀ (r : Fin 4), ∀ a, S576x2x128.size a = 0 ∨ (k0_off97 v125 v127 k0_t7 (BitVec.ofNat 32 r.val)) a + (![4, 1, 1] : Fin 3 → Nat) a * (S576x2x128.size a - 1) < S67968x2x128.size a := fun i v125 v127 k0_hw48 k0_t7 k0_h5 r => k0_hw48.2.2.2 k0_t7 k0_h5 r

def k0_cond6 (i : grid0.Coords) : BitVec 1 :=
  let arg1 : BitVec 32 := BitVec.ofNat 32 (i 1).val
  let c25_i32_21 : BitVec 32 := 25#32
  let v45 : BitVec 32 := Scalar.subi arg1 c25_i32_21
  let c0_i32_22 : BitVec 32 := 0#32
  let v46 : BitVec 1 := Scalar.cmpi .eq v45 c0_i32_22
  let v47 : BitVec 32 := Scalar.extui v46
  let c0_i32_23 : BitVec 32 := 0#32
  let v48 : BitVec 1 := Scalar.cmpi .ne v47 c0_i32_23
  v48

@[reducible] def k0_t8_loop : Scf.Loop 32 :=
  let c0_i32_45 : BitVec 32 := 0#32
  let c512_i32 : BitVec 32 := 512#32
  let v86 : BitVec 32 := Scalar.addi c0_i32_45 c512_i32
  let c1_i32_46 : BitVec 32 := 1#32
  ⟨c0_i32_45, v86, c1_i32_46⟩
def k0_off98 (k0_t8 : Fin k0_t8_loop.trips) : Fin 1 → Nat :=
  let c0_i32_48 : BitVec 32 := 0#32
  let c0_i32_45 : BitVec 32 := 0#32
  let c1_i32_46 : BitVec 32 := 1#32
  let arg15 : BitVec 32 := Scf.iv c0_i32_45 c1_i32_46 k0_t8
  let v87 : BitVec 32 := Scalar.addi c0_i32_48 arg15
  let v88 : Index := Scalar.indexCast v87
  ![v88.toNat]
def k0_mult52 (k0_t8 : Fin k0_t8_loop.trips) : BitVec 32 :=
  let c0_i32_49 : BitVec 32 := 0#32
  let c0_i32_45 : BitVec 32 := 0#32
  let c1_i32_46 : BitVec 32 := 1#32
  let arg15 : BitVec 32 := Scf.iv c0_i32_45 c1_i32_46 k0_t8
  let v90 : BitVec 32 := Scalar.addi c0_i32_49 arg15
  let c4_i32 : BitVec 32 := 4#32
  let v91 : BitVec 32 := Scalar.muli v90 c4_i32
  v91
def k0_mult53 (v89 : BitVec 32) : BitVec 32 :=
  v89

def k0_off99 (v89 : BitVec 32) : Fin 3 → Nat :=
  let v93 : BitVec 32 := v89
  let v94 : Index := Scalar.indexCast v93
  let c0 : Index := 0#32
  ![v94.toNat, 0, 0]

def k0_chk49 (i : grid0.Coords) (v89 : BitVec 32) : Prop :=
  (∀ (k0_h6 : k0_cond6 i = 1#1), 4 ∣ (k0_mult53 v89).toNat) ∧
  (∀ (k0_h6 : k0_cond6 i = 1#1), ∀ a, (k0_off99 v89) a + S4x2x128.size a ≤ S67968x2x128.size a)
theorem k0_mult53_dvd : ∀ (i : grid0.Coords) (v89 : BitVec 32) (k0_hw49 : k0_chk49 i v89), ∀ (k0_h6 : k0_cond6 i = 1#1), 4 ∣ (k0_mult53 v89).toNat := fun i v89 k0_hw49 k0_h6 => k0_hw49.1 k0_h6
theorem k0_off99_inb : ∀ (i : grid0.Coords) (v89 : BitVec 32) (k0_hw49 : k0_chk49 i v89), ∀ (k0_h6 : k0_cond6 i = 1#1), ∀ a, (k0_off99 v89) a + S4x2x128.size a ≤ S67968x2x128.size a := fun i v89 k0_hw49 k0_h6 => k0_hw49.2 k0_h6

def k0_off100 (k0_t8 : Fin k0_t8_loop.trips) : Fin 3 → Nat :=
  let c0_i32_49 : BitVec 32 := 0#32
  let c0_i32_45 : BitVec 32 := 0#32
  let c1_i32_46 : BitVec 32 := 1#32
  let arg15 : BitVec 32 := Scf.iv c0_i32_45 c1_i32_46 k0_t8
  let v90 : BitVec 32 := Scalar.addi c0_i32_49 arg15
  let c4_i32 : BitVec 32 := 4#32
  let v91 : BitVec 32 := Scalar.muli v90 c4_i32
  let v92 : BitVec 32 := v91
  let v96 : Index := Scalar.indexCast v92
  let c0_50 : Index := 0#32
  ![v96.toNat, 0, 0]
def k0_off101 (k0_t8 : Fin k0_t8_loop.trips) : Fin 1 → Nat :=
  let c8192_i32 : BitVec 32 := 8192#32
  let c0_i32_45 : BitVec 32 := 0#32
  let c1_i32_46 : BitVec 32 := 1#32
  let arg15 : BitVec 32 := Scf.iv c0_i32_45 c1_i32_46 k0_t8
  let v100 : BitVec 32 := Scalar.addi c8192_i32 arg15
  let v101 : Index := Scalar.indexCast v100
  ![v101.toNat]
def k0_mult54 (k0_t8 : Fin k0_t8_loop.trips) : BitVec 32 :=
  let c512_i32_51 : BitVec 32 := 512#32
  let c0_i32_45 : BitVec 32 := 0#32
  let c1_i32_46 : BitVec 32 := 1#32
  let arg15 : BitVec 32 := Scf.iv c0_i32_45 c1_i32_46 k0_t8
  let v103 : BitVec 32 := Scalar.addi c512_i32_51 arg15
  let c4_i32_52 : BitVec 32 := 4#32
  let v104 : BitVec 32 := Scalar.muli v103 c4_i32_52
  v104
def k0_mult55 (v102 : BitVec 32) : BitVec 32 :=
  v102

def k0_off102 (v102 : BitVec 32) : Fin 3 → Nat :=
  let v106 : BitVec 32 := v102
  let v107 : Index := Scalar.indexCast v106
  let c0_53 : Index := 0#32
  ![v107.toNat, 0, 0]

def k0_chk50 (i : grid0.Coords) (v102 : BitVec 32) : Prop :=
  (∀ (k0_h6 : k0_cond6 i = 1#1), 4 ∣ (k0_mult55 v102).toNat) ∧
  (∀ (k0_h6 : k0_cond6 i = 1#1), ∀ a, (k0_off102 v102) a + S4x2x128.size a ≤ S67968x2x128.size a)
theorem k0_mult55_dvd : ∀ (i : grid0.Coords) (v102 : BitVec 32) (k0_hw50 : k0_chk50 i v102), ∀ (k0_h6 : k0_cond6 i = 1#1), 4 ∣ (k0_mult55 v102).toNat := fun i v102 k0_hw50 k0_h6 => k0_hw50.1 k0_h6
theorem k0_off102_inb : ∀ (i : grid0.Coords) (v102 : BitVec 32) (k0_hw50 : k0_chk50 i v102), ∀ (k0_h6 : k0_cond6 i = 1#1), ∀ a, (k0_off102 v102) a + S4x2x128.size a ≤ S67968x2x128.size a := fun i v102 k0_hw50 k0_h6 => k0_hw50.2 k0_h6

def k0_off103 (k0_t8 : Fin k0_t8_loop.trips) : Fin 3 → Nat :=
  let c512_i32_51 : BitVec 32 := 512#32
  let c0_i32_45 : BitVec 32 := 0#32
  let c1_i32_46 : BitVec 32 := 1#32
  let arg15 : BitVec 32 := Scf.iv c0_i32_45 c1_i32_46 k0_t8
  let v103 : BitVec 32 := Scalar.addi c512_i32_51 arg15
  let c4_i32_52 : BitVec 32 := 4#32
  let v104 : BitVec 32 := Scalar.muli v103 c4_i32_52
  let v105 : BitVec 32 := v104
  let v109 : Index := Scalar.indexCast v105
  let c0_54 : Index := 0#32
  ![v109.toNat, 0, 0]
def k0_cond7 (i : grid0.Coords) : BitVec 1 :=
  let arg1 : BitVec 32 := BitVec.ofNat 32 (i 1).val
  let c25_i32_21 : BitVec 32 := 25#32
  let v45 : BitVec 32 := Scalar.subi arg1 c25_i32_21
  let c1_i32_24 : BitVec 32 := 1#32
  let v49 : BitVec 1 := Scalar.cmpi .sge v45 c1_i32_24
  let c16_i32 : BitVec 32 := 16#32
  let v50 : BitVec 1 := Scalar.cmpi .slt v45 c16_i32
  let v51 : BitVec 1 := Scalar.andi v49 v50
  let c2_i32_25 : BitVec 32 := 2#32
  let c0_i32_26 : BitVec 32 := 0#32
  let v52 : BitVec 1 := Scalar.cmpi .eq c2_i32_25 c0_i32_26
  let c1_i32_27 : BitVec 32 := 1#32
  let v53 : BitVec 32 := Scalar.select v52 c1_i32_27 c2_i32_25
  let v54 : BitVec 32 := Scalar.remsi v45 v53
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let c0_i32_28 : BitVec 32 := 0#32
  let v55 : BitVec 1 := Scalar.cmpi .ne v54 c0_i32_28
  let v59 : BitVec 1 := Scalar.andi v58 v55
  let v60 : BitVec 32 := Scalar.addi v54 v53
  let v61 : BitVec 32 := Scalar.select v59 v60 v54
  let c0_i32_31 : BitVec 32 := 0#32
  let v62 : BitVec 1 := Scalar.cmpi .eq v61 c0_i32_31
  let v63 : BitVec 1 := Scalar.andi v51 v62
  let v64 : BitVec 32 := Scalar.extui v63
  let c0_i32_32 : BitVec 32 := 0#32
  let v65 : BitVec 1 := Scalar.cmpi .ne v64 c0_i32_32
  v65

@[reducible] def k0_t9_loop : Scf.Loop 32 :=
  let c0_i32_45 : BitVec 32 := 0#32
  let c512_i32_46 : BitVec 32 := 512#32
  let v87 : BitVec 32 := Scalar.addi c0_i32_45 c512_i32_46
  let c1_i32_47 : BitVec 32 := 1#32
  ⟨c0_i32_45, v87, c1_i32_47⟩
def k0_off104 (i : grid0.Coords) (k0_t9 : Fin k0_t9_loop.trips) : Fin 1 → Nat :=
  let c0_i32_99 : BitVec 32 := 0#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v212 : BitVec 32 := Scalar.addi c0_i32_99 v86
  let c0_i32_45 : BitVec 32 := 0#32
  let c1_i32_47 : BitVec 32 := 1#32
  let arg15 : BitVec 32 := Scf.iv c0_i32_45 c1_i32_47 k0_t9
  let v213 : BitVec 32 := Scalar.addi v212 arg15
  let v214 : Index := Scalar.indexCast v213
  ![v214.toNat]
def k0_mult56 (k0_t9 : Fin k0_t9_loop.trips) : BitVec 32 :=
  let c0_i32_100 : BitVec 32 := 0#32
  let c0_i32_45 : BitVec 32 := 0#32
  let c1_i32_47 : BitVec 32 := 1#32
  let arg15 : BitVec 32 := Scf.iv c0_i32_45 c1_i32_47 k0_t9
  let v216 : BitVec 32 := Scalar.addi c0_i32_100 arg15
  let c4_i32 : BitVec 32 := 4#32
  let v217 : BitVec 32 := Scalar.muli v216 c4_i32
  v217
def k0_mult57 (v215 : BitVec 32) : BitVec 32 :=
  v215

def k0_off105 (v215 : BitVec 32) : Fin 3 → Nat :=
  let v219 : BitVec 32 := v215
  let v220 : Index := Scalar.indexCast v219
  let c0_101 : Index := 0#32
  ![v220.toNat, 0, 0]

def k0_chk51 (i : grid0.Coords) (v215 : BitVec 32) : Prop :=
  (∀ (k0_h7 : k0_cond7 i = 1#1), 4 ∣ (k0_mult57 v215).toNat) ∧
  (∀ (k0_h7 : k0_cond7 i = 1#1), ∀ a, (k0_off105 v215) a + S4x2x128.size a ≤ S67968x2x128.size a)
theorem k0_mult57_dvd : ∀ (i : grid0.Coords) (v215 : BitVec 32) (k0_hw51 : k0_chk51 i v215), ∀ (k0_h7 : k0_cond7 i = 1#1), 4 ∣ (k0_mult57 v215).toNat := fun i v215 k0_hw51 k0_h7 => k0_hw51.1 k0_h7
theorem k0_off105_inb : ∀ (i : grid0.Coords) (v215 : BitVec 32) (k0_hw51 : k0_chk51 i v215), ∀ (k0_h7 : k0_cond7 i = 1#1), ∀ a, (k0_off105 v215) a + S4x2x128.size a ≤ S67968x2x128.size a := fun i v215 k0_hw51 k0_h7 => k0_hw51.2 k0_h7

def k0_off106 (k0_t9 : Fin k0_t9_loop.trips) : Fin 3 → Nat :=
  let c0_i32_100 : BitVec 32 := 0#32
  let c0_i32_45 : BitVec 32 := 0#32
  let c1_i32_47 : BitVec 32 := 1#32
  let arg15 : BitVec 32 := Scf.iv c0_i32_45 c1_i32_47 k0_t9
  let v216 : BitVec 32 := Scalar.addi c0_i32_100 arg15
  let c4_i32 : BitVec 32 := 4#32
  let v217 : BitVec 32 := Scalar.muli v216 c4_i32
  let v218 : BitVec 32 := v217
  let v222 : Index := Scalar.indexCast v218
  let c0_102 : Index := 0#32
  ![v222.toNat, 0, 0]
def k0_off107 (i : grid0.Coords) (k0_t9 : Fin k0_t9_loop.trips) : Fin 1 → Nat :=
  let c8192_i32 : BitVec 32 := 8192#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v226 : BitVec 32 := Scalar.addi c8192_i32 v86
  let c0_i32_45 : BitVec 32 := 0#32
  let c1_i32_47 : BitVec 32 := 1#32
  let arg15 : BitVec 32 := Scf.iv c0_i32_45 c1_i32_47 k0_t9
  let v227 : BitVec 32 := Scalar.addi v226 arg15
  let v228 : Index := Scalar.indexCast v227
  ![v228.toNat]
def k0_mult58 (k0_t9 : Fin k0_t9_loop.trips) : BitVec 32 :=
  let c512_i32_103 : BitVec 32 := 512#32
  let c0_i32_45 : BitVec 32 := 0#32
  let c1_i32_47 : BitVec 32 := 1#32
  let arg15 : BitVec 32 := Scf.iv c0_i32_45 c1_i32_47 k0_t9
  let v230 : BitVec 32 := Scalar.addi c512_i32_103 arg15
  let c4_i32_104 : BitVec 32 := 4#32
  let v231 : BitVec 32 := Scalar.muli v230 c4_i32_104
  v231
def k0_mult59 (v229 : BitVec 32) : BitVec 32 :=
  v229

def k0_off108 (v229 : BitVec 32) : Fin 3 → Nat :=
  let v233 : BitVec 32 := v229
  let v234 : Index := Scalar.indexCast v233
  let c0_105 : Index := 0#32
  ![v234.toNat, 0, 0]

def k0_chk52 (i : grid0.Coords) (v229 : BitVec 32) : Prop :=
  (∀ (k0_h7 : k0_cond7 i = 1#1), 4 ∣ (k0_mult59 v229).toNat) ∧
  (∀ (k0_h7 : k0_cond7 i = 1#1), ∀ a, (k0_off108 v229) a + S4x2x128.size a ≤ S67968x2x128.size a)
theorem k0_mult59_dvd : ∀ (i : grid0.Coords) (v229 : BitVec 32) (k0_hw52 : k0_chk52 i v229), ∀ (k0_h7 : k0_cond7 i = 1#1), 4 ∣ (k0_mult59 v229).toNat := fun i v229 k0_hw52 k0_h7 => k0_hw52.1 k0_h7
theorem k0_off108_inb : ∀ (i : grid0.Coords) (v229 : BitVec 32) (k0_hw52 : k0_chk52 i v229), ∀ (k0_h7 : k0_cond7 i = 1#1), ∀ a, (k0_off108 v229) a + S4x2x128.size a ≤ S67968x2x128.size a := fun i v229 k0_hw52 k0_h7 => k0_hw52.2 k0_h7

def k0_off109 (k0_t9 : Fin k0_t9_loop.trips) : Fin 3 → Nat :=
  let c512_i32_103 : BitVec 32 := 512#32
  let c0_i32_45 : BitVec 32 := 0#32
  let c1_i32_47 : BitVec 32 := 1#32
  let arg15 : BitVec 32 := Scf.iv c0_i32_45 c1_i32_47 k0_t9
  let v230 : BitVec 32 := Scalar.addi c512_i32_103 arg15
  let c4_i32_104 : BitVec 32 := 4#32
  let v231 : BitVec 32 := Scalar.muli v230 c4_i32_104
  let v232 : BitVec 32 := v231
  let v236 : Index := Scalar.indexCast v232
  let c0_106 : Index := 0#32
  ![v236.toNat, 0, 0]
def k0_cond8 (i : grid0.Coords) : BitVec 1 :=
  let arg1 : BitVec 32 := BitVec.ofNat 32 (i 1).val
  let c25_i32_21 : BitVec 32 := 25#32
  let v45 : BitVec 32 := Scalar.subi arg1 c25_i32_21
  let c1_i32_33 : BitVec 32 := 1#32
  let v66 : BitVec 1 := Scalar.cmpi .sge v45 c1_i32_33
  let c16_i32_34 : BitVec 32 := 16#32
  let v67 : BitVec 1 := Scalar.cmpi .slt v45 c16_i32_34
  let v68 : BitVec 1 := Scalar.andi v66 v67
  let c2_i32_35 : BitVec 32 := 2#32
  let c0_i32_36 : BitVec 32 := 0#32
  let v69 : BitVec 1 := Scalar.cmpi .eq c2_i32_35 c0_i32_36
  let c1_i32_37 : BitVec 32 := 1#32
  let v70 : BitVec 32 := Scalar.select v69 c1_i32_37 c2_i32_35
  let v71 : BitVec 32 := Scalar.remsi v45 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c1_i32_41 : BitVec 32 := 1#32
  let v79 : BitVec 1 := Scalar.cmpi .eq v78 c1_i32_41
  let v80 : BitVec 1 := Scalar.andi v68 v79
  let v81 : BitVec 32 := Scalar.extui v80
  let c0_i32_42 : BitVec 32 := 0#32
  let v82 : BitVec 1 := Scalar.cmpi .ne v81 c0_i32_42
  v82

@[reducible] def k0_t10_loop : Scf.Loop 32 :=
  let c0_i32_45 : BitVec 32 := 0#32
  let c512_i32_46 : BitVec 32 := 512#32
  let v87 : BitVec 32 := Scalar.addi c0_i32_45 c512_i32_46
  let c1_i32_47 : BitVec 32 := 1#32
  ⟨c0_i32_45, v87, c1_i32_47⟩
def k0_off110 (i : grid0.Coords) (k0_t10 : Fin k0_t10_loop.trips) : Fin 1 → Nat :=
  let c0_i32_99 : BitVec 32 := 0#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v212 : BitVec 32 := Scalar.addi c0_i32_99 v86
  let c0_i32_45 : BitVec 32 := 0#32
  let c1_i32_47 : BitVec 32 := 1#32
  let arg15 : BitVec 32 := Scf.iv c0_i32_45 c1_i32_47 k0_t10
  let v213 : BitVec 32 := Scalar.addi v212 arg15
  let v214 : Index := Scalar.indexCast v213
  ![v214.toNat]
def k0_mult60 (k0_t10 : Fin k0_t10_loop.trips) : BitVec 32 :=
  let c0_i32_100 : BitVec 32 := 0#32
  let c0_i32_45 : BitVec 32 := 0#32
  let c1_i32_47 : BitVec 32 := 1#32
  let arg15 : BitVec 32 := Scf.iv c0_i32_45 c1_i32_47 k0_t10
  let v216 : BitVec 32 := Scalar.addi c0_i32_100 arg15
  let c4_i32 : BitVec 32 := 4#32
  let v217 : BitVec 32 := Scalar.muli v216 c4_i32
  v217
def k0_mult61 (v215 : BitVec 32) : BitVec 32 :=
  v215

def k0_off111 (v215 : BitVec 32) : Fin 3 → Nat :=
  let v219 : BitVec 32 := v215
  let v220 : Index := Scalar.indexCast v219
  let c0_101 : Index := 0#32
  ![v220.toNat, 0, 0]

def k0_chk53 (i : grid0.Coords) (v215 : BitVec 32) : Prop :=
  (∀ (k0_h8 : k0_cond8 i = 1#1), 4 ∣ (k0_mult61 v215).toNat) ∧
  (∀ (k0_h8 : k0_cond8 i = 1#1), ∀ a, (k0_off111 v215) a + S4x2x128.size a ≤ S67968x2x128.size a)
theorem k0_mult61_dvd : ∀ (i : grid0.Coords) (v215 : BitVec 32) (k0_hw53 : k0_chk53 i v215), ∀ (k0_h8 : k0_cond8 i = 1#1), 4 ∣ (k0_mult61 v215).toNat := fun i v215 k0_hw53 k0_h8 => k0_hw53.1 k0_h8
theorem k0_off111_inb : ∀ (i : grid0.Coords) (v215 : BitVec 32) (k0_hw53 : k0_chk53 i v215), ∀ (k0_h8 : k0_cond8 i = 1#1), ∀ a, (k0_off111 v215) a + S4x2x128.size a ≤ S67968x2x128.size a := fun i v215 k0_hw53 k0_h8 => k0_hw53.2 k0_h8

def k0_off112 (k0_t10 : Fin k0_t10_loop.trips) : Fin 3 → Nat :=
  let c0_i32_100 : BitVec 32 := 0#32
  let c0_i32_45 : BitVec 32 := 0#32
  let c1_i32_47 : BitVec 32 := 1#32
  let arg15 : BitVec 32 := Scf.iv c0_i32_45 c1_i32_47 k0_t10
  let v216 : BitVec 32 := Scalar.addi c0_i32_100 arg15
  let c4_i32 : BitVec 32 := 4#32
  let v217 : BitVec 32 := Scalar.muli v216 c4_i32
  let v218 : BitVec 32 := v217
  let v222 : Index := Scalar.indexCast v218
  let c0_102 : Index := 0#32
  ![v222.toNat, 0, 0]
def k0_off113 (i : grid0.Coords) (k0_t10 : Fin k0_t10_loop.trips) : Fin 1 → Nat :=
  let c8192_i32 : BitVec 32 := 8192#32
  let arg1 : BitVec 32 := BitVec.ofNat 32 (i 1).val
  let c25_i32_21 : BitVec 32 := 25#32
  let v45 : BitVec 32 := Scalar.subi arg1 c25_i32_21
  let c512_i32 : BitVec 32 := 512#32
  let v86 : BitVec 32 := Scalar.muli v45 c512_i32
  let v226 : BitVec 32 := Scalar.addi c8192_i32 v86
  let c0_i32_45 : BitVec 32 := 0#32
  let c1_i32_47 : BitVec 32 := 1#32
  let arg15 : BitVec 32 := Scf.iv c0_i32_45 c1_i32_47 k0_t10
  let v227 : BitVec 32 := Scalar.addi v226 arg15
  let v228 : Index := Scalar.indexCast v227
  ![v228.toNat]
def k0_mult62 (k0_t10 : Fin k0_t10_loop.trips) : BitVec 32 :=
  let c512_i32_103 : BitVec 32 := 512#32
  let c0_i32_45 : BitVec 32 := 0#32
  let c1_i32_47 : BitVec 32 := 1#32
  let arg15 : BitVec 32 := Scf.iv c0_i32_45 c1_i32_47 k0_t10
  let v230 : BitVec 32 := Scalar.addi c512_i32_103 arg15
  let c4_i32_104 : BitVec 32 := 4#32
  let v231 : BitVec 32 := Scalar.muli v230 c4_i32_104
  v231
def k0_mult63 (v229 : BitVec 32) : BitVec 32 :=
  v229

def k0_off114 (v229 : BitVec 32) : Fin 3 → Nat :=
  let v233 : BitVec 32 := v229
  let v234 : Index := Scalar.indexCast v233
  let c0_105 : Index := 0#32
  ![v234.toNat, 0, 0]

def k0_chk54 (i : grid0.Coords) (v229 : BitVec 32) : Prop :=
  (∀ (k0_h8 : k0_cond8 i = 1#1), 4 ∣ (k0_mult63 v229).toNat) ∧
  (∀ (k0_h8 : k0_cond8 i = 1#1), ∀ a, (k0_off114 v229) a + S4x2x128.size a ≤ S67968x2x128.size a)
theorem k0_mult63_dvd : ∀ (i : grid0.Coords) (v229 : BitVec 32) (k0_hw54 : k0_chk54 i v229), ∀ (k0_h8 : k0_cond8 i = 1#1), 4 ∣ (k0_mult63 v229).toNat := fun i v229 k0_hw54 k0_h8 => k0_hw54.1 k0_h8
theorem k0_off114_inb : ∀ (i : grid0.Coords) (v229 : BitVec 32) (k0_hw54 : k0_chk54 i v229), ∀ (k0_h8 : k0_cond8 i = 1#1), ∀ a, (k0_off114 v229) a + S4x2x128.size a ≤ S67968x2x128.size a := fun i v229 k0_hw54 k0_h8 => k0_hw54.2 k0_h8

def k0_off115 (k0_t10 : Fin k0_t10_loop.trips) : Fin 3 → Nat :=
  let c512_i32_103 : BitVec 32 := 512#32
  let c0_i32_45 : BitVec 32 := 0#32
  let c1_i32_47 : BitVec 32 := 1#32
  let arg15 : BitVec 32 := Scf.iv c0_i32_45 c1_i32_47 k0_t10
  let v230 : BitVec 32 := Scalar.addi c512_i32_103 arg15
  let c4_i32_104 : BitVec 32 := 4#32
  let v231 : BitVec 32 := Scalar.muli v230 c4_i32_104
  let v232 : BitVec 32 := v231
  let v236 : Index := Scalar.indexCast v232
  let c0_106 : Index := 0#32
  ![v236.toNat, 0, 0]
def k0_cond9 (i : grid0.Coords) : BitVec 1 :=
  let arg1 : BitVec 32 := BitVec.ofNat 32 (i 1).val
  let c25_i32_21 : BitVec 32 := 25#32
  let v45 : BitVec 32 := Scalar.subi arg1 c25_i32_21
  let c16_i32_43 : BitVec 32 := 16#32
  let v83 : BitVec 1 := Scalar.cmpi .eq v45 c16_i32_43
  let v84 : BitVec 32 := Scalar.extui v83
  let c0_i32_44 : BitVec 32 := 0#32
  let v85 : BitVec 1 := Scalar.cmpi .ne v84 c0_i32_44
  v85

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![c0_i32_0.toNat, v5.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c25_i32 : BitVec 32 := 25#32
  let v1 : BitVec 32 := Scalar.subi arg1 c25_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let v5 : BitVec 32 := Scalar.addi v0 v4
  let c0_i32_0 : BitVec 32 := 0#32
  let c0_i32_1 : BitVec 32 := 0#32
  ![v5.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceI.lean ====
abbrev S64 : Shape := ⟨1, ![64]⟩
abbrev S16384x1024 : Shape := ⟨2, ![16384, 1024]⟩
abbrev S32768 : Shape := ⟨1, ![32768]⟩
abbrev S32x1024x256 : Shape := ⟨3, ![32, 1024, 256]⟩
abbrev S32x256x1024 : Shape := ⟨3, ![32, 256, 1024]⟩
abbrev S8x16384 : Shape := ⟨2, ![8, 16384]⟩
abbrev S32x256x16384 : Shape := ⟨3, ![32, 256, 16384]⟩
abbrev S32x16384x256 : Shape := ⟨3, ![32, 16384, 256]⟩
abbrev S_ : Shape := ⟨0, ![]⟩
abbrev S32x16384x1024 : Shape := ⟨3, ![32, 16384, 1024]⟩
abbrev S2x16384 : Shape := ⟨2, ![2, 16384]⟩
abbrev S32x16384 : Shape := ⟨2, ![32, 16384]⟩
abbrev S1x16384 : Shape := ⟨2, ![1, 16384]⟩
abbrev S32x16384x1 : Shape := ⟨3, ![32, 16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S16384x1024, .bf16⟩
  | .hbm, ⟨3, _⟩ => ⟨S32768, .i32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S16384x1024, .f32⟩
  | .hbm, ⟨8, _⟩ => ⟨S8x16384, .f32⟩
  | .hbm, ⟨9, _⟩ => ⟨S32x256x16384, .f32⟩
  | .hbm, ⟨10, _⟩ => ⟨S32x16384x256, .f32⟩
  | .hbm, ⟨11, _⟩ => ⟨S32x256x16384, .f32⟩
  | .hbm, ⟨12, _⟩ => ⟨S32x16384x256, .f32⟩
  | .hbm, ⟨13, _⟩ => ⟨S32x16384x256, .f32⟩
  | .hbm, ⟨14, _⟩ => ⟨S32x16384x256, .f32⟩
  | .hbm, ⟨15, _⟩ => ⟨S_, .f32⟩
  | .hbm, ⟨16, _⟩ => ⟨S32x16384x256, .f32⟩
  | .hbm, ⟨17, _⟩ => ⟨S32x16384x256, .f32⟩
  | .hbm, ⟨18, _⟩ => ⟨S_, .f32⟩
  | .hbm, ⟨19, _⟩ => ⟨S32x16384x256, .f32⟩
  | .hbm, ⟨20, _⟩ => ⟨S32x16384x256, .f32⟩
  | .hbm, ⟨21, _⟩ => ⟨S32x16384x256, .f32⟩
  | .hbm, ⟨22, _⟩ => ⟨S32x16384x256, .f32⟩
  | .hbm, ⟨23, _⟩ => ⟨S32x16384x256, .bf16⟩
  | .hbm, ⟨24, _⟩ => ⟨S32x16384x1024, .f32⟩
  | .hbm, ⟨25, _⟩ => ⟨S2x16384, .f32⟩
  | .hbm, ⟨26, _⟩ => ⟨S2x16384, .i32⟩
  | .hbm, ⟨27, _⟩ => ⟨S32x16384, .i32⟩
  | .hbm, ⟨28, _⟩ => ⟨S1x16384, .i32⟩
  | .hbm, ⟨29, _⟩ => ⟨S32x16384, .i32⟩
  | .hbm, ⟨30, _⟩ => ⟨S32x16384, .i1⟩
  | .hbm, ⟨31, _⟩ => ⟨S1x16384, .f32⟩
  | .hbm, ⟨32, _⟩ => ⟨S_, .f32⟩
  | .hbm, ⟨33, _⟩ => ⟨S_, .f32⟩
  | .hbm, ⟨34, _⟩ => ⟨S32x16384, .f32⟩
  | .hbm, ⟨35, _⟩ => ⟨S32x16384, .f32⟩
  | .hbm, ⟨36, _⟩ => ⟨S32x16384, .f32⟩
  | .hbm, ⟨37, _⟩ => ⟨S1x16384, .i32⟩
  | .hbm, ⟨38, _⟩ => ⟨S32x16384, .i32⟩
  | .hbm, ⟨39, _⟩ => ⟨S32x16384, .i1⟩
  | .hbm, ⟨40, _⟩ => ⟨S1x16384, .f32⟩
  | .hbm, ⟨41, _⟩ => ⟨S_, .f32⟩
  | .hbm, ⟨42, _⟩ => ⟨S_, .f32⟩
  | .hbm, ⟨43, _⟩ => ⟨S32x16384, .f32⟩
  | .hbm, ⟨44, _⟩ => ⟨S32x16384, .f32⟩
  | .hbm, ⟨45, _⟩ => ⟨S32x16384, .f32⟩
  | .hbm, ⟨46, _⟩ => ⟨S32x16384, .f32⟩
  | .hbm, ⟨47, _⟩ => ⟨S32x16384x1, .f32⟩
  | .hbm, ⟨48, _⟩ => ⟨S32x16384x1024, .f32⟩
  | .hbm, ⟨49, _⟩ => ⟨S32x16384x1024, .f32⟩
  | .hbm, ⟨50, _⟩ => ⟨S_, .f32⟩
  | .hbm, ⟨51, _⟩ => ⟨S16384x1024, .f32⟩
  | .hbm, ⟨52, _⟩ => ⟨S16384x1024, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Attention.lean ====
abbrev S8x8x2048x128 : Shape := ⟨4, ![8, 8, 2048, 128]⟩
abbrev S8x512x2048 : Shape := ⟨3, ![8, 512, 2048]⟩
abbrev S4x8x1024x256 : Shape := ⟨4, ![4, 8, 1024, 256]⟩
abbrev S4x8x256x1024 : Shape := ⟨4, ![4, 8, 256, 1024]⟩
abbrev S32768x256 : Shape := ⟨2, ![32768, 256]⟩
abbrev S8192x1024 : Shape := ⟨2, ![8192, 1024]⟩
abbrev S1x8x256x128 : Shape := ⟨4, ![1, 8, 256, 128]⟩
abbrev S1x8x2048x128 : Shape := ⟨4, ![1, 8, 2048, 128]⟩
abbrev S1x512x2048 : Shape := ⟨3, ![1, 512, 2048]⟩
abbrev S512x256 : Shape := ⟨2, ![512, 256]⟩
abbrev S128x1024 : Shape := ⟨2, ![128, 1024]⟩
abbrev S1x512x256 : Shape := ⟨3, ![1, 512, 256]⟩
abbrev S16x2048 : Shape := ⟨2, ![16, 2048]⟩
abbrev S1x1x256x128 : Shape := ⟨4, ![1, 1, 256, 128]⟩
abbrev S256x128 : Shape := ⟨2, ![256, 128]⟩
abbrev S1x1x2048x128 : Shape := ⟨4, ![1, 1, 2048, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x64x2048 : Shape := ⟨3, ![1, 64, 2048]⟩
abbrev S64x2048 : Shape := ⟨2, ![64, 2048]⟩
abbrev S80x2048 : Shape := ⟨2, ![80, 2048]⟩
abbrev S80x256 : Shape := ⟨2, ![80, 256]⟩
abbrev S64x256 : Shape := ⟨2, ![64, 256]⟩
abbrev S1x256 : Shape := ⟨2, ![1, 256]⟩

abbrev nBuf : Space → Nat
  | .hbm => 13
  | .vmem => 20
  | .smem => 0
  | _ => 0

abbrev bufTy : (tb : Table) → Fin (tcTables nBuf tb) → BufTy
  | .hbm, ⟨0, _⟩ => ⟨S8x8x2048x128, .bf16⟩
  | .hbm, ⟨1, _⟩ => ⟨S8x8x2048x128, .bf16⟩
  | .hbm, ⟨2, _⟩ => ⟨S8x512x2048, .bf16⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S32768x256, .f32⟩
  | .hbm, ⟨7, _⟩ => ⟨S32768x256, .f32⟩
  | .hbm, ⟨8, _⟩ => ⟨S8192x1024, .f32⟩
  | .hbm, ⟨9, _⟩ => ⟨S8x512x2048, .bf16⟩
  | .hbm, ⟨10, _⟩ => ⟨S32768x256, .bf16⟩
  | .hbm, ⟨11, _⟩ => ⟨S32768x256, .bf16⟩
  | .hbm, ⟨12, _⟩ => ⟨S8192x1024, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S128x1024, .f32⟩
  | .local _ .vmem, ⟨11, _⟩ => ⟨S128x1024, .f32⟩
  | .local _ .vmem, ⟨12, _⟩ => ⟨S1x512x256, .bf16⟩
  | .local _ .vmem, ⟨13, _⟩ => ⟨S1x512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S128x1024, .bf16⟩
  | .local _ .vmem, ⟨19, _⟩ => ⟨S128x1024, .bf16⟩
  | _, _ => ⟨S8x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnRefI.lean ====
abbrev S8x8x2048x128 : Shape := ⟨4, ![8, 8, 2048, 128]⟩
abbrev S8x512x2048 : Shape := ⟨3, ![8, 512, 2048]⟩
abbrev S4x8x1024x256 : Shape := ⟨4, ![4, 8, 1024, 256]⟩
abbrev S4x8x256x1024 : Shape := ⟨4, ![4, 8, 256, 1024]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x8x1x2048 : Shape := ⟨4, ![8, 8, 1, 2048]⟩
abbrev S32768x256 : Shape := ⟨2, ![32768, 256]⟩
abbrev S8192x1024 : Shape := ⟨2, ![8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x8x2048x128, .bf16⟩
  | .hbm, ⟨1, _⟩ => ⟨S8x8x2048x128, .bf16⟩
  | .hbm, ⟨2, _⟩ => ⟨S8x512x2048, .bf16⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S8x8x2048x2048, .f32⟩
  | .hbm, ⟨7, _⟩ => ⟨S_, .f32⟩
  | .hbm, ⟨8, _⟩ => ⟨S8x8x2048, .f32⟩
  | .hbm, ⟨9, _⟩ => ⟨S8x8x2048x1, .f32⟩
  | .hbm, ⟨10, _⟩ => ⟨S8x8x2048x2048, .f32⟩
  | .hbm, ⟨11, _⟩ => ⟨S8x8x2048x2048, .f32⟩
  | .hbm, ⟨12, _⟩ => ⟨S_, .f32⟩
  | .hbm, ⟨13, _⟩ => ⟨S_, .f32⟩
  | .hbm, ⟨14, _⟩ => ⟨S8x8x2048x2048, .f32⟩
  | .hbm, ⟨15, _⟩ => ⟨S8x8x2048x2048, .f32⟩
  | .hbm, ⟨16, _⟩ => ⟨S8x8x2048x2048, .f32⟩
  | .hbm, ⟨17, _⟩ => ⟨S8x8x64x2048, .bf16⟩
  | .hbm, ⟨18, _⟩ => ⟨S8x8x2048x2048, .bf16⟩
  | .hbm, ⟨19, _⟩ => ⟨S8x8x64x2048, .f32⟩
  | .hbm, ⟨20, _⟩ => ⟨S_, .f32⟩
  | .hbm, ⟨21, _⟩ => ⟨S8x8x2048, .f32⟩
  | .hbm, ⟨22, _⟩ => ⟨S8x8x1x2048, .f32⟩
  | .hbm, ⟨23, _⟩ => ⟨S8x8x64x2048, .f32⟩
  | .hbm, ⟨24, _⟩ => ⟨S8x8x64x2048, .f32⟩
  | .hbm, ⟨25, _⟩ => ⟨S8x8x64x2048, .bf16⟩
  | .hbm, ⟨26, _⟩ => ⟨S8x512x2048, .bf16⟩
  | .hbm, ⟨27, _⟩ => ⟨S4x8x1024x256, .bf16⟩
  | .hbm, ⟨28, _⟩ => ⟨S32768x256, .bf16⟩
  | .hbm, ⟨29, _⟩ => ⟨S4x8x1024x256, .bf16⟩
  | .hbm, ⟨30, _⟩ => ⟨S32768x256, .bf16⟩
  | .hbm, ⟨31, _⟩ => ⟨S4x8x256x1024, .bf16⟩
  | .hbm, ⟨32, _⟩ => ⟨S8192x1024, .bf16⟩
  | _, _ => ⟨S8x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Tables.lean ====
/- What the precondition says of the two slot tables, of the positions and of the routing, read off the printed
   predicate element by element. -/
module

public import proofs.«01_k».proof.Pre_tables_route
public import proofs.«01_k».proof.Proof.Gen.Pre_tables_route
public import Idealize.ShloMosaic.Lib.Pointwise
public import Idealize.ShloMosaic.Lib.Tactic.WordOmega

@[expose] public section

set_option maxRecDepth 16384

namespace Cert.Moe

open Idealize.ShloMosaic
open Cert.Pre_tables_route

/-- Word `e` of super block `s` in a table of slots. -/
abbrev slotIx (s : Fin 2) (e : Fin 32) : S64.Idx := ix1 (⟨s.val * 32 + e.val, by omega⟩ : Fin 64)
/-- The word of `pos` for choice `k` of token `t` of super block `s`. -/
abbrev posIx (s k : Fin 2) (t : Fin 8192) : S32768.Idx :=
  ix1 (⟨s.val * 16384 + k.val * 8192 + t.val, by omega⟩ : Fin 32768)

/-- The slot tables of every super block agree with the routing `ids`. -/
structure Agrees (off cnt : IVec S64 32) (pos : IVec S32768 32) (ids : Fin 2 → Fin 2 → Fin 8192 → BitVec 32) : Prop where
  even : ∀ s e, (off (slotIx s e)).toNat % 2 = 0
  fits : ∀ s e, (off (slotIx s e)).toNat + (cnt (slotIx s e)).toNat ≤ 16416
  ordered : ∀ s (e f : Fin 32), e.val < f.val →
    (off (slotIx s e)).toNat + (cnt (slotIx s e)).toNat ≤ (off (slotIx s f)).toNat
  named : ∀ s k t, (ids s k t).toNat < 32
  aligned : ∀ s k t, (pos (posIx s k t)).toNat % 4 = 0
  differ : ∀ s t, ids s 0 t ≠ ids s 1 t
  inside : ∀ s k t (e : Fin 32), (ids s k t).toNat = e.val →
    4 * (off (slotIx s e)).toNat ≤ (pos (posIx s k t)).toNat
      ∧ (pos (posIx s k t)).toNat < 4 * ((off (slotIx s e)).toNat + (cnt (slotIx s e)).toNat)
  apart : ∀ s (k k' : Fin 2) (t t' : Fin 8192), pos (posIx s k t) = pos (posIx s k' t') → k = k' ∧ t = t'

/-- The two experts the routing names for a token. -/
noncomputable def idsOf {F : FTy → Type} [FloatOps F] (route : FVec F S8x16384 .f32) (s k : Fin 2) (t : Fin 8192) : BitVec 32 :=
  FloatOps.fptosi 32 (route (ix2 (⟨k.val, by omega⟩ : Fin 8) (⟨s.val * 8192 + t.val, by omega⟩ : Fin 16384)))

theorem bit_and (a b : BitVec 1) : IntOp.andi a b = 1#1 ↔ a = 1#1 ∧ b = 1#1 := by revert a b; decide
theorem bit_or (a b : BitVec 1) : IntOp.ori a b = 1#1 ↔ a = 1#1 ∨ b = 1#1 := by revert a b; decide
theorem bit_of (p : Bool) : (BitVec.ofBool p = 1#1) ↔ p = true := by cases p <;> decide

theorem even_word {w : BitVec 32} (h : IntOp.cmpi .eq (IntOp.andi w 1#32) 0#32 = 1#1) : w.toNat % 2 = 0 := by
  simp only [IntOp.cmpi, IntOp.andi, bit_of, beq_iff_eq] at h
  have e := congrArg BitVec.toNat h
  rw [BitVec.toNat_and, show (1#32).toNat = 1 from rfl, Nat.and_one_is_mod] at e
  exact e

theorem quad_word {w : BitVec 32} (h : IntOp.cmpi .eq (IntOp.andi w 3#32) 0#32 = 1#1) : w.toNat % 4 = 0 := by
  simp only [IntOp.cmpi, IntOp.andi, bit_of, beq_iff_eq] at h
  have e := congrArg BitVec.toNat h
  rw [BitVec.toNat_and, show (3#32).toNat = 2 ^ 2 - 1 from rfl, Nat.and_two_pow_sub_one_eq_mod] at e
  exact e

theorem nonneg_word {w : BitVec 32} : IntOp.cmpi .sge w 0#32 = 1#1 ↔ w.toNat < 2 ^ 31 := by
  simp only [IntOp.cmpi, bit_of, BitVec.sle, decide_eq_true_eq, BitVec.toInt, BitVec.toNat_ofNat]
  omega

theorem sle_word {a b : BitVec 32} (ha : a.toNat < 2 ^ 31) (hb : b.toNat < 2 ^ 31) :
    IntOp.cmpi .sle a b = 1#1 ↔ a.toNat ≤ b.toNat := by
  simp only [IntOp.cmpi, bit_of, BitVec.sle, decide_eq_true_eq, BitVec.toInt]
  omega

theorem sge_word {a b : BitVec 32} (ha : a.toNat < 2 ^ 31) (hb : b.toNat < 2 ^ 31) :
    IntOp.cmpi .sge a b = 1#1 ↔ b.toNat ≤ a.toNat := sle_word hb ha

theorem sle_bound {a b : BitVec 32} (ha : a.toNat < 2 ^ 31) (h : IntOp.cmpi .sle a b = 1#1) :
    a.toNat ≤ b.toNat ∧ b.toNat < 2 ^ 31 := by
  simp only [IntOp.cmpi, bit_of, BitVec.sle, decide_eq_true_eq, BitVec.toInt] at h
  omega

theorem slt_word {a b : BitVec 32} (ha : a.toNat < 2 ^ 31) (hb : b.toNat < 2 ^ 31) :
    IntOp.cmpi .slt a b = 1#1 ↔ a.toNat < b.toNat := by
  simp only [IntOp.cmpi, bit_of, BitVec.slt, decide_eq_true_eq, BitVec.toInt]
  omega

theorem ne_word {a b : BitVec 32} : IntOp.cmpi .ne a b = 1#1 ↔ a ≠ b := by
  simp only [IntOp.cmpi, bit_of, bne_iff_ne]

theorem eq_word {a b : BitVec 32} : IntOp.cmpi .eq a b = 1#1 ↔ a = b := by
  simp only [IntOp.cmpi, bit_of, beq_iff_eq]

theorem toNat_small (n : Nat) (h : n < 2 ^ 31) : (BitVec.ofNat 32 n).toNat = n := by
  rw [BitVec.toNat_ofNat]; omega

section

variable {F : FTy → Type} [FloatOps F] {off cnt : IVec S64 32} {h2 : FVec F S16384x1024 .bf16} {pos : IVec S32768 32}
  {wg wu : FVec F S32x1024x256 .bf16} {wd : FVec F S32x256x1024 .bf16} {x1 : FVec F S16384x1024 .f32} {route : FVec F S8x16384 .f32}

theorem ranges_of (h : (fn (F := F) off cnt h2 pos wg wu wd x1 route).1 = fun _ => 1#1) (s : Fin 2) (e : Fin 32) :
    (off (slotIx s e)).toNat % 2 = 0 ∧ (off (slotIx s e)).toNat + (cnt (slotIx s e)).toNat ≤ 16416 := by
  have h := congrFun h (ix2 s e)
  simp only [fn, fn_part1, fn_part2, fn_part3] at h
  pointwise at h
  simp only [bit_and, nonneg_word] at h
  obtain ⟨⟨⟨⟨⟨h0, h1⟩, h2⟩, h3⟩, h4⟩, h5⟩ := h
  have h2 : (off (slotIx s e)).toNat ≤ 16416 := (sle_word h0 (by decide)).mp h2
  have h4 : (cnt (slotIx s e)).toNat ≤ 16416 := (sle_word h3 (by decide)).mp h4
  have hs : (IntOp.addi (off (slotIx s e)) (cnt (slotIx s e))).toNat = (off (slotIx s e)).toNat + (cnt (slotIx s e)).toNat := by
    simp only [IntOp.addi, BitVec.toNat_add]; omega
  refine ⟨even_word h1, ?_⟩
  rw [← hs]
  exact (sle_word (by rw [hs]; omega) (by decide)).mp h5

theorem ordered_of (h : (fn (F := F) off cnt h2 pos wg wu wd x1 route).2.1 = fun _ => 1#1)
    (h' : (fn (F := F) off cnt h2 pos wg wu wd x1 route).1 = fun _ => 1#1) (s : Fin 2) (e f : Fin 32) (hef : e.val < f.val) :
    (off (slotIx s e)).toNat + (cnt (slotIx s e)).toNat ≤ (off (slotIx s f)).toNat := by
  have h := congrFun h (ix3 s e f)
  simp only [fn, fn_part1, fn_part2, fn_part3] at h
  pointwise at h
  have he := (ranges_of h' s e).2
  have hf := (ranges_of h' s f).2
  have hs : (IntOp.addi (off (slotIx s e)) (cnt (slotIx s e))).toNat = (off (slotIx s e)).toNat + (cnt (slotIx s e)).toNat := by
    simp only [IntOp.addi, BitVec.toNat_add]; omega
  rw [← hs]
  rcases (bit_or _ _).mp h with h | h
  · rw [sge_word (by rw [toNat_small _ (by omega)]; omega) (by rw [toNat_small _ (by omega)]; omega),
      toNat_small _ (by omega), toNat_small _ (by omega)] at h
    omega
  · exact (sle_word (by rw [hs]; omega) (by omega)).mp h

theorem names_of (h : (fn (F := F) off cnt h2 pos wg wu wd x1 route).2.2.1 = fun _ => 1#1) (s k : Fin 2) (t : Fin 8192) :
    (idsOf route s k t).toNat < 32 ∧ (pos (posIx s k t)).toNat % 4 = 0 := by
  have h := congrFun h (ix3 s k t)
  simp only [fn, fn_part1, fn_part2, fn_part3] at h
  pointwise at h
  simp only [bit_and, nonneg_word] at h
  exact ⟨(slt_word h.1.1 (by decide)).mp h.1.2, quad_word h.2⟩

theorem differ_of (h : (fn (F := F) off cnt h2 pos wg wu wd x1 route).2.2.2.1 = fun _ => 1#1) (s : Fin 2) (t : Fin 8192) :
    idsOf route s 0 t ≠ idsOf route s 1 t := by
  have h := congrFun h (ix2 s t)
  simp only [fn, fn_part1, fn_part2, fn_part3] at h
  pointwise at h
  exact ne_word.mp h

theorem inside_of (h : (fn (F := F) off cnt h2 pos wg wu wd x1 route).2.2.2.2.1 = fun _ => 1#1)
    (h' : (fn (F := F) off cnt h2 pos wg wu wd x1 route).1 = fun _ => 1#1) (s k : Fin 2) (t : Fin 8192) (e : Fin 32)
    (he : (idsOf route s k t).toNat = e.val) :
    4 * (off (slotIx s e)).toNat ≤ (pos (posIx s k t)).toNat
      ∧ (pos (posIx s k t)).toNat < 4 * ((off (slotIx s e)).toNat + (cnt (slotIx s e)).toNat) := by
  have h := congrFun h (ix4 s e k t)
  simp only [fn, fn_part1, fn_part2, fn_part3] at h
  pointwise at h
  have hr := (ranges_of h' s e).2
  have ho : (IntOp.muli 4#32 (off (slotIx s e))).toNat = 4 * (off (slotIx s e)).toNat := by
    simp only [IntOp.muli, BitVec.toNat_mul, BitVec.toNat_ofNat]; omega
  have hs : (IntOp.muli 4#32 (IntOp.addi (off (slotIx s e)) (cnt (slotIx s e)))).toNat
      = 4 * ((off (slotIx s e)).toNat + (cnt (slotIx s e)).toNat) := by
    simp only [IntOp.muli, IntOp.addi, BitVec.toNat_mul, BitVec.toNat_add, BitVec.toNat_ofNat]; omega
  rcases (bit_or _ _).mp h with h | h
  · refine absurd ?_ (ne_word.mp h)
    apply BitVec.eq_of_toNat_eq
    rw [toNat_small _ (by omega)]
    exact he.symm
  · obtain ⟨h1, h2⟩ := (bit_and _ _).mp h
    have h1 : IntOp.cmpi .sge (pos (posIx s k t)) (IntOp.muli 4#32 (off (slotIx s e))) = 1#1 := h1
    rw [← ho, ← hs]
    have hp := (sle_bound (by rw [ho]; omega) h1).2
    exact ⟨(sge_word hp (by rw [ho]; omega)).mp h1, (slt_word hp (by rw [hs]; omega)).mp h2⟩

theorem apart_of (h : (fn (F := F) off cnt h2 pos wg wu wd x1 route).2.2.2.2.2 = fun _ => 1#1) (s : Fin 2) (k k' : Fin 2) (t t' : Fin 8192)
    (he : pos (posIx s k t) = pos (posIx s k' t')) : k = k' ∧ t = t' := by
  have h := congrFun h (ix3 s (⟨k.val * 8192 + t.val, by omega⟩ : Fin 16384) (⟨k'.val * 8192 + t'.val, by omega⟩ : Fin 16384))
  simp only [fn, fn_part1, fn_part2, fn_part3] at h
  pointwise at h
  have ix (k : Fin 2) (t : Fin 8192) (hb) : (ix1 (⟨s.val * 16384 + (k.val * 8192 + t.val), hb⟩ : Fin 32768) : S32768.Idx) = posIx s k t := by
    exact congrArg ix1 (Fin.ext (by simp only; omega))
  simp only [ix] at h
  rcases (bit_or _ _).mp h with h | h
  · have e := congrArg BitVec.toNat (eq_word.mp h)
    rw [toNat_small _ (by omega), toNat_small _ (by omega)] at e
    constructor <;> apply Fin.ext <;> omega
  · exact absurd he (ne_word.mp h)

/-- The precondition's six arrays, all ones, are the agreement. -/
theorem agrees_of (h1 : (fn (F := F) off cnt h2 pos wg wu wd x1 route).1 = fun _ => 1#1)
    (h2' : (fn (F := F) off cnt h2 pos wg wu wd x1 route).2.1 = fun _ => 1#1)
    (h3 : (fn (F := F) off cnt h2 pos wg wu wd x1 route).2.2.1 = fun _ => 1#1)
    (h4 : (fn (F := F) off cnt h2 pos wg wu wd x1 route).2.2.2.1 = fun _ => 1#1)
    (h5 : (fn (F := F) off cnt h2 pos wg wu wd x1 route).2.2.2.2.1 = fun _ => 1#1)
    (h6 : (fn (F := F) off cnt h2 pos wg wu wd x1 route).2.2.2.2.2 = fun _ => 1#1) :
    Agrees off cnt pos (idsOf route) where
  even s e := (ranges_of h1 s e).1
  fits s e := (ranges_of h1 s e).2
  ordered s e f := ordered_of h2' h1 s e f
  named s k t := (names_of h3 s k t).1
  aligned s k t := (names_of h3 s k t).2
  differ s t := differ_of h4 s t
  inside s k t e := inside_of h5 h1 s k t e
  apart s k k' t t' := apart_of h6 s k k' t t'

end

end Cert.Moe
-- ==== Proof.Words.lean ====
/- Arithmetic on the words that the slot tables hold: the slot a word names, and the number of 576-slot steps that a count asks for. -/
module

public import proofs.«01_k».proof.Proof.Tables
public import Idealize.ShloMosaic.Lib.WordArith
public import Idealize.ShloMosaic.Lib.WordArith.Masks
public import Idealize.ShloMosaic.Lib.Scf

@[expose] public section

set_option maxRecDepth 16384

namespace Cert.Moe

open Idealize.ShloMosaic

/-- Which of nine things step `j` of a super block does: take in the first tile of tokens; take in a further tile and scatter the one
    before (by the parity of `j`); scatter the last tile; run two experts; gather the first tile of results; gather a further tile and
    combine the one before (by parity); combine the last. -/
def kind (j : ℕ) : ℕ :=
  if j = 0 then 1 else if j < 8 then (if j % 2 = 0 then 2 else 3) else if j = 8 then 4 else if j < 25 then 5
  else if j = 25 then 6 else if j < 41 then (if (j - 25) % 2 = 0 then 7 else 8) else 9

theorem kind_range {j : ℕ} : kind j ∈ [1, 2, 3, 4, 5, 6, 7, 8, 9] := by
  unfold kind; split_ifs <;> simp

/-- A slot and a count that stay inside the buffer. -/
def Slot (off cnt : BitVec 32) : Prop := off.toNat % 2 = 0 ∧ off.toNat + cnt.toNat ≤ 16416

/-- A buffer row that starts a token's four rows. -/
def Row (p : BitVec 32) : Prop := p.toNat % 4 = 0 ∧ p.toNat < 65664

theorem tail_toNat {off cnt : BitVec 32} (h : Slot off cnt) :
    (Scalar.muli (Scalar.addi off cnt) 4#32).toNat = 4 * (off.toNat + cnt.toNat) := by
  obtain ⟨-, h⟩ := h
  show ((off + cnt) * 4#32).toNat = _
  rw [BitVec.toNat_mul, BitVec.toNat_add, show (4#32).toNat = 4 from rfl]
  omega

/-- The number of steps of 576 slots, as the program computes it from a count. -/
def steps (c : BitVec 32) : BitVec 32 :=
  let v := Scalar.subi (Scalar.addi c 576#32) 1#32
  let q := Scalar.divsi v 576#32
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 576#32 0#32)) (Scalar.extui (Scalar.cmpi .slt 576#32 0#32))))
      (Scalar.cmpi .ne (Scalar.remsi v 576#32) 0#32))
    (Scalar.subi q 1#32) q

theorem steps_eq {c : BitVec 32} (hc : c.toNat ≤ 16416) : steps c = BitVec.ofNat 32 ((c.toNat + 575) / 576) := by
  have hv : (Scalar.subi (Scalar.addi c 576#32) 1#32).toNat = c.toNat + 575 := by
    show (c + 576#32 - 1#32).toNat = _
    rw [BitVec.toNat_sub, BitVec.toNat_add, show (576#32).toNat = 576 from rfl, show (1#32).toNat = 1 from rfl]
    omega
  have hq : Scalar.divsi (Scalar.subi (Scalar.addi c 576#32) 1#32) 576#32 = BitVec.ofNat 32 ((c.toNat + 575) / 576) := by
    generalize hw : Scalar.subi (Scalar.addi c 576#32) 1#32 = w at hv
    show IntOp.divsi _ w 576#32 = _
    unfold IntOp.divsi
    rw [if_neg (by simp [IntOp.SDivCorner])]
    have hm : w.msb = false := by rw [BitVec.msb_eq_false_iff_two_mul_lt]; omega
    rw [BitVec.sdiv_eq, hm, show (576#32).msb = false from rfl]
    apply BitVec.eq_of_toNat_eq
    rw [toNat_small ((c.toNat + 575) / 576) (by omega)]
    simp only [BitVec.udiv_eq, BitVec.toNat_udiv, hv]
    rfl
  unfold steps
  simp only []
  rw [hq]
  have h1 : Scalar.cmpi .sgt (Scalar.subi (Scalar.addi c 576#32) 1#32) 0#32 = 1#1 := by
    generalize hw : Scalar.subi (Scalar.addi c 576#32) 1#32 = w at hv
    show IntOp.cmpi .slt 0#32 w = 1#1
    rw [slt_word (by decide) (by omega)]
    simp; omega
  have h2 : Scalar.cmpi .slt (Scalar.subi (Scalar.addi c 576#32) 1#32) 0#32 = 0#1 := by
    generalize hw : Scalar.subi (Scalar.addi c 576#32) 1#32 = w at hv
    have : ¬ Scalar.cmpi .slt w 0#32 = 1#1 := by
      show ¬ IntOp.cmpi .slt w 0#32 = 1#1
      rw [slt_word (by omega) (by decide)]; simp
    revert this; generalize Scalar.cmpi .slt w 0#32 = b; revert b; decide
  rw [h1, h2]
  have h3 : Scalar.cmpi .ne (Scalar.subi (Scalar.extui 1#1) (Scalar.extui 0#1) : BitVec 32)
        (Scalar.subi (Scalar.extui (Scalar.cmpi .sgt 576#32 0#32)) (Scalar.extui (Scalar.cmpi .slt 576#32 0#32))) = 0#1 := by decide
  rw [h3]
  have h4 : ∀ b : BitVec 1, Scalar.andi 0#1 b = 0#1 := by decide
  rw [h4]
  rfl

theorem steps_toNat {c : BitVec 32} (hc : c.toNat ≤ 16416) : (steps c).toNat = (c.toNat + 575) / 576 := by
  rw [steps_eq hc, toNat_small _ (by omega)]

/-- The first of the two loops over a count's steps runs over all of them. -/
theorem trips_main {c : BitVec 32} (hc : c.toNat ≤ 16416) : Scf.trips 0#32 (steps c) 1#32 = (c.toNat + 575) / 576 := by
  have h := steps_toNat hc
  have e : (steps c).toInt = ((c.toNat + 575) / 576 : ℕ) := by rw [BitVec.toInt_eq_toNat_of_lt (by omega), h]
  unfold Scf.trips
  rw [e, show (0#32).toInt = 0 from rfl, show (1#32).toInt = 1 from rfl]
  omega

theorem ok_main {c : BitVec 32} (hc : c.toNat ≤ 16416) : Scf.OK 0#32 (steps c) 1#32 := by
  refine ⟨by decide, ?_⟩
  rw [trips_main hc, show (0#32).toInt = 0 from rfl, show (1#32).toInt = 1 from rfl]
  omega

/-- The second is left none. -/
theorem trips_rest (w : BitVec 32) : Scf.trips w w 1#32 = 0 := by
  unfold Scf.trips
  rw [show (1#32).toInt = 1 from rfl]
  omega

theorem ok_rest (w : BitVec 32) : Scf.OK w w 1#32 := by
  refine ⟨by decide, ?_⟩
  rw [trips_rest]
  have := BitVec.toInt_lt (x := w)
  simp at this ⊢
  omega

/-- The bounds as the program spells them: a division and a product by one and a difference and a sum with zero around the count. -/
theorem bound_main (w : BitVec 32) :
    Scalar.addi 0#32 (Scalar.muli (Scalar.divsi (Scalar.subi w 0#32) 1#32) 1#32) = w := by
  show 0#32 + IntOp.divsi _ (w - 0#32) 1#32 * 1#32 = w
  rw [WordArith.divsi_one]; simp

theorem bound_rest (w : BitVec 32) : Scalar.addi 0#32 (Scalar.subi w 0#32) = w := by
  show 0#32 + (w - 0#32) = w
  simp

/-- Step `k` of a count's loop starts at row `(off + 576 k) * 4`. -/
theorem start_toNat {off cnt : BitVec 32} (h : Slot off cnt) {k : ℕ} (hk : k < (cnt.toNat + 575) / 576) :
    (Scalar.muli (Scalar.addi off (Scalar.muli (Scf.iv 0#32 1#32 k) 576#32)) 4#32).toNat = 4 * (off.toNat + 576 * k) := by
  obtain ⟨-, h⟩ := h
  have e : (Scf.iv 0#32 1#32 k).toNat = k := WordArith.toNat_iv_zero_one k (by omega)
  show ((off + Scf.iv 0#32 1#32 k * 576#32) * 4#32).toNat = _
  rw [BitVec.toNat_mul, BitVec.toNat_add, BitVec.toNat_mul, e, show (4#32).toNat = 4 from rfl, show (576#32).toNat = 576 from rfl]
  omega

end Cert.Moe

end
-- ==== Proof.KernelChecks.lean ====
/- Every side condition that the kernel's body assumes of a word it has read, from what the word's table says of it. -/
module

public import proofs.«01_k».proof.Proof.Words
public import proofs.«01_k».proof.Proof.Gen.Kernel.Skeleton
public import Idealize.ShloMosaic.Lib.WordCmp

@[expose] public section

set_option maxRecDepth 16384

noncomputable section

namespace Cert.Moe.Kernel

open Idealize.ShloMosaic Idealize.ShloMosaic.TcCoe Idealize.ShloMosaic.Tactic
open Cert.Kernel Cert.Moe

/-- The four rows after an expert's slots, which the first step of a super block clears. -/
theorem tail_ok {i : grid0.Coords} {off cnt : BitVec 32} (h : Slot off cnt) : k0_chk1 i off cnt := by
  have e := tail_toNat h
  obtain ⟨-, h⟩ := h
  refine ⟨fun _ => ?_, fun _ a => ?_⟩
  · show 4 ∣ (Scalar.muli (Scalar.addi off cnt) 4#32).toNat
    rw [e]; exact ⟨_, rfl⟩
  · have e0 : k0_off2 off cnt = (fun n : ℕ => (![n, 0] : Fin 2 → ℕ)) (4 * (off.toNat + cnt.toNat)) := by
      show (fun n : ℕ => (![n, 0] : Fin 2 → ℕ)) ((Scalar.muli (Scalar.addi off cnt) 4#32).toNat) = _
      rw [e]
    rw [e0]
    fin_cases a <;> simp <;> omega

/-- A token's four rows. -/
theorem row_dvd {v : BitVec 32} (h : Row v) : 4 ∣ v.toNat := Nat.dvd_of_mod_eq_zero h.1

theorem row_inb {v : BitVec 32} (h : Row v) : ∀ a, ((fun n : ℕ => (![n, 0] : Fin 2 → ℕ)) v.toNat) a + S4x128.size a ≤ S67968x128.size a := by
  obtain ⟨h4, hv⟩ := h
  intro a
  fin_cases a <;> simp <;> omega

theorem t4_eq (v : BitVec 32) : k0_t4_loop v = ⟨0#32, steps v, 1#32⟩ := by
  show (⟨0#32, Scalar.addi 0#32 (Scalar.muli (Scalar.divsi (Scalar.subi (steps v) 0#32) 1#32) 1#32), 1#32⟩ : Scf.Loop 32) = _
  rw [bound_main]

theorem t5_eq (v : BitVec 32) : k0_t5_loop v = ⟨steps v, steps v, 1#32⟩ := by
  show (⟨Scalar.addi 0#32 (Scalar.muli (Scalar.divsi (Scalar.subi (steps v) 0#32) 1#32) 1#32),
    Scalar.addi 0#32 (Scalar.subi (steps v) 0#32), 1#32⟩ : Scf.Loop 32) = _
  rw [bound_main, bound_rest]

theorem t4_trips {v : BitVec 32} (h : v.toNat ≤ 16416) : (k0_t4_loop v).trips = (v.toNat + 575) / 576 := by
  show Scf.trips (k0_t4_loop v).lb (k0_t4_loop v).ub (k0_t4_loop v).st = _
  rw [t4_eq]; exact trips_main h

theorem t5_trips (v : BitVec 32) : (k0_t5_loop v).trips = 0 := by
  show Scf.trips (k0_t5_loop v).lb (k0_t5_loop v).ub (k0_t5_loop v).st = _
  rw [t5_eq]; exact trips_rest _

theorem t6_trips {v : BitVec 32} (h : v.toNat ≤ 16416) : (k0_t6_loop v).trips = (v.toNat + 575) / 576 := t4_trips h
theorem t7_trips (v : BitVec 32) : (k0_t7_loop v).trips = 0 := t5_trips v

/-- The loops over a count's steps have a meaning. -/
theorem loop_ok {i : grid0.Coords} {v : BitVec 32} (h : v.toNat ≤ 16416) : k0_chk45 i v := by
  refine ⟨fun _ => ?_, fun _ => ?_⟩
  · show Scf.OK (k0_t4_loop v).lb (k0_t4_loop v).ub (k0_t4_loop v).st
    rw [t4_eq]; exact ok_main h
  · show Scf.OK (k0_t5_loop v).lb (k0_t5_loop v).ub (k0_t5_loop v).st
    rw [t5_eq]; exact ok_rest _

/-- Where row `r` of the slots of step `k` starts. -/
theorem start_off {off cnt : BitVec 32} (h : Slot off cnt) (k : Fin (k0_t4_loop cnt).trips) (r : Fin 4) :
    k0_off93 cnt off k (BitVec.ofNat 32 r.val) = (fun n : ℕ => (![n, 0] : Fin 2 → ℕ)) (4 * (off.toNat + 576 * k.val) + r.val) := by
  have hk : k.val < (cnt.toNat + 575) / 576 := lt_of_lt_of_eq k.isLt (t4_trips (by have := h.2; omega))
  have e := start_toNat h hk
  have hr : (BitVec.ofNat 32 r.val).toNat = r.val := toNat_small _ (by omega)
  show (fun n : ℕ => (![n, 0] : Fin 2 → ℕ)) ((Scalar.muli (Scalar.addi off (Scalar.muli (Scf.iv 0#32 1#32 k.val) 576#32)) 4#32 + BitVec.ofNat 32 r.val).toNat) = _
  rw [BitVec.toNat_add, e, hr]
  congr 1
  have := h.2
  omega

/-- A step's 576 slots stay inside the buffer. -/
theorem step_ok {i : grid0.Coords} {off cnt : BitVec 32} (h : Slot off cnt) : k0_chk46 i cnt off := by
  have hc := h.2
  have ht := t4_trips (v := cnt) (by omega)
  refine ⟨fun k _ => ?_, fun k _ r a => ?_, fun k => ?_, fun k => ?_⟩
  · have hk : k.val < (cnt.toNat + 575) / 576 := lt_of_lt_of_eq k.isLt ht
    show 8 ∣ (Scalar.muli (Scalar.addi off (Scalar.muli (Scf.iv 0#32 1#32 k.val) 576#32)) 4#32).toNat
    rw [start_toNat h hk]
    have := h.1
    omega
  · have hk : k.val < (cnt.toNat + 575) / 576 := lt_of_lt_of_eq k.isLt ht
    rw [start_off h k r]
    fin_cases a <;> simp <;> omega
  · exact (Nat.not_lt_zero _ (lt_of_lt_of_eq k.isLt (t5_trips cnt))).elim
  · exact (Nat.not_lt_zero _ (lt_of_lt_of_eq k.isLt (t5_trips cnt))).elim

theorem loop_ok' {i : grid0.Coords} {v : BitVec 32} (h : v.toNat ≤ 16416) : k0_chk47 i v := loop_ok h
theorem step_ok' {i : grid0.Coords} {off cnt : BitVec 32} (h : Slot off cnt) : k0_chk48 i cnt off := step_ok h

/-! The same two facts at every place where the body asks for them. -/

theorem tail_ok1 {i : grid0.Coords} {off cnt : BitVec 32} (h : Slot off cnt) : k0_chk1 i off cnt := tail_ok h
theorem tail_ok2 {i : grid0.Coords} {off cnt : BitVec 32} (h : Slot off cnt) : k0_chk2 i off cnt := tail_ok h
theorem tail_ok3 {i : grid0.Coords} {off cnt : BitVec 32} (h : Slot off cnt) : k0_chk3 i off cnt := tail_ok h
theorem tail_ok4 {i : grid0.Coords} {off cnt : BitVec 32} (h : Slot off cnt) : k0_chk4 i off cnt := tail_ok h
theorem tail_ok5 {i : grid0.Coords} {off cnt : BitVec 32} (h : Slot off cnt) : k0_chk5 i off cnt := tail_ok h
theorem tail_ok6 {i : grid0.Coords} {off cnt : BitVec 32} (h : Slot off cnt) : k0_chk6 i off cnt := tail_ok h
theorem tail_ok7 {i : grid0.Coords} {off cnt : BitVec 32} (h : Slot off cnt) : k0_chk7 i off cnt := tail_ok h
theorem tail_ok8 {i : grid0.Coords} {off cnt : BitVec 32} (h : Slot off cnt) : k0_chk8 i off cnt := tail_ok h
theorem tail_ok9 {i : grid0.Coords} {off cnt : BitVec 32} (h : Slot off cnt) : k0_chk9 i off cnt := tail_ok h
theorem tail_ok10 {i : grid0.Coords} {off cnt : BitVec 32} (h : Slot off cnt) : k0_chk10 i off cnt := tail_ok h
theorem tail_ok11 {i : grid0.Coords} {off cnt : BitVec 32} (h : Slot off cnt) : k0_chk11 i off cnt := tail_ok h
theorem tail_ok12 {i : grid0.Coords} {off cnt : BitVec 32} (h : Slot off cnt) : k0_chk12 i off cnt := tail_ok h
theorem tail_ok13 {i : grid0.Coords} {off cnt : BitVec 32} (h : Slot off cnt) : k0_chk13 i off cnt := tail_ok h
theorem tail_ok14 {i : grid0.Coords} {off cnt : BitVec 32} (h : Slot off cnt) : k0_chk14 i off cnt := tail_ok h
theorem tail_ok15 {i : grid0.Coords} {off cnt : BitVec 32} (h : Slot off cnt) : k0_chk15 i off cnt := tail_ok h
theorem tail_ok16 {i : grid0.Coords} {off cnt : BitVec 32} (h : Slot off cnt) : k0_chk16 i off cnt := tail_ok h
theorem tail_ok17 {i : grid0.Coords} {off cnt : BitVec 32} (h : Slot off cnt) : k0_chk17 i off cnt := tail_ok h
theorem tail_ok18 {i : grid0.Coords} {off cnt : BitVec 32} (h : Slot off cnt) : k0_chk18 i off cnt := tail_ok h
theorem tail_ok19 {i : grid0.Coords} {off cnt : BitVec 32} (h : Slot off cnt) : k0_chk19 i off cnt := tail_ok h
theorem tail_ok20 {i : grid0.Coords} {off cnt : BitVec 32} (h : Slot off cnt) : k0_chk20 i off cnt := tail_ok h
theorem tail_ok21 {i : grid0.Coords} {off cnt : BitVec 32} (h : Slot off cnt) : k0_chk21 i off cnt := tail_ok h
theorem tail_ok22 {i : grid0.Coords} {off cnt : BitVec 32} (h : Slot off cnt) : k0_chk22 i off cnt := tail_ok h
theorem tail_ok23 {i : grid0.Coords} {off cnt : BitVec 32} (h : Slot off cnt) : k0_chk23 i off cnt := tail_ok h
theorem tail_ok24 {i : grid0.Coords} {off cnt : BitVec 32} (h : Slot off cnt) : k0_chk24 i off cnt := tail_ok h
theorem tail_ok25 {i : grid0.Coords} {off cnt : BitVec 32} (h : Slot off cnt) : k0_chk25 i off cnt := tail_ok h
theorem tail_ok26 {i : grid0.Coords} {off cnt : BitVec 32} (h : Slot off cnt) : k0_chk26 i off cnt := tail_ok h
theorem tail_ok27 {i : grid0.Coords} {off cnt : BitVec 32} (h : Slot off cnt) : k0_chk27 i off cnt := tail_ok h
theorem tail_ok28 {i : grid0.Coords} {off cnt : BitVec 32} (h : Slot off cnt) : k0_chk28 i off cnt := tail_ok h
theorem tail_ok29 {i : grid0.Coords} {off cnt : BitVec 32} (h : Slot off cnt) : k0_chk29 i off cnt := tail_ok h
theorem tail_ok30 {i : grid0.Coords} {off cnt : BitVec 32} (h : Slot off cnt) : k0_chk30 i off cnt := tail_ok h
theorem tail_ok31 {i : grid0.Coords} {off cnt : BitVec 32} (h : Slot off cnt) : k0_chk31 i off cnt := tail_ok h
theorem tail_ok32 {i : grid0.Coords} {off cnt : BitVec 32} (h : Slot off cnt) : k0_chk32 i off cnt := tail_ok h
theorem row_ok33 {i : grid0.Coords} {v : BitVec 32} (h : Row v) : k0_chk33 i v := ⟨fun _ => row_dvd h, fun _ => row_inb h⟩
theorem row_ok34 {i : grid0.Coords} {v : BitVec 32} (h : Row v) : k0_chk34 i v := ⟨fun _ => row_dvd h, fun _ => row_inb h⟩
theorem row_ok35 {i : grid0.Coords} {v : BitVec 32} (h : Row v) : k0_chk35 i v := ⟨fun _ => row_dvd h, fun _ => row_inb h⟩
theorem row_ok36 {i : grid0.Coords} {v : BitVec 32} (h : Row v) : k0_chk36 i v := ⟨fun _ => row_dvd h, fun _ => row_inb h⟩
theorem row_ok37 {i : grid0.Coords} {v : BitVec 32} (h : Row v) : k0_chk37 i v := ⟨fun _ => row_dvd h, fun _ => row_inb h⟩
theorem row_ok38 {i : grid0.Coords} {v : BitVec 32} (h : Row v) : k0_chk38 i v := ⟨fun _ => row_dvd h, fun _ => row_inb h⟩
theorem row_ok39 {i : grid0.Coords} {v : BitVec 32} (h : Row v) : k0_chk39 i v := ⟨fun _ => row_dvd h, fun _ => row_inb h⟩
theorem row_ok40 {i : grid0.Coords} {v : BitVec 32} (h : Row v) : k0_chk40 i v := ⟨fun _ => row_dvd h, fun _ => row_inb h⟩
theorem row_ok41 {i : grid0.Coords} {v : BitVec 32} (h : Row v) : k0_chk41 i v := ⟨fun _ => row_dvd h, fun _ => row_inb h⟩
theorem row_ok42 {i : grid0.Coords} {v : BitVec 32} (h : Row v) : k0_chk42 i v := ⟨fun _ => row_dvd h, fun _ => row_inb h⟩
theorem row_ok43 {i : grid0.Coords} {v : BitVec 32} (h : Row v) : k0_chk43 i v := ⟨fun _ => row_dvd h, fun _ => row_inb h⟩
theorem row_ok44 {i : grid0.Coords} {v : BitVec 32} (h : Row v) : k0_chk44 i v := ⟨fun _ => row_dvd h, fun _ => row_inb h⟩
theorem row_ok49 {i : grid0.Coords} {v : BitVec 32} (h : Row v) : k0_chk49 i v := ⟨fun _ => row_dvd h, fun _ => row_inb h⟩
theorem row_ok50 {i : grid0.Coords} {v : BitVec 32} (h : Row v) : k0_chk50 i v := ⟨fun _ => row_dvd h, fun _ => row_inb h⟩
theorem row_ok51 {i : grid0.Coords} {v : BitVec 32} (h : Row v) : k0_chk51 i v := ⟨fun _ => row_dvd h, fun _ => row_inb h⟩
theorem row_ok52 {i : grid0.Coords} {v : BitVec 32} (h : Row v) : k0_chk52 i v := ⟨fun _ => row_dvd h, fun _ => row_inb h⟩
theorem row_ok53 {i : grid0.Coords} {v : BitVec 32} (h : Row v) : k0_chk53 i v := ⟨fun _ => row_dvd h, fun _ => row_inb h⟩
theorem row_ok54 {i : grid0.Coords} {v : BitVec 32} (h : Row v) : k0_chk54 i v := ⟨fun _ => row_dvd h, fun _ => row_inb h⟩

end Cert.Moe.Kernel

end

end
-- ==== Proof.KernelLoops.lean ====
/- What every counted loop of the body keeps: the buffers it reads and writes, whatever they hold, and position words that name rows. -/
module

public import proofs.«01_k».proof.Proof.KernelChecks
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Moe

variable {F : FTy → Type} [BitOps F] [∀ e, Nonempty (Elt F e)]

abbrev UU (nD : Nat) (τ : Topo) := UR sig nD τ
abbrev MM (F : FTy → Type) := MT nD τ sig Unit (Elt F) ℕ (UU nD τ) ℕ

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x128 .i32) (harg12 : arg12.IsWhole) (arg13 : Memref sig .tc .vmem S4096x128 .i32) (harg13 : arg13.IsWhole)
  (arg14 : Memref sig .tc .vmem S4096x128 .i32) (harg14 : arg14.IsWhole)

/-- Every word of the position block names a row. -/
def PosOk (f : arg5.view.ty.Contents (Elt F)) : Prop := ∀ y : S16384.Idx, Row (arg5.view.read (Elt F) f y)

/-- What a loop over the buffer keeps: the position words as they are, the two staging buffers and the buffer itself. -/
def Keep (f5 : Buf (Elt F) (arg5.view.loc (c : Thread nD τ))) : sProp (MM F) :=
  iprop(⌜PosOk arg5 f5⌝ ∗ (arg5.view.loc (c : Thread nD τ) ↦{fullShare} f5)
    ∗ (∃ f12, arg12.view.loc (c : Thread nD τ) ↦{fullShare} f12)
    ∗ (∃ f13, arg13.view.loc (c : Thread nD τ) ↦{fullShare} f13)
    ∗ (∃ f14, arg14.view.loc (c : Thread nD τ) ↦{fullShare} f14))

/-- What the loops over an expert's slots keep: its weights as they are, and the buffer. -/
def KeepE (f6 : Buf (Elt F) (arg6.view.loc (c : Thread nD τ))) (f7 : Buf (Elt F) (arg7.view.loc (c : Thread nD τ)))
    (f8 : Buf (Elt F) (arg8.view.loc (c : Thread nD τ))) : sProp (MM F) :=
  iprop((arg6.view.loc (c : Thread nD τ) ↦{fullShare} f6) ∗ (arg7.view.loc (c : Thread nD τ) ↦{fullShare} f7)
    ∗ (arg8.view.loc (c : Thread nD τ) ↦{fullShare} f8)
    ∗ (∃ f12, arg12.view.loc (c : Thread nD τ) ↦{fullShare} f12))

/-- A word read out of the position block names a row. -/
theorem PosOk.word {f : arg5.view.ty.Contents (Elt F)} (h : PosOk arg5 f) (r : Rect S16384) (y : r.shape.Idx) :
    Row (arg5.view.readAt (Elt F) r.toLoadRect f y) := by
  rw [View.readAt_apply]; exact h _

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop1 (f5 : Buf (Elt F) (arg5.view.loc (c : Thread nD τ))) (k0_h2 : k0_cond2 i = 1#1) (v113 : BitVec 32) :
    LoopInvTy_k0_t1 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 k0_h2 v113 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok33 (hp.word _ _ _) | exact row_ok34 (hp.word _ _ _) | exact row_ok35 (hp.word _ _ _) | exact row_ok36 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop2 (f5 : Buf (Elt F) (arg5.view.loc (c : Thread nD τ))) (arg0 : BitVec 32) (arg1 : BitVec 32) (v34 : BitVec 1) (k0_h3 : k0_cond3 i = 1#1) (v113 : BitVec 32) :
    LoopInvTy_k0_t2 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h3 v113 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok37 (hp.word _ _ _) | exact row_ok38 (hp.word _ _ _) | exact row_ok39 (hp.word _ _ _) | exact row_ok40 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop3 (f5 : Buf (Elt F) (arg5.view.loc (c : Thread nD τ))) (arg0 : BitVec 32) (arg1 : BitVec 32) (v34 : BitVec 1) (k0_h4 : k0_cond4 i = 1#1) :
    LoopInvTy_k0_t3 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h4 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok41 (hp.word _ _ _) | exact row_ok42 (hp.word _ _ _) | exact row_ok43 (hp.word _ _ _) | exact row_ok44 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop8 (f5 : Buf (Elt F) (arg5.view.loc (c : Thread nD τ))) (arg0 : BitVec 32) (arg1 : BitVec 32) (v34 : BitVec 1) (k0_h6 : k0_cond6 i = 1#1) :
    LoopInvTy_k0_t8 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h6 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok49 (hp.word _ _ _) | exact row_ok50 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop9 (f5 : Buf (Elt F) (arg5.view.loc (c : Thread nD τ))) (v45 : BitVec 32) (k0_h7 : k0_cond7 i = 1#1) :
    LoopInvTy_k0_t9 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h7 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok51 (hp.word _ _ _) | exact row_ok52 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop10 (f5 : Buf (Elt F) (arg5.view.loc (c : Thread nD τ))) (v45 : BitVec 32) (k0_h8 : k0_cond8 i = 1#1) :
    LoopInvTy_k0_t10 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h8 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok53 (hp.word _ _ _) | exact row_ok54 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop4 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (k0_h5 : k0_cond5 i = 1#1) (v92 : Elt F .i32) (k0_hw45 : k0_chk45 i v92) (v94 : Elt F .i32) (k0_hw46 : k0_chk46 i v92 v94) :
    LoopInvTy_k0_t4 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 where
  inv _ _ := KeepE c arg6 arg7 arg8 arg12 f6 f7 f8
  step k acc := by
    unfold KeepE
    iintro ⟨H6, H7, H8, ⟨%f12, H12⟩⟩
    sl_exec
    sl_step
    isplitl [H6]; · iexact H6
    isplitl [H7]; · iexact H7
    isplitl [H8]; · iexact H8
    iexists _; iexact H12

set_option warn.classDefReducibility false in
@[sl_loop] def loop5 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (k0_h5 : k0_cond5 i = 1#1) (v92 : Elt F .i32) (k0_hw45 : k0_chk45 i v92) (v94 : Elt F .i32) (k0_hw46 : k0_chk46 i v92 v94) (v118 : BitVec 32) :
    LoopInvTy_k0_t5 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 v118 where
  inv _ _ := KeepE c arg6 arg7 arg8 arg12 f6 f7 f8
  step k acc := (Nat.not_lt_zero _ (Nat.lt_of_lt_of_eq k.isLt (t5_trips _))).elim

set_option warn.classDefReducibility false in
@[sl_loop] def loop6 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (v34 : BitVec 1) (k0_h5 : k0_cond5 i = 1#1) (v125 : Elt F .i32) (k0_hw47 : k0_chk47 i v125) (v127 : Elt F .i32) (k0_hw48 : k0_chk48 i v125 v127) :
    LoopInvTy_k0_t6 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 where
  inv _ _ := KeepE c arg6 arg7 arg8 arg12 f6 f7 f8
  step k acc := by
    unfold KeepE
    iintro ⟨H6, H7, H8, ⟨%f12, H12⟩⟩
    sl_exec
    sl_step
    isplitl [H6]; · iexact H6
    isplitl [H7]; · iexact H7
    isplitl [H8]; · iexact H8
    iexists _; iexact H12

set_option warn.classDefReducibility false in
@[sl_loop] def loop7 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (v34 : BitVec 1) (k0_h5 : k0_cond5 i = 1#1) (v125 : Elt F .i32) (k0_hw47 : k0_chk47 i v125) (v127 : Elt F .i32) (k0_hw48 : k0_chk48 i v125 v127) (v151 : BitVec 32) :
    LoopInvTy_k0_t7 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 v151 where
  inv _ _ := KeepE c arg6 arg7 arg8 arg12 f6 f7 f8
  step k acc := (Nat.not_lt_zero _ (Nat.lt_of_lt_of_eq k.isLt (t7_trips _))).elim

end Cert.Moe.Kernel

end

end
-- ==== Proof.KernelCases.lean ====
/- Which of the body's nine branches a grid point takes. -/
module

public import proofs.«01_k».proof.Proof.KernelChecks

@[expose] public section

set_option maxRecDepth 16384

noncomputable section

namespace Cert.Moe.Kernel

open Idealize.ShloMosaic Idealize.ShloMosaic.TcCoe
open Cert.Kernel Cert.Moe

/-- Exactly the `n`-th branch is taken. -/
def Case (i : grid0.Coords) (n : ℕ) : Prop :=
  (k0_cond1 i = 1#1 ↔ n = 1) ∧ (k0_cond2 i = 1#1 ↔ n = 2) ∧ (k0_cond3 i = 1#1 ↔ n = 3) ∧ (k0_cond4 i = 1#1 ↔ n = 4)
    ∧ (k0_cond5 i = 1#1 ↔ n = 5) ∧ (k0_cond6 i = 1#1 ↔ n = 6) ∧ (k0_cond7 i = 1#1 ↔ n = 7) ∧ (k0_cond8 i = 1#1 ↔ n = 8)
    ∧ (k0_cond9 i = 1#1 ↔ n = 9)

theorem cond1_iff (i : grid0.Coords) : k0_cond1 i = 1#1 ↔ kind (i 1).val = 1 := by
  unfold k0_cond1; generalize i 1 = j; revert j; decide
theorem cond2_iff (i : grid0.Coords) : k0_cond2 i = 1#1 ↔ kind (i 1).val = 2 := by
  unfold k0_cond2; generalize i 1 = j; revert j; decide
theorem cond3_iff (i : grid0.Coords) : k0_cond3 i = 1#1 ↔ kind (i 1).val = 3 := by
  unfold k0_cond3; generalize i 1 = j; revert j; decide
theorem cond4_iff (i : grid0.Coords) : k0_cond4 i = 1#1 ↔ kind (i 1).val = 4 := by
  unfold k0_cond4; generalize i 1 = j; revert j; decide
theorem cond5_iff (i : grid0.Coords) : k0_cond5 i = 1#1 ↔ kind (i 1).val = 5 := by
  unfold k0_cond5; generalize i 1 = j; revert j; decide
theorem cond6_iff (i : grid0.Coords) : k0_cond6 i = 1#1 ↔ kind (i 1).val = 6 := by
  unfold k0_cond6; generalize i 1 = j; revert j; decide
theorem cond7_iff (i : grid0.Coords) : k0_cond7 i = 1#1 ↔ kind (i 1).val = 7 := by
  unfold k0_cond7; generalize i 1 = j; revert j; decide
theorem cond8_iff (i : grid0.Coords) : k0_cond8 i = 1#1 ↔ kind (i 1).val = 8 := by
  unfold k0_cond8; generalize i 1 = j; revert j; decide
theorem cond9_iff (i : grid0.Coords) : k0_cond9 i = 1#1 ↔ kind (i 1).val = 9 := by
  unfold k0_cond9; generalize i 1 = j; revert j; decide

theorem case_kind (i : grid0.Coords) : Case i (kind (i 1).val) :=
  ⟨cond1_iff i, cond2_iff i, cond3_iff i, cond4_iff i, cond5_iff i, cond6_iff i, cond7_iff i, cond8_iff i, cond9_iff i⟩

end Cert.Moe.Kernel

end

end
-- ==== Proof.KernelRun.lean ====
/- The body at a grid point, in any of its nine branches: it runs to its end, and hands back the tables and the input blocks as they were
   and the output block and the three scratch buffers at some contents. -/
module

public import proofs.«01_k».proof.Proof.KernelLoops
public import proofs.«01_k».proof.Proof.KernelCases

@[expose] public section

set_option maxRecDepth 16384

noncomputable section

namespace Cert.Moe.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Moe

variable {F : FTy → Type} [BitOps F] [∀ e, Nonempty (Elt F e)]

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x128 .i32) (harg12 : arg12.IsWhole) (arg13 : Memref sig .tc .vmem S4096x128 .i32) (harg13 : arg13.IsWhole)
  (arg14 : Memref sig .tc .vmem S4096x128 .i32) (harg14 : arg14.IsWhole)

/-- The two slot tables read word by word: every slot and its count stay inside the buffer. -/
def TabOk (f2 : arg2.view.ty.Contents (Elt F)) (f3 : arg3.view.ty.Contents (Elt F)) : Prop :=
  ∀ y : S64.Idx, Slot (arg2.view.read (Elt F) f2 y) (arg3.view.read (Elt F) f3 y)

theorem TabOk.word {f2 : arg2.view.ty.Contents (Elt F)} {f3 : arg3.view.ty.Contents (Elt F)} (h : TabOk arg2 arg3 f2 f3)
    (r : Rect S64) (y : r.shape.Idx) :
    Slot (arg2.view.readAt (Elt F) r.toLoadRect f2 y) (arg3.view.readAt (Elt F) r.toLoadRect f3 y) := by
  rw [View.readAt_apply, View.readAt_apply]; exact h _

theorem TabOk.count {f2 : arg2.view.ty.Contents (Elt F)} {f3 : arg3.view.ty.Contents (Elt F)} (h : TabOk arg2 arg3 f2 f3)
    (r : Rect S64) (y : r.shape.Idx) : (arg3.view.readAt (Elt F) r.toLoadRect f3 y).toNat ≤ 16416 := by
  have := (h.word arg2 arg3 r y).2; omega

/-- What the body holds: the tables and the input blocks at given contents, the rest at any. -/
def Holds (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) : sProp (MM F) :=
  iprop((arg2.view.loc (c : Thread nD τ) ↦{fullShare.right} f2) ∗ (arg3.view.loc (c : Thread nD τ) ↦{fullShare.right} f3)
    ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7)
    ∗ (arg8.view.loc (c : Thread nD τ) ↦{fullShare} f8) ∗ (arg9.view.loc (c : Thread nD τ) ↦{fullShare} f9)
    ∗ (arg10.view.loc (c : Thread nD τ) ↦{fullShare} f10)
    ∗ (∃ f11, arg11.view.loc (c : Thread nD τ) ↦{fullShare} f11)
    ∗ (∃ f12, arg12.view.loc (c : Thread nD τ) ↦{fullShare} f12)
    ∗ (∃ f13, arg13.view.loc (c : Thread nD τ) ↦{fullShare} f13)
    ∗ (∃ f14, arg14.view.loc (c : Thread nD τ) ↦{fullShare} f14))

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
theorem run (f2 f3 f4 f5 f6 f7 f8 f9 f10) (hT : TabOk (F := F) arg2 arg3 f2 f3) (hp : PosOk (F := F) arg5 f5)
    (K : Unit → sProp (MM F)) :
    iprop(Holds c arg2 arg3 arg4 arg5 arg6 arg7 arg8 arg9 arg10 arg11 arg12 arg13 arg14 f2 f3 f4 f5 f6 f7 f8 f9 f10
        ∗ (Holds c arg2 arg3 arg4 arg5 arg6 arg7 arg8 arg9 arg10 arg11 arg12 arg13 arg14 f2 f3 f4 f5 f6 f7 f8 f9 f10 -∗ K ⟨⟩))
      ⊢ wp Idealize.ShloMosaic.frame (wpE (defs₀ (F := F)) Variants.none (c : Thread nD τ) none) Set.univ
          (cc0_moe i arg2 harg2 arg3 harg3 arg4 harg4 arg5 harg5 arg6 harg6 arg7 harg7 arg8 harg8 arg9 harg9 arg10 harg10 arg11 harg11 arg12 harg12 arg13 harg13 arg14 harg14) K := by
  have hc := case_kind i
  have hk := kind_range (j := (i 1).val)
  generalize kind (i 1).val = n at hc hk
  obtain ⟨c1, c2, c3, c4, c5, c6, c7, c8, c9⟩ := hc
  simp only [List.mem_cons, List.not_mem_nil, or_false] at hk
  rcases hk with rfl | rfl | rfl | rfl | rfl | rfl | rfl | rfl | rfl
  all_goals
    first | replace c1 := c1.2 rfl | replace c1 : ¬ k0_cond1 i = 1#1 := fun h => absurd (c1.1 h) (by decide)
    first | replace c2 := c2.2 rfl | replace c2 : ¬ k0_cond2 i = 1#1 := fun h => absurd (c2.1 h) (by decide)
    first | replace c3 := c3.2 rfl | replace c3 : ¬ k0_cond3 i = 1#1 := fun h => absurd (c3.1 h) (by decide)
    first | replace c4 := c4.2 rfl | replace c4 : ¬ k0_cond4 i = 1#1 := fun h => absurd (c4.1 h) (by decide)
    first | replace c5 := c5.2 rfl | replace c5 : ¬ k0_cond5 i = 1#1 := fun h => absurd (c5.1 h) (by decide)
    first | replace c6 := c6.2 rfl | replace c6 : ¬ k0_cond6 i = 1#1 := fun h => absurd (c6.1 h) (by decide)
    first | replace c7 := c7.2 rfl | replace c7 : ¬ k0_cond7 i = 1#1 := fun h => absurd (c7.1 h) (by decide)
    first | replace c8 := c8.2 rfl | replace c8 : ¬ k0_cond8 i = 1#1 := fun h => absurd (c8.1 h) (by decide)
    first | replace c9 := c9.2 rfl | replace c9 : ¬ k0_cond9 i = 1#1 := fun h => absurd (c9.1 h) (by decide)
    unfold Holds
    iintro ⟨⟨H2, H3, H4, H5, H6, H7, H8, H9, H10, ⟨%f11, H11⟩, ⟨%f12, H12⟩, ⟨%f13, H13⟩, ⟨%f14, H14⟩⟩, Hk⟩
    simp only [cc0_moe_eq_skeleton]
    unfold cc0_moe_skel
    sl_exec (disch := first | sl_exact c1 | sl_exact c2 | sl_exact c3 | sl_exact c4 | sl_exact c5 | sl_exact c6 | sl_exact c7 | sl_exact c8 | sl_exact c9 | exact tail_ok1 (hT.word _ _ _ _) | exact tail_ok2 (hT.word _ _ _ _) | exact tail_ok3 (hT.word _ _ _ _) | exact tail_ok4 (hT.word _ _ _ _) | exact tail_ok5 (hT.word _ _ _ _) | exact tail_ok6 (hT.word _ _ _ _) | exact tail_ok7 (hT.word _ _ _ _) | exact tail_ok8 (hT.word _ _ _ _) | exact tail_ok9 (hT.word _ _ _ _) | exact tail_ok10 (hT.word _ _ _ _) | exact tail_ok11 (hT.word _ _ _ _) | exact tail_ok12 (hT.word _ _ _ _) | exact tail_ok13 (hT.word _ _ _ _) | exact tail_ok14 (hT.word _ _ _ _) | exact tail_ok15 (hT.word _ _ _ _) | exact tail_ok16 (hT.word _ _ _ _) | exact tail_ok17 (hT.word _ _ _ _) | exact tail_ok18 (hT.word _ _ _ _) | exact tail_ok19 (hT.word _ _ _ _) | exact tail_ok20 (hT.word _ _ _ _) | exact tail_ok21 (hT.word _ _ _ _) | exact tail_ok22 (hT.word _ _ _ _) | exact tail_ok23 (hT.word _ _ _ _) | exact tail_ok24 (hT.word _ _ _ _) | exact tail_ok25 (hT.word _ _ _ _) | exact tail_ok26 (hT.word _ _ _ _) | exact tail_ok27 (hT.word _ _ _ _) | exact tail_ok28 (hT.word _ _ _ _) | exact tail_ok29 (hT.word _ _ _ _) | exact tail_ok30 (hT.word _ _ _ _) | exact tail_ok31 (hT.word _ _ _ _) | exact tail_ok32 (hT.word _ _ _ _) | exact loop_ok (hT.count _ _ _ _) | exact step_ok (hT.word _ _ _ _) | exact loop_ok' (hT.count _ _ _ _) | exact step_ok' (hT.word _ _ _ _))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Moe.Kernel

end

end
-- ==== Proof.KernelOwned.lean ====
/- The same, over buffers given by what is read through them. -/
module

public import proofs.«01_k».proof.Proof.KernelRun

@[expose] public section

set_option maxRecDepth 16384

noncomputable section

namespace Cert.Moe.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Moe

variable {F : FTy → Type} [BitOps F] [∀ e, Nonempty (Elt F e)]

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x128 .i32) (harg12 : arg12.IsWhole) (arg13 : Memref sig .tc .vmem S4096x128 .i32) (harg13 : arg13.IsWhole)
  (arg14 : Memref sig .tc .vmem S4096x128 .i32) (harg14 : arg14.IsWhole)

theorem owns_eq {sp : Space} {S : Shape} {e : EltTy} (M : Memref sig .tc sp S e) (h : M.IsWhole) (q : PosShare TreeShare) (x : S.Idx → Elt F e) :
    (owns (c : Thread nD τ) M q x : sProp (MM F)) = iprop(∃ f, ⌜M.view.read (Elt F) f = x⌝ ∗ (M.view.loc (c : Thread nD τ) ↦{q} f)) := by
  unfold owns; rw [h.set_eq_univ]

/-- What the body holds: the tables and the input blocks as given, the rest at anything. -/
def Owned (f2 : Buf (Elt F) (arg2.view.loc (c : Thread nD τ))) (f3 : Buf (Elt F) (arg3.view.loc (c : Thread nD τ)))
    (x4 : Vec F S1024x1024 .bf16) (x5 : Vec F S16384 .i32) (x6 : Vec F S2x1024x256 .bf16) (x7 : Vec F S2x1024x256 .bf16) (x8 : Vec F S2x256x1024 .bf16) (x9 : Vec F S512x1024 .f32) (x10 : Vec F S8x512 .f32) : sProp (MM F) :=
  iprop((arg2.view.loc (c : Thread nD τ) ↦{fullShare.right} f2) ∗ (arg3.view.loc (c : Thread nD τ) ↦{fullShare.right} f3)
    ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

theorem run_owned (f2 f3 x4 x5 x6 x7 x8 x9 x10) (hT : TabOk (F := F) arg2 arg3 f2 f3) (hp : ∀ y, Row (x5 y)) (K : Unit → sProp (MM F)) :
    iprop(Owned c arg2 arg3 arg4 arg5 arg6 arg7 arg8 arg9 arg10 arg11 arg12 arg13 arg14 f2 f3 x4 x5 x6 x7 x8 x9 x10
        ∗ (Owned c arg2 arg3 arg4 arg5 arg6 arg7 arg8 arg9 arg10 arg11 arg12 arg13 arg14 f2 f3 x4 x5 x6 x7 x8 x9 x10 -∗ K ⟨⟩))
      ⊢ wp Idealize.ShloMosaic.frame (wpE (defs₀ (F := F)) Variants.none (c : Thread nD τ) none) Set.univ
          (cc0_moe i arg2 harg2 arg3 harg3 arg4 harg4 arg5 harg5 arg6 harg6 arg7 harg7 arg8 harg8 arg9 harg9 arg10 harg10 arg11 harg11 arg12 harg12 arg13 harg13 arg14 harg14) K := by
  unfold Owned
  simp only [owns_eq c arg4 harg4, owns_eq c arg5 harg5, owns_eq c arg6 harg6, owns_eq c arg7 harg7, owns_eq c arg8 harg8, owns_eq c arg9 harg9, owns_eq c arg10 harg10, owns_eq c arg11 harg11, owns_eq c arg12 harg12, owns_eq c arg13 harg13, owns_eq c arg14 harg14]
  iintro ⟨⟨H2, H3, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%d13, %f13, %h13, H13⟩, ⟨%d14, %f14, %h14, H14⟩⟩, Hk⟩
  iapply (run c i arg2 harg2 arg3 harg3 arg4 harg4 arg5 harg5 arg6 harg6 arg7 harg7 arg8 harg8 arg9 harg9 arg10 harg10 arg11 harg11 arg12 harg12
    arg13 harg13 arg14 harg14 f2 f3 f4 f5 f6 f7 f8 f9 f10 hT (fun y => by rw [h5]; exact hp y) K)
  unfold Holds
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  iintro ⟨H2, H3, H4, H5, H6, H7, H8, H9, H10, ⟨%o11, H11⟩, ⟨%o12, H12⟩, ⟨%o13, H13⟩, ⟨%o14, H14⟩⟩
  iapply Hk
  isplitl [H2]; · iexact H2
  isplitl [H3]; · iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists _, o11; isplitr; swap; · iexact H11
    ipureintro; rfl
  isplitl [H12]
  · iexists _, o12; isplitr; swap; · iexact H12
    ipureintro; rfl
  isplitl [H13]
  · iexists _, o13; isplitr; swap; · iexact H13
    ipureintro; rfl
  iexists _, o14; isplitr; swap; · iexact H14
  ipureintro; rfl

end Cert.Moe.Kernel

end

end
-- ==== Proof.KernelSetup.lean ====
/- The call on its grid: what the region finds in memory, the block of each window at a point, the buffers the body is handed there,
   and what the agreement of the tables with the routing says of the words the body reads. -/
module

public import proofs.«01_k».proof.Proof.Tables
public import proofs.«01_k».proof.Proof.KernelOwned
public import proofs.«01_k».proof.Proof.Gen.Kernel.Launch

@[expose] public section

set_option maxRecDepth 16384

noncomputable section

namespace Cert.Moe.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen Cert.Moe

variable {F : FTy → Type} [BitOps F]

variable (m : (ℓ : Loc nD τ sig) → Buf (Elt F) ℓ)

/-- A core's buffer as the region finds it. -/
abbrev entry (c : Dev nD) (b : Ref sig .tc) : Buf (Elt F) ((c : Thread nD τ).loc b) := m ((c : Thread nD τ).loc b)

theorem main_region : Pipeline.HMainP (Ix := Unit) (Name := ℕ) (U := UR sig nD τ) (Lvl := ℕ) pcfgs 0 defs₀ Variants.none m (main (F := F)) (entry m) :=
  Pipeline.hmainP_region pcfgs 0 defs₀ Variants.none m main fun c => (main_chain c).trans rfl

/-- The two slot tables. -/
def slots : pre0.Contents (Elt F) := fun j => entry m (0 : Dev nD) (pre0.ref j)

theorem slots_eq (c : Dev nD) (j : Fin 2) : entry m c (pre0.ref j) = slots m j := by
  obtain rfl : c = 0 := Subsingleton.elim _ _
  rfl

/-- No window's place depends on the tables. -/
abbrev held : (pcfg0 (F := F)).Adm := ⟨slots m, trivial⟩
abbrev grd : Pipeline.Cfg sig Λ₀ := cfg0 (held m)

abbrev offM : Memref sig .tc .smem S64 .i32 := Memref.whole main_arg0
abbrev cntM : Memref sig .tc .smem S64 .i32 := Memref.whole main_arg1

theorem tables_eq (c : Dev nD) : (Pipeline.ΦT pre0 (slots m) c : sProp (MM F))
    = iprop(((offM.view.loc (c : Thread nD τ)) ↦{fullShare.right} slots m 0) ∗ ((cntM.view.loc (c : Thread nD τ)) ↦{fullShare.right} slots m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, as the region finds the window's array. -/
def blockAt (c : Dev nD) (w : Fin (grd m).W) (t : Fin (grd m).N) :
    (((grd m).win w).xblock ((grd m).grid.coords t)).Idx → Elt F ((grd m).win w).elt :=
  (((grd m).win w).blk t).view.read (Elt F) (entry m c (Pipeline.arrRef spec0 w))

section
variable {m} {c : Dev nD} (dat : Dat τ (Elt F) Unit ℕ (UR sig nD τ) ℕ (grd m) c)

theorem before_0 (hA : dat.A 0 = entry m c (Pipeline.arrRef spec0 0)) (h : ∀ t, dat.after 0 t = blockAt m c 0 t) (t) (d) : dat.before 0 t d = blockAt m c 0 t :=
  (dat.before_in_eq_fetched 0 rfl (fun _ => rfl) (fun _ _ _ => rfl) (fun t => by rw [h]; unfold Dat.blockOf blockAt; rw [hA]; rfl) t d).trans
    (by unfold Dat.fetched Dat.blockOf blockAt; rw [hA]; rfl)
theorem before_1 (hA : dat.A 1 = entry m c (Pipeline.arrRef spec0 1)) (h : ∀ t, dat.after 1 t = blockAt m c 1 t) (t) (d) : dat.before 1 t d = blockAt m c 1 t :=
  (dat.before_in_eq_fetched 1 rfl (fun _ => rfl) (fun _ _ _ => rfl) (fun t => by rw [h]; unfold Dat.blockOf blockAt; rw [hA]; rfl) t d).trans
    (by unfold Dat.fetched Dat.blockOf blockAt; rw [hA]; rfl)
theorem before_2 (hA : dat.A 2 = entry m c (Pipeline.arrRef spec0 2)) (h : ∀ t, dat.after 2 t = blockAt m c 2 t) (t) (d) : dat.before 2 t d = blockAt m c 2 t :=
  (dat.before_in_eq_fetched 2 rfl (fun _ => rfl) (fun _ _ _ => rfl) (fun t => by rw [h]; unfold Dat.blockOf blockAt; rw [hA]; rfl) t d).trans
    (by unfold Dat.fetched Dat.blockOf blockAt; rw [hA]; rfl)
theorem before_3 (hA : dat.A 3 = entry m c (Pipeline.arrRef spec0 3)) (h : ∀ t, dat.after 3 t = blockAt m c 3 t) (t) (d) : dat.before 3 t d = blockAt m c 3 t :=
  (dat.before_in_eq_fetched 3 rfl (fun _ => rfl) (fun _ _ _ => rfl) (fun t => by rw [h]; unfold Dat.blockOf blockAt; rw [hA]; rfl) t d).trans
    (by unfold Dat.fetched Dat.blockOf blockAt; rw [hA]; rfl)
theorem before_4 (hA : dat.A 4 = entry m c (Pipeline.arrRef spec0 4)) (h : ∀ t, dat.after 4 t = blockAt m c 4 t) (t) (d) : dat.before 4 t d = blockAt m c 4 t :=
  (dat.before_in_eq_fetched 4 rfl (fun _ => rfl) (fun _ _ _ => rfl) (fun t => by rw [h]; unfold Dat.blockOf blockAt; rw [hA]; rfl) t d).trans
    (by unfold Dat.fetched Dat.blockOf blockAt; rw [hA]; rfl)
theorem before_5 (hA : dat.A 5 = entry m c (Pipeline.arrRef spec0 5)) (h : ∀ t, dat.after 5 t = blockAt m c 5 t) (t) (d) : dat.before 5 t d = blockAt m c 5 t :=
  (dat.before_in_eq_fetched 5 rfl (fun _ => rfl) (fun _ _ _ => rfl) (fun t => by rw [h]; unfold Dat.blockOf blockAt; rw [hA]; rfl) t d).trans
    (by unfold Dat.fetched Dat.blockOf blockAt; rw [hA]; rfl)
theorem before_6 (hA : dat.A 6 = entry m c (Pipeline.arrRef spec0 6)) (h : ∀ t, dat.after 6 t = blockAt m c 6 t) (t) (d) : dat.before 6 t d = blockAt m c 6 t :=
  (dat.before_in_eq_fetched 6 rfl (fun _ => rfl) (fun _ _ _ => rfl) (fun t => by rw [h]; unfold Dat.blockOf blockAt; rw [hA]; rfl) t d).trans
    (by unfold Dat.fetched Dat.blockOf blockAt; rw [hA]; rfl)
end

/-! The buffer each window is on at a point, and the three scratch buffers. -/

variable (t : Fin (grd m).N)
abbrev b0 : Memref sig .tc .vmem S1024x1024 .bf16 := spec0_0.stage ((grd m).slots t 0)
abbrev b1 : Memref sig .tc .smem S16384 .i32 := spec0_1.stage ((grd m).slots t 1)
abbrev b2 : Memref sig .tc .vmem S2x1024x256 .bf16 := spec0_2.stage ((grd m).slots t 2)
abbrev b3 : Memref sig .tc .vmem S2x1024x256 .bf16 := spec0_3.stage ((grd m).slots t 3)
abbrev b4 : Memref sig .tc .vmem S2x256x1024 .bf16 := spec0_4.stage ((grd m).slots t 4)
abbrev b5 : Memref sig .tc .vmem S512x1024 .f32 := spec0_5.stage ((grd m).slots t 5)
abbrev b6 : Memref sig .tc .vmem S8x512 .f32 := spec0_6.stage ((grd m).slots t 6)
abbrev b7 : Memref sig .tc .vmem S512x1024 .f32 := spec0_7.stage ((grd m).slots t 7)
theorem w0 : (b0 m t).IsWhole := hstage0_0 (((grd m).slots t 0).cast nbuf0_0)
theorem w1 : (b1 m t).IsWhole := hstage0_1 (((grd m).slots t 1).cast nbuf0_1)
theorem w2 : (b2 m t).IsWhole := hstage0_2 (((grd m).slots t 2).cast nbuf0_2)
theorem w3 : (b3 m t).IsWhole := hstage0_3 (((grd m).slots t 3).cast nbuf0_3)
theorem w4 : (b4 m t).IsWhole := hstage0_4 (((grd m).slots t 4).cast nbuf0_4)
theorem w5 : (b5 m t).IsWhole := hstage0_5 (((grd m).slots t 5).cast nbuf0_5)
theorem w6 : (b6 m t).IsWhole := hstage0_6 (((grd m).slots t 6).cast nbuf0_6)
theorem w7 : (b7 m t).IsWhole := hstage0_7 (((grd m).slots t 7).cast nbuf0_7)
abbrev xyM : Memref sig .tc .vmem S67968x128 .i32 := Memref.whole cc0_scratch0
abbrev g1M : Memref sig .tc .vmem S4096x128 .i32 := Memref.whole cc0_scratch1
abbrev g2M : Memref sig .tc .vmem S4096x128 .i32 := Memref.whole cc0_scratch2

/-- The body at a point, on what the pipeline calls it with. -/
abbrev bodyAt : Prog (TpuEff nD τ sig (Elt F) Λ₀ .tc) PUnit :=
  cc0_moe (grid0.coords t) offM (Memref.isWhole_whole _) cntM (Memref.isWhole_whole _) (b0 m t) (w0 m t) (b1 m t) (w1 m t) (b2 m t) (w2 m t)
    (b3 m t) (w3 m t) (b4 m t) (w4 m t) (b5 m t) (w5 m t) (b6 m t) (w6 m t) (b7 m t) (w7 m t)
    xyM (Memref.isWhole_whole _) g1M (Memref.isWhole_whole _) g2M (Memref.isWhole_whole _)

theorem defs_row : defs₀ (F := F) .tc (grd m).body ((grd m).bodyArgs t ((grd m).slots t)) = bodyAt m t := by
  unfold defs₀; rw [Defs.onTc_tc]

theorem scratch_eq (c : Dev nD) : (Pipeline.ΦA spec0 c : sProp (MM F))
    = iprop(((∃ d, owns (c : Thread nD τ) xyM fullShare d) ∗ (∃ d, owns (c : Thread nD τ) g1M fullShare d) ∗ (∃ d, owns (c : Thread nD τ) g2M fullShare d))
        ∗ (∃ r, prngReg c r)) := by
  unfold Pipeline.ΦA; rw [scopedRest0_eq]; simp only [xyM, g1M, g2M, owns_whole]; rfl

/-! What the words the body reads satisfy. -/

/-- The slot tables stay inside the buffer, and every position names a row. -/
structure Words : Prop where
  slot : ∀ y : S64.Idx, Slot (slots m 0 y) (slots m 1 y)
  row : ∀ (c : Dev nD) (y : S32768.Idx), Row (entry m c main_arg3 y)

theorem words_of {ids : Fin 2 → Fin 2 → Fin 8192 → BitVec 32}
    (h : ∀ c : Dev nD, Agrees (entry m c main_arg0) (entry m c main_arg1) (entry m c main_arg3) ids) : Words m where
  slot y := by
    obtain ⟨n, rfl⟩ : ∃ n : Fin 64, y = ix1 n := ⟨y 0, (ix1_eta y).symm⟩
    have e : (ix1 n : S64.Idx) = slotIx ⟨n.val / 32, by omega⟩ ⟨n.val % 32, by omega⟩ := congrArg ix1 (Fin.ext (by simp only; omega))
    rw [e]
    exact ⟨(h 0).even _ _, (h 0).fits _ _⟩
  row c y := by
    obtain ⟨n, rfl⟩ : ∃ n : Fin 32768, y = ix1 n := ⟨y 0, (ix1_eta y).symm⟩
    have e : (ix1 n : S32768.Idx) = posIx ⟨n.val / 16384, by omega⟩ ⟨n.val % 16384 / 8192, by omega⟩ ⟨n.val % 8192, by omega⟩ :=
      congrArg ix1 (Fin.ext (by simp only; omega))
    rw [e]
    refine ⟨(h c).aligned _ _ _, ?_⟩
    have hn := (h c).named ⟨n.val / 16384, by omega⟩ ⟨n.val % 16384 / 8192, by omega⟩ ⟨n.val % 8192, by omega⟩
    have hi := (h c).inside ⟨n.val / 16384, by omega⟩ ⟨n.val % 16384 / 8192, by omega⟩ ⟨n.val % 8192, by omega⟩ ⟨_, hn⟩ rfl
    have hf := (h c).fits ⟨n.val / 16384, by omega⟩ ⟨_, hn⟩
    omega

theorem Words.tab (h : Words m) : TabOk (F := F) offM cntM (slots m 0) (slots m 1) := h.slot

theorem Words.pos (h : Words m) (c : Dev nD) (y : S16384.Idx) : Row (blockAt m c 1 t y) :=
  h.row c ((((grd m).win 1).blk t).view.emb y)

end Cert.Moe.Kernel

end

end
-- ==== Proof.KernelFrame.lean ====
/- The frame of the call: from any memory whose tables agree with the routing it runs to its end, leaves its nine arguments as they were
   and every semaphore at zero. Nothing is said here of what it writes. -/
module

public import proofs.«01_k».proof.Proof.KernelSetup

@[expose] public section

set_option maxRecDepth 16384

noncomputable section

namespace Cert.Moe.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen Cert.Moe

variable {F : FTy → Type} [BitOps F] [∀ e, Nonempty (Elt F e)]

variable (m : (ℓ : Loc nD τ sig) → Buf (Elt F) ℓ) (ρ : Dev nD → PrngReg)

/-- The output's window, of which nothing is said. -/
def unsaid : Fin 8 → Bool := fun w => w.val == 7

/-- Every window but the output's holds its block throughout. -/
def data (_ : Fin 1) (c : Dev nD) : Dat τ (Elt F) Unit ℕ (UR sig nD τ) ℕ (grd m) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, h⟩ => Pipeline.Dat.unnamed (cfg := grd m) ⟨7, h⟩ t
  Φ _ := iprop(Pipeline.ΦA spec0 c ∗ Pipeline.ΦT pre0 (slots m) c)
  q _ := fullShare
  owed _ := 0

variable (c : Dev nD)

theorem data_A (w : Fin (grd m).W) : (data m 0 c).A w = entry m c (Pipeline.arrRef spec0 w) := by dsimp only [data]

theorem after_0 (t) : (data m 0 c).after 0 t = blockAt m c 0 t := by dsimp only [data]; rfl
theorem after_1 (t) : (data m 0 c).after 1 t = blockAt m c 1 t := by dsimp only [data]; rfl
theorem after_2 (t) : (data m 0 c).after 2 t = blockAt m c 2 t := by dsimp only [data]; rfl
theorem after_3 (t) : (data m 0 c).after 3 t = blockAt m c 3 t := by dsimp only [data]; rfl
theorem after_4 (t) : (data m 0 c).after 4 t = blockAt m c 4 t := by dsimp only [data]; rfl
theorem after_5 (t) : (data m 0 c).after 5 t = blockAt m c 5 t := by dsimp only [data]; rfl
theorem after_6 (t) : (data m 0 c).after 6 t = blockAt m c 6 t := by dsimp only [data]; rfl

/-- What the body is called with, and what it returns. -/
def Pre (t : Fin (grd m).N) : sProp (MM F) :=
  iprop((data m 0 c).Φ t.castSucc ∗ (data m 0 c).owesAt () t.castSucc
    ∗ (∃ d, owns (c : Thread nD τ) (b0 m t) fullShare ((data m 0 c).before 0 t d))
    ∗ (∃ d, owns (c : Thread nD τ) (b1 m t) fullShare ((data m 0 c).before 1 t d))
    ∗ (∃ d, owns (c : Thread nD τ) (b2 m t) fullShare ((data m 0 c).before 2 t d))
    ∗ (∃ d, owns (c : Thread nD τ) (b3 m t) fullShare ((data m 0 c).before 3 t d))
    ∗ (∃ d, owns (c : Thread nD τ) (b4 m t) fullShare ((data m 0 c).before 4 t d))
    ∗ (∃ d, owns (c : Thread nD τ) (b5 m t) fullShare ((data m 0 c).before 5 t d))
    ∗ (∃ d, owns (c : Thread nD τ) (b6 m t) fullShare ((data m 0 c).before 6 t d))
    ∗ (∃ d, owns (c : Thread nD τ) (b7 m t) fullShare d))
def Post (t : Fin (grd m).N) : sProp (MM F) :=
  iprop((data m 0 c).Φ t.succ ∗ (data m 0 c).owesAt () t.succ
    ∗ owns (c : Thread nD τ) (b0 m t) fullShare ((data m 0 c).after 0 t)
    ∗ owns (c : Thread nD τ) (b1 m t) fullShare ((data m 0 c).after 1 t)
    ∗ owns (c : Thread nD τ) (b2 m t) fullShare ((data m 0 c).after 2 t)
    ∗ owns (c : Thread nD τ) (b3 m t) fullShare ((data m 0 c).after 3 t)
    ∗ owns (c : Thread nD τ) (b4 m t) fullShare ((data m 0 c).after 4 t)
    ∗ owns (c : Thread nD τ) (b5 m t) fullShare ((data m 0 c).after 5 t)
    ∗ owns (c : Thread nD τ) (b6 m t) fullShare ((data m 0 c).after 6 t)
    ∗ (∃ d, owns (c : Thread nD τ) (b7 m t) fullShare d))

set_option maxHeartbeats 400000 in
theorem body_sound (hW : Words m) (t : Fin (grd m).N) :
    Pre m c t ⊢ wp Idealize.ShloMosaic.frame (wpE (defs₀ (F := F)) Variants.none (c : Thread nD τ) none) Set.univ (bodyAt m t) (fun _ => Post m c t) := by
  unfold Pre Post
  simp only [before_0 (data m 0 c) (data_A m c 0) (after_0 m c), before_1 (data m 0 c) (data_A m c 1) (after_1 m c),
    before_2 (data m 0 c) (data_A m c 2) (after_2 m c), before_3 (data m 0 c) (data_A m c 3) (after_3 m c),
    before_4 (data m 0 c) (data_A m c 4) (after_4 m c), before_5 (data m 0 c) (data_A m c 5) (after_5 m c),
    before_6 (data m 0 c) (data_A m c 6) (after_6 m c)]
  rw [show (data m 0 c).Φ t.succ = (data m 0 c).Φ t.castSucc from rfl,
    show (data m 0 c).owesAt () t.succ = (data m 0 c).owesAt () t.castSucc from rfl,
    after_0, after_1, after_2, after_3, after_4, after_5, after_6]
  rw [show (data m 0 c).Φ t.castSucc = iprop(Pipeline.ΦA spec0 c ∗ Pipeline.ΦT pre0 (slots m) c) from rfl, tables_eq, scratch_eq]
  iintro ⟨⟨⟨⟨H12, H13, H14⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, H7⟩
  iapply (run_owned c (grid0.coords t) offM (Memref.isWhole_whole _) cntM (Memref.isWhole_whole _) (b0 m t) (w0 m t) (b1 m t) (w1 m t) (b2 m t) (w2 m t)
    (b3 m t) (w3 m t) (b4 m t) (w4 m t) (b5 m t) (w5 m t) (b6 m t) (w6 m t) (b7 m t) (w7 m t)
    xyM (Memref.isWhole_whole _) g1M (Memref.isWhole_whole _) g2M (Memref.isWhole_whole _)
    (slots m 0) (slots m 1) (blockAt m c 0 t) (blockAt m c 1 t) (blockAt m c 2 t) (blockAt m c 3 t) (blockAt m c 4 t) (blockAt m c 5 t) (blockAt m c 6 t)
    (hW.tab m) (hW.pos m t c) _)
  unfold Owned
  isplitl [HT0 HT1 H0 H1 H2 H3 H4 H5 H6 H7 H12 H13 H14]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H12]; · iexact H12
    isplitl [H13]; · iexact H13
    iexact H14
  iintro ⟨HT0, HT1, H0, H1, H2, H3, H4, H5, H6, H7, H12, H13, H14⟩
  isplitl [HT0 HT1 H12 H13 H14 Hg]
  · isplitl [H12 H13 H14 Hg]
    · isplitl [H12 H13 H14]
      · isplitl [H12]; · iexact H12
        isplitl [H13]; · iexact H13
        iexact H14
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_holds (hW : Words m) : BodyObligation (data (F := F) m 0 c) (defs₀ (F := F)) Variants.none () Set.univ unsaid := fun t => by
  rw [bigSep_W0, bigSep_W0, defs_row m]
  exact triple_restated (body_sound m c hW t) rfl .rfl fun _ => .rfl

set_option backward.isDefEq.respectTransparency.types false in
theorem launched (hW : Words m) : θ_run defs (onTc (τ := τ) (main (F := F))) (s₀ m ρ)
    (fun r => (Pipeline.RDat.FramePost ((Pipeline.pin pcfgs fun _ => held m) 0) (fun c => (data m 0 c).toRForget unsaid) (entry m)) r ∧ r.2.sem = fun _ => 0) :=
  Pipeline.θ_run_frameP_forget (Q' := _) pcfgs (fun _ => held m) (data m) (0 : Fin 1) launch0 defs₀ Variants.none unsaid m ρ main
    (hbody := fun c => (body_holds m c hW).loose) (hshare := fun c => (data m 0 c).share_full fun _ => rfl)
    (howed := fun _ _ => rfl) (V := entry m) (hmain := main_region m) (hA := data_A m) (hpf := slots_eq m) (hΦ := fun _ _ => rfl)

theorem frame (hW : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1 c).2 main_arg0 (by decide : main_arg0 ∈ Pipeline.restRefs sig spec0),
      (h.1 c).2 main_arg1 (by decide : main_arg1 ∈ Pipeline.restRefs sig spec0),
      (Pipeline.RDat.FramePost.arr_in h.1 c 0 rfl).trans (data_A m c 0),
      (Pipeline.RDat.FramePost.arr_in h.1 c 1 rfl).trans (data_A m c 1),
      (Pipeline.RDat.FramePost.arr_in h.1 c 2 rfl).trans (data_A m c 2),
      (Pipeline.RDat.FramePost.arr_in h.1 c 3 rfl).trans (data_A m c 3),
      (Pipeline.RDat.FramePost.arr_in h.1 c 4 rfl).trans (data_A m c 4),
      (Pipeline.RDat.FramePost.arr_in h.1 c 5 rfl).trans (data_A m c 5),
      (Pipeline.RDat.FramePost.arr_in h.1 c 6 rfl).trans (data_A m c 6)⟩, h.2⟩) (launched m ρ hW)

end Cert.Moe.Kernel

end

end
-- ==== Proof.KernelIChecks.lean ====
/- Every side condition that the kernel's body assumes of a word it has read, from what the word's table says of it. -/
module

public import proofs.«01_k».proof.Proof.Words
public import proofs.«01_k».proof.Proof.Gen.KernelI.Skeleton
public import Idealize.ShloMosaic.Lib.WordCmp

@[expose] public section

set_option maxRecDepth 16384

noncomputable section

namespace Cert.Moe.KernelI

open Idealize.ShloMosaic Idealize.ShloMosaic.TcCoe Idealize.ShloMosaic.Tactic
open Cert.KernelI Cert.Moe

/-- The four rows after an expert's slots, which the first step of a super block clears. -/
theorem tail_ok {i : grid0.Coords} {off cnt : BitVec 32} (h : Slot off cnt) : k0_chk1 i off cnt := by
  have e := tail_toNat h
  obtain ⟨-, h⟩ := h
  refine ⟨fun _ => ?_, fun _ a => ?_⟩
  · show 4 ∣ (Scalar.muli (Scalar.addi off cnt) 4#32).toNat
    rw [e]; exact ⟨_, rfl⟩
  · have e0 : k0_off2 off cnt = (fun n : ℕ => (![n, 0, 0] : Fin 3 → ℕ)) (4 * (off.toNat + cnt.toNat)) := by
      show (fun n : ℕ => (![n, 0, 0] : Fin 3 → ℕ)) ((Scalar.muli (Scalar.addi off cnt) 4#32).toNat) = _
      rw [e]
    rw [e0]
    fin_cases a <;> simp <;> omega

/-- A token's four rows. -/
theorem row_dvd {v : BitVec 32} (h : Row v) : 4 ∣ v.toNat := Nat.dvd_of_mod_eq_zero h.1

theorem row_inb {v : BitVec 32} (h : Row v) : ∀ a, ((fun n : ℕ => (![n, 0, 0] : Fin 3 → ℕ)) v.toNat) a + S4x2x128.size a ≤ S67968x2x128.size a := by
  obtain ⟨h4, hv⟩ := h
  intro a
  fin_cases a <;> simp <;> omega

theorem t4_eq (v : BitVec 32) : k0_t4_loop v = ⟨0#32, steps v, 1#32⟩ := by
  show (⟨0#32, Scalar.addi 0#32 (Scalar.muli (Scalar.divsi (Scalar.subi (steps v) 0#32) 1#32) 1#32), 1#32⟩ : Scf.Loop 32) = _
  rw [bound_main]

theorem t5_eq (v : BitVec 32) : k0_t5_loop v = ⟨steps v, steps v, 1#32⟩ := by
  show (⟨Scalar.addi 0#32 (Scalar.muli (Scalar.divsi (Scalar.subi (steps v) 0#32) 1#32) 1#32),
    Scalar.addi 0#32 (Scalar.subi (steps v) 0#32), 1#32⟩ : Scf.Loop 32) = _
  rw [bound_main, bound_rest]

theorem t4_trips {v : BitVec 32} (h : v.toNat ≤ 16416) : (k0_t4_loop v).trips = (v.toNat + 575) / 576 := by
  show Scf.trips (k0_t4_loop v).lb (k0_t4_loop v).ub (k0_t4_loop v).st = _
  rw [t4_eq]; exact trips_main h

theorem t5_trips (v : BitVec 32) : (k0_t5_loop v).trips = 0 := by
  show Scf.trips (k0_t5_loop v).lb (k0_t5_loop v).ub (k0_t5_loop v).st = _
  rw [t5_eq]; exact trips_rest _

theorem t6_trips {v : BitVec 32} (h : v.toNat ≤ 16416) : (k0_t6_loop v).trips = (v.toNat + 575) / 576 := t4_trips h
theorem t7_trips (v : BitVec 32) : (k0_t7_loop v).trips = 0 := t5_trips v

/-- The loops over a count's steps have a meaning. -/
theorem loop_ok {i : grid0.Coords} {v : BitVec 32} (h : v.toNat ≤ 16416) : k0_chk45 i v := by
  refine ⟨fun _ => ?_, fun _ => ?_⟩
  · show Scf.OK (k0_t4_loop v).lb (k0_t4_loop v).ub (k0_t4_loop v).st
    rw [t4_eq]; exact ok_main h
  · show Scf.OK (k0_t5_loop v).lb (k0_t5_loop v).ub (k0_t5_loop v).st
    rw [t5_eq]; exact ok_rest _

/-- Where row `r` of the slots of step `k` starts. -/
theorem start_off {off cnt : BitVec 32} (h : Slot off cnt) (k : Fin (k0_t4_loop cnt).trips) (r : Fin 4) :
    k0_off93 cnt off k (BitVec.ofNat 32 r.val) = (fun n : ℕ => (![n, 0, 0] : Fin 3 → ℕ)) (4 * (off.toNat + 576 * k.val) + r.val) := by
  have hk : k.val < (cnt.toNat + 575) / 576 := lt_of_lt_of_eq k.isLt (t4_trips (by have := h.2; omega))
  have e := start_toNat h hk
  have hr : (BitVec.ofNat 32 r.val).toNat = r.val := toNat_small _ (by omega)
  show (fun n : ℕ => (![n, 0, 0] : Fin 3 → ℕ)) ((Scalar.muli (Scalar.addi off (Scalar.muli (Scf.iv 0#32 1#32 k.val) 576#32)) 4#32 + BitVec.ofNat 32 r.val).toNat) = _
  rw [BitVec.toNat_add, e, hr]
  congr 1
  have := h.2
  omega

/-- A step's 576 slots stay inside the buffer. -/
theorem step_ok {i : grid0.Coords} {off cnt : BitVec 32} (h : Slot off cnt) : k0_chk46 i cnt off := by
  have hc := h.2
  have ht := t4_trips (v := cnt) (by omega)
  refine ⟨fun k _ => ?_, fun k _ r a => ?_, fun k => ?_, fun k => ?_⟩
  · have hk : k.val < (cnt.toNat + 575) / 576 := lt_of_lt_of_eq k.isLt ht
    show 8 ∣ (Scalar.muli (Scalar.addi off (Scalar.muli (Scf.iv 0#32 1#32 k.val) 576#32)) 4#32).toNat
    rw [start_toNat h hk]
    have := h.1
    omega
  · have hk : k.val < (cnt.toNat + 575) / 576 := lt_of_lt_of_eq k.isLt ht
    rw [start_off h k r]
    fin_cases a <;> simp <;> omega
  · exact (Nat.not_lt_zero _ (lt_of_lt_of_eq k.isLt (t5_trips cnt))).elim
  · exact (Nat.not_lt_zero _ (lt_of_lt_of_eq k.isLt (t5_trips cnt))).elim

theorem loop_ok' {i : grid0.Coords} {v : BitVec 32} (h : v.toNat ≤ 16416) : k0_chk47 i v := loop_ok h
theorem step_ok' {i : grid0.Coords} {off cnt : BitVec 32} (h : Slot off cnt) : k0_chk48 i cnt off := step_ok h

/-! The same two facts at every place where the body asks for them. -/

theorem tail_ok1 {i : grid0.Coords} {off cnt : BitVec 32} (h : Slot off cnt) : k0_chk1 i off cnt := tail_ok h
theorem tail_ok2 {i : grid0.Coords} {off cnt : BitVec 32} (h : Slot off cnt) : k0_chk2 i off cnt := tail_ok h
theorem tail_ok3 {i : grid0.Coords} {off cnt : BitVec 32} (h : Slot off cnt) : k0_chk3 i off cnt := tail_ok h
theorem tail_ok4 {i : grid0.Coords} {off cnt : BitVec 32} (h : Slot off cnt) : k0_chk4 i off cnt := tail_ok h
theorem tail_ok5 {i : grid0.Coords} {off cnt : BitVec 32} (h : Slot off cnt) : k0_chk5 i off cnt := tail_ok h
theorem tail_ok6 {i : grid0.Coords} {off cnt : BitVec 32} (h : Slot off cnt) : k0_chk6 i off cnt := tail_ok h
theorem tail_ok7 {i : grid0.Coords} {off cnt : BitVec 32} (h : Slot off cnt) : k0_chk7 i off cnt := tail_ok h
theorem tail_ok8 {i : grid0.Coords} {off cnt : BitVec 32} (h : Slot off cnt) : k0_chk8 i off cnt := tail_ok h
theorem tail_ok9 {i : grid0.Coords} {off cnt : BitVec 32} (h : Slot off cnt) : k0_chk9 i off cnt := tail_ok h
theorem tail_ok10 {i : grid0.Coords} {off cnt : BitVec 32} (h : Slot off cnt) : k0_chk10 i off cnt := tail_ok h
theorem tail_ok11 {i : grid0.Coords} {off cnt : BitVec 32} (h : Slot off cnt) : k0_chk11 i off cnt := tail_ok h
theorem tail_ok12 {i : grid0.Coords} {off cnt : BitVec 32} (h : Slot off cnt) : k0_chk12 i off cnt := tail_ok h
theorem tail_ok13 {i : grid0.Coords} {off cnt : BitVec 32} (h : Slot off cnt) : k0_chk13 i off cnt := tail_ok h
theorem tail_ok14 {i : grid0.Coords} {off cnt : BitVec 32} (h : Slot off cnt) : k0_chk14 i off cnt := tail_ok h
theorem tail_ok15 {i : grid0.Coords} {off cnt : BitVec 32} (h : Slot off cnt) : k0_chk15 i off cnt := tail_ok h
theorem tail_ok16 {i : grid0.Coords} {off cnt : BitVec 32} (h : Slot off cnt) : k0_chk16 i off cnt := tail_ok h
theorem tail_ok17 {i : grid0.Coords} {off cnt : BitVec 32} (h : Slot off cnt) : k0_chk17 i off cnt := tail_ok h
theorem tail_ok18 {i : grid0.Coords} {off cnt : BitVec 32} (h : Slot off cnt) : k0_chk18 i off cnt := tail_ok h
theorem tail_ok19 {i : grid0.Coords} {off cnt : BitVec 32} (h : Slot off cnt) : k0_chk19 i off cnt := tail_ok h
theorem tail_ok20 {i : grid0.Coords} {off cnt : BitVec 32} (h : Slot off cnt) : k0_chk20 i off cnt := tail_ok h
theorem tail_ok21 {i : grid0.Coords} {off cnt : BitVec 32} (h : Slot off cnt) : k0_chk21 i off cnt := tail_ok h
theorem tail_ok22 {i : grid0.Coords} {off cnt : BitVec 32} (h : Slot off cnt) : k0_chk22 i off cnt := tail_ok h
theorem tail_ok23 {i : grid0.Coords} {off cnt : BitVec 32} (h : Slot off cnt) : k0_chk23 i off cnt := tail_ok h
theorem tail_ok24 {i : grid0.Coords} {off cnt : BitVec 32} (h : Slot off cnt) : k0_chk24 i off cnt := tail_ok h
theorem tail_ok25 {i : grid0.Coords} {off cnt : BitVec 32} (h : Slot off cnt) : k0_chk25 i off cnt := tail_ok h
theorem tail_ok26 {i : grid0.Coords} {off cnt : BitVec 32} (h : Slot off cnt) : k0_chk26 i off cnt := tail_ok h
theorem tail_ok27 {i : grid0.Coords} {off cnt : BitVec 32} (h : Slot off cnt) : k0_chk27 i off cnt := tail_ok h
theorem tail_ok28 {i : grid0.Coords} {off cnt : BitVec 32} (h : Slot off cnt) : k0_chk28 i off cnt := tail_ok h
theorem tail_ok29 {i : grid0.Coords} {off cnt : BitVec 32} (h : Slot off cnt) : k0_chk29 i off cnt := tail_ok h
theorem tail_ok30 {i : grid0.Coords} {off cnt : BitVec 32} (h : Slot off cnt) : k0_chk30 i off cnt := tail_ok h
theorem tail_ok31 {i : grid0.Coords} {off cnt : BitVec 32} (h : Slot off cnt) : k0_chk31 i off cnt := tail_ok h
theorem tail_ok32 {i : grid0.Coords} {off cnt : BitVec 32} (h : Slot off cnt) : k0_chk32 i off cnt := tail_ok h
theorem row_ok33 {i : grid0.Coords} {v : BitVec 32} (h : Row v) : k0_chk33 i v := ⟨fun _ => row_dvd h, fun _ => row_inb h⟩
theorem row_ok34 {i : grid0.Coords} {v : BitVec 32} (h : Row v) : k0_chk34 i v := ⟨fun _ => row_dvd h, fun _ => row_inb h⟩
theorem row_ok35 {i : grid0.Coords} {v : BitVec 32} (h : Row v) : k0_chk35 i v := ⟨fun _ => row_dvd h, fun _ => row_inb h⟩
theorem row_ok36 {i : grid0.Coords} {v : BitVec 32} (h : Row v) : k0_chk36 i v := ⟨fun _ => row_dvd h, fun _ => row_inb h⟩
theorem row_ok37 {i : grid0.Coords} {v : BitVec 32} (h : Row v) : k0_chk37 i v := ⟨fun _ => row_dvd h, fun _ => row_inb h⟩
theorem row_ok38 {i : grid0.Coords} {v : BitVec 32} (h : Row v) : k0_chk38 i v := ⟨fun _ => row_dvd h, fun _ => row_inb h⟩
theorem row_ok39 {i : grid0.Coords} {v : BitVec 32} (h : Row v) : k0_chk39 i v := ⟨fun _ => row_dvd h, fun _ => row_inb h⟩
theorem row_ok40 {i : grid0.Coords} {v : BitVec 32} (h : Row v) : k0_chk40 i v := ⟨fun _ => row_dvd h, fun _ => row_inb h⟩
theorem row_ok41 {i : grid0.Coords} {v : BitVec 32} (h : Row v) : k0_chk41 i v := ⟨fun _ => row_dvd h, fun _ => row_inb h⟩
theorem row_ok42 {i : grid0.Coords} {v : BitVec 32} (h : Row v) : k0_chk42 i v := ⟨fun _ => row_dvd h, fun _ => row_inb h⟩
theorem row_ok43 {i : grid0.Coords} {v : BitVec 32} (h : Row v) : k0_chk43 i v := ⟨fun _ => row_dvd h, fun _ => row_inb h⟩
theorem row_ok44 {i : grid0.Coords} {v : BitVec 32} (h : Row v) : k0_chk44 i v := ⟨fun _ => row_dvd h, fun _ => row_inb h⟩
theorem row_ok49 {i : grid0.Coords} {v : BitVec 32} (h : Row v) : k0_chk49 i v := ⟨fun _ => row_dvd h, fun _ => row_inb h⟩
theorem row_ok50 {i : grid0.Coords} {v : BitVec 32} (h : Row v) : k0_chk50 i v := ⟨fun _ => row_dvd h, fun _ => row_inb h⟩
theorem row_ok51 {i : grid0.Coords} {v : BitVec 32} (h : Row v) : k0_chk51 i v := ⟨fun _ => row_dvd h, fun _ => row_inb h⟩
theorem row_ok52 {i : grid0.Coords} {v : BitVec 32} (h : Row v) : k0_chk52 i v := ⟨fun _ => row_dvd h, fun _ => row_inb h⟩
theorem row_ok53 {i : grid0.Coords} {v : BitVec 32} (h : Row v) : k0_chk53 i v := ⟨fun _ => row_dvd h, fun _ => row_inb h⟩
theorem row_ok54 {i : grid0.Coords} {v : BitVec 32} (h : Row v) : k0_chk54 i v := ⟨fun _ => row_dvd h, fun _ => row_inb h⟩

end Cert.Moe.KernelI

end

end
-- ==== Proof.KernelILoops.lean ====
/- What every counted loop of the body keeps: the buffers it reads and writes, whatever they hold, and position words that name rows. -/
module

public import proofs.«01_k».proof.Proof.KernelIChecks
public import proofs.«01_k».proof.Proof.Gen.KernelI.Loops
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe

variable {F : FTy → Type} [FloatOps F] [∀ e, Nonempty (Elt F e)]

abbrev UU (nD : Nat) (τ : Topo) := UR sig nD τ
abbrev MM (F : FTy → Type) := MT nD τ sig Unit (Elt F) ℕ (UU nD τ) ℕ

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

/-- Every word of the position block names a row. -/
def PosOk (f : arg5.view.ty.Contents (Elt F)) : Prop := ∀ y : S16384.Idx, Row (arg5.view.read (Elt F) f y)

/-- What a loop over the buffer keeps: the position words as they are, the two staging buffers and the buffer itself. -/
def Keep (f5 : Buf (Elt F) (arg5.view.loc (c : Thread nD τ))) : sProp (MM F) :=
  iprop(⌜PosOk arg5 f5⌝ ∗ (arg5.view.loc (c : Thread nD τ) ↦{fullShare} f5)
    ∗ (∃ f12, arg12.view.loc (c : Thread nD τ) ↦{fullShare} f12)
    ∗ (∃ f13, arg13.view.loc (c : Thread nD τ) ↦{fullShare} f13)
    ∗ (∃ f14, arg14.view.loc (c : Thread nD τ) ↦{fullShare} f14))

/-- What the loops over an expert's slots keep: its weights as they are, and the buffer. -/
def KeepE (f6 : Buf (Elt F) (arg6.view.loc (c : Thread nD τ))) (f7 : Buf (Elt F) (arg7.view.loc (c : Thread nD τ)))
    (f8 : Buf (Elt F) (arg8.view.loc (c : Thread nD τ))) : sProp (MM F) :=
  iprop((arg6.view.loc (c : Thread nD τ) ↦{fullShare} f6) ∗ (arg7.view.loc (c : Thread nD τ) ↦{fullShare} f7)
    ∗ (arg8.view.loc (c : Thread nD τ) ↦{fullShare} f8)
    ∗ (∃ f12, arg12.view.loc (c : Thread nD τ) ↦{fullShare} f12))

/-- A word read out of the position block names a row. -/
theorem PosOk.word {f : arg5.view.ty.Contents (Elt F)} (h : PosOk arg5 f) (r : Rect S16384) (y : r.shape.Idx) :
    Row (arg5.view.readAt (Elt F) r.toLoadRect f y) := by
  rw [View.readAt_apply]; exact h _

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop1 (f5 : Buf (Elt F) (arg5.view.loc (c : Thread nD τ))) (k0_h2 : k0_cond2 i = 1#1) (v113 : BitVec 32) :
    LoopInvTy_k0_t1 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 k0_h2 v113 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok33 (hp.word _ _ _) | exact row_ok34 (hp.word _ _ _) | exact row_ok35 (hp.word _ _ _) | exact row_ok36 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop2 (f5 : Buf (Elt F) (arg5.view.loc (c : Thread nD τ))) (arg0 : BitVec 32) (arg1 : BitVec 32) (v34 : BitVec 1) (k0_h3 : k0_cond3 i = 1#1) (v113 : BitVec 32) :
    LoopInvTy_k0_t2 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h3 v113 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok37 (hp.word _ _ _) | exact row_ok38 (hp.word _ _ _) | exact row_ok39 (hp.word _ _ _) | exact row_ok40 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop3 (f5 : Buf (Elt F) (arg5.view.loc (c : Thread nD τ))) (arg0 : BitVec 32) (arg1 : BitVec 32) (v34 : BitVec 1) (k0_h4 : k0_cond4 i = 1#1) :
    LoopInvTy_k0_t3 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h4 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok41 (hp.word _ _ _) | exact row_ok42 (hp.word _ _ _) | exact row_ok43 (hp.word _ _ _) | exact row_ok44 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop8 (f5 : Buf (Elt F) (arg5.view.loc (c : Thread nD τ))) (arg0 : BitVec 32) (arg1 : BitVec 32) (v34 : BitVec 1) (k0_h6 : k0_cond6 i = 1#1) :
    LoopInvTy_k0_t8 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h6 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok49 (hp.word _ _ _) | exact row_ok50 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop9 (f5 : Buf (Elt F) (arg5.view.loc (c : Thread nD τ))) (v45 : BitVec 32) (k0_h7 : k0_cond7 i = 1#1) :
    LoopInvTy_k0_t9 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h7 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok51 (hp.word _ _ _) | exact row_ok52 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop10 (f5 : Buf (Elt F) (arg5.view.loc (c : Thread nD τ))) (v45 : BitVec 32) (k0_h8 : k0_cond8 i = 1#1) :
    LoopInvTy_k0_t10 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h8 where
  inv _ _ := Keep c arg5 arg12 arg13 arg14 f5
  step k acc := by
    unfold Keep
    iintro ⟨%hp, H5, ⟨%f12, H12⟩, ⟨%f13, H13⟩, ⟨%f14, H14⟩⟩
    sl_exec (disch := first | exact row_ok53 (hp.word _ _ _) | exact row_ok54 (hp.word _ _ _))
    sl_step
    isplitr; · ipureintro; exact hp
    isplitl [H5]; · iexact H5
    isplitl [H12]; · iexists _; iexact H12
    isplitl [H13]; · iexists _; iexact H13
    iexists _; iexact H14

set_option warn.classDefReducibility false in
@[sl_loop] def loop4 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (k0_h5 : k0_cond5 i = 1#1) (v92 : Elt F .i32) (k0_hw45 : k0_chk45 i v92) (v94 : Elt F .i32) (k0_hw46 : k0_chk46 i v92 v94) :
    LoopInvTy_k0_t4 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 where
  inv _ _ := KeepE c arg6 arg7 arg8 arg12 f6 f7 f8
  step k acc := by
    unfold KeepE
    iintro ⟨H6, H7, H8, ⟨%f12, H12⟩⟩
    sl_exec
    sl_step
    isplitl [H6]; · iexact H6
    isplitl [H7]; · iexact H7
    isplitl [H8]; · iexact H8
    iexists _; iexact H12

set_option warn.classDefReducibility false in
@[sl_loop] def loop5 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (k0_h5 : k0_cond5 i = 1#1) (v92 : Elt F .i32) (k0_hw45 : k0_chk45 i v92) (v94 : Elt F .i32) (k0_hw46 : k0_chk46 i v92 v94) (v118 : BitVec 32) :
    LoopInvTy_k0_t5 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 v118 where
  inv _ _ := KeepE c arg6 arg7 arg8 arg12 f6 f7 f8
  step k acc := (Nat.not_lt_zero _ (Nat.lt_of_lt_of_eq k.isLt (t5_trips _))).elim

set_option warn.classDefReducibility false in
@[sl_loop] def loop6 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (v34 : BitVec 1) (k0_h5 : k0_cond5 i = 1#1) (v125 : Elt F .i32) (k0_hw47 : k0_chk47 i v125) (v127 : Elt F .i32) (k0_hw48 : k0_chk48 i v125 v127) :
    LoopInvTy_k0_t6 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 where
  inv _ _ := KeepE c arg6 arg7 arg8 arg12 f6 f7 f8
  step k acc := by
    unfold KeepE
    iintro ⟨H6, H7, H8, ⟨%f12, H12⟩⟩
    sl_exec
    sl_step
    isplitl [H6]; · iexact H6
    isplitl [H7]; · iexact H7
    isplitl [H8]; · iexact H8
    iexists _; iexact H12

set_option warn.classDefReducibility false in
@[sl_loop] def loop7 (f6 : Buf (Elt F) (arg6.view.loc (c : Thread nD τ))) (f7 : Buf (Elt F) (arg7.view.loc (c : Thread nD τ))) (f8 : Buf (Elt F) (arg8.view.loc (c : Thread nD τ))) (arg0 : BitVec 32) (arg1 : BitVec 32) (v34 : BitVec 1) (k0_h5 : k0_cond5 i = 1#1) (v125 : Elt F .i32) (k0_hw47 : k0_chk47 i v125) (v127 : Elt F .i32) (k0_hw48 : k0_chk48 i v125 v127) (v151 : BitVec 32) :
    LoopInvTy_k0_t7 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 v151 where
  inv _ _ := KeepE c arg6 arg7 arg8 arg12 f6 f7 f8
  step k acc := (Nat.not_lt_zero _ (Nat.lt_of_lt_of_eq k.isLt (t7_trips _))).elim

end Cert.Moe.KernelI

end

end
-- ==== Proof.KernelICases.lean ====
/- Which of the body's nine branches a grid point takes. -/
module

public import proofs.«01_k».proof.Proof.KernelIChecks

@[expose] public section

set_option maxRecDepth 16384

noncomputable section

namespace Cert.Moe.KernelI

open Idealize.ShloMosaic Idealize.ShloMosaic.TcCoe
open Cert.KernelI Cert.Moe

/-- Exactly the `n`-th branch is taken. -/
def Case (i : grid0.Coords) (n : ℕ) : Prop :=
  (k0_cond1 i = 1#1 ↔ n = 1) ∧ (k0_cond2 i = 1#1 ↔ n = 2) ∧ (k0_cond3 i = 1#1 ↔ n = 3) ∧ (k0_cond4 i = 1#1 ↔ n = 4)
    ∧ (k0_cond5 i = 1#1 ↔ n = 5) ∧ (k0_cond6 i = 1#1 ↔ n = 6) ∧ (k0_cond7 i = 1#1 ↔ n = 7) ∧ (k0_cond8 i = 1#1 ↔ n = 8)
    ∧ (k0_cond9 i = 1#1 ↔ n = 9)

theorem cond1_iff (i : grid0.Coords) : k0_cond1 i = 1#1 ↔ kind (i 1).val = 1 := by
  unfold k0_cond1; generalize i 1 = j; revert j; decide
theorem cond2_iff (i : grid0.Coords) : k0_cond2 i = 1#1 ↔ kind (i 1).val = 2 := by
  unfold k0_cond2; generalize i 1 = j; revert j; decide
theorem cond3_iff (i : grid0.Coords) : k0_cond3 i = 1#1 ↔ kind (i 1).val = 3 := by
  unfold k0_cond3; generalize i 1 = j; revert j; decide
theorem cond4_iff (i : grid0.Coords) : k0_cond4 i = 1#1 ↔ kind (i 1).val = 4 := by
  unfold k0_cond4; generalize i 1 = j; revert j; decide
theorem cond5_iff (i : grid0.Coords) : k0_cond5 i = 1#1 ↔ kind (i 1).val = 5 := by
  unfold k0_cond5; generalize i 1 = j; revert j; decide
theorem cond6_iff (i : grid0.Coords) : k0_cond6 i = 1#1 ↔ kind (i 1).val = 6 := by
  unfold k0_cond6; generalize i 1 = j; revert j; decide
theorem cond7_iff (i : grid0.Coords) : k0_cond7 i = 1#1 ↔ kind (i 1).val = 7 := by
  unfold k0_cond7; generalize i 1 = j; revert j; decide
theorem cond8_iff (i : grid0.Coords) : k0_cond8 i = 1#1 ↔ kind (i 1).val = 8 := by
  unfold k0_cond8; generalize i 1 = j; revert j; decide
theorem cond9_iff (i : grid0.Coords) : k0_cond9 i = 1#1 ↔ kind (i 1).val = 9 := by
  unfold k0_cond9; generalize i 1 = j; revert j; decide

theorem case_kind (i : grid0.Coords) : Case i (kind (i 1).val) :=
  ⟨cond1_iff i, cond2_iff i, cond3_iff i, cond4_iff i, cond5_iff i, cond6_iff i, cond7_iff i, cond8_iff i, cond9_iff i⟩

end Cert.Moe.KernelI

end

end
-- ==== Proof.KernelIRun.lean ====
/- The body at a grid point, in any of its nine branches: it runs to its end, and hands back the tables and the input blocks as they were
   and the output block and the three scratch buffers at some contents. -/
module

public import proofs.«01_k».proof.Proof.KernelILoops
public import proofs.«01_k».proof.Proof.KernelICases

@[expose] public section

set_option maxRecDepth 16384

noncomputable section

namespace Cert.Moe.KernelI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe

variable {F : FTy → Type} [FloatOps F] [∀ e, Nonempty (Elt F e)]

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

/-- The two slot tables read word by word: every slot and its count stay inside the buffer. -/
def TabOk (f2 : arg2.view.ty.Contents (Elt F)) (f3 : arg3.view.ty.Contents (Elt F)) : Prop :=
  ∀ y : S64.Idx, Slot (arg2.view.read (Elt F) f2 y) (arg3.view.read (Elt F) f3 y)

theorem TabOk.word {f2 : arg2.view.ty.Contents (Elt F)} {f3 : arg3.view.ty.Contents (Elt F)} (h : TabOk arg2 arg3 f2 f3)
    (r : Rect S64) (y : r.shape.Idx) :
    Slot (arg2.view.readAt (Elt F) r.toLoadRect f2 y) (arg3.view.readAt (Elt F) r.toLoadRect f3 y) := by
  rw [View.readAt_apply, View.readAt_apply]; exact h _

theorem TabOk.count {f2 : arg2.view.ty.Contents (Elt F)} {f3 : arg3.view.ty.Contents (Elt F)} (h : TabOk arg2 arg3 f2 f3)
    (r : Rect S64) (y : r.shape.Idx) : (arg3.view.readAt (Elt F) r.toLoadRect f3 y).toNat ≤ 16416 := by
  have := (h.word arg2 arg3 r y).2; omega

/-- What the body holds: the tables and the input blocks at given contents, the rest at any. -/
def Holds (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) : sProp (MM F) :=
  iprop((arg2.view.loc (c : Thread nD τ) ↦{fullShare.right} f2) ∗ (arg3.view.loc (c : Thread nD τ) ↦{fullShare.right} f3)
    ∗ (arg4.view.loc (c : Thread nD τ) ↦{fullShare} f4) ∗ (arg5.view.loc (c : Thread nD τ) ↦{fullShare} f5)
    ∗ (arg6.view.loc (c : Thread nD τ) ↦{fullShare} f6) ∗ (arg7.view.loc (c : Thread nD τ) ↦{fullShare} f7)
    ∗ (arg8.view.loc (c : Thread nD τ) ↦{fullShare} f8) ∗ (arg9.view.loc (c : Thread nD τ) ↦{fullShare} f9)
    ∗ (arg10.view.loc (c : Thread nD τ) ↦{fullShare} f10)
    ∗ (∃ f11, arg11.view.loc (c : Thread nD τ) ↦{fullShare} f11)
    ∗ (∃ f12, arg12.view.loc (c : Thread nD τ) ↦{fullShare} f12)
    ∗ (∃ f13, arg13.view.loc (c : Thread nD τ) ↦{fullShare} f13)
    ∗ (∃ f14, arg14.view.loc (c : Thread nD τ) ↦{fullShare} f14))

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
theorem run (f2 f3 f4 f5 f6 f7 f8 f9 f10) (hT : TabOk (F := F) arg2 arg3 f2 f3) (hp : PosOk (F := F) arg5 f5)
    (K : Unit → sProp (MM F)) :
    iprop(Holds c arg2 arg3 arg4 arg5 arg6 arg7 arg8 arg9 arg10 arg11 arg12 arg13 arg14 f2 f3 f4 f5 f6 f7 f8 f9 f10
        ∗ (Holds c arg2 arg3 arg4 arg5 arg6 arg7 arg8 arg9 arg10 arg11 arg12 arg13 arg14 f2 f3 f4 f5 f6 f7 f8 f9 f10 -∗ K ⟨⟩))
      ⊢ wp Idealize.ShloMosaic.frame (wpE (defs₀ (F := F)) Variants.none (c : Thread nD τ) none) Set.univ
          (cc0_moe i arg2 harg2 arg3 harg3 arg4 harg4 arg5 harg5 arg6 harg6 arg7 harg7 arg8 harg8 arg9 harg9 arg10 harg10 arg11 harg11 arg12 harg12 arg13 harg13 arg14 harg14) K := by
  have hc := case_kind i
  have hk := kind_range (j := (i 1).val)
  generalize kind (i 1).val = n at hc hk
  obtain ⟨c1, c2, c3, c4, c5, c6, c7, c8, c9⟩ := hc
  simp only [List.mem_cons, List.not_mem_nil, or_false] at hk
  rcases hk with rfl | rfl | rfl | rfl | rfl | rfl | rfl | rfl | rfl
  all_goals
    first | replace c1 := c1.2 rfl | replace c1 : ¬ k0_cond1 i = 1#1 := fun h => absurd (c1.1 h) (by decide)
    first | replace c2 := c2.2 rfl | replace c2 : ¬ k0_cond2 i = 1#1 := fun h => absurd (c2.1 h) (by decide)
    first | replace c3 := c3.2 rfl | replace c3 : ¬ k0_cond3 i = 1#1 := fun h => absurd (c3.1 h) (by decide)
    first | replace c4 := c4.2 rfl | replace c4 : ¬ k0_cond4 i = 1#1 := fun h => absurd (c4.1 h) (by decide)
    first | replace c5 := c5.2 rfl | replace c5 : ¬ k0_cond5 i = 1#1 := fun h => absurd (c5.1 h) (by decide)
    first | replace c6 := c6.2 rfl | replace c6 : ¬ k0_cond6 i = 1#1 := fun h => absurd (c6.1 h) (by decide)
    first | replace c7 := c7.2 rfl | replace c7 : ¬ k0_cond7 i = 1#1 := fun h => absurd (c7.1 h) (by decide)
    first | replace c8 := c8.2 rfl | replace c8 : ¬ k0_cond8 i = 1#1 := fun h => absurd (c8.1 h) (by decide)
    first | replace c9 := c9.2 rfl | replace c9 : ¬ k0_cond9 i = 1#1 := fun h => absurd (c9.1 h) (by decide)
    unfold Holds
    iintro ⟨⟨H2, H3, H4, H5, H6, H7, H8, H9, H10, ⟨%f11, H11⟩, ⟨%f12, H12⟩, ⟨%f13, H13⟩, ⟨%f14, H14⟩⟩, Hk⟩
    simp only [cc0_moe_eq_skeleton]
    unfold cc0_moe_skel
    sl_exec (disch := first | sl_exact c1 | sl_exact c2 | sl_exact c3 | sl_exact c4 | sl_exact c5 | sl_exact c6 | sl_exact c7 | sl_exact c8 | sl_exact c9 | exact tail_ok1 (hT.word _ _ _ _) | exact tail_ok2 (hT.word _ _ _ _) | exact tail_ok3 (hT.word _ _ _ _) | exact tail_ok4 (hT.word _ _ _ _) | exact tail_ok5 (hT.word _ _ _ _) | exact tail_ok6 (hT.word _ _ _ _) | exact tail_ok7 (hT.word _ _ _ _) | exact tail_ok8 (hT.word _ _ _ _) | exact tail_ok9 (hT.word _ _ _ _) | exact tail_ok10 (hT.word _ _ _ _) | exact tail_ok11 (hT.word _ _ _ _) | exact tail_ok12 (hT.word _ _ _ _) | exact tail_ok13 (hT.word _ _ _ _) | exact tail_ok14 (hT.word _ _ _ _) | exact tail_ok15 (hT.word _ _ _ _) | exact tail_ok16 (hT.word _ _ _ _) | exact tail_ok17 (hT.word _ _ _ _) | exact tail_ok18 (hT.word _ _ _ _) | exact tail_ok19 (hT.word _ _ _ _) | exact tail_ok20 (hT.word _ _ _ _) | exact tail_ok21 (hT.word _ _ _ _) | exact tail_ok22 (hT.word _ _ _ _) | exact tail_ok23 (hT.word _ _ _ _) | exact tail_ok24 (hT.word _ _ _ _) | exact tail_ok25 (hT.word _ _ _ _) | exact tail_ok26 (hT.word _ _ _ _) | exact tail_ok27 (hT.word _ _ _ _) | exact tail_ok28 (hT.word _ _ _ _) | exact tail_ok29 (hT.word _ _ _ _) | exact tail_ok30 (hT.word _ _ _ _) | exact tail_ok31 (hT.word _ _ _ _) | exact tail_ok32 (hT.word _ _ _ _) | exact loop_ok (hT.count _ _ _ _) | exact step_ok (hT.word _ _ _ _) | exact loop_ok' (hT.count _ _ _ _) | exact step_ok' (hT.word _ _ _ _))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Moe.KernelI

end

end
-- ==== Proof.KernelIOwned.lean ====
/- The same, over buffers given by what is read through them. -/
module

public import proofs.«01_k».proof.Proof.KernelIRun

@[expose] public section

set_option maxRecDepth 16384

noncomputable section

namespace Cert.Moe.KernelI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe

variable {F : FTy → Type} [FloatOps F] [∀ e, Nonempty (Elt F e)]

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

theorem owns_eq {sp : Space} {S : Shape} {e : EltTy} (M : Memref sig .tc sp S e) (h : M.IsWhole) (q : PosShare TreeShare) (x : S.Idx → Elt F e) :
    (owns (c : Thread nD τ) M q x : sProp (MM F)) = iprop(∃ f, ⌜M.view.read (Elt F) f = x⌝ ∗ (M.view.loc (c : Thread nD τ) ↦{q} f)) := by
  unfold owns; rw [h.set_eq_univ]

/-- What the body holds: the tables and the input blocks as given, the rest at anything. -/
def Owned (f2 : Buf (Elt F) (arg2.view.loc (c : Thread nD τ))) (f3 : Buf (Elt F) (arg3.view.loc (c : Thread nD τ)))
    (x4 : Vec F S1024x1024 .bf16) (x5 : Vec F S16384 .i32) (x6 : Vec F S2x1024x256 .bf16) (x7 : Vec F S2x1024x256 .bf16) (x8 : Vec F S2x256x1024 .bf16) (x9 : Vec F S512x1024 .f32) (x10 : Vec F S8x512 .f32) : sProp (MM F) :=
  iprop((arg2.view.loc (c : Thread nD τ) ↦{fullShare.right} f2) ∗ (arg3.view.loc (c : Thread nD τ) ↦{fullShare.right} f3)
    ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

theorem run_owned (f2 f3 x4 x5 x6 x7 x8 x9 x10) (hT : TabOk (F := F) arg2 arg3 f2 f3) (hp : ∀ y, Row (x5 y)) (K : Unit → sProp (MM F)) :
    iprop(Owned c arg2 arg3 arg4 arg5 arg6 arg7 arg8 arg9 arg10 arg11 arg12 arg13 arg14 f2 f3 x4 x5 x6 x7 x8 x9 x10
        ∗ (Owned c arg2 arg3 arg4 arg5 arg6 arg7 arg8 arg9 arg10 arg11 arg12 arg13 arg14 f2 f3 x4 x5 x6 x7 x8 x9 x10 -∗ K ⟨⟩))
      ⊢ wp Idealize.ShloMosaic.frame (wpE (defs₀ (F := F)) Variants.none (c : Thread nD τ) none) Set.univ
          (cc0_moe i arg2 harg2 arg3 harg3 arg4 harg4 arg5 harg5 arg6 harg6 arg7 harg7 arg8 harg8 arg9 harg9 arg10 harg10 arg11 harg11 arg12 harg12 arg13 harg13 arg14 harg14) K := by
  unfold Owned
  simp only [owns_eq c arg4 harg4, owns_eq c arg5 harg5, owns_eq c arg6 harg6, owns_eq c arg7 harg7, owns_eq c arg8 harg8, owns_eq c arg9 harg9, owns_eq c arg10 harg10, owns_eq c arg11 harg11, owns_eq c arg12 harg12, owns_eq c arg13 harg13, owns_eq c arg14 harg14]
  iintro ⟨⟨H2, H3, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%d13, %f13, %h13, H13⟩, ⟨%d14, %f14, %h14, H14⟩⟩, Hk⟩
  iapply (run c i arg2 harg2 arg3 harg3 arg4 harg4 arg5 harg5 arg6 harg6 arg7 harg7 arg8 harg8 arg9 harg9 arg10 harg10 arg11 harg11 arg12 harg12
    arg13 harg13 arg14 harg14 f2 f3 f4 f5 f6 f7 f8 f9 f10 hT (fun y => by rw [h5]; exact hp y) K)
  unfold Holds
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  iintro ⟨H2, H3, H4, H5, H6, H7, H8, H9, H10, ⟨%o11, H11⟩, ⟨%o12, H12⟩, ⟨%o13, H13⟩, ⟨%o14, H14⟩⟩
  iapply Hk
  isplitl [H2]; · iexact H2
  isplitl [H3]; · iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists _, o11; isplitr; swap; · iexact H11
    ipureintro; rfl
  isplitl [H12]
  · iexists _, o12; isplitr; swap; · iexact H12
    ipureintro; rfl
  isplitl [H13]
  · iexists _, o13; isplitr; swap; · iexact H13
    ipureintro; rfl
  iexists _, o14; isplitr; swap; · iexact H14
  ipureintro; rfl

end Cert.Moe.KernelI

end

end
-- ==== Proof.KernelISetup.lean ====
/- The call on its grid: what the region finds in memory, the block of each window at a point, the buffers the body is handed there,
   and what the agreement of the tables with the routing says of the words the body reads. -/
module

public import proofs.«01_k».proof.Proof.Tables
public import proofs.«01_k».proof.Proof.KernelIOwned
public import proofs.«01_k».proof.Proof.Gen.KernelI.Launch

@[expose] public section

set_option maxRecDepth 16384

noncomputable section

namespace Cert.Moe.KernelI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelI Cert.KernelI.Gen Cert.Moe

variable {F : FTy → Type} [FloatOps F]

variable (m : (ℓ : Loc nD τ sig) → Buf (Elt F) ℓ)

/-- A core's buffer as the region finds it. -/
abbrev entry (c : Dev nD) (b : Ref sig .tc) : Buf (Elt F) ((c : Thread nD τ).loc b) := m ((c : Thread nD τ).loc b)

theorem main_region : Pipeline.HMainP (Ix := Unit) (Name := ℕ) (U := UR sig nD τ) (Lvl := ℕ) pcfgs 0 defs₀ Variants.none m (main (F := F)) (entry m) :=
  Pipeline.hmainP_region pcfgs 0 defs₀ Variants.none m main fun c => (main_chain c).trans rfl

/-- The two slot tables. -/
def slots : pre0.Contents (Elt F) := fun j => entry m (0 : Dev nD) (pre0.ref j)

theorem slots_eq (c : Dev nD) (j : Fin 2) : entry m c (pre0.ref j) = slots m j := by
  obtain rfl : c = 0 := Subsingleton.elim _ _
  rfl

/-- No window's place depends on the tables. -/
abbrev held : (pcfg0 (F := F)).Adm := ⟨slots m, trivial⟩
abbrev grd : Pipeline.Cfg sig Λ₀ := cfg0 (held m)

abbrev offM : Memref sig .tc .smem S64 .i32 := Memref.whole main_arg0
abbrev cntM : Memref sig .tc .smem S64 .i32 := Memref.whole main_arg1

theorem tables_eq (c : Dev nD) : (Pipeline.ΦT pre0 (slots m) c : sProp (MM F))
    = iprop(((offM.view.loc (c : Thread nD τ)) ↦{fullShare.right} slots m 0) ∗ ((cntM.view.loc (c : Thread nD τ)) ↦{fullShare.right} slots m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, as the region finds the window's array. -/
def blockAt (c : Dev nD) (w : Fin (grd m).W) (t : Fin (grd m).N) :
    (((grd m).win w).xblock ((grd m).grid.coords t)).Idx → Elt F ((grd m).win w).elt :=
  (((grd m).win w).blk t).view.read (Elt F) (entry m c (Pipeline.arrRef spec0 w))

section
variable {m} {c : Dev nD} (dat : Dat τ (Elt F) Unit ℕ (UR sig nD τ) ℕ (grd m) c)

theorem before_0 (hA : dat.A 0 = entry m c (Pipeline.arrRef spec0 0)) (h : ∀ t, dat.after 0 t = blockAt m c 0 t) (t) (d) : dat.before 0 t d = blockAt m c 0 t :=
  (dat.before_in_eq_fetched 0 rfl (fun _ => rfl) (fun _ _ _ => rfl) (fun t => by rw [h]; unfold Dat.blockOf blockAt; rw [hA]; rfl) t d).trans
    (by unfold Dat.fetched Dat.blockOf blockAt; rw [hA]; rfl)
theorem before_1 (hA : dat.A 1 = entry m c (Pipeline.arrRef spec0 1)) (h : ∀ t, dat.after 1 t = blockAt m c 1 t) (t) (d) : dat.before 1 t d = blockAt m c 1 t :=
  (dat.before_in_eq_fetched 1 rfl (fun _ => rfl) (fun _ _ _ => rfl) (fun t => by rw [h]; unfold Dat.blockOf blockAt; rw [hA]; rfl) t d).trans
    (by unfold Dat.fetched Dat.blockOf blockAt; rw [hA]; rfl)
theorem before_2 (hA : dat.A 2 = entry m c (Pipeline.arrRef spec0 2)) (h : ∀ t, dat.after 2 t = blockAt m c 2 t) (t) (d) : dat.before 2 t d = blockAt m c 2 t :=
  (dat.before_in_eq_fetched 2 rfl (fun _ => rfl) (fun _ _ _ => rfl) (fun t => by rw [h]; unfold Dat.blockOf blockAt; rw [hA]; rfl) t d).trans
    (by unfold Dat.fetched Dat.blockOf blockAt; rw [hA]; rfl)
theorem before_3 (hA : dat.A 3 = entry m c (Pipeline.arrRef spec0 3)) (h : ∀ t, dat.after 3 t = blockAt m c 3 t) (t) (d) : dat.before 3 t d = blockAt m c 3 t :=
  (dat.before_in_eq_fetched 3 rfl (fun _ => rfl) (fun _ _ _ => rfl) (fun t => by rw [h]; unfold Dat.blockOf blockAt; rw [hA]; rfl) t d).trans
    (by unfold Dat.fetched Dat.blockOf blockAt; rw [hA]; rfl)
theorem before_4 (hA : dat.A 4 = entry m c (Pipeline.arrRef spec0 4)) (h : ∀ t, dat.after 4 t = blockAt m c 4 t) (t) (d) : dat.before 4 t d = blockAt m c 4 t :=
  (dat.before_in_eq_fetched 4 rfl (fun _ => rfl) (fun _ _ _ => rfl) (fun t => by rw [h]; unfold Dat.blockOf blockAt; rw [hA]; rfl) t d).trans
    (by unfold Dat.fetched Dat.blockOf blockAt; rw [hA]; rfl)
theorem before_5 (hA : dat.A 5 = entry m c (Pipeline.arrRef spec0 5)) (h : ∀ t, dat.after 5 t = blockAt m c 5 t) (t) (d) : dat.before 5 t d = blockAt m c 5 t :=
  (dat.before_in_eq_fetched 5 rfl (fun _ => rfl) (fun _ _ _ => rfl) (fun t => by rw [h]; unfold Dat.blockOf blockAt; rw [hA]; rfl) t d).trans
    (by unfold Dat.fetched Dat.blockOf blockAt; rw [hA]; rfl)
theorem before_6 (hA : dat.A 6 = entry m c (Pipeline.arrRef spec0 6)) (h : ∀ t, dat.after 6 t = blockAt m c 6 t) (t) (d) : dat.before 6 t d = blockAt m c 6 t :=
  (dat.before_in_eq_fetched 6 rfl (fun _ => rfl) (fun _ _ _ => rfl) (fun t => by rw [h]; unfold Dat.blockOf blockAt; rw [hA]; rfl) t d).trans
    (by unfold Dat.fetched Dat.blockOf blockAt; rw [hA]; rfl)
end

/-! The buffer each window is on at a point, and the three scratch buffers. -/

variable (t : Fin (grd m).N)
abbrev b0 : Memref sig .tc .vmem S1024x1024 .bf16 := spec0_0.stage ((grd m).slots t 0)
abbrev b1 : Memref sig .tc .smem S16384 .i32 := spec0_1.stage ((grd m).slots t 1)
abbrev b2 : Memref sig .tc .vmem S2x1024x256 .bf16 := spec0_2.stage ((grd m).slots t 2)
abbrev b3 : Memref sig .tc .vmem S2x1024x256 .bf16 := spec0_3.stage ((grd m).slots t 3)
abbrev b4 : Memref sig .tc .vmem S2x256x1024 .bf16 := spec0_4.stage ((grd m).slots t 4)
abbrev b5 : Memref sig .tc .vmem S512x1024 .f32 := spec0_5.stage ((grd m).slots t 5)
abbrev b6 : Memref sig .tc .vmem S8x512 .f32 := spec0_6.stage ((grd m).slots t 6)
abbrev b7 : Memref sig .tc .vmem S512x1024 .f32 := spec0_7.stage ((grd m).slots t 7)
theorem w0 : (b0 m t).IsWhole := hstage0_0 (((grd m).slots t 0).cast nbuf0_0)
theorem w1 : (b1 m t).IsWhole := hstage0_1 (((grd m).slots t 1).cast nbuf0_1)
theorem w2 : (b2 m t).IsWhole := hstage0_2 (((grd m).slots t 2).cast nbuf0_2)
theorem w3 : (b3 m t).IsWhole := hstage0_3 (((grd m).slots t 3).cast nbuf0_3)
theorem w4 : (b4 m t).IsWhole := hstage0_4 (((grd m).slots t 4).cast nbuf0_4)
theorem w5 : (b5 m t).IsWhole := hstage0_5 (((grd m).slots t 5).cast nbuf0_5)
theorem w6 : (b6 m t).IsWhole := hstage0_6 (((grd m).slots t 6).cast nbuf0_6)
theorem w7 : (b7 m t).IsWhole := hstage0_7 (((grd m).slots t 7).cast nbuf0_7)
abbrev xyM : Memref sig .tc .vmem S67968x2x128 .bf16 := Memref.whole cc0_scratch0
abbrev g1M : Memref sig .tc .vmem S4096x2x128 .bf16 := Memref.whole cc0_scratch1
abbrev g2M : Memref sig .tc .vmem S4096x2x128 .bf16 := Memref.whole cc0_scratch2

/-- The body at a point, on what the pipeline calls it with. -/
abbrev bodyAt : Prog (TpuEff nD τ sig (Elt F) Λ₀ .tc) PUnit :=
  cc0_moe (grid0.coords t) offM (Memref.isWhole_whole _) cntM (Memref.isWhole_whole _) (b0 m t) (w0 m t) (b1 m t) (w1 m t) (b2 m t) (w2 m t)
    (b3 m t) (w3 m t) (b4 m t) (w4 m t) (b5 m t) (w5 m t) (b6 m t) (w6 m t) (b7 m t) (w7 m t)
    xyM (Memref.isWhole_whole _) g1M (Memref.isWhole_whole _) g2M (Memref.isWhole_whole _)

theorem defs_row : defs₀ (F := F) .tc (grd m).body ((grd m).bodyArgs t ((grd m).slots t)) = bodyAt m t := by
  unfold defs₀; rw [Defs.onTc_tc]

theorem scratch_eq (c : Dev nD) : (Pipeline.ΦA spec0 c : sProp (MM F))
    = iprop(((∃ d, owns (c : Thread nD τ) xyM fullShare d) ∗ (∃ d, owns (c : Thread nD τ) g1M fullShare d) ∗ (∃ d, owns (c : Thread nD τ) g2M fullShare d))
        ∗ (∃ r, prngReg c r)) := by
  unfold Pipeline.ΦA; rw [scopedRest0_eq]; simp only [xyM, g1M, g2M, owns_whole]; rfl

/-! What the words the body reads satisfy. -/

/-- The slot tables stay inside the buffer, and every position names a row. -/
structure Words : Prop where
  slot : ∀ y : S64.Idx, Slot (slots m 0 y) (slots m 1 y)
  row : ∀ (c : Dev nD) (y : S32768.Idx), Row (entry m c main_arg3 y)

theorem words_of {ids : Fin 2 → Fin 2 → Fin 8192 → BitVec 32}
    (h : ∀ c : Dev nD, Agrees (entry m c main_arg0) (entry m c main_arg1) (entry m c main_arg3) ids) : Words m where
  slot y := by
    obtain ⟨n, rfl⟩ : ∃ n : Fin 64, y = ix1 n := ⟨y 0, (ix1_eta y).symm⟩
    have e : (ix1 n : S64.Idx) = slotIx ⟨n.val / 32, by omega⟩ ⟨n.val % 32, by omega⟩ := congrArg ix1 (Fin.ext (by simp only; omega))
    rw [e]
    exact ⟨(h 0).even _ _, (h 0).fits _ _⟩
  row c y := by
    obtain ⟨n, rfl⟩ : ∃ n : Fin 32768, y = ix1 n := ⟨y 0, (ix1_eta y).symm⟩
    have e : (ix1 n : S32768.Idx) = posIx ⟨n.val / 16384, by omega⟩ ⟨n.val % 16384 / 8192, by omega⟩ ⟨n.val % 8192, by omega⟩ :=
      congrArg ix1 (Fin.ext (by simp only; omega))
    rw [e]
    refine ⟨(h c).aligned _ _ _, ?_⟩
    have hn := (h c).named ⟨n.val / 16384, by omega⟩ ⟨n.val % 16384 / 8192, by omega⟩ ⟨n.val % 8192, by omega⟩
    have hi := (h c).inside ⟨n.val / 16384, by omega⟩ ⟨n.val % 16384 / 8192, by omega⟩ ⟨n.val % 8192, by omega⟩ ⟨_, hn⟩ rfl
    have hf := (h c).fits ⟨n.val / 16384, by omega⟩ ⟨_, hn⟩
    omega

theorem Words.tab (h : Words m) : TabOk (F := F) offM cntM (slots m 0) (slots m 1) := h.slot

theorem Words.pos (h : Words m) (c : Dev nD) (y : S16384.Idx) : Row (blockAt m c 1 t y) :=
  h.row c ((((grd m).win 1).blk t).view.emb y)

end Cert.Moe.KernelI

end

end
-- ==== Proof.KernelIFrame.lean ====
/- The frame of the call: from any memory whose tables agree with the routing it runs to its end, leaves its nine arguments as they were
   and every semaphore at zero. Nothing is said here of what it writes. -/
module

public import proofs.«01_k».proof.Proof.KernelISetup

@[expose] public section

set_option maxRecDepth 16384

noncomputable section

namespace Cert.Moe.KernelI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelI Cert.KernelI.Gen Cert.Moe

variable {F : FTy → Type} [FloatOps F] [∀ e, Nonempty (Elt F e)]

variable (m : (ℓ : Loc nD τ sig) → Buf (Elt F) ℓ) (ρ : Dev nD → PrngReg)

/-- The output's window, of which nothing is said. -/
def unsaid : Fin 8 → Bool := fun w => w.val == 7

/-- Every window but the output's holds its block throughout. -/
def data (_ : Fin 1) (c : Dev nD) : Dat τ (Elt F) Unit ℕ (UR sig nD τ) ℕ (grd m) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, h⟩ => Pipeline.Dat.unnamed (cfg := grd m) ⟨7, h⟩ t
  Φ _ := iprop(Pipeline.ΦA spec0 c ∗ Pipeline.ΦT pre0 (slots m) c)
  q _ := fullShare
  owed _ := 0

variable (c : Dev nD)

theorem data_A (w : Fin (grd m).W) : (data m 0 c).A w = entry m c (Pipeline.arrRef spec0 w) := by dsimp only [data]

theorem after_0 (t) : (data m 0 c).after 0 t = blockAt m c 0 t := by dsimp only [data]; rfl
theorem after_1 (t) : (data m 0 c).after 1 t = blockAt m c 1 t := by dsimp only [data]; rfl
theorem after_2 (t) : (data m 0 c).after 2 t = blockAt m c 2 t := by dsimp only [data]; rfl
theorem after_3 (t) : (data m 0 c).after 3 t = blockAt m c 3 t := by dsimp only [data]; rfl
theorem after_4 (t) : (data m 0 c).after 4 t = blockAt m c 4 t := by dsimp only [data]; rfl
theorem after_5 (t) : (data m 0 c).after 5 t = blockAt m c 5 t := by dsimp only [data]; rfl
theorem after_6 (t) : (data m 0 c).after 6 t = blockAt m c 6 t := by dsimp only [data]; rfl

/-- What the body is called with, and what it returns. -/
def Pre (t : Fin (grd m).N) : sProp (MM F) :=
  iprop((data m 0 c).Φ t.castSucc ∗ (data m 0 c).owesAt () t.castSucc
    ∗ (∃ d, owns (c : Thread nD τ) (b0 m t) fullShare ((data m 0 c).before 0 t d))
    ∗ (∃ d, owns (c : Thread nD τ) (b1 m t) fullShare ((data m 0 c).before 1 t d))
    ∗ (∃ d, owns (c : Thread nD τ) (b2 m t) fullShare ((data m 0 c).before 2 t d))
    ∗ (∃ d, owns (c : Thread nD τ) (b3 m t) fullShare ((data m 0 c).before 3 t d))
    ∗ (∃ d, owns (c : Thread nD τ) (b4 m t) fullShare ((data m 0 c).before 4 t d))
    ∗ (∃ d, owns (c : Thread nD τ) (b5 m t) fullShare ((data m 0 c).before 5 t d))
    ∗ (∃ d, owns (c : Thread nD τ) (b6 m t) fullShare ((data m 0 c).before 6 t d))
    ∗ (∃ d, owns (c : Thread nD τ) (b7 m t) fullShare d))
def Post (t : Fin (grd m).N) : sProp (MM F) :=
  iprop((data m 0 c).Φ t.succ ∗ (data m 0 c).owesAt () t.succ
    ∗ owns (c : Thread nD τ) (b0 m t) fullShare ((data m 0 c).after 0 t)
    ∗ owns (c : Thread nD τ) (b1 m t) fullShare ((data m 0 c).after 1 t)
    ∗ owns (c : Thread nD τ) (b2 m t) fullShare ((data m 0 c).after 2 t)
    ∗ owns (c : Thread nD τ) (b3 m t) fullShare ((data m 0 c).after 3 t)
    ∗ owns (c : Thread nD τ) (b4 m t) fullShare ((data m 0 c).after 4 t)
    ∗ owns (c : Thread nD τ) (b5 m t) fullShare ((data m 0 c).after 5 t)
    ∗ owns (c : Thread nD τ) (b6 m t) fullShare ((data m 0 c).after 6 t)
    ∗ (∃ d, owns (c : Thread nD τ) (b7 m t) fullShare d))

set_option maxHeartbeats 400000 in
theorem body_sound (hW : Words m) (t : Fin (grd m).N) :
    Pre m c t ⊢ wp Idealize.ShloMosaic.frame (wpE (defs₀ (F := F)) Variants.none (c : Thread nD τ) none) Set.univ (bodyAt m t) (fun _ => Post m c t) := by
  unfold Pre Post
  simp only [before_0 (data m 0 c) (data_A m c 0) (after_0 m c), before_1 (data m 0 c) (data_A m c 1) (after_1 m c),
    before_2 (data m 0 c) (data_A m c 2) (after_2 m c), before_3 (data m 0 c) (data_A m c 3) (after_3 m c),
    before_4 (data m 0 c) (data_A m c 4) (after_4 m c), before_5 (data m 0 c) (data_A m c 5) (after_5 m c),
    before_6 (data m 0 c) (data_A m c 6) (after_6 m c)]
  rw [show (data m 0 c).Φ t.succ = (data m 0 c).Φ t.castSucc from rfl,
    show (data m 0 c).owesAt () t.succ = (data m 0 c).owesAt () t.castSucc from rfl,
    after_0, after_1, after_2, after_3, after_4, after_5, after_6]
  rw [show (data m 0 c).Φ t.castSucc = iprop(Pipeline.ΦA spec0 c ∗ Pipeline.ΦT pre0 (slots m) c) from rfl, tables_eq, scratch_eq]
  iintro ⟨⟨⟨⟨H12, H13, H14⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, H7⟩
  iapply (run_owned c (grid0.coords t) offM (Memref.isWhole_whole _) cntM (Memref.isWhole_whole _) (b0 m t) (w0 m t) (b1 m t) (w1 m t) (b2 m t) (w2 m t)
    (b3 m t) (w3 m t) (b4 m t) (w4 m t) (b5 m t) (w5 m t) (b6 m t) (w6 m t) (b7 m t) (w7 m t)
    xyM (Memref.isWhole_whole _) g1M (Memref.isWhole_whole _) g2M (Memref.isWhole_whole _)
    (slots m 0) (slots m 1) (blockAt m c 0 t) (blockAt m c 1 t) (blockAt m c 2 t) (blockAt m c 3 t) (blockAt m c 4 t) (blockAt m c 5 t) (blockAt m c 6 t)
    (hW.tab m) (hW.pos m t c) _)
  unfold Owned
  isplitl [HT0 HT1 H0 H1 H2 H3 H4 H5 H6 H7 H12 H13 H14]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H12]; · iexact H12
    isplitl [H13]; · iexact H13
    iexact H14
  iintro ⟨HT0, HT1, H0, H1, H2, H3, H4, H5, H6, H7, H12, H13, H14⟩
  isplitl [HT0 HT1 H12 H13 H14 Hg]
  · isplitl [H12 H13 H14 Hg]
    · isplitl [H12 H13 H14]
      · isplitl [H12]; · iexact H12
        isplitl [H13]; · iexact H13
        iexact H14
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_holds (hW : Words m) : BodyObligation (data (F := F) m 0 c) (defs₀ (F := F)) Variants.none () Set.univ unsaid := fun t => by
  rw [bigSep_W0, bigSep_W0, defs_row m]
  exact triple_restated (body_sound m c hW t) rfl .rfl fun _ => .rfl

set_option backward.isDefEq.respectTransparency.types false in
theorem launched (hW : Words m) : θ_run defs (onTc (τ := τ) (main (F := F))) (s₀ m ρ)
    (fun r => (Pipeline.RDat.FramePost ((Pipeline.pin pcfgs fun _ => held m) 0) (fun c => (data m 0 c).toRForget unsaid) (entry m)) r ∧ r.2.sem = fun _ => 0) :=
  Pipeline.θ_run_frameP_forget (Q' := _) pcfgs (fun _ => held m) (data m) (0 : Fin 1) launch0 defs₀ Variants.none unsaid m ρ main
    (hbody := fun c => (body_holds m c hW).loose) (hshare := fun c => (data m 0 c).share_full fun _ => rfl)
    (howed := fun _ _ => rfl) (V := entry m) (hmain := main_region m) (hA := data_A m) (hpf := slots_eq m) (hΦ := fun _ _ => rfl)

theorem frame (hW : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1 c).2 main_arg0 (by decide : main_arg0 ∈ Pipeline.restRefs sig spec0),
      (h.1 c).2 main_arg1 (by decide : main_arg1 ∈ Pipeline.restRefs sig spec0),
      (Pipeline.RDat.FramePost.arr_in h.1 c 0 rfl).trans (data_A m c 0),
      (Pipeline.RDat.FramePost.arr_in h.1 c 1 rfl).trans (data_A m c 1),
      (Pipeline.RDat.FramePost.arr_in h.1 c 2 rfl).trans (data_A m c 2),
      (Pipeline.RDat.FramePost.arr_in h.1 c 3 rfl).trans (data_A m c 3),
      (Pipeline.RDat.FramePost.arr_in h.1 c 4 rfl).trans (data_A m c 4),
      (Pipeline.RDat.FramePost.arr_in h.1 c 5 rfl).trans (data_A m c 5),
      (Pipeline.RDat.FramePost.arr_in h.1 c 6 rfl).trans (data_A m c 6)⟩, h.2⟩) (launched m ρ hW)

end Cert.Moe.KernelI

end

end
-- ==== Proof.Claims.lean ====
/- Each claim of `Defs.lean`, one by one. -/
module

public import proofs.«01_k».proof.Defs
public import proofs.«01_k».proof.Proof.KernelFrame
public import proofs.«01_k».proof.Proof.KernelIFrame
public import proofs.«01_k».proof.Proof.Gen.ReferenceI.Run
public import Idealize.ShloMosaic.Lib.Bf16PairInverse
public import Idealize.ShloMosaic.Lib.Bf16Pair

@[expose] public section

noncomputable section

namespace Cert.Moe

open Idealize.ShloMosaic Idealize.ShloMosaic.TcCoe Idealize.SL.Sem

theorem agrees_kernel {m : (ℓ : Loc Cert.Kernel.nD Cert.Kernel.τ Cert.Kernel.sig) → Buf (Elt Bits) ℓ} (h : Pre_Kernel m) (c : Dev Cert.Kernel.nD) :
    Agrees (Kernel.entry m c Cert.Kernel.main_arg0) (Kernel.entry m c Cert.Kernel.main_arg1) (Kernel.entry m c Cert.Kernel.main_arg3)
      (idsOf (F := Bits) (Kernel.entry m c Cert.Kernel.main_arg8)) := by
  obtain ⟨h1, h2, h3, h4, h5, h6⟩ := h c
  exact agrees_of (F := Bits) h1 h2 h3 h4 h5 h6

theorem frame_kernel : quiescent_Kernel := fun m g h => by
  have hW := Kernel.words_of m (ids := idsOf (F := Bits) (Kernel.entry m 0 Cert.Kernel.main_arg8)) fun c => by
    obtain rfl : c = 0 := Subsingleton.elim _ _
    exact agrees_kernel h 0
  exact Kernel.frame m g hW

theorem agrees_kernelI {m : (ℓ : Loc Cert.KernelI.nD Cert.KernelI.τ Cert.KernelI.sig) → Buf (Elt Ideal) ℓ} (h : Pre_KernelI m) (c : Dev Cert.KernelI.nD) :
    Agrees (KernelI.entry m c Cert.KernelI.main_arg0) (KernelI.entry m c Cert.KernelI.main_arg1) (KernelI.entry m c Cert.KernelI.main_arg3)
      (idsOf (F := Ideal) (KernelI.entry m c Cert.KernelI.main_arg8)) := by
  obtain ⟨h1, h2, h3, h4, h5, h6⟩ := h c
  exact agrees_of (F := Ideal) h1 h2 h3 h4 h5 h6

theorem frame_kernelI : quiescent_KernelI := fun m g h => by
  have hW := KernelI.words_of m (ids := idsOf (F := Ideal) (KernelI.entry m 0 Cert.KernelI.main_arg8)) fun c => by
    obtain rfl : c = 0 := Subsingleton.elim _ _
    exact agrees_kernelI h 0
  exact KernelI.frame m g hW

theorem frame_referenceI : quiescent_ReferenceI := fun m g _ =>
  (θ_run Cert.ReferenceI.defs _ _).mono (fun r h => ⟨fun c => (h c).2, sem_eq_zero_of_no_sems (by decide) r.2⟩)
    (Cert.ReferenceI.Value.run (F := Ideal) m g)

open IdealRules.bf16_pair Cert.KernelI in
theorem preserves : preserves_Kernel_KernelI :=
  ⟨bufferStatement S67968x2x128 S67968x1x128, bufferStatement S4096x2x128 S4096x1x128, statement S4x2x128 S4x1x128, selectZeroStatement S4x128,
    statement S2432x2x128 S2432x1x128, selectZeroStatement S2432x128, packStatement S1024x128, statement S1024x2x128 S1024x1x128,
    statement S8x2x128 S8x1x128, statement S576x2x128 S576x1x128, statement S1152x128 S576x128, packStatement S576x128,
    statement S512x2x128 S512x1x128, statement S1024x128 S512x128⟩

end Cert.Moe

end

end
-- ==== Proof.Rows.lean ====
/- A buffer of pairs of rows read and written some rows at a time, row numbers as plain numbers. -/
module

public import Idealize.ShloMosaic.Lib.WritesUnit
public import Idealize.ShloMosaic.Lib.Pointwise
public import Idealize.ShloMosaic.Lib.Bf16Pair
public import Idealize.ShloMosaic.Lib.Claim
public import Idealize.ShloMosaic.PureOps.IdealRules

@[expose] public section

noncomputable section

namespace Cert.Moe

open Idealize.ShloMosaic

/-- The shape of `n` rows, each a pair of 128 numbers. -/
abbrev Pairs (n : ℕ) : Shape := ⟨3, ![n, 2, 128]⟩

variable {α : Type} [Zero α]

/-- Row `a` of a buffer of pairs, zero past the end. -/
def nrow {n : ℕ} (x : (Pairs n).Idx → α) (a : ℕ) (h : Fin 2) (l : Fin 128) : α :=
  if ha : a < n then x (ix3 ⟨a, ha⟩ h l) else 0

theorem nrow_of {n : ℕ} (x : (Pairs n).Idx → α) (a : Fin n) (h : Fin 2) (l : Fin 128) : nrow x a.val h l = x (ix3 a h l) := by
  unfold nrow; rw [dif_pos a.isLt]

theorem nrow_lt {n : ℕ} (x : (Pairs n).Idx → α) {a : ℕ} (ha : a < n) (h : Fin 2) (l : Fin 128) : nrow x a h l = x (ix3 ⟨a, ha⟩ h l) := by
  unfold nrow; rw [dif_pos ha]

variable {sig : RefSig} {κ : Kind} {sp : Space} {e : EltTy} {Val : EltTy → Type} [Zero (Val e)] {n : ℕ}

theorem put_rows (v : View sig κ sp (Pairs n) e) (f : v.ty.Contents Val) {m p k : ℕ} {off st : Fin 3 → ℕ}
    (inb) (spos) (w : (Pairs m).Idx → Val e) (L : List (View.Piece Val (Pairs n) e)) (ho : off = ![p, 0, 0]) (hs : st = ![k, 1, 1])
    (a : ℕ) (h : Fin 2) (l : Fin 128) :
    nrow (v.read Val (v.writes Val f ((⟨⟨⟨off, ![m, 2, 128], st, inb⟩, spos⟩, w⟩ : View.Piece Val (Pairs n) e) :: L))) a h l
      = if p ≤ a ∧ (a - p) % k = 0 ∧ (a - p) / k < m then nrow w ((a - p) / k) h l else nrow (v.read Val (v.writes Val f L)) a h l := by
  subst ho hs
  have hk : 0 < k := spos 0
  by_cases ha : a < n
  · rw [nrow_lt _ ha]
    split
    · rename_i hc
      obtain ⟨h1, h2, h3⟩ := hc
      rw [nrow_lt _ h3]
      have hy : (⟨⟨![p, 0, 0], ![m, 2, 128], ![k, 1, 1], inb⟩, spos⟩ : Rect (Pairs n)).emb (ix3 (⟨(a - p) / k, h3⟩ : Fin m) h l) = (ix3 (⟨a, ha⟩ : Fin n) h l) := by
        funext b
        apply Fin.ext
        have := Nat.div_add_mod (a - p) k
        fin_cases b
        · show p + k * ((a - p) / k) = a
          omega
        · show 0 + 1 * h.val = h.val
          omega
        · show 0 + 1 * l.val = l.val
          omega
      rw [← hy]
      exact View.read_writes_cons_emb v f (⟨⟨![p, 0, 0], ![m, 2, 128], ![k, 1, 1], inb⟩, spos⟩ : Rect (Pairs n)) w L (ix3 (⟨(a - p) / k, h3⟩ : Fin m) h l)
    · rename_i hc
      rw [nrow_lt _ ha]
      refine View.read_slice_write_of_not_mem (v := v) _ _ _ _ ?_
      intro hm
      obtain ⟨x, -, hx⟩ := Finset.mem_map.mp hm
      have h0 : p + k * (x 0).val = a := congrArg (fun i : (Pairs n).Idx => (i 0).val) hx
      have hxm : (x 0).val < m := (x 0).isLt
      apply hc
      refine ⟨by omega, ?_, ?_⟩
      · rw [show a - p = k * (x 0).val by omega]; exact Nat.mul_mod_right _ _
      · rw [show a - p = k * (x 0).val by omega, Nat.mul_div_cancel_left _ hk]; exact hxm
  · unfold nrow
    rw [dif_neg ha, dif_neg ha]
    split
    · rename_i hc
      exfalso
      obtain ⟨h1, h2, h3⟩ := hc
      have hin : p + k * ((a - p) / k) < n := by
        have := (⟨![p, 0, 0], ![m, 2, 128], ![k, 1, 1], inb⟩ : LoadRect (Pairs n)).coord_lt 0 h3
        exact this
      have := Nat.div_add_mod (a - p) k
      omega
    · rfl

theorem get_rows (v : View sig κ sp (Pairs n) e) (f : v.ty.Contents Val) {m p k : ℕ} {off st : Fin 3 → ℕ}
    (inb) (ho : off = ![p, 0, 0]) (hs : st = ![k, 1, 1]) (r : ℕ) (hr : r < m) (h : Fin 2) (l : Fin 128) :
    nrow (n := m) (v.readAt Val (⟨off, ![m, 2, 128], st, inb⟩ : LoadRect (Pairs n)) f) r h l = nrow (v.read Val f) (p + k * r) h l := by
  subst ho hs
  have hin : p + k * r < n := (⟨![p, 0, 0], ![m, 2, 128], ![k, 1, 1], inb⟩ : LoadRect (Pairs n)).coord_lt 0 hr
  rw [nrow_lt _ hr, nrow_lt _ hin, View.readAt_apply]
  congr 1
  funext b
  apply Fin.ext
  fin_cases b
  · rfl
  · show 0 + 1 * h.val = h.val
    omega
  · show 0 + 1 * l.val = l.val
    omega

theorem ones3 : (fun _ : Fin 3 => 1) = ![1, 1, 1] := by decide

theorem put_unit (v : View sig κ sp (Pairs n) e) (f : v.ty.Contents Val) {m p : ℕ} {off : Fin 3 → ℕ}
    (inb : ∀ a, off a + (![m, 2, 128] : Fin 3 → ℕ) a ≤ (Pairs n).size a) (w : (Pairs m).Idx → Val e) (L : List (View.Piece Val (Pairs n) e)) (ho : off = ![p, 0, 0])
    (a : ℕ) (h : Fin 2) (l : Fin 128) :
    nrow (v.read Val (v.writes Val f ((⟨Rect.unit (s := Pairs n) off ![m, 2, 128] inb, w⟩ : View.Piece Val (Pairs n) e) :: L))) a h l
      = if p ≤ a ∧ a < p + m then nrow w (a - p) h l else nrow (v.read Val (v.writes Val f L)) a h l := by
  refine (put_rows v f (k := 1) _ _ w L ho ones3 a h l).trans ?_
  rw [Nat.div_one, Nat.mod_one]
  exact if_congr (by constructor <;> intro h <;> omega) rfl rfl

theorem get_unit (v : View sig κ sp (Pairs n) e) (f : v.ty.Contents Val) {m p : ℕ} {off : Fin 3 → ℕ}
    (inb : ∀ a, off a + (![m, 2, 128] : Fin 3 → ℕ) a ≤ (Pairs n).size a) (ho : off = ![p, 0, 0]) (r : ℕ) (hr : r < m) (h : Fin 2) (l : Fin 128) :
    nrow (n := m) (v.readAt Val (Rect.unit (s := Pairs n) off ![m, 2, 128] inb).toLoadRect f) r h l = nrow (v.read Val f) (p + r) h l := by
  refine (get_rows v f (k := 1) _ ho ones3 r hr h l).trans ?_
  rw [Nat.one_mul]

/-- Word `q` of a list of words as a plain number, zero past the end. -/
def nword {m : ℕ} (x : (⟨1, ![m]⟩ : Shape).Idx → BitVec 32) (q : ℕ) : ℕ := if h : q < m then (x (ix1 ⟨q, h⟩)).toNat else 0

theorem get_word {m : ℕ} (v : View sig κ sp (⟨1, ![m]⟩ : Shape) .i32) (f : v.ty.Contents (Elt Ideal)) {q : ℕ} {off : Fin 1 → ℕ}
    (inb : ∀ a, off a + (![1] : Fin 1 → ℕ) a ≤ (⟨1, ![m]⟩ : Shape).size a) (ho : off = ![q]) (y : (⟨1, ![1]⟩ : Shape).Idx) :
    BitVec.toNat (v.readAt (Elt Ideal) (Rect.unit (s := ⟨1, ![m]⟩) off ![1] inb).toLoadRect f y) = nword (v.read (Elt Ideal) f) q := by
  subst ho
  have hq : q < m := inb 0
  unfold nword
  rw [dif_pos hq, View.readAt_apply]
  have hy : (y 0).val = 0 := Nat.lt_one_iff.mp (y 0).isLt
  congr 2
  funext b
  apply Fin.ext
  fin_cases b
  show q + 1 * (y 0).val = q
  omega

/-! Words of two halves: the halves of rows read as pairs, and pairs made of two halves. -/

variable {β : Type}

theorem half_lo {m : ℕ} (x : (Pairs m).Idx → β) (hb) (hc) (r : Fin m) (l : Fin 128) :
    shapeCast (⟨2, ![m, 128]⟩ : Shape) (rowsOfParity 0 (⟨3, ![m, 1, 128]⟩ : Shape) x hb) hc (ix2 r l) = x (ix3 r 0 l) := by
  refine (shapeCast_apply _ hc (ix2 r l) (ix3 r (0 : Fin 1) l) ?_).trans ?_
  · rw [Shape.rowMajor_val_two, Shape.rowMajor_val_three]
    show (r.val * 1 + 0) * 128 + l.val = r.val * 128 + l.val
    omega
  · rw [rowsOfParity_apply]
    congr 1
    funext a; apply Fin.ext; fin_cases a <;> rfl

theorem half_hi {m : ℕ} (x : (Pairs m).Idx → β) (hb) (hc) (r : Fin m) (l : Fin 128) :
    shapeCast (⟨2, ![m, 128]⟩ : Shape) (rowsOfParity 1 (⟨3, ![m, 1, 128]⟩ : Shape) x hb) hc (ix2 r l) = x (ix3 r 1 l) := by
  refine (shapeCast_apply _ hc (ix2 r l) (ix3 r (0 : Fin 1) l) ?_).trans ?_
  · rw [Shape.rowMajor_val_two, Shape.rowMajor_val_three]
    show (r.val * 1 + 0) * 128 + l.val = r.val * 128 + l.val
    omega
  · rw [rowsOfParity_apply]
    congr 1
    funext a; apply Fin.ext; fin_cases a <;> rfl

theorem cast_up {m : ℕ} (x : (⟨2, ![m, 128]⟩ : Shape).Idx → β) (hc) (r : Fin m) (l : Fin 128) :
    shapeCast (⟨3, ![m, 1, 128]⟩ : Shape) x hc (ix3 r (0 : Fin 1) l) = x (ix2 r l) := by
  refine shapeCast_apply _ hc _ (ix2 r l) ?_
  rw [Shape.rowMajor_val_two, Shape.rowMajor_val_three]
  show r.val * 128 + l.val = (r.val * 1 + 0) * 128 + l.val
  omega

theorem pair_apply {m : ℕ} (x y : (⟨2, ![m, 128]⟩ : Shape).Idx → β) (hb) (hx) (hy) (r : Fin m) (h : Fin 2) (l : Fin 128) :
    interleaveRows (Pairs m) (shapeCast (⟨3, ![m, 1, 128]⟩ : Shape) x hx) (shapeCast (⟨3, ![m, 1, 128]⟩ : Shape) y hy) hb (ix3 r h l)
      = if h.val = 0 then x (ix2 r l) else y (ix2 r l) := by
  rw [interleaveRows_apply]
  have hr : (Pairs m).row (ix3 r h l) = h.val := rfl
  rw [hr]
  fin_cases h
  · refine (if_pos rfl).trans (Eq.trans ?_ (if_pos rfl).symm)
    rw [← cast_up x hx r l]
    congr 1
    funext a; apply Fin.ext; fin_cases a
    · rfl
    · exact congrArg Fin.val (Subsingleton.elim (α := Fin 1) _ _)
    · rfl
  · refine (if_neg (by decide)).trans (Eq.trans ?_ (if_neg (by decide)).symm)
    rw [← cast_up y hy r l]
    congr 1
    funext a; apply Fin.ext; fin_cases a
    · rfl
    · exact congrArg Fin.val (Subsingleton.elim (α := Fin 1) _ _)
    · rfl

/-- Rows split into halves and put together again. -/
theorem pair_half {m : ℕ} (x : (Pairs m).Idx → β) (hb hb') (hc hc') (hx hy) (hb'') :
    interleaveRows (Pairs m) (shapeCast (⟨3, ![m, 1, 128]⟩ : Shape) (shapeCast (⟨2, ![m, 128]⟩ : Shape) (rowsOfParity 0 (⟨3, ![m, 1, 128]⟩ : Shape) x hb) hc) hx)
      (shapeCast (⟨3, ![m, 1, 128]⟩ : Shape) (shapeCast (⟨2, ![m, 128]⟩ : Shape) (rowsOfParity 1 (⟨3, ![m, 1, 128]⟩ : Shape) x hb') hc') hy) hb'' = x := by
  funext y
  obtain ⟨r, h, l, rfl⟩ : ∃ r h l, y = ix3 r h l := ⟨y 0, y 1, y 2, (ix3_eta y).symm⟩
  rw [pair_apply, half_lo, half_hi]
  fin_cases h <;> rfl

end Cert.Moe

end

end
-- ==== Proof.Moved.lean ====
/- The rows each store that only moves rows writes. -/
module

public import proofs.«01_k».proof.Proof.KernelILoops
public import proofs.«01_k».proof.Proof.Rows
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

theorem pay144_eq (x : Vec Ideal S4x2x128 .bf16) : k0_pay144 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem pay145_eq (x : Vec Ideal S4x2x128 .bf16) : k0_pay145 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem pay161_eq (x : Vec Ideal S4x2x128 .bf16) : k0_pay161 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem pay162_eq (x : Vec Ideal S4x2x128 .bf16) : k0_pay162 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem pay210_eq (x : Vec Ideal S4x2x128 .bf16) : k0_pay210 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem pay211_eq (x : Vec Ideal S4x2x128 .bf16) : k0_pay211 x = x := pair_half x bitcasts_S4x2x128_w16_S4x1x128_w32 bitcasts_S4x2x128_w16_S4x1x128_w32 shapeCasts_S4x1x128_S4x128 shapeCasts_S4x1x128_S4x128 shapeCasts_S4x128_S4x1x128 shapeCasts_S4x128_S4x1x128 bitcasts_S4x2x128_w16_S4x1x128_w32

theorem piece_row {o : ℕ} (ho : o + 4 ≤ 8) (x : Vec Ideal S8x2x128 .bf16) (hb hb') (hc hc') (hx hy) (hb'') (s0 s1 : S8x128.Slices ![o, 0] S4x128) (r : ℕ) (hr : r < 4) (h : Fin 2) (l : Fin 128) :
    nrow (n := 4) (α := EReal) (interleaveRows S4x2x128
      (shapeCast S4x1x128 (extractStridedSlice S4x128 ![o, 0] (shapeCast S8x128 (rowsOfParity 0 S8x1x128 x hb) hc) s0) hx)
      (shapeCast S4x1x128 (extractStridedSlice S4x128 ![o, 0] (shapeCast S8x128 (rowsOfParity 1 S8x1x128 x hb') hc') s1) hy) hb'') r h l
      = nrow (n := 8) (α := EReal) x (o + r) h l := by
  rw [nrow_lt _ hr, nrow_lt _ (show o + r < 8 by omega)]
  refine (pair_apply _ _ _ _ _ _ _ _).trans ?_
  have e : ∀ y : S8x128.Idx → EReal, ∀ s : S8x128.Slices ![o, 0] S4x128, extractStridedSlice S4x128 ![o, 0] y s (ix2 (⟨r, hr⟩ : Fin 4) l) = y (ix2 (⟨o + r, by omega⟩ : Fin 8) l) := by
    intro y s
    unfold extractStridedSlice
    congr 1
    funext a; apply Fin.ext; fin_cases a
    · rfl
    · exact Nat.zero_add _
  fin_cases h
  · exact (e _ s0).trans (half_lo x _ _ _ _)
  · exact (e _ s1).trans (half_hi x _ _ _ _)

theorem pay18_row (x : Vec Ideal S8x2x128 .bf16) (r : ℕ) (hr : r < 4) (h : Fin 2) (l : Fin 128) :
    nrow (n := 4) (α := EReal) (k0_pay18 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay19_row (x : Vec Ideal S8x2x128 .bf16) (r : ℕ) (hr : r < 4) (h : Fin 2) (l : Fin 128) :
    nrow (n := 4) (α := EReal) (k0_pay19 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay32_row (x : Vec Ideal S8x2x128 .bf16) (r : ℕ) (hr : r < 4) (h : Fin 2) (l : Fin 128) :
    nrow (n := 4) (α := EReal) (k0_pay32 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay33_row (x : Vec Ideal S8x2x128 .bf16) (r : ℕ) (hr : r < 4) (h : Fin 2) (l : Fin 128) :
    nrow (n := 4) (α := EReal) (k0_pay33 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay46_row (x : Vec Ideal S8x2x128 .bf16) (r : ℕ) (hr : r < 4) (h : Fin 2) (l : Fin 128) :
    nrow (n := 4) (α := EReal) (k0_pay46 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay47_row (x : Vec Ideal S8x2x128 .bf16) (r : ℕ) (hr : r < 4) (h : Fin 2) (l : Fin 128) :
    nrow (n := 4) (α := EReal) (k0_pay47 x) r h l = nrow (n := 8) (α := EReal) x (0 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o0_0_S4x128 slices_S8x128_o0_0_S4x128 r hr h l

theorem pay201_row (x : Vec Ideal S8x2x128 .bf16) (r : ℕ) (hr : r < 4) (h : Fin 2) (l : Fin 128) :
    nrow (n := 4) (α := EReal) (k0_pay201 (k0_pay20 x) (k0_pay21 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

theorem pay202_row (x : Vec Ideal S8x2x128 .bf16) (r : ℕ) (hr : r < 4) (h : Fin 2) (l : Fin 128) :
    nrow (n := 4) (α := EReal) (k0_pay202 (k0_pay20 x) (k0_pay21 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

theorem pay204_row (x : Vec Ideal S8x2x128 .bf16) (r : ℕ) (hr : r < 4) (h : Fin 2) (l : Fin 128) :
    nrow (n := 4) (α := EReal) (k0_pay204 (k0_pay34 x) (k0_pay35 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

theorem pay205_row (x : Vec Ideal S8x2x128 .bf16) (r : ℕ) (hr : r < 4) (h : Fin 2) (l : Fin 128) :
    nrow (n := 4) (α := EReal) (k0_pay205 (k0_pay34 x) (k0_pay35 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

theorem pay206_row (x : Vec Ideal S8x2x128 .bf16) (r : ℕ) (hr : r < 4) (h : Fin 2) (l : Fin 128) :
    nrow (n := 4) (α := EReal) (k0_pay206 (k0_pay48 x) (k0_pay49 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

theorem pay207_row (x : Vec Ideal S8x2x128 .bf16) (r : ℕ) (hr : r < 4) (h : Fin 2) (l : Fin 128) :
    nrow (n := 4) (α := EReal) (k0_pay207 (k0_pay48 x) (k0_pay49 x)) r h l = nrow (n := 8) (α := EReal) x (4 + r) h l := piece_row (by decide) x bitcasts_S8x2x128_w16_S8x1x128_w32 bitcasts_S8x2x128_w16_S8x1x128_w32 shapeCasts_S8x1x128_S8x128 shapeCasts_S8x1x128_S8x128 shapeCasts_S4x128_S4x1x128 shapeCasts_S4x128_S4x1x128 bitcasts_S4x2x128_w16_S4x1x128_w32 slices_S8x128_o4_0_S4x128 slices_S8x128_o4_0_S4x128 r hr h l

end Cert.Moe.KernelI.Value

end

end
-- ==== Proof.Offsets.lean ====
/- Which words and rows each trip of the loops that move rows names. -/
module

public import proofs.«01_k».proof.Proof.KernelIChecks
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

theorem word66 : ∀ (i : grid0.Coords) (k : Fin k0_t1_loop.trips), k0_cond2 i = 1#1 → k0_off66 i k 0 = 1024 * ((i 1).val - 1) + 2 * k.val := by decide +kernel
theorem word68 : ∀ (i : grid0.Coords) (k : Fin k0_t1_loop.trips), k0_cond2 i = 1#1 → k0_off68 i k 0 = 8192 + 1024 * ((i 1).val - 1) + 2 * k.val := by decide +kernel
theorem word70 : ∀ (i : grid0.Coords) (k : Fin k0_t1_loop.trips), k0_cond2 i = 1#1 → k0_off70 i k 0 = 1024 * ((i 1).val - 1) + 2 * k.val + 1 := by decide +kernel
theorem word72 : ∀ (i : grid0.Coords) (k : Fin k0_t1_loop.trips), k0_cond2 i = 1#1 → k0_off72 i k 0 = 8192 + 1024 * ((i 1).val - 1) + 2 * k.val + 1 := by decide +kernel
theorem word75 : ∀ (i : grid0.Coords) (k : Fin k0_t2_loop.trips), k0_cond3 i = 1#1 → k0_off75 i k 0 = 1024 * ((i 1).val - 1) + 2 * k.val := by decide +kernel
theorem word77 : ∀ (i : grid0.Coords) (k : Fin k0_t2_loop.trips), k0_cond3 i = 1#1 → k0_off77 i k 0 = 8192 + 1024 * ((i 1).val - 1) + 2 * k.val := by decide +kernel
theorem word79 : ∀ (i : grid0.Coords) (k : Fin k0_t2_loop.trips), k0_cond3 i = 1#1 → k0_off79 i k 0 = 1024 * ((i 1).val - 1) + 2 * k.val + 1 := by decide +kernel
theorem word81 : ∀ (i : grid0.Coords) (k : Fin k0_t2_loop.trips), k0_cond3 i = 1#1 → k0_off81 i k 0 = 8192 + 1024 * ((i 1).val - 1) + 2 * k.val + 1 := by decide +kernel
theorem word104 : ∀ (i : grid0.Coords) (k : Fin k0_t9_loop.trips), k0_cond7 i = 1#1 → k0_off104 i k 0 = 512 * ((i 1).val - 25) + k.val := by decide +kernel
theorem word107 : ∀ (i : grid0.Coords) (k : Fin k0_t9_loop.trips), k0_cond7 i = 1#1 → k0_off107 i k 0 = 8192 + 512 * ((i 1).val - 25) + k.val := by decide +kernel
theorem word110 : ∀ (i : grid0.Coords) (k : Fin k0_t10_loop.trips), k0_cond8 i = 1#1 → k0_off110 i k 0 = 512 * ((i 1).val - 25) + k.val := by decide +kernel
theorem word113 : ∀ (i : grid0.Coords) (k : Fin k0_t10_loop.trips), k0_cond8 i = 1#1 → k0_off113 i k 0 = 8192 + 512 * ((i 1).val - 25) + k.val := by decide +kernel
theorem word84 : ∀ (k : Fin k0_t3_loop.trips), k0_off84 k = ![7168 + 2 * k.val] := by decide +kernel
theorem word86 : ∀ (k : Fin k0_t3_loop.trips), k0_off86 k = ![15360 + 2 * k.val] := by decide +kernel
theorem word88 : ∀ (k : Fin k0_t3_loop.trips), k0_off88 k = ![7168 + 2 * k.val + 1] := by decide +kernel
theorem word90 : ∀ (k : Fin k0_t3_loop.trips), k0_off90 k = ![15360 + 2 * k.val + 1] := by decide +kernel
theorem word98 : ∀ (k : Fin k0_t8_loop.trips), k0_off98 k = ![k.val] := by decide +kernel
theorem word101 : ∀ (k : Fin k0_t8_loop.trips), k0_off101 k = ![8192 + k.val] := by decide +kernel
theorem rows65 : ∀ (k : Fin k0_t1_loop.trips), k0_off65 k = ![8 * k.val, 0, 0] := by decide +kernel
theorem rows74 : ∀ (k : Fin k0_t2_loop.trips), k0_off74 k = ![8 * k.val, 0, 0] := by decide +kernel
theorem rows83 : ∀ (k : Fin k0_t3_loop.trips), k0_off83 k = ![8 * k.val, 0, 0] := by decide +kernel
theorem rows100 : ∀ (k : Fin k0_t8_loop.trips), k0_off100 k = ![4 * k.val, 0, 0] := by decide +kernel
theorem rows103 : ∀ (k : Fin k0_t8_loop.trips), k0_off103 k = ![2048 + 4 * k.val, 0, 0] := by decide +kernel
theorem rows106 : ∀ (k : Fin k0_t9_loop.trips), k0_off106 k = ![4 * k.val, 0, 0] := by decide +kernel
theorem rows109 : ∀ (k : Fin k0_t9_loop.trips), k0_off109 k = ![2048 + 4 * k.val, 0, 0] := by decide +kernel
theorem rows112 : ∀ (k : Fin k0_t10_loop.trips), k0_off112 k = ![4 * k.val, 0, 0] := by decide +kernel
theorem rows115 : ∀ (k : Fin k0_t10_loop.trips), k0_off115 k = ![2048 + 4 * k.val, 0, 0] := by decide +kernel

end Cert.Moe.KernelI.Value

end

end
-- ==== Proof.Wrote.lean ====
/- Rows moved between buffers: what is written, what is left, and one trip of each kind of loop. -/
module

public import proofs.«01_k».proof.Proof.KernelILoops
public import proofs.«01_k».proof.Proof.Moved
public import proofs.«01_k».proof.Proof.Offsets
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

abbrev Rows := ℕ → Fin 2 → Fin 128 → EReal

/-- No two of the first `n` groups of four rows meet. -/
def Apart (P : ℕ → ℕ) (n : ℕ) : Prop := ∀ q q', q < n → q' < n → q ≠ q' → P q + 4 ≤ P q' ∨ P q' + 4 ≤ P q

/-- `X` is `X0` with the four rows at `P q` replaced by `S q`, for each `q` in `D`. -/
def Wrote (P : ℕ → ℕ) (S : ℕ → Rows) (X0 X : Rows) (D : ℕ → Prop) : Prop :=
  (∀ q, D q → ∀ r, r < 4 → ∀ h l, X (P q + r) h l = S q r h l)
    ∧ ∀ a h l, (∀ q, D q → ¬ (P q ≤ a ∧ a < P q + 4)) → X a h l = X0 a h l

theorem Wrote.of_iff {P S X0 X} {D D' : ℕ → Prop} (hw : Wrote P S X0 X D) (h : ∀ q, D q ↔ D' q) : Wrote P S X0 X D' := by
  rw [show D' = D from funext fun q => propext (h q).symm]; exact hw

theorem Wrote.none {P S X0} {D : ℕ → Prop} (h : ∀ q, ¬ D q) : Wrote P S X0 X0 D :=
  ⟨fun q hq => absurd hq (h q), fun _ _ _ _ => rfl⟩

theorem Wrote.put {P S X0} {D : ℕ → Prop} {n N q : ℕ} {sp : Space} (v : View sig .tc sp (Pairs N) .bf16) (f : v.ty.Contents (Elt Ideal)) {off : Fin 3 → ℕ}
    (inb : ∀ a, off a + (![4, 2, 128] : Fin 3 → ℕ) a ≤ (Pairs N).size a) (w : (Pairs 4).Idx → Elt Ideal .bf16) (L : List (View.Piece (Elt Ideal) (Pairs N) .bf16))
    (hD : Wrote P S X0 (nrow (α := EReal) (v.read (Elt Ideal) (v.writes (Elt Ideal) f L))) D) (hA : Apart P n) (hq : q < n) (hne : ∀ q', D q' → q' < n ∧ q' ≠ q)
    (ho : off = ![P q, 0, 0]) (hw : ∀ r, r < 4 → ∀ h l, nrow (n := 4) (α := EReal) w r h l = S q r h l) :
    Wrote P S X0 (nrow (α := EReal) (v.read (Elt Ideal) (v.writes (Elt Ideal) f ((⟨Rect.unit (s := Pairs N) off ![4, 2, 128] inb, w⟩ : View.Piece (Elt Ideal) (Pairs N) .bf16) :: L))))
      (fun q' => D q' ∨ q' = q) := by
  have hx : ∀ a h l, nrow (α := EReal) (v.read (Elt Ideal) (v.writes (Elt Ideal) f ((⟨Rect.unit (s := Pairs N) off ![4, 2, 128] inb, w⟩ : View.Piece (Elt Ideal) (Pairs N) .bf16) :: L))) a h l
      = if P q ≤ a ∧ a < P q + 4 then nrow (n := 4) (α := EReal) w (a - P q) h l else nrow (α := EReal) (v.read (Elt Ideal) (v.writes (Elt Ideal) f L)) a h l :=
    fun a h l => put_unit (Val := Elt Ideal) (e := .bf16) v f inb w L ho a h l
  refine ⟨fun q' hq' r hr h l => ?_, fun a h l ha => ?_⟩
  · rw [hx]
    rcases hq' with hq' | rfl
    · obtain ⟨h1, h2⟩ := hne q' hq'
      have := hA q' q h1 hq h2
      rw [if_neg (by omega)]
      exact hD.1 q' hq' r hr h l
    · rw [if_pos (by omega), show P q' + r - P q' = r by omega]
      exact hw r hr h l
  · rw [hx, if_neg (ha q (Or.inr rfl))]
    exact hD.2 a h l fun q' hq' => ha q' (Or.inl hq')

/-- The words a scatter of `2 k` tokens from token `b` on has used. -/
def DS (b k q : ℕ) : Prop := ∃ t, t < 2 * k ∧ (q = b + t ∨ q = 8192 + b + t)
/-- The groups of four rows a gather of `k` tokens has filled. -/
def DG (k q : ℕ) : Prop := q < k ∨ (512 ≤ q ∧ q < 512 + k)

/-- What a scatter writes at each word: the token's rows in the staging buffer. -/
def srcS (b : ℕ) (G : Rows) : ℕ → Rows := fun q r => G (4 * (q % 8192 - b) + r)
/-- What a gather writes at each group: the rows of the buffer the token's word names. -/
def srcG (b : ℕ) (P : ℕ → ℕ) (X : Rows) : ℕ → Rows := fun q r => X (P (if q < 512 then b + q else 8192 + b + (q - 512)) + r)

theorem DS.step {b k : ℕ} (q : ℕ) : ((((DS b k q ∨ q = b + 2 * k) ∨ q = 8192 + b + 2 * k) ∨ q = b + 2 * k + 1) ∨ q = 8192 + b + 2 * k + 1) ↔ DS b (k + 1) q := by
  unfold DS
  constructor
  · rintro ((((⟨t, ht, h⟩ | h) | h) | h) | h)
    · exact ⟨t, by omega, h⟩
    · exact ⟨2 * k, by omega, Or.inl h⟩
    · exact ⟨2 * k, by omega, Or.inr h⟩
    · exact ⟨2 * k + 1, by omega, Or.inl (by omega)⟩
    · exact ⟨2 * k + 1, by omega, Or.inr (by omega)⟩
  · rintro ⟨t, ht, h⟩
    by_cases h1 : t < 2 * k
    · exact Or.inl (Or.inl (Or.inl (Or.inl ⟨t, h1, h⟩)))
    · have h2 : ((q = b + 2 * k ∨ q = 8192 + b + 2 * k) ∨ q = b + 2 * k + 1) ∨ q = 8192 + b + 2 * k + 1 := by omega
      rcases h2 with ((h2 | h2) | h2) | h2
      · exact Or.inl (Or.inl (Or.inl (Or.inr h2)))
      · exact Or.inl (Or.inl (Or.inr h2))
      · exact Or.inl (Or.inr h2)
      · exact Or.inr h2

theorem DG.step {k : ℕ} (q : ℕ) : ((DG k q ∨ q = k) ∨ q = 512 + k) ↔ DG (k + 1) q := by unfold DG; omega

theorem vec1 {f : Fin 1 → ℕ} {e : ℕ} (h : f 0 = e) : f = ![e] := funext fun a => by fin_cases a; exact h

/-- The first of a loop's contents, named only before its first trip. -/
def tag {α : Type} (k : ℕ) (f : α) : Option α := if k = 0 then some f else none

theorem tag_succ {α : Type} (k : ℕ) (f g : α) : tag (k + 1) f = tag (k + 1) g := rfl

theorem Wrote.of_tag {P S X0 X} {D : ℕ → Prop} {k : ℕ} (h : tag k X = tag k X0) (hw : k = 0 ∨ Wrote P S X0 X D) (hD : k = 0 → ∀ q, ¬ D q) : Wrote P S X0 X D := by
  rcases hw with rfl | hw
  · obtain rfl : X = X0 := Option.some.inj h
    exact Wrote.none (hD rfl)
  · exact hw

theorem DS.zero {b k : ℕ} (h : k = 0) (q : ℕ) : ¬ DS b k q := by subst h; rintro ⟨t, ht, -⟩; omega
theorem DG.zero {k : ℕ} (h : k = 0) (q : ℕ) : ¬ DG k q := by subst h; unfold DG; omega

/-- One trip of a scatter: two tokens, four groups of rows. -/
theorem scatter_step {P : ℕ → ℕ} {G X0 : Rows} {b k : ℕ} (hk : k < 512) (hb : b + 1024 ≤ 8192) (hA : Apart P 16384)
    {sp : Space} (v : View sig .tc sp (Pairs 67968) .bf16) (f : v.ty.Contents (Elt Ideal))
    (hg : Wrote P (srcS b G) X0 (nrow (α := EReal) (v.read (Elt Ideal) f)) (DS b k))
    {o1 o2 o3 o4 : Fin 3 → ℕ} (i1 : ∀ a, o1 a + (![4, 2, 128] : Fin 3 → ℕ) a ≤ (Pairs 67968).size a) (i2 : ∀ a, o2 a + (![4, 2, 128] : Fin 3 → ℕ) a ≤ (Pairs 67968).size a)
    (i3 : ∀ a, o3 a + (![4, 2, 128] : Fin 3 → ℕ) a ≤ (Pairs 67968).size a) (i4 : ∀ a, o4 a + (![4, 2, 128] : Fin 3 → ℕ) a ≤ (Pairs 67968).size a)
    (z1 z2 z3 z4 : (Pairs 4).Idx → Elt Ideal .bf16) (x : (Pairs 8).Idx → Elt Ideal .bf16) (hx : ∀ r, r < 8 → ∀ h l, nrow (n := 8) (α := EReal) x r h l = G (8 * k + r) h l)
    (e1 : ∀ r, r < 4 → ∀ h l, nrow (n := 4) (α := EReal) z1 r h l = nrow (n := 8) (α := EReal) x (0 + r) h l)
    (e2 : ∀ r, r < 4 → ∀ h l, nrow (n := 4) (α := EReal) z2 r h l = nrow (n := 8) (α := EReal) x (0 + r) h l)
    (e3 : ∀ r, r < 4 → ∀ h l, nrow (n := 4) (α := EReal) z3 r h l = nrow (n := 8) (α := EReal) x (4 + r) h l)
    (e4 : ∀ r, r < 4 → ∀ h l, nrow (n := 4) (α := EReal) z4 r h l = nrow (n := 8) (α := EReal) x (4 + r) h l)
    (p1 : o1 = ![P (b + 2 * k), 0, 0]) (p2 : o2 = ![P (8192 + b + 2 * k), 0, 0]) (p3 : o3 = ![P (b + 2 * k + 1), 0, 0]) (p4 : o4 = ![P (8192 + b + 2 * k + 1), 0, 0]) :
    Wrote P (srcS b G) X0 (nrow (α := EReal) (v.read (Elt Ideal) (v.writes (Elt Ideal) f
      [(⟨Rect.unit (s := Pairs 67968) o4 ![4, 2, 128] i4, z4⟩ : View.Piece (Elt Ideal) (Pairs 67968) .bf16), ⟨Rect.unit (s := Pairs 67968) o3 ![4, 2, 128] i3, z3⟩,
        ⟨Rect.unit (s := Pairs 67968) o2 ![4, 2, 128] i2, z2⟩, ⟨Rect.unit (s := Pairs 67968) o1 ![4, 2, 128] i1, z1⟩]))) (DS b (k + 1)) := by
  have hs : ∀ q o, 4 * (q % 8192 - b) = 8 * k + o → ∀ r, o + r < 8 → ∀ h l, nrow (n := 8) (α := EReal) x (o + r) h l = srcS b G q r h l := by
    intro q o hq r hr h l
    rw [hx _ hr]; unfold srcS
    rw [show 8 * k + (o + r) = 4 * (q % 8192 - b) + r by omega]
  refine Wrote.of_iff ?_ (DS.step (b := b) (k := k))
  refine Wrote.put v f i4 z4 _ (Wrote.put v f i3 z3 _ (Wrote.put v f i2 z2 _ (Wrote.put v f i1 z1 [] hg hA
      (q := b + 2 * k) (by omega) ?_ p1 ?_) hA (q := 8192 + b + 2 * k) (by omega) ?_ p2 ?_) hA (q := b + 2 * k + 1) (by omega) ?_ p3 ?_)
      hA (q := 8192 + b + 2 * k + 1) (by omega) ?_ p4 ?_
  · rintro q' ⟨t, ht, h⟩; omega
  · intro r hr h l; rw [e1 r hr]; exact hs _ 0 (by omega) r (by omega) h l
  · rintro q' (⟨t, ht, h⟩ | h) <;> omega
  · intro r hr h l; rw [e2 r hr]; exact hs _ 0 (by omega) r (by omega) h l
  · rintro q' ((⟨t, ht, h⟩ | h) | h) <;> omega
  · intro r hr h l; rw [e3 r hr]; exact hs _ 4 (by omega) r (by omega) h l
  · rintro q' (((⟨t, ht, h⟩ | h) | h) | h) <;> omega
  · intro r hr h l; rw [e4 r hr]; exact hs _ 4 (by omega) r (by omega) h l

theorem gap4 (n : ℕ) : Apart (4 * ·) n := fun q q' _ _ h => by dsimp only; omega

/-- One trip of a gather: the two groups of one token. -/
theorem gather_step {P : ℕ → ℕ} {X G0 : Rows} {b k : ℕ} (hk : k < 512)
    {sp : Space} (v : View sig .tc sp (Pairs 4096) .bf16) (f : v.ty.Contents (Elt Ideal))
    (hg : Wrote (4 * ·) (srcG b P X) G0 (nrow (α := EReal) (v.read (Elt Ideal) f)) (DG k))
    {o1 o2 : Fin 3 → ℕ} (i1 : ∀ a, o1 a + (![4, 2, 128] : Fin 3 → ℕ) a ≤ (Pairs 4096).size a) (i2 : ∀ a, o2 a + (![4, 2, 128] : Fin 3 → ℕ) a ≤ (Pairs 4096).size a)
    (z1 z2 : (Pairs 4).Idx → Elt Ideal .bf16)
    (e1 : ∀ r, r < 4 → ∀ h l, nrow (n := 4) (α := EReal) z1 r h l = X (P (b + k) + r) h l)
    (e2 : ∀ r, r < 4 → ∀ h l, nrow (n := 4) (α := EReal) z2 r h l = X (P (8192 + b + k) + r) h l)
    (p1 : o1 = ![4 * k, 0, 0]) (p2 : o2 = ![2048 + 4 * k, 0, 0]) :
    Wrote (4 * ·) (srcG b P X) G0 (nrow (α := EReal) (v.read (Elt Ideal) (v.writes (Elt Ideal) f
      [(⟨Rect.unit (s := Pairs 4096) o2 ![4, 2, 128] i2, z2⟩ : View.Piece (Elt Ideal) (Pairs 4096) .bf16), ⟨Rect.unit (s := Pairs 4096) o1 ![4, 2, 128] i1, z1⟩]))) (DG (k + 1)) := by
  refine Wrote.of_iff ?_ (DG.step (k := k))
  refine Wrote.put v f i2 z2 _ (Wrote.put v f i1 z1 [] hg (gap4 1024) (q := k) (by omega) ?_ p1 ?_) (gap4 1024) (q := 512 + k) (by omega) ?_ ?_ ?_
  · intro q' h; unfold DG at h; omega
  · intro r hr h l; rw [e1 r hr]; unfold srcG; rw [if_pos hk]
  · rintro q' (h | h)
    · unfold DG at h; omega
    · omega
  · rw [p2]; congr 1; omega
  · intro r hr h l; rw [e2 r hr]; unfold srcG; rw [if_neg (by omega), show 8192 + b + (512 + k - 512) = 8192 + b + k by omega]

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

/-- Every word of the position block names a row, and no two the same rows. -/
def PosGood (f : arg5.view.ty.Contents (Elt Ideal)) : Prop :=
  PosOk arg5 f ∧ Apart (nword (m := 16384) (arg5.view.read (Elt Ideal) f)) 16384

/-- A scatter in progress: four rows at each word used so far. -/
def KeepS (argG : Memref sig .tc .vmem S4096x2x128 .bf16) (b : ℕ) (f5 : Buf (Elt Ideal) (arg5.view.loc (c : Thread nD τ)))
    (fG : Buf (Elt Ideal) (argG.view.loc (c : Thread nD τ))) (X0 : Rows) (k : ℕ) : sProp (MM Ideal) :=
  iprop(⌜PosGood arg5 f5⌝ ∗ (arg5.view.loc (c : Thread nD τ) ↦{fullShare} f5) ∗ (argG.view.loc (c : Thread nD τ) ↦{fullShare} fG)
    ∗ (∃ f12, (arg12.view.loc (c : Thread nD τ) ↦{fullShare} f12)
      ∗ ⌜tag k (nrow (n := 67968) (α := EReal) (arg12.view.read (Elt Ideal) f12)) = tag k X0⌝
      ∗ ⌜k = 0 ∨ Wrote (nword (m := 16384) (arg5.view.read (Elt Ideal) f5)) (srcS b (nrow (n := 4096) (α := EReal) (argG.view.read (Elt Ideal) fG)))
        X0 (nrow (n := 67968) (α := EReal) (arg12.view.read (Elt Ideal) f12)) (DS b k)⌝))

/-- A gather in progress: the rows of every token so far. -/
def KeepG (argG : Memref sig .tc .vmem S4096x2x128 .bf16) (b : ℕ) (f5 : Buf (Elt Ideal) (arg5.view.loc (c : Thread nD τ)))
    (f12 : Buf (Elt Ideal) (arg12.view.loc (c : Thread nD τ))) (G0 : Rows) (k : ℕ) : sProp (MM Ideal) :=
  iprop(⌜PosGood arg5 f5⌝ ∗ (arg5.view.loc (c : Thread nD τ) ↦{fullShare} f5) ∗ (arg12.view.loc (c : Thread nD τ) ↦{fullShare} f12)
    ∗ (∃ fG, (argG.view.loc (c : Thread nD τ) ↦{fullShare} fG)
      ∗ ⌜tag k (nrow (n := 4096) (α := EReal) (argG.view.read (Elt Ideal) fG)) = tag k G0⌝
      ∗ ⌜k = 0 ∨ Wrote (4 * ·) (srcG b (nword (m := 16384) (arg5.view.read (Elt Ideal) f5)) (nrow (n := 67968) (α := EReal) (arg12.view.read (Elt Ideal) f12)))
        G0 (nrow (n := 4096) (α := EReal) (argG.view.read (Elt Ideal) fG)) (DG k)⌝))

theorem base1 : ∀ i : grid0.Coords, k0_cond2 i = 1#1 → 1024 * ((i 1).val - 1) + 1024 ≤ 8192 := by decide +kernel
theorem base2 : ∀ i : grid0.Coords, k0_cond3 i = 1#1 → 1024 * ((i 1).val - 1) + 1024 ≤ 8192 := by decide +kernel
theorem base9 : ∀ i : grid0.Coords, k0_cond7 i = 1#1 → 512 * ((i 1).val - 25) + 512 ≤ 8192 := by decide +kernel
theorem base10 : ∀ i : grid0.Coords, k0_cond8 i = 1#1 → 512 * ((i 1).val - 25) + 512 ≤ 8192 := by decide +kernel

end Cert.Moe.KernelI.Value

end

end
-- ==== Proof.BodyKeep.lean ====
/- What the body holds, buffer by buffer. -/
module

public import proofs.«01_k».proof.Proof.KernelILoops
public import proofs.«01_k».proof.Proof.KernelIRun
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

/-- What the body holds, every buffer at given contents. -/
def HoldsV (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) : sProp (MM Ideal) :=
  iprop((arg2.view.loc (c : Thread nD τ) ↦{fullShare.right} f2)
    ∗ (arg3.view.loc (c : Thread nD τ) ↦{fullShare.right} f3)
    ∗ (arg4.view.loc (c : Thread nD τ) ↦{fullShare} f4)
    ∗ (arg5.view.loc (c : Thread nD τ) ↦{fullShare} f5)
    ∗ (arg6.view.loc (c : Thread nD τ) ↦{fullShare} f6)
    ∗ (arg7.view.loc (c : Thread nD τ) ↦{fullShare} f7)
    ∗ (arg8.view.loc (c : Thread nD τ) ↦{fullShare} f8)
    ∗ (arg9.view.loc (c : Thread nD τ) ↦{fullShare} f9)
    ∗ (arg10.view.loc (c : Thread nD τ) ↦{fullShare} f10)
    ∗ (arg11.view.loc (c : Thread nD τ) ↦{fullShare} f11)
    ∗ (arg12.view.loc (c : Thread nD τ) ↦{fullShare} f12)
    ∗ (arg13.view.loc (c : Thread nD τ) ↦{fullShare} f13)
    ∗ (arg14.view.loc (c : Thread nD τ) ↦{fullShare} f14))

/-- The same, with what is known of those contents. -/
def HoldsP (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (S : Prop) : sProp (MM Ideal) :=
  iprop((arg2.view.loc (c : Thread nD τ) ↦{fullShare.right} f2)
    ∗ (arg3.view.loc (c : Thread nD τ) ↦{fullShare.right} f3)
    ∗ (arg4.view.loc (c : Thread nD τ) ↦{fullShare} f4)
    ∗ (arg5.view.loc (c : Thread nD τ) ↦{fullShare} f5)
    ∗ (arg6.view.loc (c : Thread nD τ) ↦{fullShare} f6)
    ∗ (arg7.view.loc (c : Thread nD τ) ↦{fullShare} f7)
    ∗ (arg8.view.loc (c : Thread nD τ) ↦{fullShare} f8)
    ∗ (arg9.view.loc (c : Thread nD τ) ↦{fullShare} f9)
    ∗ (arg10.view.loc (c : Thread nD τ) ↦{fullShare} f10)
    ∗ (arg11.view.loc (c : Thread nD τ) ↦{fullShare} f11)
    ∗ (arg12.view.loc (c : Thread nD τ) ↦{fullShare} f12)
    ∗ (arg13.view.loc (c : Thread nD τ) ↦{fullShare} f13)
    ∗ (arg14.view.loc (c : Thread nD τ) ↦{fullShare} f14) ∗ ⌜S⌝)

/-- The rows of the slots. -/
abbrev rowsX (arg12 : Memref sig .tc .vmem S67968x2x128 .bf16) (f : arg12.view.ty.Contents (Elt Ideal)) : Rows := nrow (n := 67968) (α := EReal) (arg12.view.read (Elt Ideal) f)

/-- The rows of a staging buffer. -/
abbrev rowsG (arg13 : Memref sig .tc .vmem S4096x2x128 .bf16) (f : arg13.view.ty.Contents (Elt Ideal)) : Rows := nrow (n := 4096) (α := EReal) (arg13.view.read (Elt Ideal) f)

/-- The words of the position block. -/
abbrev posP (arg5 : Memref sig .tc .smem S16384 .i32) (f : arg5.view.ty.Contents (Elt Ideal)) : ℕ → ℕ := nword (m := 16384) (arg5.view.read (Elt Ideal) f)

/-- A loop of writes that came to its end. -/
theorem Wrote.exit {P S X0 X} {D : ℕ → Prop} {k : ℕ} (hk : k ≠ 0) (hw : k = 0 ∨ Wrote P S X0 X D) : Wrote P S X0 X D := hw.resolve_left hk

end Cert.Moe.KernelI.Value

end

end
-- ==== Proof.Packs.lean ====
/- A tile of hidden rows packed into a staging buffer, four rows of pairs for each hidden row. -/
module

public import proofs.«01_k».proof.Proof.KernelILoops
public import proofs.«01_k».proof.Proof.Wrote
public import proofs.«01_k».proof.Proof.Rows
public import Idealize.ShloMosaic.Lib.Pipeline.Value
public import Idealize.ShloMosaic.Lib.ValueIdx

@[expose] public section

set_option maxRecDepth 16384

noncomputable section

namespace Cert.Moe.KernelI.Value

open Idealize.ShloMosaic
open Idealize.ShloMosaic.ValueIdx hiding ix2 ix3
open Cert.KernelI Cert.KernelI.Gen Cert.Moe Cert.Moe.KernelI

/-- The buffer holds the 1024 hidden rows of `x`. -/
def Packed (G : Rows) (x : (⟨2, ![1024, 1024]⟩ : Shape).Idx → EReal) : Prop :=
  ∀ (t : Fin 1024) (r : ℕ) (hr : r < 4) (h : Fin 2) (l : Fin 128), G (4 * t.val + r) h l = x (ix2 t ⟨256 * r + 128 * h.val + l.val, by omega⟩)

/-- Two blocks of 128 columns of a tile, made pairs of rows. -/
theorem pack_apply (r : ℕ) (hr : r < 4) (x : Vec Ideal S1024x1024 .bf16) (hs0 : S1024x1024.Slices ![0, 256 * r] S1024x128) (hs1 : S1024x1024.Slices ![0, 256 * r + 128] S1024x128) (t : Fin 1024) (h : Fin 2) (l : Fin 128) :
    k0_pay200 (F := Ideal) (truncf .bf16 (extractStridedSlice S1024x128 ![0, 256 * r] (k0_pay10 (F := Ideal) x) hs0) bitsLt_bf16_f32) (truncf .bf16 (extractStridedSlice S1024x128 ![0, 256 * r + 128] (k0_pay10 (F := Ideal) x) hs1) bitsLt_bf16_f32) (ix3 t h l)
      = x (ix2 t ⟨256 * r + 128 * h.val + l.val, by omega⟩) := by
  refine (pair_apply (m := 1024) _ _ bitcasts_S1024x2x128_w16_S1024x1x128_w32 _ _ t h l).trans ?_
  have e0 : extractStridedSlice S1024x128 ![0, 256 * r] (k0_pay10 (F := Ideal) x) hs0 (ix2 t l) = x (ix2 t ⟨256 * r + l.val, by omega⟩) :=
    extractStridedSlice_apply ![0, 256 * r] (k0_pay10 (F := Ideal) x) hs0 (ix2 t l) (ix2 t ⟨256 * r + l.val, by omega⟩) (fun a => match a with
      | ⟨0, _⟩ => by show t.val = 0 + t.val; omega
      | ⟨1, _⟩ => by show 256 * r + l.val = 256 * r + l.val; rfl)
  have e1 : extractStridedSlice S1024x128 ![0, 256 * r + 128] (k0_pay10 (F := Ideal) x) hs1 (ix2 t l) = x (ix2 t ⟨256 * r + 128 + l.val, by omega⟩) :=
    extractStridedSlice_apply ![0, 256 * r + 128] (k0_pay10 (F := Ideal) x) hs1 (ix2 t l) (ix2 t ⟨256 * r + 128 + l.val, by omega⟩) (fun a => match a with
      | ⟨0, _⟩ => by show t.val = 0 + t.val; omega
      | ⟨1, _⟩ => by show 256 * r + 128 + l.val = 256 * r + 128 + l.val; rfl)
  fin_cases h
  · exact (if_pos rfl).trans e0
  · exact (if_neg (by decide)).trans e1

theorem read_tile {sp : Space} (v : View sig .tc sp S1024x1024 .bf16) (f : v.ty.Contents (Elt Ideal)) (inb) (i : S1024x1024.Idx) :
    v.readAt (Elt Ideal) (Rect.unit (s := S1024x1024) ![0, 0] ![1024, 1024] inb).toLoadRect f i = v.read (Elt Ideal) f i := by
  rw [View.readAt_apply]
  congr 1
  funext b
  apply Fin.ext
  fin_cases b
  · show 0 + 1 * (i 0).val = (i 0).val
    omega
  · show 0 + 1 * (i 1).val = (i 1).val
    omega

/-- The four strided writes of a pack. -/
theorem pack_step {sp sp' : Space} (V : View sig .tc sp (Pairs 4096) .bf16) (f : V.ty.Contents (Elt Ideal)) (v : View sig .tc sp' S1024x1024 .bf16) (f4 : v.ty.Contents (Elt Ideal)) (inb)
    (i0 i1 i2 i3) (s0 s1 s2 s3) (x : Vec Ideal S1024x1024 .bf16) (hx : x = v.readAt (Elt Ideal) (Rect.unit (s := S1024x1024) ![0, 0] ![1024, 1024] inb).toLoadRect f4) :
    Packed (nrow (n := 4096) (α := EReal) (V.read (Elt Ideal) (V.writes (Elt Ideal) f
      [(⟨⟨⟨![3, 0, 0], ![1024, 2, 128], ![4, 1, 1], i3⟩, s3⟩, k0_pay199 (F := Ideal) (k0_pay10 x)⟩ : View.Piece (Elt Ideal) (Pairs 4096) .bf16),
       ⟨⟨⟨![2, 0, 0], ![1024, 2, 128], ![4, 1, 1], i2⟩, s2⟩, k0_pay198 (F := Ideal) (k0_pay10 x)⟩,
       ⟨⟨⟨![1, 0, 0], ![1024, 2, 128], ![4, 1, 1], i1⟩, s1⟩, k0_pay197 (F := Ideal) (k0_pay12 x) (k0_pay13 x)⟩,
       ⟨⟨⟨![0, 0, 0], ![1024, 2, 128], ![4, 1, 1], i0⟩, s0⟩, k0_pay11 (F := Ideal) x⟩]))) (v.read (Elt Ideal) f4) := by
  intro t r hr h l
  have hz : ∀ (r : ℕ) (hr : r < 4) (z : Vec Ideal S1024x2x128 .bf16), (∀ (t : Fin 1024) (h : Fin 2) (l : Fin 128), z (ix3 t h l) = x (ix2 t ⟨256 * r + 128 * h.val + l.val, by omega⟩)) →
      nrow (n := 1024) (α := EReal) z t.val h l = v.read (Elt Ideal) f4 (ix2 t ⟨256 * r + 128 * h.val + l.val, by omega⟩) := by
    intro r hr z hz
    rw [nrow_of (n := 1024) (α := EReal) z t h l, hz, hx]
    exact read_tile v f4 inb _
  have Z0 := hz 0 (by decide) (k0_pay11 (F := Ideal) x) (pack_apply 0 (by decide) x slices_S1024x1024_o0_0_S1024x128 slices_S1024x1024_o0_128_S1024x128)
  have Z1 := hz 1 (by decide) (k0_pay197 (F := Ideal) (k0_pay12 x) (k0_pay13 x)) (pack_apply 1 (by decide) x slices_S1024x1024_o0_256_S1024x128 slices_S1024x1024_o0_384_S1024x128)
  have Z2 := hz 2 (by decide) (k0_pay198 (F := Ideal) (k0_pay10 x)) (pack_apply 2 (by decide) x slices_S1024x1024_o0_512_S1024x128 slices_S1024x1024_o0_640_S1024x128)
  have Z3 := hz 3 (by decide) (k0_pay199 (F := Ideal) (k0_pay10 x)) (pack_apply 3 (by decide) x slices_S1024x1024_o0_768_S1024x128 slices_S1024x1024_o0_896_S1024x128)
  have hd : ∀ r', r' < 4 → r' ≠ r → ¬ (r' ≤ 4 * t.val + r ∧ (4 * t.val + r - r') % 4 = 0 ∧ (4 * t.val + r - r') / 4 < 1024) := by
    intro r' _ _; omega
  have ht := t.isLt
  have hq : ∀ r', r' = r → (4 * t.val + r - r') / 4 = t.val := by intro r' _; omega
  have hy : ∀ r', r' = r → (r' ≤ 4 * t.val + r ∧ (4 * t.val + r - r') % 4 = 0 ∧ (4 * t.val + r - r') / 4 < 1024) := by
    intro r' _; omega
  rcases (show r = 3 ∨ r = 2 ∨ r = 1 ∨ r = 0 by omega) with e | e | e | e
  · subst e
    refine (put_rows V f (m := 1024) i3 s3 _ _ rfl rfl _ h l).trans ((if_pos (hy 3 rfl)).trans ?_)
    rw [hq 3 rfl]; exact Z3
  · refine (put_rows V f (m := 1024) i3 s3 _ _ rfl rfl _ h l).trans ((if_neg (hd 3 (by decide) (by omega))).trans ?_)
    subst e
    refine (put_rows V f (m := 1024) i2 s2 _ _ rfl rfl _ h l).trans ((if_pos (hy 2 rfl)).trans ?_)
    rw [hq 2 rfl]; exact Z2
  · refine (put_rows V f (m := 1024) i3 s3 _ _ rfl rfl _ h l).trans ((if_neg (hd 3 (by decide) (by omega))).trans ?_)
    refine (put_rows V f (m := 1024) i2 s2 _ _ rfl rfl _ h l).trans ((if_neg (hd 2 (by decide) (by omega))).trans ?_)
    subst e
    refine (put_rows V f (m := 1024) i1 s1 _ _ rfl rfl _ h l).trans ((if_pos (hy 1 rfl)).trans ?_)
    rw [hq 1 rfl]; exact Z1
  · refine (put_rows V f (m := 1024) i3 s3 _ _ rfl rfl _ h l).trans ((if_neg (hd 3 (by decide) (by omega))).trans ?_)
    refine (put_rows V f (m := 1024) i2 s2 _ _ rfl rfl _ h l).trans ((if_neg (hd 2 (by decide) (by omega))).trans ?_)
    refine (put_rows V f (m := 1024) i1 s1 _ _ rfl rfl _ h l).trans ((if_neg (hd 1 (by decide) (by omega))).trans ?_)
    subst e
    refine (put_rows V f (m := 1024) i0 s0 _ _ rfl rfl _ h l).trans ((if_pos (hy 0 rfl)).trans ?_)
    rw [hq 0 rfl]; exact Z0

end Cert.Moe.KernelI.Value

end

end
-- ==== Proof.Body1.lean ====
/- Branch 1 of the body: the first pack. -/
module

public import proofs.«01_k».proof.Proof.KernelILoops
public import proofs.«01_k».proof.Proof.BodyKeep
public import proofs.«01_k».proof.Proof.Packs
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 1 of the body. -/
theorem body1 (hn : kind (i 1).val = 1) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Packed (rowsG arg13 f13') (arg4.view.read (Elt Ideal) f4))) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 := k1.2 rfl
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9 | exact tail_ok1 (hT.word _ _ _ _) | exact tail_ok2 (hT.word _ _ _ _) | exact tail_ok3 (hT.word _ _ _ _) | exact tail_ok4 (hT.word _ _ _ _) | exact tail_ok5 (hT.word _ _ _ _) | exact tail_ok6 (hT.word _ _ _ _) | exact tail_ok7 (hT.word _ _ _ _) | exact tail_ok8 (hT.word _ _ _ _) | exact tail_ok9 (hT.word _ _ _ _) | exact tail_ok10 (hT.word _ _ _ _) | exact tail_ok11 (hT.word _ _ _ _) | exact tail_ok12 (hT.word _ _ _ _) | exact tail_ok13 (hT.word _ _ _ _) | exact tail_ok14 (hT.word _ _ _ _) | exact tail_ok15 (hT.word _ _ _ _) | exact tail_ok16 (hT.word _ _ _ _) | exact tail_ok17 (hT.word _ _ _ _) | exact tail_ok18 (hT.word _ _ _ _) | exact tail_ok19 (hT.word _ _ _ _) | exact tail_ok20 (hT.word _ _ _ _) | exact tail_ok21 (hT.word _ _ _ _) | exact tail_ok22 (hT.word _ _ _ _) | exact tail_ok23 (hT.word _ _ _ _) | exact tail_ok24 (hT.word _ _ _ _) | exact tail_ok25 (hT.word _ _ _ _) | exact tail_ok26 (hT.word _ _ _ _) | exact tail_ok27 (hT.word _ _ _ _) | exact tail_ok28 (hT.word _ _ _ _) | exact tail_ok29 (hT.word _ _ _ _) | exact tail_ok30 (hT.word _ _ _ _) | exact tail_ok31 (hT.word _ _ _ _) | exact tail_ok32 (hT.word _ _ _ _))
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact pack_step arg13.view f13 arg4.view f4 _ _ _ _ _ _ _ _ _ _ rfl

end Cert.Moe.KernelI.Value

end

end
-- ==== Proof.Scatter1.lean ====
/- What a scatter leaves in the buffer of slots: loop 1 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop1 (f5 : Buf (Elt Ideal) (arg5.view.loc (c : Thread nD τ))) (fG : Buf (Elt Ideal) (arg14.view.loc (c : Thread nD τ))) (X0 : Rows) (k0_h2 : k0_cond2 i = 1#1) (v113 : BitVec 32) :
    LoopInvTy_k0_t1 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 k0_h2 v113 where
  inv k _ := KeepS c arg5 arg12 arg14 (1024 * ((i 1).val - 1)) f5 fG X0 k
  step k acc := by
    have hk : k.val < 512 := lt_of_lt_of_eq k.isLt (by decide)
    have hj : (1024 * ((i 1).val - 1)) + 1024 ≤ 8192 := base1 i k0_h2
    unfold KeepS
    iintro ⟨%hp, H5, HG, ⟨%f12, H12, %ht, %hg⟩⟩
    replace hg := Wrote.of_tag ht hg fun h => DS.zero h
    sl_exec (disch := first | exact row_ok33 (hp.1.word _ _ _) | exact row_ok34 (hp.1.word _ _ _) | exact row_ok35 (hp.1.word _ _ _) | exact row_ok36 (hp.1.word _ _ _))
    sl_step
    isplitr; · ipureintro; exact hp
    isplitl [H5]; · iexact H5
    isplitl [HG]; · iexact HG
    iexists _
    isplitl [H12]; · iexact H12
    isplitr; · ipureintro; rfl
    ipureintro
    right
    exact scatter_step hk hj hp.2 arg12.view f12 hg _ _ _ _ _ _ _ _ _
      (fun r hr h l => get_unit (Val := Elt Ideal) (e := .bf16) (m := 8) arg14.view fG _ (rows65 k) r hr h l)
      (pay18_row _) (pay19_row _) (pay201_row _) (pay202_row _)
      (congrArg (fun n : ℕ => (![n, 0, 0] : Fin 3 → ℕ)) (get_word arg5.view f5 _ (vec1 (word66 i k k0_h2)) _))
      (congrArg (fun n : ℕ => (![n, 0, 0] : Fin 3 → ℕ)) (get_word arg5.view f5 _ (vec1 (word68 i k k0_h2)) _))
      (congrArg (fun n : ℕ => (![n, 0, 0] : Fin 3 → ℕ)) (get_word arg5.view f5 _ (vec1 (word70 i k k0_h2)) _))
      (congrArg (fun n : ℕ => (![n, 0, 0] : Fin 3 → ℕ)) (get_word arg5.view f5 _ (vec1 (word72 i k k0_h2)) _))

end Cert.Moe.KernelI.Value

end

end
-- ==== Proof.Body2.lean ====
/- Branch 2 of the body: a pack into the first staging buffer and a scatter from the second. -/
module

public import proofs.«01_k».proof.Proof.KernelILoops
public import proofs.«01_k».proof.Proof.BodyKeep
public import proofs.«01_k».proof.Proof.Packs
public import proofs.«01_k».proof.Proof.Scatter1
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 2 of the body. -/
theorem body2 (hn : kind (i 1).val = 2) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Packed (rowsG arg13 f13') (arg4.view.read (Elt Ideal) f4) ∧ Wrote (posP arg5 f5) (srcS (1024 * ((i 1).val - 1)) (rowsG arg14 f14)) (rowsX arg12 f12) (rowsX arg12 f12') (DS (1024 * ((i 1).val - 1)) 512) ∧ rowsG arg14 f14' = rowsG arg14 f14)) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 := k2.2 rfl
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact ⟨pack_step arg13.view f13 arg4.view f4 _ _ _ _ _ _ _ _ _ _ rfl, Wrote.exit (by decide) hL5, rfl⟩

end Cert.Moe.KernelI.Value

end

end
-- ==== Proof.Scatter2.lean ====
/- What a scatter leaves in the buffer of slots: loop 2 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop2 (f5 : Buf (Elt Ideal) (arg5.view.loc (c : Thread nD τ))) (fG : Buf (Elt Ideal) (arg13.view.loc (c : Thread nD τ))) (X0 : Rows) (arg0 : BitVec 32) (arg1 : BitVec 32) (v34 : BitVec 1) (k0_h3 : k0_cond3 i = 1#1) (v113 : BitVec 32) :
    LoopInvTy_k0_t2 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h3 v113 where
  inv k _ := KeepS c arg5 arg12 arg13 (1024 * ((i 1).val - 1)) f5 fG X0 k
  step k acc := by
    have hk : k.val < 512 := lt_of_lt_of_eq k.isLt (by decide)
    have hj : (1024 * ((i 1).val - 1)) + 1024 ≤ 8192 := base2 i k0_h3
    unfold KeepS
    iintro ⟨%hp, H5, HG, ⟨%f12, H12, %ht, %hg⟩⟩
    replace hg := Wrote.of_tag ht hg fun h => DS.zero h
    sl_exec (disch := first | exact row_ok37 (hp.1.word _ _ _) | exact row_ok38 (hp.1.word _ _ _) | exact row_ok39 (hp.1.word _ _ _) | exact row_ok40 (hp.1.word _ _ _))
    sl_step
    isplitr; · ipureintro; exact hp
    isplitl [H5]; · iexact H5
    isplitl [HG]; · iexact HG
    iexists _
    isplitl [H12]; · iexact H12
    isplitr; · ipureintro; rfl
    ipureintro
    right
    exact scatter_step hk hj hp.2 arg12.view f12 hg _ _ _ _ _ _ _ _ _
      (fun r hr h l => get_unit (Val := Elt Ideal) (e := .bf16) (m := 8) arg13.view fG _ (rows74 k) r hr h l)
      (pay32_row _) (pay33_row _) (pay204_row _) (pay205_row _)
      (congrArg (fun n : ℕ => (![n, 0, 0] : Fin 3 → ℕ)) (get_word arg5.view f5 _ (vec1 (word75 i k k0_h3)) _))
      (congrArg (fun n : ℕ => (![n, 0, 0] : Fin 3 → ℕ)) (get_word arg5.view f5 _ (vec1 (word77 i k k0_h3)) _))
      (congrArg (fun n : ℕ => (![n, 0, 0] : Fin 3 → ℕ)) (get_word arg5.view f5 _ (vec1 (word79 i k k0_h3)) _))
      (congrArg (fun n : ℕ => (![n, 0, 0] : Fin 3 → ℕ)) (get_word arg5.view f5 _ (vec1 (word81 i k k0_h3)) _))

end Cert.Moe.KernelI.Value

end

end
-- ==== Proof.Body3.lean ====
/- Branch 3 of the body: a pack into the second staging buffer and a scatter from the first. -/
module

public import proofs.«01_k».proof.Proof.KernelILoops
public import proofs.«01_k».proof.Proof.BodyKeep
public import proofs.«01_k».proof.Proof.Packs
public import proofs.«01_k».proof.Proof.Scatter2
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 3 of the body. -/
theorem body3 (hn : kind (i 1).val = 3) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Packed (rowsG arg14 f14') (arg4.view.read (Elt Ideal) f4) ∧ Wrote (posP arg5 f5) (srcS (1024 * ((i 1).val - 1)) (rowsG arg13 f13)) (rowsX arg12 f12) (rowsX arg12 f12') (DS (1024 * ((i 1).val - 1)) 512) ∧ rowsG arg13 f13' = rowsG arg13 f13)) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 := k3.2 rfl
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact ⟨pack_step arg14.view f14 arg4.view f4 _ _ _ _ _ _ _ _ _ _ rfl, Wrote.exit (by decide) hL5, rfl⟩

end Cert.Moe.KernelI.Value

end

end
-- ==== Proof.Scatter3.lean ====
/- What a scatter leaves in the buffer of slots: loop 3 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop3 (f5 : Buf (Elt Ideal) (arg5.view.loc (c : Thread nD τ))) (fG : Buf (Elt Ideal) (arg14.view.loc (c : Thread nD τ))) (X0 : Rows) (arg0 : BitVec 32) (arg1 : BitVec 32) (v34 : BitVec 1) (k0_h4 : k0_cond4 i = 1#1) :
    LoopInvTy_k0_t3 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h4 where
  inv k _ := KeepS c arg5 arg12 arg14 7168 f5 fG X0 k
  step k acc := by
    have hk : k.val < 512 := lt_of_lt_of_eq k.isLt (by decide)
    have hj : 7168 + 1024 ≤ 8192 := by decide
    unfold KeepS
    iintro ⟨%hp, H5, HG, ⟨%f12, H12, %ht, %hg⟩⟩
    replace hg := Wrote.of_tag ht hg fun h => DS.zero h
    sl_exec (disch := first | exact row_ok41 (hp.1.word _ _ _) | exact row_ok42 (hp.1.word _ _ _) | exact row_ok43 (hp.1.word _ _ _) | exact row_ok44 (hp.1.word _ _ _))
    sl_step
    isplitr; · ipureintro; exact hp
    isplitl [H5]; · iexact H5
    isplitl [HG]; · iexact HG
    iexists _
    isplitl [H12]; · iexact H12
    isplitr; · ipureintro; rfl
    ipureintro
    right
    exact scatter_step hk hj hp.2 arg12.view f12 hg _ _ _ _ _ _ _ _ _
      (fun r hr h l => get_unit (Val := Elt Ideal) (e := .bf16) (m := 8) arg14.view fG _ (rows83 k) r hr h l)
      (pay46_row _) (pay47_row _) (pay206_row _) (pay207_row _)
      (congrArg (fun n : ℕ => (![n, 0, 0] : Fin 3 → ℕ)) (get_word arg5.view f5 _ (word84 k) _))
      (congrArg (fun n : ℕ => (![n, 0, 0] : Fin 3 → ℕ)) (get_word arg5.view f5 _ (word86 k) _))
      (congrArg (fun n : ℕ => (![n, 0, 0] : Fin 3 → ℕ)) (get_word arg5.view f5 _ (word88 k) _))
      (congrArg (fun n : ℕ => (![n, 0, 0] : Fin 3 → ℕ)) (get_word arg5.view f5 _ (word90 k) _))

end Cert.Moe.KernelI.Value

end

end
-- ==== Proof.Body4.lean ====
/- Branch 4 of the body: the last scatter. -/
module

public import proofs.«01_k».proof.Proof.KernelILoops
public import proofs.«01_k».proof.Proof.BodyKeep
public import proofs.«01_k».proof.Proof.Scatter3
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 4 of the body. -/
theorem body4 (hn : kind (i 1).val = 4) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Wrote (posP arg5 f5) (srcS 7168 (rowsG arg14 f14)) (rowsX arg12 f12) (rowsX arg12 f12') (DS 7168 512))) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 := k4.2 rfl
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact Wrote.exit (by decide) hL5

end Cert.Moe.KernelI.Value

end

end
-- ==== Proof.Experts.lean ====
/- One expert's rows of slots, 576 slots a step: what the four rows of each slot become. -/
module

public import proofs.«01_k».proof.Proof.KernelILoops
public import proofs.«01_k».proof.Proof.Wrote
public import proofs.«01_k».proof.Proof.Rows
public import Idealize.ShloMosaic.Lib.MatmulPlain
public import Idealize.ShloMosaic.Lib.Pipeline.Value
public import Idealize.ShloMosaic.Lib.ValueIdx
public import Idealize.ShloMosaic.PureOps.Ideal.Laws

@[expose] public section

set_option maxRecDepth 16384

noncomputable section

namespace Cert.Moe.KernelI.Value

open Idealize.ShloMosaic
open Idealize.ShloMosaic.ValueIdx hiding ix2 ix3
open Cert.KernelI Cert.KernelI.Gen Cert.Moe Cert.Moe.KernelI
open Finset (range)

/-- The 1024 numbers kept in the four rows of slot `g`. -/
def col (R : Rows) (g c : ℕ) : EReal := R (4 * g + c / 256) ⟨c % 256 / 128, by omega⟩ ⟨c % 128, by omega⟩

theorem col_at (R : Rows) (g r c : ℕ) (h : Fin 2) (l : Fin 128) (hh : h.val = c / 128) (hl : l.val = c % 128) (hc : c < 256) :
    col R g (256 * r + c) = R (4 * g + r) h l := by
  unfold col
  have e1 : 4 * g + (256 * r + c) / 256 = 4 * g + r := by omega
  have e2 : (⟨(256 * r + c) % 256 / 128, by omega⟩ : Fin 2) = h := Fin.ext (by show (256 * r + c) % 256 / 128 = h.val; omega)
  have e3 : (⟨(256 * r + c) % 128, by omega⟩ : Fin 128) = l := Fin.ext (by show (256 * r + c) % 128 = l.val; omega)
  rw [e1, e2, e3]

/-- The gated hidden unit `k` of an expert at the input row `x`. -/
def unitOf (Wg Wu : ℕ → ℕ → EReal) (x : ℕ → EReal) (k : ℕ) : EReal :=
  (∑ c ∈ range 1024, x c * Wg c k) * Ideal.logistic (∑ c ∈ range 1024, x c * Wg c k) * ∑ c ∈ range 1024, x c * Wu c k

/-- Entry `d` of an expert's output at the input row `x`. -/
def mlp (Wg Wu Wd : ℕ → ℕ → EReal) (x : ℕ → EReal) (d : ℕ) : EReal := ∑ k ∈ range 256, unitOf Wg Wu x k * Wd k d

/-- The buffer after the first `n` slots from slot `off` on went through `M`. -/
def Expert (M : (ℕ → EReal) → ℕ → EReal) (off n : ℕ) (X : Rows) : Rows := fun a h l =>
  if off ≤ a / 4 ∧ a / 4 < off + n then M (col X (a / 4)) (256 * (a % 4) + 128 * h.val + l.val) else X a h l

/-- After the loop, whether or not it made a step. -/
theorem Expert.exit {M : (ℕ → EReal) → ℕ → EReal} {off cnt : ℕ} {X X0 : Rows} {k : ℕ} {S : Prop} (hS : S) (hk : k = (cnt + 575) / 576) (ht : tag k X = tag k X0)
    (h : k = 0 ∨ (S → X = Expert M off (min cnt (576 * k)) X0)) : X = Expert M off cnt X0 := by
  rcases h with h | h
  · subst h
    have hc : cnt = 0 := by omega
    subst hc
    have e : X = X0 := Option.some.inj ht
    rw [e]
    funext a h l; unfold Expert; rw [if_neg (by omega)]
  · rw [h hS, Nat.min_eq_left (by omega)]

theorem Expert.zero (M off X) : Expert M off 0 X = X := by
  funext a h l; unfold Expert; rw [if_neg (by omega)]

theorem Expert.of_tag {M : (ℕ → EReal) → ℕ → EReal} {off cnt : ℕ} {X X0 : Rows} {k : ℕ} {S : Prop} (hS : S) (ht : tag k X = tag k X0)
    (h : k = 0 ∨ (S → X = Expert M off (min cnt (576 * k)) X0)) : X = Expert M off (min cnt (576 * k)) X0 := by
  rcases h with h | h
  · subst h
    have e : X = X0 := Option.some.inj ht
    rw [e, Nat.mul_zero, Nat.min_zero, Expert.zero]
  · exact h hS

/-- Step `k` of a count's loop starts at slot `off + 576 k`. -/
theorem start_word {off cnt : BitVec 32} (h : Slot off cnt) {k : ℕ} (hk : k < (cnt.toNat + 575) / 576) :
    (Scalar.addi off (Scalar.muli (Scf.iv 0#32 1#32 k) 576#32)).toNat = off.toNat + 576 * k := by
  obtain ⟨-, h⟩ := h
  have e : (Scf.iv 0#32 1#32 k).toNat = k := WordArith.toNat_iv_zero_one k (by omega)
  show (off + Scf.iv 0#32 1#32 k * 576#32).toNat = _
  rw [BitVec.toNat_add, BitVec.toNat_mul, e, show (576#32).toNat = 576 from rfl]
  omega

/-- One of two matrices as numbers, zero past the ends. -/
def wide3 {A B : ℕ} (x : (⟨3, ![2, A, B]⟩ : Shape).Idx → EReal) (e : Fin 2) (c k : ℕ) : EReal :=
  if h : c < A ∧ k < B then x (ix3 e ⟨c, h.1⟩ ⟨k, h.2⟩) else 0

theorem get_mat {sig : RefSig} {κ : Kind} {sp : Space} {A B : ℕ} (v : View sig κ sp (⟨3, ![2, A, B]⟩ : Shape) .bf16) (f : v.ty.Contents (Elt Ideal)) {m o : ℕ} (e : Fin 2) {off : Fin 3 → ℕ}
    (inb : ∀ a, off a + (![1, m, B] : Fin 3 → ℕ) a ≤ (⟨3, ![2, A, B]⟩ : Shape).size a) (ho : off = ![e.val, o, 0]) (c : Fin m) (k : Fin B) :
    v.readAt (Elt Ideal) (Rect.unit (s := ⟨3, ![2, A, B]⟩) off ![1, m, B] inb).toLoadRect f (ix3 (0 : Fin 1) c k) = wide3 (A := A) (B := B) (v.read (Elt Ideal) f) e (o + c.val) k.val := by
  subst ho
  have hq : o + m ≤ A := inb 1
  unfold wide3
  rw [dif_pos ⟨by omega, k.isLt⟩, View.readAt_apply]
  congr 1
  funext b
  apply Fin.ext
  fin_cases b
  · show e.val + 1 * 0 = e.val
    omega
  · show o + 1 * c.val = o + c.val
    omega
  · show 0 + 1 * k.val = k.val
    omega

theorem zero_f32 : Ideal.ofBits .f32 (0x00000000#32) = 0 := by
  simp [Ideal.ofBits, Ideal.ieee]

theorem mm_in (A : FVec Ideal S576x256 .bf16) (w : Vec Ideal S1x256x256 .bf16) (t : Fin 576) (k : Fin 256) :
    matmul dot_S576x256_S256x256_S576x256_1_0_0_1_n_n none A (shapeCast S256x256 w shapeCasts_S1x256x256_S256x256 : FVec Ideal S256x256 .bf16) (constant S576x256 .f32 0x00000000#32) (ix2 t k)
      = ∑ c : Fin 256, A (ix2 t c) * w (ix3 0 c k) := by
  simp only [matmul]
  refine (Ideal.matmul_plain_apply (M := 576) (K := 256) (N := 256) none _ _ _ t k).trans ?_
  show Ideal.ofBits .f32 (0x00000000#32) + _ = _
  rw [zero_f32, zero_add]
  refine Finset.sum_congr rfl fun c _ => congrArg (A (ix2 t c) * ·) ?_
  exact shapeCast_apply w _ (ix2 c k) (ix3 0 c k) (by rw [Shape.rowMajor_val_two, Shape.rowMajor_val_three]; simp [ix2, ix3])

theorem mm_out (A : FVec Ideal S576x256 .bf16) (w : Vec Ideal S1x256x1024 .bf16) (t : Fin 576) (k : Fin 1024) :
    matmul dot_S576x256_S256x1024_S576x1024_1_0_0_1_n_n none A (shapeCast S256x1024 w shapeCasts_S1x256x1024_S256x1024 : FVec Ideal S256x1024 .bf16) (constant S576x1024 .f32 0x00000000#32) (ix2 t k)
      = ∑ c : Fin 256, A (ix2 t c) * w (ix3 0 c k) := by
  simp only [matmul]
  refine (Ideal.matmul_plain_apply (M := 576) (K := 256) (N := 1024) none _ _ _ t k).trans ?_
  show Ideal.ofBits .f32 (0x00000000#32) + _ = _
  rw [zero_f32, zero_add]
  refine Finset.sum_congr rfl fun c _ => congrArg (A (ix2 t c) * ·) ?_
  exact shapeCast_apply w _ (ix2 c k) (ix3 0 c k) (by rw [Shape.rowMajor_val_two, Shape.rowMajor_val_three]; simp [ix2, ix3])

theorem lo_apply (y : Vec Ideal S576x2x128 .bf16) (t : Fin 576) (l : Fin 128) : k0_pay50 (F := Ideal) y (ix2 t l) = y (ix3 t 0 l) := half_lo (m := 576) y bitcasts_S576x2x128_w16_S576x1x128_w32 _ t l
theorem hi_apply (y : Vec Ideal S576x2x128 .bf16) (t : Fin 576) (l : Fin 128) : k0_pay51 (F := Ideal) y (ix2 t l) = y (ix3 t 1 l) := half_hi (m := 576) y bitcasts_S576x2x128_w16_S576x1x128_w32 _ t l

/-- The two halves of a slot's row side by side. -/
theorem wide_apply (y : Vec Ideal S576x2x128 .bf16) (t : Fin 576) (c : Fin 256) :
    k0_pay58 (F := Ideal) (k0_pay50 y) (k0_pay51 y) (ix2 t c) = y (ix3 t ⟨c.val / 128, by omega⟩ ⟨c.val % 128, by omega⟩) := by
  unfold k0_pay58
  show concatenate S576x256 1 [(⟨S576x128, k0_pay50 (F := Ideal) y⟩ : (s : Shape) × (s.Idx → EReal)), ⟨S576x128, k0_pay51 (F := Ideal) y⟩] concatenates_S576x128_S576x128_S576x256_d1 (ix2 t c) = _
  by_cases hc : c.val < 128
  · rw [concatenate_pair_apply_left (t := S576x256) (s₁ := S576x128) (s₂ := S576x128) 1 _ _ _ (ix2 t c) rfl (ix2 t ⟨c.val, hc⟩) (fun a => match a with
      | ⟨0, _⟩ => rfl
      | ⟨1, _⟩ => rfl)]
    refine (lo_apply y t _).trans ?_
    congr 2 <;> apply Fin.ext
    · show 0 = c.val / 128
      omega
    · show c.val = c.val % 128
      omega
  · rw [concatenate_pair_apply_right (t := S576x256) (s₁ := S576x128) (s₂ := S576x128) 1 _ _ _ (ix2 t c) rfl rfl (ix2 t ⟨c.val - 128, by omega⟩) (fun a ha => match a with
      | ⟨0, _⟩ => rfl
      | ⟨1, _⟩ => absurd rfl ha) (by show c.val - 128 + 128 = c.val; omega)]
    refine (hi_apply y t _).trans ?_
    congr 2 <;> apply Fin.ext
    · show 1 = c.val / 128
      omega
    · show c.val - 128 = c.val % 128
      omega

/-- A quarter of a sum of products: one row of the slot against one block of a weight. -/
theorem quarter (y : Vec Ideal S576x2x128 .bf16) (w : Vec Ideal S1x256x256 .bf16) (t : Fin 576) (k : Fin 256) {R : Rows} {g r : ℕ} {W : ℕ → ℕ → EReal}
    (hy : ∀ h l, y (ix3 t h l) = R (4 * g + r) h l) (hw : ∀ c k, w (ix3 0 c k) = W (256 * r + c.val) k.val) :
    matmul dot_S576x256_S256x256_S576x256_1_0_0_1_n_n none (k0_pay58 (F := Ideal) (k0_pay50 y) (k0_pay51 y)) (shapeCast S256x256 w shapeCasts_S1x256x256_S256x256 : FVec Ideal S256x256 .bf16) (constant S576x256 .f32 0x00000000#32) (ix2 t k)
      = ∑ c ∈ range 256, col R g (256 * r + c) * W (256 * r + c) k.val := by
  rw [mm_in, Finset.sum_range]
  refine Finset.sum_congr rfl fun c _ => ?_
  rw [wide_apply, hy, hw, col_at R g r c.val ⟨c.val / 128, by omega⟩ ⟨c.val % 128, by omega⟩ rfl rfl c.isLt]

/-- Four quarters make the whole sum. -/
theorem four (f : ℕ → EReal) : ((((0 : EReal) + ∑ c ∈ range 256, f (256 * 0 + c)) + ∑ c ∈ range 256, f (256 * 1 + c)) + ∑ c ∈ range 256, f (256 * 2 + c)) + ∑ c ∈ range 256, f (256 * 3 + c)
      = ∑ c ∈ range 1024, f c := by
  rw [show (1024 : ℕ) = 256 + 256 + 256 + 256 from rfl, Finset.sum_range_add, Finset.sum_range_add, Finset.sum_range_add, zero_add]
  simp only [Nat.mul_zero, Nat.zero_add, Nat.mul_one, show 256 * 2 = 256 + 256 from rfl, show 256 * 3 = 256 + 256 + 256 from rfl]

section
variable (y0 y1 y2 y3 : Vec Ideal S576x2x128 .bf16) (a0 a1 a2 a3 b0 b1 b2 b3 : Vec Ideal S1x256x256 .bf16) (d : Vec Ideal S1x256x1024 .bf16)

/-- The sums of products against one weight. -/
abbrev sums : FVec Ideal S576x256 .f32 :=
  addf (k0_pay61 (F := Ideal) (k0_pay50 y0) (k0_pay51 y0) (k0_pay52 y1) (k0_pay53 y1) (k0_pay54 y2) (k0_pay55 y2) (Scalar.ofBits .f32 0x00000000#32) a0 a1 a2)
    (matmul dot_S576x256_S256x256_S576x256_1_0_0_1_n_n none (k0_pay63 (F := Ideal) (k0_pay56 y3) (k0_pay57 y3)) (shapeCast S256x256 a3 shapeCasts_S1x256x256_S256x256 : FVec Ideal S256x256 .bf16) (constant S576x256 .f32 0x00000000#32))

/-- The expert's output at the 576 slots. -/
abbrev outs : FVec Ideal S576x1024 .f32 :=
  k0_pay64 (F := Ideal) (k0_pay61 (k0_pay50 y0) (k0_pay51 y0) (k0_pay52 y1) (k0_pay53 y1) (k0_pay54 y2) (k0_pay55 y2) (Scalar.ofBits .f32 0x00000000#32) a0 a1 a2)
    (k0_pay62 (k0_pay50 y0) (k0_pay51 y0) (k0_pay52 y1) (k0_pay53 y1) (k0_pay54 y2) (k0_pay55 y2) b0 b1 b2) (k0_pay63 (k0_pay56 y3) (k0_pay57 y3)) a3 b3 d

variable {R : Rows} {g : ℕ} (t : Fin 576)
  (h0 : ∀ h l, y0 (ix3 t h l) = R (4 * g + 0) h l) (h1 : ∀ h l, y1 (ix3 t h l) = R (4 * g + 1) h l)
  (h2 : ∀ h l, y2 (ix3 t h l) = R (4 * g + 2) h l) (h3 : ∀ h l, y3 (ix3 t h l) = R (4 * g + 3) h l)
include h0 h1 h2 h3

theorem sums_apply {W : ℕ → ℕ → EReal} (w0 : ∀ c k, a0 (ix3 0 c k) = W (256 * 0 + c.val) k.val) (w1 : ∀ c k, a1 (ix3 0 c k) = W (256 * 1 + c.val) k.val)
    (w2 : ∀ c k, a2 (ix3 0 c k) = W (256 * 2 + c.val) k.val) (w3 : ∀ c k, a3 (ix3 0 c k) = W (256 * 3 + c.val) k.val) (k : Fin 256) :
    sums y0 y1 y2 y3 a0 a1 a2 a3 (ix2 t k) = ∑ c ∈ range 1024, col R g c * W c k.val := by
  refine Eq.trans ?_ (four fun c => col R g c * W c k.val)
  refine congrArg₂ (fun a b : EReal => a + b) (congrArg₂ (fun a b : EReal => a + b) (congrArg₂ (fun a b : EReal => a + b) (congrArg₂ (fun a b : EReal => a + b) ?_ ?_) ?_) ?_) ?_
  · exact zero_f32
  · exact quarter y0 a0 t k h0 w0
  · exact quarter y1 a1 t k h1 w1
  · exact quarter y2 a2 t k h2 w2
  · exact quarter y3 a3 t k h3 w3

theorem outs_apply {Wg Wu Wd : ℕ → ℕ → EReal} (w0 : ∀ c k, a0 (ix3 0 c k) = Wg (256 * 0 + c.val) k.val) (w1 : ∀ c k, a1 (ix3 0 c k) = Wg (256 * 1 + c.val) k.val)
    (w2 : ∀ c k, a2 (ix3 0 c k) = Wg (256 * 2 + c.val) k.val) (w3 : ∀ c k, a3 (ix3 0 c k) = Wg (256 * 3 + c.val) k.val)
    (u0 : ∀ c k, b0 (ix3 0 c k) = Wu (256 * 0 + c.val) k.val) (u1 : ∀ c k, b1 (ix3 0 c k) = Wu (256 * 1 + c.val) k.val)
    (u2 : ∀ c k, b2 (ix3 0 c k) = Wu (256 * 2 + c.val) k.val) (u3 : ∀ c k, b3 (ix3 0 c k) = Wu (256 * 3 + c.val) k.val)
    (hd : ∀ c k, d (ix3 0 c k) = Wd (256 * 0 + c.val) k.val) (n : Fin 1024) :
    outs y0 y1 y2 y3 a0 a1 a2 a3 b0 b1 b2 b3 d (ix2 t n) = mlp Wg Wu Wd (col R g) n.val := by
  refine (mm_out _ d t n).trans ?_
  unfold mlp
  rw [Finset.sum_range]
  refine Finset.sum_congr rfl fun k _ => congrArg₂ (fun a b : EReal => a * b) ?_ ((hd k n).trans (by rw [Nat.mul_zero, Nat.zero_add]))
  unfold unitOf
  have eg := sums_apply y0 y1 y2 y3 a0 a1 a2 a3 t h0 h1 h2 h3 w0 w1 w2 w3 k
  have eu := sums_apply y0 y1 y2 y3 b0 b1 b2 b3 t h0 h1 h2 h3 u0 u1 u2 u3 k
  rw [← eg, ← eu]
  rfl

end

/-- Which of the 576 slots the count reaches. -/
theorem mask_apply {off cnt v : BitVec 32} (hS : Slot off cnt) {k : ℕ} (hk : k < (cnt.toNat + 575) / 576) (hv : v.toNat = off.toNat + 576 * k) (t : Fin 576) :
    k0_pay65 (F := Ideal) cnt off v (ix2 t 0) = 1#1 ↔ 576 * k + t.val < cnt.toNat := by
  have h2 := hS.2
  have e : k0_pay65 (F := Ideal) cnt off v (ix2 t 0) = IntOp.cmpi .slt (v + BitVec.ofNat 32 t.val) (off + cnt) := by
    show IntOp.cmpi .slt (v + iota .tc S576x1 32 [0] iota_S576x1_d0_w32 (ix2 t 0)) (off + cnt) = _
    rw [iota_single_apply]; rfl
  have ht : (BitVec.ofNat 32 t.val).toNat = t.val := by rw [BitVec.toNat_ofNat]; omega
  have e1 : (v + BitVec.ofNat 32 t.val).toNat = off.toNat + 576 * k + t.val := by rw [BitVec.toNat_add, ht, hv]; omega
  have e2 : (off + cnt).toNat = off.toNat + cnt.toNat := by rw [BitVec.toNat_add]; omega
  rw [e, slt_word (by omega) (by omega), e1, e2]
  omega

/-- A masked choice between 128 columns of the output and a half row. -/
theorem choose_apply (o : ℕ) (mask : IVec S576x1 1) (Z : FVec Ideal S576x1024 .f32) (hs : S576x1024.Slices ![0, o] S576x128) (ho : o + 128 ≤ 1024) (x : FVec Ideal S576x128 .f32) (t : Fin 576) (l : Fin 128) :
    select (broadcastTo S576x128 (shapeCast S576x1 mask shapeCasts_S576x1_S576x1 : IVec S576x1 1) broadcasts_S576x1_S576x128 : IVec S576x128 1) (extractStridedSlice S576x128 ![0, o] Z hs) x (ix2 t l)
      = if mask (ix2 t 0) = 1#1 then Z (ix2 t ⟨o + l.val, by omega⟩) else x (ix2 t l) := by
  have em : (broadcastTo S576x128 (shapeCast S576x1 mask shapeCasts_S576x1_S576x1 : IVec S576x1 1) broadcasts_S576x1_S576x128 : IVec S576x128 1) (ix2 t l) = mask (ix2 t 0) := by
    rw [broadcastTo_apply _ broadcasts_S576x1_S576x128 (ix2 t l) (ix2 t 0) (fun a => match a with
      | ⟨0, _⟩ => by show t.val = if (576 : Nat) = 1 then 0 else t.val; rw [if_neg (by decide)]
      | ⟨1, _⟩ => by show 0 = if (1 : Nat) = 1 then 0 else l.val; rw [if_pos rfl])]
    exact shapeCast_apply mask _ (ix2 t 0) (ix2 t 0) rfl
  have es : extractStridedSlice S576x128 ![0, o] Z hs (ix2 t l) = Z (ix2 t ⟨o + l.val, by omega⟩) :=
    extractStridedSlice_apply ![0, o] Z hs (ix2 t l) (ix2 t ⟨o + l.val, by omega⟩) (fun a => match a with
      | ⟨0, _⟩ => by show t.val = 0 + t.val; omega
      | ⟨1, _⟩ => by show o + l.val = o + l.val; rfl)
  show Scalar.select _ _ _ = _
  rw [em, es]
  rfl

/-- A row of the slots after its masked choice. -/
theorem kept_apply (r : ℕ) (hr : r < 4) (mask : IVec S576x1 1) (Z : FVec Ideal S576x1024 .f32) (y : Vec Ideal S576x2x128 .bf16)
    (hs0 : S576x1024.Slices ![0, 256 * r] S576x128) (hs1 : S576x1024.Slices ![0, 256 * r + 128] S576x128) (t : Fin 576) (h : Fin 2) (l : Fin 128) :
    k0_pay142 (F := Ideal)
        (select (broadcastTo S576x128 (shapeCast S576x1 mask shapeCasts_S576x1_S576x1 : IVec S576x1 1) broadcasts_S576x1_S576x128 : IVec S576x128 1) (extractStridedSlice S576x128 ![0, 256 * r] Z hs0) (k0_pay50 (F := Ideal) y))
        (select (broadcastTo S576x128 (shapeCast S576x1 mask shapeCasts_S576x1_S576x1 : IVec S576x1 1) broadcasts_S576x1_S576x128 : IVec S576x128 1) (extractStridedSlice S576x128 ![0, 256 * r + 128] Z hs1) (k0_pay51 (F := Ideal) y)) (ix3 t h l)
      = if mask (ix2 t 0) = 1#1 then Z (ix2 t ⟨256 * r + 128 * h.val + l.val, by omega⟩) else y (ix3 t h l) := by
  refine (pair_apply (m := 576) _ _ bitcasts_S576x2x128_w16_S576x1x128_w32 _ _ t h l).trans ?_
  rw [choose_apply (256 * r) mask Z hs0 (by omega), choose_apply (256 * r + 128) mask Z hs1 (by omega), lo_apply, hi_apply]
  fin_cases h <;> rfl

section
variable (y0 y1 y2 y3 : Vec Ideal S576x2x128 .bf16) (a0 a1 a2 a3 b0 b1 b2 b3 : Vec Ideal S1x256x256 .bf16) (d : Vec Ideal S1x256x1024 .bf16)

/-- One step of an expert's loop: 576 slots go through the expert, as far as the count reaches. -/
theorem expert_step {off cnt v : BitVec 32} (hS : Slot off cnt) {k : ℕ} (hk : k < (cnt.toNat + 575) / 576) (hv : v.toNat = off.toNat + 576 * k) {X0 : Rows} {Wg Wu Wd : ℕ → ℕ → EReal}
    {sp : Space} (V : View sig .tc sp (Pairs 67968) .bf16) (f : V.ty.Contents (Elt Ideal))
    (hg : nrow (α := EReal) (V.read (Elt Ideal) f) = Expert (mlp Wg Wu Wd) off.toNat (min cnt.toNat (576 * k)) X0)
    {o0 o1 o2 o3 : Fin 3 → ℕ} (i0 i1 i2 i3) (s0 s1 s2 s3)
    (hy0 : ∀ t, t < 576 → ∀ h l, nrow (n := 576) (α := EReal) y0 t h l = nrow (n := 67968) (α := EReal) (V.read (Elt Ideal) f) (4 * (off.toNat + 576 * k) + 0 + 4 * t) h l)
    (hy1 : ∀ t, t < 576 → ∀ h l, nrow (n := 576) (α := EReal) y1 t h l = nrow (n := 67968) (α := EReal) (V.read (Elt Ideal) f) (4 * (off.toNat + 576 * k) + 1 + 4 * t) h l)
    (hy2 : ∀ t, t < 576 → ∀ h l, nrow (n := 576) (α := EReal) y2 t h l = nrow (n := 67968) (α := EReal) (V.read (Elt Ideal) f) (4 * (off.toNat + 576 * k) + 2 + 4 * t) h l)
    (hy3 : ∀ t, t < 576 → ∀ h l, nrow (n := 576) (α := EReal) y3 t h l = nrow (n := 67968) (α := EReal) (V.read (Elt Ideal) f) (4 * (off.toNat + 576 * k) + 3 + 4 * t) h l)
    (w0 : ∀ c k, a0 (ix3 0 c k) = Wg (256 * 0 + c.val) k.val) (w1 : ∀ c k, a1 (ix3 0 c k) = Wg (256 * 1 + c.val) k.val)
    (w2 : ∀ c k, a2 (ix3 0 c k) = Wg (256 * 2 + c.val) k.val) (w3 : ∀ c k, a3 (ix3 0 c k) = Wg (256 * 3 + c.val) k.val)
    (u0 : ∀ c k, b0 (ix3 0 c k) = Wu (256 * 0 + c.val) k.val) (u1 : ∀ c k, b1 (ix3 0 c k) = Wu (256 * 1 + c.val) k.val)
    (u2 : ∀ c k, b2 (ix3 0 c k) = Wu (256 * 2 + c.val) k.val) (u3 : ∀ c k, b3 (ix3 0 c k) = Wu (256 * 3 + c.val) k.val)
    (hd : ∀ c k, d (ix3 0 c k) = Wd (256 * 0 + c.val) k.val)
    (p0 : o0 = ![4 * (off.toNat + 576 * k) + 0, 0, 0]) (p1 : o1 = ![4 * (off.toNat + 576 * k) + 1, 0, 0])
    (p2 : o2 = ![4 * (off.toNat + 576 * k) + 2, 0, 0]) (p3 : o3 = ![4 * (off.toNat + 576 * k) + 3, 0, 0]) :
    nrow (α := EReal) (V.read (Elt Ideal) (V.writes (Elt Ideal) f
      [(⟨⟨⟨o3, ![576, 2, 128], ![4, 1, 1], i3⟩, s3⟩, k0_pay142 (F := Ideal) (k0_pay71 (k0_pay56 y3) (outs y0 y1 y2 y3 a0 a1 a2 a3 b0 b1 b2 b3 d) (k0_pay65 (F := Ideal) cnt off v)) (k0_pay72 (k0_pay57 y3) (outs y0 y1 y2 y3 a0 a1 a2 a3 b0 b1 b2 b3 d) (k0_pay65 (F := Ideal) cnt off v))⟩ : View.Piece (Elt Ideal) (Pairs 67968) .bf16),
       ⟨⟨⟨o2, ![576, 2, 128], ![4, 1, 1], i2⟩, s2⟩, k0_pay70 (F := Ideal) (k0_pay54 y2) (k0_pay55 y2) (outs y0 y1 y2 y3 a0 a1 a2 a3 b0 b1 b2 b3 d) (k0_pay65 (F := Ideal) cnt off v)⟩,
       ⟨⟨⟨o1, ![576, 2, 128], ![4, 1, 1], i1⟩, s1⟩, k0_pay69 (F := Ideal) (k0_pay53 y1) (k0_pay65 (F := Ideal) cnt off v)
          (k0_pay67 cnt off v (k0_pay52 y1) (k0_pay61 (k0_pay50 y0) (k0_pay51 y0) (k0_pay52 y1) (k0_pay53 y1) (k0_pay54 y2) (k0_pay55 y2) (Scalar.ofBits .f32 0x00000000#32) a0 a1 a2)
            (k0_pay62 (k0_pay50 y0) (k0_pay51 y0) (k0_pay52 y1) (k0_pay53 y1) (k0_pay54 y2) (k0_pay55 y2) b0 b1 b2) (k0_pay63 (k0_pay56 y3) (k0_pay57 y3)) a3 b3 d)
          (k0_pay68 (k0_pay61 (k0_pay50 y0) (k0_pay51 y0) (k0_pay52 y1) (k0_pay53 y1) (k0_pay54 y2) (k0_pay55 y2) (Scalar.ofBits .f32 0x00000000#32) a0 a1 a2)
            (k0_pay62 (k0_pay50 y0) (k0_pay51 y0) (k0_pay52 y1) (k0_pay53 y1) (k0_pay54 y2) (k0_pay55 y2) b0 b1 b2) (k0_pay63 (k0_pay56 y3) (k0_pay57 y3)) a3 b3 d)⟩,
       ⟨⟨⟨o0, ![576, 2, 128], ![4, 1, 1], i0⟩, s0⟩, k0_pay66 (F := Ideal) cnt off v (k0_pay50 y0) (k0_pay51 y0) (k0_pay61 (k0_pay50 y0) (k0_pay51 y0) (k0_pay52 y1) (k0_pay53 y1) (k0_pay54 y2) (k0_pay55 y2) (Scalar.ofBits .f32 0x00000000#32) a0 a1 a2)
            (k0_pay62 (k0_pay50 y0) (k0_pay51 y0) (k0_pay52 y1) (k0_pay53 y1) (k0_pay54 y2) (k0_pay55 y2) b0 b1 b2) (k0_pay63 (k0_pay56 y3) (k0_pay57 y3)) a3 b3 d⟩]))
      = Expert (mlp Wg Wu Wd) off.toNat (min cnt.toNat (576 * (k + 1))) X0 := by
  have hX : ∀ g, 576 * k ≤ g - off.toNat → off.toNat ≤ g → col (nrow (n := 67968) (α := EReal) (V.read (Elt Ideal) f)) g = col X0 g := by
    intro g h1 h2
    funext c
    unfold col
    rw [hg]
    unfold Expert
    rw [if_neg (by omega)]
  have hrow : ∀ (r : ℕ), r < 4 → ∀ (y : Vec Ideal S576x2x128 .bf16), (∀ t, t < 576 → ∀ h l, nrow (n := 576) (α := EReal) y t h l = nrow (n := 67968) (α := EReal) (V.read (Elt Ideal) f) (4 * (off.toNat + 576 * k) + r + 4 * t) h l) →
      ∀ t : Fin 576, ∀ h l, y (ix3 t h l) = nrow (n := 67968) (α := EReal) (V.read (Elt Ideal) f) (4 * (off.toNat + 576 * k + t.val) + r) h l := by
    intro r hr y hy t h l
    rw [← nrow_of (n := 576) (α := EReal) y t h l, hy t.val t.isLt]
    congr 1; omega
  have H0 := hrow 0 (by decide) y0 hy0
  have H1 := hrow 1 (by decide) y1 hy1
  have H2 := hrow 2 (by decide) y2 hy2
  have H3 := hrow 3 (by decide) y3 hy3
  have hZ : ∀ (t : Fin 576) (n : Fin 1024), outs y0 y1 y2 y3 a0 a1 a2 a3 b0 b1 b2 b3 d (ix2 t n) = mlp Wg Wu Wd (col X0 (off.toNat + 576 * k + t.val)) n.val := by
    intro t n
    rw [outs_apply y0 y1 y2 y3 a0 a1 a2 a3 b0 b1 b2 b3 d t (H0 t) (H1 t) (H2 t) (H3 t) w0 w1 w2 w3 u0 u1 u2 u3 hd n, hX _ (by omega) (by omega)]
  -- what each of the four writes leaves in its row of slot `t`
  have hput : ∀ (r : ℕ) (hr : r < 4) (y : Vec Ideal S576x2x128 .bf16) (z : Vec Ideal S576x2x128 .bf16),
      (∀ t : Fin 576, ∀ h l, y (ix3 t h l) = nrow (n := 67968) (α := EReal) (V.read (Elt Ideal) f) (4 * (off.toNat + 576 * k + t.val) + r) h l) →
      (∀ (t : Fin 576) (h : Fin 2) (l : Fin 128), z (ix3 t h l) = if k0_pay65 (F := Ideal) cnt off v (ix2 t 0) = 1#1 then outs y0 y1 y2 y3 a0 a1 a2 a3 b0 b1 b2 b3 d (ix2 t ⟨256 * r + 128 * h.val + l.val, by omega⟩) else y (ix3 t h l)) →
      ∀ t, t < 576 → ∀ h l, nrow (n := 576) (α := EReal) z t h l = Expert (mlp Wg Wu Wd) off.toNat (min cnt.toNat (576 * (k + 1))) X0 (4 * (off.toNat + 576 * k + t) + r) h l := by
    intro r hr y z hy hz t ht h l
    rw [nrow_lt (n := 576) (α := EReal) z ht, hz, hZ, hy ⟨t, ht⟩, if_congr (mask_apply hS hk hv ⟨t, ht⟩) rfl rfl, hg]
    unfold Expert
    have e4 : (4 * (off.toNat + 576 * k + t) + r) / 4 = off.toNat + 576 * k + t := by omega
    have em : (4 * (off.toNat + 576 * k + t) + r) % 4 = r := by omega
    dsimp only
    rw [e4, em]
    by_cases hc : 576 * k + t < cnt.toNat
    · rw [if_pos hc, if_pos (by omega)]
    · rw [if_neg hc, if_neg (by omega), if_neg (by omega)]
  have Z0 := hput 0 (by decide) y0 _ H0 (kept_apply 0 (by decide) (k0_pay65 (F := Ideal) cnt off v) (outs y0 y1 y2 y3 a0 a1 a2 a3 b0 b1 b2 b3 d) y0 slices_S576x1024_o0_0_S576x128 slices_S576x1024_o0_128_S576x128)
  have Z1 := hput 1 (by decide) y1 _ H1 (kept_apply 1 (by decide) (k0_pay65 (F := Ideal) cnt off v) (outs y0 y1 y2 y3 a0 a1 a2 a3 b0 b1 b2 b3 d) y1 slices_S576x1024_o0_256_S576x128 slices_S576x1024_o0_384_S576x128)
  have Z2 := hput 2 (by decide) y2 _ H2 (kept_apply 2 (by decide) (k0_pay65 (F := Ideal) cnt off v) (outs y0 y1 y2 y3 a0 a1 a2 a3 b0 b1 b2 b3 d) y2 slices_S576x1024_o0_512_S576x128 slices_S576x1024_o0_640_S576x128)
  have Z3 := hput 3 (by decide) y3 _ H3 (kept_apply 3 (by decide) (k0_pay65 (F := Ideal) cnt off v) (outs y0 y1 y2 y3 a0 a1 a2 a3 b0 b1 b2 b3 d) y3 slices_S576x1024_o0_768_S576x128 slices_S576x1024_o0_896_S576x128)
  funext a h l
  have key : ∀ r t, r < 4 → t < 576 → a = 4 * (off.toNat + 576 * k + t) + r → Expert (mlp Wg Wu Wd) off.toNat (min cnt.toNat (576 * (k + 1))) X0 (4 * (off.toNat + 576 * k + t) + r) h l
      = Expert (mlp Wg Wu Wd) off.toNat (min cnt.toNat (576 * (k + 1))) X0 a h l := by
    intro r t _ _ e; rw [e]
  refine (put_rows V f (m := 576) i3 s3 _ _ p3 rfl a h l).trans ?_
  split
  · rename_i hc
    exact (Z3 _ hc.2.2 h l).trans (key 3 _ (by decide) hc.2.2 (by omega))
  refine (put_rows V f (m := 576) i2 s2 _ _ p2 rfl a h l).trans ?_
  split
  · rename_i hc
    exact (Z2 _ hc.2.2 h l).trans (key 2 _ (by decide) hc.2.2 (by omega))
  refine (put_rows V f (m := 576) i1 s1 _ _ p1 rfl a h l).trans ?_
  split
  · rename_i hc
    exact (Z1 _ hc.2.2 h l).trans (key 1 _ (by decide) hc.2.2 (by omega))
  refine (put_rows V f (m := 576) i0 s0 _ _ p0 rfl a h l).trans ?_
  split
  · rename_i hc
    exact (Z0 _ hc.2.2 h l).trans (key 0 _ (by decide) hc.2.2 (by omega))
  · rename_i c3 c2 c1 c0
    show nrow (n := 67968) (α := EReal) (V.read (Elt Ideal) f) a h l = _
    rw [hg]
    unfold Expert
    have hout : ¬ (off.toNat + 576 * k ≤ a / 4 ∧ a / 4 < off.toNat + 576 * (k + 1)) := by
      intro hh
      have : a % 4 = 0 ∨ a % 4 = 1 ∨ a % 4 = 2 ∨ a % 4 = 3 := by omega
      rcases this with e | e | e | e <;> omega
    refine if_congr ?_ rfl rfl
    omega

end

end Cert.Moe.KernelI.Value

end

end
-- ==== Proof.ExpertKeep.lean ====
/- What an expert's loop keeps. -/
module

public import proofs.«01_k».proof.Proof.KernelILoops
public import proofs.«01_k».proof.Proof.Experts
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

/-- The three weights as they are, and the slots as far as step `k`. -/
def KeepX (c : Dev nD) (arg6 : Memref sig .tc .vmem S2x1024x256 .bf16) (arg7 : Memref sig .tc .vmem S2x1024x256 .bf16) (arg8 : Memref sig .tc .vmem S2x256x1024 .bf16) (arg12 : Memref sig .tc .vmem S67968x2x128 .bf16)
    (f6 : Buf (Elt Ideal) (arg6.view.loc (c : Thread nD τ))) (f7 : Buf (Elt Ideal) (arg7.view.loc (c : Thread nD τ))) (f8 : Buf (Elt Ideal) (arg8.view.loc (c : Thread nD τ)))
    (e : Fin 2) (off cnt : BitVec 32) (X0 : Rows) (k : ℕ) : sProp (MM Ideal) :=
  iprop((arg6.view.loc (c : Thread nD τ) ↦{fullShare} f6) ∗ (arg7.view.loc (c : Thread nD τ) ↦{fullShare} f7) ∗ (arg8.view.loc (c : Thread nD τ) ↦{fullShare} f8)
    ∗ (∃ f12, (arg12.view.loc (c : Thread nD τ) ↦{fullShare} f12)
      ∗ ⌜tag k (nrow (n := 67968) (α := EReal) (arg12.view.read (Elt Ideal) f12)) = tag k X0⌝
      ∗ ⌜k = 0 ∨ (Slot off cnt → nrow (n := 67968) (α := EReal) (arg12.view.read (Elt Ideal) f12)
          = Expert (mlp (wide3 (A := 1024) (B := 256) (arg6.view.read (Elt Ideal) f6) e) (wide3 (A := 1024) (B := 256) (arg7.view.read (Elt Ideal) f7) e) (wide3 (A := 256) (B := 1024) (arg8.view.read (Elt Ideal) f8) e)) off.toNat (min cnt.toNat (576 * k)) X0)⌝))

/-- The weights and the slots as they are. -/
def KeepF (c : Dev nD) (arg6 : Memref sig .tc .vmem S2x1024x256 .bf16) (arg7 : Memref sig .tc .vmem S2x1024x256 .bf16) (arg8 : Memref sig .tc .vmem S2x256x1024 .bf16) (arg12 : Memref sig .tc .vmem S67968x2x128 .bf16)
    (f6 : Buf (Elt Ideal) (arg6.view.loc (c : Thread nD τ))) (f7 : Buf (Elt Ideal) (arg7.view.loc (c : Thread nD τ))) (f8 : Buf (Elt Ideal) (arg8.view.loc (c : Thread nD τ))) (f12 : Buf (Elt Ideal) (arg12.view.loc (c : Thread nD τ))) : sProp (MM Ideal) :=
  iprop((arg6.view.loc (c : Thread nD τ) ↦{fullShare} f6) ∗ (arg7.view.loc (c : Thread nD τ) ↦{fullShare} f7) ∗ (arg8.view.loc (c : Thread nD τ) ↦{fullShare} f8)
    ∗ (arg12.view.loc (c : Thread nD τ) ↦{fullShare} f12))

end Cert.Moe.KernelI.Value

end

end
-- ==== Proof.Expert4.lean ====
/- What an expert's loop leaves in the buffer of slots: loop 4 of the body, and loop 5, which makes no step. -/
module

public import proofs.«01_k».proof.Proof.KernelILoops
public import proofs.«01_k».proof.Proof.ExpertKeep
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop4 (f6 : Buf (Elt Ideal) (arg6.view.loc (c : Thread nD τ))) (f7 : Buf (Elt Ideal) (arg7.view.loc (c : Thread nD τ))) (f8 : Buf (Elt Ideal) (arg8.view.loc (c : Thread nD τ))) (X0 : Rows) (arg0 : BitVec 32) (arg1 : BitVec 32) (k0_h5 : k0_cond5 i = 1#1) (v92 : Elt Ideal .i32) (k0_hw45 : k0_chk45 i v92) (v94 : Elt Ideal .i32) (k0_hw46 : k0_chk46 i v92 v94) :
    LoopInvTy_k0_t4 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 where
  inv k _ := KeepX c arg6 arg7 arg8 arg12 f6 f7 f8 0 v94 v92 X0 k
  step k acc := by
    unfold KeepX
    iintro ⟨H6, H7, H8, ⟨%f12, H12, %ht, %hg⟩⟩
    sl_exec
    sl_step
    isplitl [H6]; · iexact H6
    isplitl [H7]; · iexact H7
    isplitl [H8]; · iexact H8
    iexists _
    isplitl [H12]; · iexact H12
    isplitr; · ipureintro; rfl
    ipureintro
    right
    intro hS
    have hk : k.val < ((v92 : BitVec 32).toNat + 575) / 576 := lt_of_lt_of_eq k.isLt (t4_trips (by have := hS.2; omega))
    replace hg := Expert.of_tag hS ht hg
    exact expert_step _ _ _ _ _ _ _ _ _ _ _ _ _ hS hk (start_word hS hk) arg12.view f12 hg _ _ _ _ _ _ _ _
      (fun t ht h l => get_rows (Val := Elt Ideal) (e := .bf16) (m := 576) arg12.view f12 _ (start_off hS k 0) rfl t ht h l)
      (fun t ht h l => get_rows (Val := Elt Ideal) (e := .bf16) (m := 576) arg12.view f12 _ (start_off hS k 1) rfl t ht h l)
      (fun t ht h l => get_rows (Val := Elt Ideal) (e := .bf16) (m := 576) arg12.view f12 _ (start_off hS k 2) rfl t ht h l)
      (fun t ht h l => get_rows (Val := Elt Ideal) (e := .bf16) (m := 576) arg12.view f12 _ (start_off hS k 3) rfl t ht h l)
      (fun c k => get_mat (m := 256) (o := 256 * 0) arg6.view f6 0 _ rfl c k) (fun c k => get_mat (m := 256) (o := 256 * 1) arg6.view f6 0 _ rfl c k)
      (fun c k => get_mat (m := 256) (o := 256 * 2) arg6.view f6 0 _ rfl c k) (fun c k => get_mat (m := 256) (o := 256 * 3) arg6.view f6 0 _ rfl c k)
      (fun c k => get_mat (m := 256) (o := 256 * 0) arg7.view f7 0 _ rfl c k) (fun c k => get_mat (m := 256) (o := 256 * 1) arg7.view f7 0 _ rfl c k)
      (fun c k => get_mat (m := 256) (o := 256 * 2) arg7.view f7 0 _ rfl c k) (fun c k => get_mat (m := 256) (o := 256 * 3) arg7.view f7 0 _ rfl c k)
      (fun c k => get_mat (m := 256) (o := 256 * 0) arg8.view f8 0 _ rfl c k)
      (start_off hS k 0) (start_off hS k 1) (start_off hS k 2) (start_off hS k 3)

set_option warn.classDefReducibility false in
@[sl_loop] def loop5 (f6 : Buf (Elt Ideal) (arg6.view.loc (c : Thread nD τ))) (f7 : Buf (Elt Ideal) (arg7.view.loc (c : Thread nD τ))) (f8 : Buf (Elt Ideal) (arg8.view.loc (c : Thread nD τ))) (f12 : Buf (Elt Ideal) (arg12.view.loc (c : Thread nD τ))) (arg0 : BitVec 32) (arg1 : BitVec 32) (k0_h5 : k0_cond5 i = 1#1) (v92 : Elt Ideal .i32) (k0_hw45 : k0_chk45 i v92) (v94 : Elt Ideal .i32) (k0_hw46 : k0_chk46 i v92 v94) (v118 : BitVec 32) :
    LoopInvTy_k0_t5 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 k0_h5 v92 k0_hw45 v94 k0_hw46 v118 where
  inv _ _ := KeepF c arg6 arg7 arg8 arg12 f6 f7 f8 f12
  step k acc := (Nat.not_lt_zero _ (Nat.lt_of_lt_of_eq k.isLt (t5_trips _))).elim

end Cert.Moe.KernelI.Value

end

end
-- ==== Proof.Expert6.lean ====
/- What an expert's loop leaves in the buffer of slots: loop 6 of the body, and loop 7, which makes no step. -/
module

public import proofs.«01_k».proof.Proof.KernelILoops
public import proofs.«01_k».proof.Proof.ExpertKeep
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop6 (f6 : Buf (Elt Ideal) (arg6.view.loc (c : Thread nD τ))) (f7 : Buf (Elt Ideal) (arg7.view.loc (c : Thread nD τ))) (f8 : Buf (Elt Ideal) (arg8.view.loc (c : Thread nD τ))) (X0 : Rows) (arg0 : BitVec 32) (arg1 : BitVec 32) (v34 : BitVec 1) (k0_h5 : k0_cond5 i = 1#1) (v125 : Elt Ideal .i32) (k0_hw47 : k0_chk47 i v125) (v127 : Elt Ideal .i32) (k0_hw48 : k0_chk48 i v125 v127) :
    LoopInvTy_k0_t6 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 where
  inv k _ := KeepX c arg6 arg7 arg8 arg12 f6 f7 f8 1 v127 v125 X0 k
  step k acc := by
    unfold KeepX
    iintro ⟨H6, H7, H8, ⟨%f12, H12, %ht, %hg⟩⟩
    sl_exec
    sl_step
    isplitl [H6]; · iexact H6
    isplitl [H7]; · iexact H7
    isplitl [H8]; · iexact H8
    iexists _
    isplitl [H12]; · iexact H12
    isplitr; · ipureintro; rfl
    ipureintro
    right
    intro hS
    have hk : k.val < ((v125 : BitVec 32).toNat + 575) / 576 := lt_of_lt_of_eq k.isLt (t6_trips (by have := hS.2; omega))
    replace hg := Expert.of_tag hS ht hg
    exact expert_step _ _ _ _ _ _ _ _ _ _ _ _ _ hS hk (start_word hS hk) arg12.view f12 hg _ _ _ _ _ _ _ _
      (fun t ht h l => get_rows (Val := Elt Ideal) (e := .bf16) (m := 576) arg12.view f12 _ (start_off hS k 0) rfl t ht h l)
      (fun t ht h l => get_rows (Val := Elt Ideal) (e := .bf16) (m := 576) arg12.view f12 _ (start_off hS k 1) rfl t ht h l)
      (fun t ht h l => get_rows (Val := Elt Ideal) (e := .bf16) (m := 576) arg12.view f12 _ (start_off hS k 2) rfl t ht h l)
      (fun t ht h l => get_rows (Val := Elt Ideal) (e := .bf16) (m := 576) arg12.view f12 _ (start_off hS k 3) rfl t ht h l)
      (fun c k => get_mat (m := 256) (o := 256 * 0) arg6.view f6 1 _ rfl c k) (fun c k => get_mat (m := 256) (o := 256 * 1) arg6.view f6 1 _ rfl c k)
      (fun c k => get_mat (m := 256) (o := 256 * 2) arg6.view f6 1 _ rfl c k) (fun c k => get_mat (m := 256) (o := 256 * 3) arg6.view f6 1 _ rfl c k)
      (fun c k => get_mat (m := 256) (o := 256 * 0) arg7.view f7 1 _ rfl c k) (fun c k => get_mat (m := 256) (o := 256 * 1) arg7.view f7 1 _ rfl c k)
      (fun c k => get_mat (m := 256) (o := 256 * 2) arg7.view f7 1 _ rfl c k) (fun c k => get_mat (m := 256) (o := 256 * 3) arg7.view f7 1 _ rfl c k)
      (fun c k => get_mat (m := 256) (o := 256 * 0) arg8.view f8 1 _ rfl c k)
      (start_off hS k 0) (start_off hS k 1) (start_off hS k 2) (start_off hS k 3)

set_option warn.classDefReducibility false in
@[sl_loop] def loop7 (f6 : Buf (Elt Ideal) (arg6.view.loc (c : Thread nD τ))) (f7 : Buf (Elt Ideal) (arg7.view.loc (c : Thread nD τ))) (f8 : Buf (Elt Ideal) (arg8.view.loc (c : Thread nD τ))) (f12 : Buf (Elt Ideal) (arg12.view.loc (c : Thread nD τ))) (arg0 : BitVec 32) (arg1 : BitVec 32) (v34 : BitVec 1) (k0_h5 : k0_cond5 i = 1#1) (v125 : Elt Ideal .i32) (k0_hw47 : k0_chk47 i v125) (v127 : Elt Ideal .i32) (k0_hw48 : k0_chk48 i v125 v127) (v151 : BitVec 32) :
    LoopInvTy_k0_t7 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h5 v125 k0_hw47 v127 k0_hw48 v151 where
  inv _ _ := KeepF c arg6 arg7 arg8 arg12 f6 f7 f8 f12
  step k acc := (Nat.not_lt_zero _ (Nat.lt_of_lt_of_eq k.isLt (t7_trips _))).elim

end Cert.Moe.KernelI.Value

end

end
-- ==== Proof.TableWords.lean ====
/- Which words of the offset and count tables the expert steps read. -/
module

public import proofs.«01_k».proof.Proof.Offsets
public import proofs.«01_k».proof.Proof.Wrote
public import proofs.«01_k».proof.Proof.Words

@[expose] public section

set_option maxRecDepth 16384

noncomputable section

namespace Cert.Moe.KernelI.Value

open Idealize.ShloMosaic
open Cert.KernelI Cert.KernelI.Gen Cert.Moe Cert.Moe.KernelI

theorem off92_eq : ∀ i : grid0.Coords, kind (i 1).val = 5 → k0_off92 i 0 = 32 * (i 0).val + 2 * ((i 1).val - 9) := by decide +kernel
theorem off95_eq : ∀ i : grid0.Coords, kind (i 1).val = 5 → k0_off95 i 0 = 32 * (i 0).val + 2 * ((i 1).val - 9) + 1 := by decide +kernel

theorem word92 (i : grid0.Coords) (h : kind (i 1).val = 5) : k0_off92 i = ![32 * (i 0).val + 2 * ((i 1).val - 9)] := vec1 (off92_eq i h)
theorem word95 (i : grid0.Coords) (h : kind (i 1).val = 5) : k0_off95 i = ![32 * (i 0).val + 2 * ((i 1).val - 9) + 1] := vec1 (off95_eq i h)

end Cert.Moe.KernelI.Value

end

end
-- ==== Proof.Body5.lean ====
/- Branch 5 of the body: two experts. -/
module

public import proofs.«01_k».proof.Proof.KernelILoops
public import proofs.«01_k».proof.Proof.BodyKeep
public import proofs.«01_k».proof.Proof.Expert4
public import proofs.«01_k».proof.Proof.Expert6
public import proofs.«01_k».proof.Proof.TableWords
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 5 of the body. -/
theorem body5 (hn : kind (i 1).val = 5) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (rowsX arg12 f12' = Expert (mlp (wide3 (A := 1024) (B := 256) (arg6.view.read (Elt Ideal) f6) 1) (wide3 (A := 1024) (B := 256) (arg7.view.read (Elt Ideal) f7) 1) (wide3 (A := 256) (B := 1024) (arg8.view.read (Elt Ideal) f8) 1)) (nword (m := 64) (arg2.view.read (Elt Ideal) f2) (32 * (i 0).val + 2 * ((i 1).val - 9) + 1)) (nword (m := 64) (arg3.view.read (Elt Ideal) f3) (32 * (i 0).val + 2 * ((i 1).val - 9) + 1)) (Expert (mlp (wide3 (A := 1024) (B := 256) (arg6.view.read (Elt Ideal) f6) 0) (wide3 (A := 1024) (B := 256) (arg7.view.read (Elt Ideal) f7) 0) (wide3 (A := 256) (B := 1024) (arg8.view.read (Elt Ideal) f8) 0)) (nword (m := 64) (arg2.view.read (Elt Ideal) f2) (32 * (i 0).val + 2 * ((i 1).val - 9))) (nword (m := 64) (arg3.view.read (Elt Ideal) f3) (32 * (i 0).val + 2 * ((i 1).val - 9))) (rowsX arg12 f12)))) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 := k5.2 rfl
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9 | exact loop_ok (hT.count _ _ _ _) | exact step_ok (hT.word _ _ _ _) | exact loop_ok' (hT.count _ _ _ _) | exact step_ok' (hT.word _ _ _ _))
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  have hS0 := hT.word arg2 arg3 (Rect.unit (s := S64) (k0_off92 i) S1.size (k0_off92_inb i c5)) (Shape.Idx.first (numel1_S1.symm ▸ Nat.one_pos))
  have hS1 := hT.word arg2 arg3 (Rect.unit (s := S64) (k0_off95 i) S1.size (k0_off95_inb i c5)) (Shape.Idx.first (numel1_S1.symm ▸ Nat.one_pos))
  have x0 := Expert.exit hS0 (t4_trips (le_trans (Nat.le_add_left _ _) hS0.2)) hL4 hL5
  have x1 := Expert.exit hS1 (t6_trips (le_trans (Nat.le_add_left _ _) hS1.2)) hL14 hL15
  have w0 := get_word arg2.view f2 (k0_off92_inb i c5) (word92 i hn) (Shape.Idx.first (numel1_S1.symm ▸ Nat.one_pos))
  have w1 := get_word arg3.view f3 (k0_off92_inb i c5) (word92 i hn) (Shape.Idx.first (numel1_S1.symm ▸ Nat.one_pos))
  have w2 := get_word arg2.view f2 (k0_off95_inb i c5) (word95 i hn) (Shape.Idx.first (numel1_S1.symm ▸ Nat.one_pos))
  have w3 := get_word arg3.view f3 (k0_off95_inb i c5) (word95 i hn) (Shape.Idx.first (numel1_S1.symm ▸ Nat.one_pos))
  refine x1.trans ?_
  rw [x0]
  exact (congrArg₂ (fun a b : ℕ => Expert _ a b _) w2 w3).trans (congrArg (Expert _ _ _) (congrArg₂ (fun a b : ℕ => Expert _ a b _) w0 w1))

end Cert.Moe.KernelI.Value

end

end
-- ==== Proof.Gather8.lean ====
/- What a gather leaves in a staging buffer: loop 8 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop8 (f5 : Buf (Elt Ideal) (arg5.view.loc (c : Thread nD τ))) (f12 : Buf (Elt Ideal) (arg12.view.loc (c : Thread nD τ))) (G0 : Rows) (arg0 : BitVec 32) (arg1 : BitVec 32) (v34 : BitVec 1) (k0_h6 : k0_cond6 i = 1#1) :
    LoopInvTy_k0_t8 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg0 arg1 v34 k0_h6 where
  inv k _ := KeepG c arg5 arg12 arg13 0 f5 f12 G0 k
  step k acc := by
    have hk : k.val < 512 := lt_of_lt_of_eq k.isLt (by decide)
    unfold KeepG
    iintro ⟨%hp, H5, H12, ⟨%fG, HG, %ht, %hg⟩⟩
    replace hg := Wrote.of_tag ht hg fun h => DG.zero h
    sl_exec (disch := first | exact row_ok49 (hp.1.word _ _ _) | exact row_ok50 (hp.1.word _ _ _))
    sl_step
    isplitr; · ipureintro; exact hp
    isplitl [H5]; · iexact H5
    isplitl [H12]; · iexact H12
    iexists _
    isplitl [HG]; · iexact HG
    isplitr; · ipureintro; rfl
    ipureintro
    right
    exact gather_step hk arg13.view fG hg _ _ _ _
      (fun r hr h l => (congrArg (fun x => nrow (n := 4) (α := EReal) x r h l) (pay210_eq _)).trans
        (get_unit (Val := Elt Ideal) (e := .bf16) (m := 4) arg12.view f12 _ (congrArg (fun n : ℕ => (![n, 0, 0] : Fin 3 → ℕ)) (get_word arg5.view f5 _ ((word98 k).trans (congrArg (fun n : ℕ => (![n] : Fin 1 → ℕ)) (by omega))) _)) r hr h l))
      (fun r hr h l => (congrArg (fun x => nrow (n := 4) (α := EReal) x r h l) (pay211_eq _)).trans
        (get_unit (Val := Elt Ideal) (e := .bf16) (m := 4) arg12.view f12 _ (congrArg (fun n : ℕ => (![n, 0, 0] : Fin 3 → ℕ)) (get_word arg5.view f5 _ ((word101 k).trans (congrArg (fun n : ℕ => (![n] : Fin 1 → ℕ)) (by omega))) _)) r hr h l))
      (rows100 k) (rows103 k)

end Cert.Moe.KernelI.Value

end

end
-- ==== Proof.Body6.lean ====
/- Branch 6 of the body: the first gather. -/
module

public import proofs.«01_k».proof.Proof.KernelILoops
public import proofs.«01_k».proof.Proof.BodyKeep
public import proofs.«01_k».proof.Proof.Gather8
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 6 of the body. -/
theorem body6 (hn : kind (i 1).val = 6) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Wrote (4 * ·) (srcG 0 (posP arg5 f5) (rowsX arg12 f12)) (rowsG arg13 f13) (rowsG arg13 f13') (DG 512) ∧ rowsX arg12 f12' = rowsX arg12 f12)) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 := k6.2 rfl
  have c7 : ¬ k0_cond7 i = 1#1 := fun h => absurd (k7.1 h) (by decide)
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact ⟨Wrote.exit (by decide) hL5, rfl⟩

end Cert.Moe.KernelI.Value

end

end
-- ==== Proof.Gather9.lean ====
/- What a gather leaves in a staging buffer: loop 9 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop9 (f5 : Buf (Elt Ideal) (arg5.view.loc (c : Thread nD τ))) (f12 : Buf (Elt Ideal) (arg12.view.loc (c : Thread nD τ))) (G0 : Rows) (v45 : BitVec 32) (k0_h7 : k0_cond7 i = 1#1) :
    LoopInvTy_k0_t9 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h7 where
  inv k _ := KeepG c arg5 arg12 arg13 (512 * ((i 1).val - 25)) f5 f12 G0 k
  step k acc := by
    have hk : k.val < 512 := lt_of_lt_of_eq k.isLt (by decide)
    unfold KeepG
    iintro ⟨%hp, H5, H12, ⟨%fG, HG, %ht, %hg⟩⟩
    replace hg := Wrote.of_tag ht hg fun h => DG.zero h
    sl_exec (disch := first | exact row_ok51 (hp.1.word _ _ _) | exact row_ok52 (hp.1.word _ _ _))
    sl_step
    isplitr; · ipureintro; exact hp
    isplitl [H5]; · iexact H5
    isplitl [H12]; · iexact H12
    iexists _
    isplitl [HG]; · iexact HG
    isplitr; · ipureintro; rfl
    ipureintro
    right
    exact gather_step hk arg13.view fG hg _ _ _ _
      (fun r hr h l => (congrArg (fun x => nrow (n := 4) (α := EReal) x r h l) (pay144_eq _)).trans
        (get_unit (Val := Elt Ideal) (e := .bf16) (m := 4) arg12.view f12 _ (congrArg (fun n : ℕ => (![n, 0, 0] : Fin 3 → ℕ)) (get_word arg5.view f5 _ (vec1 (word104 i k k0_h7)) _)) r hr h l))
      (fun r hr h l => (congrArg (fun x => nrow (n := 4) (α := EReal) x r h l) (pay145_eq _)).trans
        (get_unit (Val := Elt Ideal) (e := .bf16) (m := 4) arg12.view f12 _ (congrArg (fun n : ℕ => (![n, 0, 0] : Fin 3 → ℕ)) (get_word arg5.view f5 _ (vec1 (word107 i k k0_h7)) _)) r hr h l))
      (rows106 k) (rows109 k)

end Cert.Moe.KernelI.Value

end

end
-- ==== Proof.Sums.lean ====
/- The output block: the residual and the two gathered rows of each token, weighted by its two gates. -/
module

public import proofs.«01_k».proof.Proof.KernelILoops
public import proofs.«01_k».proof.Proof.Wrote
public import proofs.«01_k».proof.Proof.Rows
public import Idealize.ShloMosaic.Lib.Pipeline.Value
public import Idealize.ShloMosaic.Lib.ValueIdx

@[expose] public section

set_option maxRecDepth 16384

noncomputable section

namespace Cert.Moe.KernelI.Value

open Idealize.ShloMosaic
open Idealize.ShloMosaic.ValueIdx hiding ix2 ix3
open Cert.KernelI Cert.KernelI.Gen Cert.Moe Cert.Moe.KernelI

/-- Entry `d` of token `t`'s output. -/
def sumAt (x : (⟨2, ![512, 1024]⟩ : Shape).Idx → EReal) (w : (⟨2, ![8, 512]⟩ : Shape).Idx → EReal) (G : Rows) (t : Fin 512) (d : Fin 1024) : EReal :=
  (x (ix2 t d) + w (ix2 2 t) * G (4 * t.val + d.val / 256) ⟨d.val % 256 / 128, by omega⟩ ⟨d.val % 128, by omega⟩)
    + w (ix2 3 t) * G (2048 + 4 * t.val + d.val / 256) ⟨d.val % 256 / 128, by omega⟩ ⟨d.val % 128, by omega⟩

theorem gate2 (w : Vec Ideal S8x512 .f32) (t : Fin 512) (l : Fin 128) : broadcastTo S512x128 (k0_pay147 (F := Ideal) w) broadcasts_S512x1_S512x128 (ix2 t l) = w (ix2 2 t) := by
  rw [broadcastTo_apply _ broadcasts_S512x1_S512x128 (ix2 t l) (ix2 t 0) (fun a => match a with
      | ⟨0, _⟩ => by show t.val = if (512 : Nat) = 1 then 0 else t.val; rw [if_neg (by decide)]
      | ⟨1, _⟩ => by show 0 = if (1 : Nat) = 1 then 0 else l.val; rw [if_pos rfl])]
  refine (extractStridedSlice_apply ![0, 2] (k0_pay146 (F := Ideal) w) slices_S512x8_o0_2_S512x1 (ix2 t 0) (ix2 t 2) (fun a => match a with
      | ⟨0, _⟩ => by show t.val = 0 + t.val; omega
      | ⟨1, _⟩ => by show 2 = 2 + 0; rfl)).trans ?_
  refine congrArg w (funext fun a => Fin.ext ?_)
  fin_cases a <;> rfl

theorem gate3 (w : Vec Ideal S8x512 .f32) (t : Fin 512) (l : Fin 128) : broadcastTo S512x128 (k0_pay148 (F := Ideal) w) broadcasts_S512x1_S512x128 (ix2 t l) = w (ix2 3 t) := by
  rw [broadcastTo_apply _ broadcasts_S512x1_S512x128 (ix2 t l) (ix2 t 0) (fun a => match a with
      | ⟨0, _⟩ => by show t.val = if (512 : Nat) = 1 then 0 else t.val; rw [if_neg (by decide)]
      | ⟨1, _⟩ => by show 0 = if (1 : Nat) = 1 then 0 else l.val; rw [if_pos rfl])]
  refine (extractStridedSlice_apply ![0, 3] (k0_pay146 (F := Ideal) w) slices_S512x8_o0_3_S512x1 (ix2 t 0) (ix2 t 3) (fun a => match a with
      | ⟨0, _⟩ => by show t.val = 0 + t.val; omega
      | ⟨1, _⟩ => by show 3 = 3 + 0; rfl)).trans ?_
  refine congrArg w (funext fun a => Fin.ext ?_)
  fin_cases a <;> rfl

theorem mix_lo (w : Vec Ideal S8x512 .f32) (A B : Vec Ideal S512x2x128 .bf16) (x : Vec Ideal S512x128 .f32) (t : Fin 512) (l : Fin 128) :
    k0_pay149 (F := Ideal) w A B x (ix2 t l) = (x (ix2 t l) + w (ix2 2 t) * A (ix3 t 0 l)) + w (ix2 3 t) * B (ix3 t 0 l) :=
  congrArg₂ (fun a b : EReal => a + b) (congrArg (fun b : EReal => x (ix2 t l) + b) (congrArg₂ (fun a b : EReal => a * b) (gate2 w t l) (half_lo (m := 512) A bitcasts_S512x2x128_w16_S512x1x128_w32 _ t l)))
    (congrArg₂ (fun a b : EReal => a * b) (gate3 w t l) (half_lo (m := 512) B bitcasts_S512x2x128_w16_S512x1x128_w32 _ t l))

theorem mix_hi (w : Vec Ideal S8x512 .f32) (A B : Vec Ideal S512x2x128 .bf16) (x : Vec Ideal S512x128 .f32) (t : Fin 512) (l : Fin 128) :
    k0_pay150 (F := Ideal) w A B x (ix2 t l) = (x (ix2 t l) + w (ix2 2 t) * A (ix3 t 1 l)) + w (ix2 3 t) * B (ix3 t 1 l) :=
  congrArg₂ (fun a b : EReal => a + b) (congrArg (fun b : EReal => x (ix2 t l) + b) (congrArg₂ (fun a b : EReal => a * b) (gate2 w t l) (half_hi (m := 512) A bitcasts_S512x2x128_w16_S512x1x128_w32 _ t l)))
    (congrArg₂ (fun a b : EReal => a * b) (gate3 w t l) (half_hi (m := 512) B bitcasts_S512x2x128_w16_S512x1x128_w32 _ t l))

theorem read_gates {sp : Space} (v : View sig .tc sp S8x512 .f32) (f : v.ty.Contents (Elt Ideal)) (inb) (i : S8x512.Idx) :
    v.readAt (Elt Ideal) (Rect.unit (s := S8x512) ![0, 0] ![8, 512] inb).toLoadRect f i = v.read (Elt Ideal) f i := by
  rw [View.readAt_apply]
  congr 1
  funext b
  apply Fin.ext
  fin_cases b
  · show 0 + 1 * (i 0).val = (i 0).val
    omega
  · show 0 + 1 * (i 1).val = (i 1).val
    omega

theorem read_cols {sp : Space} (v : View sig .tc sp S512x1024 .f32) (f : v.ty.Contents (Elt Ideal)) {o : ℕ} {off : Fin 2 → ℕ} (inb) (ho : off = ![0, o]) (t : Fin 512) (l : Fin 128) (hd : o + l.val < 1024) :
    v.readAt (Elt Ideal) (Rect.unit (s := S512x1024) off ![512, 128] inb).toLoadRect f (ix2 t l) = v.read (Elt Ideal) f (ix2 t ⟨o + l.val, hd⟩) := by
  subst ho
  rw [View.readAt_apply]
  congr 1
  funext b
  apply Fin.ext
  fin_cases b
  · show 0 + 1 * t.val = t.val
    omega
  · show o + 1 * l.val = o + l.val
    omega

theorem read_staged {sp : Space} (v : View sig .tc sp (Pairs 4096) .bf16) (f : v.ty.Contents (Elt Ideal)) {p : ℕ} {off : Fin 3 → ℕ} (inb) (ho : off = ![p, 0, 0]) (t : Fin 512) (h : Fin 2) (l : Fin 128) :
    v.readAt (Elt Ideal) (⟨off, ![512, 2, 128], ![4, 1, 1], inb⟩ : LoadRect (Pairs 4096)) f (ix3 t h l) = nrow (n := 4096) (α := EReal) (v.read (Elt Ideal) f) (p + 4 * t.val) h l := by
  rw [← get_rows (Val := Elt Ideal) (e := .bf16) (m := 512) v f inb ho rfl t.val t.isLt h l]
  exact (nrow_of (n := 512) (α := EReal) _ t h l).symm

section
variable {sp9 sp10 spG : Space} (v9 : View sig .tc sp9 S512x1024 .f32) (f9 : v9.ty.Contents (Elt Ideal)) (v10 : View sig .tc sp10 S8x512 .f32) (f10 : v10.ty.Contents (Elt Ideal))
  (vG : View sig .tc spG (Pairs 4096) .bf16) (fG : vG.ty.Contents (Elt Ideal)) (r : ℕ) (hr : r < 4)
  {oA oB : Fin 3 → ℕ} {ox : Fin 2 → ℕ} (iA iB ix i10) (hA : oA = ![r, 0, 0]) (hB : oB = ![2048 + r, 0, 0])

include hA hB

theorem sum_lo (hx : ox = ![0, 256 * r]) (t : Fin 512) (l : Fin 128) :
    k0_pay149 (F := Ideal) (v10.readAt (Elt Ideal) (Rect.unit (s := S8x512) ![0, 0] ![8, 512] i10).toLoadRect f10)
        (vG.readAt (Elt Ideal) (⟨oA, ![512, 2, 128], ![4, 1, 1], iA⟩ : LoadRect (Pairs 4096)) fG) (vG.readAt (Elt Ideal) (⟨oB, ![512, 2, 128], ![4, 1, 1], iB⟩ : LoadRect (Pairs 4096)) fG)
        (v9.readAt (Elt Ideal) (Rect.unit (s := S512x1024) ox ![512, 128] ix).toLoadRect f9) (ix2 t l)
      = sumAt (v9.read (Elt Ideal) f9) (v10.read (Elt Ideal) f10) (nrow (n := 4096) (α := EReal) (vG.read (Elt Ideal) fG)) t ⟨256 * r + l.val, by omega⟩ := by
  rw [mix_lo, read_cols v9 f9 ix hx t l (by omega), read_gates, read_gates, read_staged vG fG iA hA, read_staged vG fG iB hB]
  unfold sumAt
  have e1 : r + 4 * t.val = 4 * t.val + (256 * r + l.val) / 256 := by omega
  have e2 : 2048 + r + 4 * t.val = 2048 + 4 * t.val + (256 * r + l.val) / 256 := by omega
  have e3 : (⟨(256 * r + l.val) % 256 / 128, by omega⟩ : Fin 2) = 0 := Fin.ext (by show (256 * r + l.val) % 256 / 128 = 0; omega)
  have e4 : (⟨(256 * r + l.val) % 128, by omega⟩ : Fin 128) = l := Fin.ext (by show (256 * r + l.val) % 128 = l.val; omega)
  dsimp only
  rw [e1, e2, e3, e4]

theorem sum_hi (hx : ox = ![0, 256 * r + 128]) (t : Fin 512) (l : Fin 128) :
    k0_pay150 (F := Ideal) (v10.readAt (Elt Ideal) (Rect.unit (s := S8x512) ![0, 0] ![8, 512] i10).toLoadRect f10)
        (vG.readAt (Elt Ideal) (⟨oA, ![512, 2, 128], ![4, 1, 1], iA⟩ : LoadRect (Pairs 4096)) fG) (vG.readAt (Elt Ideal) (⟨oB, ![512, 2, 128], ![4, 1, 1], iB⟩ : LoadRect (Pairs 4096)) fG)
        (v9.readAt (Elt Ideal) (Rect.unit (s := S512x1024) ox ![512, 128] ix).toLoadRect f9) (ix2 t l)
      = sumAt (v9.read (Elt Ideal) f9) (v10.read (Elt Ideal) f10) (nrow (n := 4096) (α := EReal) (vG.read (Elt Ideal) fG)) t ⟨256 * r + 128 + l.val, by omega⟩ := by
  rw [mix_hi, read_cols v9 f9 ix hx t l (by omega), read_gates, read_gates, read_staged vG fG iA hA, read_staged vG fG iB hB]
  unfold sumAt
  have e1 : r + 4 * t.val = 4 * t.val + (256 * r + 128 + l.val) / 256 := by omega
  have e2 : 2048 + r + 4 * t.val = 2048 + 4 * t.val + (256 * r + 128 + l.val) / 256 := by omega
  have e3 : (⟨(256 * r + 128 + l.val) % 256 / 128, by omega⟩ : Fin 2) = 1 := Fin.ext (by show (256 * r + 128 + l.val) % 256 / 128 = 1; omega)
  have e4 : (⟨(256 * r + 128 + l.val) % 128, by omega⟩ : Fin 128) = l := Fin.ext (by show (256 * r + 128 + l.val) % 128 = l.val; omega)
  dsimp only
  rw [e1, e2, e3, e4]

end

theorem put_cols {sp : Space} (v : View sig .tc sp S512x1024 .f32) (f : v.ty.Contents (Elt Ideal)) {o : ℕ} {off : Fin 2 → ℕ} (inb) (ho : off = ![0, o]) (w : (⟨2, ![512, 128]⟩ : Shape).Idx → EReal) (L : List (View.Piece (Elt Ideal) S512x1024 .f32))
    (S : Fin 512 → Fin 1024 → EReal) (hb : o + 128 ≤ 1024) (hw : ∀ (t : Fin 512) (l : Fin 128), w (ix2 t l) = S t ⟨o + l.val, by omega⟩)
    (hL : ∀ (t : Fin 512) (d : Fin 1024), d.val < o → v.read (Elt Ideal) (v.writes (Elt Ideal) f L) (ix2 t d) = S t d) :
    ∀ (t : Fin 512) (d : Fin 1024), d.val < o + 128 →
      v.read (Elt Ideal) (v.writes (Elt Ideal) f ((⟨Rect.unit (s := S512x1024) off ![512, 128] inb, w⟩ : View.Piece (Elt Ideal) S512x1024 .f32) :: L)) (ix2 t d) = S t d := by
  intro t d hd
  by_cases h : d.val < o
  · refine (View.read_writes_cons_unit_of_not_mem v f inb w L (ix2 t d) ho 1 (Or.inl h)).trans (hL t d h)
  · refine (View.read_writes_cons_unit_of_mem v f inb w L (ix2 t d) (ix2 t (⟨d.val - o, by omega⟩ : Fin 128)) ho (fun a => match a with
      | ⟨0, _⟩ => by show t.val = 0 + t.val; omega
      | ⟨1, _⟩ => by show d.val = o + (d.val - o); omega)).trans ?_
    rw [hw]
    congr 1
    exact Fin.ext (by show o + (d.val - o) = d.val; omega)

/-- The eight writes of an output block. -/
theorem sum_step {sp : Space} (v : View sig .tc sp S512x1024 .f32) (f : v.ty.Contents (Elt Ideal)) (S : Fin 512 → Fin 1024 → EReal) (i0 i1 i2 i3 i4 i5 i6 i7)
    (z0 z1 z2 z3 z4 z5 z6 z7 : (⟨2, ![512, 128]⟩ : Shape).Idx → EReal)
    (e0 : ∀ (t : Fin 512) (l : Fin 128), z0 (ix2 t l) = S t ⟨256 * 0 + l.val, by omega⟩) (e1 : ∀ (t : Fin 512) (l : Fin 128), z1 (ix2 t l) = S t ⟨256 * 0 + 128 + l.val, by omega⟩)
    (e2 : ∀ (t : Fin 512) (l : Fin 128), z2 (ix2 t l) = S t ⟨256 * 1 + l.val, by omega⟩) (e3 : ∀ (t : Fin 512) (l : Fin 128), z3 (ix2 t l) = S t ⟨256 * 1 + 128 + l.val, by omega⟩)
    (e4 : ∀ (t : Fin 512) (l : Fin 128), z4 (ix2 t l) = S t ⟨256 * 2 + l.val, by omega⟩) (e5 : ∀ (t : Fin 512) (l : Fin 128), z5 (ix2 t l) = S t ⟨256 * 2 + 128 + l.val, by omega⟩)
    (e6 : ∀ (t : Fin 512) (l : Fin 128), z6 (ix2 t l) = S t ⟨256 * 3 + l.val, by omega⟩) (e7 : ∀ (t : Fin 512) (l : Fin 128), z7 (ix2 t l) = S t ⟨256 * 3 + 128 + l.val, by omega⟩) :
    ∀ (t : Fin 512) (d : Fin 1024), v.read (Elt Ideal) (v.writes (Elt Ideal) f
      [(⟨Rect.unit (s := S512x1024) ![0, 896] ![512, 128] i7, z7⟩ : View.Piece (Elt Ideal) S512x1024 .f32), ⟨Rect.unit (s := S512x1024) ![0, 768] ![512, 128] i6, z6⟩,
       ⟨Rect.unit (s := S512x1024) ![0, 640] ![512, 128] i5, z5⟩, ⟨Rect.unit (s := S512x1024) ![0, 512] ![512, 128] i4, z4⟩, ⟨Rect.unit (s := S512x1024) ![0, 384] ![512, 128] i3, z3⟩,
       ⟨Rect.unit (s := S512x1024) ![0, 256] ![512, 128] i2, z2⟩, ⟨Rect.unit (s := S512x1024) ![0, 128] ![512, 128] i1, z1⟩, ⟨Rect.unit (s := S512x1024) ![0, 0] ![512, 128] i0, z0⟩]) (ix2 t d) = S t d := by
  have h0 := put_cols v f (o := 0) i0 rfl z0 [] S (by decide) e0 (fun t d h => absurd h (Nat.not_lt_zero _))
  have h1 := put_cols v f (o := 128) i1 rfl z1 _ S (by decide) e1 h0
  have h2 := put_cols v f (o := 256) i2 rfl z2 _ S (by decide) e2 h1
  have h3 := put_cols v f (o := 384) i3 rfl z3 _ S (by decide) e3 h2
  have h4 := put_cols v f (o := 512) i4 rfl z4 _ S (by decide) e4 h3
  have h5 := put_cols v f (o := 640) i5 rfl z5 _ S (by decide) e5 h4
  have h6 := put_cols v f (o := 768) i6 rfl z6 _ S (by decide) e6 h5
  have h7 := put_cols v f (o := 896) i7 rfl z7 _ S (by decide) e7 h6
  exact fun t d => h7 t d d.isLt

end Cert.Moe.KernelI.Value

end

end
-- ==== Proof.Body7.lean ====
/- Branch 7 of the body: a gather into the first staging buffer and the sums from the second. -/
module

public import proofs.«01_k».proof.Proof.KernelILoops
public import proofs.«01_k».proof.Proof.BodyKeep
public import proofs.«01_k».proof.Proof.Gather9
public import proofs.«01_k».proof.Proof.Sums
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 7 of the body. -/
theorem body7 (hn : kind (i 1).val = 7) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Wrote (4 * ·) (srcG (512 * ((i 1).val - 25)) (posP arg5 f5) (rowsX arg12 f12)) (rowsG arg13 f13) (rowsG arg13 f13') (DG 512) ∧ (∀ (t : Fin 512) (d : Fin 1024), arg11.view.read (Elt Ideal) f11' (ix2 t d) = sumAt (arg9.view.read (Elt Ideal) f9) (arg10.view.read (Elt Ideal) f10) (rowsG arg14 f14) t d) ∧ rowsX arg12 f12' = rowsX arg12 f12)) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 := k7.2 rfl
  have c8 : ¬ k0_cond8 i = 1#1 := fun h => absurd (k8.1 h) (by decide)
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  refine ⟨Wrote.exit (by decide) hL5, ?_, rfl⟩
  exact sum_step arg11.view f11 _ _ _ _ _ _ _ _ _ _ _ _ _ _ _ _ _
      (sum_lo arg9.view f9 arg10.view f10 arg14.view f14 0 (by decide) _ _ _ _ rfl rfl rfl)
      (sum_hi arg9.view f9 arg10.view f10 arg14.view f14 0 (by decide) _ _ _ _ rfl rfl rfl)
      (sum_lo arg9.view f9 arg10.view f10 arg14.view f14 1 (by decide) _ _ _ _ rfl rfl rfl)
      (sum_hi arg9.view f9 arg10.view f10 arg14.view f14 1 (by decide) _ _ _ _ rfl rfl rfl)
      (sum_lo arg9.view f9 arg10.view f10 arg14.view f14 2 (by decide) _ _ _ _ rfl rfl rfl)
      (sum_hi arg9.view f9 arg10.view f10 arg14.view f14 2 (by decide) _ _ _ _ rfl rfl rfl)
      (sum_lo arg9.view f9 arg10.view f10 arg14.view f14 3 (by decide) _ _ _ _ rfl rfl rfl)
      (sum_hi arg9.view f9 arg10.view f10 arg14.view f14 3 (by decide) _ _ _ _ rfl rfl rfl)

end Cert.Moe.KernelI.Value

end

end
-- ==== Proof.Gather10.lean ====
/- What a gather leaves in a staging buffer: loop 10 of the body. -/
module

public import proofs.«01_k».proof.Proof.KernelILoops
public import proofs.«01_k».proof.Proof.Wrote
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk33 k0_chk34 k0_chk35 k0_chk36 k0_chk37 k0_chk38 k0_chk39 k0_chk40 k0_chk41 k0_chk42 k0_chk43 k0_chk44 k0_chk49 k0_chk50 k0_chk51 k0_chk52 k0_chk53 k0_chk54

set_option warn.classDefReducibility false in
@[sl_loop] def loop10 (f5 : Buf (Elt Ideal) (arg5.view.loc (c : Thread nD τ))) (f12 : Buf (Elt Ideal) (arg12.view.loc (c : Thread nD τ))) (G0 : Rows) (v45 : BitVec 32) (k0_h8 : k0_cond8 i = 1#1) :
    LoopInvTy_k0_t10 (F := Ideal) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v45 k0_h8 where
  inv k _ := KeepG c arg5 arg12 arg14 (512 * ((i 1).val - 25)) f5 f12 G0 k
  step k acc := by
    have hk : k.val < 512 := lt_of_lt_of_eq k.isLt (by decide)
    unfold KeepG
    iintro ⟨%hp, H5, H12, ⟨%fG, HG, %ht, %hg⟩⟩
    replace hg := Wrote.of_tag ht hg fun h => DG.zero h
    sl_exec (disch := first | exact row_ok53 (hp.1.word _ _ _) | exact row_ok54 (hp.1.word _ _ _))
    sl_step
    isplitr; · ipureintro; exact hp
    isplitl [H5]; · iexact H5
    isplitl [H12]; · iexact H12
    iexists _
    isplitl [HG]; · iexact HG
    isplitr; · ipureintro; rfl
    ipureintro
    right
    exact gather_step hk arg14.view fG hg _ _ _ _
      (fun r hr h l => (congrArg (fun x => nrow (n := 4) (α := EReal) x r h l) (pay161_eq _)).trans
        (get_unit (Val := Elt Ideal) (e := .bf16) (m := 4) arg12.view f12 _ (congrArg (fun n : ℕ => (![n, 0, 0] : Fin 3 → ℕ)) (get_word arg5.view f5 _ (vec1 (word110 i k k0_h8)) _)) r hr h l))
      (fun r hr h l => (congrArg (fun x => nrow (n := 4) (α := EReal) x r h l) (pay162_eq _)).trans
        (get_unit (Val := Elt Ideal) (e := .bf16) (m := 4) arg12.view f12 _ (congrArg (fun n : ℕ => (![n, 0, 0] : Fin 3 → ℕ)) (get_word arg5.view f5 _ (vec1 (word113 i k k0_h8)) _)) r hr h l))
      (rows112 k) (rows115 k)

end Cert.Moe.KernelI.Value

end

end
-- ==== Proof.Body8.lean ====
/- Branch 8 of the body: a gather into the second staging buffer and the sums from the first. -/
module

public import proofs.«01_k».proof.Proof.KernelILoops
public import proofs.«01_k».proof.Proof.BodyKeep
public import proofs.«01_k».proof.Proof.Gather10
public import proofs.«01_k».proof.Proof.Sums
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 8 of the body. -/
theorem body8 (hn : kind (i 1).val = 8) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Wrote (4 * ·) (srcG (512 * ((i 1).val - 25)) (posP arg5 f5) (rowsX arg12 f12)) (rowsG arg14 f14) (rowsG arg14 f14') (DG 512) ∧ (∀ (t : Fin 512) (d : Fin 1024), arg11.view.read (Elt Ideal) f11' (ix2 t d) = sumAt (arg9.view.read (Elt Ideal) f9) (arg10.view.read (Elt Ideal) f10) (rowsG arg13 f13) t d) ∧ rowsX arg12 f12' = rowsX arg12 f12)) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 := k8.2 rfl
  have c9 : ¬ k0_cond9 i = 1#1 := fun h => absurd (k9.1 h) (by decide)
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  refine ⟨Wrote.exit (by decide) hL5, ?_, rfl⟩
  exact sum_step arg11.view f11 _ _ _ _ _ _ _ _ _ _ _ _ _ _ _ _ _
      (sum_lo arg9.view f9 arg10.view f10 arg13.view f13 0 (by decide) _ _ _ _ rfl rfl rfl)
      (sum_hi arg9.view f9 arg10.view f10 arg13.view f13 0 (by decide) _ _ _ _ rfl rfl rfl)
      (sum_lo arg9.view f9 arg10.view f10 arg13.view f13 1 (by decide) _ _ _ _ rfl rfl rfl)
      (sum_hi arg9.view f9 arg10.view f10 arg13.view f13 1 (by decide) _ _ _ _ rfl rfl rfl)
      (sum_lo arg9.view f9 arg10.view f10 arg13.view f13 2 (by decide) _ _ _ _ rfl rfl rfl)
      (sum_hi arg9.view f9 arg10.view f10 arg13.view f13 2 (by decide) _ _ _ _ rfl rfl rfl)
      (sum_lo arg9.view f9 arg10.view f10 arg13.view f13 3 (by decide) _ _ _ _ rfl rfl rfl)
      (sum_hi arg9.view f9 arg10.view f10 arg13.view f13 3 (by decide) _ _ _ _ rfl rfl rfl)

end Cert.Moe.KernelI.Value

end

end
-- ==== Proof.Body9.lean ====
/- Branch 9 of the body: the last sums. -/
module

public import proofs.«01_k».proof.Proof.KernelILoops
public import proofs.«01_k».proof.Proof.BodyKeep
public import proofs.«01_k».proof.Proof.Sums
public import Idealize.ShloMosaic.Lib.Pipeline.FrameBody
public import Idealize.ShloMosaic.Lib.Ring
public import Idealize.ShloMosaic.Lib.Tactic
public import Idealize.ShloMosaic.Lib.Claim
public import Idealize.ShloMosaic.Lib.Pipeline.Kit

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36 k0_chk37 k0_chk38 k0_chk39 k0_chk40 k0_chk41 k0_chk42 k0_chk43 k0_chk44 k0_chk45 k0_chk46 k0_chk47 k0_chk48 k0_chk49 k0_chk50 k0_chk51 k0_chk52 k0_chk53 k0_chk54

set_option maxHeartbeats 4000000 in
/-- Branch 9 of the body. -/
theorem body9 (hn : kind (i 1).val = 9) (f2 f3 f4 f5 f6 f7 f8 f9 f10 f11 f12 f13 f14) (hT : TabOk (F := Ideal) arg2 arg3 f2 f3) (hp : PosGood arg5 f5) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' ((∀ (t : Fin 512) (d : Fin 1024), arg11.view.read (Elt Ideal) f11' (ix2 t d) = sumAt (arg9.view.read (Elt Ideal) f9) (arg10.view.read (Elt Ideal) f10) (rowsG arg14 f14) t d))) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hcs := case_kind i
  obtain ⟨k1, k2, k3, k4, k5, k6, k7, k8, k9⟩ := hcs
  rw [hn] at k1 k2 k3 k4 k5 k6 k7 k8 k9
  have c1 : ¬ k0_cond1 i = 1#1 := fun h => absurd (k1.1 h) (by decide)
  have c2 : ¬ k0_cond2 i = 1#1 := fun h => absurd (k2.1 h) (by decide)
  have c3 : ¬ k0_cond3 i = 1#1 := fun h => absurd (k3.1 h) (by decide)
  have c4 : ¬ k0_cond4 i = 1#1 := fun h => absurd (k4.1 h) (by decide)
  have c5 : ¬ k0_cond5 i = 1#1 := fun h => absurd (k5.1 h) (by decide)
  have c6 : ¬ k0_cond6 i = 1#1 := fun h => absurd (k6.1 h) (by decide)
  have c7 : ¬ k0_cond7 i = 1#1 := fun h => absurd (k7.1 h) (by decide)
  have c8 : ¬ k0_cond8 i = 1#1 := fun h => absurd (k8.1 h) (by decide)
  have c9 := k9.2 rfl
  unfold HoldsV HoldsP
  iintro ⟨⟨H2, H3, H4, H5, H6, H7, H8, H9, H10, H11, H12, H13, H14⟩, Hk⟩
  simp only [cc0_moe_eq_skeleton]
  unfold cc0_moe_skel
  sl_exec (disch := first | sl_exact c1 | sl_exact c2 | sl_exact c3 | sl_exact c4 | sl_exact c5 | sl_exact c6 | sl_exact c7 | sl_exact c8 | sl_exact c9)
  sl_step
  iapply Hk
  iexists _
  iexists _
  iexists _
  iexists _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  exact sum_step arg11.view f11 _ _ _ _ _ _ _ _ _ _ _ _ _ _ _ _ _
      (sum_lo arg9.view f9 arg10.view f10 arg14.view f14 0 (by decide) _ _ _ _ rfl rfl rfl)
      (sum_hi arg9.view f9 arg10.view f10 arg14.view f14 0 (by decide) _ _ _ _ rfl rfl rfl)
      (sum_lo arg9.view f9 arg10.view f10 arg14.view f14 1 (by decide) _ _ _ _ rfl rfl rfl)
      (sum_hi arg9.view f9 arg10.view f10 arg14.view f14 1 (by decide) _ _ _ _ rfl rfl rfl)
      (sum_lo arg9.view f9 arg10.view f10 arg14.view f14 2 (by decide) _ _ _ _ rfl rfl rfl)
      (sum_hi arg9.view f9 arg10.view f10 arg14.view f14 2 (by decide) _ _ _ _ rfl rfl rfl)
      (sum_lo arg9.view f9 arg10.view f10 arg14.view f14 3 (by decide) _ _ _ _ rfl rfl rfl)
      (sum_hi arg9.view f9 arg10.view f10 arg14.view f14 3 (by decide) _ _ _ _ rfl rfl rfl)

end Cert.Moe.KernelI.Value

end

end
-- ==== Proof.Tokens.lean ====
/- What the slots and the two staging buffers hold before each step of a super block, and that each kind of step keeps it. -/
module

public import proofs.«01_k».proof.Proof.Packs
public import proofs.«01_k».proof.Proof.Sums
public import proofs.«01_k».proof.Proof.Experts
public import proofs.«01_k».proof.Proof.Words

@[expose] public section

set_option maxRecDepth 16384

noncomputable section

namespace Cert.Moe.KernelI.Value

open Idealize.ShloMosaic
open Cert.Moe

/-- The tables of one super block: where each expert's slots lie, the rows of each choice of a token, and the expert it names. -/
structure Layout (off cnt P ex : ℕ → ℕ) : Prop where
  apart : Apart P 16384
  quad : ∀ q, q < 16384 → P q % 4 = 0
  named : ∀ q, q < 16384 → ex q < 32
  inside : ∀ q, q < 16384 → off (ex q) ≤ P q / 4 ∧ P q / 4 < off (ex q) + cnt (ex q)
  ordered : ∀ e f, e < f → f < 32 → off e + cnt e ≤ off f

section
variable (M : ℕ → (ℕ → EReal) → ℕ → EReal) (H : Rows) (P ex : ℕ → ℕ)

/-- The result of a choice at entry `d`. -/
def result (q d : ℕ) : EReal := M (ex q) (col H (q % 8192)) d

/-- A staging buffer holds the 1024 hidden rows from `b` on. -/
def Tile (b : ℕ) (G : Rows) : Prop := ∀ t, t < 1024 → ∀ r, r < 4 → ∀ h l, G (4 * t + r) h l = H (4 * (b + t) + r) h l
/-- The first `n` tokens' hidden rows are at their slots. -/
def Scat (n : ℕ) (X : Rows) : Prop := ∀ q, q < 16384 → q % 8192 < n → ∀ r, r < 4 → ∀ h l, X (P q + r) h l = H (4 * (q % 8192) + r) h l
/-- The first `e` experts' slots hold results, the others hidden rows. -/
def Mix (e : ℕ) (X : Rows) : Prop := ∀ q, q < 16384 → ∀ r, r < 4 → ∀ (h : Fin 2) (l : Fin 128),
  X (P q + r) h l = if ex q < e then result M H ex q (256 * r + 128 * h.val + l.val) else H (4 * (q % 8192) + r) h l
/-- A staging buffer holds the two results of each of the 512 tokens from `b` on. -/
def Gath (b : ℕ) (G : Rows) : Prop := ∀ t, t < 512 → ∀ r, r < 4 → ∀ (h : Fin 2) (l : Fin 128),
  G (4 * t + r) h l = result M H ex (b + t) (256 * r + 128 * h.val + l.val) ∧ G (2048 + 4 * t + r) h l = result M H ex (8192 + b + t) (256 * r + 128 * h.val + l.val)

/-- What holds before step `j`. -/
def Inv (j : ℕ) (X A B : Rows) : Prop :=
  (1 ≤ j → j ≤ 8 → Tile H (1024 * (j - 1)) (if j % 2 = 1 then A else B) ∧ Scat H P (1024 * (j - 1)) X)
    ∧ (9 ≤ j → j ≤ 25 → Mix M H P ex (2 * (j - 9)) X) ∧ (25 ≤ j → j ≤ 41 → Mix M H P ex 32 X)
    ∧ (26 ≤ j → j ≤ 41 → Gath M H ex (512 * (j - 26)) (if j % 2 = 0 then A else B))

theorem Inv.start (X A B : Rows) : Inv M H P ex 0 X A B := ⟨fun h => by omega, fun h => by omega, fun h => by omega, fun h => by omega⟩
theorem Inv.finish (X A B : Rows) : Inv M H P ex 42 X A B := ⟨fun _ h => by omega, fun _ h => by omega, fun _ h => by omega, fun _ h => by omega⟩

end

variable {M : ℕ → (ℕ → EReal) → ℕ → EReal} {H : Rows} {off cnt P ex : ℕ → ℕ}

theorem scat_step {b : ℕ} {G X X' : Rows} (hb : b + 1024 ≤ 8192) (hA : Apart P 16384) (hG : Tile H b G) (hX : Scat H P b X)
    (hw : Wrote P (srcS b G) X X' (DS b 512)) : Scat H P (b + 1024) X' := by
  intro q hq hn r hr h l
  by_cases hqb : q % 8192 < b
  · rw [hw.2 (P q + r) h l ?_]
    · exact hX q hq hqb r hr h l
    · rintro q' ⟨t, ht, h'⟩
      have hlt : q' < 16384 := by omega
      have hne : q ≠ q' := by intro e; subst e; omega
      have := hA q q' hq hlt hne
      omega
  · rw [hw.1 q ⟨q % 8192 - b, by omega, by omega⟩ r hr h l]
    unfold srcS
    rw [hG (q % 8192 - b) (by omega) r hr, show b + (q % 8192 - b) = q % 8192 by omega]

theorem mix_zero {X : Rows} (hX : Scat H P 8192 X) : Mix M H P ex 0 X := by
  intro q hq r hr h l
  rw [if_neg (Nat.not_lt_zero _)]
  exact hX q hq (by omega) r hr h l

theorem mix_step (hL : Layout off cnt P ex) (hM : ∀ e x y, (∀ c, c < 1024 → x c = y c) → M e x = M e y) {e : ℕ} (he : e < 32) {X X' : Rows}
    (hX : Mix M H P ex e X) (hw : X' = Expert (M e) (off e) (cnt e) X) : Mix M H P ex (e + 1) X' := by
  subst hw
  intro q hq r hr h l
  have hqd := hL.quad q hq
  have hin := hL.inside q hq
  have hnm := hL.named q hq
  have hd : (P q + r) / 4 = P q / 4 := by omega
  have hmod : (P q + r) % 4 = r := by omega
  unfold Expert
  rw [hd, hmod]
  rcases lt_trichotomy (ex q) e with hlt | heq | hgt
  · have := hL.ordered _ _ hlt he
    rw [if_neg (by omega), hX q hq r hr h l, if_pos hlt, if_pos (by omega)]
  · subst heq
    rw [if_pos hin, if_pos (by omega)]
    unfold result
    refine congrFun (hM _ _ _ fun c hc => ?_) _
    unfold col
    rw [show 4 * (P q / 4) = P q by omega, hX q hq (c / 256) (by omega), if_neg (by omega)]
  · have := hL.ordered _ _ hgt hnm
    rw [if_neg (by omega), hX q hq r hr h l, if_neg (by omega), if_neg (by omega)]

theorem gath_step (hL : Layout off cnt P ex) {b : ℕ} {X A A' : Rows} (hb : b + 512 ≤ 8192) (hX : Mix M H P ex 32 X) (hw : Wrote (4 * ·) (srcG b P X) A A' (DG 512)) : Gath M H ex b A' := by
  intro t ht r hr h l
  constructor
  · have h1 := hw.1 t (Or.inl ht) r hr h l
    dsimp only at h1
    rw [h1]
    unfold srcG
    rw [if_pos ht, hX (b + t) (by omega) r hr, if_pos (hL.named _ (by omega))]
  · have h1 := hw.1 (512 + t) (Or.inr ⟨by omega, by omega⟩) r hr h l
    dsimp only at h1
    rw [show 2048 + 4 * t + r = 4 * (512 + t) + r by omega, h1]
    unfold srcG
    rw [if_neg (by omega), show 8192 + b + (512 + t - 512) = 8192 + b + t by omega, hX (8192 + b + t) (by omega) r hr, if_pos (hL.named _ (by omega))]

/-- The sum of a token whose two results are gathered. -/
theorem sum_gath {b : ℕ} {G : Rows} (hG : Gath M H ex b G) (x w) (t : Fin 512) (d : Fin 1024) :
    sumAt x w G t d = (x (ix2 t d) + w (ix2 2 t) * result M H ex (b + t.val) d.val) + w (ix2 3 t) * result M H ex (8192 + b + t.val) d.val := by
  unfold sumAt
  obtain ⟨h1, h2⟩ := hG t.val t.isLt (d.val / 256) (by omega) ⟨d.val % 256 / 128, by omega⟩ ⟨d.val % 128, by omega⟩
  rw [h1, h2]
  dsimp only
  rw [show 256 * (d.val / 256) + 128 * (d.val % 256 / 128) + d.val % 128 = d.val by omega]

theorem tile_of {s j : ℕ} {hid : ℕ → ℕ → EReal} {G : Rows} {x : (⟨2, ![1024, 1024]⟩ : Shape).Idx → EReal} (hp : Packed G x)
    (hH : ∀ a h l, H a h l = hid (8192 * s + a / 4) (256 * (a % 4) + 128 * h.val + l.val)) (hx : ∀ t d : Fin 1024, x (ix2 t d) = hid (8192 * s + 1024 * j + t.val) d.val) : Tile H (1024 * j) G := by
  intro t ht r hr h l
  have h0 := hp ⟨t, ht⟩ r hr h l
  dsimp only at h0
  rw [h0, hx, hH]
  dsimp only
  rw [show (4 * (1024 * j + t) + r) / 4 = 1024 * j + t by omega, show (4 * (1024 * j + t) + r) % 4 = r by omega, Nat.add_assoc]

/-! Each kind of step. -/

theorem kind1 {j : ℕ} (hj : j < 42) (h : kind j = 1) : j = 0 := by unfold kind at h; split_ifs at h <;> omega
theorem kind2 {j : ℕ} (hj : j < 42) (h : kind j = 2) : 1 ≤ j ∧ j < 8 ∧ j % 2 = 0 := by unfold kind at h; split_ifs at h <;> omega
theorem kind3 {j : ℕ} (hj : j < 42) (h : kind j = 3) : 1 ≤ j ∧ j < 8 ∧ j % 2 = 1 := by unfold kind at h; split_ifs at h <;> omega
theorem kind4 {j : ℕ} (hj : j < 42) (h : kind j = 4) : j = 8 := by unfold kind at h; split_ifs at h <;> omega
theorem kind5 {j : ℕ} (hj : j < 42) (h : kind j = 5) : 9 ≤ j ∧ j < 25 := by unfold kind at h; split_ifs at h <;> omega
theorem kind6 {j : ℕ} (hj : j < 42) (h : kind j = 6) : j = 25 := by unfold kind at h; split_ifs at h <;> omega
theorem kind7 {j : ℕ} (hj : j < 42) (h : kind j = 7) : 26 ≤ j ∧ j < 41 ∧ j % 2 = 1 := by unfold kind at h; split_ifs at h <;> omega
theorem kind8 {j : ℕ} (hj : j < 42) (h : kind j = 8) : 26 ≤ j ∧ j < 41 ∧ j % 2 = 0 := by unfold kind at h; split_ifs at h <;> omega
theorem kind9 {j : ℕ} (hj : j < 42) (h : kind j = 9) : j = 41 := by unfold kind at h; split_ifs at h <;> omega

theorem inv1 {j : ℕ} (hj : j < 42) (hk : kind j = 1) {X' A' B' : Rows} (ht : Tile H (1024 * j) A') : Inv M H P ex (j + 1) X' A' B' := by
  obtain rfl := kind1 hj hk
  refine ⟨fun _ _ => ⟨?_, fun q _ h => by omega⟩, fun h => by omega, fun h => by omega, fun h => by omega⟩
  rw [if_pos (by decide)]; exact ht

theorem inv2 {j : ℕ} (hj : j < 42) (hk : kind j = 2) (hA : Apart P 16384) {X A B X' A' B' : Rows} (hI : Inv M H P ex j X A B) (ht : Tile H (1024 * j) A')
    (hw : Wrote P (srcS (1024 * (j - 1)) B) X X' (DS (1024 * (j - 1)) 512)) : Inv M H P ex (j + 1) X' A' B' := by
  obtain ⟨h1, h2, h3⟩ := kind2 hj hk
  obtain ⟨g1, g2⟩ := hI.1 h1 (by omega)
  rw [if_neg (by omega)] at g1
  have := scat_step (by omega) hA g1 g2 hw
  refine ⟨fun _ _ => ⟨?_, ?_⟩, fun h => by omega, fun h => by omega, fun h => by omega⟩
  · rw [if_pos (by omega)]; exact ht
  · rw [show 1024 * (j + 1 - 1) = 1024 * (j - 1) + 1024 by omega]; exact this

theorem inv3 {j : ℕ} (hj : j < 42) (hk : kind j = 3) (hA : Apart P 16384) {X A B X' A' B' : Rows} (hI : Inv M H P ex j X A B) (ht : Tile H (1024 * j) B')
    (hw : Wrote P (srcS (1024 * (j - 1)) A) X X' (DS (1024 * (j - 1)) 512)) : Inv M H P ex (j + 1) X' A' B' := by
  obtain ⟨h1, h2, h3⟩ := kind3 hj hk
  obtain ⟨g1, g2⟩ := hI.1 h1 (by omega)
  rw [if_pos (by omega)] at g1
  have := scat_step (by omega) hA g1 g2 hw
  refine ⟨fun _ _ => ⟨?_, ?_⟩, fun h => by omega, fun h => by omega, fun h => by omega⟩
  · rw [if_neg (by omega)]; exact ht
  · rw [show 1024 * (j + 1 - 1) = 1024 * (j - 1) + 1024 by omega]; exact this

theorem inv4 {j : ℕ} (hj : j < 42) (hk : kind j = 4) (hA : Apart P 16384) {X A B X' A' B' : Rows} (hI : Inv M H P ex j X A B)
    (hw : Wrote P (srcS 7168 B) X X' (DS 7168 512)) : Inv M H P ex (j + 1) X' A' B' := by
  obtain rfl := kind4 hj hk
  obtain ⟨g1, g2⟩ := hI.1 (by decide) (by decide)
  rw [if_neg (by decide)] at g1
  have := scat_step (by decide) hA g1 g2 hw
  exact ⟨fun _ h => by omega, fun _ _ => mix_zero this, fun h => by omega, fun h => by omega⟩

theorem inv5 (hL : Layout off cnt P ex) (hM : ∀ e x y, (∀ c, c < 1024 → x c = y c) → M e x = M e y) {j : ℕ} (hj : j < 42) (hk : kind j = 5) {X A B X' A' B' : Rows} (hI : Inv M H P ex j X A B)
    (hw : X' = Expert (M (2 * (j - 9) + 1)) (off (2 * (j - 9) + 1)) (cnt (2 * (j - 9) + 1)) (Expert (M (2 * (j - 9))) (off (2 * (j - 9))) (cnt (2 * (j - 9))) X)) : Inv M H P ex (j + 1) X' A' B' := by
  obtain ⟨h1, h2⟩ := kind5 hj hk
  have g := mix_step hL hM (by omega) (mix_step hL hM (by omega) (hI.2.1 h1 (by omega)) rfl) hw
  rw [show 2 * (j - 9) + 1 + 1 = 2 * (j + 1 - 9) by omega] at g
  refine ⟨fun _ h => by omega, fun _ _ => g, fun h _ => ?_, fun h => by omega⟩
  rw [show 2 * (j + 1 - 9) = 32 by omega] at g
  exact g

theorem inv6 (hL : Layout off cnt P ex) {j : ℕ} (hj : j < 42) (hk : kind j = 6) {X A B X' A' B' : Rows} (hI : Inv M H P ex j X A B)
    (hw : Wrote (4 * ·) (srcG 0 P X) A A' (DG 512)) (hX : X' = X) : Inv M H P ex (j + 1) X' A' B' := by
  obtain rfl := kind6 hj hk
  subst hX
  have g := hI.2.2.1 (by decide) (by decide)
  exact ⟨fun _ h => by omega, fun _ h => by omega, fun _ _ => g, fun _ _ => gath_step hL (by decide) g hw⟩

theorem inv7 (hL : Layout off cnt P ex) {j : ℕ} (hj : j < 42) (hk : kind j = 7) {X A B X' A' B' : Rows} (hI : Inv M H P ex j X A B)
    (hw : Wrote (4 * ·) (srcG (512 * (j - 25)) P X) A A' (DG 512)) (hX : X' = X) : Gath M H ex (512 * (j - 26)) B ∧ Inv M H P ex (j + 1) X' A' B' := by
  obtain ⟨h1, h2, h3⟩ := kind7 hj hk
  subst hX
  have g := hI.2.2.1 (by omega) (by omega)
  have g' := hI.2.2.2 h1 (by omega)
  rw [if_neg (by omega)] at g'
  refine ⟨g', fun _ h => by omega, fun _ h => by omega, fun _ _ => g, fun _ _ => ?_⟩
  rw [if_pos (by omega), show 512 * (j + 1 - 26) = 512 * (j - 25) by omega]
  exact gath_step hL (by omega) g hw

theorem inv8 (hL : Layout off cnt P ex) {j : ℕ} (hj : j < 42) (hk : kind j = 8) {X A B X' A' B' : Rows} (hI : Inv M H P ex j X A B)
    (hw : Wrote (4 * ·) (srcG (512 * (j - 25)) P X) B B' (DG 512)) (hX : X' = X) : Gath M H ex (512 * (j - 26)) A ∧ Inv M H P ex (j + 1) X' A' B' := by
  obtain ⟨h1, h2, h3⟩ := kind8 hj hk
  subst hX
  have g := hI.2.2.1 (by omega) (by omega)
  have g' := hI.2.2.2 h1 (by omega)
  rw [if_pos (by omega)] at g'
  refine ⟨g', fun _ h => by omega, fun _ h => by omega, fun _ _ => g, fun _ _ => ?_⟩
  rw [if_neg (by omega), show 512 * (j + 1 - 26) = 512 * (j - 25) by omega]
  exact gath_step hL (by omega) g hw

theorem inv9 {j : ℕ} (hj : j < 42) (hk : kind j = 9) {X A B X' A' B' : Rows} (hI : Inv M H P ex j X A B) : Gath M H ex (512 * (j - 26)) B ∧ Inv M H P ex (j + 1) X' A' B' := by
  obtain rfl := kind9 hj hk
  have g' := hI.2.2.2 (by decide) (by decide)
  rw [if_neg (by decide)] at g'
  exact ⟨g', Inv.finish M H P ex X' A' B'⟩

end Cert.Moe.KernelI.Value

end

end
-- ==== Proof.BodyAll.lean ====
/- One call of the body: the invariant before a step gives the invariant after it, and the output's block once there is one. -/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6
public import proofs.«01_k».proof.Proof.Body7
public import proofs.«01_k».proof.Proof.Body8
public import proofs.«01_k».proof.Proof.Body9
public import proofs.«01_k».proof.Proof.Tokens
public import proofs.«01_k».proof.Proof.KernelIOwned

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelI Cert.KernelI.Gen Cert.Moe Cert.Moe.KernelI

/-- What a step is told of its tables and its input blocks. -/
structure Step (i : grid0.Coords) (M : ℕ → (ℕ → EReal) → ℕ → EReal) (H : Rows) (P ex off cnt : ℕ → ℕ) (O : Fin 512 → Fin 1024 → EReal)
    (x2 x3 : Vec Ideal S64 .i32) (x4 : Vec Ideal S1024x1024 .bf16) (x5 : Vec Ideal S16384 .i32) (x6 x7 : Vec Ideal S2x1024x256 .bf16) (x8 : Vec Ideal S2x256x1024 .bf16)
    (x9 : Vec Ideal S512x1024 .f32) (x10 : Vec Ideal S8x512 .f32) : Prop where
  early : (i 1).val < 42
  lay : Layout off cnt P ex
  same : ∀ e x y, (∀ c, c < 1024 → x c = y c) → M e x = M e y
  pos : nword (m := 16384) x5 = P
  offs : ∀ e, e < 32 → nword (m := 64) x2 (32 * (i 0).val + e) = off e
  cnts : ∀ e, e < 32 → nword (m := 64) x3 (32 * (i 0).val + e) = cnt e
  tile : (i 1).val < 8 → ∀ G, Packed G x4 → Tile H (1024 * (i 1).val) G
  expert0 : 9 ≤ (i 1).val → (i 1).val < 25 → mlp (wide3 (A := 1024) (B := 256) x6 0) (wide3 (A := 1024) (B := 256) x7 0) (wide3 (A := 256) (B := 1024) x8 0) = M (2 * ((i 1).val - 9))
  expert1 : 9 ≤ (i 1).val → (i 1).val < 25 → mlp (wide3 (A := 1024) (B := 256) x6 1) (wide3 (A := 1024) (B := 256) x7 1) (wide3 (A := 256) (B := 1024) x8 1) = M (2 * ((i 1).val - 9) + 1)
  out : 26 ≤ (i 1).val → ∀ G, Gath M H ex (512 * ((i 1).val - 26)) G → ∀ t d, sumAt x9 x10 G t d = O t d

variable (c : Dev nD) (i : grid0.Coords)
  (arg2 : Memref sig .tc .smem S64 .i32) (harg2 : arg2.IsWhole) (arg3 : Memref sig .tc .smem S64 .i32) (harg3 : arg3.IsWhole)
  (arg4 : Memref sig .tc .vmem S1024x1024 .bf16) (harg4 : arg4.IsWhole) (arg5 : Memref sig .tc .smem S16384 .i32) (harg5 : arg5.IsWhole)
  (arg6 : Memref sig .tc .vmem S2x1024x256 .bf16) (harg6 : arg6.IsWhole) (arg7 : Memref sig .tc .vmem S2x1024x256 .bf16) (harg7 : arg7.IsWhole)
  (arg8 : Memref sig .tc .vmem S2x256x1024 .bf16) (harg8 : arg8.IsWhole) (arg9 : Memref sig .tc .vmem S512x1024 .f32) (harg9 : arg9.IsWhole)
  (arg10 : Memref sig .tc .vmem S8x512 .f32) (harg10 : arg10.IsWhole) (arg11 : Memref sig .tc .vmem S512x1024 .f32) (harg11 : arg11.IsWhole)
  (arg12 : Memref sig .tc .vmem S67968x2x128 .bf16) (harg12 : arg12.IsWhole) (arg13 : Memref sig .tc .vmem S4096x2x128 .bf16) (harg13 : arg13.IsWhole)
  (arg14 : Memref sig .tc .vmem S4096x2x128 .bf16) (harg14 : arg14.IsWhole)

theorem holds_imp (f2 f3 f4 f5 f6 f7 f8 f9 f10 f11 f12 f13 f14) {S S' : Prop} (h : S → S') : HoldsP c arg2 arg3 arg4 arg5 arg6 arg7 arg8 arg9 arg10 arg11 arg12 arg13 arg14 f2 f3 f4 f5 f6 f7 f8 f9 f10 f11 f12 f13 f14 S ⊢ HoldsP c arg2 arg3 arg4 arg5 arg6 arg7 arg8 arg9 arg10 arg11 arg12 arg13 arg14 f2 f3 f4 f5 f6 f7 f8 f9 f10 f11 f12 f13 f14 S' := by
  unfold HoldsP
  iintro ⟨H2, H3, H4, H5, H6, H7, H8, H9, H10, H11, H12, H13, H14, %hs⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro; exact h hs

variable {M : ℕ → (ℕ → EReal) → ℕ → EReal} {H : Rows} {P ex off cnt : ℕ → ℕ} {O : Fin 512 → Fin 1024 → EReal}

set_option maxHeartbeats 1000000 in
theorem body_all (f2 f3 f4 f5 f6 f7 f8 f9 f10 f11 f12 f13 f14) (hS : Step i M H P ex off cnt O (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10))
    (hT : TabOk (F := Ideal) arg2 arg3 f2 f3) (hr : PosOk arg5 f5) (hI : Inv M H P ex (i 1).val (rowsX arg12 f12) (rowsG arg13 f13) (rowsG arg14 f14)) (K : Unit → sProp (MM Ideal)) :
    iprop(HoldsV c arg2 arg3 arg4 arg5 arg6 arg7 arg8 arg9 arg10 arg11 arg12 arg13 arg14 f2 f3 f4 f5 f6 f7 f8 f9 f10 f11 f12 f13 f14
        ∗ ((∃ f11' f12' f13' f14', HoldsP c arg2 arg3 arg4 arg5 arg6 arg7 arg8 arg9 arg10 arg11 arg12 arg13 arg14 f2 f3 f4 f5 f6 f7 f8 f9 f10 f11' f12' f13' f14' (Inv M H P ex ((i 1).val + 1) (rowsX arg12 f12') (rowsG arg13 f13') (rowsG arg14 f14') ∧ (26 ≤ (i 1).val → ∀ t d, arg11.view.read (Elt Ideal) f11' (ix2 t d) = O t d))) -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  have hj := hS.early
  have hL := hS.lay
  have hpos : posP arg5 f5 = P := hS.pos
  have hp : PosGood arg5 f5 := ⟨hr, by
    have h := hL.apart
    rw [← hpos] at h
    exact h⟩
  iintro ⟨H, Hk⟩
  have hk := kind_range (j := (i 1).val)
  simp only [List.mem_cons, List.not_mem_nil, or_false] at hk
  rcases hk with hn | hn | hn | hn | hn | hn | hn | hn | hn
  · have hx := kind1 hj hn
    iapply (body1 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Packed (rowsG arg13 p) (arg4.view.read (Elt Ideal) f4))) (fun h => ⟨inv1 hj hn (hS.tile (by omega) _ h), fun h' => by omega⟩))
    iexact H
  · have hx := kind2 hj hn
    iapply (body2 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Packed (rowsG arg13 p) (arg4.view.read (Elt Ideal) f4) ∧ Wrote (posP arg5 f5) (srcS (1024 * ((i 1).val - 1)) (rowsG arg14 f14)) (rowsX arg12 f12) (rowsX arg12 b) (DS (1024 * ((i 1).val - 1)) 512) ∧ rowsG arg14 q = rowsG arg14 f14)) (fun h => ⟨inv2 hj hn hL.apart hI (hS.tile (by omega) _ h.1) (by rw [← hpos]; exact h.2.1), fun h' => by omega⟩))
    iexact H
  · have hx := kind3 hj hn
    iapply (body3 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Packed (rowsG arg14 q) (arg4.view.read (Elt Ideal) f4) ∧ Wrote (posP arg5 f5) (srcS (1024 * ((i 1).val - 1)) (rowsG arg13 f13)) (rowsX arg12 f12) (rowsX arg12 b) (DS (1024 * ((i 1).val - 1)) 512) ∧ rowsG arg13 p = rowsG arg13 f13)) (fun h => ⟨inv3 hj hn hL.apart hI (hS.tile (by omega) _ h.1) (by rw [← hpos]; exact h.2.1), fun h' => by omega⟩))
    iexact H
  · have hx := kind4 hj hn
    iapply (body4 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Wrote (posP arg5 f5) (srcS 7168 (rowsG arg14 f14)) (rowsX arg12 f12) (rowsX arg12 b) (DS 7168 512))) (fun h => ⟨inv4 hj hn hL.apart hI (by rw [← hpos]; exact h), fun h' => by omega⟩))
    iexact H
  · have hx := kind5 hj hn
    iapply (body5 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (rowsX arg12 b = Expert (mlp (wide3 (A := 1024) (B := 256) (arg6.view.read (Elt Ideal) f6) 1) (wide3 (A := 1024) (B := 256) (arg7.view.read (Elt Ideal) f7) 1) (wide3 (A := 256) (B := 1024) (arg8.view.read (Elt Ideal) f8) 1)) (nword (m := 64) (arg2.view.read (Elt Ideal) f2) (32 * (i 0).val + 2 * ((i 1).val - 9) + 1)) (nword (m := 64) (arg3.view.read (Elt Ideal) f3) (32 * (i 0).val + 2 * ((i 1).val - 9) + 1)) (Expert (mlp (wide3 (A := 1024) (B := 256) (arg6.view.read (Elt Ideal) f6) 0) (wide3 (A := 1024) (B := 256) (arg7.view.read (Elt Ideal) f7) 0) (wide3 (A := 256) (B := 1024) (arg8.view.read (Elt Ideal) f8) 0)) (nword (m := 64) (arg2.view.read (Elt Ideal) f2) (32 * (i 0).val + 2 * ((i 1).val - 9))) (nword (m := 64) (arg3.view.read (Elt Ideal) f3) (32 * (i 0).val + 2 * ((i 1).val - 9))) (rowsX arg12 f12)))) (fun h => ⟨inv5 hL hS.same hj hn hI (by rw [← hS.expert0 (by omega) (by omega), ← hS.expert1 (by omega) (by omega), ← hS.offs _ (by omega), ← hS.offs _ (by omega), ← hS.cnts _ (by omega), ← hS.cnts _ (by omega)]; exact h), fun h' => by omega⟩))
    iexact H
  · have hx := kind6 hj hn
    iapply (body6 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Wrote (4 * ·) (srcG 0 (posP arg5 f5) (rowsX arg12 f12)) (rowsG arg13 f13) (rowsG arg13 p) (DG 512) ∧ rowsX arg12 b = rowsX arg12 f12)) (fun h => ⟨inv6 hL hj hn hI (by rw [← hpos]; exact h.1) h.2, fun h' => by omega⟩))
    iexact H
  · have hx := kind7 hj hn
    iapply (body7 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Wrote (4 * ·) (srcG (512 * ((i 1).val - 25)) (posP arg5 f5) (rowsX arg12 f12)) (rowsG arg13 f13) (rowsG arg13 p) (DG 512) ∧ (∀ (t : Fin 512) (d : Fin 1024), arg11.view.read (Elt Ideal) a (ix2 t d) = sumAt (arg9.view.read (Elt Ideal) f9) (arg10.view.read (Elt Ideal) f10) (rowsG arg14 f14) t d) ∧ rowsX arg12 b = rowsX arg12 f12)) (fun h => have g := inv7 hL hj hn hI (by rw [← hpos]; exact h.1) h.2.2; ⟨g.2, fun h' t d => (h.2.1 t d).trans (hS.out h' _ g.1 t d)⟩))
    iexact H
  · have hx := kind8 hj hn
    iapply (body8 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := (Wrote (4 * ·) (srcG (512 * ((i 1).val - 25)) (posP arg5 f5) (rowsX arg12 f12)) (rowsG arg14 f14) (rowsG arg14 q) (DG 512) ∧ (∀ (t : Fin 512) (d : Fin 1024), arg11.view.read (Elt Ideal) a (ix2 t d) = sumAt (arg9.view.read (Elt Ideal) f9) (arg10.view.read (Elt Ideal) f10) (rowsG arg13 f13) t d) ∧ rowsX arg12 b = rowsX arg12 f12)) (fun h => have g := inv8 hL hj hn hI (by rw [← hpos]; exact h.1) h.2.2; ⟨g.2, fun h' t d => (h.2.1 t d).trans (hS.out h' _ g.1 t d)⟩))
    iexact H
  · have hx := kind9 hj hn
    iapply (body9 c i arg2 harg2 arg3 harg3 arg4 harg4 arg5 harg5 arg6 harg6 arg7 harg7 arg8 harg8 arg9 harg9 arg10 harg10 arg11 harg11 arg12 harg12 arg13 harg13 arg14 harg14 hn f2 f3 f4 f5 f6 f7 f8 f9 f10 f11 f12 f13 f14 hT hp K)
    isplitl [H]; · iexact H
    iintro ⟨%a, %b, %p, %q, H⟩
    iapply Hk
    iexists a, b, p, q
    iapply (holds_imp c arg2 arg3 arg4 arg5 arg6 arg7 arg8 arg9 arg10 arg11 arg12 arg13 arg14 f2 f3 f4 f5 f6 f7 f8 f9 f10 a b p q (S := ((∀ (t : Fin 512) (d : Fin 1024), arg11.view.read (Elt Ideal) a (ix2 t d) = sumAt (arg9.view.read (Elt Ideal) f9) (arg10.view.read (Elt Ideal) f10) (rowsG arg14 f14) t d))) (fun h => have g := inv9 hj hn hI; ⟨g.2, fun h' t d => (h t d).trans (hS.out h' _ g.1 t d)⟩))
    iexact H

/-- What the body holds, by what is read through it; the slots and the staging buffers with the invariant at `j`. -/
def Held (j : ℕ) (M : ℕ → (ℕ → EReal) → ℕ → EReal) (H : Rows) (P ex : ℕ → ℕ) (S : Vec Ideal S512x1024 .f32 → Prop)
    (f2 : Buf (Elt Ideal) (arg2.view.loc (c : Thread nD τ))) (f3 : Buf (Elt Ideal) (arg3.view.loc (c : Thread nD τ)))
    (x4 : Vec Ideal S1024x1024 .bf16) (x5 : Vec Ideal S16384 .i32) (x6 x7 : Vec Ideal S2x1024x256 .bf16) (x8 : Vec Ideal S2x256x1024 .bf16)
    (x9 : Vec Ideal S512x1024 .f32) (x10 : Vec Ideal S8x512 .f32) : sProp (MM Ideal) :=
  iprop((arg2.view.loc (c : Thread nD τ) ↦{fullShare.right} f2) ∗ (arg3.view.loc (c : Thread nD τ) ↦{fullShare.right} f3)
    ∗ owns (c : Thread nD τ) arg4 fullShare x4 ∗ owns (c : Thread nD τ) arg5 fullShare x5 ∗ owns (c : Thread nD τ) arg6 fullShare x6 ∗ owns (c : Thread nD τ) arg7 fullShare x7
    ∗ owns (c : Thread nD τ) arg8 fullShare x8 ∗ owns (c : Thread nD τ) arg9 fullShare x9 ∗ owns (c : Thread nD τ) arg10 fullShare x10
    ∗ (∃ d, ⌜S d⌝ ∗ owns (c : Thread nD τ) arg11 fullShare d)
    ∗ (∃ (X : Vec Ideal S67968x2x128 .bf16) (A B : Vec Ideal S4096x2x128 .bf16), ⌜Inv M H P ex j (nrow (n := 67968) (α := EReal) X) (nrow (n := 4096) (α := EReal) A) (nrow (n := 4096) (α := EReal) B)⌝
        ∗ owns (c : Thread nD τ) arg12 fullShare X ∗ owns (c : Thread nD τ) arg13 fullShare A ∗ owns (c : Thread nD τ) arg14 fullShare B))

set_option maxHeartbeats 1000000 in
theorem body_held (f2 f3 x4 x5 x6 x7 x8 x9 x10) (hS : Step i M H P ex off cnt O (arg2.view.read (Elt Ideal) f2) (arg3.view.read (Elt Ideal) f3) x4 x5 x6 x7 x8 x9 x10)
    (hT : TabOk (F := Ideal) arg2 arg3 f2 f3) (hr : ∀ y, Row (x5 y)) (K : Unit → sProp (MM Ideal)) :
    iprop(Held c arg2 arg3 arg4 arg5 arg6 arg7 arg8 arg9 arg10 arg11 arg12 arg13 arg14 ((i 1).val) M H P ex (fun _ => True) f2 f3 x4 x5 x6 x7 x8 x9 x10
        ∗ (Held c arg2 arg3 arg4 arg5 arg6 arg7 arg8 arg9 arg10 arg11 arg12 arg13 arg14 ((i 1).val + 1) M H P ex (fun d => 26 ≤ (i 1).val → ∀ t e, d (ix2 t e) = O t e) f2 f3 x4 x5 x6 x7 x8 x9 x10 -∗ K ⟨⟩))
      ⊢ wp Idealize.ShloMosaic.frame (wpE (defs₀ (F := Ideal)) Variants.none (c : Thread nD τ) none) Set.univ
          (cc0_moe (F := Ideal) i arg2 harg2 arg3 harg3 arg4 harg4 arg5 harg5 arg6 harg6 arg7 harg7 arg8 harg8 arg9 harg9 arg10 harg10 arg11 harg11 arg12 harg12 arg13 harg13 arg14 harg14) K := by
  unfold Held
  simp only [owns_eq c arg4 harg4, owns_eq c arg5 harg5, owns_eq c arg6 harg6, owns_eq c arg7 harg7, owns_eq c arg8 harg8, owns_eq c arg9 harg9, owns_eq c arg10 harg10, owns_eq c arg11 harg11, owns_eq c arg12 harg12, owns_eq c arg13 harg13, owns_eq c arg14 harg14]
  iintro ⟨⟨H2, H3, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, -, %f11, %h11, H11⟩, ⟨%X, %A, %B, %hI, ⟨%f12, %h12, H12⟩, ⟨%f13, %h13, H13⟩, ⟨%f14, %h14, H14⟩⟩⟩, Hk⟩
  subst h4 h5 h6 h7 h8 h9 h10 h12 h13 h14
  iapply (body_all c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 hS hT hr hI K)
  unfold HoldsV HoldsP
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨%f11', %f12', %f13', %f14', H2, H3, H4, H5, H6, H7, H8, H9, H10, H11, H12, H13, H14, %hg⟩
  iapply Hk
  isplitl [H2]; · iexact H2
  isplitl [H3]; · iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists (arg11.view.read (Elt Ideal) f11'); isplitr; · ipureintro; exact hg.2
    iexists f11'; isplitr; · ipureintro; rfl
    iexact H11
  iexists (arg12.view.read (Elt Ideal) f12'), (arg13.view.read (Elt Ideal) f13'), (arg14.view.read (Elt Ideal) f14')
  isplitr; · ipureintro; exact hg.1
  isplitl [H12]
  · iexists f12'; isplitr; · ipureintro; rfl
    iexact H12
  isplitl [H13]
  · iexists f13'; isplitr; · ipureintro; rfl
    iexact H13
  iexists f14'; isplitr; · ipureintro; rfl
  iexact H14

end Cert.Moe.KernelI.Value

end

end
-- ==== Proof.Spec.lean ====
/- The layer's result at one entry: the residual and the two weighted results of the experts the routing names. -/
module

public import proofs.«01_k».proof.Proof.Experts

@[expose] public section

set_option maxRecDepth 16384

noncomputable section

namespace Cert.Moe.KernelI.Value

open Idealize.ShloMosaic
open Idealize.ShloMosaic.ValueIdx hiding ix2 ix3
open Cert.KernelI Cert.KernelI.Gen Cert.Moe Cert.Moe.KernelI
open Finset (range)

/-- Expert `e`'s matrix of a stack of 32. -/
def mat {A B : ℕ} (x : (⟨3, ![32, A, B]⟩ : Shape).Idx → EReal) (e c k : ℕ) : EReal :=
  if h : e < 32 ∧ c < A ∧ k < B then x (ix3 ⟨e, h.1⟩ ⟨c, h.2.1⟩ ⟨k, h.2.2⟩) else 0

theorem mat_at {A B : ℕ} (x : (⟨3, ![32, A, B]⟩ : Shape).Idx → EReal) (e : Fin 32) (c : Fin A) (k : Fin B) : mat x e.val c.val k.val = x (ix3 e c k) := by
  unfold mat; rw [dif_pos ⟨e.isLt, c.isLt, k.isLt⟩]

/-- Entry `c` of token `n`'s hidden row. -/
def hid (x : (⟨2, ![16384, 1024]⟩ : Shape).Idx → EReal) (n c : ℕ) : EReal := if h : n < 16384 ∧ c < 1024 then x (ix2 ⟨n, h.1⟩ ⟨c, h.2⟩) else 0

theorem hid_at (x : (⟨2, ![16384, 1024]⟩ : Shape).Idx → EReal) (n : Fin 16384) (c : Fin 1024) : hid x n.val c.val = x (ix2 n c) := by
  unfold hid; rw [dif_pos ⟨n.isLt, c.isLt⟩]

theorem mlp_congr (Wg Wu Wd : ℕ → ℕ → EReal) {x y : ℕ → EReal} (h : ∀ c, c < 1024 → x c = y c) : mlp Wg Wu Wd x = mlp Wg Wu Wd y := by
  have e : ∀ W : ℕ → ℕ → EReal, ∀ k, (∑ c ∈ range 1024, x c * W c k) = ∑ c ∈ range 1024, y c * W c k := fun W k =>
    Finset.sum_congr rfl fun c hc => by rw [h c (Finset.mem_range.mp hc)]
  funext d
  unfold mlp
  refine Finset.sum_congr rfl fun k _ => ?_
  unfold unitOf
  rw [e, e]

/-- The expert the routing's row `k` names for token `n`. -/
def named (r : (⟨2, ![8, 16384]⟩ : Shape).Idx → EReal) (k : Fin 8) (n : Fin 16384) : ℕ := (FloatOps.fptosi (F := Ideal) (φ := .f32) 32 (r (ix2 k n))).toNat

section
variable (x2 : (⟨2, ![16384, 1024]⟩ : Shape).Idx → EReal) (x4 x5 : (⟨3, ![32, 1024, 256]⟩ : Shape).Idx → EReal) (x6 : (⟨3, ![32, 256, 1024]⟩ : Shape).Idx → EReal)
  (x7 : (⟨2, ![16384, 1024]⟩ : Shape).Idx → EReal) (x8 : (⟨2, ![8, 16384]⟩ : Shape).Idx → EReal)

/-- The result of expert `e` at token `n`. -/
def expertAt (e n d : ℕ) : EReal := mlp (mat x4 e) (mat x5 e) (mat x6 e) (hid x2 n) d

/-- Entry `d` of token `n`'s result. -/
def layerAt (n : Fin 16384) (d : Fin 1024) : EReal :=
  (x7 (ix2 n d) + x8 (ix2 2 n) * expertAt x2 x4 x5 x6 (named x8 0 n) n.val d.val) + x8 (ix2 3 n) * expertAt x2 x4 x5 x6 (named x8 1 n) n.val d.val

end

end Cert.Moe.KernelI.Value

end

end
-- ==== Proof.Places.lean ====
/- Where each window's block lies at a point. -/
module

public import proofs.«01_k».proof.Proof.KernelISetup
public import Idealize.ShloMosaic.Lib.Pipeline.Kit

@[expose] public section

set_option maxRecDepth 16384

noncomputable section

namespace Cert.Moe.KernelI.Value

open Idealize.ShloMosaic
open Cert.KernelI Cert.KernelI.Gen Cert.Moe Cert.Moe.KernelI

theorem place0 : ∀ i : grid0.Coords, (i 1).val < 8 → cc0_transform_0 i 0 = 8 * (i 0).val + (i 1).val ∧ cc0_transform_0 i 1 = 0 := by decide +kernel
theorem place1 : ∀ i : grid0.Coords, cc0_transform_1 i 0 = (i 0).val := by decide +kernel
theorem place2 : ∀ i : grid0.Coords, 9 ≤ (i 1).val → (i 1).val < 25 → cc0_transform_2 i 0 = (i 1).val - 9 ∧ cc0_transform_2 i 1 = 0 ∧ cc0_transform_2 i 2 = 0 := by decide +kernel
theorem place3 : ∀ i : grid0.Coords, 9 ≤ (i 1).val → (i 1).val < 25 → cc0_transform_3 i 0 = (i 1).val - 9 ∧ cc0_transform_3 i 1 = 0 ∧ cc0_transform_3 i 2 = 0 := by decide +kernel
theorem place4 : ∀ i : grid0.Coords, 9 ≤ (i 1).val → (i 1).val < 25 → cc0_transform_4 i 0 = (i 1).val - 9 ∧ cc0_transform_4 i 1 = 0 ∧ cc0_transform_4 i 2 = 0 := by decide +kernel
theorem place5 : ∀ i : grid0.Coords, 26 ≤ (i 1).val → cc0_transform_5 i 0 = 16 * (i 0).val + ((i 1).val - 26) ∧ cc0_transform_5 i 1 = 0 := by decide +kernel
theorem place6 : ∀ i : grid0.Coords, 26 ≤ (i 1).val → cc0_transform_6 i 0 = 0 ∧ cc0_transform_6 i 1 = 16 * (i 0).val + ((i 1).val - 26) := by decide +kernel
theorem place7 : ∀ i : grid0.Coords, 26 ≤ (i 1).val → cc0_transform_7 i 0 = 16 * (i 0).val + ((i 1).val - 26) ∧ cc0_transform_7 i 1 = 0 := by decide +kernel

theorem point : ∀ t : Fin grid0.N, (grid0.coords t 0).val = t.val / 42 ∧ (grid0.coords t 1).val = t.val % 42 := by decide +kernel
theorem flushes : ∀ t : Fin grid0.N, Pipeline.Window.flushOf grid0 true cc0_transform_7 t = true ↔ 26 ≤ t.val % 42 := by decide +kernel

end Cert.Moe.KernelI.Value

end

end
-- ==== Proof.Blocks.lean ====
/- What a step's tables and input blocks are, in the argument arrays. -/
module

public import proofs.«01_k».proof.Proof.BodyAll
public import proofs.«01_k».proof.Proof.Spec
public import proofs.«01_k».proof.Proof.Places
public import proofs.«01_k».proof.Proof.Tables

@[expose] public section

set_option maxRecDepth 16384

noncomputable section

namespace Cert.Moe.KernelI.Value

open Idealize.ShloMosaic Idealize.ShloMosaic.TcCoe
open Idealize.ShloMosaic.ValueIdx hiding ix1 ix2 ix3
open Cert.KernelI Cert.KernelI.Gen Cert.Moe Cert.Moe.KernelI

variable (m : (ℓ : Loc nD τ sig) → Buf (Elt Ideal) ℓ) (c : Dev nD)

/-! The argument arrays: hidden rows, positions, the three stacks of weights, the residual, the routing. -/
abbrev aH : (⟨2, ![16384, 1024]⟩ : Shape).Idx → EReal := entry m c main_arg2
abbrev aP : (⟨1, ![32768]⟩ : Shape).Idx → BitVec 32 := entry m c main_arg3
abbrev aG : (⟨3, ![32, 1024, 256]⟩ : Shape).Idx → EReal := entry m c main_arg4
abbrev aU : (⟨3, ![32, 1024, 256]⟩ : Shape).Idx → EReal := entry m c main_arg5
abbrev aD : (⟨3, ![32, 256, 1024]⟩ : Shape).Idx → EReal := entry m c main_arg6
abbrev aX : (⟨2, ![16384, 1024]⟩ : Shape).Idx → EReal := entry m c main_arg7
abbrev aR : (⟨2, ![8, 16384]⟩ : Shape).Idx → EReal := entry m c main_arg8

/-! The same for super block `s`, as the invariant speaks of them. -/
def Hs (s : ℕ) : Rows := fun a h l => hid (aH m c) (8192 * s + a / 4) (256 * (a % 4) + 128 * h.val + l.val)
def Ms (e : ℕ) : (ℕ → EReal) → ℕ → EReal := mlp (mat (aG m c) e) (mat (aU m c) e) (mat (aD m c) e)
def Ps (s q : ℕ) : ℕ := if q < 16384 then nword (m := 32768) (aP m c) (16384 * s + q) else 0
def exs (s q : ℕ) : ℕ := if h : s < 2 ∧ q < 16384 then named (aR m c) ⟨q / 8192, by omega⟩ ⟨8192 * s + q % 8192, by omega⟩ else 0
def offs (s e : ℕ) : ℕ := nword (m := 64) (slots m 0) (32 * s + e)
def cnts (s e : ℕ) : ℕ := nword (m := 64) (slots m 1) (32 * s + e)

/-- Entry `d` of token `n`'s result. -/
def outAt (n : ℕ) (d : Fin 1024) : EReal := if h : n < 16384 then layerAt (aH m c) (aG m c) (aU m c) (aD m c) (aX m c) (aR m c) ⟨n, h⟩ d else 0

theorem off_at (s : Fin 2) (e : Fin 32) : offs m s.val e.val = (slots m 0 (slotIx s e)).toNat := by
  unfold offs nword
  rw [dif_pos (by omega)]
  exact congrArg (fun y => (slots m 0 y).toNat) (congrArg ix1 (Fin.ext (by show 32 * s.val + e.val = s.val * 32 + e.val; omega)))
theorem cnt_at (s : Fin 2) (e : Fin 32) : cnts m s.val e.val = (slots m 1 (slotIx s e)).toNat := by
  unfold cnts nword
  rw [dif_pos (by omega)]
  exact congrArg (fun y => (slots m 1 y).toNat) (congrArg ix1 (Fin.ext (by show 32 * s.val + e.val = s.val * 32 + e.val; omega)))
theorem pos_at (s k : Fin 2) (t : Fin 8192) : Ps m c s.val (8192 * k.val + t.val) = (aP m c (posIx s k t)).toNat := by
  unfold Ps nword
  rw [if_pos (by omega), dif_pos (by omega)]
  exact congrArg (fun y => (aP m c y).toNat) (congrArg ix1 (Fin.ext (by show 16384 * s.val + (8192 * k.val + t.val) = s.val * 16384 + k.val * 8192 + t.val; omega)))
theorem ex_of (s k : Fin 2) (t : Fin 8192) : exs m c s.val (8192 * k.val + t.val) = named (aR m c) ⟨k.val, by omega⟩ ⟨8192 * s.val + t.val, by omega⟩ := by
  unfold exs
  rw [dif_pos (by omega)]
  exact congrArg₂ (named (aR m c)) (Fin.ext (by show (8192 * k.val + t.val) / 8192 = k.val; omega)) (Fin.ext (by show 8192 * s.val + (8192 * k.val + t.val) % 8192 = 8192 * s.val + t.val; omega))
theorem ex_at (s k : Fin 2) (t : Fin 8192) : exs m c s.val (8192 * k.val + t.val) = (idsOf (F := Ideal) (aR m c) s k t).toNat := by
  rw [ex_of]
  unfold named idsOf
  exact congrArg (fun n => (FloatOps.fptosi (F := Ideal) (φ := .f32) 32 (aR m c (ix2 ⟨k.val, by omega⟩ n))).toNat) (Fin.ext (by show 8192 * s.val + t.val = s.val * 8192 + t.val; omega))

theorem split (q : ℕ) (h : q < 16384) : ∃ (k : Fin 2) (t : Fin 8192), q = 8192 * k.val + t.val := ⟨⟨q / 8192, by omega⟩, ⟨q % 8192, by omega⟩, by simp only; omega⟩

theorem layout (hA : Agrees (slots m 0) (slots m 1) (aP m c) (idsOf (F := Ideal) (aR m c))) (s : Fin 2) : Layout (offs m s.val) (cnts m s.val) (Ps m c s.val) (exs m c s.val) where
  apart q q' hq hq' hne := by
    obtain ⟨k, t, rfl⟩ := split q hq
    obtain ⟨k', t', rfl⟩ := split q' hq'
    rw [pos_at, pos_at]
    have h1 := hA.aligned s k t
    have h2 := hA.aligned s k' t'
    have h3 : (aP m c (posIx s k t)).toNat ≠ (aP m c (posIx s k' t')).toNat := fun h => by
      obtain ⟨rfl, rfl⟩ := hA.apart s k k' t t' (BitVec.eq_of_toNat_eq h)
      exact hne rfl
    omega
  quad q hq := by
    obtain ⟨k, t, rfl⟩ := split q hq
    rw [pos_at]; exact hA.aligned s k t
  named q hq := by
    obtain ⟨k, t, rfl⟩ := split q hq
    rw [ex_at]; exact hA.named s k t
  inside q hq := by
    obtain ⟨k, t, rfl⟩ := split q hq
    have hn := hA.named s k t
    have hi := hA.inside s k t ⟨_, hn⟩ rfl
    have h1 := off_at m s ⟨_, hn⟩
    have h2 := cnt_at m s ⟨_, hn⟩
    rw [ex_at, pos_at]
    dsimp only at h1 h2
    rw [h1, h2]
    omega
  ordered e f h hf := by
    have h0 := hA.ordered s ⟨e, by omega⟩ ⟨f, hf⟩ h
    have h1 := off_at m s ⟨e, by omega⟩
    have h2 := cnt_at m s ⟨e, by omega⟩
    have h3 := off_at m s ⟨f, hf⟩
    dsimp only at h1 h2 h3
    rw [h1, h2, h3]
    exact h0

/-- A choice's result is its expert's at its token. -/
theorem result_at (s k : Fin 2) (t : Fin 8192) (d : ℕ) : result (Ms m c) (Hs m c s.val) (exs m c s.val) (8192 * k.val + t.val) d
    = expertAt (aH m c) (aG m c) (aU m c) (aD m c) (named (aR m c) ⟨k.val, by omega⟩ ⟨8192 * s.val + t.val, by omega⟩) (8192 * s.val + t.val) d := by
  unfold result
  rw [ex_of, show (8192 * k.val + t.val) % 8192 = t.val by omega]
  unfold expertAt Ms
  refine congrFun (mlp_congr _ _ _ fun x hx => ?_) d
  show hid (aH m c) (8192 * s.val + (4 * t.val + x / 256) / 4) (256 * ((4 * t.val + x / 256) % 4) + 128 * (x % 256 / 128) + x % 128) = _
  rw [show 8192 * s.val + (4 * t.val + x / 256) / 4 = 8192 * s.val + t.val by omega, show 256 * ((4 * t.val + x / 256) % 4) + 128 * (x % 256 / 128) + x % 128 = x by omega]

theorem wide_of {A B : ℕ} {x : (⟨3, ![2, A, B]⟩ : Shape).Idx → EReal} {y : (⟨3, ![32, A, B]⟩ : Shape).Idx → EReal} {e : Fin 2} {E : ℕ} (hE : E < 32)
    (h : ∀ (a : Fin A) (b : Fin B), x (ix3 e a b) = y (ix3 ⟨E, hE⟩ a b)) : wide3 x e = mat y E := by
  funext a b
  unfold wide3 mat
  by_cases hab : a < A ∧ b < B
  · rw [dif_pos hab, dif_pos ⟨hE, hab⟩]; exact h _ _
  · rw [dif_neg hab, dif_neg (fun g => hab g.2)]

section
variable (t : Fin (grd m).N)

theorem lt_84 : t.val < 84 := lt_of_lt_of_eq t.isLt (N_0 : grid0.N = 84)

theorem block0 (h : t.val % 42 < 8) (a d : Fin 1024) : (blockAt m c 0 t : Vec Ideal S1024x1024 .bf16) (ix2 a d) = hid (aH m c) (8192 * (t.val / 42) + 1024 * (t.val % 42) + a.val) d.val := by
  have ht := lt_84 m t
  obtain ⟨p0, p1⟩ := point t
  obtain ⟨q0, q1⟩ := place0 (grid0.coords t) (by omega)
  refine Eq.trans ?_ (hid_at (aH m c) ⟨8192 * (t.val / 42) + 1024 * (t.val % 42) + a.val, by omega⟩ d).symm
  refine congrArg (aH m c) (funext fun b => Fin.ext ?_)
  match b with
  | ⟨0, _⟩ => show cc0_transform_0 (grid0.coords t) 0 * 1024 + 1 * a.val = 8192 * (t.val / 42) + 1024 * (t.val % 42) + a.val; omega
  | ⟨1, _⟩ => show cc0_transform_0 (grid0.coords t) 1 * 1024 + 1 * d.val = d.val; omega

theorem block1 : nword (m := 16384) (blockAt m c 1 t : Vec Ideal S16384 .i32) = Ps m c (t.val / 42) := by
  have ht := lt_84 m t
  obtain ⟨p0, p1⟩ := point t
  have q0 := place1 (grid0.coords t)
  funext q
  unfold Ps nword
  by_cases hq : q < 16384
  · rw [dif_pos hq, if_pos hq, dif_pos (by omega)]
    refine congrArg (fun y => (aP m c y).toNat) (funext fun b => Fin.ext ?_)
    match b with
    | ⟨0, _⟩ => show cc0_transform_1 (grid0.coords t) 0 * 16384 + 1 * q = 16384 * (t.val / 42) + q; omega
  · rw [dif_neg hq, if_neg hq]

theorem block2 (h9 : 9 ≤ t.val % 42) (h25 : t.val % 42 < 25) (e : Fin 2) : wide3 (A := 1024) (B := 256) (blockAt m c 2 t : Vec Ideal S2x1024x256 .bf16) e = mat (aG m c) (2 * (t.val % 42 - 9) + e.val) := by
  obtain ⟨p0, p1⟩ := point t
  obtain ⟨q0, q1, q2⟩ := place2 (grid0.coords t) (by omega) (by omega)
  refine wide_of (by omega) fun a k => congrArg (aG m c) (funext fun b => Fin.ext ?_)
  match b with
  | ⟨0, _⟩ => show cc0_transform_2 (grid0.coords t) 0 * 2 + 1 * e.val = 2 * (t.val % 42 - 9) + e.val; omega
  | ⟨1, _⟩ => show cc0_transform_2 (grid0.coords t) 1 * 1024 + 1 * a.val = a.val; omega
  | ⟨2, _⟩ => show cc0_transform_2 (grid0.coords t) 2 * 256 + 1 * k.val = k.val; omega

theorem block3 (h9 : 9 ≤ t.val % 42) (h25 : t.val % 42 < 25) (e : Fin 2) : wide3 (A := 1024) (B := 256) (blockAt m c 3 t : Vec Ideal S2x1024x256 .bf16) e = mat (aU m c) (2 * (t.val % 42 - 9) + e.val) := by
  obtain ⟨p0, p1⟩ := point t
  obtain ⟨q0, q1, q2⟩ := place3 (grid0.coords t) (by omega) (by omega)
  refine wide_of (by omega) fun a k => congrArg (aU m c) (funext fun b => Fin.ext ?_)
  match b with
  | ⟨0, _⟩ => show cc0_transform_3 (grid0.coords t) 0 * 2 + 1 * e.val = 2 * (t.val % 42 - 9) + e.val; omega
  | ⟨1, _⟩ => show cc0_transform_3 (grid0.coords t) 1 * 1024 + 1 * a.val = a.val; omega
  | ⟨2, _⟩ => show cc0_transform_3 (grid0.coords t) 2 * 256 + 1 * k.val = k.val; omega

theorem block4 (h9 : 9 ≤ t.val % 42) (h25 : t.val % 42 < 25) (e : Fin 2) : wide3 (A := 256) (B := 1024) (blockAt m c 4 t : Vec Ideal S2x256x1024 .bf16) e = mat (aD m c) (2 * (t.val % 42 - 9) + e.val) := by
  obtain ⟨p0, p1⟩ := point t
  obtain ⟨q0, q1, q2⟩ := place4 (grid0.coords t) (by omega) (by omega)
  refine wide_of (by omega) fun a k => congrArg (aD m c) (funext fun b => Fin.ext ?_)
  match b with
  | ⟨0, _⟩ => show cc0_transform_4 (grid0.coords t) 0 * 2 + 1 * e.val = 2 * (t.val % 42 - 9) + e.val; omega
  | ⟨1, _⟩ => show cc0_transform_4 (grid0.coords t) 1 * 256 + 1 * a.val = a.val; omega
  | ⟨2, _⟩ => show cc0_transform_4 (grid0.coords t) 2 * 1024 + 1 * k.val = k.val; omega

theorem token_lt (h : 26 ≤ t.val % 42) (r : Fin 512) : 8192 * (t.val / 42) + (512 * (t.val % 42 - 26) + r.val) < 16384 := by
  have ht := lt_84 m t
  omega

theorem block5 (h : 26 ≤ t.val % 42) (r : Fin 512) (d : Fin 1024) : (blockAt m c 5 t : Vec Ideal S512x1024 .f32) (ix2 r d) = aX m c (ix2 ⟨8192 * (t.val / 42) + (512 * (t.val % 42 - 26) + r.val), token_lt m t h r⟩ d) := by
  obtain ⟨p0, p1⟩ := point t
  obtain ⟨q0, q1⟩ := place5 (grid0.coords t) (by omega)
  refine congrArg (aX m c) (funext fun b => Fin.ext ?_)
  match b with
  | ⟨0, _⟩ => show cc0_transform_5 (grid0.coords t) 0 * 512 + 1 * r.val = 8192 * (t.val / 42) + (512 * (t.val % 42 - 26) + r.val); omega
  | ⟨1, _⟩ => show cc0_transform_5 (grid0.coords t) 1 * 1024 + 1 * d.val = d.val; omega

theorem block6 (h : 26 ≤ t.val % 42) (k : Fin 8) (r : Fin 512) : (blockAt m c 6 t : Vec Ideal S8x512 .f32) (ix2 k r) = aR m c (ix2 k ⟨8192 * (t.val / 42) + (512 * (t.val % 42 - 26) + r.val), token_lt m t h r⟩) := by
  obtain ⟨p0, p1⟩ := point t
  obtain ⟨q0, q1⟩ := place6 (grid0.coords t) (by omega)
  refine congrArg (aR m c) (funext fun b => Fin.ext ?_)
  match b with
  | ⟨0, _⟩ => show cc0_transform_6 (grid0.coords t) 0 * 8 + 1 * k.val = k.val; omega
  | ⟨1, _⟩ => show cc0_transform_6 (grid0.coords t) 1 * 512 + 1 * r.val = 8192 * (t.val / 42) + (512 * (t.val % 42 - 26) + r.val); omega

/-- The output's block at a point. -/
def outBlock (r : Fin 512) (d : Fin 1024) : EReal := outAt m c (8192 * (t.val / 42) + (512 * (t.val % 42 - 26) + r.val)) d

theorem out_of (h : 26 ≤ t.val % 42) {G : Rows} (hG : Gath (Ms m c) (Hs m c (t.val / 42)) (exs m c (t.val / 42)) (512 * (t.val % 42 - 26)) G) (r : Fin 512) (d : Fin 1024) :
    sumAt (blockAt m c 5 t : Vec Ideal S512x1024 .f32) (blockAt m c 6 t : Vec Ideal S8x512 .f32) G r d = outBlock m c t r d := by
  have ht := lt_84 m t
  have hs : t.val / 42 < 2 := by omega
  have hn := token_lt m t h r
  have r0 := result_at m c ⟨t.val / 42, hs⟩ 0 ⟨512 * (t.val % 42 - 26) + r.val, by omega⟩ d.val
  have r1 := result_at m c ⟨t.val / 42, hs⟩ 1 ⟨512 * (t.val % 42 - 26) + r.val, by omega⟩ d.val
  refine (sum_gath hG _ _ r d).trans ?_
  unfold outBlock outAt
  rw [dif_pos hn]
  unfold layerAt
  refine congrArg₂ (· + ·) (congrArg₂ (· + ·) (block5 m c t h r d) (congrArg₂ (· * ·) (block6 m c t h 2 r) ?_)) (congrArg₂ (· * ·) (block6 m c t h 3 r) ?_)
  · refine Eq.trans (congrArg (fun q => result (Ms m c) (Hs m c (t.val / 42)) (exs m c (t.val / 42)) q d.val) ?_) r0
    show 512 * (t.val % 42 - 26) + r.val = 8192 * 0 + (512 * (t.val % 42 - 26) + r.val); omega
  · refine Eq.trans (congrArg (fun q => result (Ms m c) (Hs m c (t.val / 42)) (exs m c (t.val / 42)) q d.val) ?_) r1
    show 8192 + 512 * (t.val % 42 - 26) + r.val = 8192 * 1 + (512 * (t.val % 42 - 26) + r.val); omega

theorem step_at (hA : Agrees (slots m 0) (slots m 1) (aP m c) (idsOf (F := Ideal) (aR m c))) :
    Step (grid0.coords t) (Ms m c) (Hs m c (t.val / 42)) (Ps m c (t.val / 42)) (exs m c (t.val / 42)) (offs m (t.val / 42)) (cnts m (t.val / 42)) (outBlock m c t)
      (offM.view.read (Elt Ideal) (slots m 0)) (cntM.view.read (Elt Ideal) (slots m 1)) (blockAt m c 0 t) (blockAt m c 1 t) (blockAt m c 2 t) (blockAt m c 3 t) (blockAt m c 4 t) (blockAt m c 5 t) (blockAt m c 6 t) := by
  have ht := lt_84 m t
  obtain ⟨p0, p1⟩ := point t
  have hs : t.val / 42 < 2 := by omega
  refine ⟨by omega, layout m c hA ⟨t.val / 42, hs⟩, fun e x y h => mlp_congr _ _ _ h, block1 m c t, fun e _ => ?_, fun e _ => ?_, ?_, ?_, ?_, ?_⟩
  · rw [p0]; rfl
  · rw [p0]; rfl
  · rw [p1]; exact fun hj G hG => tile_of hG (fun a h l => rfl) (block0 m c t hj)
  · rw [p1]; intro h9 h25; rw [block2 m c t h9 h25, block3 m c t h9 h25, block4 m c t h9 h25]; rfl
  · rw [p1]; intro h9 h25; rw [block2 m c t h9 h25, block3 m c t h9 h25, block4 m c t h9 h25]; rfl
  · rw [p1]; exact fun h G hG r d => out_of m c t h hG r d

end

end Cert.Moe.KernelI.Value

end

end
-- ==== Proof.Launched.lean ====
/- The call at values: the invariant from point to point, and the output's block at each point of the last steps. -/
module

public import proofs.«01_k».proof.Proof.Blocks
public import proofs.«01_k».proof.Proof.KernelIFrame
public import Idealize.ShloMosaic.Lib.Pipeline.DatRel
public import Idealize.ShloMosaic.Lib.Pipeline.ArrRel

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelI Cert.KernelI.Gen Cert.Moe Cert.Moe.KernelI

variable (m : (ℓ : Loc nD τ sig) → Buf (Elt Ideal) ℓ) (ρ : Dev nD → PrngReg)

/-- The invariant before point `t`, of the slots and the two staging buffers. -/
def InvAt (c : Dev nD) (t : ℕ) (X : Vec Ideal S67968x2x128 .bf16) (A B : Vec Ideal S4096x2x128 .bf16) : Prop :=
  Inv (Ms m c) (Hs m c (t / 42)) (Ps m c (t / 42)) (exs m c (t / 42)) (t % 42) (nrow (n := 67968) (α := EReal) X) (nrow (n := 4096) (α := EReal) A) (nrow (n := 4096) (α := EReal) B)

theorem InvAt.start (c t X A B) (h : t % 42 = 0) : InvAt m c t X A B := by
  unfold InvAt; rw [h]; exact Inv.start ..

theorem InvAt.next {c : Dev nD} {t X A B}
    (h : Inv (Ms m c) (Hs m c (t / 42)) (Ps m c (t / 42)) (exs m c (t / 42)) (t % 42 + 1) (nrow (n := 67968) (α := EReal) X) (nrow (n := 4096) (α := EReal) A) (nrow (n := 4096) (α := EReal) B)) :
    InvAt m c (t + 1) X A B := by
  by_cases h41 : (t + 1) % 42 = 0
  · exact InvAt.start m c _ X A B h41
  · unfold InvAt; rw [show (t + 1) / 42 = t / 42 by omega, show (t + 1) % 42 = t % 42 + 1 by omega]; exact h

/-- The slots and the staging buffers before point `t`. -/
def Kept (c : Dev nD) (t : ℕ) : sProp (MM Ideal) :=
  iprop(∃ (X : Vec Ideal S67968x2x128 .bf16) (A B : Vec Ideal S4096x2x128 .bf16), ⌜InvAt m c t X A B⌝
    ∗ owns (c : Thread nD τ) xyM fullShare X ∗ owns (c : Thread nD τ) g1M fullShare A ∗ owns (c : Thread nD τ) g2M fullShare B)

/-- Every window but the output's holds its block throughout; the buffers kept from point to point hold the invariant. -/
def dataV (c : Dev nD) : Dat τ (Elt Ideal) Unit ℕ (UR sig nD τ) ℕ (grd m) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, h⟩ => Pipeline.Dat.unnamed (cfg := grd m) ⟨7, h⟩ t
  Φ t := iprop((Kept m c t.val ∗ (∃ r, prngReg c r)) ∗ Pipeline.ΦT pre0 (slots m) c)
  q _ := fullShare
  owed _ := 0

/-- What the output's buffer holds after a point of the last steps. -/
def told (c : Dev nD) : (w : Fin (grd m).W) → Fin (grd m).N → (((grd m).win w).block.Idx → Elt Ideal ((grd m).win w).elt) → Prop := fun w t => match w with
  | ⟨7, _⟩ => fun X => 26 ≤ t.val % 42 → ∀ (r : Fin 512) (d : Fin 1024), (X : Vec Ideal S512x1024 .f32) (ix2 r d) = outBlock m c t r d
  | _ => fun _ => True

variable (c : Dev nD)

theorem dataV_A (w : Fin (grd m).W) : (dataV m c).A w = entry m c (Pipeline.arrRef spec0 w) := by dsimp only [dataV]

theorem aft_0 (t) : (dataV m c).after 0 t = blockAt m c 0 t := by dsimp only [dataV]; rfl
theorem aft_1 (t) : (dataV m c).after 1 t = blockAt m c 1 t := by dsimp only [dataV]; rfl
theorem aft_2 (t) : (dataV m c).after 2 t = blockAt m c 2 t := by dsimp only [dataV]; rfl
theorem aft_3 (t) : (dataV m c).after 3 t = blockAt m c 3 t := by dsimp only [dataV]; rfl
theorem aft_4 (t) : (dataV m c).after 4 t = blockAt m c 4 t := by dsimp only [dataV]; rfl
theorem aft_5 (t) : (dataV m c).after 5 t = blockAt m c 5 t := by dsimp only [dataV]; rfl
theorem aft_6 (t) : (dataV m c).after 6 t = blockAt m c 6 t := by dsimp only [dataV]; rfl

theorem val_next {n : ℕ} (t : Fin n) : t.succ.val = t.val + 1 := rfl

theorem val_cast {n : ℕ} (t : Fin n) : t.castSucc.val = t.val := rfl

theorem phi (k) : (dataV m c).Φ k = iprop((Kept m c k.val ∗ (∃ r, prngReg c r)) ∗ Pipeline.ΦT pre0 (slots m) c) := by dsimp only [dataV]

/-- What the body is called with, and what it returns. -/
def PreV (t : Fin (grd m).N) : sProp (MM Ideal) :=
  iprop((dataV m c).Φ t.castSucc ∗ (dataV m c).owesAt () t.castSucc
    ∗ (∃ d, owns (c : Thread nD τ) (b0 m t) fullShare ((dataV m c).before 0 t d))
    ∗ (∃ d, owns (c : Thread nD τ) (b1 m t) fullShare ((dataV m c).before 1 t d))
    ∗ (∃ d, owns (c : Thread nD τ) (b2 m t) fullShare ((dataV m c).before 2 t d))
    ∗ (∃ d, owns (c : Thread nD τ) (b3 m t) fullShare ((dataV m c).before 3 t d))
    ∗ (∃ d, owns (c : Thread nD τ) (b4 m t) fullShare ((dataV m c).before 4 t d))
    ∗ (∃ d, owns (c : Thread nD τ) (b5 m t) fullShare ((dataV m c).before 5 t d))
    ∗ (∃ d, owns (c : Thread nD τ) (b6 m t) fullShare ((dataV m c).before 6 t d))
    ∗ (∃ Y, ⌜((dataV m c).toRRel unsaid (told m c)).Finds 7 t Y⌝ ∗ owns (c : Thread nD τ) (b7 m t) fullShare Y))
def PostV (t : Fin (grd m).N) : sProp (MM Ideal) :=
  iprop((dataV m c).Φ t.succ ∗ (dataV m c).owesAt () t.succ
    ∗ owns (c : Thread nD τ) (b0 m t) fullShare ((dataV m c).after 0 t)
    ∗ owns (c : Thread nD τ) (b1 m t) fullShare ((dataV m c).after 1 t)
    ∗ owns (c : Thread nD τ) (b2 m t) fullShare ((dataV m c).after 2 t)
    ∗ owns (c : Thread nD τ) (b3 m t) fullShare ((dataV m c).after 3 t)
    ∗ owns (c : Thread nD τ) (b4 m t) fullShare ((dataV m c).after 4 t)
    ∗ owns (c : Thread nD τ) (b5 m t) fullShare ((dataV m c).after 5 t)
    ∗ owns (c : Thread nD τ) (b6 m t) fullShare ((dataV m c).after 6 t)
    ∗ (∃ X, ⌜told m c 7 t X⌝ ∗ owns (c : Thread nD τ) (b7 m t) fullShare X))

set_option maxHeartbeats 1000000 in
theorem body_value (hW : Words m) (hA : Agrees (slots m 0) (slots m 1) (aP m c) (idsOf (F := Ideal) (aR m c))) (t : Fin (grd m).N) :
    PreV m c t ⊢ wp Idealize.ShloMosaic.frame (wpE (defs₀ (F := Ideal)) Variants.none (c : Thread nD τ) none) Set.univ (bodyAt m t) (fun _ => PostV m c t) := by
  have hp := (point t).2
  unfold PreV PostV
  simp only [before_0 (dataV m c) (dataV_A m c 0) (aft_0 m c), before_1 (dataV m c) (dataV_A m c 1) (aft_1 m c),
    before_2 (dataV m c) (dataV_A m c 2) (aft_2 m c), before_3 (dataV m c) (dataV_A m c 3) (aft_3 m c),
    before_4 (dataV m c) (dataV_A m c 4) (aft_4 m c), before_5 (dataV m c) (dataV_A m c 5) (aft_5 m c),
    before_6 (dataV m c) (dataV_A m c 6) (aft_6 m c)]
  rw [show (dataV m c).owesAt () t.succ = (dataV m c).owesAt () t.castSucc from rfl,
    aft_0, aft_1, aft_2, aft_3, aft_4, aft_5, aft_6]
  rw [phi m c t.castSucc, phi m c t.succ, val_cast t, val_next t, tables_eq]
  unfold Kept
  iintro ⟨⟨⟨⟨%X, %A, %B, %hI, H12, H13, H14⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%Y, -, H7⟩⟩
  iapply (body_held c (grid0.coords t) offM (Memref.isWhole_whole _) cntM (Memref.isWhole_whole _) (b0 m t) (w0 m t) (b1 m t) (w1 m t) (b2 m t) (w2 m t)
    (b3 m t) (w3 m t) (b4 m t) (w4 m t) (b5 m t) (w5 m t) (b6 m t) (w6 m t) (b7 m t) (w7 m t)
    xyM (Memref.isWhole_whole _) g1M (Memref.isWhole_whole _) g2M (Memref.isWhole_whole _)
    (slots m 0) (slots m 1) (blockAt m c 0 t) (blockAt m c 1 t) (blockAt m c 2 t) (blockAt m c 3 t) (blockAt m c 4 t) (blockAt m c 5 t) (blockAt m c 6 t)
    (step_at m c t hA) (hW.tab m) (hW.pos m t c) _)
  unfold Held
  rw [hp]
  isplitl [HT0 HT1 H0 H1 H2 H3 H4 H5 H6 H7 H12 H13 H14]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists Y; isplitr; · ipureintro; trivial
      iexact H7
    iexists X, A, B
    isplitr; · ipureintro; exact hI
    isplitl [H12]; · iexact H12
    isplitl [H13]; · iexact H13
    iexact H14
  iintro ⟨HT0, HT1, H0, H1, H2, H3, H4, H5, H6, ⟨%Z, %hZ, H7⟩, ⟨%X', %A', %B', %hI', H12, H13, H14⟩⟩
  isplitl [HT0 HT1 H12 H13 H14 Hg]
  · isplitl [H12 H13 H14 Hg]
    · isplitl [H12 H13 H14]
      · iexists X', A', B'
        isplitr; · ipureintro; exact InvAt.next m hI'
        isplitl [H12]; · iexact H12
        isplitl [H13]; · iexact H13
        iexact H14
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Z
  isplitr; · ipureintro; exact hZ
  iexact H7

theorem body_told (hW : Words m) (hA : Agrees (slots m 0) (slots m 1) (aP m c) (idsOf (F := Ideal) (aR m c))) :
    BodyObligationRel (dataV m c) (defs₀ (F := Ideal)) Variants.none () Set.univ unsaid (told m c) := fun t => by
  rw [bigSep_W0, bigSep_W0, defs_row m]
  exact triple_restated (body_value m c hW hA t) rfl .rfl fun _ => .rfl

theorem enter : iprop(Pipeline.ΦA spec0 c ∗ Pipeline.ΦT pre0 (slots m) c) ⊢ (dataV m c).Φ 0 := by
  rw [show (dataV m c).Φ 0 = iprop((Kept m c 0 ∗ (∃ r, prngReg c r)) ∗ Pipeline.ΦT pre0 (slots m) c) from rfl, scratch_eq]
  unfold Kept
  iintro ⟨⟨⟨⟨%X, H12⟩, ⟨%A, H13⟩, ⟨%B, H14⟩⟩, Hg⟩, HT⟩
  isplitl [H12 H13 H14 Hg]
  · isplitl [H12 H13 H14]
    · iexists X, A, B
      isplitr; · ipureintro; exact InvAt.start m c 0 X A B rfl
      isplitl [H12]; · iexact H12
      isplitl [H13]; · iexact H13
      iexact H14
    iexact Hg
  iexact HT

theorem leave : (dataV m c).Φ (Fin.last (grd m).N) ⊢ Pipeline.ΦA spec0 c := by
  rw [show (dataV m c).Φ (Fin.last (grd m).N) = iprop((Kept m c (grd m).N ∗ (∃ r, prngReg c r)) ∗ Pipeline.ΦT pre0 (slots m) c) from rfl, scratch_eq]
  unfold Kept
  iintro ⟨⟨⟨%X, %A, %B, -, H12, H13, H14⟩, Hg⟩, -⟩
  isplitl [H12 H13 H14]
  · isplitl [H12]; · iexists X; iexact H12
    isplitl [H13]; · iexists A; iexact H13
    iexists B; iexact H14
  iexact Hg

set_option backward.isDefEq.respectTransparency.types false in
theorem launchedV (hW : Words m) (hA : ∀ c : Dev nD, Agrees (slots m 0) (slots m 1) (aP m c) (idsOf (F := Ideal) (aR m c))) :
    θ_run defs (onTc (τ := τ) (main (F := Ideal))) (s₀ m ρ)
    (fun r => (RDat.FramePost ((Pipeline.pin pcfgs fun _ => held m) 0) (fun c => (dataV m c).toRRel unsaid (told m c)) (entry m)) r ∧ r.2.sem = fun _ => 0) :=
  RDat.θ_run_frameP_track (Q' := _) pcfgs (fun _ => held m) (0 : Fin 1) launch0 defs₀ Variants.none (fun c => (dataV m c).toRRel unsaid (told m c)) m ρ main
    (hbody := fun c => (body_told m c hW (hA c)).toRRel) (hshare := fun c => (dataV m c).share_full fun _ => rfl)
    (howed := fun _ _ => rfl) (V := entry m) (hmain := main_region m) (hA := dataV_A m) (hpf := slots_eq m) (hin := enter m) (hout := leave m)

end Cert.Moe.KernelI.Value

end

end
-- ==== Proof.Value.lean ====
/- The call's result array: from any memory whose tables agree with the routing, the layer of the argument arrays. -/
module

public import proofs.«01_k».proof.Proof.Launched
public import proofs.«01_k».proof.Proof.KernelIFrame
public import Idealize.ShloMosaic.Lib.Pipeline.DatRel
public import Idealize.ShloMosaic.Lib.Pipeline.ArrRel

@[expose] public section

set_option maxRecDepth 16384

noncomputable section

namespace Cert.Moe.KernelI.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelI Cert.KernelI.Gen Cert.Moe Cert.Moe.KernelI

/-- A block's index is its row and its column. -/
theorem eta_block (y : S512x1024.Idx) : ∃ (a : Fin 512) (d : Fin 1024), y = ix2 a d :=
  ⟨y 0, y 1, funext fun b => match b with | ⟨0, _⟩ => rfl | ⟨1, _⟩ => rfl⟩

variable (m : (ℓ : Loc nD τ sig) → Buf (Elt Ideal) ℓ) (c : Dev nD)

/-! ## The result array -/

/-- The layer of the argument arrays. -/
def layerArr : S16384x1024.Idx → Elt Ideal .f32 := fun i => outAt m c (i 0).val (i 1)

theorem emb7 (t : Fin (grd m).N) (h : 26 ≤ t.val % 42) (r : Fin 512) (d : Fin 1024) :
    (((grd m).win 7).blk t).view.emb (ix2 r d) = (ix2 (⟨8192 * (t.val / 42) + (512 * (t.val % 42 - 26) + r.val), token_lt m t h r⟩ : Fin 16384) d : S16384x1024.Idx) := by
  obtain ⟨p0, p1⟩ := point t
  obtain ⟨q0, q1⟩ := place7 (grid0.coords t) (by omega)
  refine funext fun b => Fin.ext ?_
  match b with
  | ⟨0, _⟩ => show cc0_transform_7 (grid0.coords t) 0 * 512 + 1 * r.val = 8192 * (t.val / 42) + (512 * (t.val % 42 - 26) + r.val); omega
  | ⟨1, _⟩ => show cc0_transform_7 (grid0.coords t) 1 * 1024 + 1 * d.val = d.val; omega

theorem flush7 (t : Fin (grd m).N) : ((grd m).win 7).flush t = true ↔ 26 ≤ t.val % 42 := flushes t

theorem covered7 (i : S16384x1024.Idx) : ∃ t : Fin (grd m).N, ((grd m).win 7).flush t = true ∧ i ∈ (((grd m).win 7).blk t).view.set := by
  have h0 : (i 0).val < 16384 := (i 0).isLt
  have h1 : (i 1).val < 1024 := (i 1).isLt
  have ht : 42 * ((i 0).val / 8192) + 26 + (i 0).val % 8192 / 512 < 84 := by omega
  have hm : 26 ≤ (42 * ((i 0).val / 8192) + 26 + (i 0).val % 8192 / 512) % 42 := by omega
  refine ⟨⟨42 * ((i 0).val / 8192) + 26 + (i 0).val % 8192 / 512, lt_of_lt_of_eq ht (N_0 : grid0.N = 84).symm⟩, (flush7 m _).2 hm, ?_⟩
  have h := (((grd m).win 7).blk ⟨42 * ((i 0).val / 8192) + 26 + (i 0).val % 8192 / 512, lt_of_lt_of_eq ht (N_0 : grid0.N = 84).symm⟩).view.emb_mem_set
    (ix2 (⟨(i 0).val % 512, by omega⟩ : Fin 512) (⟨(i 1).val, h1⟩ : Fin 1024))
  have he := emb7 m ⟨42 * ((i 0).val / 8192) + 26 + (i 0).val % 8192 / 512, lt_of_lt_of_eq ht (N_0 : grid0.N = 84).symm⟩ hm ⟨(i 0).val % 512, by omega⟩ ⟨(i 1).val, h1⟩
  refine (congrArg (· ∈ _) (he.trans (funext fun a => Fin.ext ?_))).mp h
  match a with
  | ⟨0, _⟩ =>
    show 8192 * ((42 * ((i 0).val / 8192) + 26 + (i 0).val % 8192 / 512) / 42) + (512 * ((42 * ((i 0).val / 8192) + 26 + (i 0).val % 8192 / 512) % 42 - 26) + (i 0).val % 512) = (i 0).val
    omega
  | ⟨1, _⟩ => rfl

set_option backward.isDefEq.respectTransparency.types false in
theorem result_eq {r : PUnit × MemSt nD τ sig (Elt Ideal)}
    (h : RDat.FramePost ((Pipeline.pin pcfgs fun _ => held m) 0) (fun c => (dataV m c).toRRel unsaid (told m c)) (entry m) r) :
    r.2.mem ((c : Thread nD τ).loc main_v0) = layerArr m c := by
  obtain ⟨after, hl, hw⟩ := RDat.FramePost.exists_exact h c
  refine (hw 7).trans ?_
  refine Dat.arrAt_eq_of_cover (cfg := grd m) (((dataV m c).toRRel unsaid (told m c)).withAfter after) 7 (layerArr m c) (fun t ht => ?_) (covered7 m)
  have ht' := (flush7 m t).1 ht
  have hL := (dataV m c).toRRel_leaves (fgt := unsaid) (Rl := told m c) (w := 7) rfl (hl 7 t ht) ht'
  funext y
  obtain ⟨a, d, rfl⟩ := eta_block y
  refine (hL a d).trans ?_
  exact (congrArg (layerArr m c) (emb7 m t ht' a d)).symm

set_option backward.isDefEq.respectTransparency.types false in
theorem kept_args {r : PUnit × MemSt nD τ sig (Elt Ideal)}
    (h : RDat.FramePost ((Pipeline.pin pcfgs fun _ => held m) 0) (fun c => (dataV m c).toRRel unsaid (told m c)) (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c).2 main_arg0 (by decide : main_arg0 ∈ Pipeline.restRefs sig spec0),
    (h c).2 main_arg1 (by decide : main_arg1 ∈ Pipeline.restRefs sig spec0),
    (RDat.FramePost.arr_in h c 0 rfl).trans (dataV_A m c 0),
    (RDat.FramePost.arr_in h c 1 rfl).trans (dataV_A m c 1),
    (RDat.FramePost.arr_in h c 2 rfl).trans (dataV_A m c 2),
    (RDat.FramePost.arr_in h c 3 rfl).trans (dataV_A m c 3),
    (RDat.FramePost.arr_in h c 4 rfl).trans (dataV_A m c 4),
    (RDat.FramePost.arr_in h c 5 rfl).trans (dataV_A m c 5),
    (RDat.FramePost.arr_in h c 6 rfl).trans (dataV_A m c 6)⟩

end Cert.Moe.KernelI.Value

end

end
-- ==== Proof.RefValue.lean ====
/- The plain layer of the reference at one entry: the sum over all experts has two terms that are not zero. -/
module

public import proofs.«01_k».proof.Proof.Spec
public import proofs.«01_k».proof.Proof.Tables
public import proofs.«01_k».proof.Proof.Gen.ReferenceI.Read

@[expose] public section

set_option maxRecDepth 16384

noncomputable section

namespace Cert.Moe.KernelI.Value

open Idealize.ShloMosaic
open Idealize.ShloMosaic.ValueIdx hiding ix2 ix3
open Cert.Moe Cert.Moe.KernelI
open Cert.ReferenceI Cert.ReferenceI.Gen Cert.ReferenceI.Read
open Finset (range)

theorem one_f32' : Ideal.ofBits .f32 (0x3F800000#32) = 1 := by
  simp [Ideal.ofBits, Ideal.ieee]
  rw [← EReal.coe_mul]
  exact congrArg Real.toEReal (show (8388608 : ℝ) * (2 ^ 23)⁻¹ = 1 by norm_num)

theorem zero_f32' : Ideal.ofBits .f32 (0x00000000#32) = 0 := by
  simp [Ideal.ofBits, Ideal.ieee]

variable (x2 : (⟨2, ![16384, 1024]⟩ : Shape).Idx → EReal) (x4 x5 : (⟨3, ![32, 1024, 256]⟩ : Shape).Idx → EReal) (x6 : (⟨3, ![32, 256, 1024]⟩ : Shape).Idx → EReal)
  (x7 : (⟨2, ![16384, 1024]⟩ : Shape).Idx → EReal) (x8 : (⟨2, ![8, 16384]⟩ : Shape).Idx → EReal)

theorem ref_gate (e : Fin 32) (n : Fin 16384) (k : Fin 256) :
    val_main_v1 (F := Ideal) x2 x4 (ix3 e n k) = ∑ c ∈ range 1024, hid x2 n.val c * mat x4 e.val c k.val := by
  rw [val_main_v1_apply, val_main_v0_apply, Finset.sum_range]
  refine Finset.sum_congr rfl fun c _ => ?_
  rw [hid_at, mat_at, mul_comm]
  refine congrArg₂ (· * ·) (congrArg x2 ?_) (congrArg x4 ?_)
  · exact funext fun a => match a with | ⟨0, _⟩ => rfl | ⟨1, _⟩ => rfl
  · exact funext fun a => match a with | ⟨0, _⟩ => rfl | ⟨1, _⟩ => rfl | ⟨2, _⟩ => rfl

theorem ref_up (e : Fin 32) (n : Fin 16384) (k : Fin 256) :
    val_main_v3 (F := Ideal) x2 x5 (ix3 e n k) = ∑ c ∈ range 1024, hid x2 n.val c * mat x5 e.val c k.val := by
  rw [val_main_v3_apply, val_main_v2_apply, Finset.sum_range]
  refine Finset.sum_congr rfl fun c _ => ?_
  rw [hid_at, mat_at, mul_comm]
  refine congrArg₂ (· * ·) (congrArg x2 ?_) (congrArg x5 ?_)
  · exact funext fun a => match a with | ⟨0, _⟩ => rfl | ⟨1, _⟩ => rfl
  · exact funext fun a => match a with | ⟨0, _⟩ => rfl | ⟨1, _⟩ => rfl | ⟨2, _⟩ => rfl

theorem ref_unit (e : Fin 32) (n : Fin 16384) (k : Fin 256) :
    val_main_v12 (F := Ideal) x2 x4 x5 (ix3 e n k) = unitOf (mat x4 e.val) (mat x5 e.val) (hid x2 n.val) k.val := by
  rw [val_main_v12_apply]
  show val_main_v11 (F := Ideal) x2 x4 x5 (ix3 e n k) = _
  rw [val_main_v11_apply, val_main_v10_apply, val_main_v9_apply, val_main_v8_apply, val_main_cst_0_apply, val_main_v7_apply, val_main_v6_apply, val_main_cst_apply,
    val_main_v5_apply, val_main_v4_apply, ref_up, ref_gate]
  show (_ * Ideal.div (Ideal.ofBits .f32 (0x3F800000#32)) (Ideal.ofBits .f32 (0x3F800000#32) + Ideal.exp (- _))) * _ = _
  rw [one_f32']
  rfl

theorem ref_expert (e : Fin 32) (n : Fin 16384) (d : Fin 1024) :
    val_main_v13 (F := Ideal) x2 x4 x5 x6 (ix3 e n d) = expertAt x2 x4 x5 x6 e.val n.val d.val := by
  rw [val_main_v13_apply]
  unfold expertAt mlp
  rw [Finset.sum_range]
  refine Finset.sum_congr rfl fun k _ => ?_
  rw [mat_at, ← ref_unit]
  refine congrArg₂ (· * ·) (congrArg (val_main_v12 (F := Ideal) x2 x4 x5) ?_) (congrArg x6 ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

theorem word_of (e : Fin 32) {w : BitVec 32} (hw : w.toNat < 32) : BitVec.ofNat 32 e.val = w ↔ e.val = w.toNat := by
  constructor
  · rintro rfl; rw [BitVec.toNat_ofNat]; have := e.isLt; omega
  · intro h; apply BitVec.eq_of_toNat_eq; rw [BitVec.toNat_ofNat]; omega

theorem ref_first (e : Fin 32) (n : Fin 16384) (h : named x8 0 n < 32) :
    val_main_v21 (F := Ideal) x8 (ix2 e n) = if e.val = named x8 0 n then x8 (ix2 2 n) else 0 := by
  rw [val_main_v21_apply, val_main_v19_apply, val_main_v16_apply, val_main_v18_apply, val_main_v17_apply, val_main_v15_apply, val_main_v14_apply,
    val_main_call0_v1_apply, val_main_v20_apply, val_main_call0_v2_apply, val_main_call0_v0_apply, val_main_cst_1_apply]
  have hi : ∀ j : S8x16384.Idx, (j 0).val = 0 → (j 1).val = n.val → FloatOps.fptosi (F := Ideal) (φ := .f32) 32 (x8 j) = FloatOps.fptosi (F := Ideal) (φ := .f32) 32 (x8 (ix2 0 n)) := fun j h0 h1 =>
    congrArg (fun q => FloatOps.fptosi (F := Ideal) (φ := .f32) 32 (x8 q)) (funext fun a => match a with | ⟨0, _⟩ => Fin.ext h0 | ⟨1, _⟩ => Fin.ext h1)
  have hv : idx_main_v20 (idx_main_call0_v1 (ix2 e n)) = ix2 2 n := funext fun a => match a with | ⟨0, _⟩ => rfl | ⟨1, _⟩ => rfl
  rw [hi _ rfl rfl, hv]
  show (if IntOp.cmpi .eq (BitVec.ofNat 32 e.val) _ = 1#1 then _ else Ideal.ofBits .f32 (0x00000000#32)) = _
  rw [zero_f32']
  exact if_congr (eq_word.trans (word_of e h)) rfl rfl

theorem ref_second (e : Fin 32) (n : Fin 16384) (h : named x8 1 n < 32) :
    val_main_v26 (F := Ideal) x8 (ix2 e n) = if e.val = named x8 1 n then x8 (ix2 3 n) else 0 := by
  rw [val_main_v26_apply, val_main_v24_apply, val_main_v16_apply, val_main_v23_apply, val_main_v22_apply, val_main_v15_apply, val_main_v14_apply,
    val_main_call1_v1_apply, val_main_v25_apply, val_main_call1_v2_apply, val_main_call1_v0_apply, val_main_cst_2_apply]
  have hi : ∀ j : S8x16384.Idx, (j 0).val = 1 → (j 1).val = n.val → FloatOps.fptosi (F := Ideal) (φ := .f32) 32 (x8 j) = FloatOps.fptosi (F := Ideal) (φ := .f32) 32 (x8 (ix2 1 n)) := fun j h0 h1 =>
    congrArg (fun q => FloatOps.fptosi (F := Ideal) (φ := .f32) 32 (x8 q)) (funext fun a => match a with | ⟨0, _⟩ => Fin.ext h0 | ⟨1, _⟩ => Fin.ext h1)
  have hv : idx_main_v25 (idx_main_call1_v1 (ix2 e n)) = ix2 3 n := funext fun a => match a with | ⟨0, _⟩ => rfl | ⟨1, _⟩ => rfl
  rw [hi _ rfl rfl, hv]
  show (if IntOp.cmpi .eq (BitVec.ofNat 32 e.val) _ = 1#1 then _ else Ideal.ofBits .f32 (0x00000000#32)) = _
  rw [zero_f32']
  exact if_congr (eq_word.trans (word_of e h)) rfl rfl

/-- Two weights on a sum over 32, one expert each. -/
theorem two_of (y : ℕ → EReal) (u v : EReal) {a b : ℕ} (ha : a < 32) (hb : b < 32) (hab : a ≠ b) :
    (∑ e : Fin 32, ((if e.val = a then u else 0) + if e.val = b then v else 0) * y e.val) = u * y a + v * y b := by
  have h : ∀ e : Fin 32, ((if e.val = a then u else 0) + if e.val = b then v else 0) * y e.val
      = (if e = (⟨a, ha⟩ : Fin 32) then u * y a else 0) + if e = (⟨b, hb⟩ : Fin 32) then v * y b else 0 := by
    intro e
    have ea : e = (⟨a, ha⟩ : Fin 32) ↔ e.val = a := ⟨fun h => by rw [h], fun h => Fin.ext h⟩
    have eb : e = (⟨b, hb⟩ : Fin 32) ↔ e.val = b := ⟨fun h => by rw [h], fun h => Fin.ext h⟩
    by_cases h1 : e.val = a
    · have h2 : e.val ≠ b := fun h => hab (h1.symm.trans h)
      rw [if_pos h1, if_neg h2, if_pos (ea.2 h1), if_neg (fun h => h2 (eb.1 h)), add_zero, add_zero, h1]
    · rw [if_neg h1, if_neg (fun h => h1 (ea.1 h)), zero_add, zero_add]
      by_cases h2 : e.val = b
      · rw [if_pos h2, if_pos (eb.2 h2), h2]
      · rw [if_neg h2, if_neg (fun h => h2 (eb.1 h)), zero_mul]
  rw [Finset.sum_congr rfl fun e _ => h e, Finset.sum_add_distrib, Finset.sum_ite_eq' Finset.univ, Finset.sum_ite_eq' Finset.univ,
    if_pos (Finset.mem_univ _), if_pos (Finset.mem_univ _)]

theorem ref_at (n : Fin 16384) (d : Fin 1024) (h0 : named x8 0 n < 32) (h1 : named x8 1 n < 32) (hd : named x8 0 n ≠ named x8 1 n) :
    val_main_v32 (F := Ideal) x2 x4 x5 x6 x7 x8 (ix2 n d) = layerAt x2 x4 x5 x6 x7 x8 n d := by
  have hs : ∀ e : Fin 32, val_main_v30 (F := Ideal) x2 x4 x5 x6 x8 (idx_main_v31 (ix2 n d) e)
      = ((if e.val = named x8 0 n then x8 (ix2 2 n) else 0) + if e.val = named x8 1 n then x8 (ix2 3 n) else 0) * expertAt x2 x4 x5 x6 e.val n.val d.val := by
    intro e
    have e3 : idx_main_v31 (ix2 n d) e = ix3 e n d := funext fun a => match a with | ⟨0, _⟩ => rfl | ⟨1, _⟩ => rfl | ⟨2, _⟩ => rfl
    rw [e3, val_main_v30_apply, ref_expert, val_main_v29_apply, val_main_v28_apply, val_main_v27_apply]
    have e2 : idx_main_v28 (idx_main_v29 (ix3 e n d)) = ix2 e n := funext fun a => match a with | ⟨0, _⟩ => rfl | ⟨1, _⟩ => rfl
    rw [e2, ref_first _ _ _ h0, ref_second _ _ _ h1]
    rfl
  rw [val_main_v32_apply, val_main_v31_apply, val_main_cst_3_apply, Finset.sum_congr rfl fun e _ => hs e,
    two_of (fun e => expertAt x2 x4 x5 x6 e n.val d.val) _ _ h0 h1 hd]
  show x7 (ix2 n d) + (Ideal.ofBits .f32 (0x00000000#32) + _) = _
  rw [zero_f32', zero_add, ← add_assoc]
  rfl

end Cert.Moe.KernelI.Value

end

end
-- ==== Proof.MoeClaim.lean ====
/- The two programs of the expert call side by side: the same result array from the same arguments. -/
module

public import proofs.«01_k».proof.Defs
public import proofs.«01_k».proof.Proof.Claims
public import proofs.«01_k».proof.Proof.Value
public import proofs.«01_k».proof.Proof.RefValue
public import proofs.«01_k».proof.Proof.Gen.ReferenceI.Run

@[expose] public section

set_option maxRecDepth 16384

noncomputable section

namespace Cert.Moe

open Idealize.ShloMosaic Idealize.ShloMosaic.TcCoe Idealize.SL.Sem
open Cert.Moe.KernelI Cert.Moe.KernelI.Value

theorem frame_referenceI_pre : quiescent_ReferenceI_pre_tables_route := fun m g _ =>
  (θ_run Cert.ReferenceI.defs _ _).mono (fun r h => ⟨fun c => (h c).2, sem_eq_zero_of_no_sems (by decide) r.2⟩)
    (Cert.ReferenceI.Value.run (F := Ideal) m g)

section
variable {m : (ℓ : Loc Cert.KernelI.nD Cert.KernelI.τ Cert.KernelI.sig) → Buf (Elt Ideal) ℓ}

theorem agrees_slots (h : Pre_KernelI m) (c : Dev Cert.KernelI.nD) : Agrees (slots m 0) (slots m 1) (aP m c) (idsOf (F := Ideal) (aR m c)) := by
  have hA := agrees_kernelI h c
  rw [show KernelI.entry m c Cert.KernelI.main_arg0 = slots m 0 from slots_eq m c 0, show KernelI.entry m c Cert.KernelI.main_arg1 = slots m 1 from slots_eq m c 1] at hA
  exact hA

/-- What the routing names for a token: two different experts. -/
theorem named_of (h : Pre_KernelI m) (c : Dev Cert.KernelI.nD) (n : Fin 16384) :
    named (aR m c) 0 n < 32 ∧ named (aR m c) 1 n < 32 ∧ named (aR m c) 0 n ≠ named (aR m c) 1 n := by
  have hA := agrees_slots h c
  have e : ∀ k : Fin 2, named (aR m c) ⟨k.val, by omega⟩ n = (idsOf (F := Ideal) (aR m c) ⟨n.val / 8192, by omega⟩ k ⟨n.val % 8192, by omega⟩).toNat := by
    intro k
    unfold Value.named idsOf
    exact congrArg (fun n => (FloatOps.fptosi (F := Ideal) (φ := .f32) 32 (aR m c (ix2 ⟨k.val, by omega⟩ n))).toNat) (Fin.ext (by show n.val = n.val / 8192 * 8192 + n.val % 8192; omega))
  refine ⟨(e 0).trans_lt (hA.named _ _ _), (e 1).trans_lt (hA.named _ _ _), fun hn => ?_⟩
  exact hA.differ _ _ (BitVec.eq_of_toNat_eq ((e 0).symm.trans (hn.trans (e 1))))

/-- The reference's array is the layer of the argument arrays. -/
theorem ref_arr (h : Pre_KernelI m) (c : Dev Cert.KernelI.nD) :
    Cert.ReferenceI.Read.val_main_v32 (F := Ideal) (aH m c) (aG m c) (aU m c) (aD m c) (aX m c) (aR m c) = layerArr m c := by
  funext i
  obtain ⟨n, d, rfl⟩ : ∃ (n : Fin 16384) (d : Fin 1024), i = ix2 n d := ⟨i 0, i 1, funext fun b => match b with | ⟨0, _⟩ => rfl | ⟨1, _⟩ => rfl⟩
  obtain ⟨h0, h1, h2⟩ := named_of h c n
  rw [ref_at _ _ _ _ _ _ n d h0 h1 h2]
  show _ = outAt m c n.val d
  unfold outAt
  rw [dif_pos n.isLt]

end

theorem algebraic : algebraic_KernelI_ReferenceI := fun m g m' g' hpre hargs => by
  have hW := KernelI.words_of m (ids := idsOf (F := Ideal) (KernelI.entry m 0 Cert.KernelI.main_arg8)) fun c => by
    obtain rfl : c = 0 := Subsingleton.elim _ _
    exact agrees_kernelI hpre 0
  refine ⟨fun c => layerArr m c, ?_, ?_⟩
  · exact (θ_run Cert.KernelI.defs _ _).mono (fun r h c => ⟨result_eq m c h.1, kept_args m h.1 c⟩) (launchedV m g hW (agrees_slots hpre))
  · refine (θ_run Cert.ReferenceI.defs _ _).mono (fun r h c => ?_) (Cert.ReferenceI.Value.run (F := Ideal) m' g')
    obtain ⟨h0, ha⟩ := h c
    obtain ⟨e0, e1, e2, e3, e4, e5, e6, e7, e8⟩ := hargs c
    refine ⟨h0.trans ((Cert.ReferenceI.Read.val_main_v32_eq _ _ _ _ _ _).trans ?_), ha⟩
    rw [e2, e4, e5, e6, e7, e8]
    exact ref_arr hpre c

end Cert.Moe

end

end
-- ==== Proof.AttnHead.lean ====
/- One head of the attention at the ideal numbers, read at one element: the scores' sums of products, the weights' powers of two
   below their row's maximum, and the quotient of the two sums over the keys. -/
module

public import proofs.«01_k».proof.Proof.Gen.AttentionI.Value
public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Attn

open Idealize.ShloMosaic Idealize.ShloMosaic.ValueIdx
open Cert.AttentionI Cert.AttentionI.Gen

/-! ## The exponential of a multiple of log 2 is the power of two -/

theorem log_two : Ideal.log (2 : EReal) = ((Real.log 2 : ℝ) : EReal) := by
  show (if (2 : ℝ) ≤ 0 then (⊥ : EReal) else ((Real.log 2 : ℝ) : EReal)) = _
  rw [if_neg (by norm_num)]

theorem exp_log_two (x : EReal) : Ideal.exp (x * Ideal.log 2) = Ideal.exp2 x := by
  have hp : (0 : ℝ) < Real.log 2 := Real.log_pos (by norm_num)
  rw [log_two]
  induction x using EReal.rec with
  | bot => rw [EReal.bot_mul_coe_of_pos hp]; rfl
  | top => rw [EReal.top_mul_coe_of_pos hp]; rfl
  | coe r =>
    rw [← EReal.coe_mul]
    show ((Real.exp (r * Real.log 2) : ℝ) : EReal) = ((Real.rpow 2 r : ℝ) : EReal)
    congr 1
    rw [mul_comm]
    exact (Real.rpow_def_of_pos (by norm_num) r).symm

/-! ## One head -/

/-- The largest entry of a row of numbers (the bottom value for none). -/
def top {n : Nat} (f : Fin n → EReal) : EReal := (Finset.univ : Finset (Fin n)).fold max ⊥ f

/-- Softmax-weighted mean by powers of two: numbers `v` weighted by `2` to the `s` below the largest `s`. -/
def mean {n : Nat} (s v : Fin n → EReal) : EReal :=
  Ideal.div (∑ k, v k * Ideal.exp2 (s k - top s)) (∑ k, Ideal.exp2 (s k - top s))

theorem one_bf16 : Ideal.ofBits .bf16 (0x3F80#16) = 1 := by
  simp [Ideal.ofBits, Ideal.ieee]
  rw [← EReal.coe_mul]
  norm_num

theorem neg_inf_f32 : Ideal.ofBits .f32 (0xFF800000#32) = ⊥ := by
  simp [Ideal.ofBits, Ideal.ieee]

theorem zero_f32 : Ideal.ofBits .f32 (0x00000000#32) = 0 := by
  simp [Ideal.ofBits, Ideal.ieee]

theorem two_f32 : Ideal.ofBits .f32 (0x40000000#32) = 2 := by
  simp [Ideal.ofBits, Ideal.ieee]
  rw [← EReal.coe_mul]
  exact congrArg Real.toEReal (show (8388608 : ℝ) * (2 ^ 22)⁻¹ = 2 by norm_num)

theorem score_apply (Q : Vec Ideal S1x1x256x128 .bf16) (K : Vec Ideal S1x1x2048x128 .bf16) (q : Fin 256) (k : Fin 2048) :
    k0_pay6 (F := Ideal) Q K (ix2 q k) = ∑ d : Fin 128, Q (ix4 0 0 q d) * K (ix4 0 0 k d) := by
  unfold k0_pay6
  simp only [matmul]
  refine (Ideal.matmul_transposedRhs_apply (M := 256) (K := 128) (N := 2048) none _ _ _ q k).trans ?_
  show Ideal.ofBits .f32 (0x00000000#32) + _ = _
  rw [zero_f32, zero_add]
  refine Finset.sum_congr rfl fun d _ => ?_
  refine congrArg₂ (· * ·) ?_ ?_
  · exact shapeCast_apply Q _ (ix2 q d) (ix4 0 0 q d) (by rw [Shape.rowMajor_val_two, Shape.rowMajor_val_four]; simp [ix2, ix4])
  · exact shapeCast_apply K _ (ix2 k d) (ix4 0 0 k d) (by rw [Shape.rowMajor_val_two, Shape.rowMajor_val_four]; simp [ix2, ix4])

theorem max_apply (s : FVec Ideal S256x2048 .f32) (q : Fin 256) :
    multiReduction (F := Ideal) .maximumf [1] S256 s 0xFF800000#32 reduces_S256x2048_S256 (.inl rfl) rfl (ix1 q)
      = top fun k => s (ix2 q k) := by
  refine (Ideal.multiReduction_maximumf_single (a := (1 : Fin S256x2048.rank)) s _ _ _ _ _).trans ?_
  show (Finset.univ : Finset (Fin 2048)).fold max (Ideal.ofBits .f32 (0xFF800000#32)) _ = _
  rw [neg_inf_f32]
  unfold top
  congr 1
  funext k
  exact congrArg s (funext fun a => Fin.ext (by match a with | ⟨0, _⟩ => rfl | ⟨1, _⟩ => rfl))

theorem weight_apply (s : FVec Ideal S256x2048 .f32) (q : Fin 256) (k : Fin 2048) :
    truncf .bf16 (exp2 (subf s (broadcastTo S256x2048 (shapeCast S256x1
      (multiReduction (F := Ideal) .maximumf [1] S256 s 0xFF800000#32 reduces_S256x2048_S256 (.inl rfl) rfl)
      shapeCasts_S256_S256x1) broadcasts_S256x1_S256x2048))) bitsLt_bf16_f32 (ix2 q k)
      = Ideal.exp2 (s (ix2 q k) - top fun k => s (ix2 q k)) := by
  refine congrArg (fun e => Ideal.exp2 (s (ix2 q k) - e)) ?_
  rw [broadcastTo_apply _ broadcasts_S256x1_S256x2048 (ix2 q k) (ix2 q 0) (fun a => match a with
    | ⟨0, _⟩ => by show q.val = if (256 : Nat) = 1 then 0 else q.val; rw [if_neg (by decide)]
    | ⟨1, _⟩ => by show 0 = if (1 : Nat) = 1 then 0 else k.val; rw [if_pos rfl])]
  rw [shapeCast_apply _ shapeCasts_S256_S256x1 (ix2 q 0) (ix1 q) (by
    rw [Shape.rowMajor_val_two, Shape.rowMajor_val_one]; simp [ix1, ix2])]
  exact max_apply s q

theorem head_apply (s : FVec Ideal S256x2048 .f32) (v : Vec Ideal S1x64x2048 .bf16) (r : Fin 64) (q : Fin 256) :
    k0_pay10 (F := Ideal) (k0_pay5 (F := Ideal)) s v (ix2 r q) = mean (fun k => s (ix2 q k)) (fun k => v (ix3 0 r k)) := by
  unfold k0_pay10 mean
  dsimp only
  have hm : ∀ (x : FVec Ideal S80x2048 .bf16) (w : FVec Ideal S256x2048 .bf16) (i : Fin 80),
      matmul dot_S80x2048_S256x2048_S80x256_1_1_0_0_n_n none x w (constant S80x256 .f32 0x00000000#32) (ix2 i q)
        = ∑ k : Fin 2048, x (ix2 i k) * w (ix2 q k) := fun x w i => by
    simp only [matmul]
    refine (Ideal.matmul_transposedRhs_apply (M := 80) (K := 2048) (N := 256) none x w _ i q).trans ?_
    show Ideal.ofBits .f32 (0x00000000#32) + _ = _
    rw [zero_f32, zero_add]
  show Ideal.div _ _ = _
  refine congrArg₂ Ideal.div ?_ ?_
  · rw [extractStridedSlice_apply ![0, 0] _ slices_S80x256_o0_0_S64x256 (ix2 r q) (ix2 ⟨r.val, by omega⟩ q) (fun a => match a with
      | ⟨0, _⟩ => by show r.val = 0 + r.val; omega
      | ⟨1, _⟩ => by show q.val = 0 + q.val; omega)]
    rw [hm]
    refine Finset.sum_congr rfl fun k _ => ?_
    rw [weight_apply]
    refine congrArg (· * _) ?_
    rw [concatenate_pair_apply_left (t := S80x2048) (s₁ := S64x2048) (s₂ := S16x2048) 0 _ _ _ (ix2 ⟨r.val, by omega⟩ k) rfl (ix2 r k) (fun a => match a with
      | ⟨0, _⟩ => rfl
      | ⟨1, _⟩ => rfl)]
    exact shapeCast_apply v _ (ix2 r k) (ix3 0 r k) (by rw [Shape.rowMajor_val_two, Shape.rowMajor_val_three]; simp [ix2, ix3])
  · rw [broadcastTo_apply _ broadcasts_S1x256_S64x256 (ix2 r q) (ix2 0 q) (fun a => match a with
      | ⟨0, _⟩ => by show 0 = if (1 : Nat) = 1 then 0 else r.val; rw [if_pos rfl]
      | ⟨1, _⟩ => by show q.val = if (256 : Nat) = 1 then 0 else q.val; rw [if_neg (by decide)])]
    rw [extractStridedSlice_apply ![64, 0] _ slices_S80x256_o64_0_S1x256 (ix2 0 q) (ix2 64 q) (fun a => match a with
      | ⟨0, _⟩ => by show 64 = 64 + 0; rfl
      | ⟨1, _⟩ => by show q.val = 0 + q.val; omega)]
    rw [hm]
    refine Finset.sum_congr rfl fun k _ => ?_
    rw [weight_apply]
    rw [concatenate_pair_apply_right (t := S80x2048) (s₁ := S64x2048) (s₂ := S16x2048) 0 _ _ _ (ix2 64 k) rfl rfl (ix2 0 k) (fun a ha => match a with
      | ⟨0, _⟩ => absurd rfl ha
      | ⟨1, _⟩ => rfl) (by show 0 + 64 = 64; rfl)]
    show Ideal.ofBits .bf16 (0x3F80#16) * _ = _
    rw [one_bf16, one_mul]

end Cert.Attn

end

end
-- ==== Proof.AttnBlock.lean ====
/- The attention call's result arrays after its run, as functions of its argument arrays: what one grid point leaves in its
   blocks, and the blocks put side by side. -/
module

public import proofs.«01_k».proof.Proof.AttnHead
public import Idealize.ShloMosaic.Lib.Pipeline.ValueKit.Tiles

@[expose] public section

noncomputable section

namespace Cert.Attn

open Idealize.ShloMosaic Idealize.ShloMosaic.TcCoe Idealize.ShloMosaic.ValueIdx
open Cert.AttentionI Cert.AttentionI.Gen Cert.AttentionI.Value

/-! ## The eight heads of a block, one under the other -/

/-- The rows of the stacked heads: head `h`'s row `r` is row `64 h + r`. -/
def row (h : Fin 8) (r : Fin 64) : Fin 512 := ⟨h.val * 64 + r.val, by omega⟩

theorem stacked_apply (S : Fin 8 → FVec Ideal S256x2048 .f32) (V : Fin 8 → Vec Ideal S1x64x2048 .bf16)
    (h : Fin 8) (r : Fin 64) (q : Fin 256) :
    k0_pay21 (F := Ideal) k0_pay5 (k0_pay10 k0_pay5 (S 0) (V 0)) (k0_pay12 k0_pay5 (S 1) (V 1)) (S 5) (k0_pay14 k0_pay5 (S 2) (V 2))
      (S 6) (k0_pay17 k0_pay5 (S 3) (V 3)) (S 7) (k0_pay19 k0_pay5 (S 4) (V 4)) (k0_pay20 (S 5)) (V 5) (V 6) (V 7)
      (ix2 (row h r) q) = mean (fun k => S h (ix2 q k)) (fun k => V h (ix3 0 r k)) := by
  rw [← head_apply]
  show concatenate S512x256 0 (List.ofFn fun n : Fin 8 => (⟨S64x256, k0_pay10 (F := Ideal) k0_pay5 (S n) (V n)⟩ : (s : Shape) × (s.Idx → Ideal .f32)))
    concatenates_S64x256_S64x256_S64x256_S64x256_S64x256_S64x256_S64x256_S64x256_S512x256_d0 (ix2 (row h r) q) = _
  have hh : (h.val * 64 + r.val) / 64 = h.val := by omega
  have hr : r.val = (h.val * 64 + r.val) % 64 := by omega
  exact concatenate_ofFn_apply (t := S512x256) (s₁ := S64x256) 0 (fun n : Fin 8 => k0_pay10 (F := Ideal) k0_pay5 (S n) (V n)) _ rfl 64 rfl
    (ix2 (row h r) q) h hh (ix2 r q) hr (fun b hb => match b with
      | ⟨0, _⟩ => absurd rfl hb
      | ⟨1, _⟩ => rfl)

/-! ## What a point leaves in its block of the attention -/

theorem inbQ (h : Fin 8) : ∀ a : Fin 4, (![0, h.val, 0, 0] : Fin 4 → Nat) a + S1x1x256x128.size a ≤ S1x8x256x128.size a := by
  revert h; decide
theorem inbK (h : Fin 8) : ∀ a : Fin 4, (![0, h.val, 0, 0] : Fin 4 → Nat) a + S1x1x2048x128.size a ≤ S1x8x2048x128.size a := by
  revert h; decide
theorem inbV (h : Fin 8) : ∀ a : Fin 3, (![0, h.val * 64, 0] : Fin 3 → Nat) a + S1x64x2048.size a ≤ S1x512x2048.size a := by
  revert h; decide

/-- Head `h`'s scores of a block, and its values. -/
def scores (x0 : Vec Ideal S1x8x256x128 .bf16) (x1 : Vec Ideal S1x8x2048x128 .bf16) (h : Fin 8) : FVec Ideal S256x2048 .f32 :=
  k0_pay6 (F := Ideal) (View.ld x0 (Rect.unit (s := S1x8x256x128) ![0, h.val, 0, 0] S1x1x256x128.size (inbQ h)))
    (View.ld x1 (Rect.unit (s := S1x8x2048x128) ![0, h.val, 0, 0] S1x1x2048x128.size (inbK h)))

def values (x2 : Vec Ideal S1x512x2048 .bf16) (h : Fin 8) : Vec Ideal S1x64x2048 .bf16 :=
  View.ld x2 (Rect.unit (s := S1x512x2048) ![0, h.val * 64, 0] S1x64x2048.size (inbV h))

theorem scores_apply (x0 : Vec Ideal S1x8x256x128 .bf16) (x1 : Vec Ideal S1x8x2048x128 .bf16) (h : Fin 8) (q : Fin 256) (k : Fin 2048) :
    scores x0 x1 h (ix2 q k) = ∑ d : Fin 128, x0 (ix4 0 h q d) * x1 (ix4 0 h k d) := by
  unfold scores
  rw [score_apply]
  refine Finset.sum_congr rfl fun d _ => congrArg₂ (· * ·) ?_ ?_
  · exact congrArg x0 (funext fun a => Fin.ext (match a with
      | ⟨0, _⟩ => rfl
      | ⟨1, _⟩ => by show h.val + 1 * 0 = h.val; omega
      | ⟨2, _⟩ => by show 0 + 1 * q.val = q.val; omega
      | ⟨3, _⟩ => by show 0 + 1 * d.val = d.val; omega))
  · exact congrArg x1 (funext fun a => Fin.ext (match a with
      | ⟨0, _⟩ => rfl
      | ⟨1, _⟩ => by show h.val + 1 * 0 = h.val; omega
      | ⟨2, _⟩ => by show 0 + 1 * k.val = k.val; omega
      | ⟨3, _⟩ => by show 0 + 1 * d.val = d.val; omega))

theorem values_apply (x2 : Vec Ideal S1x512x2048 .bf16) (h : Fin 8) (r : Fin 64) (k : Fin 2048) :
    values x2 h (ix3 0 r k) = x2 (ix3 0 (row h r) k) :=
  congrArg x2 (funext fun a => Fin.ext (match a with
      | ⟨0, _⟩ => rfl
      | ⟨1, _⟩ => by show h.val * 64 + 1 * r.val = h.val * 64 + r.val; omega
      | ⟨2, _⟩ => by show 0 + 1 * k.val = k.val; omega))

theorem out6_apply (x0 : Vec Ideal S1x8x256x128 .bf16) (x1 : Vec Ideal S1x8x2048x128 .bf16) (x2 : Vec Ideal S1x512x2048 .bf16)
    (x3 x4 : Vec Ideal S512x256 .f32) (x5 : Vec Ideal S128x1024 .f32) (h : Fin 8) (r : Fin 64) (q : Fin 256) :
    out0_6 (F := Ideal) x0 x1 x2 x3 x4 x5 (ix3 0 (row h r) q)
      = mean (fun k => ∑ d : Fin 128, x0 (ix4 0 h q d) * x1 (ix4 0 h k d)) (fun k => x2 (ix3 0 (row h r) k)) := by
  unfold_out out0_6
  refine (canon6_eq (F := Ideal) _ _ _ _ _ _ _ _ _ _ _ _ _ _ _ _ _ _ _ _ _ _ _ _ (ix3 0 (row h r) q)).trans ?_
  refine (?_ : _ = k0_pay21 (F := Ideal) k0_pay5 (k0_pay10 k0_pay5 (scores x0 x1 0) (values x2 0)) (k0_pay12 k0_pay5 (scores x0 x1 1) (values x2 1)) (scores x0 x1 5)
      (k0_pay14 k0_pay5 (scores x0 x1 2) (values x2 2))
      (scores x0 x1 6) (k0_pay17 k0_pay5 (scores x0 x1 3) (values x2 3)) (scores x0 x1 7) (k0_pay19 k0_pay5 (scores x0 x1 4) (values x2 4)) (k0_pay20 (scores x0 x1 5))
      (values x2 5) (values x2 6) (values x2 7) (ix2 (row h r) q)).trans ?_
  · refine congrArg₂ (fun (f : FVec Ideal S512x256 .bf16) y => f y) rfl ?_
    funext a
    match a with
    | ⟨0, _⟩ => rfl
    | ⟨1, _⟩ => rfl
  · rw [stacked_apply]
    simp only [scores_apply, values_apply]

theorem hz2 : (![0, 0] : Fin 2 → Nat) = fun _ => 0 := funext fun a => by fin_cases a <;> rfl

theorem out7_apply (x0 : Vec Ideal S1x8x256x128 .bf16) (x1 : Vec Ideal S1x8x2048x128 .bf16) (x2 : Vec Ideal S1x512x2048 .bf16)
    (x3 x4 : Vec Ideal S512x256 .f32) (x5 : Vec Ideal S128x1024 .f32) : out0_7 (F := Ideal) x0 x1 x2 x3 x4 x5 = truncf (F := Ideal) (s := S512x256) (φ := .f32) .bf16 x3 bitsLt_bf16_f32 := by
  funext y
  unfold out0_7
  refine (canon7_eq (F := Ideal) _ y).trans ?_
  rw [View.ld_unit_zero hz2]
  exact congrArg x3 (funext fun a => match a with
    | ⟨0, _⟩ => rfl
    | ⟨1, _⟩ => rfl)

theorem out8_apply (x0 : Vec Ideal S1x8x256x128 .bf16) (x1 : Vec Ideal S1x8x2048x128 .bf16) (x2 : Vec Ideal S1x512x2048 .bf16)
    (x3 x4 : Vec Ideal S512x256 .f32) (x5 : Vec Ideal S128x1024 .f32) : out0_8 (F := Ideal) x0 x1 x2 x3 x4 x5 = truncf (F := Ideal) (s := S512x256) (φ := .f32) .bf16 x4 bitsLt_bf16_f32 := by
  funext y
  unfold out0_8
  refine (canon8_eq (F := Ideal) _ y).trans ?_
  rw [View.ld_unit_zero hz2]
  exact congrArg x4 (funext fun a => match a with
    | ⟨0, _⟩ => rfl
    | ⟨1, _⟩ => rfl)

theorem out9_apply (x0 : Vec Ideal S1x8x256x128 .bf16) (x1 : Vec Ideal S1x8x2048x128 .bf16) (x2 : Vec Ideal S1x512x2048 .bf16)
    (x3 x4 : Vec Ideal S512x256 .f32) (x5 : Vec Ideal S128x1024 .f32) : out0_9 (F := Ideal) x0 x1 x2 x3 x4 x5 = truncf (F := Ideal) (s := S128x1024) (φ := .f32) .bf16 x5 bitsLt_bf16_f32 := by
  funext y
  unfold out0_9
  refine (canon9_eq (F := Ideal) _ y).trans ?_
  rw [View.ld_unit_zero hz2]
  exact congrArg x5 (funext fun a => match a with
    | ⟨0, _⟩ => rfl
    | ⟨1, _⟩ => rfl)

end Cert.Attn

end

end
-- ==== Proof.AttnArrays.lean ====
/- The attention call's four result arrays after its run: the attention of the argument arrays, and the three weight arrays in
   the narrow format. -/
module

public import proofs.«01_k».proof.Proof.AttnBlock

@[expose] public section

noncomputable section

namespace Cert.Attn

open Idealize.ShloMosaic Idealize.ShloMosaic.TcCoe Idealize.ShloMosaic.ValueIdx Idealize.SL.Sem
open Cert.AttentionI Cert.AttentionI.Gen Cert.AttentionI.Value

/-- The attention at one element: batch `b`, head `h`, component `r`, query `q`. -/
def attn (x0 x1 : FVec Ideal S8x8x2048x128 .bf16) (x2 : FVec Ideal S8x512x2048 .bf16) (b h : Fin 8) (r : Fin 64) (q : Fin 2048) : EReal :=
  mean (fun k => ∑ d : Fin 128, x0 (ix4 b h q d) * x1 (ix4 b h k d)) (fun k : Fin 2048 => x2 (ix3 b (row h r) k))

/-- The whole array of it, the heads stacked. -/
def attnArr (x0 x1 : FVec Ideal S8x8x2048x128 .bf16) (x2 : FVec Ideal S8x512x2048 .bf16) : FVec Ideal S8x512x2048 .bf16 := fun i =>
  attn x0 x1 x2 (i 0) ⟨(i 1).val / 64, by have h : (i 1).val < 512 := (i 1).isLt; omega⟩ ⟨(i 1).val % 64, by omega⟩ (i 2)

theorem row_div (h : Fin 8) (r : Fin 64) (p) : (⟨(row h r).val / 64, p⟩ : Fin 8) = h :=
  Fin.ext (by show (h.val * 64 + r.val) / 64 = h.val; omega)
theorem row_mod (h : Fin 8) (r : Fin 64) (p) : (⟨(row h r).val % 64, p⟩ : Fin 64) = r :=
  Fin.ext (by show (h.val * 64 + r.val) % 64 = r.val; omega)
theorem exists_row (i : Fin 512) : ∃ h r, i = row h r :=
  ⟨⟨i.val / 64, by omega⟩, ⟨i.val % 64, by omega⟩, Fin.ext (by show i.val = i.val / 64 * 64 + i.val % 64; omega)⟩

theorem attnArr_apply (x0 x1 : FVec Ideal S8x8x2048x128 .bf16) (x2 : FVec Ideal S8x512x2048 .bf16) (b h : Fin 8) (r : Fin 64) (q : Fin 2048) :
    attnArr x0 x1 x2 (ix3 b (row h r) q) = attn x0 x1 x2 b h r q := by
  show attn x0 x1 x2 b ⟨(row h r).val / 64, _⟩ ⟨(row h r).val % 64, _⟩ q = _
  rw [row_div, row_mod]

variable (m : (ℓ : Loc nD τ sig) → Buf (Elt Ideal) ℓ)

/-! ## Where the windows' blocks lie -/

theorem idx0 : ∀ t : Fin cfg0.N, win0_0.index t (0 : Fin 4) = t.val / 8 ∧ win0_0.index t (1 : Fin 4) = 0
    ∧ win0_0.index t (2 : Fin 4) = t.val % 8 ∧ win0_0.index t (3 : Fin 4) = 0 := (by decide +kernel : ∀ t : Fin grid0.N, _)
theorem idx1 : ∀ t : Fin cfg0.N, win0_1.index t (0 : Fin 4) = t.val / 8 ∧ win0_1.index t (1 : Fin 4) = 0
    ∧ win0_1.index t (2 : Fin 4) = 0 ∧ win0_1.index t (3 : Fin 4) = 0 := (by decide +kernel : ∀ t : Fin grid0.N, _)
theorem idx2 : ∀ t : Fin cfg0.N, win0_2.index t (0 : Fin 3) = t.val / 8 ∧ win0_2.index t (1 : Fin 3) = 0
    ∧ win0_2.index t (2 : Fin 3) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 3) = t.val / 8 ∧ win0_6.index t (1 : Fin 3) = 0
    ∧ win0_6.index t (2 : Fin 3) = t.val % 8 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem lt_N (t : Fin cfg0.N) : t.val < 64 := lt_of_lt_of_eq t.isLt N_0

/-- A point's batch, and its tile's query `q` in the batch. -/
def batch (t : Fin cfg0.N) : Fin 8 := ⟨t.val / 8, by have := lt_N t; omega⟩
def query (t : Fin cfg0.N) (q : Fin 256) : Fin 2048 := ⟨t.val % 8 * 256 + q.val, by omega⟩

theorem emb0 (t : Fin cfg0.N) (h : Fin 8) (q : Fin 256) (d : Fin 128) :
    ((cfg0.win 0).blk t).view.emb (ix4 0 h q d) = ix4 (batch t) h (query t q) d := by
  obtain ⟨e0, e1, e2, e3⟩ := idx0 t
  funext a; apply Fin.ext
  match a with
  | ⟨0, _⟩ => show win0_0.index t (0 : Fin 4) * 1 + 1 * 0 = t.val / 8; omega
  | ⟨1, _⟩ => show win0_0.index t (1 : Fin 4) * 8 + 1 * h.val = h.val; omega
  | ⟨2, _⟩ => show win0_0.index t (2 : Fin 4) * 256 + 1 * q.val = t.val % 8 * 256 + q.val; omega
  | ⟨3, _⟩ => show win0_0.index t (3 : Fin 4) * 128 + 1 * d.val = d.val; omega

theorem emb1 (t : Fin cfg0.N) (h : Fin 8) (k : Fin 2048) (d : Fin 128) :
    ((cfg0.win 1).blk t).view.emb (ix4 0 h k d) = ix4 (batch t) h k d := by
  obtain ⟨e0, e1, e2, e3⟩ := idx1 t
  funext a; apply Fin.ext
  match a with
  | ⟨0, _⟩ => show win0_1.index t (0 : Fin 4) * 1 + 1 * 0 = t.val / 8; omega
  | ⟨1, _⟩ => show win0_1.index t (1 : Fin 4) * 8 + 1 * h.val = h.val; omega
  | ⟨2, _⟩ => show win0_1.index t (2 : Fin 4) * 2048 + 1 * k.val = k.val; omega
  | ⟨3, _⟩ => show win0_1.index t (3 : Fin 4) * 128 + 1 * d.val = d.val; omega

theorem emb2 (t : Fin cfg0.N) (i : Fin 512) (k : Fin 2048) :
    ((cfg0.win 2).blk t).view.emb (ix3 0 i k) = ix3 (batch t) i k := by
  obtain ⟨e0, e1, e2⟩ := idx2 t
  funext a; apply Fin.ext
  match a with
  | ⟨0, _⟩ => show win0_2.index t (0 : Fin 3) * 1 + 1 * 0 = t.val / 8; omega
  | ⟨1, _⟩ => show win0_2.index t (1 : Fin 3) * 512 + 1 * i.val = i.val; omega
  | ⟨2, _⟩ => show win0_2.index t (2 : Fin 3) * 2048 + 1 * k.val = k.val; omega

theorem emb6 (t : Fin cfg0.N) (i : Fin 512) (q : Fin 256) :
    ((cfg0.win 6).blk t).view.emb (ix3 0 i q) = ix3 (batch t) i (query t q) := by
  obtain ⟨e0, e1, e2⟩ := idx6 t
  funext a; apply Fin.ext
  match a with
  | ⟨0, _⟩ => show win0_6.index t (0 : Fin 3) * 1 + 1 * 0 = t.val / 8; omega
  | ⟨1, _⟩ => show win0_6.index t (1 : Fin 3) * 512 + 1 * i.val = i.val; omega
  | ⟨2, _⟩ => show win0_6.index t (2 : Fin 3) * 256 + 1 * q.val = t.val % 8 * 256 + q.val; omega

/-! ## The attention's array -/

theorem flushed6_eq (c : Dev nD) (t : Fin cfg0.N) :
    (dats m 0 c).flushed 6 t = ((cfg0.win 6).blk t).view.read (Elt Ideal) (attnArr (V m c main_arg0) (V m c main_arg1) (V m c main_arg2)) := by
  rw [flushed6]
  funext y
  show out0_6 (iblk m c 0 t) (iblk m c 1 t) (iblk m c 2 t) (iblk m c 3 t) (iblk m c 4 t) (iblk m c 5 t) y
    = attnArr (V m c main_arg0) (V m c main_arg1) (V m c main_arg2) (((cfg0.win 6).blk t).view.emb y)
  obtain ⟨h, r, hr⟩ := exists_row (y 1)
  obtain ⟨q, hy⟩ : ∃ q : Fin 256, y = ix3 0 (row h r) q := ⟨y 2, funext fun a => match a with
    | ⟨0, _⟩ => Subsingleton.elim (α := Fin 1) _ _
    | ⟨1, _⟩ => hr
    | ⟨2, _⟩ => rfl⟩
  subst hy
  rw [emb6]
  refine (out6_apply _ _ _ _ _ _ h r q).trans ((attnArr_apply _ _ _ _ _ _ _).trans ?_).symm
  unfold attn
  refine congrArg₂ mean (funext fun k => Finset.sum_congr rfl fun d _ => congrArg₂ (· * ·) ?_ ?_) (funext fun k => ?_)
  · exact (congrArg (V m c main_arg0) (emb0 t h q d)).symm
  · exact (congrArg (V m c main_arg1) (emb1 t h k d)).symm
  · exact (congrArg (V m c main_arg2) (emb2 t (row h r) k)).symm

theorem covered6 (i : S8x512x2048.Idx) : ∃ t : Fin cfg0.N, (cfg0.win 6).flush t = true ∧ i ∈ ((cfg0.win 6).blk t).view.set := by
  have h0 : (i 0).val < 8 := (i 0).isLt
  have h1 : (i 1).val < 512 := (i 1).isLt
  have h2 : (i 2).val < 2048 := (i 2).isLt
  refine ⟨⟨(i 0).val * 8 + (i 2).val / 256, lt_of_lt_of_eq (by omega) N_0.symm⟩, flush0_6 _, ?_⟩
  have h := ((cfg0.win 6).blk ⟨(i 0).val * 8 + (i 2).val / 256, lt_of_lt_of_eq (by omega) N_0.symm⟩).view.emb_mem_set
    (ix3 0 ⟨(i 1).val, h1⟩ ⟨(i 2).val % 256, by omega⟩)
  rw [emb6] at h
  refine (congrArg (· ∈ _) (funext fun a => Fin.ext ?_)).mp h
  match a with
  | ⟨0, _⟩ => show ((i 0).val * 8 + (i 2).val / 256) / 8 = (i 0).val; omega
  | ⟨1, _⟩ => rfl
  | ⟨2, _⟩ => show ((i 0).val * 8 + (i 2).val / 256) % 8 * 256 + (i 2).val % 256 = (i 2).val; omega

theorem final6 (c : Dev nD) : (dats m 0 c).arrAt 6 cfg0.N
    = attnArr (m ((c : Thread nD τ).loc main_arg0)) (m ((c : Thread nD τ).loc main_arg1)) (m ((c : Thread nD τ).loc main_arg2)) :=
  ((dats m 0 c).arrAt_eq_of_cover 6 (attnArr (V m c main_arg0) (V m c main_arg1) (V m c main_arg2))
    (fun t _ => flushed6_eq m c t) covered6).trans (by rw [V_main_arg0, V_main_arg1, V_main_arg2])

/-! ## The three weight arrays -/

theorem V_v0 (c : Dev nD) : V m c main_v0 = shapeCast S32768x256 (m ((c : Thread nD τ).loc main_arg3)) shapeCasts_S4x8x1024x256_S32768x256 := by
  simp only [V, hostOps0]
  after_results <;> rfl
theorem V_v1 (c : Dev nD) : V m c main_v1 = shapeCast S32768x256 (m ((c : Thread nD τ).loc main_arg4)) shapeCasts_S4x8x1024x256_S32768x256 := by
  simp only [V, hostOps0]
  after_results <;> rfl
theorem V_v2 (c : Dev nD) : V m c main_v2 = shapeCast S8192x1024 (m ((c : Thread nD τ).loc main_arg5)) shapeCasts_S4x8x256x1024_S8192x1024 := by
  simp only [V, hostOps0]
  after_results <;> rfl

/-- An output window's block of rows lies where the input window's does. -/
theorem emb37 (t : Fin cfg0.N) (j : S512x256.Idx) : ((cfg0.win 3).blk t).view.emb j = ((cfg0.win 7).blk t).view.emb j := by
  obtain ⟨e0, e1⟩ := idx3 t
  obtain ⟨g0, g1⟩ := idx7 t
  funext a; apply Fin.ext
  match a with
  | ⟨0, _⟩ => show win0_3.index t (0 : Fin 2) * 512 + 1 * (j 0).val = win0_7.index t (0 : Fin 2) * 512 + 1 * (j 0).val; omega
  | ⟨1, _⟩ => show win0_3.index t (1 : Fin 2) * 256 + 1 * (j 1).val = win0_7.index t (1 : Fin 2) * 256 + 1 * (j 1).val; omega
theorem emb48 (t : Fin cfg0.N) (j : S512x256.Idx) : ((cfg0.win 4).blk t).view.emb j = ((cfg0.win 8).blk t).view.emb j := by
  obtain ⟨e0, e1⟩ := idx4 t
  obtain ⟨g0, g1⟩ := idx8 t
  funext a; apply Fin.ext
  match a with
  | ⟨0, _⟩ => show win0_4.index t (0 : Fin 2) * 512 + 1 * (j 0).val = win0_8.index t (0 : Fin 2) * 512 + 1 * (j 0).val; omega
  | ⟨1, _⟩ => show win0_4.index t (1 : Fin 2) * 256 + 1 * (j 1).val = win0_8.index t (1 : Fin 2) * 256 + 1 * (j 1).val; omega
theorem emb59 (t : Fin cfg0.N) (j : S128x1024.Idx) : ((cfg0.win 5).blk t).view.emb j = ((cfg0.win 9).blk t).view.emb j := by
  obtain ⟨e0, e1⟩ := idx5 t
  obtain ⟨g0, g1⟩ := idx9 t
  funext a; apply Fin.ext
  match a with
  | ⟨0, _⟩ => show win0_5.index t (0 : Fin 2) * 128 + 1 * (j 0).val = win0_9.index t (0 : Fin 2) * 128 + 1 * (j 0).val; omega
  | ⟨1, _⟩ => show win0_5.index t (1 : Fin 2) * 1024 + 1 * (j 1).val = win0_9.index t (1 : Fin 2) * 1024 + 1 * (j 1).val; omega

theorem flushed7_eq (c : Dev nD) (t : Fin cfg0.N) :
    (dats m 0 c).flushed 7 t = ((cfg0.win 7).blk t).view.read (Elt Ideal) (truncf (F := Ideal) (s := S32768x256) (φ := .f32) .bf16 (V m c main_v0) bitsLt_bf16_f32) := by
  rw [flushed7, out7_apply]
  exact funext fun y => congrArg (V m c main_v0) (emb37 t y)
theorem flushed8_eq (c : Dev nD) (t : Fin cfg0.N) :
    (dats m 0 c).flushed 8 t = ((cfg0.win 8).blk t).view.read (Elt Ideal) (truncf (F := Ideal) (s := S32768x256) (φ := .f32) .bf16 (V m c main_v1) bitsLt_bf16_f32) := by
  rw [flushed8, out8_apply]
  exact funext fun y => congrArg (V m c main_v1) (emb48 t y)
theorem flushed9_eq (c : Dev nD) (t : Fin cfg0.N) :
    (dats m 0 c).flushed 9 t = ((cfg0.win 9).blk t).view.read (Elt Ideal) (truncf (F := Ideal) (s := S8192x1024) (φ := .f32) .bf16 (V m c main_v2) bitsLt_bf16_f32) := by
  rw [flushed9, out9_apply]
  exact funext fun y => congrArg (V m c main_v2) (emb59 t y)

theorem covered7 (i : S32768x256.Idx) : ∃ t : Fin cfg0.N, (cfg0.win 7).flush t = true ∧ i ∈ ((cfg0.win 7).blk t).view.set := by
  have h0 : (i 0).val < 32768 := (i 0).isLt
  have h1 : (i 1).val < 256 := (i 1).isLt
  obtain ⟨t, ht⟩ : ∃ t : Fin cfg0.N, t.val = (i 0).val / 512 := ⟨⟨(i 0).val / 512, lt_of_lt_of_eq (by omega) N_0.symm⟩, rfl⟩
  obtain ⟨g0, g1⟩ := idx7 t
  refine ⟨t, flush0_7 _, ?_⟩
  refine (congrArg (· ∈ _) (funext fun a => Fin.ext ?_)).mp
    (((cfg0.win 7).blk t).view.emb_mem_set (ix2 (n0 := 512) (n1 := 256) ⟨(i 0).val % 512, by omega⟩ ⟨(i 1).val, h1⟩))
  match a with
  | ⟨0, _⟩ => show win0_7.index t (0 : Fin 2) * 512 + 1 * ((i 0).val % 512) = (i 0).val; omega
  | ⟨1, _⟩ => show win0_7.index t (1 : Fin 2) * 256 + 1 * (i 1).val = (i 1).val; omega
theorem covered8 (i : S32768x256.Idx) : ∃ t : Fin cfg0.N, (cfg0.win 8).flush t = true ∧ i ∈ ((cfg0.win 8).blk t).view.set := by
  have h0 : (i 0).val < 32768 := (i 0).isLt
  have h1 : (i 1).val < 256 := (i 1).isLt
  obtain ⟨t, ht⟩ : ∃ t : Fin cfg0.N, t.val = (i 0).val / 512 := ⟨⟨(i 0).val / 512, lt_of_lt_of_eq (by omega) N_0.symm⟩, rfl⟩
  obtain ⟨g0, g1⟩ := idx8 t
  refine ⟨t, flush0_8 _, ?_⟩
  refine (congrArg (· ∈ _) (funext fun a => Fin.ext ?_)).mp
    (((cfg0.win 8).blk t).view.emb_mem_set (ix2 (n0 := 512) (n1 := 256) ⟨(i 0).val % 512, by omega⟩ ⟨(i 1).val, h1⟩))
  match a with
  | ⟨0, _⟩ => show win0_8.index t (0 : Fin 2) * 512 + 1 * ((i 0).val % 512) = (i 0).val; omega
  | ⟨1, _⟩ => show win0_8.index t (1 : Fin 2) * 256 + 1 * (i 1).val = (i 1).val; omega
theorem covered9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  obtain ⟨t, ht⟩ : ∃ t : Fin cfg0.N, t.val = (i 0).val / 128 := ⟨⟨(i 0).val / 128, lt_of_lt_of_eq (by omega) N_0.symm⟩, rfl⟩
  obtain ⟨g0, g1⟩ := idx9 t
  refine ⟨t, flush0_9 _, ?_⟩
  refine (congrArg (· ∈ _) (funext fun a => Fin.ext ?_)).mp
    (((cfg0.win 9).blk t).view.emb_mem_set (ix2 (n0 := 128) (n1 := 1024) ⟨(i 0).val % 128, by omega⟩ ⟨(i 1).val, h1⟩))
  match a with
  | ⟨0, _⟩ => show win0_9.index t (0 : Fin 2) * 128 + 1 * ((i 0).val % 128) = (i 0).val; omega
  | ⟨1, _⟩ => show win0_9.index t (1 : Fin 2) * 1024 + 1 * (i 1).val = (i 1).val; omega

theorem final7 (c : Dev nD) : (dats m 0 c).arrAt 7 cfg0.N = truncf (F := Ideal) (s := S32768x256) (φ := .f32) .bf16
    (shapeCast S32768x256 (m ((c : Thread nD τ).loc main_arg3)) shapeCasts_S4x8x1024x256_S32768x256) bitsLt_bf16_f32 :=
  ((dats m 0 c).arrAt_eq_of_cover 7 _ (fun t _ => flushed7_eq m c t) covered7).trans (by rw [V_v0])
theorem final8 (c : Dev nD) : (dats m 0 c).arrAt 8 cfg0.N = truncf (F := Ideal) (s := S32768x256) (φ := .f32) .bf16
    (shapeCast S32768x256 (m ((c : Thread nD τ).loc main_arg4)) shapeCasts_S4x8x1024x256_S32768x256) bitsLt_bf16_f32 :=
  ((dats m 0 c).arrAt_eq_of_cover 8 _ (fun t _ => flushed8_eq m c t) covered8).trans (by rw [V_v1])
theorem final9 (c : Dev nD) : (dats m 0 c).arrAt 9 cfg0.N = truncf (F := Ideal) (s := S8192x1024) (φ := .f32) .bf16
    (shapeCast S8192x1024 (m ((c : Thread nD τ).loc main_arg5)) shapeCasts_S4x8x256x1024_S8192x1024) bitsLt_bf16_f32 :=
  ((dats m 0 c).arrAt_eq_of_cover 9 _ (fun t _ => flushed9_eq m c t) covered9).trans (by rw [V_v2])

end Cert.Attn

end

end
-- ==== Proof.AttnClaim.lean ====
/- The plain attention of the reference at one element, and the two programs' results side by side. -/
module

public import proofs.«01_k».proof.Defs
public import proofs.«01_k».proof.Proof.AttnArrays
public import proofs.«01_k».proof.Proof.Gen.Attention.Frame
public import proofs.«01_k».proof.Proof.Gen.AttnRefI.Read

@[expose] public section

noncomputable section

namespace Cert.Attn

open Idealize.ShloMosaic Idealize.ShloMosaic.TcCoe Idealize.ShloMosaic.ValueIdx Idealize.SL.Sem
open Cert.AttnRefI Cert.AttnRefI.Gen Cert.AttnRefI.Read

variable (x0 x1 : FVec Ideal S8x8x2048x128 .bf16) (x2 : FVec Ideal S8x512x2048 .bf16)

theorem ref_score (b h : Fin 8) (q k : Fin 2048) :
    val_main_v0 (F := Ideal) x0 x1 (ix4 b h q k) = ∑ d : Fin 128, x0 (ix4 b h q d) * x1 (ix4 b h k d) := by
  rw [val_main_v0_apply]
  refine Finset.sum_congr rfl fun d _ => congrArg₂ (· * ·) (congrArg x0 ?_) (congrArg x1 ?_)
  · exact funext fun a => match a with
      | ⟨0, _⟩ => rfl
      | ⟨1, _⟩ => rfl
      | ⟨2, _⟩ => rfl
      | ⟨3, _⟩ => rfl
  · exact funext fun a => match a with
      | ⟨0, _⟩ => rfl
      | ⟨1, _⟩ => rfl
      | ⟨2, _⟩ => rfl
      | ⟨3, _⟩ => rfl

theorem ref_top (b h : Fin 8) (q : Fin 2048) :
    val_main_v1 (F := Ideal) x0 x1 (ix3 b h q) = top fun k : Fin 2048 => val_main_v0 (F := Ideal) x0 x1 (ix4 b h q k) := by
  unfold val_main_v1
  generalize val_main_v0 (F := Ideal) x0 x1 = s
  refine (Host.reduce_eq_fold_single (a := (3 : Fin S8x8x2048x2048.rank)) (max : EReal → EReal → EReal) s _ _ (by decide) _ (ix3 b h q)).trans ?_
  show (Finset.univ : Finset (Fin 2048)).fold max (Ideal.ofBits .f32 (0xFF800000#32)) _ = _
  rw [neg_inf_f32]
  unfold top
  congr 1
  funext k
  exact congrArg s (funext fun a => Fin.ext (by match a with | ⟨0, _⟩ => rfl | ⟨1, _⟩ => rfl | ⟨2, _⟩ => rfl | ⟨3, _⟩ => rfl))

theorem ref_weight (b h : Fin 8) (q k : Fin 2048) :
    val_main_v8 (F := Ideal) x0 x1 (ix4 b h q k)
      = Ideal.exp2 (val_main_v0 (F := Ideal) x0 x1 (ix4 b h q k) - top fun k : Fin 2048 => val_main_v0 (F := Ideal) x0 x1 (ix4 b h q k)) := by
  rw [val_main_v8_apply, val_main_v7_apply, val_main_v4_apply, val_main_v6_apply, val_main_v5_apply, val_main_cst_0_apply,
    val_main_v3_apply, val_main_v2_apply, ← ref_top]
  show Ideal.exp ((_ - val_main_v1 (F := Ideal) x0 x1 _) * Ideal.log (Ideal.ofBits .f32 (0x40000000#32))) = _
  rw [two_f32, exp_log_two]
  refine congrArg (fun i => Ideal.exp2 (_ - val_main_v1 (F := Ideal) x0 x1 i)) ?_
  exact funext fun a => match a with
    | ⟨0, _⟩ => rfl
    | ⟨1, _⟩ => rfl
    | ⟨2, _⟩ => rfl

theorem ref_attn (b h : Fin 8) (r : Fin 64) (q : Fin 2048) :
    val_main_v16 (F := Ideal) x0 x1 x2 (ix4 b h r q) = attn x0 x1 x2 b h r q := by
  rw [val_main_v16_apply, val_main_v15_apply, val_main_v11_apply, val_main_v14_apply, val_main_v13_apply, val_main_v12_apply,
    val_main_cst_1_apply]
  show Ideal.div _ (Ideal.ofBits .f32 (0x00000000#32) + _) = _
  rw [zero_f32, zero_add]
  unfold attn mean
  simp only [← ref_score]
  refine congrArg₂ Ideal.div (Finset.sum_congr rfl fun k _ => congrArg₂ (· * ·) ?_ ?_) (Finset.sum_congr rfl fun k _ => ?_)
  · rw [val_main_v9_apply]
    refine congrArg x2 (funext fun a => Fin.ext ?_)
    match a with
    | ⟨0, _⟩ => show (((b.val * 8 + h.val) * 64 + r.val) * 2048 + k.val) / 1048576 = b.val; omega
    | ⟨1, _⟩ => show (((b.val * 8 + h.val) * 64 + r.val) * 2048 + k.val) / 2048 % 512 = h.val * 64 + r.val; omega
    | ⟨2, _⟩ => show (((b.val * 8 + h.val) * 64 + r.val) * 2048 + k.val) % 2048 = k.val; omega
  · rw [val_main_v10_apply]
    refine (congrArg (val_main_v8 (F := Ideal) x0 x1) (funext fun a => ?_)).trans (ref_weight x0 x1 b h q k)
    match a with
    | ⟨0, _⟩ => rfl
    | ⟨1, _⟩ => rfl
    | ⟨2, _⟩ => rfl
    | ⟨3, _⟩ => rfl
  · refine (congrArg (val_main_v8 (F := Ideal) x0 x1) (funext fun a => ?_)).trans (ref_weight x0 x1 b h q k)
    match a with
    | ⟨0, _⟩ => rfl
    | ⟨1, _⟩ => rfl
    | ⟨2, _⟩ => rfl
    | ⟨3, _⟩ => rfl

theorem ref_arr : val_main_v17 (F := Ideal) x0 x1 x2 = attnArr x0 x1 x2 := by
  funext i
  obtain ⟨h, r, hr⟩ := exists_row (i 1)
  obtain ⟨b, q, hi⟩ : ∃ (b : Fin 8) (q : Fin 2048), i = ix3 b (row h r) q := ⟨i 0, i 2, funext fun a => match a with
    | ⟨0, _⟩ => rfl
    | ⟨1, _⟩ => hr
    | ⟨2, _⟩ => rfl⟩
  subst hi
  rw [val_main_v17_apply, attnArr_apply, ← ref_attn]
  refine congrArg (val_main_v16 (F := Ideal) x0 x1 x2) (funext fun a => Fin.ext ?_)
  match a with
  | ⟨0, _⟩ => show ((b.val * 512 + (h.val * 64 + r.val)) * 2048 + q.val) / 1048576 = b.val; omega
  | ⟨1, _⟩ => show ((b.val * 512 + (h.val * 64 + r.val)) * 2048 + q.val) / 131072 % 8 = h.val; omega
  | ⟨2, _⟩ => show ((b.val * 512 + (h.val * 64 + r.val)) * 2048 + q.val) / 2048 % 64 = r.val; omega
  | ⟨3, _⟩ => show ((b.val * 512 + (h.val * 64 + r.val)) * 2048 + q.val) % 2048 = q.val; omega

/-! ## The claims of the attention -/

theorem frame_attention : quiescent_Attention := fun m g _ => Cert.Attention.Gen.frame m g

theorem frame_attentionI : quiescent_AttentionI := fun m g _ => Cert.AttentionI.Gen.frame m g

theorem frame_attnRefI : quiescent_AttnRefI := fun m g _ =>
  (θ_run Cert.AttnRefI.defs _ _).mono (fun r h => ⟨fun c => (h c).2.2.2.2, sem_eq_zero_of_no_sems (by decide) r.2⟩)
    (Cert.AttnRefI.Value.run (F := Ideal) m g)

theorem algebraic : algebraic_AttentionI_AttnRefI := fun m g m' g' _ hargs =>
  ⟨fun c => attnArr (m ((c.tc : Thread Cert.AttentionI.nD Cert.AttentionI.τ).loc Cert.AttentionI.main_arg0))
      (m ((c.tc : Thread Cert.AttentionI.nD Cert.AttentionI.τ).loc Cert.AttentionI.main_arg1))
      (m ((c.tc : Thread Cert.AttentionI.nD Cert.AttentionI.τ).loc Cert.AttentionI.main_arg2)),
    fun c => truncf (F := Ideal) (s := S32768x256) (φ := .f32) .bf16
      (shapeCast S32768x256 (m ((c.tc : Thread Cert.AttentionI.nD Cert.AttentionI.τ).loc Cert.AttentionI.main_arg3)) shapeCasts_S4x8x1024x256_S32768x256) bitsLt_bf16_f32,
    fun c => truncf (F := Ideal) (s := S32768x256) (φ := .f32) .bf16
      (shapeCast S32768x256 (m ((c.tc : Thread Cert.AttentionI.nD Cert.AttentionI.τ).loc Cert.AttentionI.main_arg4)) shapeCasts_S4x8x1024x256_S32768x256) bitsLt_bf16_f32,
    fun c => truncf (F := Ideal) (s := S8192x1024) (φ := .f32) .bf16
      (shapeCast S8192x1024 (m ((c.tc : Thread Cert.AttentionI.nD Cert.AttentionI.τ).loc Cert.AttentionI.main_arg5)) shapeCasts_S4x8x256x1024_S8192x1024) bitsLt_bf16_f32,
    (θ_run Cert.AttentionI.defs _ _).mono (fun r h c => by
      obtain ⟨h0, h1, h2, h3, ha⟩ := h c
      exact ⟨h0.trans (final6 m c), h1.trans (final7 m c), h2.trans (final8 m c), h3.trans (final9 m c), ha⟩)
      (Cert.AttentionI.Value.run_blocks (F := Ideal) m g),
    (θ_run Cert.AttnRefI.defs _ _).mono (fun r h c => by
      obtain ⟨h0, h1, h2, h3, ha⟩ := h c
      obtain ⟨e0, e1, e2, e3, e4, e5⟩ := hargs c
      refine ⟨h0.trans ((val_main_v17_eq _ _ _).trans ?_), h1.trans ?_, h2.trans ?_, h3.trans ?_, ha⟩
      · rw [ref_arr, e0, e1, e2]
      · rw [e3]; rfl
      · rw [e4]; rfl
      · rw [e5]; rfl)
      (Cert.AttnRefI.Value.run (F := Ideal) m' g')⟩

end Cert.Attn

end

end
-- ==== Proof.lean ====
/- The claims of `Defs.lean`, put together from the modules under `Proof/`. -/
module

public import proofs.«01_k».proof.Proof.Claims
public import proofs.«01_k».proof.Proof.MoeClaim
public import proofs.«01_k».proof.Proof.Gen.ReferenceI.Run
public import proofs.«01_k».proof.Proof.Gen.ReferenceI.Read
public import proofs.«01_k».proof.Proof.Gen.Attention
public import proofs.«01_k».proof.Proof.Gen.AttentionI
public import proofs.«01_k».proof.Proof.Gen.Attention.Frame
public import proofs.«01_k».proof.Proof.Gen.AttentionI.Value
public import proofs.«01_k».proof.Proof.AttnClaim
public import proofs.«01_k».proof.Proof.Gen.AttnRefI
public import proofs.«01_k».proof.Proof.Gen.AttnRefI.Run
public import proofs.«01_k».proof.Proof.Gen.AttnRefI.Read

@[expose] public section

noncomputable section

namespace Cert.Proof

open Idealize.ShloMosaic Idealize.SL.Sem

theorem claim : Cert.Claim :=
  ⟨Cert.Kernel.Gen.facts, Cert.KernelI.Gen.facts, Cert.ReferenceI.Gen.facts, Cert.Attention.Gen.facts, Cert.AttentionI.Gen.facts,
    Cert.AttnRefI.Gen.facts, Cert.Pre_tables_route.Gen.facts,
    Cert.Moe.frame_kernel, Cert.Moe.frame_kernelI, Cert.Moe.frame_referenceI, Cert.Moe.frame_referenceI_pre,
    Cert.Attn.frame_attention, Cert.Attn.frame_attentionI, Cert.Attn.frame_attnRefI,
    Cert.Moe.preserves, Cert.Moe.algebraic, trivial, Cert.Attn.algebraic⟩

end Cert.Proof

end

end
